-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_MixoutDw (m : (ℓ : Loc Cert.MixoutDw.nD Cert.MixoutDw.τ Cert.MixoutDw.sig) → Buf (Elt Bits) ℓ) : Prop :=
  True

def Pre_MixoutDwIdeal (m : (ℓ : Loc Cert.MixoutDwIdeal.nD Cert.MixoutDwIdeal.τ Cert.MixoutDwIdeal.sig) → Buf (Elt Ideal) ℓ) : Prop :=
  True

def Pre_MixoutDwRefIdeal (m : (ℓ : Loc Cert.MixoutDwRefIdeal.nD Cert.MixoutDwRefIdeal.τ Cert.MixoutDwRefIdeal.sig) → Buf (Elt Ideal) ℓ) : Prop :=
  True

def Pre_FfninDw (m : (ℓ : Loc Cert.FfninDw.nD Cert.FfninDw.τ Cert.FfninDw.sig) → Buf (Elt Bits) ℓ) : Prop :=
  True

def Pre_FfninDwIdeal (m : (ℓ : Loc Cert.FfninDwIdeal.nD Cert.FfninDwIdeal.τ Cert.FfninDwIdeal.sig) → Buf (Elt Ideal) ℓ) : Prop :=
  True

def Pre_FfninDwRefIdeal (m : (ℓ : Loc Cert.FfninDwRefIdeal.nD Cert.FfninDwRefIdeal.τ Cert.FfninDwRefIdeal.sig) → Buf (Elt Ideal) ℓ) : Prop :=
  True

def Pre_FfnoutDw (m : (ℓ : Loc Cert.FfnoutDw.nD Cert.FfnoutDw.τ Cert.FfnoutDw.sig) → Buf (Elt Bits) ℓ) : Prop :=
  True

def Pre_FfnoutDwIdeal (m : (ℓ : Loc Cert.FfnoutDwIdeal.nD Cert.FfnoutDwIdeal.τ Cert.FfnoutDwIdeal.sig) → Buf (Elt Ideal) ℓ) : Prop :=
  True

def Pre_FfnoutDwRefIdeal (m : (ℓ : Loc Cert.FfnoutDwRefIdeal.nD Cert.FfnoutDwRefIdeal.τ Cert.FfnoutDwRefIdeal.sig) → Buf (Elt Ideal) ℓ) : Prop :=
  True

def Pre_FfninDx (m : (ℓ : Loc Cert.FfninDx.nD Cert.FfninDx.τ Cert.FfninDx.sig) → Buf (Elt Bits) ℓ) : Prop :=
  True

def Pre_FfninDxIdeal (m : (ℓ : Loc Cert.FfninDxIdeal.nD Cert.FfninDxIdeal.τ Cert.FfninDxIdeal.sig) → Buf (Elt Ideal) ℓ) : Prop :=
  True

def Pre_FfninDxRefIdeal (m : (ℓ : Loc Cert.FfninDxRefIdeal.nD Cert.FfninDxRefIdeal.τ Cert.FfninDxRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_FfnoutDx (m : (ℓ : Loc Cert.FfnoutDx.nD Cert.FfnoutDx.τ Cert.FfnoutDx.sig) → Buf (Elt Bits) ℓ) : Prop :=
  True

def Pre_FfnoutDxIdeal (m : (ℓ : Loc Cert.FfnoutDxIdeal.nD Cert.FfnoutDxIdeal.τ Cert.FfnoutDxIdeal.sig) → Buf (Elt Ideal) ℓ) : Prop :=
  True

def Pre_FfnoutDxIdeal_finite [hPre_finite : Cert.Pre_finite.Facts] (m : (ℓ : Loc Cert.FfnoutDxIdeal.nD Cert.FfnoutDxIdeal.τ Cert.FfnoutDxIdeal.sig) → Buf (Elt Ideal) ℓ) : Prop :=
  ∀ c : Dev Cert.FfnoutDxIdeal.nD,
    (Cert.Pre_finite.fn (F := Ideal) (m ((c.tc : Thread Cert.FfnoutDxIdeal.nD Cert.FfnoutDxIdeal.τ).loc Cert.FfnoutDxIdeal.main_arg0)) (m ((c.tc : Thread Cert.FfnoutDxIdeal.nD Cert.FfnoutDxIdeal.τ).loc Cert.FfnoutDxIdeal.main_arg1)) (m ((c.tc : Thread Cert.FfnoutDxIdeal.nD Cert.FfnoutDxIdeal.τ).loc Cert.FfnoutDxIdeal.main_arg2)) (m ((c.tc : Thread Cert.FfnoutDxIdeal.nD Cert.FfnoutDxIdeal.τ).loc Cert.FfnoutDxIdeal.main_arg3))) = (fun _ => 1#1)

def Pre_FfnoutDxRefIdeal (m : (ℓ : Loc Cert.FfnoutDxRefIdeal.nD Cert.FfnoutDxRefIdeal.τ Cert.FfnoutDxRefIdeal.sig) → Buf (Elt Ideal) ℓ) : Prop :=
  True

def Pre_FfnoutDxRefIdeal_finite [hPre_finite : Cert.Pre_finite.Facts] (m : (ℓ : Loc Cert.FfnoutDxRefIdeal.nD Cert.FfnoutDxRefIdeal.τ Cert.FfnoutDxRefIdeal.sig) → Buf (Elt Ideal) ℓ) : Prop :=
  ∀ c : Dev Cert.FfnoutDxRefIdeal.nD,
    (Cert.Pre_finite.fn (F := Ideal) (m ((c.tc : Thread Cert.FfnoutDxRefIdeal.nD Cert.FfnoutDxRefIdeal.τ).loc Cert.FfnoutDxRefIdeal.main_arg0)) (m ((c.tc : Thread Cert.FfnoutDxRefIdeal.nD Cert.FfnoutDxRefIdeal.τ).loc Cert.FfnoutDxRefIdeal.main_arg1)) (m ((c.tc : Thread Cert.FfnoutDxRefIdeal.nD Cert.FfnoutDxRefIdeal.τ).loc Cert.FfnoutDxRefIdeal.main_arg2)) (m ((c.tc : Thread Cert.FfnoutDxRefIdeal.nD Cert.FfnoutDxRefIdeal.τ).loc Cert.FfnoutDxRefIdeal.main_arg3))) = (fun _ => 1#1)

def Pre_FfninFwd (m : (ℓ : Loc Cert.FfninFwd.nD Cert.FfninFwd.τ Cert.FfninFwd.sig) → Buf (Elt Bits) ℓ) : Prop :=
  True

def Pre_FfninFwdIdeal (m : (ℓ : Loc Cert.FfninFwdIdeal.nD Cert.FfninFwdIdeal.τ Cert.FfninFwdIdeal.sig) → Buf (Elt Ideal) ℓ) : Prop :=
  True

def Pre_FfninFwdRefIdeal (m : (ℓ : Loc Cert.FfninFwdRefIdeal.nD Cert.FfninFwdRefIdeal.τ Cert.FfninFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_FfnoutFwd (m : (ℓ : Loc Cert.FfnoutFwd.nD Cert.FfnoutFwd.τ Cert.FfnoutFwd.sig) → Buf (Elt Bits) ℓ) : Prop :=
  True

def Pre_FfnoutFwdIdeal (m : (ℓ : Loc Cert.FfnoutFwdIdeal.nD Cert.FfnoutFwdIdeal.τ Cert.FfnoutFwdIdeal.sig) → Buf (Elt Ideal) ℓ) : Prop :=
  True

def Pre_FfnoutFwdRefIdeal (m : (ℓ : Loc Cert.FfnoutFwdRefIdeal.nD Cert.FfnoutFwdRefIdeal.τ Cert.FfnoutFwdRefIdeal.sig) → Buf (Elt Ideal) ℓ) : Prop :=
  True

def Pre_MixoutFwd (m : (ℓ : Loc Cert.MixoutFwd.nD Cert.MixoutFwd.τ Cert.MixoutFwd.sig) → Buf (Elt Bits) ℓ) : Prop :=
  True

def Pre_MixoutFwdIdeal (m : (ℓ : Loc Cert.MixoutFwdIdeal.nD Cert.MixoutFwdIdeal.τ Cert.MixoutFwdIdeal.sig) → Buf (Elt Ideal) ℓ) : Prop :=
  True

def Pre_MixoutFwdRefIdeal (m : (ℓ : Loc Cert.MixoutFwdRefIdeal.nD Cert.MixoutFwdRefIdeal.τ Cert.MixoutFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_MixoutDw [hMixoutDw : Cert.MixoutDw.Facts] : Prop :=
  ∀ (m : (ℓ : Loc Cert.MixoutDw.nD Cert.MixoutDw.τ Cert.MixoutDw.sig) → Buf (Elt Bits) ℓ) (g : Dev Cert.MixoutDw.nD → PrngReg), Pre_MixoutDw m →
    θ_run (Cert.MixoutDw.defs (F := Bits)) (onTc (τ := Cert.MixoutDw.τ) (Cert.MixoutDw.main (F := Bits))) ⟨m, fun _ => 0, g⟩ (fun r => (∀ c : Dev Cert.MixoutDw.nD,
      r.2.mem ((c.tc : Thread Cert.MixoutDw.nD Cert.MixoutDw.τ).loc Cert.MixoutDw.main_arg0) = m ((c.tc : Thread Cert.MixoutDw.nD Cert.MixoutDw.τ).loc Cert.MixoutDw.main_arg0)
      ∧ r.2.mem ((c.tc : Thread Cert.MixoutDw.nD Cert.MixoutDw.τ).loc Cert.MixoutDw.main_arg1) = m ((c.tc : Thread Cert.MixoutDw.nD Cert.MixoutDw.τ).loc Cert.MixoutDw.main_arg1))
      ∧ r.2.sem = fun _ => 0)

def quiescent_MixoutDwIdeal [hMixoutDwIdeal : Cert.MixoutDwIdeal.Facts] : Prop :=
  ∀ (m : (ℓ : Loc Cert.MixoutDwIdeal.nD Cert.MixoutDwIdeal.τ Cert.MixoutDwIdeal.sig) → Buf (Elt Ideal) ℓ) (g : Dev Cert.MixoutDwIdeal.nD → PrngReg), Pre_MixoutDwIdeal m →
    θ_run (Cert.MixoutDwIdeal.defs (F := Ideal)) (onTc (τ := Cert.MixoutDwIdeal.τ) (Cert.MixoutDwIdeal.main (F := Ideal))) ⟨m, fun _ => 0, g⟩ (fun r => (∀ c : Dev Cert.MixoutDwIdeal.nD,
      r.2.mem ((c.tc : Thread Cert.MixoutDwIdeal.nD Cert.MixoutDwIdeal.τ).loc Cert.MixoutDwIdeal.main_arg0) = m ((c.tc : Thread Cert.MixoutDwIdeal.nD Cert.MixoutDwIdeal.τ).loc Cert.MixoutDwIdeal.main_arg0)
      ∧ r.2.mem ((c.tc : Thread Cert.MixoutDwIdeal.nD Cert.MixoutDwIdeal.τ).loc Cert.MixoutDwIdeal.main_arg1) = m ((c.tc : Thread Cert.MixoutDwIdeal.nD Cert.MixoutDwIdeal.τ).loc Cert.MixoutDwIdeal.main_arg1))
      ∧ r.2.sem = fun _ => 0)

def quiescent_MixoutDwRefIdeal [hMixoutDwRefIdeal : Cert.MixoutDwRefIdeal.Facts] : Prop :=
  ∀ (m : (ℓ : Loc Cert.MixoutDwRefIdeal.nD Cert.MixoutDwRefIdeal.τ Cert.MixoutDwRefIdeal.sig) → Buf (Elt Ideal) ℓ) (g : Dev Cert.MixoutDwRefIdeal.nD → PrngReg), Pre_MixoutDwRefIdeal m →
    θ_run (Cert.MixoutDwRefIdeal.defs (F := Ideal)) (onTc (τ := Cert.MixoutDwRefIdeal.τ) (Cert.MixoutDwRefIdeal.main (F := Ideal))) ⟨m, fun _ => 0, g⟩ (fun r => (∀ c : Dev Cert.MixoutDwRefIdeal.nD,
      r.2.mem ((c.tc : Thread Cert.MixoutDwRefIdeal.nD Cert.MixoutDwRefIdeal.τ).loc Cert.MixoutDwRefIdeal.main_arg0) = m ((c.tc : Thread Cert.MixoutDwRefIdeal.nD Cert.MixoutDwRefIdeal.τ).loc Cert.MixoutDwRefIdeal.main_arg0)
      ∧ r.2.mem ((c.tc : Thread Cert.MixoutDwRefIdeal.nD Cert.MixoutDwRefIdeal.τ).loc Cert.MixoutDwRefIdeal.main_arg1) = m ((c.tc : Thread Cert.MixoutDwRefIdeal.nD Cert.MixoutDwRefIdeal.τ).loc Cert.MixoutDwRefIdeal.main_arg1))
      ∧ r.2.sem = fun _ => 0)

def quiescent_FfninDw [hFfninDw : Cert.FfninDw.Facts] : Prop :=
  ∀ (m : (ℓ : Loc Cert.FfninDw.nD Cert.FfninDw.τ Cert.FfninDw.sig) → Buf (Elt Bits) ℓ) (g : Dev Cert.FfninDw.nD → PrngReg), Pre_FfninDw m →
    θ_run (Cert.FfninDw.defs (F := Bits)) (onTc (τ := Cert.FfninDw.τ) (Cert.FfninDw.main (F := Bits))) ⟨m, fun _ => 0, g⟩ (fun r => (∀ c : Dev Cert.FfninDw.nD,
      r.2.mem ((c.tc : Thread Cert.FfninDw.nD Cert.FfninDw.τ).loc Cert.FfninDw.main_arg0) = m ((c.tc : Thread Cert.FfninDw.nD Cert.FfninDw.τ).loc Cert.FfninDw.main_arg0)
      ∧ r.2.mem ((c.tc : Thread Cert.FfninDw.nD Cert.FfninDw.τ).loc Cert.FfninDw.main_arg1) = m ((c.tc : Thread Cert.FfninDw.nD Cert.FfninDw.τ).loc Cert.FfninDw.main_arg1))
      ∧ r.2.sem = fun _ => 0)

def quiescent_FfninDwIdeal [hFfninDwIdeal : Cert.FfninDwIdeal.Facts] : Prop :=
  ∀ (m : (ℓ : Loc Cert.FfninDwIdeal.nD Cert.FfninDwIdeal.τ Cert.FfninDwIdeal.sig) → Buf (Elt Ideal) ℓ) (g : Dev Cert.FfninDwIdeal.nD → PrngReg), Pre_FfninDwIdeal m →
    θ_run (Cert.FfninDwIdeal.defs (F := Ideal)) (onTc (τ := Cert.FfninDwIdeal.τ) (Cert.FfninDwIdeal.main (F := Ideal))) ⟨m, fun _ => 0, g⟩ (fun r => (∀ c : Dev Cert.FfninDwIdeal.nD,
      r.2.mem ((c.tc : Thread Cert.FfninDwIdeal.nD Cert.FfninDwIdeal.τ).loc Cert.FfninDwIdeal.main_arg0) = m ((c.tc : Thread Cert.FfninDwIdeal.nD Cert.FfninDwIdeal.τ).loc Cert.FfninDwIdeal.main_arg0)
      ∧ r.2.mem ((c.tc : Thread Cert.FfninDwIdeal.nD Cert.FfninDwIdeal.τ).loc Cert.FfninDwIdeal.main_arg1) = m ((c.tc : Thread Cert.FfninDwIdeal.nD Cert.FfninDwIdeal.τ).loc Cert.FfninDwIdeal.main_arg1))
      ∧ r.2.sem = fun _ => 0)

def quiescent_FfninDwRefIdeal [hFfninDwRefIdeal : Cert.FfninDwRefIdeal.Facts] : Prop :=
  ∀ (m : (ℓ : Loc Cert.FfninDwRefIdeal.nD Cert.FfninDwRefIdeal.τ Cert.FfninDwRefIdeal.sig) → Buf (Elt Ideal) ℓ) (g : Dev Cert.FfninDwRefIdeal.nD → PrngReg), Pre_FfninDwRefIdeal m →
    θ_run (Cert.FfninDwRefIdeal.defs (F := Ideal)) (onTc (τ := Cert.FfninDwRefIdeal.τ) (Cert.FfninDwRefIdeal.main (F := Ideal))) ⟨m, fun _ => 0, g⟩ (fun r => (∀ c : Dev Cert.FfninDwRefIdeal.nD,
      r.2.mem ((c.tc : Thread Cert.FfninDwRefIdeal.nD Cert.FfninDwRefIdeal.τ).loc Cert.FfninDwRefIdeal.main_arg0) = m ((c.tc : Thread Cert.FfninDwRefIdeal.nD Cert.FfninDwRefIdeal.τ).loc Cert.FfninDwRefIdeal.main_arg0)
      ∧ r.2.mem ((c.tc : Thread Cert.FfninDwRefIdeal.nD Cert.FfninDwRefIdeal.τ).loc Cert.FfninDwRefIdeal.main_arg1) = m ((c.tc : Thread Cert.FfninDwRefIdeal.nD Cert.FfninDwRefIdeal.τ).loc Cert.FfninDwRefIdeal.main_arg1))
      ∧ r.2.sem = fun _ => 0)

def quiescent_FfnoutDw [hFfnoutDw : Cert.FfnoutDw.Facts] : Prop :=
  ∀ (m : (ℓ : Loc Cert.FfnoutDw.nD Cert.FfnoutDw.τ Cert.FfnoutDw.sig) → Buf (Elt Bits) ℓ) (g : Dev Cert.FfnoutDw.nD → PrngReg), Pre_FfnoutDw m →
    θ_run (Cert.FfnoutDw.defs (F := Bits)) (onTc (τ := Cert.FfnoutDw.τ) (Cert.FfnoutDw.main (F := Bits))) ⟨m, fun _ => 0, g⟩ (fun r => (∀ c : Dev Cert.FfnoutDw.nD,
      r.2.mem ((c.tc : Thread Cert.FfnoutDw.nD Cert.FfnoutDw.τ).loc Cert.FfnoutDw.main_arg0) = m ((c.tc : Thread Cert.FfnoutDw.nD Cert.FfnoutDw.τ).loc Cert.FfnoutDw.main_arg0)
      ∧ r.2.mem ((c.tc : Thread Cert.FfnoutDw.nD Cert.FfnoutDw.τ).loc Cert.FfnoutDw.main_arg1) = m ((c.tc : Thread Cert.FfnoutDw.nD Cert.FfnoutDw.τ).loc Cert.FfnoutDw.main_arg1))
      ∧ r.2.sem = fun _ => 0)

def quiescent_FfnoutDwIdeal [hFfnoutDwIdeal : Cert.FfnoutDwIdeal.Facts] : Prop :=
  ∀ (m : (ℓ : Loc Cert.FfnoutDwIdeal.nD Cert.FfnoutDwIdeal.τ Cert.FfnoutDwIdeal.sig) → Buf (Elt Ideal) ℓ) (g : Dev Cert.FfnoutDwIdeal.nD → PrngReg), Pre_FfnoutDwIdeal m →
    θ_run (Cert.FfnoutDwIdeal.defs (F := Ideal)) (onTc (τ := Cert.FfnoutDwIdeal.τ) (Cert.FfnoutDwIdeal.main (F := Ideal))) ⟨m, fun _ => 0, g⟩ (fun r => (∀ c : Dev Cert.FfnoutDwIdeal.nD,
      r.2.mem ((c.tc : Thread Cert.FfnoutDwIdeal.nD Cert.FfnoutDwIdeal.τ).loc Cert.FfnoutDwIdeal.main_arg0) = m ((c.tc : Thread Cert.FfnoutDwIdeal.nD Cert.FfnoutDwIdeal.τ).loc Cert.FfnoutDwIdeal.main_arg0)
      ∧ r.2.mem ((c.tc : Thread Cert.FfnoutDwIdeal.nD Cert.FfnoutDwIdeal.τ).loc Cert.FfnoutDwIdeal.main_arg1) = m ((c.tc : Thread Cert.FfnoutDwIdeal.nD Cert.FfnoutDwIdeal.τ).loc Cert.FfnoutDwIdeal.main_arg1))
      ∧ r.2.sem = fun _ => 0)

def quiescent_FfnoutDwRefIdeal [hFfnoutDwRefIdeal : Cert.FfnoutDwRefIdeal.Facts] : Prop :=
  ∀ (m : (ℓ : Loc Cert.FfnoutDwRefIdeal.nD Cert.FfnoutDwRefIdeal.τ Cert.FfnoutDwRefIdeal.sig) → Buf (Elt Ideal) ℓ) (g : Dev Cert.FfnoutDwRefIdeal.nD → PrngReg), Pre_FfnoutDwRefIdeal m →
    θ_run (Cert.FfnoutDwRefIdeal.defs (F := Ideal)) (onTc (τ := Cert.FfnoutDwRefIdeal.τ) (Cert.FfnoutDwRefIdeal.main (F := Ideal))) ⟨m, fun _ => 0, g⟩ (fun r => (∀ c : Dev Cert.FfnoutDwRefIdeal.nD,
      r.2.mem ((c.tc : Thread Cert.FfnoutDwRefIdeal.nD Cert.FfnoutDwRefIdeal.τ).loc Cert.FfnoutDwRefIdeal.main_arg0) = m ((c.tc : Thread Cert.FfnoutDwRefIdeal.nD Cert.FfnoutDwRefIdeal.τ).loc Cert.FfnoutDwRefIdeal.main_arg0)
      ∧ r.2.mem ((c.tc : Thread Cert.FfnoutDwRefIdeal.nD Cert.FfnoutDwRefIdeal.τ).loc Cert.FfnoutDwRefIdeal.main_arg1) = m ((c.tc : Thread Cert.FfnoutDwRefIdeal.nD Cert.FfnoutDwRefIdeal.τ).loc Cert.FfnoutDwRefIdeal.main_arg1))
      ∧ r.2.sem = fun _ => 0)

def quiescent_FfninDx [hFfninDx : Cert.FfninDx.Facts] : Prop :=
  ∀ (m : (ℓ : Loc Cert.FfninDx.nD Cert.FfninDx.τ Cert.FfninDx.sig) → Buf (Elt Bits) ℓ) (g : Dev Cert.FfninDx.nD → PrngReg), Pre_FfninDx m →
    θ_run (Cert.FfninDx.defs (F := Bits)) (onTc (τ := Cert.FfninDx.τ) (Cert.FfninDx.main (F := Bits))) ⟨m, fun _ => 0, g⟩ (fun r => (∀ c : Dev Cert.FfninDx.nD,
      r.2.mem ((c.tc : Thread Cert.FfninDx.nD Cert.FfninDx.τ).loc Cert.FfninDx.main_arg0) = m ((c.tc : Thread Cert.FfninDx.nD Cert.FfninDx.τ).loc Cert.FfninDx.main_arg0)
      ∧ r.2.mem ((c.tc : Thread Cert.FfninDx.nD Cert.FfninDx.τ).loc Cert.FfninDx.main_arg1) = m ((c.tc : Thread Cert.FfninDx.nD Cert.FfninDx.τ).loc Cert.FfninDx.main_arg1)
      ∧ r.2.mem ((c.tc : Thread Cert.FfninDx.nD Cert.FfninDx.τ).loc Cert.FfninDx.main_arg2) = m ((c.tc : Thread Cert.FfninDx.nD Cert.FfninDx.τ).loc Cert.FfninDx.main_arg2)
      ∧ r.2.mem ((c.tc : Thread Cert.FfninDx.nD Cert.FfninDx.τ).loc Cert.FfninDx.main_arg3) = m ((c.tc : Thread Cert.FfninDx.nD Cert.FfninDx.τ).loc Cert.FfninDx.main_arg3)
      ∧ r.2.mem ((c.tc : Thread Cert.FfninDx.nD Cert.FfninDx.τ).loc Cert.FfninDx.main_arg4) = m ((c.tc : Thread Cert.FfninDx.nD Cert.FfninDx.τ).loc Cert.FfninDx.main_arg4)
      ∧ r.2.mem ((c.tc : Thread Cert.FfninDx.nD Cert.FfninDx.τ).loc Cert.FfninDx.main_arg5) = m ((c.tc : Thread Cert.FfninDx.nD Cert.FfninDx.τ).loc Cert.FfninDx.main_arg5)
      ∧ r.2.mem ((c.tc : Thread Cert.FfninDx.nD Cert.FfninDx.τ).loc Cert.FfninDx.main_arg6) = m ((c.tc : Thread Cert.FfninDx.nD Cert.FfninDx.τ).loc Cert.FfninDx.main_arg6)
      ∧ r.2.mem ((c.tc : Thread Cert.FfninDx.nD Cert.FfninDx.τ).loc Cert.FfninDx.main_arg7) = m ((c.tc : Thread Cert.FfninDx.nD Cert.FfninDx.τ).loc Cert.FfninDx.main_arg7))
      ∧ r.2.sem = fun _ => 0)

def quiescent_FfninDxIdeal [hFfninDxIdeal : Cert.FfninDxIdeal.Facts] : Prop :=
  ∀ (m : (ℓ : Loc Cert.FfninDxIdeal.nD Cert.FfninDxIdeal.τ Cert.FfninDxIdeal.sig) → Buf (Elt Ideal) ℓ) (g : Dev Cert.FfninDxIdeal.nD → PrngReg), Pre_FfninDxIdeal m →
    θ_run (Cert.FfninDxIdeal.defs (F := Ideal)) (onTc (τ := Cert.FfninDxIdeal.τ) (Cert.FfninDxIdeal.main (F := Ideal))) ⟨m, fun _ => 0, g⟩ (fun r => (∀ c : Dev Cert.FfninDxIdeal.nD,
      r.2.mem ((c.tc : Thread Cert.FfninDxIdeal.nD Cert.FfninDxIdeal.τ).loc Cert.FfninDxIdeal.main_arg0) = m ((c.tc : Thread Cert.FfninDxIdeal.nD Cert.FfninDxIdeal.τ).loc Cert.FfninDxIdeal.main_arg0)
      ∧ r.2.mem ((c.tc : Thread Cert.FfninDxIdeal.nD Cert.FfninDxIdeal.τ).loc Cert.FfninDxIdeal.main_arg1) = m ((c.tc : Thread Cert.FfninDxIdeal.nD Cert.FfninDxIdeal.τ).loc Cert.FfninDxIdeal.main_arg1)
      ∧ r.2.mem ((c.tc : Thread Cert.FfninDxIdeal.nD Cert.FfninDxIdeal.τ).loc Cert.FfninDxIdeal.main_arg2) = m ((c.tc : Thread Cert.FfninDxIdeal.nD Cert.FfninDxIdeal.τ).loc Cert.FfninDxIdeal.main_arg2)
      ∧ r.2.mem ((c.tc : Thread Cert.FfninDxIdeal.nD Cert.FfninDxIdeal.τ).loc Cert.FfninDxIdeal.main_arg3) = m ((c.tc : Thread Cert.FfninDxIdeal.nD Cert.FfninDxIdeal.τ).loc Cert.FfninDxIdeal.main_arg3)
      ∧ r.2.mem ((c.tc : Thread Cert.FfninDxIdeal.nD Cert.FfninDxIdeal.τ).loc Cert.FfninDxIdeal.main_arg4) = m ((c.tc : Thread Cert.FfninDxIdeal.nD Cert.FfninDxIdeal.τ).loc Cert.FfninDxIdeal.main_arg4)
      ∧ r.2.mem ((c.tc : Thread Cert.FfninDxIdeal.nD Cert.FfninDxIdeal.τ).loc Cert.FfninDxIdeal.main_arg5) = m ((c.tc : Thread Cert.FfninDxIdeal.nD Cert.FfninDxIdeal.τ).loc Cert.FfninDxIdeal.main_arg5)
      ∧ r.2.mem ((c.tc : Thread Cert.FfninDxIdeal.nD Cert.FfninDxIdeal.τ).loc Cert.FfninDxIdeal.main_arg6) = m ((c.tc : Thread Cert.FfninDxIdeal.nD Cert.FfninDxIdeal.τ).loc Cert.FfninDxIdeal.main_arg6)
      ∧ r.2.mem ((c.tc : Thread Cert.FfninDxIdeal.nD Cert.FfninDxIdeal.τ).loc Cert.FfninDxIdeal.main_arg7) = m ((c.tc : Thread Cert.FfninDxIdeal.nD Cert.FfninDxIdeal.τ).loc Cert.FfninDxIdeal.main_arg7))
      ∧ r.2.sem = fun _ => 0)

def quiescent_FfninDxRefIdeal [hFfninDxRefIdeal : Cert.FfninDxRefIdeal.Facts] : Prop :=
  ∀ (m : (ℓ : Loc Cert.FfninDxRefIdeal.nD Cert.FfninDxRefIdeal.τ Cert.FfninDxRefIdeal.sig) → Buf (Elt Ideal) ℓ) (g : Dev Cert.FfninDxRefIdeal.nD → PrngReg), Pre_FfninDxRefIdeal m →
    θ_run (Cert.FfninDxRefIdeal.defs (F := Ideal)) (onTc (τ := Cert.FfninDxRefIdeal.τ) (Cert.FfninDxRefIdeal.main (F := Ideal))) ⟨m, fun _ => 0, g⟩ (fun r => (∀ c : Dev Cert.FfninDxRefIdeal.nD,
      r.2.mem ((c.tc : Thread Cert.FfninDxRefIdeal.nD Cert.FfninDxRefIdeal.τ).loc Cert.FfninDxRefIdeal.main_arg0) = m ((c.tc : Thread Cert.FfninDxRefIdeal.nD Cert.FfninDxRefIdeal.τ).loc Cert.FfninDxRefIdeal.main_arg0)
      ∧ r.2.mem ((c.tc : Thread Cert.FfninDxRefIdeal.nD Cert.FfninDxRefIdeal.τ).loc Cert.FfninDxRefIdeal.main_arg1) = m ((c.tc : Thread Cert.FfninDxRefIdeal.nD Cert.FfninDxRefIdeal.τ).loc Cert.FfninDxRefIdeal.main_arg1)
      ∧ r.2.mem ((c.tc : Thread Cert.FfninDxRefIdeal.nD Cert.FfninDxRefIdeal.τ).loc Cert.FfninDxRefIdeal.main_arg2) = m ((c.tc : Thread Cert.FfninDxRefIdeal.nD Cert.FfninDxRefIdeal.τ).loc Cert.FfninDxRefIdeal.main_arg2)
      ∧ r.2.mem ((c.tc : Thread Cert.FfninDxRefIdeal.nD Cert.FfninDxRefIdeal.τ).loc Cert.FfninDxRefIdeal.main_arg3) = m ((c.tc : Thread Cert.FfninDxRefIdeal.nD Cert.FfninDxRefIdeal.τ).loc Cert.FfninDxRefIdeal.main_arg3)
      ∧ r.2.mem ((c.tc : Thread Cert.FfninDxRefIdeal.nD Cert.FfninDxRefIdeal.τ).loc Cert.FfninDxRefIdeal.main_arg4) = m ((c.tc : Thread Cert.FfninDxRefIdeal.nD Cert.FfninDxRefIdeal.τ).loc Cert.FfninDxRefIdeal.main_arg4)
      ∧ r.2.mem ((c.tc : Thread Cert.FfninDxRefIdeal.nD Cert.FfninDxRefIdeal.τ).loc Cert.FfninDxRefIdeal.main_arg5) = m ((c.tc : Thread Cert.FfninDxRefIdeal.nD Cert.FfninDxRefIdeal.τ).loc Cert.FfninDxRefIdeal.main_arg5)
      ∧ r.2.mem ((c.tc : Thread Cert.FfninDxRefIdeal.nD Cert.FfninDxRefIdeal.τ).loc Cert.FfninDxRefIdeal.main_arg6) = m ((c.tc : Thread Cert.FfninDxRefIdeal.nD Cert.FfninDxRefIdeal.τ).loc Cert.FfninDxRefIdeal.main_arg6)
      ∧ r.2.mem ((c.tc : Thread Cert.FfninDxRefIdeal.nD Cert.FfninDxRefIdeal.τ).loc Cert.FfninDxRefIdeal.main_arg7) = m ((c.tc : Thread Cert.FfninDxRefIdeal.nD Cert.FfninDxRefIdeal.τ).loc Cert.FfninDxRefIdeal.main_arg7))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2)
      ∧ r.2.mem ((c.tc : Thread Cert.ProjDx.nD Cert.ProjDx.τ).loc Cert.ProjDx.main_arg3) = m ((c.tc : Thread Cert.ProjDx.nD Cert.ProjDx.τ).loc Cert.ProjDx.main_arg3)
      ∧ r.2.mem ((c.tc : Thread Cert.ProjDx.nD Cert.ProjDx.τ).loc Cert.ProjDx.main_arg4) = m ((c.tc : Thread Cert.ProjDx.nD Cert.ProjDx.τ).loc Cert.ProjDx.main_arg4)
      ∧ r.2.mem ((c.tc : Thread Cert.ProjDx.nD Cert.ProjDx.τ).loc Cert.ProjDx.main_arg5) = m ((c.tc : Thread Cert.ProjDx.nD Cert.ProjDx.τ).loc Cert.ProjDx.main_arg5)
      ∧ r.2.mem ((c.tc : Thread Cert.ProjDx.nD Cert.ProjDx.τ).loc Cert.ProjDx.main_arg6) = m ((c.tc : Thread Cert.ProjDx.nD Cert.ProjDx.τ).loc Cert.ProjDx.main_arg6)
      ∧ r.2.mem ((c.tc : Thread Cert.ProjDx.nD Cert.ProjDx.τ).loc Cert.ProjDx.main_arg7) = m ((c.tc : Thread Cert.ProjDx.nD Cert.ProjDx.τ).loc Cert.ProjDx.main_arg7)
      ∧ r.2.mem ((c.tc : Thread Cert.ProjDx.nD Cert.ProjDx.τ).loc Cert.ProjDx.main_arg8) = m ((c.tc : Thread Cert.ProjDx.nD Cert.ProjDx.τ).loc Cert.ProjDx.main_arg8)
      ∧ r.2.mem ((c.tc : Thread Cert.ProjDx.nD Cert.ProjDx.τ).loc Cert.ProjDx.main_arg9) = m ((c.tc : Thread Cert.ProjDx.nD Cert.ProjDx.τ).loc Cert.ProjDx.main_arg9))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
      ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
      ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4)
      ∧ r.2.mem ((c.tc : Thread Cert.ProjDxIdeal.nD Cert.ProjDxIdeal.τ).loc Cert.ProjDxIdeal.main_arg5) = m ((c.tc : Thread Cert.ProjDxIdeal.nD Cert.ProjDxIdeal.τ).loc Cert.ProjDxIdeal.main_arg5)
      ∧ r.2.mem ((c.tc : Thread Cert.ProjDxIdeal.nD Cert.ProjDxIdeal.τ).loc Cert.ProjDxIdeal.main_arg6) = m ((c.tc : Thread Cert.ProjDxIdeal.nD Cert.ProjDxIdeal.τ).loc Cert.ProjDxIdeal.main_arg6)
      ∧ r.2.mem ((c.tc : Thread Cert.ProjDxIdeal.nD Cert.ProjDxIdeal.τ).loc Cert.ProjDxIdeal.main_arg7) = m ((c.tc : Thread Cert.ProjDxIdeal.nD Cert.ProjDxIdeal.τ).loc Cert.ProjDxIdeal.main_arg7)
      ∧ r.2.mem ((c.tc : Thread Cert.ProjDxIdeal.nD Cert.ProjDxIdeal.τ).loc Cert.ProjDxIdeal.main_arg8) = m ((c.tc : Thread Cert.ProjDxIdeal.nD Cert.ProjDxIdeal.τ).loc Cert.ProjDxIdeal.main_arg8)
      ∧ r.2.mem ((c.tc : Thread Cert.ProjDxIdeal.nD Cert.ProjDxIdeal.τ).loc Cert.ProjDxIdeal.main_arg9) = m ((c.tc : Thread Cert.ProjDxIdeal.nD Cert.ProjDxIdeal.τ).loc Cert.ProjDxIdeal.main_arg9))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2)
      ∧ r.2.mem ((c.tc : Thread Cert.ProjDxRefIdeal.nD Cert.ProjDxRefIdeal.τ).loc Cert.ProjDxRefIdeal.main_arg3) = m ((c.tc : Thread Cert.ProjDxRefIdeal.nD Cert.ProjDxRefIdeal.τ).loc Cert.ProjDxRefIdeal.main_arg3)
      ∧ r.2.mem ((c.tc : Thread Cert.ProjDxRefIdeal.nD Cert.ProjDxRefIdeal.τ).loc Cert.ProjDxRefIdeal.main_arg4) = m ((c.tc : Thread Cert.ProjDxRefIdeal.nD Cert.ProjDxRefIdeal.τ).loc Cert.ProjDxRefIdeal.main_arg4)
      ∧ r.2.mem ((c.tc : Thread Cert.ProjDxRefIdeal.nD Cert.ProjDxRefIdeal.τ).loc Cert.ProjDxRefIdeal.main_arg5) = m ((c.tc : Thread Cert.ProjDxRefIdeal.nD Cert.ProjDxRefIdeal.τ).loc Cert.ProjDxRefIdeal.main_arg5)
      ∧ r.2.mem ((c.tc : Thread Cert.ProjDxRefIdeal.nD Cert.ProjDxRefIdeal.τ).loc Cert.ProjDxRefIdeal.main_arg6) = m ((c.tc : Thread Cert.ProjDxRefIdeal.nD Cert.ProjDxRefIdeal.τ).loc Cert.ProjDxRefIdeal.main_arg6)
      ∧ r.2.mem ((c.tc : Thread Cert.ProjDxRefIdeal.nD Cert.ProjDxRefIdeal.τ).loc Cert.ProjDxRefIdeal.main_arg7) = m ((c.tc : Thread Cert.ProjDxRefIdeal.nD Cert.ProjDxRefIdeal.τ).loc Cert.ProjDxRefIdeal.main_arg7)
      ∧ r.2.mem ((c.tc : Thread Cert.ProjDxRefIdeal.nD Cert.ProjDxRefIdeal.τ).loc Cert.ProjDxRefIdeal.main_arg8) = m ((c.tc : Thread Cert.ProjDxRefIdeal.nD Cert.ProjDxRefIdeal.τ).loc Cert.ProjDxRefIdeal.main_arg8)
      ∧ r.2.mem ((c.tc : Thread Cert.ProjDxRefIdeal.nD Cert.ProjDxRefIdeal.τ).loc Cert.ProjDxRefIdeal.main_arg9) = m ((c.tc : Thread Cert.ProjDxRefIdeal.nD Cert.ProjDxRefIdeal.τ).loc Cert.ProjDxRefIdeal.main_arg9))
      ∧ r.2.sem = fun _ => 0)

def quiescent_FfnoutDx [hFfnoutDx : Cert.FfnoutDx.Facts] : Prop :=
  ∀ (m : (ℓ : Loc Cert.FfnoutDx.nD Cert.FfnoutDx.τ Cert.FfnoutDx.sig) → Buf (Elt Bits) ℓ) (g : Dev Cert.FfnoutDx.nD → PrngReg), Pre_FfnoutDx m →
    θ_run (Cert.FfnoutDx.defs (F := Bits)) (onTc (τ := Cert.FfnoutDx.τ) (Cert.FfnoutDx.main (F := Bits))) ⟨m, fun _ => 0, g⟩ (fun r => (∀ c : Dev Cert.FfnoutDx.nD,
      r.2.mem ((c.tc : Thread Cert.FfnoutDx.nD Cert.FfnoutDx.τ).loc Cert.FfnoutDx.main_arg0) = m ((c.tc : Thread Cert.FfnoutDx.nD Cert.FfnoutDx.τ).loc Cert.FfnoutDx.main_arg0)
      ∧ r.2.mem ((c.tc : Thread Cert.FfnoutDx.nD Cert.FfnoutDx.τ).loc Cert.FfnoutDx.main_arg1) = m ((c.tc : Thread Cert.FfnoutDx.nD Cert.FfnoutDx.τ).loc Cert.FfnoutDx.main_arg1)
      ∧ r.2.mem ((c.tc : Thread Cert.FfnoutDx.nD Cert.FfnoutDx.τ).loc Cert.FfnoutDx.main_arg2) = m ((c.tc : Thread Cert.FfnoutDx.nD Cert.FfnoutDx.τ).loc Cert.FfnoutDx.main_arg2)
      ∧ r.2.mem ((c.tc : Thread Cert.FfnoutDx.nD Cert.FfnoutDx.τ).loc Cert.FfnoutDx.main_arg3) = m ((c.tc : Thread Cert.FfnoutDx.nD Cert.FfnoutDx.τ).loc Cert.FfnoutDx.main_arg3))
      ∧ r.2.sem = fun _ => 0)

def quiescent_FfnoutDxIdeal [hFfnoutDxIdeal : Cert.FfnoutDxIdeal.Facts] : Prop :=
  ∀ (m : (ℓ : Loc Cert.FfnoutDxIdeal.nD Cert.FfnoutDxIdeal.τ Cert.FfnoutDxIdeal.sig) → Buf (Elt Ideal) ℓ) (g : Dev Cert.FfnoutDxIdeal.nD → PrngReg), Pre_FfnoutDxIdeal m →
    θ_run (Cert.FfnoutDxIdeal.defs (F := Ideal)) (onTc (τ := Cert.FfnoutDxIdeal.τ) (Cert.FfnoutDxIdeal.main (F := Ideal))) ⟨m, fun _ => 0, g⟩ (fun r => (∀ c : Dev Cert.FfnoutDxIdeal.nD,
      r.2.mem ((c.tc : Thread Cert.FfnoutDxIdeal.nD Cert.FfnoutDxIdeal.τ).loc Cert.FfnoutDxIdeal.main_arg0) = m ((c.tc : Thread Cert.FfnoutDxIdeal.nD Cert.FfnoutDxIdeal.τ).loc Cert.FfnoutDxIdeal.main_arg0)
      ∧ r.2.mem ((c.tc : Thread Cert.FfnoutDxIdeal.nD Cert.FfnoutDxIdeal.τ).loc Cert.FfnoutDxIdeal.main_arg1) = m ((c.tc : Thread Cert.FfnoutDxIdeal.nD Cert.FfnoutDxIdeal.τ).loc Cert.FfnoutDxIdeal.main_arg1)
      ∧ r.2.mem ((c.tc : Thread Cert.FfnoutDxIdeal.nD Cert.FfnoutDxIdeal.τ).loc Cert.FfnoutDxIdeal.main_arg2) = m ((c.tc : Thread Cert.FfnoutDxIdeal.nD Cert.FfnoutDxIdeal.τ).loc Cert.FfnoutDxIdeal.main_arg2)
      ∧ r.2.mem ((c.tc : Thread Cert.FfnoutDxIdeal.nD Cert.FfnoutDxIdeal.τ).loc Cert.FfnoutDxIdeal.main_arg3) = m ((c.tc : Thread Cert.FfnoutDxIdeal.nD Cert.FfnoutDxIdeal.τ).loc Cert.FfnoutDxIdeal.main_arg3))
      ∧ r.2.sem = fun _ => 0)

def quiescent_FfnoutDxIdeal_pre_finite [hFfnoutDxIdeal : Cert.FfnoutDxIdeal.Facts] [hPre_finite : Cert.Pre_finite.Facts] : Prop :=
  ∀ (m : (ℓ : Loc Cert.FfnoutDxIdeal.nD Cert.FfnoutDxIdeal.τ Cert.FfnoutDxIdeal.sig) → Buf (Elt Ideal) ℓ) (g : Dev Cert.FfnoutDxIdeal.nD → PrngReg), Pre_FfnoutDxIdeal_finite m →
    θ_run (Cert.FfnoutDxIdeal.defs (F := Ideal)) (onTc (τ := Cert.FfnoutDxIdeal.τ) (Cert.FfnoutDxIdeal.main (F := Ideal))) ⟨m, fun _ => 0, g⟩ (fun r => (∀ c : Dev Cert.FfnoutDxIdeal.nD,
      r.2.mem ((c.tc : Thread Cert.FfnoutDxIdeal.nD Cert.FfnoutDxIdeal.τ).loc Cert.FfnoutDxIdeal.main_arg0) = m ((c.tc : Thread Cert.FfnoutDxIdeal.nD Cert.FfnoutDxIdeal.τ).loc Cert.FfnoutDxIdeal.main_arg0)
      ∧ r.2.mem ((c.tc : Thread Cert.FfnoutDxIdeal.nD Cert.FfnoutDxIdeal.τ).loc Cert.FfnoutDxIdeal.main_arg1) = m ((c.tc : Thread Cert.FfnoutDxIdeal.nD Cert.FfnoutDxIdeal.τ).loc Cert.FfnoutDxIdeal.main_arg1)
      ∧ r.2.mem ((c.tc : Thread Cert.FfnoutDxIdeal.nD Cert.FfnoutDxIdeal.τ).loc Cert.FfnoutDxIdeal.main_arg2) = m ((c.tc : Thread Cert.FfnoutDxIdeal.nD Cert.FfnoutDxIdeal.τ).loc Cert.FfnoutDxIdeal.main_arg2)
      ∧ r.2.mem ((c.tc : Thread Cert.FfnoutDxIdeal.nD Cert.FfnoutDxIdeal.τ).loc Cert.FfnoutDxIdeal.main_arg3) = m ((c.tc : Thread Cert.FfnoutDxIdeal.nD Cert.FfnoutDxIdeal.τ).loc Cert.FfnoutDxIdeal.main_arg3))
      ∧ r.2.sem = fun _ => 0)

def quiescent_FfnoutDxRefIdeal [hFfnoutDxRefIdeal : Cert.FfnoutDxRefIdeal.Facts] : Prop :=
  ∀ (m : (ℓ : Loc Cert.FfnoutDxRefIdeal.nD Cert.FfnoutDxRefIdeal.τ Cert.FfnoutDxRefIdeal.sig) → Buf (Elt Ideal) ℓ) (g : Dev Cert.FfnoutDxRefIdeal.nD → PrngReg), Pre_FfnoutDxRefIdeal m →
    θ_run (Cert.FfnoutDxRefIdeal.defs (F := Ideal)) (onTc (τ := Cert.FfnoutDxRefIdeal.τ) (Cert.FfnoutDxRefIdeal.main (F := Ideal))) ⟨m, fun _ => 0, g⟩ (fun r => (∀ c : Dev Cert.FfnoutDxRefIdeal.nD,
      r.2.mem ((c.tc : Thread Cert.FfnoutDxRefIdeal.nD Cert.FfnoutDxRefIdeal.τ).loc Cert.FfnoutDxRefIdeal.main_arg0) = m ((c.tc : Thread Cert.FfnoutDxRefIdeal.nD Cert.FfnoutDxRefIdeal.τ).loc Cert.FfnoutDxRefIdeal.main_arg0)
      ∧ r.2.mem ((c.tc : Thread Cert.FfnoutDxRefIdeal.nD Cert.FfnoutDxRefIdeal.τ).loc Cert.FfnoutDxRefIdeal.main_arg1) = m ((c.tc : Thread Cert.FfnoutDxRefIdeal.nD Cert.FfnoutDxRefIdeal.τ).loc Cert.FfnoutDxRefIdeal.main_arg1)
      ∧ r.2.mem ((c.tc : Thread Cert.FfnoutDxRefIdeal.nD Cert.FfnoutDxRefIdeal.τ).loc Cert.FfnoutDxRefIdeal.main_arg2) = m ((c.tc : Thread Cert.FfnoutDxRefIdeal.nD Cert.FfnoutDxRefIdeal.τ).loc Cert.FfnoutDxRefIdeal.main_arg2)
      ∧ r.2.mem ((c.tc : Thread Cert.FfnoutDxRefIdeal.nD Cert.FfnoutDxRefIdeal.τ).loc Cert.FfnoutDxRefIdeal.main_arg3) = m ((c.tc : Thread Cert.FfnoutDxRefIdeal.nD Cert.FfnoutDxRefIdeal.τ).loc Cert.FfnoutDxRefIdeal.main_arg3))
      ∧ r.2.sem = fun _ => 0)

def quiescent_FfnoutDxRefIdeal_pre_finite [hFfnoutDxRefIdeal : Cert.FfnoutDxRefIdeal.Facts] [hPre_finite : Cert.Pre_finite.Facts] : Prop :=
  ∀ (m : (ℓ : Loc Cert.FfnoutDxRefIdeal.nD Cert.FfnoutDxRefIdeal.τ Cert.FfnoutDxRefIdeal.sig) → Buf (Elt Ideal) ℓ) (g : Dev Cert.FfnoutDxRefIdeal.nD → PrngReg), Pre_FfnoutDxRefIdeal_finite m →
    θ_run (Cert.FfnoutDxRefIdeal.defs (F := Ideal)) (onTc (τ := Cert.FfnoutDxRefIdeal.τ) (Cert.FfnoutDxRefIdeal.main (F := Ideal))) ⟨m, fun _ => 0, g⟩ (fun r => (∀ c : Dev Cert.FfnoutDxRefIdeal.nD,
      r.2.mem ((c.tc : Thread Cert.FfnoutDxRefIdeal.nD Cert.FfnoutDxRefIdeal.τ).loc Cert.FfnoutDxRefIdeal.main_arg0) = m ((c.tc : Thread Cert.FfnoutDxRefIdeal.nD Cert.FfnoutDxRefIdeal.τ).loc Cert.FfnoutDxRefIdeal.main_arg0)
      ∧ r.2.mem ((c.tc : Thread Cert.FfnoutDxRefIdeal.nD Cert.FfnoutDxRefIdeal.τ).loc Cert.FfnoutDxRefIdeal.main_arg1) = m ((c.tc : Thread Cert.FfnoutDxRefIdeal.nD Cert.FfnoutDxRefIdeal.τ).loc Cert.FfnoutDxRefIdeal.main_arg1)
      ∧ r.2.mem ((c.tc : Thread Cert.FfnoutDxRefIdeal.nD Cert.FfnoutDxRefIdeal.τ).loc Cert.FfnoutDxRefIdeal.main_arg2) = m ((c.tc : Thread Cert.FfnoutDxRefIdeal.nD Cert.FfnoutDxRefIdeal.τ).loc Cert.FfnoutDxRefIdeal.main_arg2)
      ∧ r.2.mem ((c.tc : Thread Cert.FfnoutDxRefIdeal.nD Cert.FfnoutDxRefIdeal.τ).loc Cert.FfnoutDxRefIdeal.main_arg3) = m ((c.tc : Thread Cert.FfnoutDxRefIdeal.nD Cert.FfnoutDxRefIdeal.τ).loc Cert.FfnoutDxRefIdeal.main_arg3))
      ∧ r.2.sem = fun _ => 0)

def quiescent_FfninFwd [hFfninFwd : Cert.FfninFwd.Facts] : Prop :=
  ∀ (m : (ℓ : Loc Cert.FfninFwd.nD Cert.FfninFwd.τ Cert.FfninFwd.sig) → Buf (Elt Bits) ℓ) (g : Dev Cert.FfninFwd.nD → PrngReg), Pre_FfninFwd m →
    θ_run (Cert.FfninFwd.defs (F := Bits)) (onTc (τ := Cert.FfninFwd.τ) (Cert.FfninFwd.main (F := Bits))) ⟨m, fun _ => 0, g⟩ (fun r => (∀ c : Dev Cert.FfninFwd.nD,
      r.2.mem ((c.tc : Thread Cert.FfninFwd.nD Cert.FfninFwd.τ).loc Cert.FfninFwd.main_arg0) = m ((c.tc : Thread Cert.FfninFwd.nD Cert.FfninFwd.τ).loc Cert.FfninFwd.main_arg0)
      ∧ r.2.mem ((c.tc : Thread Cert.FfninFwd.nD Cert.FfninFwd.τ).loc Cert.FfninFwd.main_arg1) = m ((c.tc : Thread Cert.FfninFwd.nD Cert.FfninFwd.τ).loc Cert.FfninFwd.main_arg1)
      ∧ r.2.mem ((c.tc : Thread Cert.FfninFwd.nD Cert.FfninFwd.τ).loc Cert.FfninFwd.main_arg2) = m ((c.tc : Thread Cert.FfninFwd.nD Cert.FfninFwd.τ).loc Cert.FfninFwd.main_arg2)
      ∧ r.2.mem ((c.tc : Thread Cert.FfninFwd.nD Cert.FfninFwd.τ).loc Cert.FfninFwd.main_arg3) = m ((c.tc : Thread Cert.FfninFwd.nD Cert.FfninFwd.τ).loc Cert.FfninFwd.main_arg3)
      ∧ r.2.mem ((c.tc : Thread Cert.FfninFwd.nD Cert.FfninFwd.τ).loc Cert.FfninFwd.main_arg4) = m ((c.tc : Thread Cert.FfninFwd.nD Cert.FfninFwd.τ).loc Cert.FfninFwd.main_arg4))
      ∧ r.2.sem = fun _ => 0)

def quiescent_FfninFwdIdeal [hFfninFwdIdeal : Cert.FfninFwdIdeal.Facts] : Prop :=
  ∀ (m : (ℓ : Loc Cert.FfninFwdIdeal.nD Cert.FfninFwdIdeal.τ Cert.FfninFwdIdeal.sig) → Buf (Elt Ideal) ℓ) (g : Dev Cert.FfninFwdIdeal.nD → PrngReg), Pre_FfninFwdIdeal m →
    θ_run (Cert.FfninFwdIdeal.defs (F := Ideal)) (onTc (τ := Cert.FfninFwdIdeal.τ) (Cert.FfninFwdIdeal.main (F := Ideal))) ⟨m, fun _ => 0, g⟩ (fun r => (∀ c : Dev Cert.FfninFwdIdeal.nD,
      r.2.mem ((c.tc : Thread Cert.FfninFwdIdeal.nD Cert.FfninFwdIdeal.τ).loc Cert.FfninFwdIdeal.main_arg0) = m ((c.tc : Thread Cert.FfninFwdIdeal.nD Cert.FfninFwdIdeal.τ).loc Cert.FfninFwdIdeal.main_arg0)
      ∧ r.2.mem ((c.tc : Thread Cert.FfninFwdIdeal.nD Cert.FfninFwdIdeal.τ).loc Cert.FfninFwdIdeal.main_arg1) = m ((c.tc : Thread Cert.FfninFwdIdeal.nD Cert.FfninFwdIdeal.τ).loc Cert.FfninFwdIdeal.main_arg1)
      ∧ r.2.mem ((c.tc : Thread Cert.FfninFwdIdeal.nD Cert.FfninFwdIdeal.τ).loc Cert.FfninFwdIdeal.main_arg2) = m ((c.tc : Thread Cert.FfninFwdIdeal.nD Cert.FfninFwdIdeal.τ).loc Cert.FfninFwdIdeal.main_arg2)
      ∧ r.2.mem ((c.tc : Thread Cert.FfninFwdIdeal.nD Cert.FfninFwdIdeal.τ).loc Cert.FfninFwdIdeal.main_arg3) = m ((c.tc : Thread Cert.FfninFwdIdeal.nD Cert.FfninFwdIdeal.τ).loc Cert.FfninFwdIdeal.main_arg3)
      ∧ r.2.mem ((c.tc : Thread Cert.FfninFwdIdeal.nD Cert.FfninFwdIdeal.τ).loc Cert.FfninFwdIdeal.main_arg4) = m ((c.tc : Thread Cert.FfninFwdIdeal.nD Cert.FfninFwdIdeal.τ).loc Cert.FfninFwdIdeal.main_arg4))
      ∧ r.2.sem = fun _ => 0)

def quiescent_FfninFwdRefIdeal [hFfninFwdRefIdeal : Cert.FfninFwdRefIdeal.Facts] : Prop :=
  ∀ (m : (ℓ : Loc Cert.FfninFwdRefIdeal.nD Cert.FfninFwdRefIdeal.τ Cert.FfninFwdRefIdeal.sig) → Buf (Elt Ideal) ℓ) (g : Dev Cert.FfninFwdRefIdeal.nD → PrngReg), Pre_FfninFwdRefIdeal m →
    θ_run (Cert.FfninFwdRefIdeal.defs (F := Ideal)) (onTc (τ := Cert.FfninFwdRefIdeal.τ) (Cert.FfninFwdRefIdeal.main (F := Ideal))) ⟨m, fun _ => 0, g⟩ (fun r => (∀ c : Dev Cert.FfninFwdRefIdeal.nD,
      r.2.mem ((c.tc : Thread Cert.FfninFwdRefIdeal.nD Cert.FfninFwdRefIdeal.τ).loc Cert.FfninFwdRefIdeal.main_arg0) = m ((c.tc : Thread Cert.FfninFwdRefIdeal.nD Cert.FfninFwdRefIdeal.τ).loc Cert.FfninFwdRefIdeal.main_arg0)
      ∧ r.2.mem ((c.tc : Thread Cert.FfninFwdRefIdeal.nD Cert.FfninFwdRefIdeal.τ).loc Cert.FfninFwdRefIdeal.main_arg1) = m ((c.tc : Thread Cert.FfninFwdRefIdeal.nD Cert.FfninFwdRefIdeal.τ).loc Cert.FfninFwdRefIdeal.main_arg1)
      ∧ r.2.mem ((c.tc : Thread Cert.FfninFwdRefIdeal.nD Cert.FfninFwdRefIdeal.τ).loc Cert.FfninFwdRefIdeal.main_arg2) = m ((c.tc : Thread Cert.FfninFwdRefIdeal.nD Cert.FfninFwdRefIdeal.τ).loc Cert.FfninFwdRefIdeal.main_arg2)
      ∧ r.2.mem ((c.tc : Thread Cert.FfninFwdRefIdeal.nD Cert.FfninFwdRefIdeal.τ).loc Cert.FfninFwdRefIdeal.main_arg3) = m ((c.tc : Thread Cert.FfninFwdRefIdeal.nD Cert.FfninFwdRefIdeal.τ).loc Cert.FfninFwdRefIdeal.main_arg3)
      ∧ r.2.mem ((c.tc : Thread Cert.FfninFwdRefIdeal.nD Cert.FfninFwdRefIdeal.τ).loc Cert.FfninFwdRefIdeal.main_arg4) = m ((c.tc : Thread Cert.FfninFwdRefIdeal.nD Cert.FfninFwdRefIdeal.τ).loc Cert.FfninFwdRefIdeal.main_arg4))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3)
      ∧ r.2.mem ((c.tc : Thread Cert.ProjFwd.nD Cert.ProjFwd.τ).loc Cert.ProjFwd.main_arg4) = m ((c.tc : Thread Cert.ProjFwd.nD Cert.ProjFwd.τ).loc Cert.ProjFwd.main_arg4))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
      ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2)
      ∧ r.2.mem ((c.tc : Thread Cert.ProjFwdRefIdeal.nD Cert.ProjFwdRefIdeal.τ).loc Cert.ProjFwdRefIdeal.main_arg3) = m ((c.tc : Thread Cert.ProjFwdRefIdeal.nD Cert.ProjFwdRefIdeal.τ).loc Cert.ProjFwdRefIdeal.main_arg3)
      ∧ r.2.mem ((c.tc : Thread Cert.ProjFwdRefIdeal.nD Cert.ProjFwdRefIdeal.τ).loc Cert.ProjFwdRefIdeal.main_arg4) = m ((c.tc : Thread Cert.ProjFwdRefIdeal.nD Cert.ProjFwdRefIdeal.τ).loc Cert.ProjFwdRefIdeal.main_arg4))
      ∧ r.2.sem = fun _ => 0)

def quiescent_FfnoutFwd [hFfnoutFwd : Cert.FfnoutFwd.Facts] : Prop :=
  ∀ (m : (ℓ : Loc Cert.FfnoutFwd.nD Cert.FfnoutFwd.τ Cert.FfnoutFwd.sig) → Buf (Elt Bits) ℓ) (g : Dev Cert.FfnoutFwd.nD → PrngReg), Pre_FfnoutFwd m →
    θ_run (Cert.FfnoutFwd.defs (F := Bits)) (onTc (τ := Cert.FfnoutFwd.τ) (Cert.FfnoutFwd.main (F := Bits))) ⟨m, fun _ => 0, g⟩ (fun r => (∀ c : Dev Cert.FfnoutFwd.nD,
      r.2.mem ((c.tc : Thread Cert.FfnoutFwd.nD Cert.FfnoutFwd.τ).loc Cert.FfnoutFwd.main_arg0) = m ((c.tc : Thread Cert.FfnoutFwd.nD Cert.FfnoutFwd.τ).loc Cert.FfnoutFwd.main_arg0)
      ∧ r.2.mem ((c.tc : Thread Cert.FfnoutFwd.nD Cert.FfnoutFwd.τ).loc Cert.FfnoutFwd.main_arg1) = m ((c.tc : Thread Cert.FfnoutFwd.nD Cert.FfnoutFwd.τ).loc Cert.FfnoutFwd.main_arg1)
      ∧ r.2.mem ((c.tc : Thread Cert.FfnoutFwd.nD Cert.FfnoutFwd.τ).loc Cert.FfnoutFwd.main_arg2) = m ((c.tc : Thread Cert.FfnoutFwd.nD Cert.FfnoutFwd.τ).loc Cert.FfnoutFwd.main_arg2)
      ∧ r.2.mem ((c.tc : Thread Cert.FfnoutFwd.nD Cert.FfnoutFwd.τ).loc Cert.FfnoutFwd.main_arg3) = m ((c.tc : Thread Cert.FfnoutFwd.nD Cert.FfnoutFwd.τ).loc Cert.FfnoutFwd.main_arg3))
      ∧ r.2.sem = fun _ => 0)

def quiescent_FfnoutFwdIdeal [hFfnoutFwdIdeal : Cert.FfnoutFwdIdeal.Facts] : Prop :=
  ∀ (m : (ℓ : Loc Cert.FfnoutFwdIdeal.nD Cert.FfnoutFwdIdeal.τ Cert.FfnoutFwdIdeal.sig) → Buf (Elt Ideal) ℓ) (g : Dev Cert.FfnoutFwdIdeal.nD → PrngReg), Pre_FfnoutFwdIdeal m →
    θ_run (Cert.FfnoutFwdIdeal.defs (F := Ideal)) (onTc (τ := Cert.FfnoutFwdIdeal.τ) (Cert.FfnoutFwdIdeal.main (F := Ideal))) ⟨m, fun _ => 0, g⟩ (fun r => (∀ c : Dev Cert.FfnoutFwdIdeal.nD,
      r.2.mem ((c.tc : Thread Cert.FfnoutFwdIdeal.nD Cert.FfnoutFwdIdeal.τ).loc Cert.FfnoutFwdIdeal.main_arg0) = m ((c.tc : Thread Cert.FfnoutFwdIdeal.nD Cert.FfnoutFwdIdeal.τ).loc Cert.FfnoutFwdIdeal.main_arg0)
      ∧ r.2.mem ((c.tc : Thread Cert.FfnoutFwdIdeal.nD Cert.FfnoutFwdIdeal.τ).loc Cert.FfnoutFwdIdeal.main_arg1) = m ((c.tc : Thread Cert.FfnoutFwdIdeal.nD Cert.FfnoutFwdIdeal.τ).loc Cert.FfnoutFwdIdeal.main_arg1)
      ∧ r.2.mem ((c.tc : Thread Cert.FfnoutFwdIdeal.nD Cert.FfnoutFwdIdeal.τ).loc Cert.FfnoutFwdIdeal.main_arg2) = m ((c.tc : Thread Cert.FfnoutFwdIdeal.nD Cert.FfnoutFwdIdeal.τ).loc Cert.FfnoutFwdIdeal.main_arg2)
      ∧ r.2.mem ((c.tc : Thread Cert.FfnoutFwdIdeal.nD Cert.FfnoutFwdIdeal.τ).loc Cert.FfnoutFwdIdeal.main_arg3) = m ((c.tc : Thread Cert.FfnoutFwdIdeal.nD Cert.FfnoutFwdIdeal.τ).loc Cert.FfnoutFwdIdeal.main_arg3))
      ∧ r.2.sem = fun _ => 0)

def quiescent_FfnoutFwdRefIdeal [hFfnoutFwdRefIdeal : Cert.FfnoutFwdRefIdeal.Facts] : Prop :=
  ∀ (m : (ℓ : Loc Cert.FfnoutFwdRefIdeal.nD Cert.FfnoutFwdRefIdeal.τ Cert.FfnoutFwdRefIdeal.sig) → Buf (Elt Ideal) ℓ) (g : Dev Cert.FfnoutFwdRefIdeal.nD → PrngReg), Pre_FfnoutFwdRefIdeal m →
    θ_run (Cert.FfnoutFwdRefIdeal.defs (F := Ideal)) (onTc (τ := Cert.FfnoutFwdRefIdeal.τ) (Cert.FfnoutFwdRefIdeal.main (F := Ideal))) ⟨m, fun _ => 0, g⟩ (fun r => (∀ c : Dev Cert.FfnoutFwdRefIdeal.nD,
      r.2.mem ((c.tc : Thread Cert.FfnoutFwdRefIdeal.nD Cert.FfnoutFwdRefIdeal.τ).loc Cert.FfnoutFwdRefIdeal.main_arg0) = m ((c.tc : Thread Cert.FfnoutFwdRefIdeal.nD Cert.FfnoutFwdRefIdeal.τ).loc Cert.FfnoutFwdRefIdeal.main_arg0)
      ∧ r.2.mem ((c.tc : Thread Cert.FfnoutFwdRefIdeal.nD Cert.FfnoutFwdRefIdeal.τ).loc Cert.FfnoutFwdRefIdeal.main_arg1) = m ((c.tc : Thread Cert.FfnoutFwdRefIdeal.nD Cert.FfnoutFwdRefIdeal.τ).loc Cert.FfnoutFwdRefIdeal.main_arg1)
      ∧ r.2.mem ((c.tc : Thread Cert.FfnoutFwdRefIdeal.nD Cert.FfnoutFwdRefIdeal.τ).loc Cert.FfnoutFwdRefIdeal.main_arg2) = m ((c.tc : Thread Cert.FfnoutFwdRefIdeal.nD Cert.FfnoutFwdRefIdeal.τ).loc Cert.FfnoutFwdRefIdeal.main_arg2)
      ∧ r.2.mem ((c.tc : Thread Cert.FfnoutFwdRefIdeal.nD Cert.FfnoutFwdRefIdeal.τ).loc Cert.FfnoutFwdRefIdeal.main_arg3) = m ((c.tc : Thread Cert.FfnoutFwdRefIdeal.nD Cert.FfnoutFwdRefIdeal.τ).loc Cert.FfnoutFwdRefIdeal.main_arg3))
      ∧ r.2.sem = fun _ => 0)

def quiescent_MixoutFwd [hMixoutFwd : Cert.MixoutFwd.Facts] : Prop :=
  ∀ (m : (ℓ : Loc Cert.MixoutFwd.nD Cert.MixoutFwd.τ Cert.MixoutFwd.sig) → Buf (Elt Bits) ℓ) (g : Dev Cert.MixoutFwd.nD → PrngReg), Pre_MixoutFwd m →
    θ_run (Cert.MixoutFwd.defs (F := Bits)) (onTc (τ := Cert.MixoutFwd.τ) (Cert.MixoutFwd.main (F := Bits))) ⟨m, fun _ => 0, g⟩ (fun r => (∀ c : Dev Cert.MixoutFwd.nD,
      r.2.mem ((c.tc : Thread Cert.MixoutFwd.nD Cert.MixoutFwd.τ).loc Cert.MixoutFwd.main_arg0) = m ((c.tc : Thread Cert.MixoutFwd.nD Cert.MixoutFwd.τ).loc Cert.MixoutFwd.main_arg0)
      ∧ r.2.mem ((c.tc : Thread Cert.MixoutFwd.nD Cert.MixoutFwd.τ).loc Cert.MixoutFwd.main_arg1) = m ((c.tc : Thread Cert.MixoutFwd.nD Cert.MixoutFwd.τ).loc Cert.MixoutFwd.main_arg1)
      ∧ r.2.mem ((c.tc : Thread Cert.MixoutFwd.nD Cert.MixoutFwd.τ).loc Cert.MixoutFwd.main_arg2) = m ((c.tc : Thread Cert.MixoutFwd.nD Cert.MixoutFwd.τ).loc Cert.MixoutFwd.main_arg2)
      ∧ r.2.mem ((c.tc : Thread Cert.MixoutFwd.nD Cert.MixoutFwd.τ).loc Cert.MixoutFwd.main_arg3) = m ((c.tc : Thread Cert.MixoutFwd.nD Cert.MixoutFwd.τ).loc Cert.MixoutFwd.main_arg3)
      ∧ r.2.mem ((c.tc : Thread Cert.MixoutFwd.nD Cert.MixoutFwd.τ).loc Cert.MixoutFwd.main_arg4) = m ((c.tc : Thread Cert.MixoutFwd.nD Cert.MixoutFwd.τ).loc Cert.MixoutFwd.main_arg4)
      ∧ r.2.mem ((c.tc : Thread Cert.MixoutFwd.nD Cert.MixoutFwd.τ).loc Cert.MixoutFwd.main_arg5) = m ((c.tc : Thread Cert.MixoutFwd.nD Cert.MixoutFwd.τ).loc Cert.MixoutFwd.main_arg5)
      ∧ r.2.mem ((c.tc : Thread Cert.MixoutFwd.nD Cert.MixoutFwd.τ).loc Cert.MixoutFwd.main_arg6) = m ((c.tc : Thread Cert.MixoutFwd.nD Cert.MixoutFwd.τ).loc Cert.MixoutFwd.main_arg6))
      ∧ r.2.sem = fun _ => 0)

def quiescent_MixoutFwdIdeal [hMixoutFwdIdeal : Cert.MixoutFwdIdeal.Facts] : Prop :=
  ∀ (m : (ℓ : Loc Cert.MixoutFwdIdeal.nD Cert.MixoutFwdIdeal.τ Cert.MixoutFwdIdeal.sig) → Buf (Elt Ideal) ℓ) (g : Dev Cert.MixoutFwdIdeal.nD → PrngReg), Pre_MixoutFwdIdeal m →
    θ_run (Cert.MixoutFwdIdeal.defs (F := Ideal)) (onTc (τ := Cert.MixoutFwdIdeal.τ) (Cert.MixoutFwdIdeal.main (F := Ideal))) ⟨m, fun _ => 0, g⟩ (fun r => (∀ c : Dev Cert.MixoutFwdIdeal.nD,
      r.2.mem ((c.tc : Thread Cert.MixoutFwdIdeal.nD Cert.MixoutFwdIdeal.τ).loc Cert.MixoutFwdIdeal.main_arg0) = m ((c.tc : Thread Cert.MixoutFwdIdeal.nD Cert.MixoutFwdIdeal.τ).loc Cert.MixoutFwdIdeal.main_arg0)
      ∧ r.2.mem ((c.tc : Thread Cert.MixoutFwdIdeal.nD Cert.MixoutFwdIdeal.τ).loc Cert.MixoutFwdIdeal.main_arg1) = m ((c.tc : Thread Cert.MixoutFwdIdeal.nD Cert.MixoutFwdIdeal.τ).loc Cert.MixoutFwdIdeal.main_arg1)
      ∧ r.2.mem ((c.tc : Thread Cert.MixoutFwdIdeal.nD Cert.MixoutFwdIdeal.τ).loc Cert.MixoutFwdIdeal.main_arg2) = m ((c.tc : Thread Cert.MixoutFwdIdeal.nD Cert.MixoutFwdIdeal.τ).loc Cert.MixoutFwdIdeal.main_arg2)
      ∧ r.2.mem ((c.tc : Thread Cert.MixoutFwdIdeal.nD Cert.MixoutFwdIdeal.τ).loc Cert.MixoutFwdIdeal.main_arg3) = m ((c.tc : Thread Cert.MixoutFwdIdeal.nD Cert.MixoutFwdIdeal.τ).loc Cert.MixoutFwdIdeal.main_arg3)
      ∧ r.2.mem ((c.tc : Thread Cert.MixoutFwdIdeal.nD Cert.MixoutFwdIdeal.τ).loc Cert.MixoutFwdIdeal.main_arg4) = m ((c.tc : Thread Cert.MixoutFwdIdeal.nD Cert.MixoutFwdIdeal.τ).loc Cert.MixoutFwdIdeal.main_arg4)
      ∧ r.2.mem ((c.tc : Thread Cert.MixoutFwdIdeal.nD Cert.MixoutFwdIdeal.τ).loc Cert.MixoutFwdIdeal.main_arg5) = m ((c.tc : Thread Cert.MixoutFwdIdeal.nD Cert.MixoutFwdIdeal.τ).loc Cert.MixoutFwdIdeal.main_arg5)
      ∧ r.2.mem ((c.tc : Thread Cert.MixoutFwdIdeal.nD Cert.MixoutFwdIdeal.τ).loc Cert.MixoutFwdIdeal.main_arg6) = m ((c.tc : Thread Cert.MixoutFwdIdeal.nD Cert.MixoutFwdIdeal.τ).loc Cert.MixoutFwdIdeal.main_arg6))
      ∧ r.2.sem = fun _ => 0)

def quiescent_MixoutFwdRefIdeal [hMixoutFwdRefIdeal : Cert.MixoutFwdRefIdeal.Facts] : Prop :=
  ∀ (m : (ℓ : Loc Cert.MixoutFwdRefIdeal.nD Cert.MixoutFwdRefIdeal.τ Cert.MixoutFwdRefIdeal.sig) → Buf (Elt Ideal) ℓ) (g : Dev Cert.MixoutFwdRefIdeal.nD → PrngReg), Pre_MixoutFwdRefIdeal m →
    θ_run (Cert.MixoutFwdRefIdeal.defs (F := Ideal)) (onTc (τ := Cert.MixoutFwdRefIdeal.τ) (Cert.MixoutFwdRefIdeal.main (F := Ideal))) ⟨m, fun _ => 0, g⟩ (fun r => (∀ c : Dev Cert.MixoutFwdRefIdeal.nD,
      r.2.mem ((c.tc : Thread Cert.MixoutFwdRefIdeal.nD Cert.MixoutFwdRefIdeal.τ).loc Cert.MixoutFwdRefIdeal.main_arg0) = m ((c.tc : Thread Cert.MixoutFwdRefIdeal.nD Cert.MixoutFwdRefIdeal.τ).loc Cert.MixoutFwdRefIdeal.main_arg0)
      ∧ r.2.mem ((c.tc : Thread Cert.MixoutFwdRefIdeal.nD Cert.MixoutFwdRefIdeal.τ).loc Cert.MixoutFwdRefIdeal.main_arg1) = m ((c.tc : Thread Cert.MixoutFwdRefIdeal.nD Cert.MixoutFwdRefIdeal.τ).loc Cert.MixoutFwdRefIdeal.main_arg1)
      ∧ r.2.mem ((c.tc : Thread Cert.MixoutFwdRefIdeal.nD Cert.MixoutFwdRefIdeal.τ).loc Cert.MixoutFwdRefIdeal.main_arg2) = m ((c.tc : Thread Cert.MixoutFwdRefIdeal.nD Cert.MixoutFwdRefIdeal.τ).loc Cert.MixoutFwdRefIdeal.main_arg2)
      ∧ r.2.mem ((c.tc : Thread Cert.MixoutFwdRefIdeal.nD Cert.MixoutFwdRefIdeal.τ).loc Cert.MixoutFwdRefIdeal.main_arg3) = m ((c.tc : Thread Cert.MixoutFwdRefIdeal.nD Cert.MixoutFwdRefIdeal.τ).loc Cert.MixoutFwdRefIdeal.main_arg3)
      ∧ r.2.mem ((c.tc : Thread Cert.MixoutFwdRefIdeal.nD Cert.MixoutFwdRefIdeal.τ).loc Cert.MixoutFwdRefIdeal.main_arg4) = m ((c.tc : Thread Cert.MixoutFwdRefIdeal.nD Cert.MixoutFwdRefIdeal.τ).loc Cert.MixoutFwdRefIdeal.main_arg4)
      ∧ r.2.mem ((c.tc : Thread Cert.MixoutFwdRefIdeal.nD Cert.MixoutFwdRefIdeal.τ).loc Cert.MixoutFwdRefIdeal.main_arg5) = m ((c.tc : Thread Cert.MixoutFwdRefIdeal.nD Cert.MixoutFwdRefIdeal.τ).loc Cert.MixoutFwdRefIdeal.main_arg5)
      ∧ r.2.mem ((c.tc : Thread Cert.MixoutFwdRefIdeal.nD Cert.MixoutFwdRefIdeal.τ).loc Cert.MixoutFwdRefIdeal.main_arg6) = m ((c.tc : Thread Cert.MixoutFwdRefIdeal.nD Cert.MixoutFwdRefIdeal.τ).loc Cert.MixoutFwdRefIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_v39) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v3) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_MixoutDw_MixoutDwIdeal : Prop :=
  True

def algebraic_MixoutDwIdeal_MixoutDwRefIdeal [hMixoutDwIdeal : Cert.MixoutDwIdeal.Facts] [hMixoutDwRefIdeal : Cert.MixoutDwRefIdeal.Facts] : Prop :=
  ∀ (m : (ℓ : Loc Cert.MixoutDwIdeal.nD Cert.MixoutDwIdeal.τ Cert.MixoutDwIdeal.sig) → Buf (Elt Ideal) ℓ) (g : Dev Cert.MixoutDwIdeal.nD → PrngReg)
    (m' : (ℓ : Loc Cert.MixoutDwRefIdeal.nD Cert.MixoutDwRefIdeal.τ Cert.MixoutDwRefIdeal.sig) → Buf (Elt Ideal) ℓ) (g' : Dev Cert.MixoutDwRefIdeal.nD → PrngReg), Pre_MixoutDwIdeal m →
    (∀ c : Dev Cert.MixoutDwIdeal.nD,
      m' ((c.tc : Thread Cert.MixoutDwRefIdeal.nD Cert.MixoutDwRefIdeal.τ).loc Cert.MixoutDwRefIdeal.main_arg0) = m ((c.tc : Thread Cert.MixoutDwIdeal.nD Cert.MixoutDwIdeal.τ).loc Cert.MixoutDwIdeal.main_arg0)
      ∧ m' ((c.tc : Thread Cert.MixoutDwRefIdeal.nD Cert.MixoutDwRefIdeal.τ).loc Cert.MixoutDwRefIdeal.main_arg1) = m ((c.tc : Thread Cert.MixoutDwIdeal.nD Cert.MixoutDwIdeal.τ).loc Cert.MixoutDwIdeal.main_arg1)) →
    ∃ (v0 : (c : Dev Cert.MixoutDwIdeal.nD) → Buf (Elt Ideal) ((c.tc : Thread Cert.MixoutDwIdeal.nD Cert.MixoutDwIdeal.τ).loc Cert.MixoutDwIdeal.main_v0)),
      θ_run (Cert.MixoutDwIdeal.defs (F := Ideal)) (onTc (τ := Cert.MixoutDwIdeal.τ) (Cert.MixoutDwIdeal.main (F := Ideal))) ⟨m, fun _ => 0, g⟩ (fun r => ∀ c : Dev Cert.MixoutDwIdeal.nD,
          r.2.mem ((c.tc : Thread Cert.MixoutDwIdeal.nD Cert.MixoutDwIdeal.τ).loc Cert.MixoutDwIdeal.main_v0) = v0 c
          ∧ r.2.mem ((c.tc : Thread Cert.MixoutDwIdeal.nD Cert.MixoutDwIdeal.τ).loc Cert.MixoutDwIdeal.main_arg0) = m ((c.tc : Thread Cert.MixoutDwIdeal.nD Cert.MixoutDwIdeal.τ).loc Cert.MixoutDwIdeal.main_arg0)
          ∧ r.2.mem ((c.tc : Thread Cert.MixoutDwIdeal.nD Cert.MixoutDwIdeal.τ).loc Cert.MixoutDwIdeal.main_arg1) = m ((c.tc : Thread Cert.MixoutDwIdeal.nD Cert.MixoutDwIdeal.τ).loc Cert.MixoutDwIdeal.main_arg1))
      ∧ θ_run (Cert.MixoutDwRefIdeal.defs (F := Ideal)) (onTc (τ := Cert.MixoutDwRefIdeal.τ) (Cert.MixoutDwRefIdeal.main (F := Ideal))) ⟨m', fun _ => 0, g'⟩ (fun r => ∀ c : Dev Cert.MixoutDwRefIdeal.nD,
          r.2.mem ((c.tc : Thread Cert.MixoutDwRefIdeal.nD Cert.MixoutDwRefIdeal.τ).loc Cert.MixoutDwRefIdeal.main_v5) = v0 c
          ∧ r.2.mem ((c.tc : Thread Cert.MixoutDwRefIdeal.nD Cert.MixoutDwRefIdeal.τ).loc Cert.MixoutDwRefIdeal.main_arg0) = m' ((c.tc : Thread Cert.MixoutDwRefIdeal.nD Cert.MixoutDwRefIdeal.τ).loc Cert.MixoutDwRefIdeal.main_arg0)
          ∧ r.2.mem ((c.tc : Thread Cert.MixoutDwRefIdeal.nD Cert.MixoutDwRefIdeal.τ).loc Cert.MixoutDwRefIdeal.main_arg1) = m' ((c.tc : Thread Cert.MixoutDwRefIdeal.nD Cert.MixoutDwRefIdeal.τ).loc Cert.MixoutDwRefIdeal.main_arg1))

def preserves_FfninDw_FfninDwIdeal : Prop :=
  True

def algebraic_FfninDwIdeal_FfninDwRefIdeal [hFfninDwIdeal : Cert.FfninDwIdeal.Facts] [hFfninDwRefIdeal : Cert.FfninDwRefIdeal.Facts] : Prop :=
  ∀ (m : (ℓ : Loc Cert.FfninDwIdeal.nD Cert.FfninDwIdeal.τ Cert.FfninDwIdeal.sig) → Buf (Elt Ideal) ℓ) (g : Dev Cert.FfninDwIdeal.nD → PrngReg)
    (m' : (ℓ : Loc Cert.FfninDwRefIdeal.nD Cert.FfninDwRefIdeal.τ Cert.FfninDwRefIdeal.sig) → Buf (Elt Ideal) ℓ) (g' : Dev Cert.FfninDwRefIdeal.nD → PrngReg), Pre_FfninDwIdeal m →
    (∀ c : Dev Cert.FfninDwIdeal.nD,
      m' ((c.tc : Thread Cert.FfninDwRefIdeal.nD Cert.FfninDwRefIdeal.τ).loc Cert.FfninDwRefIdeal.main_arg0) = m ((c.tc : Thread Cert.FfninDwIdeal.nD Cert.FfninDwIdeal.τ).loc Cert.FfninDwIdeal.main_arg0)
      ∧ m' ((c.tc : Thread Cert.FfninDwRefIdeal.nD Cert.FfninDwRefIdeal.τ).loc Cert.FfninDwRefIdeal.main_arg1) = m ((c.tc : Thread Cert.FfninDwIdeal.nD Cert.FfninDwIdeal.τ).loc Cert.FfninDwIdeal.main_arg1)) →
    ∃ (v0 : (c : Dev Cert.FfninDwIdeal.nD) → Buf (Elt Ideal) ((c.tc : Thread Cert.FfninDwIdeal.nD Cert.FfninDwIdeal.τ).loc Cert.FfninDwIdeal.main_v0)),
      θ_run (Cert.FfninDwIdeal.defs (F := Ideal)) (onTc (τ := Cert.FfninDwIdeal.τ) (Cert.FfninDwIdeal.main (F := Ideal))) ⟨m, fun _ => 0, g⟩ (fun r => ∀ c : Dev Cert.FfninDwIdeal.nD,
          r.2.mem ((c.tc : Thread Cert.FfninDwIdeal.nD Cert.FfninDwIdeal.τ).loc Cert.FfninDwIdeal.main_v0) = v0 c
          ∧ r.2.mem ((c.tc : Thread Cert.FfninDwIdeal.nD Cert.FfninDwIdeal.τ).loc Cert.FfninDwIdeal.main_arg0) = m ((c.tc : Thread Cert.FfninDwIdeal.nD Cert.FfninDwIdeal.τ).loc Cert.FfninDwIdeal.main_arg0)
          ∧ r.2.mem ((c.tc : Thread Cert.FfninDwIdeal.nD Cert.FfninDwIdeal.τ).loc Cert.FfninDwIdeal.main_arg1) = m ((c.tc : Thread Cert.FfninDwIdeal.nD Cert.FfninDwIdeal.τ).loc Cert.FfninDwIdeal.main_arg1))
      ∧ θ_run (Cert.FfninDwRefIdeal.defs (F := Ideal)) (onTc (τ := Cert.FfninDwRefIdeal.τ) (Cert.FfninDwRefIdeal.main (F := Ideal))) ⟨m', fun _ => 0, g'⟩ (fun r => ∀ c : Dev Cert.FfninDwRefIdeal.nD,
          r.2.mem ((c.tc : Thread Cert.FfninDwRefIdeal.nD Cert.FfninDwRefIdeal.τ).loc Cert.FfninDwRefIdeal.main_v5) = v0 c
          ∧ r.2.mem ((c.tc : Thread Cert.FfninDwRefIdeal.nD Cert.FfninDwRefIdeal.τ).loc Cert.FfninDwRefIdeal.main_arg0) = m' ((c.tc : Thread Cert.FfninDwRefIdeal.nD Cert.FfninDwRefIdeal.τ).loc Cert.FfninDwRefIdeal.main_arg0)
          ∧ r.2.mem ((c.tc : Thread Cert.FfninDwRefIdeal.nD Cert.FfninDwRefIdeal.τ).loc Cert.FfninDwRefIdeal.main_arg1) = m' ((c.tc : Thread Cert.FfninDwRefIdeal.nD Cert.FfninDwRefIdeal.τ).loc Cert.FfninDwRefIdeal.main_arg1))

def preserves_FfnoutDw_FfnoutDwIdeal : Prop :=
  True

def algebraic_FfnoutDwIdeal_FfnoutDwRefIdeal [hFfnoutDwIdeal : Cert.FfnoutDwIdeal.Facts] [hFfnoutDwRefIdeal : Cert.FfnoutDwRefIdeal.Facts] : Prop :=
  ∀ (m : (ℓ : Loc Cert.FfnoutDwIdeal.nD Cert.FfnoutDwIdeal.τ Cert.FfnoutDwIdeal.sig) → Buf (Elt Ideal) ℓ) (g : Dev Cert.FfnoutDwIdeal.nD → PrngReg)
    (m' : (ℓ : Loc Cert.FfnoutDwRefIdeal.nD Cert.FfnoutDwRefIdeal.τ Cert.FfnoutDwRefIdeal.sig) → Buf (Elt Ideal) ℓ) (g' : Dev Cert.FfnoutDwRefIdeal.nD → PrngReg), Pre_FfnoutDwIdeal m →
    (∀ c : Dev Cert.FfnoutDwIdeal.nD,
      m' ((c.tc : Thread Cert.FfnoutDwRefIdeal.nD Cert.FfnoutDwRefIdeal.τ).loc Cert.FfnoutDwRefIdeal.main_arg0) = m ((c.tc : Thread Cert.FfnoutDwIdeal.nD Cert.FfnoutDwIdeal.τ).loc Cert.FfnoutDwIdeal.main_arg0)
      ∧ m' ((c.tc : Thread Cert.FfnoutDwRefIdeal.nD Cert.FfnoutDwRefIdeal.τ).loc Cert.FfnoutDwRefIdeal.main_arg1) = m ((c.tc : Thread Cert.FfnoutDwIdeal.nD Cert.FfnoutDwIdeal.τ).loc Cert.FfnoutDwIdeal.main_arg1)) →
    ∃ (v0 : (c : Dev Cert.FfnoutDwIdeal.nD) → Buf (Elt Ideal) ((c.tc : Thread Cert.FfnoutDwIdeal.nD Cert.FfnoutDwIdeal.τ).loc Cert.FfnoutDwIdeal.main_v0)),
      θ_run (Cert.FfnoutDwIdeal.defs (F := Ideal)) (onTc (τ := Cert.FfnoutDwIdeal.τ) (Cert.FfnoutDwIdeal.main (F := Ideal))) ⟨m, fun _ => 0, g⟩ (fun r => ∀ c : Dev Cert.FfnoutDwIdeal.nD,
          r.2.mem ((c.tc : Thread Cert.FfnoutDwIdeal.nD Cert.FfnoutDwIdeal.τ).loc Cert.FfnoutDwIdeal.main_v0) = v0 c
          ∧ r.2.mem ((c.tc : Thread Cert.FfnoutDwIdeal.nD Cert.FfnoutDwIdeal.τ).loc Cert.FfnoutDwIdeal.main_arg0) = m ((c.tc : Thread Cert.FfnoutDwIdeal.nD Cert.FfnoutDwIdeal.τ).loc Cert.FfnoutDwIdeal.main_arg0)
          ∧ r.2.mem ((c.tc : Thread Cert.FfnoutDwIdeal.nD Cert.FfnoutDwIdeal.τ).loc Cert.FfnoutDwIdeal.main_arg1) = m ((c.tc : Thread Cert.FfnoutDwIdeal.nD Cert.FfnoutDwIdeal.τ).loc Cert.FfnoutDwIdeal.main_arg1))
      ∧ θ_run (Cert.FfnoutDwRefIdeal.defs (F := Ideal)) (onTc (τ := Cert.FfnoutDwRefIdeal.τ) (Cert.FfnoutDwRefIdeal.main (F := Ideal))) ⟨m', fun _ => 0, g'⟩ (fun r => ∀ c : Dev Cert.FfnoutDwRefIdeal.nD,
          r.2.mem ((c.tc : Thread Cert.FfnoutDwRefIdeal.nD Cert.FfnoutDwRefIdeal.τ).loc Cert.FfnoutDwRefIdeal.main_v5) = v0 c
          ∧ r.2.mem ((c.tc : Thread Cert.FfnoutDwRefIdeal.nD Cert.FfnoutDwRefIdeal.τ).loc Cert.FfnoutDwRefIdeal.main_arg0) = m' ((c.tc : Thread Cert.FfnoutDwRefIdeal.nD Cert.FfnoutDwRefIdeal.τ).loc Cert.FfnoutDwRefIdeal.main_arg0)
          ∧ r.2.mem ((c.tc : Thread Cert.FfnoutDwRefIdeal.nD Cert.FfnoutDwRefIdeal.τ).loc Cert.FfnoutDwRefIdeal.main_arg1) = m' ((c.tc : Thread Cert.FfnoutDwRefIdeal.nD Cert.FfnoutDwRefIdeal.τ).loc Cert.FfnoutDwRefIdeal.main_arg1))

def preserves_FfninDx_FfninDxIdeal : Prop :=
  True

def algebraic_FfninDxIdeal_FfninDxRefIdeal [hFfninDxIdeal : Cert.FfninDxIdeal.Facts] [hFfninDxRefIdeal : Cert.FfninDxRefIdeal.Facts] : Prop :=
  ∀ (m : (ℓ : Loc Cert.FfninDxIdeal.nD Cert.FfninDxIdeal.τ Cert.FfninDxIdeal.sig) → Buf (Elt Ideal) ℓ) (g : Dev Cert.FfninDxIdeal.nD → PrngReg)
    (m' : (ℓ : Loc Cert.FfninDxRefIdeal.nD Cert.FfninDxRefIdeal.τ Cert.FfninDxRefIdeal.sig) → Buf (Elt Ideal) ℓ) (g' : Dev Cert.FfninDxRefIdeal.nD → PrngReg), Pre_FfninDxIdeal m →
    (∀ c : Dev Cert.FfninDxIdeal.nD,
      m' ((c.tc : Thread Cert.FfninDxRefIdeal.nD Cert.FfninDxRefIdeal.τ).loc Cert.FfninDxRefIdeal.main_arg0) = m ((c.tc : Thread Cert.FfninDxIdeal.nD Cert.FfninDxIdeal.τ).loc Cert.FfninDxIdeal.main_arg0)
      ∧ m' ((c.tc : Thread Cert.FfninDxRefIdeal.nD Cert.FfninDxRefIdeal.τ).loc Cert.FfninDxRefIdeal.main_arg1) = m ((c.tc : Thread Cert.FfninDxIdeal.nD Cert.FfninDxIdeal.τ).loc Cert.FfninDxIdeal.main_arg1)
      ∧ m' ((c.tc : Thread Cert.FfninDxRefIdeal.nD Cert.FfninDxRefIdeal.τ).loc Cert.FfninDxRefIdeal.main_arg2) = m ((c.tc : Thread Cert.FfninDxIdeal.nD Cert.FfninDxIdeal.τ).loc Cert.FfninDxIdeal.main_arg2)
      ∧ m' ((c.tc : Thread Cert.FfninDxRefIdeal.nD Cert.FfninDxRefIdeal.τ).loc Cert.FfninDxRefIdeal.main_arg3) = m ((c.tc : Thread Cert.FfninDxIdeal.nD Cert.FfninDxIdeal.τ).loc Cert.FfninDxIdeal.main_arg3)
      ∧ m' ((c.tc : Thread Cert.FfninDxRefIdeal.nD Cert.FfninDxRefIdeal.τ).loc Cert.FfninDxRefIdeal.main_arg4) = m ((c.tc : Thread Cert.FfninDxIdeal.nD Cert.FfninDxIdeal.τ).loc Cert.FfninDxIdeal.main_arg4)
      ∧ m' ((c.tc : Thread Cert.FfninDxRefIdeal.nD Cert.FfninDxRefIdeal.τ).loc Cert.FfninDxRefIdeal.main_arg5) = m ((c.tc : Thread Cert.FfninDxIdeal.nD Cert.FfninDxIdeal.τ).loc Cert.FfninDxIdeal.main_arg5)
      ∧ m' ((c.tc : Thread Cert.FfninDxRefIdeal.nD Cert.FfninDxRefIdeal.τ).loc Cert.FfninDxRefIdeal.main_arg6) = m ((c.tc : Thread Cert.FfninDxIdeal.nD Cert.FfninDxIdeal.τ).loc Cert.FfninDxIdeal.main_arg6)
      ∧ m' ((c.tc : Thread Cert.FfninDxRefIdeal.nD Cert.FfninDxRefIdeal.τ).loc Cert.FfninDxRefIdeal.main_arg7) = m ((c.tc : Thread Cert.FfninDxIdeal.nD Cert.FfninDxIdeal.τ).loc Cert.FfninDxIdeal.main_arg7)) →
    ∃ (v0 : (c : Dev Cert.FfninDxIdeal.nD) → Buf (Elt Ideal) ((c.tc : Thread Cert.FfninDxIdeal.nD Cert.FfninDxIdeal.τ).loc Cert.FfninDxIdeal.main_v1_0)) (v1 : (c : Dev Cert.FfninDxIdeal.nD) → Buf (Elt Ideal) ((c.tc : Thread Cert.FfninDxIdeal.nD Cert.FfninDxIdeal.τ).loc Cert.FfninDxIdeal.main_v1_1)) (v2 : (c : Dev Cert.FfninDxIdeal.nD) → Buf (Elt Ideal) ((c.tc : Thread Cert.FfninDxIdeal.nD Cert.FfninDxIdeal.τ).loc Cert.FfninDxIdeal.main_v1_2)) (v3 : (c : Dev Cert.FfninDxIdeal.nD) → Buf (Elt Ideal) ((c.tc : Thread Cert.FfninDxIdeal.nD Cert.FfninDxIdeal.τ).loc Cert.FfninDxIdeal.main_v1_3)) (v4 : (c : Dev Cert.FfninDxIdeal.nD) → Buf (Elt Ideal) ((c.tc : Thread Cert.FfninDxIdeal.nD Cert.FfninDxIdeal.τ).loc Cert.FfninDxIdeal.main_v1_4)),
      θ_run (Cert.FfninDxIdeal.defs (F := Ideal)) (onTc (τ := Cert.FfninDxIdeal.τ) (Cert.FfninDxIdeal.main (F := Ideal))) ⟨m, fun _ => 0, g⟩ (fun r => ∀ c : Dev Cert.FfninDxIdeal.nD,
          r.2.mem ((c.tc : Thread Cert.FfninDxIdeal.nD Cert.FfninDxIdeal.τ).loc Cert.FfninDxIdeal.main_v1_0) = v0 c
          ∧ r.2.mem ((c.tc : Thread Cert.FfninDxIdeal.nD Cert.FfninDxIdeal.τ).loc Cert.FfninDxIdeal.main_v1_1) = v1 c
          ∧ r.2.mem ((c.tc : Thread Cert.FfninDxIdeal.nD Cert.FfninDxIdeal.τ).loc Cert.FfninDxIdeal.main_v1_2) = v2 c
          ∧ r.2.mem ((c.tc : Thread Cert.FfninDxIdeal.nD Cert.FfninDxIdeal.τ).loc Cert.FfninDxIdeal.main_v1_3) = v3 c
          ∧ r.2.mem ((c.tc : Thread Cert.FfninDxIdeal.nD Cert.FfninDxIdeal.τ).loc Cert.FfninDxIdeal.main_v1_4) = v4 c
          ∧ r.2.mem ((c.tc : Thread Cert.FfninDxIdeal.nD Cert.FfninDxIdeal.τ).loc Cert.FfninDxIdeal.main_arg0) = m ((c.tc : Thread Cert.FfninDxIdeal.nD Cert.FfninDxIdeal.τ).loc Cert.FfninDxIdeal.main_arg0)
          ∧ r.2.mem ((c.tc : Thread Cert.FfninDxIdeal.nD Cert.FfninDxIdeal.τ).loc Cert.FfninDxIdeal.main_arg1) = m ((c.tc : Thread Cert.FfninDxIdeal.nD Cert.FfninDxIdeal.τ).loc Cert.FfninDxIdeal.main_arg1)
          ∧ r.2.mem ((c.tc : Thread Cert.FfninDxIdeal.nD Cert.FfninDxIdeal.τ).loc Cert.FfninDxIdeal.main_arg2) = m ((c.tc : Thread Cert.FfninDxIdeal.nD Cert.FfninDxIdeal.τ).loc Cert.FfninDxIdeal.main_arg2)
          ∧ r.2.mem ((c.tc : Thread Cert.FfninDxIdeal.nD Cert.FfninDxIdeal.τ).loc Cert.FfninDxIdeal.main_arg3) = m ((c.tc : Thread Cert.FfninDxIdeal.nD Cert.FfninDxIdeal.τ).loc Cert.FfninDxIdeal.main_arg3)
          ∧ r.2.mem ((c.tc : Thread Cert.FfninDxIdeal.nD Cert.FfninDxIdeal.τ).loc Cert.FfninDxIdeal.main_arg4) = m ((c.tc : Thread Cert.FfninDxIdeal.nD Cert.FfninDxIdeal.τ).loc Cert.FfninDxIdeal.main_arg4)
          ∧ r.2.mem ((c.tc : Thread Cert.FfninDxIdeal.nD Cert.FfninDxIdeal.τ).loc Cert.FfninDxIdeal.main_arg5) = m ((c.tc : Thread Cert.FfninDxIdeal.nD Cert.FfninDxIdeal.τ).loc Cert.FfninDxIdeal.main_arg5)
          ∧ r.2.mem ((c.tc : Thread Cert.FfninDxIdeal.nD Cert.FfninDxIdeal.τ).loc Cert.FfninDxIdeal.main_arg6) = m ((c.tc : Thread Cert.FfninDxIdeal.nD Cert.FfninDxIdeal.τ).loc Cert.FfninDxIdeal.main_arg6)
          ∧ r.2.mem ((c.tc : Thread Cert.FfninDxIdeal.nD Cert.FfninDxIdeal.τ).loc Cert.FfninDxIdeal.main_arg7) = m ((c.tc : Thread Cert.FfninDxIdeal.nD Cert.FfninDxIdeal.τ).loc Cert.FfninDxIdeal.main_arg7))
      ∧ θ_run (Cert.FfninDxRefIdeal.defs (F := Ideal)) (onTc (τ := Cert.FfninDxRefIdeal.τ) (Cert.FfninDxRefIdeal.main (F := Ideal))) ⟨m', fun _ => 0, g'⟩ (fun r => ∀ c : Dev Cert.FfninDxRefIdeal.nD,
          r.2.mem ((c.tc : Thread Cert.FfninDxRefIdeal.nD Cert.FfninDxRefIdeal.τ).loc Cert.FfninDxRefIdeal.main_v55) = v0 c
          ∧ r.2.mem ((c.tc : Thread Cert.FfninDxRefIdeal.nD Cert.FfninDxRefIdeal.τ).loc Cert.FfninDxRefIdeal.main_v38) = v1 c
          ∧ r.2.mem ((c.tc : Thread Cert.FfninDxRefIdeal.nD Cert.FfninDxRefIdeal.τ).loc Cert.FfninDxRefIdeal.main_v33) = v2 c
          ∧ r.2.mem ((c.tc : Thread Cert.FfninDxRefIdeal.nD Cert.FfninDxRefIdeal.τ).loc Cert.FfninDxRefIdeal.main_v30) = v3 c
          ∧ r.2.mem ((c.tc : Thread Cert.FfninDxRefIdeal.nD Cert.FfninDxRefIdeal.τ).loc Cert.FfninDxRefIdeal.main_v56) = v4 c
          ∧ r.2.mem ((c.tc : Thread Cert.FfninDxRefIdeal.nD Cert.FfninDxRefIdeal.τ).loc Cert.FfninDxRefIdeal.main_arg0) = m' ((c.tc : Thread Cert.FfninDxRefIdeal.nD Cert.FfninDxRefIdeal.τ).loc Cert.FfninDxRefIdeal.main_arg0)
          ∧ r.2.mem ((c.tc : Thread Cert.FfninDxRefIdeal.nD Cert.FfninDxRefIdeal.τ).loc Cert.FfninDxRefIdeal.main_arg1) = m' ((c.tc : Thread Cert.FfninDxRefIdeal.nD Cert.FfninDxRefIdeal.τ).loc Cert.FfninDxRefIdeal.main_arg1)
          ∧ r.2.mem ((c.tc : Thread Cert.FfninDxRefIdeal.nD Cert.FfninDxRefIdeal.τ).loc Cert.FfninDxRefIdeal.main_arg2) = m' ((c.tc : Thread Cert.FfninDxRefIdeal.nD Cert.FfninDxRefIdeal.τ).loc Cert.FfninDxRefIdeal.main_arg2)
          ∧ r.2.mem ((c.tc : Thread Cert.FfninDxRefIdeal.nD Cert.FfninDxRefIdeal.τ).loc Cert.FfninDxRefIdeal.main_arg3) = m' ((c.tc : Thread Cert.FfninDxRefIdeal.nD Cert.FfninDxRefIdeal.τ).loc Cert.FfninDxRefIdeal.main_arg3)
          ∧ r.2.mem ((c.tc : Thread Cert.FfninDxRefIdeal.nD Cert.FfninDxRefIdeal.τ).loc Cert.FfninDxRefIdeal.main_arg4) = m' ((c.tc : Thread Cert.FfninDxRefIdeal.nD Cert.FfninDxRefIdeal.τ).loc Cert.FfninDxRefIdeal.main_arg4)
          ∧ r.2.mem ((c.tc : Thread Cert.FfninDxRefIdeal.nD Cert.FfninDxRefIdeal.τ).loc Cert.FfninDxRefIdeal.main_arg5) = m' ((c.tc : Thread Cert.FfninDxRefIdeal.nD Cert.FfninDxRefIdeal.τ).loc Cert.FfninDxRefIdeal.main_arg5)
          ∧ r.2.mem ((c.tc : Thread Cert.FfninDxRefIdeal.nD Cert.FfninDxRefIdeal.τ).loc Cert.FfninDxRefIdeal.main_arg6) = m' ((c.tc : Thread Cert.FfninDxRefIdeal.nD Cert.FfninDxRefIdeal.τ).loc Cert.FfninDxRefIdeal.main_arg6)
          ∧ r.2.mem ((c.tc : Thread Cert.FfninDxRefIdeal.nD Cert.FfninDxRefIdeal.τ).loc Cert.FfninDxRefIdeal.main_arg7) = m' ((c.tc : Thread Cert.FfninDxRefIdeal.nD Cert.FfninDxRefIdeal.τ).loc Cert.FfninDxRefIdeal.main_arg7))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)
      ∧ m' ((c.tc : Thread Cert.ProjDxRefIdeal.nD Cert.ProjDxRefIdeal.τ).loc Cert.ProjDxRefIdeal.main_arg3) = m ((c.tc : Thread Cert.ProjDxIdeal.nD Cert.ProjDxIdeal.τ).loc Cert.ProjDxIdeal.main_arg3)
      ∧ m' ((c.tc : Thread Cert.ProjDxRefIdeal.nD Cert.ProjDxRefIdeal.τ).loc Cert.ProjDxRefIdeal.main_arg4) = m ((c.tc : Thread Cert.ProjDxIdeal.nD Cert.ProjDxIdeal.τ).loc Cert.ProjDxIdeal.main_arg4)
      ∧ m' ((c.tc : Thread Cert.ProjDxRefIdeal.nD Cert.ProjDxRefIdeal.τ).loc Cert.ProjDxRefIdeal.main_arg5) = m ((c.tc : Thread Cert.ProjDxIdeal.nD Cert.ProjDxIdeal.τ).loc Cert.ProjDxIdeal.main_arg5)
      ∧ m' ((c.tc : Thread Cert.ProjDxRefIdeal.nD Cert.ProjDxRefIdeal.τ).loc Cert.ProjDxRefIdeal.main_arg6) = m ((c.tc : Thread Cert.ProjDxIdeal.nD Cert.ProjDxIdeal.τ).loc Cert.ProjDxIdeal.main_arg6)
      ∧ m' ((c.tc : Thread Cert.ProjDxRefIdeal.nD Cert.ProjDxRefIdeal.τ).loc Cert.ProjDxRefIdeal.main_arg7) = m ((c.tc : Thread Cert.ProjDxIdeal.nD Cert.ProjDxIdeal.τ).loc Cert.ProjDxIdeal.main_arg7)
      ∧ m' ((c.tc : Thread Cert.ProjDxRefIdeal.nD Cert.ProjDxRefIdeal.τ).loc Cert.ProjDxRefIdeal.main_arg8) = m ((c.tc : Thread Cert.ProjDxIdeal.nD Cert.ProjDxIdeal.τ).loc Cert.ProjDxIdeal.main_arg8)
      ∧ m' ((c.tc : Thread Cert.ProjDxRefIdeal.nD Cert.ProjDxRefIdeal.τ).loc Cert.ProjDxRefIdeal.main_arg9) = m ((c.tc : Thread Cert.ProjDxIdeal.nD Cert.ProjDxIdeal.τ).loc Cert.ProjDxIdeal.main_arg9)) →
    ∃ (v0 : (c : Dev Cert.ProjDxIdeal.nD) → Buf (Elt Ideal) ((c.tc : Thread Cert.ProjDxIdeal.nD Cert.ProjDxIdeal.τ).loc Cert.ProjDxIdeal.main_v1_0)) (v1 : (c : Dev Cert.ProjDxIdeal.nD) → Buf (Elt Ideal) ((c.tc : Thread Cert.ProjDxIdeal.nD Cert.ProjDxIdeal.τ).loc Cert.ProjDxIdeal.main_v1_1)) (v2 : (c : Dev Cert.ProjDxIdeal.nD) → Buf (Elt Ideal) ((c.tc : Thread Cert.ProjDxIdeal.nD Cert.ProjDxIdeal.τ).loc Cert.ProjDxIdeal.main_v1_2)) (v3 : (c : Dev Cert.ProjDxIdeal.nD) → Buf (Elt Ideal) ((c.tc : Thread Cert.ProjDxIdeal.nD Cert.ProjDxIdeal.τ).loc Cert.ProjDxIdeal.main_v1_3)) (v4 : (c : Dev Cert.ProjDxIdeal.nD) → Buf (Elt Ideal) ((c.tc : Thread Cert.ProjDxIdeal.nD Cert.ProjDxIdeal.τ).loc Cert.ProjDxIdeal.main_v1_4)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v1_0) = v0 c
          ∧ r.2.mem ((c.tc : Thread Cert.ProjDxIdeal.nD Cert.ProjDxIdeal.τ).loc Cert.ProjDxIdeal.main_v1_1) = v1 c
          ∧ r.2.mem ((c.tc : Thread Cert.ProjDxIdeal.nD Cert.ProjDxIdeal.τ).loc Cert.ProjDxIdeal.main_v1_2) = v2 c
          ∧ r.2.mem ((c.tc : Thread Cert.ProjDxIdeal.nD Cert.ProjDxIdeal.τ).loc Cert.ProjDxIdeal.main_v1_3) = v3 c
          ∧ r.2.mem ((c.tc : Thread Cert.ProjDxIdeal.nD Cert.ProjDxIdeal.τ).loc Cert.ProjDxIdeal.main_v1_4) = v4 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2)
          ∧ r.2.mem ((c.tc : Thread Cert.ProjDxIdeal.nD Cert.ProjDxIdeal.τ).loc Cert.ProjDxIdeal.main_arg3) = m ((c.tc : Thread Cert.ProjDxIdeal.nD Cert.ProjDxIdeal.τ).loc Cert.ProjDxIdeal.main_arg3)
          ∧ r.2.mem ((c.tc : Thread Cert.ProjDxIdeal.nD Cert.ProjDxIdeal.τ).loc Cert.ProjDxIdeal.main_arg4) = m ((c.tc : Thread Cert.ProjDxIdeal.nD Cert.ProjDxIdeal.τ).loc Cert.ProjDxIdeal.main_arg4)
          ∧ r.2.mem ((c.tc : Thread Cert.ProjDxIdeal.nD Cert.ProjDxIdeal.τ).loc Cert.ProjDxIdeal.main_arg5) = m ((c.tc : Thread Cert.ProjDxIdeal.nD Cert.ProjDxIdeal.τ).loc Cert.ProjDxIdeal.main_arg5)
          ∧ r.2.mem ((c.tc : Thread Cert.ProjDxIdeal.nD Cert.ProjDxIdeal.τ).loc Cert.ProjDxIdeal.main_arg6) = m ((c.tc : Thread Cert.ProjDxIdeal.nD Cert.ProjDxIdeal.τ).loc Cert.ProjDxIdeal.main_arg6)
          ∧ r.2.mem ((c.tc : Thread Cert.ProjDxIdeal.nD Cert.ProjDxIdeal.τ).loc Cert.ProjDxIdeal.main_arg7) = m ((c.tc : Thread Cert.ProjDxIdeal.nD Cert.ProjDxIdeal.τ).loc Cert.ProjDxIdeal.main_arg7)
          ∧ r.2.mem ((c.tc : Thread Cert.ProjDxIdeal.nD Cert.ProjDxIdeal.τ).loc Cert.ProjDxIdeal.main_arg8) = m ((c.tc : Thread Cert.ProjDxIdeal.nD Cert.ProjDxIdeal.τ).loc Cert.ProjDxIdeal.main_arg8)
          ∧ r.2.mem ((c.tc : Thread Cert.ProjDxIdeal.nD Cert.ProjDxIdeal.τ).loc Cert.ProjDxIdeal.main_arg9) = m ((c.tc : Thread Cert.ProjDxIdeal.nD Cert.ProjDxIdeal.τ).loc Cert.ProjDxIdeal.main_arg9))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v55) = v0 c
          ∧ r.2.mem ((c.tc : Thread Cert.ProjDxRefIdeal.nD Cert.ProjDxRefIdeal.τ).loc Cert.ProjDxRefIdeal.main_v38) = v1 c
          ∧ r.2.mem ((c.tc : Thread Cert.ProjDxRefIdeal.nD Cert.ProjDxRefIdeal.τ).loc Cert.ProjDxRefIdeal.main_v33) = v2 c
          ∧ r.2.mem ((c.tc : Thread Cert.ProjDxRefIdeal.nD Cert.ProjDxRefIdeal.τ).loc Cert.ProjDxRefIdeal.main_v30) = v3 c
          ∧ r.2.mem ((c.tc : Thread Cert.ProjDxRefIdeal.nD Cert.ProjDxRefIdeal.τ).loc Cert.ProjDxRefIdeal.main_v57) = v4 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2)
          ∧ r.2.mem ((c.tc : Thread Cert.ProjDxRefIdeal.nD Cert.ProjDxRefIdeal.τ).loc Cert.ProjDxRefIdeal.main_arg3) = m' ((c.tc : Thread Cert.ProjDxRefIdeal.nD Cert.ProjDxRefIdeal.τ).loc Cert.ProjDxRefIdeal.main_arg3)
          ∧ r.2.mem ((c.tc : Thread Cert.ProjDxRefIdeal.nD Cert.ProjDxRefIdeal.τ).loc Cert.ProjDxRefIdeal.main_arg4) = m' ((c.tc : Thread Cert.ProjDxRefIdeal.nD Cert.ProjDxRefIdeal.τ).loc Cert.ProjDxRefIdeal.main_arg4)
          ∧ r.2.mem ((c.tc : Thread Cert.ProjDxRefIdeal.nD Cert.ProjDxRefIdeal.τ).loc Cert.ProjDxRefIdeal.main_arg5) = m' ((c.tc : Thread Cert.ProjDxRefIdeal.nD Cert.ProjDxRefIdeal.τ).loc Cert.ProjDxRefIdeal.main_arg5)
          ∧ r.2.mem ((c.tc : Thread Cert.ProjDxRefIdeal.nD Cert.ProjDxRefIdeal.τ).loc Cert.ProjDxRefIdeal.main_arg6) = m' ((c.tc : Thread Cert.ProjDxRefIdeal.nD Cert.ProjDxRefIdeal.τ).loc Cert.ProjDxRefIdeal.main_arg6)
          ∧ r.2.mem ((c.tc : Thread Cert.ProjDxRefIdeal.nD Cert.ProjDxRefIdeal.τ).loc Cert.ProjDxRefIdeal.main_arg7) = m' ((c.tc : Thread Cert.ProjDxRefIdeal.nD Cert.ProjDxRefIdeal.τ).loc Cert.ProjDxRefIdeal.main_arg7)
          ∧ r.2.mem ((c.tc : Thread Cert.ProjDxRefIdeal.nD Cert.ProjDxRefIdeal.τ).loc Cert.ProjDxRefIdeal.main_arg8) = m' ((c.tc : Thread Cert.ProjDxRefIdeal.nD Cert.ProjDxRefIdeal.τ).loc Cert.ProjDxRefIdeal.main_arg8)
          ∧ r.2.mem ((c.tc : Thread Cert.ProjDxRefIdeal.nD Cert.ProjDxRefIdeal.τ).loc Cert.ProjDxRefIdeal.main_arg9) = m' ((c.tc : Thread Cert.ProjDxRefIdeal.nD Cert.ProjDxRefIdeal.τ).loc Cert.ProjDxRefIdeal.main_arg9))

def preserves_FfnoutDx_FfnoutDxIdeal : Prop :=
  True

def algebraic_FfnoutDxIdeal_FfnoutDxRefIdeal_pre_finite [hFfnoutDxIdeal : Cert.FfnoutDxIdeal.Facts] [hFfnoutDxRefIdeal : Cert.FfnoutDxRefIdeal.Facts] [hPre_finite : Cert.Pre_finite.Facts] : Prop :=
  ∀ (m : (ℓ : Loc Cert.FfnoutDxIdeal.nD Cert.FfnoutDxIdeal.τ Cert.FfnoutDxIdeal.sig) → Buf (Elt Ideal) ℓ) (g : Dev Cert.FfnoutDxIdeal.nD → PrngReg)
    (m' : (ℓ : Loc Cert.FfnoutDxRefIdeal.nD Cert.FfnoutDxRefIdeal.τ Cert.FfnoutDxRefIdeal.sig) → Buf (Elt Ideal) ℓ) (g' : Dev Cert.FfnoutDxRefIdeal.nD → PrngReg), Pre_FfnoutDxIdeal_finite m →
    (∀ c : Dev Cert.FfnoutDxIdeal.nD,
      m' ((c.tc : Thread Cert.FfnoutDxRefIdeal.nD Cert.FfnoutDxRefIdeal.τ).loc Cert.FfnoutDxRefIdeal.main_arg0) = m ((c.tc : Thread Cert.FfnoutDxIdeal.nD Cert.FfnoutDxIdeal.τ).loc Cert.FfnoutDxIdeal.main_arg0)
      ∧ m' ((c.tc : Thread Cert.FfnoutDxRefIdeal.nD Cert.FfnoutDxRefIdeal.τ).loc Cert.FfnoutDxRefIdeal.main_arg1) = m ((c.tc : Thread Cert.FfnoutDxIdeal.nD Cert.FfnoutDxIdeal.τ).loc Cert.FfnoutDxIdeal.main_arg1)
      ∧ m' ((c.tc : Thread Cert.FfnoutDxRefIdeal.nD Cert.FfnoutDxRefIdeal.τ).loc Cert.FfnoutDxRefIdeal.main_arg2) = m ((c.tc : Thread Cert.FfnoutDxIdeal.nD Cert.FfnoutDxIdeal.τ).loc Cert.FfnoutDxIdeal.main_arg2)
      ∧ m' ((c.tc : Thread Cert.FfnoutDxRefIdeal.nD Cert.FfnoutDxRefIdeal.τ).loc Cert.FfnoutDxRefIdeal.main_arg3) = m ((c.tc : Thread Cert.FfnoutDxIdeal.nD Cert.FfnoutDxIdeal.τ).loc Cert.FfnoutDxIdeal.main_arg3)) →
    ∃ (v0 : (c : Dev Cert.FfnoutDxIdeal.nD) → Buf (Elt Ideal) ((c.tc : Thread Cert.FfnoutDxIdeal.nD Cert.FfnoutDxIdeal.τ).loc Cert.FfnoutDxIdeal.main_v7_0)) (v1 : (c : Dev Cert.FfnoutDxIdeal.nD) → Buf (Elt Ideal) ((c.tc : Thread Cert.FfnoutDxIdeal.nD Cert.FfnoutDxIdeal.τ).loc Cert.FfnoutDxIdeal.main_v7_1)) (v2 : (c : Dev Cert.FfnoutDxIdeal.nD) → Buf (Elt Ideal) ((c.tc : Thread Cert.FfnoutDxIdeal.nD Cert.FfnoutDxIdeal.τ).loc Cert.FfnoutDxIdeal.main_v7_2)) (v3 : (c : Dev Cert.FfnoutDxIdeal.nD) → Buf (Elt Ideal) ((c.tc : Thread Cert.FfnoutDxIdeal.nD Cert.FfnoutDxIdeal.τ).loc Cert.FfnoutDxIdeal.main_v7_3)),
      θ_run (Cert.FfnoutDxIdeal.defs (F := Ideal)) (onTc (τ := Cert.FfnoutDxIdeal.τ) (Cert.FfnoutDxIdeal.main (F := Ideal))) ⟨m, fun _ => 0, g⟩ (fun r => ∀ c : Dev Cert.FfnoutDxIdeal.nD,
          r.2.mem ((c.tc : Thread Cert.FfnoutDxIdeal.nD Cert.FfnoutDxIdeal.τ).loc Cert.FfnoutDxIdeal.main_v7_0) = v0 c
          ∧ r.2.mem ((c.tc : Thread Cert.FfnoutDxIdeal.nD Cert.FfnoutDxIdeal.τ).loc Cert.FfnoutDxIdeal.main_v7_1) = v1 c
          ∧ r.2.mem ((c.tc : Thread Cert.FfnoutDxIdeal.nD Cert.FfnoutDxIdeal.τ).loc Cert.FfnoutDxIdeal.main_v7_2) = v2 c
          ∧ r.2.mem ((c.tc : Thread Cert.FfnoutDxIdeal.nD Cert.FfnoutDxIdeal.τ).loc Cert.FfnoutDxIdeal.main_v7_3) = v3 c
          ∧ r.2.mem ((c.tc : Thread Cert.FfnoutDxIdeal.nD Cert.FfnoutDxIdeal.τ).loc Cert.FfnoutDxIdeal.main_arg0) = m ((c.tc : Thread Cert.FfnoutDxIdeal.nD Cert.FfnoutDxIdeal.τ).loc Cert.FfnoutDxIdeal.main_arg0)
          ∧ r.2.mem ((c.tc : Thread Cert.FfnoutDxIdeal.nD Cert.FfnoutDxIdeal.τ).loc Cert.FfnoutDxIdeal.main_arg1) = m ((c.tc : Thread Cert.FfnoutDxIdeal.nD Cert.FfnoutDxIdeal.τ).loc Cert.FfnoutDxIdeal.main_arg1)
          ∧ r.2.mem ((c.tc : Thread Cert.FfnoutDxIdeal.nD Cert.FfnoutDxIdeal.τ).loc Cert.FfnoutDxIdeal.main_arg2) = m ((c.tc : Thread Cert.FfnoutDxIdeal.nD Cert.FfnoutDxIdeal.τ).loc Cert.FfnoutDxIdeal.main_arg2)
          ∧ r.2.mem ((c.tc : Thread Cert.FfnoutDxIdeal.nD Cert.FfnoutDxIdeal.τ).loc Cert.FfnoutDxIdeal.main_arg3) = m ((c.tc : Thread Cert.FfnoutDxIdeal.nD Cert.FfnoutDxIdeal.τ).loc Cert.FfnoutDxIdeal.main_arg3))
      ∧ θ_run (Cert.FfnoutDxRefIdeal.defs (F := Ideal)) (onTc (τ := Cert.FfnoutDxRefIdeal.τ) (Cert.FfnoutDxRefIdeal.main (F := Ideal))) ⟨m', fun _ => 0, g'⟩ (fun r => ∀ c : Dev Cert.FfnoutDxRefIdeal.nD,
          r.2.mem ((c.tc : Thread Cert.FfnoutDxRefIdeal.nD Cert.FfnoutDxRefIdeal.τ).loc Cert.FfnoutDxRefIdeal.main_v22) = v0 c
          ∧ r.2.mem ((c.tc : Thread Cert.FfnoutDxRefIdeal.nD Cert.FfnoutDxRefIdeal.τ).loc Cert.FfnoutDxRefIdeal.main_v23) = v1 c
          ∧ r.2.mem ((c.tc : Thread Cert.FfnoutDxRefIdeal.nD Cert.FfnoutDxRefIdeal.τ).loc Cert.FfnoutDxRefIdeal.main_v24) = v2 c
          ∧ r.2.mem ((c.tc : Thread Cert.FfnoutDxRefIdeal.nD Cert.FfnoutDxRefIdeal.τ).loc Cert.FfnoutDxRefIdeal.main_v12) = v3 c
          ∧ r.2.mem ((c.tc : Thread Cert.FfnoutDxRefIdeal.nD Cert.FfnoutDxRefIdeal.τ).loc Cert.FfnoutDxRefIdeal.main_arg0) = m' ((c.tc : Thread Cert.FfnoutDxRefIdeal.nD Cert.FfnoutDxRefIdeal.τ).loc Cert.FfnoutDxRefIdeal.main_arg0)
          ∧ r.2.mem ((c.tc : Thread Cert.FfnoutDxRefIdeal.nD Cert.FfnoutDxRefIdeal.τ).loc Cert.FfnoutDxRefIdeal.main_arg1) = m' ((c.tc : Thread Cert.FfnoutDxRefIdeal.nD Cert.FfnoutDxRefIdeal.τ).loc Cert.FfnoutDxRefIdeal.main_arg1)
          ∧ r.2.mem ((c.tc : Thread Cert.FfnoutDxRefIdeal.nD Cert.FfnoutDxRefIdeal.τ).loc Cert.FfnoutDxRefIdeal.main_arg2) = m' ((c.tc : Thread Cert.FfnoutDxRefIdeal.nD Cert.FfnoutDxRefIdeal.τ).loc Cert.FfnoutDxRefIdeal.main_arg2)
          ∧ r.2.mem ((c.tc : Thread Cert.FfnoutDxRefIdeal.nD Cert.FfnoutDxRefIdeal.τ).loc Cert.FfnoutDxRefIdeal.main_arg3) = m' ((c.tc : Thread Cert.FfnoutDxRefIdeal.nD Cert.FfnoutDxRefIdeal.τ).loc Cert.FfnoutDxRefIdeal.main_arg3))

def preserves_FfninFwd_FfninFwdIdeal : Prop :=
  True

def algebraic_FfninFwdIdeal_FfninFwdRefIdeal [hFfninFwdIdeal : Cert.FfninFwdIdeal.Facts] [hFfninFwdRefIdeal : Cert.FfninFwdRefIdeal.Facts] : Prop :=
  ∀ (m : (ℓ : Loc Cert.FfninFwdIdeal.nD Cert.FfninFwdIdeal.τ Cert.FfninFwdIdeal.sig) → Buf (Elt Ideal) ℓ) (g : Dev Cert.FfninFwdIdeal.nD → PrngReg)
    (m' : (ℓ : Loc Cert.FfninFwdRefIdeal.nD Cert.FfninFwdRefIdeal.τ Cert.FfninFwdRefIdeal.sig) → Buf (Elt Ideal) ℓ) (g' : Dev Cert.FfninFwdRefIdeal.nD → PrngReg), Pre_FfninFwdIdeal m →
    (∀ c : Dev Cert.FfninFwdIdeal.nD,
      m' ((c.tc : Thread Cert.FfninFwdRefIdeal.nD Cert.FfninFwdRefIdeal.τ).loc Cert.FfninFwdRefIdeal.main_arg0) = m ((c.tc : Thread Cert.FfninFwdIdeal.nD Cert.FfninFwdIdeal.τ).loc Cert.FfninFwdIdeal.main_arg0)
      ∧ m' ((c.tc : Thread Cert.FfninFwdRefIdeal.nD Cert.FfninFwdRefIdeal.τ).loc Cert.FfninFwdRefIdeal.main_arg1) = m ((c.tc : Thread Cert.FfninFwdIdeal.nD Cert.FfninFwdIdeal.τ).loc Cert.FfninFwdIdeal.main_arg1)
      ∧ m' ((c.tc : Thread Cert.FfninFwdRefIdeal.nD Cert.FfninFwdRefIdeal.τ).loc Cert.FfninFwdRefIdeal.main_arg2) = m ((c.tc : Thread Cert.FfninFwdIdeal.nD Cert.FfninFwdIdeal.τ).loc Cert.FfninFwdIdeal.main_arg2)
      ∧ m' ((c.tc : Thread Cert.FfninFwdRefIdeal.nD Cert.FfninFwdRefIdeal.τ).loc Cert.FfninFwdRefIdeal.main_arg3) = m ((c.tc : Thread Cert.FfninFwdIdeal.nD Cert.FfninFwdIdeal.τ).loc Cert.FfninFwdIdeal.main_arg3)
      ∧ m' ((c.tc : Thread Cert.FfninFwdRefIdeal.nD Cert.FfninFwdRefIdeal.τ).loc Cert.FfninFwdRefIdeal.main_arg4) = m ((c.tc : Thread Cert.FfninFwdIdeal.nD Cert.FfninFwdIdeal.τ).loc Cert.FfninFwdIdeal.main_arg4)) →
    ∃ (v0 : (c : Dev Cert.FfninFwdIdeal.nD) → Buf (Elt Ideal) ((c.tc : Thread Cert.FfninFwdIdeal.nD Cert.FfninFwdIdeal.τ).loc Cert.FfninFwdIdeal.main_v1_0)) (v1 : (c : Dev Cert.FfninFwdIdeal.nD) → Buf (Elt Ideal) ((c.tc : Thread Cert.FfninFwdIdeal.nD Cert.FfninFwdIdeal.τ).loc Cert.FfninFwdIdeal.main_v1_1)),
      θ_run (Cert.FfninFwdIdeal.defs (F := Ideal)) (onTc (τ := Cert.FfninFwdIdeal.τ) (Cert.FfninFwdIdeal.main (F := Ideal))) ⟨m, fun _ => 0, g⟩ (fun r => ∀ c : Dev Cert.FfninFwdIdeal.nD,
          r.2.mem ((c.tc : Thread Cert.FfninFwdIdeal.nD Cert.FfninFwdIdeal.τ).loc Cert.FfninFwdIdeal.main_v1_0) = v0 c
          ∧ r.2.mem ((c.tc : Thread Cert.FfninFwdIdeal.nD Cert.FfninFwdIdeal.τ).loc Cert.FfninFwdIdeal.main_v1_1) = v1 c
          ∧ r.2.mem ((c.tc : Thread Cert.FfninFwdIdeal.nD Cert.FfninFwdIdeal.τ).loc Cert.FfninFwdIdeal.main_arg0) = m ((c.tc : Thread Cert.FfninFwdIdeal.nD Cert.FfninFwdIdeal.τ).loc Cert.FfninFwdIdeal.main_arg0)
          ∧ r.2.mem ((c.tc : Thread Cert.FfninFwdIdeal.nD Cert.FfninFwdIdeal.τ).loc Cert.FfninFwdIdeal.main_arg1) = m ((c.tc : Thread Cert.FfninFwdIdeal.nD Cert.FfninFwdIdeal.τ).loc Cert.FfninFwdIdeal.main_arg1)
          ∧ r.2.mem ((c.tc : Thread Cert.FfninFwdIdeal.nD Cert.FfninFwdIdeal.τ).loc Cert.FfninFwdIdeal.main_arg2) = m ((c.tc : Thread Cert.FfninFwdIdeal.nD Cert.FfninFwdIdeal.τ).loc Cert.FfninFwdIdeal.main_arg2)
          ∧ r.2.mem ((c.tc : Thread Cert.FfninFwdIdeal.nD Cert.FfninFwdIdeal.τ).loc Cert.FfninFwdIdeal.main_arg3) = m ((c.tc : Thread Cert.FfninFwdIdeal.nD Cert.FfninFwdIdeal.τ).loc Cert.FfninFwdIdeal.main_arg3)
          ∧ r.2.mem ((c.tc : Thread Cert.FfninFwdIdeal.nD Cert.FfninFwdIdeal.τ).loc Cert.FfninFwdIdeal.main_arg4) = m ((c.tc : Thread Cert.FfninFwdIdeal.nD Cert.FfninFwdIdeal.τ).loc Cert.FfninFwdIdeal.main_arg4))
      ∧ θ_run (Cert.FfninFwdRefIdeal.defs (F := Ideal)) (onTc (τ := Cert.FfninFwdRefIdeal.τ) (Cert.FfninFwdRefIdeal.main (F := Ideal))) ⟨m', fun _ => 0, g'⟩ (fun r => ∀ c : Dev Cert.FfninFwdRefIdeal.nD,
          r.2.mem ((c.tc : Thread Cert.FfninFwdRefIdeal.nD Cert.FfninFwdRefIdeal.τ).loc Cert.FfninFwdRefIdeal.main_v18) = v0 c
          ∧ r.2.mem ((c.tc : Thread Cert.FfninFwdRefIdeal.nD Cert.FfninFwdRefIdeal.τ).loc Cert.FfninFwdRefIdeal.main_v20) = v1 c
          ∧ r.2.mem ((c.tc : Thread Cert.FfninFwdRefIdeal.nD Cert.FfninFwdRefIdeal.τ).loc Cert.FfninFwdRefIdeal.main_arg0) = m' ((c.tc : Thread Cert.FfninFwdRefIdeal.nD Cert.FfninFwdRefIdeal.τ).loc Cert.FfninFwdRefIdeal.main_arg0)
          ∧ r.2.mem ((c.tc : Thread Cert.FfninFwdRefIdeal.nD Cert.FfninFwdRefIdeal.τ).loc Cert.FfninFwdRefIdeal.main_arg1) = m' ((c.tc : Thread Cert.FfninFwdRefIdeal.nD Cert.FfninFwdRefIdeal.τ).loc Cert.FfninFwdRefIdeal.main_arg1)
          ∧ r.2.mem ((c.tc : Thread Cert.FfninFwdRefIdeal.nD Cert.FfninFwdRefIdeal.τ).loc Cert.FfninFwdRefIdeal.main_arg2) = m' ((c.tc : Thread Cert.FfninFwdRefIdeal.nD Cert.FfninFwdRefIdeal.τ).loc Cert.FfninFwdRefIdeal.main_arg2)
          ∧ r.2.mem ((c.tc : Thread Cert.FfninFwdRefIdeal.nD Cert.FfninFwdRefIdeal.τ).loc Cert.FfninFwdRefIdeal.main_arg3) = m' ((c.tc : Thread Cert.FfninFwdRefIdeal.nD Cert.FfninFwdRefIdeal.τ).loc Cert.FfninFwdRefIdeal.main_arg3)
          ∧ r.2.mem ((c.tc : Thread Cert.FfninFwdRefIdeal.nD Cert.FfninFwdRefIdeal.τ).loc Cert.FfninFwdRefIdeal.main_arg4) = m' ((c.tc : Thread Cert.FfninFwdRefIdeal.nD Cert.FfninFwdRefIdeal.τ).loc Cert.FfninFwdRefIdeal.main_arg4))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)
      ∧ m' ((c.tc : Thread Cert.ProjFwdRefIdeal.nD Cert.ProjFwdRefIdeal.τ).loc Cert.ProjFwdRefIdeal.main_arg3) = m ((c.tc : Thread Cert.ProjFwdIdeal.nD Cert.ProjFwdIdeal.τ).loc Cert.ProjFwdIdeal.main_arg3)
      ∧ m' ((c.tc : Thread Cert.ProjFwdRefIdeal.nD Cert.ProjFwdRefIdeal.τ).loc Cert.ProjFwdRefIdeal.main_arg4) = m ((c.tc : Thread Cert.ProjFwdIdeal.nD Cert.ProjFwdIdeal.τ).loc Cert.ProjFwdIdeal.main_arg4)) →
    ∃ (v0 : (c : Dev Cert.ProjFwdIdeal.nD) → Buf (Elt Ideal) ((c.tc : Thread Cert.ProjFwdIdeal.nD Cert.ProjFwdIdeal.τ).loc Cert.ProjFwdIdeal.main_v1_0)) (v1 : (c : Dev Cert.ProjFwdIdeal.nD) → Buf (Elt Ideal) ((c.tc : Thread Cert.ProjFwdIdeal.nD Cert.ProjFwdIdeal.τ).loc Cert.ProjFwdIdeal.main_v1_1)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v1_0) = v0 c
          ∧ r.2.mem ((c.tc : Thread Cert.ProjFwdIdeal.nD Cert.ProjFwdIdeal.τ).loc Cert.ProjFwdIdeal.main_v1_1) = v1 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
          ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v18) = v0 c
          ∧ r.2.mem ((c.tc : Thread Cert.ProjFwdRefIdeal.nD Cert.ProjFwdRefIdeal.τ).loc Cert.ProjFwdRefIdeal.main_v20) = v1 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2)
          ∧ r.2.mem ((c.tc : Thread Cert.ProjFwdRefIdeal.nD Cert.ProjFwdRefIdeal.τ).loc Cert.ProjFwdRefIdeal.main_arg3) = m' ((c.tc : Thread Cert.ProjFwdRefIdeal.nD Cert.ProjFwdRefIdeal.τ).loc Cert.ProjFwdRefIdeal.main_arg3)
          ∧ r.2.mem ((c.tc : Thread Cert.ProjFwdRefIdeal.nD Cert.ProjFwdRefIdeal.τ).loc Cert.ProjFwdRefIdeal.main_arg4) = m' ((c.tc : Thread Cert.ProjFwdRefIdeal.nD Cert.ProjFwdRefIdeal.τ).loc Cert.ProjFwdRefIdeal.main_arg4))

def preserves_FfnoutFwd_FfnoutFwdIdeal : Prop :=
  True

def algebraic_FfnoutFwdIdeal_FfnoutFwdRefIdeal [hFfnoutFwdIdeal : Cert.FfnoutFwdIdeal.Facts] [hFfnoutFwdRefIdeal : Cert.FfnoutFwdRefIdeal.Facts] : Prop :=
  ∀ (m : (ℓ : Loc Cert.FfnoutFwdIdeal.nD Cert.FfnoutFwdIdeal.τ Cert.FfnoutFwdIdeal.sig) → Buf (Elt Ideal) ℓ) (g : Dev Cert.FfnoutFwdIdeal.nD → PrngReg)
    (m' : (ℓ : Loc Cert.FfnoutFwdRefIdeal.nD Cert.FfnoutFwdRefIdeal.τ Cert.FfnoutFwdRefIdeal.sig) → Buf (Elt Ideal) ℓ) (g' : Dev Cert.FfnoutFwdRefIdeal.nD → PrngReg), Pre_FfnoutFwdIdeal m →
    (∀ c : Dev Cert.FfnoutFwdIdeal.nD,
      m' ((c.tc : Thread Cert.FfnoutFwdRefIdeal.nD Cert.FfnoutFwdRefIdeal.τ).loc Cert.FfnoutFwdRefIdeal.main_arg0) = m ((c.tc : Thread Cert.FfnoutFwdIdeal.nD Cert.FfnoutFwdIdeal.τ).loc Cert.FfnoutFwdIdeal.main_arg0)
      ∧ m' ((c.tc : Thread Cert.FfnoutFwdRefIdeal.nD Cert.FfnoutFwdRefIdeal.τ).loc Cert.FfnoutFwdRefIdeal.main_arg1) = m ((c.tc : Thread Cert.FfnoutFwdIdeal.nD Cert.FfnoutFwdIdeal.τ).loc Cert.FfnoutFwdIdeal.main_arg1)
      ∧ m' ((c.tc : Thread Cert.FfnoutFwdRefIdeal.nD Cert.FfnoutFwdRefIdeal.τ).loc Cert.FfnoutFwdRefIdeal.main_arg2) = m ((c.tc : Thread Cert.FfnoutFwdIdeal.nD Cert.FfnoutFwdIdeal.τ).loc Cert.FfnoutFwdIdeal.main_arg2)
      ∧ m' ((c.tc : Thread Cert.FfnoutFwdRefIdeal.nD Cert.FfnoutFwdRefIdeal.τ).loc Cert.FfnoutFwdRefIdeal.main_arg3) = m ((c.tc : Thread Cert.FfnoutFwdIdeal.nD Cert.FfnoutFwdIdeal.τ).loc Cert.FfnoutFwdIdeal.main_arg3)) →
    ∃ (v0 : (c : Dev Cert.FfnoutFwdIdeal.nD) → Buf (Elt Ideal) ((c.tc : Thread Cert.FfnoutFwdIdeal.nD Cert.FfnoutFwdIdeal.τ).loc Cert.FfnoutFwdIdeal.main_v1_0)) (v1 : (c : Dev Cert.FfnoutFwdIdeal.nD) → Buf (Elt Ideal) ((c.tc : Thread Cert.FfnoutFwdIdeal.nD Cert.FfnoutFwdIdeal.τ).loc Cert.FfnoutFwdIdeal.main_v1_1)) (v2 : (c : Dev Cert.FfnoutFwdIdeal.nD) → Buf (Elt Ideal) ((c.tc : Thread Cert.FfnoutFwdIdeal.nD Cert.FfnoutFwdIdeal.τ).loc Cert.FfnoutFwdIdeal.main_v1_2)),
      θ_run (Cert.FfnoutFwdIdeal.defs (F := Ideal)) (onTc (τ := Cert.FfnoutFwdIdeal.τ) (Cert.FfnoutFwdIdeal.main (F := Ideal))) ⟨m, fun _ => 0, g⟩ (fun r => ∀ c : Dev Cert.FfnoutFwdIdeal.nD,
          r.2.mem ((c.tc : Thread Cert.FfnoutFwdIdeal.nD Cert.FfnoutFwdIdeal.τ).loc Cert.FfnoutFwdIdeal.main_v1_0) = v0 c
          ∧ r.2.mem ((c.tc : Thread Cert.FfnoutFwdIdeal.nD Cert.FfnoutFwdIdeal.τ).loc Cert.FfnoutFwdIdeal.main_v1_1) = v1 c
          ∧ r.2.mem ((c.tc : Thread Cert.FfnoutFwdIdeal.nD Cert.FfnoutFwdIdeal.τ).loc Cert.FfnoutFwdIdeal.main_v1_2) = v2 c
          ∧ r.2.mem ((c.tc : Thread Cert.FfnoutFwdIdeal.nD Cert.FfnoutFwdIdeal.τ).loc Cert.FfnoutFwdIdeal.main_arg0) = m ((c.tc : Thread Cert.FfnoutFwdIdeal.nD Cert.FfnoutFwdIdeal.τ).loc Cert.FfnoutFwdIdeal.main_arg0)
          ∧ r.2.mem ((c.tc : Thread Cert.FfnoutFwdIdeal.nD Cert.FfnoutFwdIdeal.τ).loc Cert.FfnoutFwdIdeal.main_arg1) = m ((c.tc : Thread Cert.FfnoutFwdIdeal.nD Cert.FfnoutFwdIdeal.τ).loc Cert.FfnoutFwdIdeal.main_arg1)
          ∧ r.2.mem ((c.tc : Thread Cert.FfnoutFwdIdeal.nD Cert.FfnoutFwdIdeal.τ).loc Cert.FfnoutFwdIdeal.main_arg2) = m ((c.tc : Thread Cert.FfnoutFwdIdeal.nD Cert.FfnoutFwdIdeal.τ).loc Cert.FfnoutFwdIdeal.main_arg2)
          ∧ r.2.mem ((c.tc : Thread Cert.FfnoutFwdIdeal.nD Cert.FfnoutFwdIdeal.τ).loc Cert.FfnoutFwdIdeal.main_arg3) = m ((c.tc : Thread Cert.FfnoutFwdIdeal.nD Cert.FfnoutFwdIdeal.τ).loc Cert.FfnoutFwdIdeal.main_arg3))
      ∧ θ_run (Cert.FfnoutFwdRefIdeal.defs (F := Ideal)) (onTc (τ := Cert.FfnoutFwdRefIdeal.τ) (Cert.FfnoutFwdRefIdeal.main (F := Ideal))) ⟨m', fun _ => 0, g'⟩ (fun r => ∀ c : Dev Cert.FfnoutFwdRefIdeal.nD,
          r.2.mem ((c.tc : Thread Cert.FfnoutFwdRefIdeal.nD Cert.FfnoutFwdRefIdeal.τ).loc Cert.FfnoutFwdRefIdeal.main_v6) = v0 c
          ∧ r.2.mem ((c.tc : Thread Cert.FfnoutFwdRefIdeal.nD Cert.FfnoutFwdRefIdeal.τ).loc Cert.FfnoutFwdRefIdeal.main_v5) = v1 c
          ∧ r.2.mem ((c.tc : Thread Cert.FfnoutFwdRefIdeal.nD Cert.FfnoutFwdRefIdeal.τ).loc Cert.FfnoutFwdRefIdeal.main_v9) = v2 c
          ∧ r.2.mem ((c.tc : Thread Cert.FfnoutFwdRefIdeal.nD Cert.FfnoutFwdRefIdeal.τ).loc Cert.FfnoutFwdRefIdeal.main_arg0) = m' ((c.tc : Thread Cert.FfnoutFwdRefIdeal.nD Cert.FfnoutFwdRefIdeal.τ).loc Cert.FfnoutFwdRefIdeal.main_arg0)
          ∧ r.2.mem ((c.tc : Thread Cert.FfnoutFwdRefIdeal.nD Cert.FfnoutFwdRefIdeal.τ).loc Cert.FfnoutFwdRefIdeal.main_arg1) = m' ((c.tc : Thread Cert.FfnoutFwdRefIdeal.nD Cert.FfnoutFwdRefIdeal.τ).loc Cert.FfnoutFwdRefIdeal.main_arg1)
          ∧ r.2.mem ((c.tc : Thread Cert.FfnoutFwdRefIdeal.nD Cert.FfnoutFwdRefIdeal.τ).loc Cert.FfnoutFwdRefIdeal.main_arg2) = m' ((c.tc : Thread Cert.FfnoutFwdRefIdeal.nD Cert.FfnoutFwdRefIdeal.τ).loc Cert.FfnoutFwdRefIdeal.main_arg2)
          ∧ r.2.mem ((c.tc : Thread Cert.FfnoutFwdRefIdeal.nD Cert.FfnoutFwdRefIdeal.τ).loc Cert.FfnoutFwdRefIdeal.main_arg3) = m' ((c.tc : Thread Cert.FfnoutFwdRefIdeal.nD Cert.FfnoutFwdRefIdeal.τ).loc Cert.FfnoutFwdRefIdeal.main_arg3))

def preserves_MixoutFwd_MixoutFwdIdeal : Prop :=
  True

def algebraic_MixoutFwdIdeal_MixoutFwdRefIdeal [hMixoutFwdIdeal : Cert.MixoutFwdIdeal.Facts] [hMixoutFwdRefIdeal : Cert.MixoutFwdRefIdeal.Facts] : Prop :=
  ∀ (m : (ℓ : Loc Cert.MixoutFwdIdeal.nD Cert.MixoutFwdIdeal.τ Cert.MixoutFwdIdeal.sig) → Buf (Elt Ideal) ℓ) (g : Dev Cert.MixoutFwdIdeal.nD → PrngReg)
    (m' : (ℓ : Loc Cert.MixoutFwdRefIdeal.nD Cert.MixoutFwdRefIdeal.τ Cert.MixoutFwdRefIdeal.sig) → Buf (Elt Ideal) ℓ) (g' : Dev Cert.MixoutFwdRefIdeal.nD → PrngReg), Pre_MixoutFwdIdeal m →
    (∀ c : Dev Cert.MixoutFwdIdeal.nD,
      m' ((c.tc : Thread Cert.MixoutFwdRefIdeal.nD Cert.MixoutFwdRefIdeal.τ).loc Cert.MixoutFwdRefIdeal.main_arg0) = m ((c.tc : Thread Cert.MixoutFwdIdeal.nD Cert.MixoutFwdIdeal.τ).loc Cert.MixoutFwdIdeal.main_arg0)
      ∧ m' ((c.tc : Thread Cert.MixoutFwdRefIdeal.nD Cert.MixoutFwdRefIdeal.τ).loc Cert.MixoutFwdRefIdeal.main_arg1) = m ((c.tc : Thread Cert.MixoutFwdIdeal.nD Cert.MixoutFwdIdeal.τ).loc Cert.MixoutFwdIdeal.main_arg1)
      ∧ m' ((c.tc : Thread Cert.MixoutFwdRefIdeal.nD Cert.MixoutFwdRefIdeal.τ).loc Cert.MixoutFwdRefIdeal.main_arg2) = m ((c.tc : Thread Cert.MixoutFwdIdeal.nD Cert.MixoutFwdIdeal.τ).loc Cert.MixoutFwdIdeal.main_arg2)
      ∧ m' ((c.tc : Thread Cert.MixoutFwdRefIdeal.nD Cert.MixoutFwdRefIdeal.τ).loc Cert.MixoutFwdRefIdeal.main_arg3) = m ((c.tc : Thread Cert.MixoutFwdIdeal.nD Cert.MixoutFwdIdeal.τ).loc Cert.MixoutFwdIdeal.main_arg3)
      ∧ m' ((c.tc : Thread Cert.MixoutFwdRefIdeal.nD Cert.MixoutFwdRefIdeal.τ).loc Cert.MixoutFwdRefIdeal.main_arg4) = m ((c.tc : Thread Cert.MixoutFwdIdeal.nD Cert.MixoutFwdIdeal.τ).loc Cert.MixoutFwdIdeal.main_arg4)
      ∧ m' ((c.tc : Thread Cert.MixoutFwdRefIdeal.nD Cert.MixoutFwdRefIdeal.τ).loc Cert.MixoutFwdRefIdeal.main_arg5) = m ((c.tc : Thread Cert.MixoutFwdIdeal.nD Cert.MixoutFwdIdeal.τ).loc Cert.MixoutFwdIdeal.main_arg5)
      ∧ m' ((c.tc : Thread Cert.MixoutFwdRefIdeal.nD Cert.MixoutFwdRefIdeal.τ).loc Cert.MixoutFwdRefIdeal.main_arg6) = m ((c.tc : Thread Cert.MixoutFwdIdeal.nD Cert.MixoutFwdIdeal.τ).loc Cert.MixoutFwdIdeal.main_arg6)) →
    ∃ (v0 : (c : Dev Cert.MixoutFwdIdeal.nD) → Buf (Elt Ideal) ((c.tc : Thread Cert.MixoutFwdIdeal.nD Cert.MixoutFwdIdeal.τ).loc Cert.MixoutFwdIdeal.main_v1_0)) (v1 : (c : Dev Cert.MixoutFwdIdeal.nD) → Buf (Elt Ideal) ((c.tc : Thread Cert.MixoutFwdIdeal.nD Cert.MixoutFwdIdeal.τ).loc Cert.MixoutFwdIdeal.main_v1_1)) (v2 : (c : Dev Cert.MixoutFwdIdeal.nD) → Buf (Elt Ideal) ((c.tc : Thread Cert.MixoutFwdIdeal.nD Cert.MixoutFwdIdeal.τ).loc Cert.MixoutFwdIdeal.main_v1_2)),
      θ_run (Cert.MixoutFwdIdeal.defs (F := Ideal)) (onTc (τ := Cert.MixoutFwdIdeal.τ) (Cert.MixoutFwdIdeal.main (F := Ideal))) ⟨m, fun _ => 0, g⟩ (fun r => ∀ c : Dev Cert.MixoutFwdIdeal.nD,
          r.2.mem ((c.tc : Thread Cert.MixoutFwdIdeal.nD Cert.MixoutFwdIdeal.τ).loc Cert.MixoutFwdIdeal.main_v1_0) = v0 c
          ∧ r.2.mem ((c.tc : Thread Cert.MixoutFwdIdeal.nD Cert.MixoutFwdIdeal.τ).loc Cert.MixoutFwdIdeal.main_v1_1) = v1 c
          ∧ r.2.mem ((c.tc : Thread Cert.MixoutFwdIdeal.nD Cert.MixoutFwdIdeal.τ).loc Cert.MixoutFwdIdeal.main_v1_2) = v2 c
          ∧ r.2.mem ((c.tc : Thread Cert.MixoutFwdIdeal.nD Cert.MixoutFwdIdeal.τ).loc Cert.MixoutFwdIdeal.main_arg0) = m ((c.tc : Thread Cert.MixoutFwdIdeal.nD Cert.MixoutFwdIdeal.τ).loc Cert.MixoutFwdIdeal.main_arg0)
          ∧ r.2.mem ((c.tc : Thread Cert.MixoutFwdIdeal.nD Cert.MixoutFwdIdeal.τ).loc Cert.MixoutFwdIdeal.main_arg1) = m ((c.tc : Thread Cert.MixoutFwdIdeal.nD Cert.MixoutFwdIdeal.τ).loc Cert.MixoutFwdIdeal.main_arg1)
          ∧ r.2.mem ((c.tc : Thread Cert.MixoutFwdIdeal.nD Cert.MixoutFwdIdeal.τ).loc Cert.MixoutFwdIdeal.main_arg2) = m ((c.tc : Thread Cert.MixoutFwdIdeal.nD Cert.MixoutFwdIdeal.τ).loc Cert.MixoutFwdIdeal.main_arg2)
          ∧ r.2.mem ((c.tc : Thread Cert.MixoutFwdIdeal.nD Cert.MixoutFwdIdeal.τ).loc Cert.MixoutFwdIdeal.main_arg3) = m ((c.tc : Thread Cert.MixoutFwdIdeal.nD Cert.MixoutFwdIdeal.τ).loc Cert.MixoutFwdIdeal.main_arg3)
          ∧ r.2.mem ((c.tc : Thread Cert.MixoutFwdIdeal.nD Cert.MixoutFwdIdeal.τ).loc Cert.MixoutFwdIdeal.main_arg4) = m ((c.tc : Thread Cert.MixoutFwdIdeal.nD Cert.MixoutFwdIdeal.τ).loc Cert.MixoutFwdIdeal.main_arg4)
          ∧ r.2.mem ((c.tc : Thread Cert.MixoutFwdIdeal.nD Cert.MixoutFwdIdeal.τ).loc Cert.MixoutFwdIdeal.main_arg5) = m ((c.tc : Thread Cert.MixoutFwdIdeal.nD Cert.MixoutFwdIdeal.τ).loc Cert.MixoutFwdIdeal.main_arg5)
          ∧ r.2.mem ((c.tc : Thread Cert.MixoutFwdIdeal.nD Cert.MixoutFwdIdeal.τ).loc Cert.MixoutFwdIdeal.main_arg6) = m ((c.tc : Thread Cert.MixoutFwdIdeal.nD Cert.MixoutFwdIdeal.τ).loc Cert.MixoutFwdIdeal.main_arg6))
      ∧ θ_run (Cert.MixoutFwdRefIdeal.defs (F := Ideal)) (onTc (τ := Cert.MixoutFwdRefIdeal.τ) (Cert.MixoutFwdRefIdeal.main (F := Ideal))) ⟨m', fun _ => 0, g'⟩ (fun r => ∀ c : Dev Cert.MixoutFwdRefIdeal.nD,
          r.2.mem ((c.tc : Thread Cert.MixoutFwdRefIdeal.nD Cert.MixoutFwdRefIdeal.τ).loc Cert.MixoutFwdRefIdeal.main_v23) = v0 c
          ∧ r.2.mem ((c.tc : Thread Cert.MixoutFwdRefIdeal.nD Cert.MixoutFwdRefIdeal.τ).loc Cert.MixoutFwdRefIdeal.main_v22) = v1 c
          ∧ r.2.mem ((c.tc : Thread Cert.MixoutFwdRefIdeal.nD Cert.MixoutFwdRefIdeal.τ).loc Cert.MixoutFwdRefIdeal.main_v26) = v2 c
          ∧ r.2.mem ((c.tc : Thread Cert.MixoutFwdRefIdeal.nD Cert.MixoutFwdRefIdeal.τ).loc Cert.MixoutFwdRefIdeal.main_arg0) = m' ((c.tc : Thread Cert.MixoutFwdRefIdeal.nD Cert.MixoutFwdRefIdeal.τ).loc Cert.MixoutFwdRefIdeal.main_arg0)
          ∧ r.2.mem ((c.tc : Thread Cert.MixoutFwdRefIdeal.nD Cert.MixoutFwdRefIdeal.τ).loc Cert.MixoutFwdRefIdeal.main_arg1) = m' ((c.tc : Thread Cert.MixoutFwdRefIdeal.nD Cert.MixoutFwdRefIdeal.τ).loc Cert.MixoutFwdRefIdeal.main_arg1)
          ∧ r.2.mem ((c.tc : Thread Cert.MixoutFwdRefIdeal.nD Cert.MixoutFwdRefIdeal.τ).loc Cert.MixoutFwdRefIdeal.main_arg2) = m' ((c.tc : Thread Cert.MixoutFwdRefIdeal.nD Cert.MixoutFwdRefIdeal.τ).loc Cert.MixoutFwdRefIdeal.main_arg2)
          ∧ r.2.mem ((c.tc : Thread Cert.MixoutFwdRefIdeal.nD Cert.MixoutFwdRefIdeal.τ).loc Cert.MixoutFwdRefIdeal.main_arg3) = m' ((c.tc : Thread Cert.MixoutFwdRefIdeal.nD Cert.MixoutFwdRefIdeal.τ).loc Cert.MixoutFwdRefIdeal.main_arg3)
          ∧ r.2.mem ((c.tc : Thread Cert.MixoutFwdRefIdeal.nD Cert.MixoutFwdRefIdeal.τ).loc Cert.MixoutFwdRefIdeal.main_arg4) = m' ((c.tc : Thread Cert.MixoutFwdRefIdeal.nD Cert.MixoutFwdRefIdeal.τ).loc Cert.MixoutFwdRefIdeal.main_arg4)
          ∧ r.2.mem ((c.tc : Thread Cert.MixoutFwdRefIdeal.nD Cert.MixoutFwdRefIdeal.τ).loc Cert.MixoutFwdRefIdeal.main_arg5) = m' ((c.tc : Thread Cert.MixoutFwdRefIdeal.nD Cert.MixoutFwdRefIdeal.τ).loc Cert.MixoutFwdRefIdeal.main_arg5)
          ∧ r.2.mem ((c.tc : Thread Cert.MixoutFwdRefIdeal.nD Cert.MixoutFwdRefIdeal.τ).loc Cert.MixoutFwdRefIdeal.main_arg6) = m' ((c.tc : Thread Cert.MixoutFwdRefIdeal.nD Cert.MixoutFwdRefIdeal.τ).loc Cert.MixoutFwdRefIdeal.main_arg6))

def Claim : Prop :=
  ∃ (hKernel : Cert.Kernel.Facts) (hKernelIdeal : Cert.KernelIdeal.Facts) (hReferenceIdeal : Cert.ReferenceIdeal.Facts) (hProjDw : Cert.ProjDw.Facts) (hProjDwIdeal : Cert.ProjDwIdeal.Facts) (hProjDwRefIdeal : Cert.ProjDwRefIdeal.Facts) (hMixoutDw : Cert.MixoutDw.Facts) (hMixoutDwIdeal : Cert.MixoutDwIdeal.Facts) (hMixoutDwRefIdeal : Cert.MixoutDwRefIdeal.Facts) (hFfninDw : Cert.FfninDw.Facts) (hFfninDwIdeal : Cert.FfninDwIdeal.Facts) (hFfninDwRefIdeal : Cert.FfninDwRefIdeal.Facts) (hFfnoutDw : Cert.FfnoutDw.Facts) (hFfnoutDwIdeal : Cert.FfnoutDwIdeal.Facts) (hFfnoutDwRefIdeal : Cert.FfnoutDwRefIdeal.Facts) (hFfninDx : Cert.FfninDx.Facts) (hFfninDxIdeal : Cert.FfninDxIdeal.Facts) (hFfninDxRefIdeal : Cert.FfninDxRefIdeal.Facts) (hProjDx : Cert.ProjDx.Facts) (hProjDxIdeal : Cert.ProjDxIdeal.Facts) (hProjDxRefIdeal : Cert.ProjDxRefIdeal.Facts) (hFfnoutDx : Cert.FfnoutDx.Facts) (hFfnoutDxIdeal : Cert.FfnoutDxIdeal.Facts) (hFfnoutDxRefIdeal : Cert.FfnoutDxRefIdeal.Facts) (hFfninFwd : Cert.FfninFwd.Facts) (hFfninFwdIdeal : Cert.FfninFwdIdeal.Facts) (hFfninFwdRefIdeal : Cert.FfninFwdRefIdeal.Facts) (hProjFwd : Cert.ProjFwd.Facts) (hProjFwdIdeal : Cert.ProjFwdIdeal.Facts) (hProjFwdRefIdeal : Cert.ProjFwdRefIdeal.Facts) (hFfnoutFwd : Cert.FfnoutFwd.Facts) (hFfnoutFwdIdeal : Cert.FfnoutFwdIdeal.Facts) (hFfnoutFwdRefIdeal : Cert.FfnoutFwdRefIdeal.Facts) (hMixoutFwd : Cert.MixoutFwd.Facts) (hMixoutFwdIdeal : Cert.MixoutFwdIdeal.Facts) (hMixoutFwdRefIdeal : Cert.MixoutFwdRefIdeal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_MixoutDw (hMixoutDw := hMixoutDw)
    ∧ quiescent_MixoutDwIdeal (hMixoutDwIdeal := hMixoutDwIdeal)
    ∧ quiescent_MixoutDwRefIdeal (hMixoutDwRefIdeal := hMixoutDwRefIdeal)
    ∧ quiescent_FfninDw (hFfninDw := hFfninDw)
    ∧ quiescent_FfninDwIdeal (hFfninDwIdeal := hFfninDwIdeal)
    ∧ quiescent_FfninDwRefIdeal (hFfninDwRefIdeal := hFfninDwRefIdeal)
    ∧ quiescent_FfnoutDw (hFfnoutDw := hFfnoutDw)
    ∧ quiescent_FfnoutDwIdeal (hFfnoutDwIdeal := hFfnoutDwIdeal)
    ∧ quiescent_FfnoutDwRefIdeal (hFfnoutDwRefIdeal := hFfnoutDwRefIdeal)
    ∧ quiescent_FfninDx (hFfninDx := hFfninDx)
    ∧ quiescent_FfninDxIdeal (hFfninDxIdeal := hFfninDxIdeal)
    ∧ quiescent_FfninDxRefIdeal (hFfninDxRefIdeal := hFfninDxRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_FfnoutDx (hFfnoutDx := hFfnoutDx)
    ∧ quiescent_FfnoutDxIdeal (hFfnoutDxIdeal := hFfnoutDxIdeal)
    ∧ quiescent_FfnoutDxIdeal_pre_finite (hFfnoutDxIdeal := hFfnoutDxIdeal) (hPre_finite := hPre_finite)
    ∧ quiescent_FfnoutDxRefIdeal (hFfnoutDxRefIdeal := hFfnoutDxRefIdeal)
    ∧ quiescent_FfnoutDxRefIdeal_pre_finite (hFfnoutDxRefIdeal := hFfnoutDxRefIdeal) (hPre_finite := hPre_finite)
    ∧ quiescent_FfninFwd (hFfninFwd := hFfninFwd)
    ∧ quiescent_FfninFwdIdeal (hFfninFwdIdeal := hFfninFwdIdeal)
    ∧ quiescent_FfninFwdRefIdeal (hFfninFwdRefIdeal := hFfninFwdRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_FfnoutFwd (hFfnoutFwd := hFfnoutFwd)
    ∧ quiescent_FfnoutFwdIdeal (hFfnoutFwdIdeal := hFfnoutFwdIdeal)
    ∧ quiescent_FfnoutFwdRefIdeal (hFfnoutFwdRefIdeal := hFfnoutFwdRefIdeal)
    ∧ quiescent_MixoutFwd (hMixoutFwd := hMixoutFwd)
    ∧ quiescent_MixoutFwdIdeal (hMixoutFwdIdeal := hMixoutFwdIdeal)
    ∧ quiescent_MixoutFwdRefIdeal (hMixoutFwdRefIdeal := hMixoutFwdRefIdeal)
    ∧ preserves_Kernel_KernelIdeal
    ∧ algebraic_KernelIdeal_ReferenceIdeal (hKernelIdeal := hKernelIdeal) (hReferenceIdeal := hReferenceIdeal)
    ∧ preserves_ProjDw_ProjDwIdeal
    ∧ algebraic_ProjDwIdeal_ProjDwRefIdeal (hProjDwIdeal := hProjDwIdeal) (hProjDwRefIdeal := hProjDwRefIdeal)
    ∧ preserves_MixoutDw_MixoutDwIdeal
    ∧ algebraic_MixoutDwIdeal_MixoutDwRefIdeal (hMixoutDwIdeal := hMixoutDwIdeal) (hMixoutDwRefIdeal := hMixoutDwRefIdeal)
    ∧ preserves_FfninDw_FfninDwIdeal
    ∧ algebraic_FfninDwIdeal_FfninDwRefIdeal (hFfninDwIdeal := hFfninDwIdeal) (hFfninDwRefIdeal := hFfninDwRefIdeal)
    ∧ preserves_FfnoutDw_FfnoutDwIdeal
    ∧ algebraic_FfnoutDwIdeal_FfnoutDwRefIdeal (hFfnoutDwIdeal := hFfnoutDwIdeal) (hFfnoutDwRefIdeal := hFfnoutDwRefIdeal)
    ∧ preserves_FfninDx_FfninDxIdeal
    ∧ algebraic_FfninDxIdeal_FfninDxRefIdeal (hFfninDxIdeal := hFfninDxIdeal) (hFfninDxRefIdeal := hFfninDxRefIdeal)
    ∧ preserves_ProjDx_ProjDxIdeal
    ∧ algebraic_ProjDxIdeal_ProjDxRefIdeal (hProjDxIdeal := hProjDxIdeal) (hProjDxRefIdeal := hProjDxRefIdeal)
    ∧ preserves_FfnoutDx_FfnoutDxIdeal
    ∧ algebraic_FfnoutDxIdeal_FfnoutDxRefIdeal_pre_finite (hFfnoutDxIdeal := hFfnoutDxIdeal) (hFfnoutDxRefIdeal := hFfnoutDxRefIdeal) (hPre_finite := hPre_finite)
    ∧ preserves_FfninFwd_FfninFwdIdeal
    ∧ algebraic_FfninFwdIdeal_FfninFwdRefIdeal (hFfninFwdIdeal := hFfninFwdIdeal) (hFfninFwdRefIdeal := hFfninFwdRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_FfnoutFwd_FfnoutFwdIdeal
    ∧ algebraic_FfnoutFwdIdeal_FfnoutFwdRefIdeal (hFfnoutFwdIdeal := hFfnoutFwdIdeal) (hFfnoutFwdRefIdeal := hFfnoutFwdRefIdeal)
    ∧ preserves_MixoutFwd_MixoutFwdIdeal
    ∧ algebraic_MixoutFwdIdeal_MixoutFwdRefIdeal (hMixoutFwdIdeal := hMixoutFwdIdeal) (hMixoutFwdRefIdeal := hMixoutFwdRefIdeal)
-- ==== Pre_finite.lean ====
abbrev S4096x1024 : Shape := ⟨2, ![4096, 1024]⟩
abbrev S4096x5632 : Shape := ⟨2, ![4096, 5632]⟩
abbrev S1x1024 : Shape := ⟨2, ![1, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x5632 : S_.BroadcastsInDim S4096x5632 (![] : Fin 0 → Fin S4096x5632.rank)
  reducesTo_S4096x5632_S_d0_1 : S4096x5632.ReducesTo [0, 1] S_
  bcast_S_S1x1024 : S_.BroadcastsInDim S1x1024 (![] : Fin 0 → Fin S1x1024.rank)
  reducesTo_S1x1024_S_d0_1 : S1x1024.ReducesTo [0, 1] S_
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v15 : FVec F S2816x1024 .f32) (main_v16 : FVec F S2816x1024 .f32) : IVec S_ 1 :=
  let main_v17 : IVec S2816x1024 1 := cmpf .olt main_v15 main_v16
  let main_c_5 : IVec S_ 1 := constantI S_ 1 1#1
  let main_v18 : IVec S_ 1 := (fun x v => Host.reduce IntOp.andi x v reducesTo_S2816x1024_S_d0_1 h_S_) main_v17 main_c_5
  let main_v19 : IVec S_ 1 := andi main_v13 main_v18
  main_v19

def fn {F : FTy → Type} [FloatOps F] (main_arg0 : FVec F S4096x1024 .f32) (main_arg1 : FVec F S4096x5632 .f32) (main_arg2 : FVec F S1x1024 .f32) (main_arg3 : FVec F S2816x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x5632 .f32 := Host.absf main_arg1
  let main_cst_0 : FVec F S_ .f32 := constant S_ .f32 0x7F800000#32
  let main_v5 : FVec F S4096x5632 .f32 := broadcastInDim S4096x5632 ![] bcast_S_S4096x5632 main_cst_0
  let main_v6 : IVec S4096x5632 1 := cmpf .olt main_v4 main_v5
  let main_c_1 : IVec S_ 1 := constantI S_ 1 1#1
  let main_v7 : IVec S_ 1 := (fun x v => Host.reduce IntOp.andi x v reducesTo_S4096x5632_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S2816x1024 .f32 := (extf .f32 · bitsLt_bf16_f32) main_arg3
  let main_v15 : FVec F S2816x1024 .f32 := Host.absf main_v14
  let main_cst_4 : FVec F S_ .f32 := constant S_ .f32 0x7F800000#32
  let main_v16 : FVec F S2816x1024 .f32 := broadcastInDim S2816x1024 ![] bcast_S_S2816x1024 main_cst_4
  fn_part1 (F := F) main_v13 main_v15 main_v16
-- ==== Kernel.lean ====
abbrev S4096x512 : Shape := ⟨2, ![4096, 512]⟩
abbrev S4096x128 : Shape := ⟨2, ![4096, 128]⟩
abbrev S64x4x64x64 : Shape := ⟨4, ![64, 4, 64, 64]⟩
abbrev S64x4x128x128 : Shape := ⟨4, ![64, 4, 128, 128]⟩
abbrev S256x512 : Shape := ⟨2, ![256, 512]⟩
abbrev S256x128 : Shape := ⟨2, ![256, 128]⟩
abbrev S4x4x64x64 : Shape := ⟨4, ![4, 4, 64, 64]⟩
abbrev S4x4x128x128 : Shape := ⟨4, ![4, 4, 128, 128]⟩
abbrev S4x128x128 : Shape := ⟨3, ![4, 128, 128]⟩
abbrev S1x4x128x128 : Shape := ⟨4, ![1, 4, 128, 128]⟩
abbrev S64x512 : Shape := ⟨2, ![64, 512]⟩
abbrev S64x128 : Shape := ⟨2, ![64, 128]⟩
abbrev S1x64x128 : Shape := ⟨3, ![1, 64, 128]⟩
abbrev S4x64x128 : Shape := ⟨3, ![4, 64, 128]⟩
abbrev S64x1 : Shape := ⟨2, ![64, 1]⟩
abbrev S1x64x1 : Shape := ⟨3, ![1, 64, 1]⟩
abbrev S4x64x1 : Shape := ⟨3, ![4, 64, 1]⟩
abbrev S1x4x64x64 : Shape := ⟨4, ![1, 4, 64, 64]⟩
abbrev S4x64x64 : Shape := ⟨3, ![4, 64, 64]⟩
abbrev S4x1 : Shape := ⟨2, ![4, 1]⟩
abbrev S4x1x1 : Shape := ⟨3, ![4, 1, 1]⟩
abbrev S4x64 : Shape := ⟨2, ![4, 64]⟩
abbrev S4 : Shape := ⟨1, ![4]⟩
abbrev S1x128 : Shape := ⟨2, ![1, 128]⟩

abbrev nBuf : Space → Nat
  | .hbm => 14
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x128, .f32⟩
  | .hbm, ⟨6, _⟩ => ⟨S64x4x64x64, .f32⟩
  | .hbm, ⟨7, _⟩ => ⟨S64x4x128x128, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4096x128, .f32⟩
  | .hbm, ⟨13, _⟩ => ⟨S64x4x64x64, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S4x4x64x64, .f32⟩
  | .local _ .vmem, ⟨13, _⟩ => ⟨S4x4x64x64, .f32⟩
  | .local _ .vmem, ⟨14, _⟩ => ⟨S4x4x128x128, .f32⟩
  | .local _ .vmem, ⟨15, _⟩ => ⟨S4x4x128x128, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x128, .f32⟩
  | .local _ .vmem, ⟨25, _⟩ => ⟨S256x128, .f32⟩
  | .local _ .vmem, ⟨26, _⟩ => ⟨S4x4x64x64, .f32⟩
  | .local _ .vmem, ⟨27, _⟩ => ⟨S4x4x64x64, .f32⟩
  | .local _ .vmem, ⟨28, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x4x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x4x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x512 : Shape := ⟨2, ![4096, 512]⟩
abbrev S4096x128 : Shape := ⟨2, ![4096, 128]⟩
abbrev S64x4x64x64 : Shape := ⟨4, ![64, 4, 64, 64]⟩
abbrev S64x4x128x128 : Shape := ⟨4, ![64, 4, 128, 128]⟩
abbrev S1x64x64x4x128 : Shape := ⟨5, ![1, 64, 64, 4, 128]⟩
abbrev S1x4x64x64x128 : Shape := ⟨5, ![1, 4, 64, 64, 128]⟩
abbrev S64x1x4x64x128 : Shape := ⟨5, ![64, 1, 4, 64, 128]⟩
abbrev S4096x4 : Shape := ⟨2, ![4096, 4]⟩
abbrev S1x64x64x4 : Shape := ⟨4, ![1, 64, 64, 4]⟩
abbrev S1x4x64x64 : Shape := ⟨4, ![1, 4, 64, 64]⟩
abbrev S64x1x4x64 : Shape := ⟨4, ![64, 1, 4, 64]⟩
abbrev S64x1x4x64x64 : Shape := ⟨5, ![64, 1, 4, 64, 64]⟩
abbrev S_ : Shape := ⟨0, ![]⟩
abbrev S1x4x128x128 : Shape := ⟨4, ![1, 4, 128, 128]⟩
abbrev S1x1x4x64x128 : Shape := ⟨5, ![1, 1, 4, 64, 128]⟩
abbrev S1x4x64x128 : Shape := ⟨4, ![1, 4, 64, 128]⟩
abbrev S1x1x4x64 : Shape := ⟨4, ![1, 1, 4, 64]⟩
abbrev S1x4x64 : Shape := ⟨3, ![1, 4, 64]⟩
abbrev S1x1x4x64x64 : Shape := ⟨5, ![1, 1, 4, 64, 64]⟩
abbrev S4x128x128 : Shape := ⟨3, ![4, 128, 128]⟩
abbrev S1x4x64x1 : Shape := ⟨4, ![1, 4, 64, 1]⟩
abbrev S1x4x1 : Shape := ⟨3, ![1, 4, 1]⟩
abbrev S1x4 : Shape := ⟨2, ![1, 4]⟩
abbrev S1x4x1x1 : Shape := ⟨4, ![1, 4, 1, 1]⟩
abbrev S1x4x128x64 : Shape := ⟨4, ![1, 4, 128, 64]⟩
abbrev S4x64 : Shape := ⟨2, ![4, 64]⟩
abbrev S4 : Shape := ⟨1, ![4]⟩

abbrev nBuf : Space → Nat
  | .hbm => 247
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S4096x128, .f32⟩
  | 6 => ⟨S64x4x64x64, .f32⟩
  | 7 => ⟨S64x4x128x128, .f32⟩
  | 8 => ⟨S1x64x64x4x128, .f32⟩
  | 9 => ⟨S1x4x64x64x128, .f32⟩
  | 10 => ⟨S64x1x4x64x128, .f32⟩
  | 11 => ⟨S1x64x64x4x128, .f32⟩
  | 12 => ⟨S1x4x64x64x128, .f32⟩
  | 13 => ⟨S64x1x4x64x128, .f32⟩
  | 14 => ⟨S1x64x64x4x128, .f32⟩
  | 15 => ⟨S1x4x64x64x128, .f32⟩
  | 16 => ⟨S64x1x4x64x128, .f32⟩
  | 17 => ⟨S1x64x64x4x128, .f32⟩
  | 18 => ⟨S1x4x64x64x128, .f32⟩
  | 19 => ⟨S64x1x4x64x128, .f32⟩
  | 20 => ⟨S4096x4, .f32⟩
  | 21 => ⟨S1x64x64x4, .f32⟩
  | 22 => ⟨S1x4x64x64, .f32⟩
  | 23 => ⟨S64x1x4x64, .f32⟩
  | 24 => ⟨S64x1x4x64x64, .f32⟩
  | 25 => ⟨S_, .f32⟩
  | 26 => ⟨S1x4x128x128, .f32⟩
  | 27 => ⟨S1x64x64x4x128, .f32⟩
  | 28 => ⟨S1x4x64x64x128, .f32⟩
  | 29 => ⟨S64x1x4x64x128, .f32⟩
  | 30 => ⟨S_, .f32⟩
  | 31 => ⟨S64x1x4x64x128, .f32⟩
  | 32 => ⟨S_, .f32⟩
  | 33 => ⟨S64x1x4x64x128, .f32⟩
  | 34 => ⟨S_, .f32⟩
  | 35 => ⟨S64x1x4x64x128, .f32⟩
  | 36 => ⟨S_, .f32⟩
  | 37 => ⟨S64x1x4x64x128, .f32⟩
  | 38 => ⟨S_, .f32⟩
  | 39 => ⟨S64x1x4x64, .f32⟩
  | 40 => ⟨S_, .f32⟩
  | 41 => ⟨S64x1x4x64x64, .f32⟩
  | 42 => ⟨S_, .i32⟩
  | 43 => ⟨S64x1x4x64x128, .f32⟩
  | 44 => ⟨S64x1x4x64x128, .f32⟩
  | 45 => ⟨S64x1x4x64x128, .f32⟩
  | 46 => ⟨S64x1x4x64x128, .f32⟩
  | 47 => ⟨S64x1x4x64, .f32⟩
  | 48 => ⟨S64x1x4x64x64, .f32⟩
  | 49 => ⟨S64x4x128x128, .f32⟩
  | 50 => ⟨S64x1x4x64x128, .f32⟩
  | 51 => ⟨S_, .i32⟩
  | 52 => ⟨S1x4x128x128, .f32⟩
  | 53 => ⟨S64x1x4x64x128, .f32⟩
  | 54 => ⟨S64x1x4x64x128, .f32⟩
  | 55 => ⟨S64x1x4x64x128, .f32⟩
  | 56 => ⟨S64x1x4x64x128, .f32⟩
  | 57 => ⟨S64x1x4x64, .f32⟩
  | 58 => ⟨S64x1x4x64x64, .f32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S1x1x4x64x128, .f32⟩
  | 70 => ⟨S1x4x64x128, .f32⟩
  | 71 => ⟨S_, .i32⟩
  | 72 => ⟨S_, .i32⟩
  | 73 => ⟨S_, .i32⟩
  | 74 => ⟨S_, .i32⟩
  | 75 => ⟨S1x1x4x64x128, .f32⟩
  | 76 => ⟨S1x4x64x128, .f32⟩
  | 77 => ⟨S_, .i32⟩
  | 78 => ⟨S_, .i32⟩
  | 79 => ⟨S_, .i32⟩
  | 80 => ⟨S_, .i32⟩
  | 81 => ⟨S1x1x4x64x128, .f32⟩
  | 82 => ⟨S1x4x64x128, .f32⟩
  | 83 => ⟨S_, .i32⟩
  | 84 => ⟨S_, .i32⟩
  | 85 => ⟨S_, .i32⟩
  | 86 => ⟨S_, .i32⟩
  | 87 => ⟨S1x1x4x64x128, .f32⟩
  | 88 => ⟨S1x4x64x128, .f32⟩
  | 89 => ⟨S_, .i32⟩
  | 90 => ⟨S_, .i32⟩
  | 91 => ⟨S_, .i32⟩
  | 92 => ⟨S1x1x4x64, .f32⟩
  | 93 => ⟨S1x4x64, .f32⟩
  | 94 => ⟨S_, .i32⟩
  | 95 => ⟨S_, .i32⟩
  | 96 => ⟨S_, .i32⟩
  | 97 => ⟨S_, .i32⟩
  | 98 => ⟨S1x1x4x64x64, .f32⟩
  | 99 => ⟨S1x4x64x64, .f32⟩
  | 100 => ⟨S_, .i32⟩
  | 101 => ⟨S_, .i32⟩
  | 102 => ⟨S_, .i32⟩
  | 103 => ⟨S1x4x128x128, .f32⟩
  | 104 => ⟨S4x128x128, .f32⟩
  | 105 => ⟨S_, .i32⟩
  | 106 => ⟨S_, .i32⟩
  | 107 => ⟨S_, .i32⟩
  | 108 => ⟨S_, .i32⟩
  | 109 => ⟨S1x1x4x64x128, .f32⟩
  | 110 => ⟨S1x4x64x128, .f32⟩
  | 111 => ⟨S1x4x128x128, .f32⟩
  | 112 => ⟨S1x4x64x128, .f32⟩
  | 113 => ⟨S1x4x64x128, .f32⟩
  | 114 => ⟨S1x4x64, .f32⟩
  | 115 => ⟨S1x4x64x1, .f32⟩
  | 116 => ⟨S1x4x64x128, .f32⟩
  | 117 => ⟨S1x4x64x128, .f32⟩
  | 118 => ⟨S1x4x64x128, .f32⟩
  | 119 => ⟨S1x4x64x128, .f32⟩
  | 120 => ⟨S1x4x64x128, .f32⟩
  | 121 => ⟨S1x4x1, .f32⟩
  | 122 => ⟨S1x4, .f32⟩
  | 123 => ⟨S1x4, .f32⟩
  | 124 => ⟨S1x4x1x1, .f32⟩
  | 125 => ⟨S1x4x128x128, .f32⟩
  | 126 => ⟨S1x4x128x128, .f32⟩
  | 127 => ⟨S1x4x1, .f32⟩
  | _ => ⟨S4096x512, .f32⟩

abbrev hbmTy0_1 (i : Nat) : BufTy := match i % 128 with
  | 0 => ⟨S1x4x64, .f32⟩
  | 1 => ⟨S1x4x64, .f32⟩
  | 2 => ⟨S1x4x64, .f32⟩
  | 3 => ⟨S1x4x64x1, .f32⟩
  | 4 => ⟨S1x4x64x128, .f32⟩
  | 5 => ⟨S1x4x64x128, .f32⟩
  | 6 => ⟨S1x4x128x128, .f32⟩
  | 7 => ⟨S1x4x128x128, .f32⟩
  | 8 => ⟨S1x4x128x64, .f32⟩
  | 9 => ⟨S1x4x64x128, .f32⟩
  | 10 => ⟨S1x4x128x64, .f32⟩
  | 11 => ⟨S1x4x64x128, .f32⟩
  | 12 => ⟨S1x4x64x128, .f32⟩
  | 13 => ⟨S_, .f32⟩
  | 14 => ⟨S1x4x64, .f32⟩
  | 15 => ⟨S1x4x64x1, .f32⟩
  | 16 => ⟨S1x4x64x128, .f32⟩
  | 17 => ⟨S1x4x64x128, .f32⟩
  | 18 => ⟨S_, .f32⟩
  | 19 => ⟨S4x64, .f32⟩
  | 20 => ⟨S1x4x64, .f32⟩
  | 21 => ⟨S1x4x64, .f32⟩
  | 22 => ⟨S_, .f32⟩
  | 23 => ⟨S1x4, .f32⟩
  | 24 => ⟨S1x4x1, .f32⟩
  | 25 => ⟨S1x4x64, .f32⟩
  | 26 => ⟨S_, .f32⟩
  | 27 => ⟨S4, .f32⟩
  | 28 => ⟨S1x4, .f32⟩
  | 29 => ⟨S1x4x128x128, .f32⟩
  | 30 => ⟨S_, .f32⟩
  | 31 => ⟨S1x4, .f32⟩
  | 32 => ⟨S1x4x1x1, .f32⟩
  | 33 => ⟨S1x4x128x128, .f32⟩
  | 34 => ⟨S1x4x128x128, .f32⟩
  | 35 => ⟨S_, .f32⟩
  | 36 => ⟨S4, .f32⟩
  | 37 => ⟨S1x4, .f32⟩
  | 38 => ⟨S1x4, .f32⟩
  | 39 => ⟨S1x4, .f32⟩
  | 40 => ⟨S1x4x1, .f32⟩
  | 41 => ⟨S_, .f32⟩
  | 42 => ⟨S1x4x64, .f32⟩
  | 43 => ⟨S1x4x64, .f32⟩
  | 44 => ⟨S1x4x128x64, .f32⟩
  | 45 => ⟨S1x4x64x128, .f32⟩
  | 46 => ⟨S1x4x64x128, .f32⟩
  | 47 => ⟨S1x4x64x64, .f32⟩
  | 48 => ⟨S1x4x128x128, .f32⟩
  | 49 => ⟨S1x4x128x128, .f32⟩
  | 50 => ⟨S1x4x128x128, .f32⟩
  | 51 => ⟨S1x4x64x128, .f32⟩
  | 52 => ⟨S1x4x64x128, .f32⟩
  | 53 => ⟨S_, .f32⟩
  | 54 => ⟨S1x4x64, .f32⟩
  | 55 => ⟨S1x4x64x1, .f32⟩
  | 56 => ⟨S1x4x64x128, .f32⟩
  | 57 => ⟨S1x4x64x128, .f32⟩
  | 58 => ⟨S_, .f32⟩
  | 59 => ⟨S4x64, .f32⟩
  | 60 => ⟨S1x4x64, .f32⟩
  | 61 => ⟨S1x4x64, .f32⟩
  | 62 => ⟨S1x4x64, .f32⟩
  | 63 => ⟨S1x4x64x128, .f32⟩
  | 64 => ⟨S1x4x128x128, .f32⟩
  | 65 => ⟨S1x4x128x128, .f32⟩
  | 66 => ⟨S1x4x128x128, .f32⟩
  | 67 => ⟨S1x4x64x128, .f32⟩
  | 68 => ⟨S1x1x4x64x128, .f32⟩
  | 69 => ⟨S_, .i32⟩
  | 70 => ⟨S_, .i32⟩
  | 71 => ⟨S_, .i32⟩
  | 72 => ⟨S_, .i32⟩
  | 73 => ⟨S64x1x4x64x128, .f32⟩
  | 74 => ⟨S1x1x4x64x128, .f32⟩
  | 75 => ⟨S_, .i32⟩
  | 76 => ⟨S_, .i32⟩
  | 77 => ⟨S_, .i32⟩
  | 78 => ⟨S_, .i32⟩
  | 79 => ⟨S64x1x4x64x128, .f32⟩
  | 80 => ⟨S1x1x4x64x128, .f32⟩
  | 81 => ⟨S_, .i32⟩
  | 82 => ⟨S_, .i32⟩
  | 83 => ⟨S_, .i32⟩
  | 84 => ⟨S_, .i32⟩
  | 85 => ⟨S64x1x4x64x128, .f32⟩
  | 86 => ⟨S1x1x4x64x128, .f32⟩
  | 87 => ⟨S_, .i32⟩
  | 88 => ⟨S_, .i32⟩
  | 89 => ⟨S_, .i32⟩
  | 90 => ⟨S_, .i32⟩
  | 91 => ⟨S64x1x4x64x128, .f32⟩
  | 92 => ⟨S1x1x4x64, .f32⟩
  | 93 => ⟨S_, .i32⟩
  | 94 => ⟨S_, .i32⟩
  | 95 => ⟨S_, .i32⟩
  | 96 => ⟨S64x1x4x64, .f32⟩
  | 97 => ⟨S1x1x4x64x64, .f32⟩
  | 98 => ⟨S_, .i32⟩
  | 99 => ⟨S_, .i32⟩
  | 100 => ⟨S_, .i32⟩
  | 101 => ⟨S_, .i32⟩
  | 102 => ⟨S64x1x4x64x64, .f32⟩
  | 103 => ⟨S_, .i32⟩
  | 104 => ⟨S_, .i32⟩
  | 105 => ⟨S1x64x64x4, .f32⟩
  | 106 => ⟨S4096x4, .f32⟩
  | 107 => ⟨S1x64x64x4x128, .f32⟩
  | 108 => ⟨S4096x512, .f32⟩
  | 109 => ⟨S1x64x64x4x128, .f32⟩
  | 110 => ⟨S4096x512, .f32⟩
  | 111 => ⟨S1x64x64x4x128, .f32⟩
  | 112 => ⟨S4096x512, .f32⟩
  | 113 => ⟨S1x64x64x4x128, .f32⟩
  | 114 => ⟨S4096x512, .f32⟩
  | 115 => ⟨S_, .i32⟩
  | 116 => ⟨S_, .f32⟩
  | 117 => ⟨S4096x128, .f32⟩
  | 118 => ⟨S64x4x64x64, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_c : Ref sig .tc := ⟨.hbm, 42, rfl⟩
abbrev main_v27_0 : Ref sig .tc := ⟨.hbm, 43, rfl⟩
abbrev main_v27_1 : Ref sig .tc := ⟨.hbm, 44, rfl⟩
abbrev main_v27_2 : Ref sig .tc := ⟨.hbm, 45, rfl⟩
abbrev main_v27_3 : Ref sig .tc := ⟨.hbm, 46, rfl⟩
abbrev main_v27_4 : Ref sig .tc := ⟨.hbm, 47, rfl⟩
abbrev main_v27_5 : Ref sig .tc := ⟨.hbm, 48, rfl⟩
abbrev main_v27_6 : Ref sig .tc := ⟨.hbm, 49, rfl⟩
abbrev main_v27_7 : Ref sig .tc := ⟨.hbm, 50, rfl⟩
abbrev main_v27_8 : Ref sig .tc := ⟨.hbm, 51, rfl⟩
abbrev main_v27_9 : Ref sig .tc := ⟨.hbm, 52, rfl⟩
abbrev main_v27_10 : Ref sig .tc := ⟨.hbm, 53, rfl⟩
abbrev main_v27_11 : Ref sig .tc := ⟨.hbm, 54, rfl⟩
abbrev main_v27_12 : Ref sig .tc := ⟨.hbm, 55, rfl⟩
abbrev main_v27_13 : Ref sig .tc := ⟨.hbm, 56, rfl⟩
abbrev main_v27_14 : Ref sig .tc := ⟨.hbm, 57, rfl⟩
abbrev main_v27_15 : Ref sig .tc := ⟨.hbm, 58, rfl⟩
abbrev main_while0c_c_22 : Ref sig .tc := ⟨.hbm, 59, rfl⟩
abbrev main_while0c_v40 : Ref sig .tc := ⟨.hbm, 60, rfl⟩
abbrev main_while0b_c_22 : Ref sig .tc := ⟨.hbm, 61, rfl⟩
abbrev main_while0b_v40 : Ref sig .tc := ⟨.hbm, 62, rfl⟩
abbrev main_while0b_c_23 : Ref sig .tc := ⟨.hbm, 63, rfl⟩
abbrev main_while0b_v41 : Ref sig .tc := ⟨.hbm, 64, rfl⟩
abbrev main_while0b_call0_c : Ref sig .tc := ⟨.hbm, 65, rfl⟩
abbrev main_while0b_call0_c_0 : Ref sig .tc := ⟨.hbm, 66, rfl⟩
abbrev main_while0b_call0_c_1 : Ref sig .tc := ⟨.hbm, 67, rfl⟩
abbrev main_while0b_call0_c_2 : Ref sig .tc := ⟨.hbm, 68, rfl⟩
abbrev main_while0b_call0_v0 : Ref sig .tc := ⟨.hbm, 69, rfl⟩
abbrev main_while0b_v42 : Ref sig .tc := ⟨.hbm, 70, rfl⟩
abbrev main_while0b_call1_c : Ref sig .tc := ⟨.hbm, 71, rfl⟩
abbrev main_while0b_call1_c_0 : Ref sig .tc := ⟨.hbm, 72, rfl⟩
abbrev main_while0b_call1_c_1 : Ref sig .tc := ⟨.hbm, 73, rfl⟩
abbrev main_while0b_call1_c_2 : Ref sig .tc := ⟨.hbm, 74, rfl⟩
abbrev main_while0b_call1_v0 : Ref sig .tc := ⟨.hbm, 75, rfl⟩
abbrev main_while0b_v43 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_c_2 : Ref sig .tc := ⟨.hbm, 80, rfl⟩
abbrev main_while0b_call2_v0 : Ref sig .tc := ⟨.hbm, 81, rfl⟩
abbrev main_while0b_v44 : Ref sig .tc := ⟨.hbm, 82, rfl⟩
abbrev main_while0b_call3_c : Ref sig .tc := ⟨.hbm, 83, rfl⟩
abbrev main_while0b_call3_c_0 : Ref sig .tc := ⟨.hbm, 84, rfl⟩
abbrev main_while0b_call3_c_1 : Ref sig .tc := ⟨.hbm, 85, rfl⟩
abbrev main_while0b_call3_c_2 : Ref sig .tc := ⟨.hbm, 86, rfl⟩
abbrev main_while0b_call3_v0 : Ref sig .tc := ⟨.hbm, 87, rfl⟩
abbrev main_while0b_v45 : Ref sig .tc := ⟨.hbm, 88, rfl⟩
abbrev main_while0b_call4_c : Ref sig .tc := ⟨.hbm, 89, rfl⟩
abbrev main_while0b_call4_c_0 : Ref sig .tc := ⟨.hbm, 90, rfl⟩
abbrev main_while0b_call4_c_1 : Ref sig .tc := ⟨.hbm, 91, rfl⟩
abbrev main_while0b_call4_v0 : Ref sig .tc := ⟨.hbm, 92, rfl⟩
abbrev main_while0b_v46 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_c_2 : Ref sig .tc := ⟨.hbm, 97, rfl⟩
abbrev main_while0b_call5_v0 : Ref sig .tc := ⟨.hbm, 98, rfl⟩
abbrev main_while0b_v47 : Ref sig .tc := ⟨.hbm, 99, rfl⟩
abbrev main_while0b_call6_c : Ref sig .tc := ⟨.hbm, 100, rfl⟩
abbrev main_while0b_call6_c_0 : Ref sig .tc := ⟨.hbm, 101, rfl⟩
abbrev main_while0b_call6_c_1 : Ref sig .tc := ⟨.hbm, 102, rfl⟩
abbrev main_while0b_call6_v0 : Ref sig .tc := ⟨.hbm, 103, rfl⟩
abbrev main_while0b_v48 : Ref sig .tc := ⟨.hbm, 104, rfl⟩
abbrev main_while0b_call7_c : Ref sig .tc := ⟨.hbm, 105, rfl⟩
abbrev main_while0b_call7_c_0 : Ref sig .tc := ⟨.hbm, 106, rfl⟩
abbrev main_while0b_call7_c_1 : Ref sig .tc := ⟨.hbm, 107, rfl⟩
abbrev main_while0b_call7_c_2 : Ref sig .tc := ⟨.hbm, 108, rfl⟩
abbrev main_while0b_call7_v0 : Ref sig .tc := ⟨.hbm, 109, rfl⟩
abbrev main_while0b_v49 : Ref sig .tc := ⟨.hbm, 110, rfl⟩
abbrev main_while0b_v50 : Ref sig .tc := ⟨.hbm, 111, rfl⟩
abbrev main_while0b_v51 : Ref sig .tc := ⟨.hbm, 112, rfl⟩
abbrev main_while0b_v52 : Ref sig .tc := ⟨.hbm, 113, rfl⟩
abbrev main_while0b_v53 : Ref sig .tc := ⟨.hbm, 114, rfl⟩
abbrev main_while0b_v54 : Ref sig .tc := ⟨.hbm, 115, rfl⟩
abbrev main_while0b_v55 : Ref sig .tc := ⟨.hbm, 116, rfl⟩
abbrev main_while0b_v56 : Ref sig .tc := ⟨.hbm, 117, rfl⟩
abbrev main_while0b_v57 : Ref sig .tc := ⟨.hbm, 118, rfl⟩
abbrev main_while0b_v58 : Ref sig .tc := ⟨.hbm, 119, rfl⟩
abbrev main_while0b_v59 : Ref sig .tc := ⟨.hbm, 120, rfl⟩
abbrev main_while0b_v60 : Ref sig .tc := ⟨.hbm, 121, rfl⟩
abbrev main_while0b_v61 : Ref sig .tc := ⟨.hbm, 122, rfl⟩
abbrev main_while0b_v62 : Ref sig .tc := ⟨.hbm, 123, rfl⟩
abbrev main_while0b_v63 : Ref sig .tc := ⟨.hbm, 124, rfl⟩
abbrev main_while0b_v64 : Ref sig .tc := ⟨.hbm, 125, rfl⟩
abbrev main_while0b_v65 : Ref sig .tc := ⟨.hbm, 126, rfl⟩
abbrev main_while0b_v66 : Ref sig .tc := ⟨.hbm, 127, rfl⟩
abbrev main_while0b_v67 : Ref sig .tc := ⟨.hbm, 128, rfl⟩
abbrev main_while0b_v68 : Ref sig .tc := ⟨.hbm, 129, rfl⟩
abbrev main_while0b_v69 : Ref sig .tc := ⟨.hbm, 130, rfl⟩
abbrev main_while0b_v70 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_v74 : Ref sig .tc := ⟨.hbm, 135, rfl⟩
abbrev main_while0b_v75 : Ref sig .tc := ⟨.hbm, 136, rfl⟩
abbrev main_while0b_v76 : Ref sig .tc := ⟨.hbm, 137, rfl⟩
abbrev main_while0b_v77 : Ref sig .tc := ⟨.hbm, 138, rfl⟩
abbrev main_while0b_v78 : Ref sig .tc := ⟨.hbm, 139, rfl⟩
abbrev main_while0b_v79 : Ref sig .tc := ⟨.hbm, 140, rfl⟩
abbrev main_while0b_cst_24 : Ref sig .tc := ⟨.hbm, 141, rfl⟩
abbrev main_while0b_v80 : Ref sig .tc := ⟨.hbm, 142, rfl⟩
abbrev main_while0b_v81 : Ref sig .tc := ⟨.hbm, 143, rfl⟩
abbrev main_while0b_v82 : Ref sig .tc := ⟨.hbm, 144, rfl⟩
abbrev main_while0b_v83 : Ref sig .tc := ⟨.hbm, 145, rfl⟩
abbrev main_while0b_cst_25 : Ref sig .tc := ⟨.hbm, 146, rfl⟩
abbrev main_while0b_v84 : Ref sig .tc := ⟨.hbm, 147, rfl⟩
abbrev main_while0b_v85 : Ref sig .tc := ⟨.hbm, 148, rfl⟩
abbrev main_while0b_v86 : Ref sig .tc := ⟨.hbm, 149, rfl⟩
abbrev main_while0b_cst_26 : Ref sig .tc := ⟨.hbm, 150, rfl⟩
abbrev main_while0b_v87 : Ref sig .tc := ⟨.hbm, 151, rfl⟩
abbrev main_while0b_v88 : Ref sig .tc := ⟨.hbm, 152, rfl⟩
abbrev main_while0b_v89 : Ref sig .tc := ⟨.hbm, 153, rfl⟩
abbrev main_while0b_cst_27 : Ref sig .tc := ⟨.hbm, 154, rfl⟩
abbrev main_while0b_v90 : Ref sig .tc := ⟨.hbm, 155, rfl⟩
abbrev main_while0b_v91 : Ref sig .tc := ⟨.hbm, 156, rfl⟩
abbrev main_while0b_v92 : Ref sig .tc := ⟨.hbm, 157, rfl⟩
abbrev main_while0b_cst_28 : Ref sig .tc := ⟨.hbm, 158, rfl⟩
abbrev main_while0b_v93 : Ref sig .tc := ⟨.hbm, 159, rfl⟩
abbrev main_while0b_v94 : Ref sig .tc := ⟨.hbm, 160, rfl⟩
abbrev main_while0b_v95 : Ref sig .tc := ⟨.hbm, 161, rfl⟩
abbrev main_while0b_v96 : Ref sig .tc := ⟨.hbm, 162, rfl⟩
abbrev main_while0b_cst_29 : Ref sig .tc := ⟨.hbm, 163, rfl⟩
abbrev main_while0b_v97 : Ref sig .tc := ⟨.hbm, 164, rfl⟩
abbrev main_while0b_v98 : Ref sig .tc := ⟨.hbm, 165, rfl⟩
abbrev main_while0b_v99 : Ref sig .tc := ⟨.hbm, 166, rfl⟩
abbrev main_while0b_v100 : Ref sig .tc := ⟨.hbm, 167, rfl⟩
abbrev main_while0b_v101 : Ref sig .tc := ⟨.hbm, 168, rfl⟩
abbrev main_while0b_cst_30 : Ref sig .tc := ⟨.hbm, 169, rfl⟩
abbrev main_while0b_v102 : Ref sig .tc := ⟨.hbm, 170, rfl⟩
abbrev main_while0b_v103 : Ref sig .tc := ⟨.hbm, 171, rfl⟩
abbrev main_while0b_v104 : Ref sig .tc := ⟨.hbm, 172, rfl⟩
abbrev main_while0b_v105 : Ref sig .tc := ⟨.hbm, 173, rfl⟩
abbrev main_while0b_v106 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_v110 : Ref sig .tc := ⟨.hbm, 178, rfl⟩
abbrev main_while0b_v111 : Ref sig .tc := ⟨.hbm, 179, rfl⟩
abbrev main_while0b_v112 : Ref sig .tc := ⟨.hbm, 180, rfl⟩
abbrev main_while0b_cst_31 : Ref sig .tc := ⟨.hbm, 181, rfl⟩
abbrev main_while0b_v113 : Ref sig .tc := ⟨.hbm, 182, rfl⟩
abbrev main_while0b_v114 : Ref sig .tc := ⟨.hbm, 183, rfl⟩
abbrev main_while0b_v115 : Ref sig .tc := ⟨.hbm, 184, rfl⟩
abbrev main_while0b_v116 : Ref sig .tc := ⟨.hbm, 185, rfl⟩
abbrev main_while0b_cst_32 : Ref sig .tc := ⟨.hbm, 186, rfl⟩
abbrev main_while0b_v117 : Ref sig .tc := ⟨.hbm, 187, rfl⟩
abbrev main_while0b_v118 : Ref sig .tc := ⟨.hbm, 188, rfl⟩
abbrev main_while0b_v119 : Ref sig .tc := ⟨.hbm, 189, rfl⟩
abbrev main_while0b_v120 : Ref sig .tc := ⟨.hbm, 190, rfl⟩
abbrev main_while0b_v121 : Ref sig .tc := ⟨.hbm, 191, rfl⟩
abbrev main_while0b_v122 : Ref sig .tc := ⟨.hbm, 192, rfl⟩
abbrev main_while0b_v123 : Ref sig .tc := ⟨.hbm, 193, rfl⟩
abbrev main_while0b_v124 : Ref sig .tc := ⟨.hbm, 194, rfl⟩
abbrev main_while0b_v125 : Ref sig .tc := ⟨.hbm, 195, rfl⟩
abbrev main_while0b_call8_v0 : Ref sig .tc := ⟨.hbm, 196, rfl⟩
abbrev main_while0b_call8_c : Ref sig .tc := ⟨.hbm, 197, rfl⟩
abbrev main_while0b_call8_c_0 : Ref sig .tc := ⟨.hbm, 198, rfl⟩
abbrev main_while0b_call8_c_1 : Ref sig .tc := ⟨.hbm, 199, rfl⟩
abbrev main_while0b_call8_c_2 : Ref sig .tc := ⟨.hbm, 200, rfl⟩
abbrev main_while0b_v126 : Ref sig .tc := ⟨.hbm, 201, rfl⟩
abbrev main_while0b_call9_v0 : Ref sig .tc := ⟨.hbm, 202, rfl⟩
abbrev main_while0b_call9_c : Ref sig .tc := ⟨.hbm, 203, rfl⟩
abbrev main_while0b_call9_c_0 : Ref sig .tc := ⟨.hbm, 204, rfl⟩
abbrev main_while0b_call9_c_1 : Ref sig .tc := ⟨.hbm, 205, rfl⟩
abbrev main_while0b_call9_c_2 : Ref sig .tc := ⟨.hbm, 206, rfl⟩
abbrev main_while0b_v127 : Ref sig .tc := ⟨.hbm, 207, rfl⟩
abbrev main_while0b_call10_v0 : Ref sig .tc := ⟨.hbm, 208, rfl⟩
abbrev main_while0b_call10_c : Ref sig .tc := ⟨.hbm, 209, rfl⟩
abbrev main_while0b_call10_c_0 : Ref sig .tc := ⟨.hbm, 210, rfl⟩
abbrev main_while0b_call10_c_1 : Ref sig .tc := ⟨.hbm, 211, rfl⟩
abbrev main_while0b_call10_c_2 : Ref sig .tc := ⟨.hbm, 212, rfl⟩
abbrev main_while0b_v128 : Ref sig .tc := ⟨.hbm, 213, rfl⟩
abbrev main_while0b_call11_v0 : Ref sig .tc := ⟨.hbm, 214, rfl⟩
abbrev main_while0b_call11_c : Ref sig .tc := ⟨.hbm, 215, rfl⟩
abbrev main_while0b_call11_c_0 : Ref sig .tc := ⟨.hbm, 216, rfl⟩
abbrev main_while0b_call11_c_1 : Ref sig .tc := ⟨.hbm, 217, rfl⟩
abbrev main_while0b_call11_c_2 : Ref sig .tc := ⟨.hbm, 218, rfl⟩
abbrev main_while0b_v129 : Ref sig .tc := ⟨.hbm, 219, rfl⟩
abbrev main_while0b_call12_v0 : Ref sig .tc := ⟨.hbm, 220, rfl⟩
abbrev main_while0b_call12_c : Ref sig .tc := ⟨.hbm, 221, rfl⟩
abbrev main_while0b_call12_c_0 : Ref sig .tc := ⟨.hbm, 222, rfl⟩
abbrev main_while0b_call12_c_1 : Ref sig .tc := ⟨.hbm, 223, rfl⟩
abbrev main_while0b_v130 : Ref sig .tc := ⟨.hbm, 224, rfl⟩
abbrev main_while0b_call13_v0 : Ref sig .tc := ⟨.hbm, 225, rfl⟩
abbrev main_while0b_call13_c : Ref sig .tc := ⟨.hbm, 226, rfl⟩
abbrev main_while0b_call13_c_0 : Ref sig .tc := ⟨.hbm, 227, rfl⟩
abbrev main_while0b_call13_c_1 : Ref sig .tc := ⟨.hbm, 228, rfl⟩
abbrev main_while0b_call13_c_2 : Ref sig .tc := ⟨.hbm, 229, rfl⟩
abbrev main_while0b_v131 : Ref sig .tc := ⟨.hbm, 230, rfl⟩
abbrev main_while0b_c_33 : Ref sig .tc := ⟨.hbm, 231, rfl⟩
abbrev main_while0b_v132 : Ref sig .tc := ⟨.hbm, 232, rfl⟩
abbrev main_v28 : Ref sig .tc := ⟨.hbm, 233, rfl⟩
abbrev main_v29 : Ref sig .tc := ⟨.hbm, 234, rfl⟩
abbrev main_v30 : Ref sig .tc := ⟨.hbm, 235, rfl⟩
abbrev main_v31 : Ref sig .tc := ⟨.hbm, 236, rfl⟩
abbrev main_v32 : Ref sig .tc := ⟨.hbm, 237, rfl⟩
abbrev main_v33 : Ref sig .tc := ⟨.hbm, 238, rfl⟩
abbrev main_v34 : Ref sig .tc := ⟨.hbm, 239, rfl⟩
abbrev main_v35 : Ref sig .tc := ⟨.hbm, 240, rfl⟩
abbrev main_v36 : Ref sig .tc := ⟨.hbm, 241, rfl⟩
abbrev main_v37 : Ref sig .tc := ⟨.hbm, 242, rfl⟩
abbrev main_c_6 : Ref sig .tc := ⟨.hbm, 243, rfl⟩
abbrev main_call14_v0 : Ref sig .tc := ⟨.hbm, 244, rfl⟩
abbrev main_v38 : Ref sig .tc := ⟨.hbm, 245, rfl⟩
abbrev main_v39 : Ref sig .tc := ⟨.hbm, 246, rfl⟩

abbrev nD : Nat := 1
abbrev τ : Topo := Topo.v7x

variable {F : FTy → Type} [FloatOps F]

abbrev main_while0_count : Scf.Loop 32 := ⟨0#32, 64#32, 1#32⟩
-- ==== ProjDw.lean ====
abbrev S4096x1024 : Shape := ⟨2, ![4096, 1024]⟩
abbrev S4096x3456 : Shape := ⟨2, ![4096, 3456]⟩
abbrev S1024x3456 : Shape := ⟨2, ![1024, 3456]⟩
abbrev S512x1024 : Shape := ⟨2, ![512, 1024]⟩
abbrev S512x1152 : Shape := ⟨2, ![512, 1152]⟩
abbrev S1024x1152 : Shape := ⟨2, ![1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3456, .bf16⟩
  | .hbm, ⟨2, _⟩ => ⟨S1024x3456, .f32⟩
  | .local _ .vmem, ⟨0, _⟩ => ⟨S512x1024, .bf16⟩
  | .local _ .vmem, ⟨1, _⟩ => ⟨S512x1024, .bf16⟩
  | .local _ .vmem, ⟨2, _⟩ => ⟨S512x1152, .bf16⟩
  | .local _ .vmem, ⟨3, _⟩ => ⟨S512x1152, .bf16⟩
  | .local _ .vmem, ⟨4, _⟩ => ⟨S1024x1152, .f32⟩
  | .local _ .vmem, ⟨5, _⟩ => ⟨S1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ProjDwRefIdeal.lean ====
abbrev S4096x1024 : Shape := ⟨2, ![4096, 1024]⟩
abbrev S4096x3456 : Shape := ⟨2, ![4096, 3456]⟩
abbrev S1024x4096 : Shape := ⟨2, ![1024, 4096]⟩
abbrev S1024x3456 : Shape := ⟨2, ![1024, 3456]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3456, .bf16⟩
  | .hbm, ⟨2, _⟩ => ⟨S4096x1024, .f32⟩
  | .hbm, ⟨3, _⟩ => ⟨S1024x4096, .f32⟩
  | .hbm, ⟨4, _⟩ => ⟨S4096x3456, .f32⟩
  | .hbm, ⟨5, _⟩ => ⟨S1024x3456, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixoutDw.lean ====
abbrev S4096x1024 : Shape := ⟨2, ![4096, 1024]⟩
abbrev S2x4x128x1024 : Shape := ⟨4, ![2, 4, 128, 1024]⟩
abbrev S512x1024 : Shape := ⟨2, ![512, 1024]⟩
abbrev S512x512 : Shape := ⟨2, ![512, 512]⟩
abbrev S2x4x128x512 : Shape := ⟨4, ![2, 4, 128, 512]⟩
abbrev S1024x512 : Shape := ⟨2, ![1024, 512]⟩
abbrev S128x512 : Shape := ⟨2, ![128, 512]⟩
abbrev S1x1x128x512 : Shape := ⟨4, ![1, 1, 128, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S2x4x128x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S2x4x128x512, .f32⟩
  | .local _ .vmem, ⟨5, _⟩ => ⟨S2x4x128x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x4x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MixoutDwRefIdeal.lean ====
abbrev S4096x1024 : Shape := ⟨2, ![4096, 1024]⟩
abbrev S1024x4096 : Shape := ⟨2, ![1024, 4096]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S1024x1024, .f32⟩
  | .hbm, ⟨6, _⟩ => ⟨S4x2x128x1024, .f32⟩
  | .hbm, ⟨7, _⟩ => ⟨S2x4x128x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfninDw.lean ====
abbrev S4096x1024 : Shape := ⟨2, ![4096, 1024]⟩
abbrev S4096x5632 : Shape := ⟨2, ![4096, 5632]⟩
abbrev S2x4x512x1408 : Shape := ⟨4, ![2, 4, 512, 1408]⟩
abbrev S512x1024 : Shape := ⟨2, ![512, 1024]⟩
abbrev S512x1408 : Shape := ⟨2, ![512, 1408]⟩
abbrev S2x1x512x1408 : Shape := ⟨4, ![2, 1, 512, 1408]⟩
abbrev S1024x1408 : Shape := ⟨2, ![1024, 1408]⟩
abbrev S1x1x512x1408 : Shape := ⟨4, ![1, 1, 512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S2x4x512x1408, .f32⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S2x1x512x1408, .f32⟩
  | .local _ .vmem, ⟨5, _⟩ => ⟨S2x1x512x1408, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfninDwRefIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩
abbrev S2x512x4x1408 : Shape := ⟨4, ![2, 512, 4, 1408]⟩
abbrev S2x4x512x1408 : Shape := ⟨4, ![2, 4, 512, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S1024x4096, .f32⟩
  | .hbm, ⟨4, _⟩ => ⟨S4096x5632, .f32⟩
  | .hbm, ⟨5, _⟩ => ⟨S1024x5632, .f32⟩
  | .hbm, ⟨6, _⟩ => ⟨S2x512x4x1408, .f32⟩
  | .hbm, ⟨7, _⟩ => ⟨S2x4x512x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnoutDw.lean ====
abbrev S4096x2816 : Shape := ⟨2, ![4096, 2816]⟩
abbrev S4096x1024 : Shape := ⟨2, ![4096, 1024]⟩
abbrev S2x4x352x1024 : Shape := ⟨4, ![2, 4, 352, 1024]⟩
abbrev S512x2816 : Shape := ⟨2, ![512, 2816]⟩
abbrev S512x512 : Shape := ⟨2, ![512, 512]⟩
abbrev S2x4x352x512 : Shape := ⟨4, ![2, 4, 352, 512]⟩
abbrev S2816x512 : Shape := ⟨2, ![2816, 512]⟩
abbrev S352x512 : Shape := ⟨2, ![352, 512]⟩
abbrev S1x1x352x512 : Shape := ⟨4, ![1, 1, 352, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2x4x352x1024, .f32⟩
  | .local _ .vmem, ⟨0, _⟩ => ⟨S512x2816, .bf16⟩
  | .local _ .vmem, ⟨1, _⟩ => ⟨S512x2816, .bf16⟩
  | .local _ .vmem, ⟨2, _⟩ => ⟨S512x512, .bf16⟩
  | .local _ .vmem, ⟨3, _⟩ => ⟨S512x512, .bf16⟩
  | .local _ .vmem, ⟨4, _⟩ => ⟨S2x4x352x512, .f32⟩
  | .local _ .vmem, ⟨5, _⟩ => ⟨S2x4x352x512, .f32⟩
  | .local _ .vmem, ⟨6, _⟩ => ⟨S2816x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x4x352x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnoutDwRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩
abbrev S4x2x352x1024 : Shape := ⟨4, ![4, 2, 352, 1024]⟩
abbrev S2x4x352x1024 : Shape := ⟨4, ![2, 4, 352, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S2816x4096, .f32⟩
  | .hbm, ⟨4, _⟩ => ⟨S4096x1024, .f32⟩
  | .hbm, ⟨5, _⟩ => ⟨S2816x1024, .f32⟩
  | .hbm, ⟨6, _⟩ => ⟨S4x2x352x1024, .f32⟩
  | .hbm, ⟨7, _⟩ => ⟨S2x4x352x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfninDx.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S1x1024x5632 : Shape := ⟨3, ![1, 1024, 5632]⟩
abbrev S4096x5632 : Shape := ⟨2, ![4096, 5632]⟩
abbrev S256x2816 : Shape := ⟨2, ![256, 2816]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S1024 : Shape := ⟨1, ![1024]⟩

abbrev nBuf : Space → Nat
  | .hbm => 14
  | .vmem => 19
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S1x1024x5632, .bf16⟩
  | .hbm, ⟨9, _⟩ => ⟨S4096x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S4096x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S1x1024x5632, .bf16⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S256x5632, .bf16⟩
  | .local _ .vmem, ⟨18, _⟩ => ⟨S256x5632, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfninDxRefIdeal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S1024 : Shape := ⟨1, ![1024]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x5632, .bf16⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S1024x5632, .f32⟩
  | .hbm, ⟨35, _⟩ => ⟨S4096x5632, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x5632, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x5632, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== ProjDx.lean ====
abbrev S4096x256 : Shape := ⟨2, ![4096, 256]⟩
abbrev S4096x2560 : Shape := ⟨2, ![4096, 2560]⟩
abbrev S4096x512 : Shape := ⟨2, ![4096, 512]⟩
abbrev S4096x128 : Shape := ⟨2, ![4096, 128]⟩
abbrev S1024x3456 : Shape := ⟨2, ![1024, 3456]⟩
abbrev S4096x1024 : Shape := ⟨2, ![4096, 1024]⟩
abbrev S1x1024 : Shape := ⟨2, ![1, 1024]⟩
abbrev S1x1024x3456 : Shape := ⟨3, ![1, 1024, 3456]⟩
abbrev S4096x3456 : Shape := ⟨2, ![4096, 3456]⟩
abbrev S256x256 : Shape := ⟨2, ![256, 256]⟩
abbrev S256x2560 : Shape := ⟨2, ![256, 2560]⟩
abbrev S256x512 : Shape := ⟨2, ![256, 512]⟩
abbrev S256x128 : Shape := ⟨2, ![256, 128]⟩
abbrev S256x1024 : Shape := ⟨2, ![256, 1024]⟩
abbrev S256x3456 : Shape := ⟨2, ![256, 3456]⟩
abbrev S256 : Shape := ⟨1, ![256]⟩
abbrev S256x1 : Shape := ⟨2, ![256, 1]⟩
abbrev S1024 : Shape := ⟨1, ![1024]⟩

abbrev nBuf : Space → Nat
  | .hbm => 16
  | .vmem => 23
  | .smem => 0
  | _ => 0

abbrev bufTy : (tb : Table) → Fin (tcTables nBuf tb) → BufTy
  | .hbm, ⟨0, _⟩ => ⟨S4096x256, .f32⟩
  | .hbm, ⟨1, _⟩ => ⟨S4096x2560, .f32⟩
  | .hbm, ⟨2, _⟩ => ⟨S4096x512, .f32⟩
  | .hbm, ⟨3, _⟩ => ⟨S4096x128, .f32⟩
  | .hbm, ⟨4, _⟩ => ⟨S1024x3456, .bf16⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S1x1024x3456, .bf16⟩
  | .hbm, ⟨11, _⟩ => ⟨S4096x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S4096x3456, .bf16⟩
  | .local _ .vmem, ⟨0, _⟩ => ⟨S256x256, .f32⟩
  | .local _ .vmem, ⟨1, _⟩ => ⟨S256x256, .f32⟩
  | .local _ .vmem, ⟨2, _⟩ => ⟨S256x2560, .f32⟩
  | .local _ .vmem, ⟨3, _⟩ => ⟨S256x2560, .f32⟩
  | .local _ .vmem, ⟨4, _⟩ => ⟨S256x512, .f32⟩
  | .local _ .vmem, ⟨5, _⟩ => ⟨S256x512, .f32⟩
  | .local _ .vmem, ⟨6, _⟩ => ⟨S256x128, .f32⟩
  | .local _ .vmem, ⟨7, _⟩ => ⟨S256x128, .f32⟩
  | .local _ .vmem, ⟨8, _⟩ => ⟨S1x1024x3456, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S256x3456, .bf16⟩
  | .local _ .vmem, ⟨22, _⟩ => ⟨S256x3456, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1_0 : Ref sig .tc := ⟨.hbm, 11, rfl⟩
abbrev main_v1_1 : Ref sig .tc := ⟨.hbm, 12, rfl⟩
abbrev main_v1_2 : Ref sig .tc := ⟨.hbm, 13, rfl⟩
abbrev main_v1_3 : Ref sig .tc := ⟨.hbm, 14, rfl⟩
abbrev main_v1_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x3456 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x3456 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ProjDxRefIdeal.lean ====
abbrev S4096x256 : Shape := ⟨2, ![4096, 256]⟩
abbrev S4096x2560 : Shape := ⟨2, ![4096, 2560]⟩
abbrev S4096x512 : Shape := ⟨2, ![4096, 512]⟩
abbrev S4096x128 : Shape := ⟨2, ![4096, 128]⟩
abbrev S1024x3456 : Shape := ⟨2, ![1024, 3456]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x3456 : Shape := ⟨2, ![4096, 3456]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x2560, .f32⟩
  | .hbm, ⟨2, _⟩ => ⟨S4096x512, .f32⟩
  | .hbm, ⟨3, _⟩ => ⟨S4096x128, .f32⟩
  | .hbm, ⟨4, _⟩ => ⟨S1024x3456, .bf16⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1024x3456, .f32⟩
  | .hbm, ⟨37, _⟩ => ⟨S4096x3456, .f32⟩
  | .hbm, ⟨38, _⟩ => ⟨S4096x256, .f32⟩
  | .hbm, ⟨39, _⟩ => ⟨S4096x2560, .f32⟩
  | .hbm, ⟨40, _⟩ => ⟨S4096x512, .f32⟩
  | .hbm, ⟨41, _⟩ => ⟨S4096x128, .f32⟩
  | .hbm, ⟨42, _⟩ => ⟨S4096x3456, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x3456, .f32⟩
  | .hbm, ⟨78, _⟩ => ⟨S4096x3456, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_cst_9 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]
-- ==== FfnoutDx.lean ====
abbrev S4096x1024 : Shape := ⟨2, ![4096, 1024]⟩
abbrev S4096x5632 : Shape := ⟨2, ![4096, 5632]⟩
abbrev S1x1024 : Shape := ⟨2, ![1, 1024]⟩
abbrev S2816x1024 : Shape := ⟨2, ![2816, 1024]⟩
abbrev S4096x2816 : Shape := ⟨2, ![4096, 2816]⟩
abbrev S_ : Shape := ⟨0, ![]⟩
abbrev S1x2816x1024 : Shape := ⟨3, ![1, 2816, 1024]⟩
abbrev S512x1024 : Shape := ⟨2, ![512, 1024]⟩
abbrev S512x1408 : Shape := ⟨2, ![512, 1408]⟩
abbrev S1x1408x1024 : Shape := ⟨3, ![1, 1408, 1024]⟩
abbrev S1408x1024 : Shape := ⟨2, ![1408, 1024]⟩
abbrev S1024 : Shape := ⟨1, ![1024]⟩

abbrev nBuf : Space → Nat
  | .hbm => 23
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1x1024, .f32⟩
  | .hbm, ⟨3, _⟩ => ⟨S2816x1024, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S2816x1024, .f32⟩
  | .hbm, ⟨17, _⟩ => ⟨S4096x1024, .f32⟩
  | .hbm, ⟨18, _⟩ => ⟨S1x2816x1024, .bf16⟩
  | .hbm, ⟨19, _⟩ => ⟨S4096x1024, .bf16⟩
  | .hbm, ⟨20, _⟩ => ⟨S4096x2816, .bf16⟩
  | .hbm, ⟨21, _⟩ => ⟨S4096x2816, .bf16⟩
  | .hbm, ⟨22, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S1x1024, .f32⟩
  | .local _ .vmem, ⟨9, _⟩ => ⟨S1x1408x1024, .bf16⟩
  | .local _ .vmem, ⟨10, _⟩ => ⟨S1x1408x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1408, .bf16⟩
  | .local _ .vmem, ⟨14, _⟩ => ⟨S512x1408, .bf16⟩
  | .local _ .vmem, ⟨15, _⟩ => ⟨S512x1408, .bf16⟩
  | .local _ .vmem, ⟨16, _⟩ => ⟨S512x1408, .bf16⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev main_v7_2 : Ref sig .tc := ⟨.hbm, 21, rfl⟩
abbrev main_v7_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v25 : BitVec 1 := Scalar.cmpi .eq arg1 c0_i32
  let v26 : BitVec 32 := Scalar.extui v25
  let c0_i32_16 : BitVec 32 := 0#32
  let v27 : BitVec 1 := Scalar.cmpi .ne v26 c0_i32_16
  v27

def k0_cond2 (i : grid0.Coords) : BitVec 1 :=
  let arg0 : BitVec 32 := BitVec.ofNat 32 (i 0).val
  let c0_i32_17 : BitVec 32 := 0#32
  let v28 : BitVec 1 := Scalar.cmpi .eq arg0 c0_i32_17
  let arg1 : BitVec 32 := BitVec.ofNat 32 (i 1).val
  let c0_i32_18 : BitVec 32 := 0#32
  let v29 : BitVec 1 := Scalar.cmpi .eq arg1 c0_i32_18
  let v30 : BitVec 1 := Scalar.andi v28 v29
  let v31 : BitVec 32 := Scalar.extui v30
  let c0_i32_19 : BitVec 32 := 0#32
  let v32 : BitVec 1 := Scalar.cmpi .ne v31 c0_i32_19
  v32

def k0_cond3 (i : grid0.Coords) : BitVec 1 :=
  let arg1 : BitVec 32 := BitVec.ofNat 32 (i 1).val
  let c0_i32_20 : BitVec 32 := 0#32
  let v33 : BitVec 1 := Scalar.cmpi .eq arg1 c0_i32_20
  let v34 : BitVec 32 := Scalar.extui v33
  let c0_i32_21 : BitVec 32 := 0#32
  let v35 : BitVec 1 := Scalar.cmpi .ne v34 c0_i32_21
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== FfnoutDxRefIdeal.lean ====
abbrev S4096x1024 : Shape := ⟨2, ![4096, 1024]⟩
abbrev S4096x5632 : Shape := ⟨2, ![4096, 5632]⟩
abbrev S1x1024 : Shape := ⟨2, ![1, 1024]⟩
abbrev S2816x1024 : Shape := ⟨2, ![2816, 1024]⟩
abbrev S4096x2816 : Shape := ⟨2, ![4096, 2816]⟩
abbrev S_ : Shape := ⟨0, ![]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1x1024, .f32⟩
  | .hbm, ⟨3, _⟩ => ⟨S2816x1024, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S2816x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x2816, .bf16⟩
  | .hbm, ⟨45, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== FfninFwd.lean ====
abbrev S4096x1024 : Shape := ⟨2, ![4096, 1024]⟩
abbrev S1x1024 : Shape := ⟨2, ![1, 1024]⟩
abbrev S1024x5632 : Shape := ⟨2, ![1024, 5632]⟩
abbrev S1x1024x5632 : Shape := ⟨3, ![1, 1024, 5632]⟩
abbrev S4096x5632 : Shape := ⟨2, ![4096, 5632]⟩
abbrev S512x1024 : Shape := ⟨2, ![512, 1024]⟩
abbrev S1x1024x1408 : Shape := ⟨3, ![1, 1024, 1408]⟩
abbrev S512x1408 : Shape := ⟨2, ![512, 1408]⟩
abbrev S8x512x1024 : Shape := ⟨3, ![8, 512, 1024]⟩
abbrev S512 : Shape := ⟨1, ![512]⟩
abbrev S512x1 : Shape := ⟨2, ![512, 1]⟩
abbrev S1x512x1024 : Shape := ⟨3, ![1, 512, 1024]⟩
abbrev S1024x1408 : Shape := ⟨2, ![1024, 1408]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S1x1024x5632, .bf16⟩
  | .hbm, ⟨6, _⟩ => ⟨S4096x1024, .bf16⟩
  | .hbm, ⟨7, _⟩ => ⟨S4096x5632, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S512x1024, .bf16⟩
  | .local _ .vmem, ⟨8, _⟩ => ⟨S512x1024, .bf16⟩
  | .local _ .vmem, ⟨9, _⟩ => ⟨S512x1408, .f32⟩
  | .local _ .vmem, ⟨10, _⟩ => ⟨S512x1408, .f32⟩
  | .local _ .vmem, ⟨11, _⟩ => ⟨S8x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v33 : Index := Scalar.indexCast arg1
  let c0_19 : Index := 0#32
  let c0_20 : Index := 0#32
  ![v33.toNat, 0, 0]
def k0_off2 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfninFwdRefIdeal.lean ====
abbrev S4096x1024 : Shape := ⟨2, ![4096, 1024]⟩
abbrev S1x1024 : Shape := ⟨2, ![1, 1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x5632, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024x5632, .f32⟩
  | .hbm, ⟨29, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== ProjFwd.lean ====
abbrev S4096x1024 : Shape := ⟨2, ![4096, 1024]⟩
abbrev S1x1024 : Shape := ⟨2, ![1, 1024]⟩
abbrev S1024x3456 : Shape := ⟨2, ![1024, 3456]⟩
abbrev S1x1024x3456 : Shape := ⟨3, ![1, 1024, 3456]⟩
abbrev S4096x3456 : Shape := ⟨2, ![4096, 3456]⟩
abbrev S512x1024 : Shape := ⟨2, ![512, 1024]⟩
abbrev S1x1024x1152 : Shape := ⟨3, ![1, 1024, 1152]⟩
abbrev S512x1152 : Shape := ⟨2, ![512, 1152]⟩
abbrev S8x512x1024 : Shape := ⟨3, ![8, 512, 1024]⟩
abbrev S512 : Shape := ⟨1, ![512]⟩
abbrev S512x1 : Shape := ⟨2, ![512, 1]⟩
abbrev S1x512x1024 : Shape := ⟨3, ![1, 512, 1024]⟩
abbrev S1024x1152 : Shape := ⟨2, ![1024, 1152]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3456, .bf16⟩
  | .hbm, ⟨5, _⟩ => ⟨S1x1024x3456, .bf16⟩
  | .hbm, ⟨6, _⟩ => ⟨S4096x1024, .bf16⟩
  | .hbm, ⟨7, _⟩ => ⟨S4096x3456, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024x1152, .bf16⟩
  | .local _ .vmem, ⟨6, _⟩ => ⟨S1x1024x1152, .bf16⟩
  | .local _ .vmem, ⟨7, _⟩ => ⟨S512x1024, .bf16⟩
  | .local _ .vmem, ⟨8, _⟩ => ⟨S512x1024, .bf16⟩
  | .local _ .vmem, ⟨9, _⟩ => ⟨S512x1152, .f32⟩
  | .local _ .vmem, ⟨10, _⟩ => ⟨S512x1152, .f32⟩
  | .local _ .vmem, ⟨11, _⟩ => ⟨S8x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg1 : BitVec 32 := BitVec.ofNat 32 (i 1).val
  let v33 : Index := Scalar.indexCast arg1
  let c0_19 : Index := 0#32
  let c0_20 : Index := 0#32
  ![v33.toNat, 0, 0]
def k0_off2 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ProjFwdRefIdeal.lean ====
abbrev S4096x1024 : Shape := ⟨2, ![4096, 1024]⟩
abbrev S1x1024 : Shape := ⟨2, ![1, 1024]⟩
abbrev S1024x3456 : Shape := ⟨2, ![1024, 3456]⟩
abbrev S_ : Shape := ⟨0, ![]⟩
abbrev S4096 : Shape := ⟨1, ![4096]⟩
abbrev S4096x1 : Shape := ⟨2, ![4096, 1]⟩
abbrev S4096x3456 : Shape := ⟨2, ![4096, 3456]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3456, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S1024x3456, .f32⟩
  | .hbm, ⟨29, _⟩ => ⟨S4096x3456, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== FfnoutFwd.lean ====
abbrev S4096x1024 : Shape := ⟨2, ![4096, 1024]⟩
abbrev S4096x5632 : Shape := ⟨2, ![4096, 5632]⟩
abbrev S1x1024 : Shape := ⟨2, ![1, 1024]⟩
abbrev S2816x1024 : Shape := ⟨2, ![2816, 1024]⟩
abbrev S1x2816x1024 : Shape := ⟨3, ![1, 2816, 1024]⟩
abbrev S4096x2816 : Shape := ⟨2, ![4096, 2816]⟩
abbrev S512x1024 : Shape := ⟨2, ![512, 1024]⟩
abbrev S512x1408 : Shape := ⟨2, ![512, 1408]⟩
abbrev S1x1408x1024 : Shape := ⟨3, ![1, 1408, 1024]⟩
abbrev S1408x1024 : Shape := ⟨2, ![1408, 1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1x1024, .f32⟩
  | .hbm, ⟨3, _⟩ => ⟨S2816x1024, .bf16⟩
  | .hbm, ⟨4, _⟩ => ⟨S1x2816x1024, .bf16⟩
  | .hbm, ⟨5, _⟩ => ⟨S4096x2816, .bf16⟩
  | .hbm, ⟨6, _⟩ => ⟨S4096x1024, .f32⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1408, .f32⟩
  | .local _ .vmem, ⟨3, _⟩ => ⟨S512x1408, .f32⟩
  | .local _ .vmem, ⟨4, _⟩ => ⟨S512x1408, .f32⟩
  | .local _ .vmem, ⟨5, _⟩ => ⟨S512x1408, .f32⟩
  | .local _ .vmem, ⟨6, _⟩ => ⟨S1x1024, .f32⟩
  | .local _ .vmem, ⟨7, _⟩ => ⟨S1x1408x1024, .bf16⟩
  | .local _ .vmem, ⟨8, _⟩ => ⟨S1x1408x1024, .bf16⟩
  | .local _ .vmem, ⟨9, _⟩ => ⟨S512x1408, .bf16⟩
  | .local _ .vmem, ⟨10, _⟩ => ⟨S512x1408, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 2], ![false, false]⟩

def k0_cond1 (i : grid0.Coords) : BitVec 1 :=
  let arg1 : BitVec 32 := BitVec.ofNat 32 (i 1).val
  let c0_i32 : BitVec 32 := 0#32
  let v10 : BitVec 1 := Scalar.cmpi .eq arg1 c0_i32
  let v11 : BitVec 32 := Scalar.extui v10
  let c0_i32_8 : BitVec 32 := 0#32
  let v12 : BitVec 1 := Scalar.cmpi .ne v11 c0_i32_8
  v12

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnoutFwdRefIdeal.lean ====
abbrev S4096x1024 : Shape := ⟨2, ![4096, 1024]⟩
abbrev S4096x5632 : Shape := ⟨2, ![4096, 5632]⟩
abbrev S1x1024 : Shape := ⟨2, ![1, 1024]⟩
abbrev S2816x1024 : Shape := ⟨2, ![2816, 1024]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x5632, .f32⟩
  | .hbm, ⟨2, _⟩ => ⟨S1x1024, .f32⟩
  | .hbm, ⟨3, _⟩ => ⟨S2816x1024, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S2816x1024, .f32⟩
  | .hbm, ⟨17, _⟩ => ⟨S4096x1024, .f32⟩
  | .hbm, ⟨18, _⟩ => ⟨S4096x2816, .bf16⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== MixoutFwd.lean ====
abbrev S4096x1024 : Shape := ⟨2, ![4096, 1024]⟩
abbrev S4096x512 : Shape := ⟨2, ![4096, 512]⟩
abbrev S4096x3456 : Shape := ⟨2, ![4096, 3456]⟩
abbrev S1x128 : Shape := ⟨2, ![1, 128]⟩
abbrev S1x1024 : Shape := ⟨2, ![1, 1024]⟩
abbrev S1024x1024 : Shape := ⟨2, ![1024, 1024]⟩
abbrev S1x1024x1024 : Shape := ⟨3, ![1, 1024, 1024]⟩
abbrev S512x1024 : Shape := ⟨2, ![512, 1024]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 11
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3456, .f32⟩
  | .hbm, ⟨4, _⟩ => ⟨S1x128, .f32⟩
  | .hbm, ⟨5, _⟩ => ⟨S1x1024, .f32⟩
  | .hbm, ⟨6, _⟩ => ⟨S1024x1024, .bf16⟩
  | .hbm, ⟨7, _⟩ => ⟨S1x1024x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x128, .f32⟩
  | .local _ .vmem, ⟨11, _⟩ => ⟨S1x1024, .f32⟩
  | .local _ .vmem, ⟨12, _⟩ => ⟨S1x1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixoutFwdRefIdeal.lean ====
abbrev S4096x1024 : Shape := ⟨2, ![4096, 1024]⟩
abbrev S4096x512 : Shape := ⟨2, ![4096, 512]⟩
abbrev S4096x3456 : Shape := ⟨2, ![4096, 3456]⟩
abbrev S1x128 : Shape := ⟨2, ![1, 128]⟩
abbrev S1x1024 : Shape := ⟨2, ![1, 1024]⟩
abbrev S1024x1024 : Shape := ⟨2, ![1024, 1024]⟩
abbrev S4096x4x128 : Shape := ⟨3, ![4096, 4, 128]⟩
abbrev S128 : Shape := ⟨1, ![128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x3456, .f32⟩
  | .hbm, ⟨4, _⟩ => ⟨S1x128, .f32⟩
  | .hbm, ⟨5, _⟩ => ⟨S1x1024, .f32⟩
  | .hbm, ⟨6, _⟩ => ⟨S1024x1024, .bf16⟩
  | .hbm, ⟨7, _⟩ => ⟨S4096x4x128, .f32⟩
  | .hbm, ⟨8, _⟩ => ⟨S128, .f32⟩
  | .hbm, ⟨9, _⟩ => ⟨S4096x4x128, .f32⟩
  | .hbm, ⟨10, _⟩ => ⟨S_, .f32⟩
  | .hbm, ⟨11, _⟩ => ⟨S4096x4, .f32⟩
  | .hbm, ⟨12, _⟩ => ⟨S4096x4x1, .f32⟩
  | .hbm, ⟨13, _⟩ => ⟨S_, .f32⟩
  | .hbm, ⟨14, _⟩ => ⟨S4096x4x1, .f32⟩
  | .hbm, ⟨15, _⟩ => ⟨S4096x4x1, .f32⟩
  | .hbm, ⟨16, _⟩ => ⟨S_, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S4096x4x128, .f32⟩
  | .hbm, ⟨21, _⟩ => ⟨S4096x4x128, .f32⟩
  | .hbm, ⟨22, _⟩ => ⟨S1x1x128, .f32⟩
  | .hbm, ⟨23, _⟩ => ⟨S4096x4x128, .f32⟩
  | .hbm, ⟨24, _⟩ => ⟨S4096x4x128, .f32⟩
  | .hbm, ⟨25, _⟩ => ⟨S4096x512, .f32⟩
  | .hbm, ⟨26, _⟩ => ⟨S4096x4x128, .f32⟩
  | .hbm, ⟨27, _⟩ => ⟨S4096x4x128, .f32⟩
  | .hbm, ⟨28, _⟩ => ⟨S4096x4x128, .f32⟩
  | .hbm, ⟨29, _⟩ => ⟨S_, .f32⟩
  | .hbm, ⟨30, _⟩ => ⟨S4096x4x128, .f32⟩
  | .hbm, ⟨31, _⟩ => ⟨S4096x4x128, .f32⟩
  | .hbm, ⟨32, _⟩ => ⟨S_, .f32⟩
  | .hbm, ⟨33, _⟩ => ⟨S4096x4x128, .f32⟩
  | .hbm, ⟨34, _⟩ => ⟨S4096x4x128, .f32⟩
  | .hbm, ⟨35, _⟩ => ⟨S4096x4x128, .f32⟩
  | .hbm, ⟨36, _⟩ => ⟨S4096x4x128, .f32⟩
  | .hbm, ⟨37, _⟩ => ⟨S4096x512, .f32⟩
  | .hbm, ⟨38, _⟩ => ⟨S4096x1024, .f32⟩
  | .hbm, ⟨39, _⟩ => ⟨S1024x1024, .f32⟩
  | .hbm, ⟨40, _⟩ => ⟨S4096x1024, .f32⟩
  | .hbm, ⟨41, _⟩ => ⟨S4096x1024, .bf16⟩
  | .hbm, ⟨42, _⟩ => ⟨S4096x1024, .f32⟩
  | .hbm, ⟨43, _⟩ => ⟨S4096x1024, .f32⟩
  | .hbm, ⟨44, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.RefTrip.lean ====
/-
  The reference's loop as an iterated step: at a valuation that holds a state, every value of one trip is the named value of
  that state, so one trip takes a valuation that holds a state to one that holds the next, and the run's results are those
  of the state after the last trip.
-/
module

public import proofs.«01_k».proof.Proof.Gen.ReferenceIdeal.Run
public import proofs.«01_k».proof.Proof.Gen.ReferenceIdeal.Step

@[expose] public section

noncomputable section

namespace Cert.ReferenceIdeal.Trip

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v27_9) = s.main_v27_9
  f_10 : V0 (Proc.devRef .tc main_v27_10) = s.main_v27_10
  f_11 : V0 (Proc.devRef .tc main_v27_11) = s.main_v27_11
  f_12 : V0 (Proc.devRef .tc main_v27_12) = s.main_v27_12
  f_13 : V0 (Proc.devRef .tc main_v27_13) = s.main_v27_13
  f_14 : V0 (Proc.devRef .tc main_v27_14) = s.main_v27_14
  f_15 : V0 (Proc.devRef .tc main_v27_15) = s.main_v27_15
  f_0 : V0 (Proc.devRef .tc main_v27_0) = s.main_v27_0
  f_1 : V0 (Proc.devRef .tc main_v27_1) = s.main_v27_1
  f_2 : V0 (Proc.devRef .tc main_v27_2) = s.main_v27_2
  f_3 : V0 (Proc.devRef .tc main_v27_3) = s.main_v27_3
  f_4 : V0 (Proc.devRef .tc main_v27_4) = s.main_v27_4
  f_5 : V0 (Proc.devRef .tc main_v27_5) = s.main_v27_5
  f_6 : V0 (Proc.devRef .tc main_v27_6) = s.main_v27_6
  f_7 : V0 (Proc.devRef .tc main_v27_7) = s.main_v27_7
  n_8 : V0 (Proc.devRef .tc main_v27_8) = constantI S_ 32 (BitVec.ofNat 32 j)

variable {V0 s j}

set_option maxRecDepth 8192 in
theorem al_0 (h : Holds V0 s j) : (constantI S_ 32 64#32 : (Proc.devRef .tc main_while0b_c_22 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 64#32) (V0 (Proc.devRef .tc main_v27_8)) : (Proc.devRef .tc main_while0b_v40 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_23 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v41 V0 : (Proc.devRef .tc main_while0b_v41 : DevRef τ sig).ty.Contents (Elt F)) = Cert.ReferenceIdeal.Step.b3 j s := by
  unfold res_main_while0b_v41 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call0_c_2 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x1x4x64x128 (V0 (Proc.devRef .tc main_v27_0)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call0_v0 : DevRef τ sig).ty.Contents (Elt F)) = Cert.ReferenceIdeal.Step.b8 j s := by
  unfold Cert.ReferenceIdeal.Step.b8
  rw [← al_3 h, ← al_4 h, ← al_5 h, ← al_6 h, ← al_7 h, h.f_0]
  try rfl
set_option maxRecDepth 8192 in
theorem al_9 (h : Holds V0 s j) : (res_main_while0b_v42 V0 : (Proc.devRef .tc main_while0b_v42 : DevRef τ sig).ty.Contents (Elt F)) = Cert.ReferenceIdeal.Step.b9 j s := by
  unfold res_main_while0b_v42 Cert.ReferenceIdeal.Step.b9
  rw [← al_8 h]
  try rfl
set_option maxRecDepth 8192 in
theorem al_10 (h : Holds V0 s j) : (constantI S_ 32 0#32 : (Proc.devRef .tc main_while0b_call1_c : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_0 : DevRef τ sig).ty.Contents (Elt F)) = Cert.ReferenceIdeal.Step.b11 j s := by
  unfold Cert.ReferenceIdeal.Step.b11
  rfl
set_option maxRecDepth 8192 in
theorem al_12 (h : Holds V0 s j) : (constantI S_ 32 0#32 : (Proc.devRef .tc main_while0b_call1_c_1 : DevRef τ sig).ty.Contents (Elt F)) = Cert.ReferenceIdeal.Step.b12 j s := by
  unfold Cert.ReferenceIdeal.Step.b12
  rfl
set_option maxRecDepth 8192 in
theorem al_13 (h : Holds V0 s j) : (constantI S_ 32 0#32 : (Proc.devRef .tc main_while0b_call1_c_2 : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x1x4x64x128 (V0 (Proc.devRef .tc main_v27_1)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call1_v0 : DevRef τ sig).ty.Contents (Elt F)) = Cert.ReferenceIdeal.Step.b14 j s := by
  unfold Cert.ReferenceIdeal.Step.b14
  rw [← al_3 h, ← al_10 h, ← al_11 h, ← al_12 h, ← al_13 h, h.f_1]
  try rfl
set_option maxRecDepth 8192 in
theorem al_15 (h : Holds V0 s j) : (res_main_while0b_v43 V0 : (Proc.devRef .tc main_while0b_v43 : DevRef τ sig).ty.Contents (Elt F)) = Cert.ReferenceIdeal.Step.b15 j s := by
  unfold res_main_while0b_v43 Cert.ReferenceIdeal.Step.b15
  rw [← al_14 h]
  try rfl
set_option maxRecDepth 8192 in
theorem al_16 (h : Holds V0 s j) : (constantI S_ 32 0#32 : (Proc.devRef .tc main_while0b_call2_c : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call2_c_0 : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call2_c_1 : DevRef τ sig).ty.Contents (Elt F)) = Cert.ReferenceIdeal.Step.b18 j s := by
  unfold Cert.ReferenceIdeal.Step.b18
  rfl
set_option maxRecDepth 8192 in
theorem al_19 (h : Holds V0 s j) : (constantI S_ 32 0#32 : (Proc.devRef .tc main_while0b_call2_c_2 : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x1x4x64x128 (V0 (Proc.devRef .tc main_v27_2)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call2_v0 : DevRef τ sig).ty.Contents (Elt F)) = Cert.ReferenceIdeal.Step.b20 j s := by
  unfold Cert.ReferenceIdeal.Step.b20
  rw [← al_3 h, ← al_16 h, ← al_17 h, ← al_18 h, ← al_19 h, h.f_2]
  try rfl
set_option maxRecDepth 8192 in
theorem al_21 (h : Holds V0 s j) : (shapeCast S1x4x64x128 (Host.dynamicSlice S1x1x4x64x128 (V0 (Proc.devRef .tc main_v27_2)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128) shapeCasts_S1x1x4x64x128_S1x4x64x128 : (Proc.devRef .tc main_while0b_v44 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (constantI S_ 32 0#32 : (Proc.devRef .tc main_while0b_call3_c : DevRef τ sig).ty.Contents (Elt F)) = Cert.ReferenceIdeal.Step.b22 j s := by
  unfold Cert.ReferenceIdeal.Step.b22
  rfl
set_option maxRecDepth 8192 in
theorem al_23 (h : Holds V0 s j) : (constantI S_ 32 0#32 : (Proc.devRef .tc main_while0b_call3_c_0 : DevRef τ sig).ty.Contents (Elt F)) = Cert.ReferenceIdeal.Step.b23 j s := by
  unfold Cert.ReferenceIdeal.Step.b23
  rfl
set_option maxRecDepth 8192 in
theorem al_24 (h : Holds V0 s j) : (constantI S_ 32 0#32 : (Proc.devRef .tc main_while0b_call3_c_1 : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call3_c_2 : DevRef τ sig).ty.Contents (Elt F)) = Cert.ReferenceIdeal.Step.b25 j s := by
  unfold Cert.ReferenceIdeal.Step.b25
  rfl
set_option maxRecDepth 8192 in
theorem al_26 (h : Holds V0 s j) : (Host.dynamicSlice S1x1x4x64x128 (V0 (Proc.devRef .tc main_v27_3)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call3_v0 : DevRef τ sig).ty.Contents (Elt F)) = Cert.ReferenceIdeal.Step.b26 j s := by
  unfold Cert.ReferenceIdeal.Step.b26
  rw [← al_3 h, ← al_22 h, ← al_23 h, ← al_24 h, ← al_25 h, h.f_3]
  try rfl
set_option maxRecDepth 8192 in
theorem al_27 (h : Holds V0 s j) : (res_main_while0b_v45 V0 : (Proc.devRef .tc main_while0b_v45 : DevRef τ sig).ty.Contents (Elt F)) = Cert.ReferenceIdeal.Step.b27 j s := by
  unfold res_main_while0b_v45 Cert.ReferenceIdeal.Step.b27
  rw [← al_26 h]
  try rfl
set_option maxRecDepth 8192 in
theorem al_28 (h : Holds V0 s j) : (constantI S_ 32 0#32 : (Proc.devRef .tc main_while0b_call4_c : DevRef τ sig).ty.Contents (Elt F)) = Cert.ReferenceIdeal.Step.b28 j s := by
  unfold Cert.ReferenceIdeal.Step.b28
  rfl
set_option maxRecDepth 8192 in
theorem al_29 (h : Holds V0 s j) : (constantI S_ 32 0#32 : (Proc.devRef .tc main_while0b_call4_c_0 : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call4_c_1 : DevRef τ sig).ty.Contents (Elt F)) = Cert.ReferenceIdeal.Step.b30 j s := by
  unfold Cert.ReferenceIdeal.Step.b30
  rfl
set_option maxRecDepth 8192 in
theorem al_31 (h : Holds V0 s j) : (Host.dynamicSlice S1x1x4x64 (V0 (Proc.devRef .tc main_v27_4)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S64x1x4x64_S1x1x4x64 : (Proc.devRef .tc main_while0b_call4_v0 : DevRef τ sig).ty.Contents (Elt F)) = Cert.ReferenceIdeal.Step.b31 j s := by
  unfold Cert.ReferenceIdeal.Step.b31
  rw [← al_3 h, ← al_28 h, ← al_29 h, ← al_30 h, h.f_4]
  try rfl
set_option maxRecDepth 8192 in
theorem al_32 (h : Holds V0 s j) : (res_main_while0b_v46 V0 : (Proc.devRef .tc main_while0b_v46 : DevRef τ sig).ty.Contents (Elt F)) = Cert.ReferenceIdeal.Step.b32 j s := by
  unfold res_main_while0b_v46 Cert.ReferenceIdeal.Step.b32
  rw [← al_31 h]
  try rfl
set_option maxRecDepth 8192 in
theorem al_33 (h : Holds V0 s j) : (constantI S_ 32 0#32 : (Proc.devRef .tc main_while0b_call5_c : DevRef τ sig).ty.Contents (Elt F)) = Cert.ReferenceIdeal.Step.b33 j s := by
  unfold Cert.ReferenceIdeal.Step.b33
  rfl
set_option maxRecDepth 8192 in
theorem al_34 (h : Holds V0 s j) : (constantI S_ 32 0#32 : (Proc.devRef .tc main_while0b_call5_c_0 : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call5_c_1 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call5_c_2 : DevRef τ sig).ty.Contents (Elt F)) = Cert.ReferenceIdeal.Step.b36 j s := by
  unfold Cert.ReferenceIdeal.Step.b36
  rfl
set_option maxRecDepth 8192 in
theorem al_37 (h : Holds V0 s j) : (Host.dynamicSlice S1x1x4x64x64 (V0 (Proc.devRef .tc main_v27_5)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x64_S1x1x4x64x64 : (Proc.devRef .tc main_while0b_call5_v0 : DevRef τ sig).ty.Contents (Elt F)) = Cert.ReferenceIdeal.Step.b37 j s := by
  unfold Cert.ReferenceIdeal.Step.b37
  rw [← al_3 h, ← al_33 h, ← al_34 h, ← al_35 h, ← al_36 h, h.f_5]
  try rfl
set_option maxRecDepth 8192 in
theorem al_38 (h : Holds V0 s j) : (res_main_while0b_v47 V0 : (Proc.devRef .tc main_while0b_v47 : DevRef τ sig).ty.Contents (Elt F)) = Cert.ReferenceIdeal.Step.b38 j s := by
  unfold res_main_while0b_v47 Cert.ReferenceIdeal.Step.b38
  rw [← al_37 h]
  try rfl
set_option maxRecDepth 8192 in
theorem al_39 (h : Holds V0 s j) : (constantI S_ 32 0#32 : (Proc.devRef .tc main_while0b_call6_c : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call6_c_0 : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call6_c_1 : DevRef τ sig).ty.Contents (Elt F)) = Cert.ReferenceIdeal.Step.b41 j s := by
  unfold Cert.ReferenceIdeal.Step.b41
  rfl
set_option maxRecDepth 8192 in
theorem al_42 (h : Holds V0 s j) : (Host.dynamicSlice S1x4x128x128 (V0 (Proc.devRef .tc main_v27_6)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S64x4x128x128_S1x4x128x128 : (Proc.devRef .tc main_while0b_call6_v0 : DevRef τ sig).ty.Contents (Elt F)) = Cert.ReferenceIdeal.Step.b42 j s := by
  unfold Cert.ReferenceIdeal.Step.b42
  rw [← al_3 h, ← al_39 h, ← al_40 h, ← al_41 h, h.f_6]
  try rfl
set_option maxRecDepth 8192 in
theorem al_43 (h : Holds V0 s j) : (shapeCast S4x128x128 (Host.dynamicSlice S1x4x128x128 (V0 (Proc.devRef .tc main_v27_6)) (fun k => (((![res_main_while0b_v41 V0, constantI S_ 32 0#32, constantI S_ 32 0#32, constantI S_ 32 0#32] : Fin 4 → (⟨S_, .i32⟩ : BufTy).Contents (Elt F))) k (Shape.Idx.first h_S_)).toInt) sliceFits_S64x4x128x128_S1x4x128x128) shapeCasts_S1x4x128x128_S4x128x128 : (Proc.devRef .tc main_while0b_v48 : DevRef τ sig).ty.Contents (Elt F)) = Cert.ReferenceIdeal.Step.b43 j s := by
  unfold Cert.ReferenceIdeal.Step.b43
  rw [← al_42 h]
  try rfl
set_option maxRecDepth 8192 in
theorem al_44 (h : Holds V0 s j) : (constantI S_ 32 0#32 : (Proc.devRef .tc main_while0b_call7_c : DevRef τ sig).ty.Contents (Elt F)) = Cert.ReferenceIdeal.Step.b44 j s := by
  unfold Cert.ReferenceIdeal.Step.b44
  rfl
set_option maxRecDepth 8192 in
theorem al_45 (h : Holds V0 s j) : (constantI S_ 32 0#32 : (Proc.devRef .tc main_while0b_call7_c_0 : DevRef τ sig).ty.Contents (Elt F)) = Cert.ReferenceIdeal.Step.b45 j s := by
  unfold Cert.ReferenceIdeal.Step.b45
  rfl
set_option maxRecDepth 8192 in
theorem al_46 (h : Holds V0 s j) : (constantI S_ 32 0#32 : (Proc.devRef .tc main_while0b_call7_c_1 : DevRef τ sig).ty.Contents (Elt F)) = Cert.ReferenceIdeal.Step.b46 j s := by
  unfold Cert.ReferenceIdeal.Step.b46
  rfl
set_option maxRecDepth 8192 in
theorem al_47 (h : Holds V0 s j) : (constantI S_ 32 0#32 : (Proc.devRef .tc main_while0b_call7_c_2 : DevRef τ sig).ty.Contents (Elt F)) = Cert.ReferenceIdeal.Step.b47 j s := by
  unfold Cert.ReferenceIdeal.Step.b47
  rfl
set_option maxRecDepth 8192 in
theorem al_48 (h : Holds V0 s j) : (Host.dynamicSlice S1x1x4x64x128 (V0 (Proc.devRef .tc main_v27_7)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) sliceFits_S64x1x4x64x128_S1x1x4x64x128 : (Proc.devRef .tc main_while0b_call7_v0 : DevRef τ sig).ty.Contents (Elt F)) = Cert.ReferenceIdeal.Step.b48 j s := by
  unfold Cert.ReferenceIdeal.Step.b48
  rw [← al_3 h, ← al_44 h, ← al_45 h, ← al_46 h, ← al_47 h, h.f_7]
  try rfl
set_option maxRecDepth 8192 in
theorem al_49 (h : Holds V0 s j) : (res_main_while0b_v49 V0 : (Proc.devRef .tc main_while0b_v49 : DevRef τ sig).ty.Contents (Elt F)) = Cert.ReferenceIdeal.Step.b49 j s := by
  unfold res_main_while0b_v49 Cert.ReferenceIdeal.Step.b49
  rw [← al_48 h]
  try rfl
set_option maxRecDepth 8192 in
theorem al_50 (h : Holds V0 s j) : (res_main_while0b_v50 V0 : (Proc.devRef .tc main_while0b_v50 : DevRef τ sig).ty.Contents (Elt F)) = Cert.ReferenceIdeal.Step.b50 j s := by
  unfold res_main_while0b_v50 Cert.ReferenceIdeal.Step.b50
  rw [← al_43 h]
  try rfl
set_option maxRecDepth 8192 in
theorem al_51 (h : Holds V0 s j) : (Host.dotGeneral dot_S1x4x64x128_S1x4x128x128_S1x4x64x128_3_2_2_3_01_01 none (res_main_while0b_v45 V0) (res_main_while0b_v50 V0) : (Proc.devRef .tc main_while0b_v51 : DevRef τ sig).ty.Contents (Elt F)) = Cert.ReferenceIdeal.Step.b51 j s := by
  unfold Cert.ReferenceIdeal.Step.b51
  rw [← al_27 h, ← al_50 h]
  try rfl
set_option maxRecDepth 8192 in
theorem al_52 (h : Holds V0 s j) : (res_main_while0b_v52 V0 : (Proc.devRef .tc main_while0b_v52 : DevRef τ sig).ty.Contents (Elt F)) = Cert.ReferenceIdeal.Step.b52 j s := by
  unfold res_main_while0b_v52 Cert.ReferenceIdeal.Step.b52
  rw [← al_21 h, ← al_51 h]
  try rfl
set_option maxRecDepth 8192 in
theorem al_53 (h : Holds V0 s j) : (res_main_while0b_v53 V0 : (Proc.devRef .tc main_while0b_v53 : DevRef τ sig).ty.Contents (Elt F)) = Cert.ReferenceIdeal.Step.b53 j s := by
  unfold res_main_while0b_v53 Cert.ReferenceIdeal.Step.b53
  rw [← al_32 h]
  try rfl
set_option maxRecDepth 8192 in
theorem al_54 (h : Holds V0 s j) : (res_main_while0b_v54 V0 : (Proc.devRef .tc main_while0b_v54 : DevRef τ sig).ty.Contents (Elt F)) = Cert.ReferenceIdeal.Step.b54 j s := by
  unfold res_main_while0b_v54 Cert.ReferenceIdeal.Step.b54
  rw [← al_53 h]
  try rfl
set_option maxRecDepth 8192 in
theorem al_55 (h : Holds V0 s j) : (broadcastInDim S1x4x64x128 ![0, 1, 2, 3] bcast_S1x4x64x1_S1x4x64x128_0_1_2_3 (res_main_while0b_v54 V0) : (Proc.devRef .tc main_while0b_v55 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (res_main_while0b_v56 V0 : (Proc.devRef .tc main_while0b_v56 : DevRef τ sig).ty.Contents (Elt F)) = Cert.ReferenceIdeal.Step.b56 j s := by
  unfold res_main_while0b_v56 Cert.ReferenceIdeal.Step.b56
  rw [← al_9 h, ← al_55 h]
  try rfl
set_option maxRecDepth 8192 in
theorem al_57 (h : Holds V0 s j) : (Host.dotGeneral dot_S1x4x64x128_S1x4x128x128_S1x4x64x128_3_2_2_3_01_01 none (res_main_while0b_v56 V0) (res_main_while0b_v50 V0) : (Proc.devRef .tc main_while0b_v57 : DevRef τ sig).ty.Contents (Elt F)) = Cert.ReferenceIdeal.Step.b57 j s := by
  unfold Cert.ReferenceIdeal.Step.b57
  rw [← al_56 h, ← al_50 h]
  try rfl
set_option maxRecDepth 8192 in
theorem al_58 (h : Holds V0 s j) : (Host.dotGeneral dot_S1x4x64x64_S1x4x64x128_S1x4x64x128_3_2_2_3_01_01 none (res_main_while0b_v47 V0) (res_main_while0b_v52 V0) : (Proc.devRef .tc main_while0b_v58 : DevRef τ sig).ty.Contents (Elt F)) = Cert.ReferenceIdeal.Step.b58 j s := by
  unfold Cert.ReferenceIdeal.Step.b58
  rw [← al_38 h, ← al_52 h]
  try rfl
set_option maxRecDepth 8192 in
theorem al_59 (h : Holds V0 s j) : (addf (Host.dotGeneral dot_S1x4x64x128_S1x4x128x128_S1x4x64x128_3_2_2_3_01_01 none (res_main_while0b_v56 V0) (res_main_while0b_v50 V0)) (Host.dotGeneral dot_S1x4x64x64_S1x4x64x128_S1x4x64x128_3_2_2_3_01_01 none (res_main_while0b_v47 V0) (res_main_while0b_v52 V0)) : (Proc.devRef .tc main_while0b_v59 : DevRef τ sig).ty.Contents (Elt F)) = Cert.ReferenceIdeal.Step.b59 j s := by
  unfold Cert.ReferenceIdeal.Step.b59
  rw [← al_57 h, ← al_58 h]
  try rfl
set_option maxRecDepth 8192 in
theorem al_60 (h : Holds V0 s j) : (extractStridedSlice S1x4x1 ![0, 0, 63] (res_main_while0b_v46 V0) slices_S1x4x64_S1x4x1_0_0_63 : (Proc.devRef .tc main_while0b_v60 : DevRef τ sig).ty.Contents (Elt F)) = Cert.ReferenceIdeal.Step.b60 j s := by
  unfold Cert.ReferenceIdeal.Step.b60
  rw [← al_32 h]
  try rfl
set_option maxRecDepth 8192 in
theorem al_61 (h : Holds V0 s j) : (res_main_while0b_v61 V0 : (Proc.devRef .tc main_while0b_v61 : DevRef τ sig).ty.Contents (Elt F)) = Cert.ReferenceIdeal.Step.b61 j s := by
  unfold res_main_while0b_v61 Cert.ReferenceIdeal.Step.b61
  rw [← al_60 h]
  try rfl
set_option maxRecDepth 8192 in
theorem al_62 (h : Holds V0 s j) : (res_main_while0b_v62 V0 : (Proc.devRef .tc main_while0b_v62 : DevRef τ sig).ty.Contents (Elt F)) = Cert.ReferenceIdeal.Step.b62 j s := by
  unfold res_main_while0b_v62 Cert.ReferenceIdeal.Step.b62
  rw [← al_61 h]
  try rfl
set_option maxRecDepth 8192 in
theorem al_63 (h : Holds V0 s j) : (res_main_while0b_v63 V0 : (Proc.devRef .tc main_while0b_v63 : DevRef τ sig).ty.Contents (Elt F)) = Cert.ReferenceIdeal.Step.b63 j s := by
  unfold res_main_while0b_v63 Cert.ReferenceIdeal.Step.b63
  rw [← al_62 h]
  try rfl
set_option maxRecDepth 8192 in
theorem al_64 (h : Holds V0 s j) : (broadcastInDim S1x4x128x128 ![0, 1, 2, 3] bcast_S1x4x1x1_S1x4x128x128_0_1_2_3 (res_main_while0b_v63 V0) : (Proc.devRef .tc main_while0b_v64 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (mulf (res_main_while0b_v50 V0) (broadcastInDim S1x4x128x128 ![0, 1, 2, 3] bcast_S1x4x1x1_S1x4x128x128_0_1_2_3 (res_main_while0b_v63 V0)) : (Proc.devRef .tc main_while0b_v65 : DevRef τ sig).ty.Contents (Elt F)) = Cert.ReferenceIdeal.Step.b65 j s := by
  unfold Cert.ReferenceIdeal.Step.b65
  rw [← al_50 h, ← al_64 h]
  try rfl
set_option maxRecDepth 8192 in
theorem al_66 (h : Holds V0 s j) : (broadcastInDim S1x4x1 ![0, 1] bcast_S1x4_S1x4x1_0_1 (res_main_while0b_v61 V0) : (Proc.devRef .tc main_while0b_v66 : DevRef τ sig).ty.Contents (Elt F)) = Cert.ReferenceIdeal.Step.b66 j s := by
  unfold Cert.ReferenceIdeal.Step.b66
  rw [← al_61 h]
  try rfl
set_option maxRecDepth 8192 in
theorem al_67 (h : Holds V0 s j) : (broadcastInDim S1x4x64 ![0, 1, 2] bcast_S1x4x1_S1x4x64_0_1_2 (broadcastInDim S1x4x1 ![0, 1] bcast_S1x4_S1x4x1_0_1 (res_main_while0b_v61 V0)) : (Proc.devRef .tc main_while0b_v67 : DevRef τ sig).ty.Contents (Elt F)) = Cert.ReferenceIdeal.Step.b67 j s := by
  unfold Cert.ReferenceIdeal.Step.b67
  rw [← al_66 h]
  try rfl
set_option maxRecDepth 8192 in
theorem al_68 (h : Holds V0 s j) : (subf (broadcastInDim S1x4x64 ![0, 1, 2] bcast_S1x4x1_S1x4x64_0_1_2 (broadcastInDim S1x4x1 ![0, 1] bcast_S1x4_S1x4x1_0_1 (res_main_while0b_v61 V0))) (res_main_while0b_v46 V0) : (Proc.devRef .tc main_while0b_v68 : DevRef τ sig).ty.Contents (Elt F)) = Cert.ReferenceIdeal.Step.b68 j s := by
  unfold Cert.ReferenceIdeal.Step.b68
  rw [← al_67 h, ← al_32 h]
  try rfl
set_option maxRecDepth 8192 in
theorem al_69 (h : Holds V0 s j) : (res_main_while0b_v69 V0 : (Proc.devRef .tc main_while0b_v69 : DevRef τ sig).ty.Contents (Elt F)) = Cert.ReferenceIdeal.Step.b69 j s := by
  unfold res_main_while0b_v69 Cert.ReferenceIdeal.Step.b69
  rw [← al_68 h]
  try rfl
set_option maxRecDepth 8192 in
theorem al_70 (h : Holds V0 s j) : (res_main_while0b_v70 V0 : (Proc.devRef .tc main_while0b_v70 : DevRef τ sig).ty.Contents (Elt F)) = Cert.ReferenceIdeal.Step.b70 j s := by
  unfold res_main_while0b_v70 Cert.ReferenceIdeal.Step.b70
  rw [← al_69 h]
  try rfl
set_option maxRecDepth 8192 in
theorem al_71 (h : Holds V0 s j) : (broadcastInDim S1x4x64x128 ![0, 1, 2, 3] bcast_S1x4x64x1_S1x4x64x128_0_1_2_3 (res_main_while0b_v70 V0) : (Proc.devRef .tc main_while0b_v71 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (res_main_while0b_v72 V0 : (Proc.devRef .tc main_while0b_v72 : DevRef τ sig).ty.Contents (Elt F)) = Cert.ReferenceIdeal.Step.b72 j s := by
  unfold res_main_while0b_v72 Cert.ReferenceIdeal.Step.b72
  rw [← al_15 h, ← al_71 h]
  try rfl
set_option maxRecDepth 8192 in
theorem al_73 (h : Holds V0 s j) : (Host.dotGeneral dot_S1x4x64x128_S1x4x64x128_S1x4x128x128_2_2_3_3_01_01 none (res_main_while0b_v72 V0) (res_main_while0b_v52 V0) : (Proc.devRef .tc main_while0b_v73 : DevRef τ sig).ty.Contents (Elt F)) = Cert.ReferenceIdeal.Step.b73 j s := by
  unfold Cert.ReferenceIdeal.Step.b73
  rw [← al_72 h, ← al_52 h]
  try rfl
set_option maxRecDepth 8192 in
theorem al_74 (h : Holds V0 s j) : (addf (mulf (res_main_while0b_v50 V0) (broadcastInDim S1x4x128x128 ![0, 1, 2, 3] bcast_S1x4x1x1_S1x4x128x128_0_1_2_3 (res_main_while0b_v63 V0))) (Host.dotGeneral dot_S1x4x64x128_S1x4x64x128_S1x4x128x128_2_2_3_3_01_01 none (res_main_while0b_v72 V0) (res_main_while0b_v52 V0)) : (Proc.devRef .tc main_while0b_v74 : DevRef τ sig).ty.Contents (Elt F)) = Cert.ReferenceIdeal.Step.b74 j s := by
  unfold Cert.ReferenceIdeal.Step.b74
  rw [← al_65 h, ← al_73 h]
  try rfl
set_option maxRecDepth 8192 in
theorem al_75 (h : Holds V0 s j) : (Host.dotGeneral dot_S1x4x128x128_S1x4x64x128_S1x4x128x64_2_3_3_2_01_01 none (V0 (Proc.devRef .tc main_v27_9)) (res_main_while0b_v72 V0) : (Proc.devRef .tc main_while0b_v75 : DevRef τ sig).ty.Contents (Elt F)) = Cert.ReferenceIdeal.Step.b75 j s := by
  unfold Cert.ReferenceIdeal.Step.b75
  rw [← al_72 h, h.f_9]
  try rfl
set_option maxRecDepth 8192 in
theorem al_76 (h : Holds V0 s j) : (transpose S1x4x64x128 [0, 1, 3, 2] (Host.dotGeneral dot_S1x4x128x128_S1x4x64x128_S1x4x128x64_2_3_3_2_01_01 none (V0 (Proc.devRef .tc main_v27_9)) (res_main_while0b_v72 V0)) transposes_S1x4x128x64_S1x4x64x128_0_1_3_2 : (Proc.devRef .tc main_while0b_v76 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (Host.dotGeneral dot_S1x4x128x128_S1x4x64x128_S1x4x128x64_3_3_2_2_01_01 none (V0 (Proc.devRef .tc main_v27_9)) (res_main_while0b_v52 V0) : (Proc.devRef .tc main_while0b_v77 : DevRef τ sig).ty.Contents (Elt F)) = Cert.ReferenceIdeal.Step.b77 j s := by
  unfold Cert.ReferenceIdeal.Step.b77
  rw [← al_52 h, h.f_9]
  try rfl
set_option maxRecDepth 8192 in
theorem al_78 (h : Holds V0 s j) : (res_main_while0b_v78 V0 : (Proc.devRef .tc main_while0b_v78 : DevRef τ sig).ty.Contents (Elt F)) = Cert.ReferenceIdeal.Step.b78 j s := by
  unfold res_main_while0b_v78 Cert.ReferenceIdeal.Step.b78
  rw [← al_77 h]
  try rfl
set_option maxRecDepth 8192 in
theorem al_79 (h : Holds V0 s j) : (mulf (res_main_while0b_v43 V0) (res_main_while0b_v78 V0) : (Proc.devRef .tc main_while0b_v79 : DevRef τ sig).ty.Contents (Elt F)) = Cert.ReferenceIdeal.Step.b79 j s := by
  unfold Cert.ReferenceIdeal.Step.b79
  rw [← al_15 h, ← al_78 h]
  try rfl
set_option maxRecDepth 8192 in
theorem al_80 (h : Holds V0 s j) : (constant S_ .f32 0x00000000#32 : (Proc.devRef .tc main_while0b_cst_24 : DevRef τ sig).ty.Contents (Elt F)) = Cert.ReferenceIdeal.Step.b80 j s := by
  unfold Cert.ReferenceIdeal.Step.b80
  rfl
set_option maxRecDepth 8192 in
theorem al_81 (h : Holds V0 s j) : (Host.reduceAdd (mulf (res_main_while0b_v43 V0) (res_main_while0b_v78 V0)) (constant S_ .f32 0x00000000#32) reducesTo_S1x4x64x128_S1x4x64_d3 h_S_ : (Proc.devRef .tc main_while0b_v80 : DevRef τ sig).ty.Contents (Elt F)) = Cert.ReferenceIdeal.Step.b81 j s := by
  unfold Cert.ReferenceIdeal.Step.b81
  rw [← al_79 h, ← al_80 h]
  try rfl
set_option maxRecDepth 8192 in
theorem al_82 (h : Holds V0 s j) : (shapeCast S1x4x64x1 (Host.reduceAdd (mulf (res_main_while0b_v43 V0) (res_main_while0b_v78 V0)) (constant S_ .f32 0x00000000#32) reducesTo_S1x4x64x128_S1x4x64_d3 h_S_) shapeCasts_S1x4x64_S1x4x64x1 : (Proc.devRef .tc main_while0b_v81 : DevRef τ sig).ty.Contents (Elt F)) = Cert.ReferenceIdeal.Step.b82 j s := by
  unfold Cert.ReferenceIdeal.Step.b82
  rw [← al_81 h]
  try rfl
set_option maxRecDepth 8192 in
theorem al_83 (h : Holds V0 s j) : (broadcastInDim S1x4x64x128 ![0, 1, 2, 3] bcast_S1x4x64x1_S1x4x64x128_0_1_2_3 (res_main_while0b_v70 V0) : (Proc.devRef .tc main_while0b_v82 : DevRef τ sig).ty.Contents (Elt F)) = Cert.ReferenceIdeal.Step.b83 j s := by
  unfold Cert.ReferenceIdeal.Step.b83
  rw [← al_70 h]
  try rfl
set_option maxRecDepth 8192 in
theorem al_84 (h : Holds V0 s j) : (mulf (res_main_while0b_v78 V0) (broadcastInDim S1x4x64x128 ![0, 1, 2, 3] bcast_S1x4x64x1_S1x4x64x128_0_1_2_3 (res_main_while0b_v70 V0)) : (Proc.devRef .tc main_while0b_v83 : DevRef τ sig).ty.Contents (Elt F)) = Cert.ReferenceIdeal.Step.b84 j s := by
  unfold Cert.ReferenceIdeal.Step.b84
  rw [← al_78 h, ← al_83 h]
  try rfl
set_option maxRecDepth 8192 in
theorem al_85 (h : Holds V0 s j) : (constant S_ .f32 0x00000000#32 : (Proc.devRef .tc main_while0b_cst_25 : DevRef τ sig).ty.Contents (Elt F)) = Cert.ReferenceIdeal.Step.b85 j s := by
  unfold Cert.ReferenceIdeal.Step.b85
  rfl
set_option maxRecDepth 8192 in
theorem al_86 (h : Holds V0 s j) : (Host.reduceAdd (shapeCast S1x4x64x1 (Host.reduceAdd (mulf (res_main_while0b_v43 V0) (res_main_while0b_v78 V0)) (constant S_ .f32 0x00000000#32) reducesTo_S1x4x64x128_S1x4x64_d3 h_S_) shapeCasts_S1x4x64_S1x4x64x1) (constant S_ .f32 0x00000000#32) reducesTo_S1x4x64x1_S4x64_d0_3 h_S_ : (Proc.devRef .tc main_while0b_v84 : DevRef τ sig).ty.Contents (Elt F)) = Cert.ReferenceIdeal.Step.b86 j s := by
  unfold Cert.ReferenceIdeal.Step.b86
  rw [← al_82 h, ← al_85 h]
  try rfl
set_option maxRecDepth 8192 in
theorem al_87 (h : Holds V0 s j) : (broadcastInDim S1x4x64 ![1, 2] bcast_S4x64_S1x4x64_1_2 (Host.reduceAdd (shapeCast S1x4x64x1 (Host.reduceAdd (mulf (res_main_while0b_v43 V0) (res_main_while0b_v78 V0)) (constant S_ .f32 0x00000000#32) reducesTo_S1x4x64x128_S1x4x64_d3 h_S_) shapeCasts_S1x4x64_S1x4x64x1) (constant S_ .f32 0x00000000#32) reducesTo_S1x4x64x1_S4x64_d0_3 h_S_) : (Proc.devRef .tc main_while0b_v85 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (res_main_while0b_v86 V0 : (Proc.devRef .tc main_while0b_v86 : DevRef τ sig).ty.Contents (Elt F)) = Cert.ReferenceIdeal.Step.b88 j s := by
  unfold res_main_while0b_v86 Cert.ReferenceIdeal.Step.b88
  rw [← al_87 h, ← al_69 h]
  try rfl
set_option maxRecDepth 8192 in
theorem al_89 (h : Holds V0 s j) : (constant S_ .f32 0x00000000#32 : (Proc.devRef .tc main_while0b_cst_26 : DevRef τ sig).ty.Contents (Elt F)) = Cert.ReferenceIdeal.Step.b89 j s := by
  unfold Cert.ReferenceIdeal.Step.b89
  rfl
set_option maxRecDepth 8192 in
theorem al_90 (h : Holds V0 s j) : (Host.reduceAdd (res_main_while0b_v86 V0) (constant S_ .f32 0x00000000#32) reducesTo_S1x4x64_S1x4_d2 h_S_ : (Proc.devRef .tc main_while0b_v87 : DevRef τ sig).ty.Contents (Elt F)) = Cert.ReferenceIdeal.Step.b90 j s := by
  unfold Cert.ReferenceIdeal.Step.b90
  rw [← al_88 h, ← al_89 h]
  try rfl
set_option maxRecDepth 8192 in
theorem al_91 (h : Holds V0 s j) : (shapeCast S1x4x1 (Host.reduceAdd (res_main_while0b_v86 V0) (constant S_ .f32 0x00000000#32) reducesTo_S1x4x64_S1x4_d2 h_S_) shapeCasts_S1x4_S1x4x1 : (Proc.devRef .tc main_while0b_v88 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (Host.negf (res_main_while0b_v86 V0) : (Proc.devRef .tc main_while0b_v89 : DevRef τ sig).ty.Contents (Elt F)) = Cert.ReferenceIdeal.Step.b92 j s := by
  unfold Cert.ReferenceIdeal.Step.b92
  rw [← al_88 h]
  try rfl
set_option maxRecDepth 8192 in
theorem al_93 (h : Holds V0 s j) : (constant S_ .f32 0x00000000#32 : (Proc.devRef .tc main_while0b_cst_27 : DevRef τ sig).ty.Contents (Elt F)) = Cert.ReferenceIdeal.Step.b93 j s := by
  unfold Cert.ReferenceIdeal.Step.b93
  rfl
set_option maxRecDepth 8192 in
theorem al_94 (h : Holds V0 s j) : (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_ : (Proc.devRef .tc main_while0b_v90 : DevRef τ sig).ty.Contents (Elt F)) = Cert.ReferenceIdeal.Step.b94 j s := by
  unfold Cert.ReferenceIdeal.Step.b94
  rw [← al_91 h, ← al_93 h]
  try rfl
set_option maxRecDepth 8192 in
theorem al_95 (h : Holds V0 s j) : (broadcastInDim S1x4 ![1] bcast_S4_S1x4_1 (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_) : (Proc.devRef .tc main_while0b_v91 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (mulf (res_main_while0b_v50 V0) (V0 (Proc.devRef .tc main_v27_9)) : (Proc.devRef .tc main_while0b_v92 : DevRef τ sig).ty.Contents (Elt F)) = Cert.ReferenceIdeal.Step.b96 j s := by
  unfold Cert.ReferenceIdeal.Step.b96
  rw [← al_50 h, h.f_9]
  try rfl
set_option maxRecDepth 8192 in
theorem al_97 (h : Holds V0 s j) : (constant S_ .f32 0x00000000#32 : (Proc.devRef .tc main_while0b_cst_28 : DevRef τ sig).ty.Contents (Elt F)) = Cert.ReferenceIdeal.Step.b97 j s := by
  unfold Cert.ReferenceIdeal.Step.b97
  rfl
set_option maxRecDepth 8192 in
theorem al_98 (h : Holds V0 s j) : (Host.reduceAdd (mulf (res_main_while0b_v50 V0) (V0 (Proc.devRef .tc main_v27_9))) (constant S_ .f32 0x00000000#32) reducesTo_S1x4x128x128_S1x4_d2_3 h_S_ : (Proc.devRef .tc main_while0b_v93 : DevRef τ sig).ty.Contents (Elt F)) = Cert.ReferenceIdeal.Step.b98 j s := by
  unfold Cert.ReferenceIdeal.Step.b98
  rw [← al_96 h, ← al_97 h]
  try rfl
set_option maxRecDepth 8192 in
theorem al_99 (h : Holds V0 s j) : (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1 : (Proc.devRef .tc main_while0b_v94 : DevRef τ sig).ty.Contents (Elt F)) = Cert.ReferenceIdeal.Step.b99 j s := by
  unfold Cert.ReferenceIdeal.Step.b99
  rw [← al_98 h]
  try rfl
set_option maxRecDepth 8192 in
theorem al_100 (h : Holds V0 s j) : (broadcastInDim S1x4x128x128 ![0, 1, 2, 3] bcast_S1x4x1x1_S1x4x128x128_0_1_2_3 (res_main_while0b_v63 V0) : (Proc.devRef .tc main_while0b_v95 : DevRef τ sig).ty.Contents (Elt F)) = Cert.ReferenceIdeal.Step.b100 j s := by
  unfold Cert.ReferenceIdeal.Step.b100
  rw [← al_63 h]
  try rfl
set_option maxRecDepth 8192 in
theorem al_101 (h : Holds V0 s j) : (mulf (V0 (Proc.devRef .tc main_v27_9)) (broadcastInDim S1x4x128x128 ![0, 1, 2, 3] bcast_S1x4x1x1_S1x4x128x128_0_1_2_3 (res_main_while0b_v63 V0)) : (Proc.devRef .tc main_while0b_v96 : DevRef τ sig).ty.Contents (Elt F)) = Cert.ReferenceIdeal.Step.b101 j s := by
  unfold Cert.ReferenceIdeal.Step.b101
  rw [← al_100 h, h.f_9]
  try rfl
set_option maxRecDepth 8192 in
theorem al_102 (h : Holds V0 s j) : (constant S_ .f32 0x00000000#32 : (Proc.devRef .tc main_while0b_cst_29 : DevRef τ sig).ty.Contents (Elt F)) = Cert.ReferenceIdeal.Step.b102 j s := by
  unfold Cert.ReferenceIdeal.Step.b102
  rfl
set_option maxRecDepth 8192 in
theorem al_103 (h : Holds V0 s j) : (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_ : (Proc.devRef .tc main_while0b_v97 : DevRef τ sig).ty.Contents (Elt F)) = Cert.ReferenceIdeal.Step.b103 j s := by
  unfold Cert.ReferenceIdeal.Step.b103
  rw [← al_99 h, ← al_102 h]
  try rfl
set_option maxRecDepth 8192 in
theorem al_104 (h : Holds V0 s j) : (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_) : (Proc.devRef .tc main_while0b_v98 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (mulf (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_)) (res_main_while0b_v62 V0) : (Proc.devRef .tc main_while0b_v99 : DevRef τ sig).ty.Contents (Elt F)) = Cert.ReferenceIdeal.Step.b105 j s := by
  unfold Cert.ReferenceIdeal.Step.b105
  rw [← al_104 h, ← al_62 h]
  try rfl
set_option maxRecDepth 8192 in
theorem al_106 (h : Holds V0 s j) : (addf (broadcastInDim S1x4 ![1] bcast_S4_S1x4_1 (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_)) (mulf (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_)) (res_main_while0b_v62 V0)) : (Proc.devRef .tc main_while0b_v100 : DevRef τ sig).ty.Contents (Elt F)) = Cert.ReferenceIdeal.Step.b106 j s := by
  unfold Cert.ReferenceIdeal.Step.b106
  rw [← al_95 h, ← al_105 h]
  try rfl
set_option maxRecDepth 8192 in
theorem al_107 (h : Holds V0 s j) : (broadcastInDim S1x4x1 ![0, 1] bcast_S1x4_S1x4x1_0_1 (addf (broadcastInDim S1x4 ![1] bcast_S4_S1x4_1 (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_)) (mulf (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_)) (res_main_while0b_v62 V0))) : (Proc.devRef .tc main_while0b_v101 : DevRef τ sig).ty.Contents (Elt F)) = Cert.ReferenceIdeal.Step.b107 j s := by
  unfold Cert.ReferenceIdeal.Step.b107
  rw [← al_106 h]
  try rfl
set_option maxRecDepth 8192 in
theorem al_108 (h : Holds V0 s j) : (constant S_ .f32 0x00000000#32 : (Proc.devRef .tc main_while0b_cst_30 : DevRef τ sig).ty.Contents (Elt F)) = Cert.ReferenceIdeal.Step.b108 j s := by
  unfold Cert.ReferenceIdeal.Step.b108
  rfl
set_option maxRecDepth 8192 in
theorem al_109 (h : Holds V0 s j) : (pad S1x4x64 ![0, 0, 63] ![0, 0, 0] ![0, 0, 0] (broadcastInDim S1x4x1 ![0, 1] bcast_S1x4_S1x4x1_0_1 (addf (broadcastInDim S1x4 ![1] bcast_S4_S1x4_1 (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_)) (mulf (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_)) (res_main_while0b_v62 V0)))) (constant S_ .f32 0x00000000#32) pads_S1x4x1_S1x4x64_000_000_6300 h_S_ : (Proc.devRef .tc main_while0b_v102 : DevRef τ sig).ty.Contents (Elt F)) = Cert.ReferenceIdeal.Step.b109 j s := by
  unfold Cert.ReferenceIdeal.Step.b109
  rw [← al_107 h, ← al_108 h]
  try rfl
set_option maxRecDepth 8192 in
theorem al_110 (h : Holds V0 s j) : (addf (Host.negf (res_main_while0b_v86 V0)) (pad S1x4x64 ![0, 0, 63] ![0, 0, 0] ![0, 0, 0] (broadcastInDim S1x4x1 ![0, 1] bcast_S1x4_S1x4x1_0_1 (addf (broadcastInDim S1x4 ![1] bcast_S4_S1x4_1 (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_)) (mulf (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_)) (res_main_while0b_v62 V0)))) (constant S_ .f32 0x00000000#32) pads_S1x4x1_S1x4x64_000_000_6300 h_S_) : (Proc.devRef .tc main_while0b_v103 : DevRef τ sig).ty.Contents (Elt F)) = Cert.ReferenceIdeal.Step.b110 j s := by
  unfold Cert.ReferenceIdeal.Step.b110
  rw [← al_92 h, ← al_109 h]
  try rfl
set_option maxRecDepth 8192 in
theorem al_111 (h : Holds V0 s j) : (Host.dotGeneral dot_S1x4x64x128_S1x4x64x64_S1x4x128x64_2_2_3_3_01_01 none (res_main_while0b_v49 V0) (res_main_while0b_v47 V0) : (Proc.devRef .tc main_while0b_v104 : DevRef τ sig).ty.Contents (Elt F)) = Cert.ReferenceIdeal.Step.b111 j s := by
  unfold Cert.ReferenceIdeal.Step.b111
  rw [← al_49 h, ← al_38 h]
  try rfl
set_option maxRecDepth 8192 in
theorem al_112 (h : Holds V0 s j) : (transpose S1x4x64x128 [0, 1, 3, 2] (Host.dotGeneral dot_S1x4x64x128_S1x4x64x64_S1x4x128x64_2_2_3_3_01_01 none (res_main_while0b_v49 V0) (res_main_while0b_v47 V0)) transposes_S1x4x128x64_S1x4x64x128_0_1_3_2 : (Proc.devRef .tc main_while0b_v105 : DevRef τ sig).ty.Contents (Elt F)) = Cert.ReferenceIdeal.Step.b112 j s := by
  unfold Cert.ReferenceIdeal.Step.b112
  rw [← al_111 h]
  try rfl
set_option maxRecDepth 8192 in
theorem al_113 (h : Holds V0 s j) : (res_main_while0b_v106 V0 : (Proc.devRef .tc main_while0b_v106 : DevRef τ sig).ty.Contents (Elt F)) = Cert.ReferenceIdeal.Step.b113 j s := by
  unfold res_main_while0b_v106 Cert.ReferenceIdeal.Step.b113
  rw [← al_76 h, ← al_112 h]
  try rfl
set_option maxRecDepth 8192 in
theorem al_114 (h : Holds V0 s j) : (Host.dotGeneral dot_S1x4x64x128_S1x4x64x128_S1x4x64x64_3_3_2_2_01_01 none (res_main_while0b_v49 V0) (res_main_while0b_v52 V0) : (Proc.devRef .tc main_while0b_v107 : DevRef τ sig).ty.Contents (Elt F)) = Cert.ReferenceIdeal.Step.b114 j s := by
  unfold Cert.ReferenceIdeal.Step.b114
  rw [← al_49 h, ← al_52 h]
  try rfl
set_option maxRecDepth 8192 in
theorem al_115 (h : Holds V0 s j) : (Host.dotGeneral dot_S1x4x64x128_S1x4x64x128_S1x4x128x128_2_2_3_3_01_01 none (res_main_while0b_v49 V0) (res_main_while0b_v56 V0) : (Proc.devRef .tc main_while0b_v108 : DevRef τ sig).ty.Contents (Elt F)) = Cert.ReferenceIdeal.Step.b115 j s := by
  unfold Cert.ReferenceIdeal.Step.b115
  rw [← al_49 h, ← al_56 h]
  try rfl
set_option maxRecDepth 8192 in
theorem al_116 (h : Holds V0 s j) : (transpose S1x4x128x128 [0, 1, 3, 2] (Host.dotGeneral dot_S1x4x64x128_S1x4x64x128_S1x4x128x128_2_2_3_3_01_01 none (res_main_while0b_v49 V0) (res_main_while0b_v56 V0)) transposes_S1x4x128x128_S1x4x128x128_0_1_3_2 : (Proc.devRef .tc main_while0b_v109 : DevRef τ sig).ty.Contents (Elt F)) = Cert.ReferenceIdeal.Step.b116 j s := by
  unfold Cert.ReferenceIdeal.Step.b116
  rw [← al_115 h]
  try rfl
set_option maxRecDepth 8192 in
theorem al_117 (h : Holds V0 s j) : (addf (mulf (V0 (Proc.devRef .tc main_v27_9)) (broadcastInDim S1x4x128x128 ![0, 1, 2, 3] bcast_S1x4x1x1_S1x4x128x128_0_1_2_3 (res_main_while0b_v63 V0))) (transpose S1x4x128x128 [0, 1, 3, 2] (Host.dotGeneral dot_S1x4x64x128_S1x4x64x128_S1x4x128x128_2_2_3_3_01_01 none (res_main_while0b_v49 V0) (res_main_while0b_v56 V0)) transposes_S1x4x128x128_S1x4x128x128_0_1_3_2) : (Proc.devRef .tc main_while0b_v110 : DevRef τ sig).ty.Contents (Elt F)) = Cert.ReferenceIdeal.Step.b117 j s := by
  unfold Cert.ReferenceIdeal.Step.b117
  rw [← al_101 h, ← al_116 h]
  try rfl
set_option maxRecDepth 8192 in
theorem al_118 (h : Holds V0 s j) : (res_main_while0b_v111 V0 : (Proc.devRef .tc main_while0b_v111 : DevRef τ sig).ty.Contents (Elt F)) = Cert.ReferenceIdeal.Step.b118 j s := by
  unfold res_main_while0b_v111 Cert.ReferenceIdeal.Step.b118
  rw [← al_49 h, ← al_50 h]
  try rfl
set_option maxRecDepth 8192 in
theorem al_119 (h : Holds V0 s j) : (mulf (res_main_while0b_v42 V0) (res_main_while0b_v111 V0) : (Proc.devRef .tc main_while0b_v112 : DevRef τ sig).ty.Contents (Elt F)) = Cert.ReferenceIdeal.Step.b119 j s := by
  unfold Cert.ReferenceIdeal.Step.b119
  rw [← al_9 h, ← al_118 h]
  try rfl
set_option maxRecDepth 8192 in
theorem al_120 (h : Holds V0 s j) : (constant S_ .f32 0x00000000#32 : (Proc.devRef .tc main_while0b_cst_31 : DevRef τ sig).ty.Contents (Elt F)) = Cert.ReferenceIdeal.Step.b120 j s := by
  unfold Cert.ReferenceIdeal.Step.b120
  rfl
set_option maxRecDepth 8192 in
theorem al_121 (h : Holds V0 s j) : (Host.reduceAdd (mulf (res_main_while0b_v42 V0) (res_main_while0b_v111 V0)) (constant S_ .f32 0x00000000#32) reducesTo_S1x4x64x128_S1x4x64_d3 h_S_ : (Proc.devRef .tc main_while0b_v113 : DevRef τ sig).ty.Contents (Elt F)) = Cert.ReferenceIdeal.Step.b121 j s := by
  unfold Cert.ReferenceIdeal.Step.b121
  rw [← al_119 h, ← al_120 h]
  try rfl
set_option maxRecDepth 8192 in
theorem al_122 (h : Holds V0 s j) : (shapeCast S1x4x64x1 (Host.reduceAdd (mulf (res_main_while0b_v42 V0) (res_main_while0b_v111 V0)) (constant S_ .f32 0x00000000#32) reducesTo_S1x4x64x128_S1x4x64_d3 h_S_) shapeCasts_S1x4x64_S1x4x64x1 : (Proc.devRef .tc main_while0b_v114 : DevRef τ sig).ty.Contents (Elt F)) = Cert.ReferenceIdeal.Step.b122 j s := by
  unfold Cert.ReferenceIdeal.Step.b122
  rw [← al_121 h]
  try rfl
set_option maxRecDepth 8192 in
theorem al_123 (h : Holds V0 s j) : (broadcastInDim S1x4x64x128 ![0, 1, 2, 3] bcast_S1x4x64x1_S1x4x64x128_0_1_2_3 (res_main_while0b_v54 V0) : (Proc.devRef .tc main_while0b_v115 : DevRef τ sig).ty.Contents (Elt F)) = Cert.ReferenceIdeal.Step.b123 j s := by
  unfold Cert.ReferenceIdeal.Step.b123
  rw [← al_54 h]
  try rfl
set_option maxRecDepth 8192 in
theorem al_124 (h : Holds V0 s j) : (mulf (res_main_while0b_v111 V0) (broadcastInDim S1x4x64x128 ![0, 1, 2, 3] bcast_S1x4x64x1_S1x4x64x128_0_1_2_3 (res_main_while0b_v54 V0)) : (Proc.devRef .tc main_while0b_v116 : DevRef τ sig).ty.Contents (Elt F)) = Cert.ReferenceIdeal.Step.b124 j s := by
  unfold Cert.ReferenceIdeal.Step.b124
  rw [← al_118 h, ← al_123 h]
  try rfl
set_option maxRecDepth 8192 in
theorem al_125 (h : Holds V0 s j) : (constant S_ .f32 0x00000000#32 : (Proc.devRef .tc main_while0b_cst_32 : DevRef τ sig).ty.Contents (Elt F)) = Cert.ReferenceIdeal.Step.b125 j s := by
  unfold Cert.ReferenceIdeal.Step.b125
  rfl
set_option maxRecDepth 8192 in
theorem al_126 (h : Holds V0 s j) : (Host.reduceAdd (shapeCast S1x4x64x1 (Host.reduceAdd (mulf (res_main_while0b_v42 V0) (res_main_while0b_v111 V0)) (constant S_ .f32 0x00000000#32) reducesTo_S1x4x64x128_S1x4x64_d3 h_S_) shapeCasts_S1x4x64_S1x4x64x1) (constant S_ .f32 0x00000000#32) reducesTo_S1x4x64x1_S4x64_d0_3 h_S_ : (Proc.devRef .tc main_while0b_v117 : DevRef τ sig).ty.Contents (Elt F)) = Cert.ReferenceIdeal.Step.b126 j s := by
  unfold Cert.ReferenceIdeal.Step.b126
  rw [← al_122 h, ← al_125 h]
  try rfl
set_option maxRecDepth 8192 in
theorem al_127 (h : Holds V0 s j) : (broadcastInDim S1x4x64 ![1, 2] bcast_S4x64_S1x4x64_1_2 (Host.reduceAdd (shapeCast S1x4x64x1 (Host.reduceAdd (mulf (res_main_while0b_v42 V0) (res_main_while0b_v111 V0)) (constant S_ .f32 0x00000000#32) reducesTo_S1x4x64x128_S1x4x64_d3 h_S_) shapeCasts_S1x4x64_S1x4x64x1) (constant S_ .f32 0x00000000#32) reducesTo_S1x4x64x1_S4x64_d0_3 h_S_) : (Proc.devRef .tc main_while0b_v118 : DevRef τ sig).ty.Contents (Elt F)) = Cert.ReferenceIdeal.Step.b127 j s := by
  unfold Cert.ReferenceIdeal.Step.b127
  rw [← al_126 h]
  try rfl
set_option maxRecDepth 8192 in
theorem al_128 (h : Holds V0 s j) : (mulf (broadcastInDim S1x4x64 ![1, 2] bcast_S4x64_S1x4x64_1_2 (Host.reduceAdd (shapeCast S1x4x64x1 (Host.reduceAdd (mulf (res_main_while0b_v42 V0) (res_main_while0b_v111 V0)) (constant S_ .f32 0x00000000#32) reducesTo_S1x4x64x128_S1x4x64_d3 h_S_) shapeCasts_S1x4x64_S1x4x64x1) (constant S_ .f32 0x00000000#32) reducesTo_S1x4x64x1_S4x64_d0_3 h_S_)) (res_main_while0b_v53 V0) : (Proc.devRef .tc main_while0b_v119 : DevRef τ sig).ty.Contents (Elt F)) = Cert.ReferenceIdeal.Step.b128 j s := by
  unfold Cert.ReferenceIdeal.Step.b128
  rw [← al_127 h, ← al_53 h]
  try rfl
set_option maxRecDepth 8192 in
theorem al_129 (h : Holds V0 s j) : (addf (addf (Host.negf (res_main_while0b_v86 V0)) (pad S1x4x64 ![0, 0, 63] ![0, 0, 0] ![0, 0, 0] (broadcastInDim S1x4x1 ![0, 1] bcast_S1x4_S1x4x1_0_1 (addf (broadcastInDim S1x4 ![1] bcast_S4_S1x4_1 (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_)) (mulf (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_)) (res_main_while0b_v62 V0)))) (constant S_ .f32 0x00000000#32) pads_S1x4x1_S1x4x64_000_000_6300 h_S_)) (mulf (broadcastInDim S1x4x64 ![1, 2] bcast_S4x64_S1x4x64_1_2 (Host.reduceAdd (shapeCast S1x4x64x1 (Host.reduceAdd (mulf (res_main_while0b_v42 V0) (res_main_while0b_v111 V0)) (constant S_ .f32 0x00000000#32) reducesTo_S1x4x64x128_S1x4x64_d3 h_S_) shapeCasts_S1x4x64_S1x4x64x1) (constant S_ .f32 0x00000000#32) reducesTo_S1x4x64x1_S4x64_d0_3 h_S_)) (res_main_while0b_v53 V0)) : (Proc.devRef .tc main_while0b_v120 : DevRef τ sig).ty.Contents (Elt F)) = Cert.ReferenceIdeal.Step.b129 j s := by
  unfold Cert.ReferenceIdeal.Step.b129
  rw [← al_110 h, ← al_128 h]
  try rfl
set_option maxRecDepth 8192 in
theorem al_130 (h : Holds V0 s j) : (res_main_while0b_v121 V0 : (Proc.devRef .tc main_while0b_v121 : DevRef τ sig).ty.Contents (Elt F)) = Cert.ReferenceIdeal.Step.b130 j s := by
  unfold res_main_while0b_v121 Cert.ReferenceIdeal.Step.b130
  rw [← al_113 h]
  try rfl
set_option maxRecDepth 8192 in
theorem al_131 (h : Holds V0 s j) : (Host.dotGeneral dot_S1x4x64x128_S1x4x64x128_S1x4x128x128_2_2_3_3_01_01 none (res_main_while0b_v121 V0) (res_main_while0b_v45 V0) : (Proc.devRef .tc main_while0b_v122 : DevRef τ sig).ty.Contents (Elt F)) = Cert.ReferenceIdeal.Step.b131 j s := by
  unfold Cert.ReferenceIdeal.Step.b131
  rw [← al_130 h, ← al_27 h]
  try rfl
set_option maxRecDepth 8192 in
theorem al_132 (h : Holds V0 s j) : (transpose S1x4x128x128 [0, 1, 3, 2] (Host.dotGeneral dot_S1x4x64x128_S1x4x64x128_S1x4x128x128_2_2_3_3_01_01 none (res_main_while0b_v121 V0) (res_main_while0b_v45 V0)) transposes_S1x4x128x128_S1x4x128x128_0_1_3_2 : (Proc.devRef .tc main_while0b_v123 : DevRef τ sig).ty.Contents (Elt F)) = Cert.ReferenceIdeal.Step.b132 j s := by
  unfold Cert.ReferenceIdeal.Step.b132
  rw [← al_131 h]
  try rfl
set_option maxRecDepth 8192 in
theorem al_133 (h : Holds V0 s j) : (addf (addf (mulf (V0 (Proc.devRef .tc main_v27_9)) (broadcastInDim S1x4x128x128 ![0, 1, 2, 3] bcast_S1x4x1x1_S1x4x128x128_0_1_2_3 (res_main_while0b_v63 V0))) (transpose S1x4x128x128 [0, 1, 3, 2] (Host.dotGeneral dot_S1x4x64x128_S1x4x64x128_S1x4x128x128_2_2_3_3_01_01 none (res_main_while0b_v49 V0) (res_main_while0b_v56 V0)) transposes_S1x4x128x128_S1x4x128x128_0_1_3_2)) (transpose S1x4x128x128 [0, 1, 3, 2] (Host.dotGeneral dot_S1x4x64x128_S1x4x64x128_S1x4x128x128_2_2_3_3_01_01 none (res_main_while0b_v121 V0) (res_main_while0b_v45 V0)) transposes_S1x4x128x128_S1x4x128x128_0_1_3_2) : (Proc.devRef .tc main_while0b_v124 : DevRef τ sig).ty.Contents (Elt F)) = Cert.ReferenceIdeal.Step.b133 j s := by
  unfold Cert.ReferenceIdeal.Step.b133
  rw [← al_117 h, ← al_132 h]
  try rfl
set_option maxRecDepth 8192 in
theorem al_134 (h : Holds V0 s j) : (Host.dotGeneral dot_S1x4x64x128_S1x4x128x128_S1x4x64x128_3_3_2_2_01_01 none (res_main_while0b_v121 V0) (res_main_while0b_v50 V0) : (Proc.devRef .tc main_while0b_v125 : DevRef τ sig).ty.Contents (Elt F)) = Cert.ReferenceIdeal.Step.b134 j s := by
  unfold Cert.ReferenceIdeal.Step.b134
  rw [← al_130 h, ← al_50 h]
  try rfl
set_option maxRecDepth 8192 in
theorem al_135 (h : Holds V0 s j) : (broadcastInDim S1x1x4x64x128 ![1, 2, 3, 4] bcast_S1x4x64x128_S1x1x4x64x128_1_2_3_4 (mulf (res_main_while0b_v111 V0) (broadcastInDim S1x4x64x128 ![0, 1, 2, 3] bcast_S1x4x64x1_S1x4x64x128_0_1_2_3 (res_main_while0b_v54 V0))) : (Proc.devRef .tc main_while0b_call8_v0 : DevRef τ sig).ty.Contents (Elt F)) = Cert.ReferenceIdeal.Step.b135 j s := by
  unfold Cert.ReferenceIdeal.Step.b135
  rw [← al_124 h]
  try rfl
set_option maxRecDepth 8192 in
theorem al_136 (h : Holds V0 s j) : (constantI S_ 32 0#32 : (Proc.devRef .tc main_while0b_call8_c : DevRef τ sig).ty.Contents (Elt F)) = Cert.ReferenceIdeal.Step.b136 j s := by
  unfold Cert.ReferenceIdeal.Step.b136
  rfl
set_option maxRecDepth 8192 in
theorem al_137 (h : Holds V0 s j) : (constantI S_ 32 0#32 : (Proc.devRef .tc main_while0b_call8_c_0 : DevRef τ sig).ty.Contents (Elt F)) = Cert.ReferenceIdeal.Step.b137 j s := by
  unfold Cert.ReferenceIdeal.Step.b137
  rfl
set_option maxRecDepth 8192 in
theorem al_138 (h : Holds V0 s j) : (constantI S_ 32 0#32 : (Proc.devRef .tc main_while0b_call8_c_1 : DevRef τ sig).ty.Contents (Elt F)) = Cert.ReferenceIdeal.Step.b138 j s := by
  unfold Cert.ReferenceIdeal.Step.b138
  rfl
set_option maxRecDepth 8192 in
theorem al_139 (h : Holds V0 s j) : (constantI S_ 32 0#32 : (Proc.devRef .tc main_while0b_call8_c_2 : DevRef τ sig).ty.Contents (Elt F)) = Cert.ReferenceIdeal.Step.b139 j s := by
  unfold Cert.ReferenceIdeal.Step.b139
  rfl
set_option maxRecDepth 8192 in
theorem al_140 (h : Holds V0 s j) : (Host.dynamicUpdateSlice (V0 (Proc.devRef .tc main_v27_10)) (broadcastInDim S1x1x4x64x128 ![1, 2, 3, 4] bcast_S1x4x64x128_S1x1x4x64x128_1_2_3_4 (mulf (res_main_while0b_v111 V0) (broadcastInDim S1x4x64x128 ![0, 1, 2, 3] bcast_S1x4x64x1_S1x4x64x128_0_1_2_3 (res_main_while0b_v54 V0)))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 : (Proc.devRef .tc main_while0b_v126 : DevRef τ sig).ty.Contents (Elt F)) = Cert.ReferenceIdeal.Step.b140 j s := by
  unfold Cert.ReferenceIdeal.Step.b140
  rw [← al_135 h, ← al_3 h, ← al_136 h, ← al_137 h, ← al_138 h, ← al_139 h, h.f_10]
  try rfl
set_option maxRecDepth 8192 in
theorem al_141 (h : Holds V0 s j) : (broadcastInDim S1x1x4x64x128 ![1, 2, 3, 4] bcast_S1x4x64x128_S1x1x4x64x128_1_2_3_4 (mulf (res_main_while0b_v78 V0) (broadcastInDim S1x4x64x128 ![0, 1, 2, 3] bcast_S1x4x64x1_S1x4x64x128_0_1_2_3 (res_main_while0b_v70 V0))) : (Proc.devRef .tc main_while0b_call9_v0 : DevRef τ sig).ty.Contents (Elt F)) = Cert.ReferenceIdeal.Step.b141 j s := by
  unfold Cert.ReferenceIdeal.Step.b141
  rw [← al_84 h]
  try rfl
set_option maxRecDepth 8192 in
theorem al_142 (h : Holds V0 s j) : (constantI S_ 32 0#32 : (Proc.devRef .tc main_while0b_call9_c : DevRef τ sig).ty.Contents (Elt F)) = Cert.ReferenceIdeal.Step.b142 j s := by
  unfold Cert.ReferenceIdeal.Step.b142
  rfl
set_option maxRecDepth 8192 in
theorem al_143 (h : Holds V0 s j) : (constantI S_ 32 0#32 : (Proc.devRef .tc main_while0b_call9_c_0 : DevRef τ sig).ty.Contents (Elt F)) = Cert.ReferenceIdeal.Step.b143 j s := by
  unfold Cert.ReferenceIdeal.Step.b143
  rfl
set_option maxRecDepth 8192 in
theorem al_144 (h : Holds V0 s j) : (constantI S_ 32 0#32 : (Proc.devRef .tc main_while0b_call9_c_1 : DevRef τ sig).ty.Contents (Elt F)) = Cert.ReferenceIdeal.Step.b144 j s := by
  unfold Cert.ReferenceIdeal.Step.b144
  rfl
set_option maxRecDepth 8192 in
theorem al_145 (h : Holds V0 s j) : (constantI S_ 32 0#32 : (Proc.devRef .tc main_while0b_call9_c_2 : DevRef τ sig).ty.Contents (Elt F)) = Cert.ReferenceIdeal.Step.b145 j s := by
  unfold Cert.ReferenceIdeal.Step.b145
  rfl
set_option maxRecDepth 8192 in
theorem al_146 (h : Holds V0 s j) : (Host.dynamicUpdateSlice (V0 (Proc.devRef .tc main_v27_11)) (broadcastInDim S1x1x4x64x128 ![1, 2, 3, 4] bcast_S1x4x64x128_S1x1x4x64x128_1_2_3_4 (mulf (res_main_while0b_v78 V0) (broadcastInDim S1x4x64x128 ![0, 1, 2, 3] bcast_S1x4x64x1_S1x4x64x128_0_1_2_3 (res_main_while0b_v70 V0)))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 : (Proc.devRef .tc main_while0b_v127 : DevRef τ sig).ty.Contents (Elt F)) = Cert.ReferenceIdeal.Step.b146 j s := by
  unfold Cert.ReferenceIdeal.Step.b146
  rw [← al_141 h, ← al_3 h, ← al_142 h, ← al_143 h, ← al_144 h, ← al_145 h, h.f_11]
  try rfl
set_option maxRecDepth 8192 in
theorem al_147 (h : Holds V0 s j) : (broadcastInDim S1x1x4x64x128 ![1, 2, 3, 4] bcast_S1x4x64x128_S1x1x4x64x128_1_2_3_4 (res_main_while0b_v106 V0) : (Proc.devRef .tc main_while0b_call10_v0 : DevRef τ sig).ty.Contents (Elt F)) = Cert.ReferenceIdeal.Step.b147 j s := by
  unfold Cert.ReferenceIdeal.Step.b147
  rw [← al_113 h]
  try rfl
set_option maxRecDepth 8192 in
theorem al_148 (h : Holds V0 s j) : (constantI S_ 32 0#32 : (Proc.devRef .tc main_while0b_call10_c : DevRef τ sig).ty.Contents (Elt F)) = Cert.ReferenceIdeal.Step.b148 j s := by
  unfold Cert.ReferenceIdeal.Step.b148
  rfl
set_option maxRecDepth 8192 in
theorem al_149 (h : Holds V0 s j) : (constantI S_ 32 0#32 : (Proc.devRef .tc main_while0b_call10_c_0 : DevRef τ sig).ty.Contents (Elt F)) = Cert.ReferenceIdeal.Step.b149 j s := by
  unfold Cert.ReferenceIdeal.Step.b149
  rfl
set_option maxRecDepth 8192 in
theorem al_150 (h : Holds V0 s j) : (constantI S_ 32 0#32 : (Proc.devRef .tc main_while0b_call10_c_1 : DevRef τ sig).ty.Contents (Elt F)) = Cert.ReferenceIdeal.Step.b150 j s := by
  unfold Cert.ReferenceIdeal.Step.b150
  rfl
set_option maxRecDepth 8192 in
theorem al_151 (h : Holds V0 s j) : (constantI S_ 32 0#32 : (Proc.devRef .tc main_while0b_call10_c_2 : DevRef τ sig).ty.Contents (Elt F)) = Cert.ReferenceIdeal.Step.b151 j s := by
  unfold Cert.ReferenceIdeal.Step.b151
  rfl
set_option maxRecDepth 8192 in
theorem al_152 (h : Holds V0 s j) : (Host.dynamicUpdateSlice (V0 (Proc.devRef .tc main_v27_12)) (broadcastInDim S1x1x4x64x128 ![1, 2, 3, 4] bcast_S1x4x64x128_S1x1x4x64x128_1_2_3_4 (res_main_while0b_v106 V0)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 : (Proc.devRef .tc main_while0b_v128 : DevRef τ sig).ty.Contents (Elt F)) = Cert.ReferenceIdeal.Step.b152 j s := by
  unfold Cert.ReferenceIdeal.Step.b152
  rw [← al_147 h, ← al_3 h, ← al_148 h, ← al_149 h, ← al_150 h, ← al_151 h, h.f_12]
  try rfl
set_option maxRecDepth 8192 in
theorem al_153 (h : Holds V0 s j) : (broadcastInDim S1x1x4x64x128 ![1, 2, 3, 4] bcast_S1x4x64x128_S1x1x4x64x128_1_2_3_4 (Host.dotGeneral dot_S1x4x64x128_S1x4x128x128_S1x4x64x128_3_3_2_2_01_01 none (res_main_while0b_v121 V0) (res_main_while0b_v50 V0)) : (Proc.devRef .tc main_while0b_call11_v0 : DevRef τ sig).ty.Contents (Elt F)) = Cert.ReferenceIdeal.Step.b153 j s := by
  unfold Cert.ReferenceIdeal.Step.b153
  rw [← al_134 h]
  try rfl
set_option maxRecDepth 8192 in
theorem al_154 (h : Holds V0 s j) : (constantI S_ 32 0#32 : (Proc.devRef .tc main_while0b_call11_c : DevRef τ sig).ty.Contents (Elt F)) = Cert.ReferenceIdeal.Step.b154 j s := by
  unfold Cert.ReferenceIdeal.Step.b154
  rfl
set_option maxRecDepth 8192 in
theorem al_155 (h : Holds V0 s j) : (constantI S_ 32 0#32 : (Proc.devRef .tc main_while0b_call11_c_0 : DevRef τ sig).ty.Contents (Elt F)) = Cert.ReferenceIdeal.Step.b155 j s := by
  unfold Cert.ReferenceIdeal.Step.b155
  rfl
set_option maxRecDepth 8192 in
theorem al_156 (h : Holds V0 s j) : (constantI S_ 32 0#32 : (Proc.devRef .tc main_while0b_call11_c_1 : DevRef τ sig).ty.Contents (Elt F)) = Cert.ReferenceIdeal.Step.b156 j s := by
  unfold Cert.ReferenceIdeal.Step.b156
  rfl
set_option maxRecDepth 8192 in
theorem al_157 (h : Holds V0 s j) : (constantI S_ 32 0#32 : (Proc.devRef .tc main_while0b_call11_c_2 : DevRef τ sig).ty.Contents (Elt F)) = Cert.ReferenceIdeal.Step.b157 j s := by
  unfold Cert.ReferenceIdeal.Step.b157
  rfl
set_option maxRecDepth 8192 in
theorem al_158 (h : Holds V0 s j) : (Host.dynamicUpdateSlice (V0 (Proc.devRef .tc main_v27_13)) (broadcastInDim S1x1x4x64x128 ![1, 2, 3, 4] bcast_S1x4x64x128_S1x1x4x64x128_1_2_3_4 (Host.dotGeneral dot_S1x4x64x128_S1x4x128x128_S1x4x64x128_3_3_2_2_01_01 none (res_main_while0b_v121 V0) (res_main_while0b_v50 V0))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128 : (Proc.devRef .tc main_while0b_v129 : DevRef τ sig).ty.Contents (Elt F)) = Cert.ReferenceIdeal.Step.b158 j s := by
  unfold Cert.ReferenceIdeal.Step.b158
  rw [← al_153 h, ← al_3 h, ← al_154 h, ← al_155 h, ← al_156 h, ← al_157 h, h.f_13]
  try rfl
set_option maxRecDepth 8192 in
theorem al_159 (h : Holds V0 s j) : (broadcastInDim S1x1x4x64 ![1, 2, 3] bcast_S1x4x64_S1x1x4x64_1_2_3 (addf (addf (Host.negf (res_main_while0b_v86 V0)) (pad S1x4x64 ![0, 0, 63] ![0, 0, 0] ![0, 0, 0] (broadcastInDim S1x4x1 ![0, 1] bcast_S1x4_S1x4x1_0_1 (addf (broadcastInDim S1x4 ![1] bcast_S4_S1x4_1 (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_)) (mulf (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_)) (res_main_while0b_v62 V0)))) (constant S_ .f32 0x00000000#32) pads_S1x4x1_S1x4x64_000_000_6300 h_S_)) (mulf (broadcastInDim S1x4x64 ![1, 2] bcast_S4x64_S1x4x64_1_2 (Host.reduceAdd (shapeCast S1x4x64x1 (Host.reduceAdd (mulf (res_main_while0b_v42 V0) (res_main_while0b_v111 V0)) (constant S_ .f32 0x00000000#32) reducesTo_S1x4x64x128_S1x4x64_d3 h_S_) shapeCasts_S1x4x64_S1x4x64x1) (constant S_ .f32 0x00000000#32) reducesTo_S1x4x64x1_S4x64_d0_3 h_S_)) (res_main_while0b_v53 V0))) : (Proc.devRef .tc main_while0b_call12_v0 : DevRef τ sig).ty.Contents (Elt F)) = Cert.ReferenceIdeal.Step.b159 j s := by
  unfold Cert.ReferenceIdeal.Step.b159
  rw [← al_129 h]
  try rfl
set_option maxRecDepth 8192 in
theorem al_160 (h : Holds V0 s j) : (constantI S_ 32 0#32 : (Proc.devRef .tc main_while0b_call12_c : DevRef τ sig).ty.Contents (Elt F)) = Cert.ReferenceIdeal.Step.b160 j s := by
  unfold Cert.ReferenceIdeal.Step.b160
  rfl
set_option maxRecDepth 8192 in
theorem al_161 (h : Holds V0 s j) : (constantI S_ 32 0#32 : (Proc.devRef .tc main_while0b_call12_c_0 : DevRef τ sig).ty.Contents (Elt F)) = Cert.ReferenceIdeal.Step.b161 j s := by
  unfold Cert.ReferenceIdeal.Step.b161
  rfl
set_option maxRecDepth 8192 in
theorem al_162 (h : Holds V0 s j) : (constantI S_ 32 0#32 : (Proc.devRef .tc main_while0b_call12_c_1 : DevRef τ sig).ty.Contents (Elt F)) = Cert.ReferenceIdeal.Step.b162 j s := by
  unfold Cert.ReferenceIdeal.Step.b162
  rfl
set_option maxRecDepth 8192 in
theorem al_163 (h : Holds V0 s j) : (Host.dynamicUpdateSlice (V0 (Proc.devRef .tc main_v27_14)) (broadcastInDim S1x1x4x64 ![1, 2, 3] bcast_S1x4x64_S1x1x4x64_1_2_3 (addf (addf (Host.negf (res_main_while0b_v86 V0)) (pad S1x4x64 ![0, 0, 63] ![0, 0, 0] ![0, 0, 0] (broadcastInDim S1x4x1 ![0, 1] bcast_S1x4_S1x4x1_0_1 (addf (broadcastInDim S1x4 ![1] bcast_S4_S1x4_1 (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_)) (mulf (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_)) (res_main_while0b_v62 V0)))) (constant S_ .f32 0x00000000#32) pads_S1x4x1_S1x4x64_000_000_6300 h_S_)) (mulf (broadcastInDim S1x4x64 ![1, 2] bcast_S4x64_S1x4x64_1_2 (Host.reduceAdd (shapeCast S1x4x64x1 (Host.reduceAdd (mulf (res_main_while0b_v42 V0) (res_main_while0b_v111 V0)) (constant S_ .f32 0x00000000#32) reducesTo_S1x4x64x128_S1x4x64_d3 h_S_) shapeCasts_S1x4x64_S1x4x64x1) (constant S_ .f32 0x00000000#32) reducesTo_S1x4x64x1_S4x64_d0_3 h_S_)) (res_main_while0b_v53 V0)))) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S64x1x4x64_S1x1x4x64 : (Proc.devRef .tc main_while0b_v130 : DevRef τ sig).ty.Contents (Elt F)) = Cert.ReferenceIdeal.Step.b163 j s := by
  unfold Cert.ReferenceIdeal.Step.b163
  rw [← al_159 h, ← al_3 h, ← al_160 h, ← al_161 h, ← al_162 h, h.f_14]
  try rfl
set_option maxRecDepth 8192 in
theorem al_164 (h : Holds V0 s j) : (broadcastInDim S1x1x4x64x64 ![1, 2, 3, 4] bcast_S1x4x64x64_S1x1x4x64x64_1_2_3_4 (Host.dotGeneral dot_S1x4x64x128_S1x4x64x128_S1x4x64x64_3_3_2_2_01_01 none (res_main_while0b_v49 V0) (res_main_while0b_v52 V0)) : (Proc.devRef .tc main_while0b_call13_v0 : DevRef τ sig).ty.Contents (Elt F)) = Cert.ReferenceIdeal.Step.b164 j s := by
  unfold Cert.ReferenceIdeal.Step.b164
  rw [← al_114 h]
  try rfl
set_option maxRecDepth 8192 in
theorem al_165 (h : Holds V0 s j) : (constantI S_ 32 0#32 : (Proc.devRef .tc main_while0b_call13_c : DevRef τ sig).ty.Contents (Elt F)) = Cert.ReferenceIdeal.Step.b165 j s := by
  unfold Cert.ReferenceIdeal.Step.b165
  rfl
set_option maxRecDepth 8192 in
theorem al_166 (h : Holds V0 s j) : (constantI S_ 32 0#32 : (Proc.devRef .tc main_while0b_call13_c_0 : DevRef τ sig).ty.Contents (Elt F)) = Cert.ReferenceIdeal.Step.b166 j s := by
  unfold Cert.ReferenceIdeal.Step.b166
  rfl
set_option maxRecDepth 8192 in
theorem al_167 (h : Holds V0 s j) : (constantI S_ 32 0#32 : (Proc.devRef .tc main_while0b_call13_c_1 : DevRef τ sig).ty.Contents (Elt F)) = Cert.ReferenceIdeal.Step.b167 j s := by
  unfold Cert.ReferenceIdeal.Step.b167
  rfl
set_option maxRecDepth 8192 in
theorem al_168 (h : Holds V0 s j) : (constantI S_ 32 0#32 : (Proc.devRef .tc main_while0b_call13_c_2 : DevRef τ sig).ty.Contents (Elt F)) = Cert.ReferenceIdeal.Step.b168 j s := by
  unfold Cert.ReferenceIdeal.Step.b168
  rfl
set_option maxRecDepth 8192 in
theorem al_169 (h : Holds V0 s j) : (Host.dynamicUpdateSlice (V0 (Proc.devRef .tc main_v27_15)) (broadcastInDim S1x1x4x64x64 ![1, 2, 3, 4] bcast_S1x4x64x64_S1x1x4x64x64_1_2_3_4 (Host.dotGeneral dot_S1x4x64x128_S1x4x64x128_S1x4x64x64_3_3_2_2_01_01 none (res_main_while0b_v49 V0) (res_main_while0b_v52 V0))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x64_S1x1x4x64x64 : (Proc.devRef .tc main_while0b_v131 : DevRef τ sig).ty.Contents (Elt F)) = Cert.ReferenceIdeal.Step.b169 j s := by
  unfold Cert.ReferenceIdeal.Step.b169
  rw [← al_164 h, ← al_3 h, ← al_165 h, ← al_166 h, ← al_167 h, ← al_168 h, h.f_15]
  try rfl

/-! One trip's step of the carried values is `step`, field by field; a counter steps to the next number. -/

theorem step_9 (h : Holds V0 s j) : step_main_v27_9 V0 = (step j s).main_v27_9 := by
  unfold step_main_v27_9 Cert.ReferenceIdeal.Step.step
  show id (addf (addf (mulf (V0 (Proc.devRef .tc main_v27_9)) (broadcastInDim S1x4x128x128 ![0, 1, 2, 3] bcast_S1x4x1x1_S1x4x128x128_0_1_2_3 (res_main_while0b_v63 V0))) (transpose S1x4x128x128 [0, 1, 3, 2] (Host.dotGeneral dot_S1x4x64x128_S1x4x64x128_S1x4x128x128_2_2_3_3_01_01 none (res_main_while0b_v49 V0) (res_main_while0b_v56 V0)) transposes_S1x4x128x128_S1x4x128x128_0_1_3_2)) (transpose S1x4x128x128 [0, 1, 3, 2] (Host.dotGeneral dot_S1x4x64x128_S1x4x64x128_S1x4x128x128_2_2_3_3_01_01 none (res_main_while0b_v121 V0) (res_main_while0b_v45 V0)) transposes_S1x4x128x128_S1x4x128x128_0_1_3_2)) = _
  exact al_133 h
theorem step_10 (h : Holds V0 s j) : step_main_v27_10 V0 = (step j s).main_v27_10 := by
  unfold step_main_v27_10 Cert.ReferenceIdeal.Step.step
  show id (Host.dynamicUpdateSlice (V0 (Proc.devRef .tc main_v27_10)) (broadcastInDim S1x1x4x64x128 ![1, 2, 3, 4] bcast_S1x4x64x128_S1x1x4x64x128_1_2_3_4 (mulf (res_main_while0b_v111 V0) (broadcastInDim S1x4x64x128 ![0, 1, 2, 3] bcast_S1x4x64x1_S1x4x64x128_0_1_2_3 (res_main_while0b_v54 V0)))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) = _
  exact al_140 h
theorem step_11 (h : Holds V0 s j) : step_main_v27_11 V0 = (step j s).main_v27_11 := by
  unfold step_main_v27_11 Cert.ReferenceIdeal.Step.step
  show id (Host.dynamicUpdateSlice (V0 (Proc.devRef .tc main_v27_11)) (broadcastInDim S1x1x4x64x128 ![1, 2, 3, 4] bcast_S1x4x64x128_S1x1x4x64x128_1_2_3_4 (mulf (res_main_while0b_v78 V0) (broadcastInDim S1x4x64x128 ![0, 1, 2, 3] bcast_S1x4x64x1_S1x4x64x128_0_1_2_3 (res_main_while0b_v70 V0)))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) = _
  exact al_146 h
theorem step_12 (h : Holds V0 s j) : step_main_v27_12 V0 = (step j s).main_v27_12 := by
  unfold step_main_v27_12 Cert.ReferenceIdeal.Step.step
  show id (Host.dynamicUpdateSlice (V0 (Proc.devRef .tc main_v27_12)) (broadcastInDim S1x1x4x64x128 ![1, 2, 3, 4] bcast_S1x4x64x128_S1x1x4x64x128_1_2_3_4 (res_main_while0b_v106 V0)) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) = _
  exact al_152 h
theorem step_13 (h : Holds V0 s j) : step_main_v27_13 V0 = (step j s).main_v27_13 := by
  unfold step_main_v27_13 Cert.ReferenceIdeal.Step.step
  show id (Host.dynamicUpdateSlice (V0 (Proc.devRef .tc main_v27_13)) (broadcastInDim S1x1x4x64x128 ![1, 2, 3, 4] bcast_S1x4x64x128_S1x1x4x64x128_1_2_3_4 (Host.dotGeneral dot_S1x4x64x128_S1x4x128x128_S1x4x64x128_3_3_2_2_01_01 none (res_main_while0b_v121 V0) (res_main_while0b_v50 V0))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x128_S1x1x4x64x128) = _
  exact al_158 h
theorem step_14 (h : Holds V0 s j) : step_main_v27_14 V0 = (step j s).main_v27_14 := by
  unfold step_main_v27_14 Cert.ReferenceIdeal.Step.step
  show id (Host.dynamicUpdateSlice (V0 (Proc.devRef .tc main_v27_14)) (broadcastInDim S1x1x4x64 ![1, 2, 3] bcast_S1x4x64_S1x1x4x64_1_2_3 (addf (addf (Host.negf (res_main_while0b_v86 V0)) (pad S1x4x64 ![0, 0, 63] ![0, 0, 0] ![0, 0, 0] (broadcastInDim S1x4x1 ![0, 1] bcast_S1x4_S1x4x1_0_1 (addf (broadcastInDim S1x4 ![1] bcast_S4_S1x4_1 (Host.reduceAdd (shapeCast S1x4x1 (Host.reduceAdd (res_main_while0b_v86 V0) (constant S_ .f32 0x00000000#32) reducesTo_S1x4x64_S1x4_d2 h_S_) shapeCasts_S1x4_S1x4x1) (constant S_ .f32 0x00000000#32) reducesTo_S1x4x1_S4_d0_2 h_S_)) (mulf (broadcastInDim S1x4 ![1] bcast_S4_S1x4_1 (Host.reduceAdd (shapeCast S1x4x1x1 (Host.reduceAdd (mulf (res_main_while0b_v50 V0) (V0 (Proc.devRef .tc main_v27_9))) (constant S_ .f32 0x00000000#32) reducesTo_S1x4x128x128_S1x4_d2_3 h_S_) shapeCasts_S1x4_S1x4x1x1) (constant S_ .f32 0x00000000#32) reducesTo_S1x4x1x1_S4_d0_2_3 h_S_)) (res_main_while0b_v62 V0)))) (constant S_ .f32 0x00000000#32) pads_S1x4x1_S1x4x64_000_000_6300 h_S_)) (mulf (broadcastInDim S1x4x64 ![1, 2] bcast_S4x64_S1x4x64_1_2 (Host.reduceAdd (shapeCast S1x4x64x1 (Host.reduceAdd (mulf (res_main_while0b_v42 V0) (res_main_while0b_v111 V0)) (constant S_ .f32 0x00000000#32) reducesTo_S1x4x64x128_S1x4x64_d3 h_S_) shapeCasts_S1x4x64_S1x4x64x1) (constant S_ .f32 0x00000000#32) reducesTo_S1x4x64x1_S4x64_d0_3 h_S_)) (res_main_while0b_v53 V0)))) (fun k => (((![res_main_while0b_v41 V0, constantI S_ 32 0#32, constantI S_ 32 0#32, constantI S_ 32 0#32] : Fin 4 → (⟨S_, .i32⟩ : BufTy).Contents (Elt F))) k (Shape.Idx.first h_S_)).toInt) updateFits_S64x1x4x64_S1x1x4x64) = _
  exact al_163 h
theorem step_15 (h : Holds V0 s j) : step_main_v27_15 V0 = (step j s).main_v27_15 := by
  unfold step_main_v27_15 Cert.ReferenceIdeal.Step.step
  show id (Host.dynamicUpdateSlice (V0 (Proc.devRef .tc main_v27_15)) (broadcastInDim S1x1x4x64x64 ![1, 2, 3, 4] bcast_S1x4x64x64_S1x1x4x64x64_1_2_3_4 (Host.dotGeneral dot_S1x4x64x128_S1x4x64x128_S1x4x64x64_3_3_2_2_01_01 none (res_main_while0b_v49 V0) (res_main_while0b_v52 V0))) (fun k => (((![res_main_while0b_v41 V0, constantI S_ 32 0#32, constantI S_ 32 0#32, constantI S_ 32 0#32, constantI S_ 32 0#32] : Fin 5 → (⟨S_, .i32⟩ : BufTy).Contents (Elt F))) k (Shape.Idx.first h_S_)).toInt) updateFits_S64x1x4x64x64_S1x1x4x64x64) = _
  exact al_169 h
theorem step_8 (h : Holds V0 s j) : step_main_v27_8 V0 = constantI S_ 32 (BitVec.ofNat 32 (j + 1)) := by
  unfold step_main_v27_8
  rw [h.n_8]
  funext i
  show BitVec.ofNat 32 j + 1#32 = BitVec.ofNat 32 (j + 1)
  simp only [BitVec.ofNat_add]

set_option maxRecDepth 8192 in
theorem out_main_v31_holds (h : Holds V0 s j) : out_main_v31 V0 = Cert.ReferenceIdeal.Step.R_main_v31 s := by
  unfold out_main_v31 Cert.ReferenceIdeal.Step.R_main_v31
  rw [h.f_10]
  try rfl

set_option maxRecDepth 8192 in
theorem out_main_v33_holds (h : Holds V0 s j) : out_main_v33 V0 = Cert.ReferenceIdeal.Step.R_main_v33 s := by
  unfold out_main_v33 Cert.ReferenceIdeal.Step.R_main_v33
  rw [h.f_11]
  try rfl

set_option maxRecDepth 8192 in
theorem out_main_v35_holds (h : Holds V0 s j) : out_main_v35 V0 = Cert.ReferenceIdeal.Step.R_main_v35 s := by
  unfold out_main_v35 Cert.ReferenceIdeal.Step.R_main_v35
  rw [h.f_12]
  try rfl

set_option maxRecDepth 8192 in
theorem out_main_v37_holds (h : Holds V0 s j) : out_main_v37 V0 = Cert.ReferenceIdeal.Step.R_main_v37 s := by
  unfold out_main_v37 Cert.ReferenceIdeal.Step.R_main_v37
  rw [h.f_13]
  try rfl

set_option maxRecDepth 8192 in
theorem out_main_v38_holds (h : Holds V0 s j) : out_main_v38 V0 = Cert.ReferenceIdeal.Step.R_main_v38 s := by
  unfold out_main_v38 Cert.ReferenceIdeal.Step.R_main_v38
  rw [h.f_14]
  try rfl

set_option maxRecDepth 8192 in
theorem out_main_v39_holds (h : Holds V0 s j) : out_main_v39 V0 = Cert.ReferenceIdeal.Step.R_main_v39 s := by
  unfold out_main_v39 Cert.ReferenceIdeal.Step.R_main_v39
  rw [h.f_15]
  try rfl

/-- One trip keeps the valuation holding: `step` of the state, the same set-up values, the next number. -/
theorem holds_step (h : Holds V0 s j) : Holds (STEP V0) (step j s) (j + 1) where
  f_9 := (STEP_main_v27_9 V0).trans (step_9 h)
  f_10 := (STEP_main_v27_10 V0).trans (step_10 h)
  f_11 := (STEP_main_v27_11 V0).trans (step_11 h)
  f_12 := (STEP_main_v27_12 V0).trans (step_12 h)
  f_13 := (STEP_main_v27_13 V0).trans (step_13 h)
  f_14 := (STEP_main_v27_14 V0).trans (step_14 h)
  f_15 := (STEP_main_v27_15 V0).trans (step_15 h)
  n_8 := (STEP_main_v27_8 V0).trans (step_8 h)
  f_0 := (STEP_main_v27_0 V0).trans h.f_0
  f_1 := (STEP_main_v27_1 V0).trans h.f_1
  f_2 := (STEP_main_v27_2 V0).trans h.f_2
  f_3 := (STEP_main_v27_3 V0).trans h.f_3
  f_4 := (STEP_main_v27_4 V0).trans h.f_4
  f_5 := (STEP_main_v27_5 V0).trans h.f_5
  f_6 := (STEP_main_v27_6 V0).trans h.f_6
  f_7 := (STEP_main_v27_7 V0).trans h.f_7

/-- The state the first trip starts from, of the memory the run starts from. -/
abbrev initState (m : (ℓ : Loc nD τ sig) → Buf (Elt F) ℓ) (c : Dev nD) : State F :=
  init (m ((c.tc : Thread nD τ).loc main_arg7)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v31) = Cert.ReferenceIdeal.Step.R_main_v31 (it c 64)
      ∧ r.2.mem ((c.tc : Thread nD τ).loc main_v33) = Cert.ReferenceIdeal.Step.R_main_v33 (it c 64)
      ∧ r.2.mem ((c.tc : Thread nD τ).loc main_v35) = Cert.ReferenceIdeal.Step.R_main_v35 (it c 64)
      ∧ r.2.mem ((c.tc : Thread nD τ).loc main_v37) = Cert.ReferenceIdeal.Step.R_main_v37 (it c 64)
      ∧ r.2.mem ((c.tc : Thread nD τ).loc main_v38) = Cert.ReferenceIdeal.Step.R_main_v38 (it c 64)
      ∧ r.2.mem ((c.tc : Thread nD τ).loc main_v39) = Cert.ReferenceIdeal.Step.R_main_v39 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 64
    ⟨(h c).1.trans (out_main_v31_holds hk), (h c).2.1.trans (out_main_v33_holds hk), (h c).2.2.1.trans (out_main_v35_holds hk), (h c).2.2.2.1.trans (out_main_v37_holds hk), (h c).2.2.2.2.1.trans (out_main_v38_holds hk), (h c).2.2.2.2.2.1.trans (out_main_v39_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.Trip

end
-- ==== Proof.Spec.lean ====
/-
  The backward step of the chunked delta rule as plain sums, for one chunk of 64 positions and four heads of 128 lanes.
  Both the kernel and the reference are read into these formulas.
-/
module

public import Idealize.ShloMosaic.Lib.Pointwise

@[expose] public section

noncomputable section

namespace Cert.Delta

open Idealize.ShloMosaic

/-- A state: for every head a 128 × 128 matrix. -/
abbrev St := Fin 4 → Fin 128 → Fin 128 → EReal
/-- Rows of a chunk, heads apart. -/
abbrev Rows := Fin 4 → Fin 64 → Fin 128 → EReal

/-- What one chunk works on: the output's cotangent `o`, then `q`, `k`, `u`, `w`, the log decays `g`, the scores `qk`
    and the state `s` before the chunk. -/
structure Blk where
  o : Rows
  q : Rows
  k : Rows
  u : Rows
  w : Rows
  g : Fin 4 → Fin 64 → EReal
  qk : Fin 4 → Fin 64 → Fin 64 → EReal
  s : St

variable (x : Blk) (d : St)

/-- The decay of a position from the chunk's start. -/
def Blk.a (h : Fin 4) (c : Fin 64) : EReal := Ideal.exp (x.g h c)
/-- The decay from a position to the chunk's end. -/
def Blk.b (h : Fin 4) (c : Fin 64) : EReal := Ideal.exp (x.g h 63 - x.g h c)
/-- The decay over the whole chunk. -/
def Blk.gl (h : Fin 4) : EReal := Ideal.exp (x.g h 63)
/-- The new value rows `u - w S`. -/
def Blk.vn : Rows := fun h c f => x.u h c f - ∑ e, x.w h c e * x.s h e f
/-- The cotangent of `k` times its decay. -/
def Blk.dkb : Rows := fun h c e => ∑ f, x.vn h c f * d h e f
def Blk.dk : Rows := fun h c e => x.dkb d h c e * x.b h c
/-- The cotangent of the decay's exponent to the chunk's end. -/
def Blk.X (h : Fin 4) (c : Fin 64) : EReal := (∑ e, x.k h c e * x.dkb d h c e) * x.b h c
def Blk.du : Rows := fun h c f => ∑ e, (x.k h c e * x.b h c) * d h e f + ∑ s, x.qk h s c * x.o h s f
/-- The cotangent of `q` times its decay. -/
def Blk.dA : Rows := fun h c e => ∑ f, x.o h c f * x.s h e f
def Blk.dq : Rows := fun h c e => x.dA h c e * x.a h c
def Blk.dw : Rows := fun h c e => ∑ f, -(x.du d h c f) * x.s h e f
def Blk.dqk (h : Fin 4) (c s : Fin 64) : EReal := ∑ f, x.o h c f * x.vn h s f
/-- The cotangent of the chunk's last log decay, from its uses as that. -/
def Blk.dgl (h : Fin 4) : EReal := ∑ c, x.X d h c + (∑ e, ∑ f, x.s h e f * d h e f) * x.gl h
def Blk.dg (h : Fin 4) (c : Fin 64) : EReal :=
  -(x.X d h c) + (if c = 63 then x.dgl d h else 0) + (∑ e, x.q h c e * x.dA h c e) * x.a h c
/-- The cotangent of the state before the chunk. -/
def Blk.next : St := fun h e f =>
  d h e f * x.gl h + ∑ c, (x.q h c e * x.a h c) * x.o h c f + ∑ c, x.w h c e * -(x.du d h c f)

/-- A sum against the indicator of the last position picks that position. -/
theorem sum_last (g : Fin 64 → EReal) : ∑ c : Fin 64, g c * (if c = 63 then 1 else 0) = g 63 := by
  simp [mul_ite]

/-! ### The whole sequence: 64 chunks, worked off from the last to the first -/

/-- The lane that holds entry `e` of head `h`. -/
def lane (h : Fin 4) (e : Fin 128) : Fin 512 := ⟨128 * h.val + e.val, by omega⟩
/-- The lane of the log decays that holds head `h`. -/
def glane (h : Fin 4) : Fin 128 := ⟨h.val, by omega⟩
/-- The row that holds position `c` of chunk `n`. -/
def row (n c : Fin 64) : Fin 4096 := ⟨64 * n.val + c.val, by omega⟩

/-- The argument arrays, as `blkOf` reads them: the cotangent of the output, `q`, `k`, `u`, `w`, the log decays, the scores and the states. -/
structure Arrays where
  o : (⟨2, ![4096, 512]⟩ : Shape).Idx → EReal
  q : (⟨2, ![4096, 512]⟩ : Shape).Idx → EReal
  k : (⟨2, ![4096, 512]⟩ : Shape).Idx → EReal
  u : (⟨2, ![4096, 512]⟩ : Shape).Idx → EReal
  w : (⟨2, ![4096, 512]⟩ : Shape).Idx → EReal
  g : (⟨2, ![4096, 128]⟩ : Shape).Idx → EReal
  qk : (⟨4, ![64, 4, 64, 64]⟩ : Shape).Idx → EReal
  s : (⟨4, ![64, 4, 128, 128]⟩ : Shape).Idx → EReal

/-- Chunk `n` of the argument arrays. -/
def Arrays.blk (X : Arrays) (n : Fin 64) : Blk where
  o := fun h c e => X.o (ix2 (row n c) (lane h e))
  q := fun h c e => X.q (ix2 (row n c) (lane h e))
  k := fun h c e => X.k (ix2 (row n c) (lane h e))
  u := fun h c e => X.u (ix2 (row n c) (lane h e))
  w := fun h c e => X.w (ix2 (row n c) (lane h e))
  g := fun h c => X.g (ix2 (row n c) (glane h))
  qk := fun h c s => X.qk (ix4 n h c s)
  s := fun h e f => X.s (ix4 n h e f)

/-- The cotangent of the state after the last `j` chunks are worked off. -/
def back (B : Fin 64 → Blk) : ℕ → St
  | 0 => fun _ _ _ => 0
  | j + 1 => (B ⟨63 - j, by omega⟩).next (back B j)

theorem back_succ (B : Fin 64 → Blk) (n : Fin 64) : back B (63 - n.val + 1) = (B n).next (back B (63 - n.val)) := by
  show (B ⟨63 - (63 - n.val), _⟩).next _ = _
  rw [show (⟨63 - (63 - n.val), by omega⟩ : Fin 64) = n from Fin.ext (by show 63 - (63 - n.val) = n.val; omega)]

/-- Every row is a position of a chunk. -/
theorem exists_row (r : Fin 4096) : ∃ n c, r = row n c :=
  ⟨⟨r.val / 64, by omega⟩, ⟨r.val % 64, by omega⟩, Fin.ext (by show r.val = 64 * (r.val / 64) + r.val % 64; omega)⟩
/-- Every lane is an entry of a head. -/
theorem exists_lane (l : Fin 512) : ∃ h e, l = lane h e :=
  ⟨⟨l.val / 128, by omega⟩, ⟨l.val % 128, by omega⟩, Fin.ext (by show l.val = 128 * (l.val / 128) + l.val % 128; omega)⟩

end Cert.Delta

end
-- ==== Proof.RefAt.lean ====
/-
  One trip of the backward reference over the extended reals, entry by entry. The trip with number `63 - n` works on chunk `n`.
-/
module

public import proofs.«01_k».proof.Proof.RefTrip
public import proofs.«01_k».proof.Proof.Spec
public import Idealize.ShloMosaic.Lib.DynamicIndex

@[expose] public section

set_option maxRecDepth 16384
set_option maxHeartbeats 1000000

noncomputable section

namespace Cert.ReferenceIdeal.Trip

open Idealize.ShloMosaic Idealize.ShloMosaic.TcCoe Idealize.SL.Sem
open Cert.ReferenceIdeal Cert.ReferenceIdeal.Gen Cert.ReferenceIdeal.Step Cert.Delta

/-! A reduction along axes of length one is the one entry there is. -/

theorem unit_reduce {s t : Shape} {axes : List (Fin s.rank)} (h : s.ReducesTo axes t) (v : s.Idx → EReal) (z : EReal) (j : t.Idx) (i₀ : s.Idx)
    (h₀ : h.drop i₀ = j) (h₁ : ∀ i, h.drop i = j → i = i₀) : Ideal.hostReduceAdd h v z j = z + v i₀ := by
  have e : Finset.univ.filter (fun i => h.drop i = j) = {i₀} := by
    ext i
    simp only [Finset.mem_filter, Finset.mem_univ, true_and, Finset.mem_singleton]
    exact ⟨h₁ i, fun hi => hi ▸ h₀⟩
  show z + _ = _
  rw [e, Finset.sum_singleton]

theorem reduce_unit03 (v : S1x4x64x1.Idx → EReal) (z : EReal) (h : Fin 4) (c : Fin 64) :
    Ideal.hostReduceAdd reducesTo_S1x4x64x1_S4x64_d0_3 v z (ix2 h c) = z + v (ix4 (0 : Fin 1) h c (0 : Fin 1)) := by
  refine unit_reduce _ v z _ _ ?_ fun i e => ?_
  · funext b; apply Fin.ext
    match b with
    | ⟨0, _⟩ => rfl
    | ⟨1, _⟩ => rfl
  · funext a; apply Fin.ext
    match a with
    | ⟨0, _⟩ => exact Nat.lt_one_iff.mp (i 0).isLt
    | ⟨1, _⟩ => exact congrArg Fin.val (congrFun e 0)
    | ⟨2, _⟩ => exact congrArg Fin.val (congrFun e 1)
    | ⟨3, _⟩ => exact Nat.lt_one_iff.mp (i 3).isLt

theorem reduce_unit02 (v : S1x4x1.Idx → EReal) (z : EReal) (h : Fin 4) :
    Ideal.hostReduceAdd reducesTo_S1x4x1_S4_d0_2 v z (ix1 h) = z + v (ix3 (0 : Fin 1) h (0 : Fin 1)) := by
  refine unit_reduce _ v z _ _ ?_ fun i e => ?_
  · funext b; apply Fin.ext
    match b with
    | ⟨0, _⟩ => rfl
  · funext a; apply Fin.ext
    match a with
    | ⟨0, _⟩ => exact Nat.lt_one_iff.mp (i 0).isLt
    | ⟨1, _⟩ => exact congrArg Fin.val (congrFun e 0)
    | ⟨2, _⟩ => exact Nat.lt_one_iff.mp (i 2).isLt

theorem reduce_unit023 (v : S1x4x1x1.Idx → EReal) (z : EReal) (h : Fin 4) :
    Ideal.hostReduceAdd reducesTo_S1x4x1x1_S4_d0_2_3 v z (ix1 h) = z + v (ix4 (0 : Fin 1) h (0 : Fin 1) (0 : Fin 1)) := by
  refine unit_reduce _ v z _ _ ?_ fun i e => ?_
  · funext b; apply Fin.ext
    match b with
    | ⟨0, _⟩ => rfl
  · funext a; apply Fin.ext
    match a with
    | ⟨0, _⟩ => exact Nat.lt_one_iff.mp (i 0).isLt
    | ⟨1, _⟩ => exact congrArg Fin.val (congrFun e 0)
    | ⟨2, _⟩ => exact Nat.lt_one_iff.mp (i 2).isLt
    | ⟨3, _⟩ => exact Nat.lt_one_iff.mp (i 3).isLt

/-! Blocks cut from and put into stacks of 64, at a chunk number. -/

section
variable {α : Type} (n m : Fin 64)

theorem cut5 (x : S64x1x4x64x128.Idx → α) (st : Fin 5 → Int) (hst : ∀ k, st k = ((![n.val, 0, 0, 0, 0] : Fin 5 → ℕ) k : Int)) (hs)
    (h : Fin 4) (c : Fin 64) (e : Fin 128) :
    Host.dynamicSlice S1x1x4x64x128 x st hs (ix5 (0 : Fin 1) (0 : Fin 1) h c e) = x (ix5 n (0 : Fin 1) h c e) := by
  rw [Host.dynamicSlice_eq_extractStridedSlice S1x1x4x64x128 x st ![n.val, 0, 0, 0, 0] hs
    ⟨rfl, fun a => by have := n.isLt; fin_cases a <;> simp <;> omega⟩ hst]
  pointwise

theorem cut5' (x : S64x1x4x64x64.Idx → α) (st : Fin 5 → Int) (hst : ∀ k, st k = ((![n.val, 0, 0, 0, 0] : Fin 5 → ℕ) k : Int)) (hs)
    (h : Fin 4) (c : Fin 64) (e : Fin 64) :
    Host.dynamicSlice S1x1x4x64x64 x st hs (ix5 (0 : Fin 1) (0 : Fin 1) h c e) = x (ix5 n (0 : Fin 1) h c e) := by
  rw [Host.dynamicSlice_eq_extractStridedSlice S1x1x4x64x64 x st ![n.val, 0, 0, 0, 0] hs
    ⟨rfl, fun a => by have := n.isLt; fin_cases a <;> simp <;> omega⟩ hst]
  pointwise

theorem cut4 (x : S64x1x4x64.Idx → α) (st : Fin 4 → Int) (hst : ∀ k, st k = ((![n.val, 0, 0, 0] : Fin 4 → ℕ) k : Int)) (hs)
    (h : Fin 4) (c : Fin 64) :
    Host.dynamicSlice S1x1x4x64 x st hs (ix4 (0 : Fin 1) (0 : Fin 1) h c) = x (ix4 n (0 : Fin 1) h c) := by
  rw [Host.dynamicSlice_eq_extractStridedSlice S1x1x4x64 x st ![n.val, 0, 0, 0] hs
    ⟨rfl, fun a => by have := n.isLt; fin_cases a <;> simp <;> omega⟩ hst]
  pointwise

theorem cut4' (x : S64x4x128x128.Idx → α) (st : Fin 4 → Int) (hst : ∀ k, st k = ((![n.val, 0, 0, 0] : Fin 4 → ℕ) k : Int)) (hs)
    (h : Fin 4) (c e : Fin 128) :
    Host.dynamicSlice S1x4x128x128 x st hs (ix4 (0 : Fin 1) h c e) = x (ix4 n h c e) := by
  rw [Host.dynamicSlice_eq_extractStridedSlice S1x4x128x128 x st ![n.val, 0, 0, 0] hs
    ⟨rfl, fun a => by have := n.isLt; fin_cases a <;> simp <;> omega⟩ hst]
  pointwise

theorem put5 (x : S64x1x4x64x128.Idx → α) (y : S1x1x4x64x128.Idx → α) (st : Fin 5 → Int)
    (hst : ∀ k, st k = ((![n.val, 0, 0, 0, 0] : Fin 5 → ℕ) k : Int)) (hs) (h : Fin 4) (c : Fin 64) (e : Fin 128) :
    Host.dynamicUpdateSlice x y st hs (ix5 m (0 : Fin 1) h c e)
      = if m = n then y (ix5 (0 : Fin 1) (0 : Fin 1) h c e) else x (ix5 m (0 : Fin 1) h c e) := by
  rw [Host.dynamicUpdateSlice_eq_updateSlice x y st hs ![n.val, 0, 0, 0, 0]
    (fun a => by rw [hst]; have := n.isLt; fin_cases a <;> simp <;> omega) ⟨rfl, fun a => by have := n.isLt; fin_cases a <;> simp <;> omega⟩]
  pointwise
  by_cases hm : m = n
  · subst hm
    rw [dif_pos (by omega), if_pos rfl]
    exact congrArg (fun z => y (ix5 z (0 : Fin 1) h c e)) (Fin.ext (by simp))
  · rw [dif_neg (fun hh => hm (Fin.ext (by omega))), if_neg hm]

theorem put5' (x : S64x1x4x64x64.Idx → α) (y : S1x1x4x64x64.Idx → α) (st : Fin 5 → Int)
    (hst : ∀ k, st k = ((![n.val, 0, 0, 0, 0] : Fin 5 → ℕ) k : Int)) (hs) (h : Fin 4) (c : Fin 64) (e : Fin 64) :
    Host.dynamicUpdateSlice x y st hs (ix5 m (0 : Fin 1) h c e)
      = if m = n then y (ix5 (0 : Fin 1) (0 : Fin 1) h c e) else x (ix5 m (0 : Fin 1) h c e) := by
  rw [Host.dynamicUpdateSlice_eq_updateSlice x y st hs ![n.val, 0, 0, 0, 0]
    (fun a => by rw [hst]; have := n.isLt; fin_cases a <;> simp <;> omega) ⟨rfl, fun a => by have := n.isLt; fin_cases a <;> simp <;> omega⟩]
  pointwise
  by_cases hm : m = n
  · subst hm
    rw [dif_pos (by omega), if_pos rfl]
    exact congrArg (fun z => y (ix5 z (0 : Fin 1) h c e)) (Fin.ext (by simp))
  · rw [dif_neg (fun hh => hm (Fin.ext (by omega))), if_neg hm]

theorem put4 (x : S64x1x4x64.Idx → α) (y : S1x1x4x64.Idx → α) (st : Fin 4 → Int)
    (hst : ∀ k, st k = ((![n.val, 0, 0, 0] : Fin 4 → ℕ) k : Int)) (hs) (h : Fin 4) (c : Fin 64) :
    Host.dynamicUpdateSlice x y st hs (ix4 m (0 : Fin 1) h c)
      = if m = n then y (ix4 (0 : Fin 1) (0 : Fin 1) h c) else x (ix4 m (0 : Fin 1) h c) := by
  rw [Host.dynamicUpdateSlice_eq_updateSlice x y st hs ![n.val, 0, 0, 0]
    (fun a => by rw [hst]; have := n.isLt; fin_cases a <;> simp <;> omega) ⟨rfl, fun a => by have := n.isLt; fin_cases a <;> simp <;> omega⟩]
  pointwise
  by_cases hm : m = n
  · subst hm
    rw [dif_pos (by omega), if_pos rfl]
    exact congrArg (fun z => y (ix4 z (0 : Fin 1) h c)) (Fin.ext (by simp))
  · rw [dif_neg (fun hh => hm (Fin.ext (by omega))), if_neg hm]

end

theorem word (n : Fin 64) : (64#32 - BitVec.ofNat 32 (63 - n.val) - 1#32).toInt = (n.val : Int) := by
  revert n; decide

variable (s : State Ideal) (n : Fin 64)

theorem start5 (k : Fin 5) : (((![(b3 (63 - n.val) s), (b4 (63 - n.val) s), (b5 (63 - n.val) s), (b6 (63 - n.val) s), (b7 (63 - n.val) s)] :
    Fin 5 → (⟨S_, .i32⟩ : BufTy).Contents (Elt Ideal))) k (Shape.Idx.first h_S_)).toInt = ((![n.val, 0, 0, 0, 0] : Fin 5 → ℕ) k : Int) := by
  fin_cases k
  · exact word n
  all_goals rfl
theorem start4 (k : Fin 4) : (((![(b3 (63 - n.val) s), (b4 (63 - n.val) s), (b5 (63 - n.val) s), (b6 (63 - n.val) s)] :
    Fin 4 → (⟨S_, .i32⟩ : BufTy).Contents (Elt Ideal))) k (Shape.Idx.first h_S_)).toInt = ((![n.val, 0, 0, 0] : Fin 4 → ℕ) k : Int) := by
  fin_cases k
  · exact word n
  all_goals rfl

/-- Chunk `n` of a state's stacks. -/
def sblk : Blk where
  o := fun h c e => s.main_v27_7 (ix5 n (0 : Fin 1) h c e)
  q := fun h c e => s.main_v27_0 (ix5 n (0 : Fin 1) h c e)
  k := fun h c e => s.main_v27_1 (ix5 n (0 : Fin 1) h c e)
  u := fun h c e => s.main_v27_2 (ix5 n (0 : Fin 1) h c e)
  w := fun h c e => s.main_v27_3 (ix5 n (0 : Fin 1) h c e)
  g := fun h c => s.main_v27_4 (ix4 n (0 : Fin 1) h c)
  qk := fun h c e => s.main_v27_5 (ix5 n (0 : Fin 1) h c e)
  s := fun h e f => s.main_v27_6 (ix4 n h e f)

/-- The carried cotangent of a state. -/
def sst : St := fun h e f => s.main_v27_9 (ix4 (0 : Fin 1) h e f)

theorem q_at (h : Fin 4) (c : Fin 64) (e : Fin 128) : b9 (63 - n.val) s (ix4 (0 : Fin 1) h c e) = (sblk s n).q h c e := by
  pointwise [b9]; exact cut5 n _ _ (start5 s n) _ h c e
theorem k_at (h : Fin 4) (c : Fin 64) (e : Fin 128) : b15 (63 - n.val) s (ix4 (0 : Fin 1) h c e) = (sblk s n).k h c e := by
  pointwise [b15]; exact cut5 n _ _ (start5 s n) _ h c e
theorem u_at (h : Fin 4) (c : Fin 64) (e : Fin 128) : b21 (63 - n.val) s (ix4 (0 : Fin 1) h c e) = (sblk s n).u h c e := by
  pointwise [b21]; exact cut5 n _ _ (start5 s n) _ h c e
theorem w_at (h : Fin 4) (c : Fin 64) (e : Fin 128) : b27 (63 - n.val) s (ix4 (0 : Fin 1) h c e) = (sblk s n).w h c e := by
  pointwise [b27]; exact cut5 n _ _ (start5 s n) _ h c e
theorem o_at (h : Fin 4) (c : Fin 64) (e : Fin 128) : b49 (63 - n.val) s (ix4 (0 : Fin 1) h c e) = (sblk s n).o h c e := by
  pointwise [b49]; exact cut5 n _ _ (start5 s n) _ h c e
theorem g_at (h : Fin 4) (c : Fin 64) : b32 (63 - n.val) s (ix3 (0 : Fin 1) h c) = (sblk s n).g h c := by
  pointwise [b32]; exact cut4 n _ _ (start4 s n) _ h c
theorem qk_at (h : Fin 4) (c e : Fin 64) : b38 (63 - n.val) s (ix4 (0 : Fin 1) h c e) = (sblk s n).qk h c e := by
  pointwise [b38]; exact cut5' n _ _ (start5 s n) _ h c e
theorem s_at (h : Fin 4) (e f : Fin 128) : b50 (63 - n.val) s (ix4 (0 : Fin 1) h e f) = (sblk s n).s h e f := by
  pointwise [b50, b43]; exact cut4' n _ _ (start4 s n) _ h e f

theorem vn_at (h : Fin 4) (c : Fin 64) (e : Fin 128) : b52 (63 - n.val) s (ix4 (0 : Fin 1) h c e) = (sblk s n).vn h c e := by
  pointwise [b52, b51]; simp only [u_at, w_at, s_at]; rfl
theorem a_at (h : Fin 4) (c : Fin 64) : b53 (63 - n.val) s (ix3 (0 : Fin 1) h c) = (sblk s n).a h c := by
  pointwise [b53]; rw [g_at]; rfl
theorem qa_at (h : Fin 4) (c : Fin 64) (e : Fin 128) : b56 (63 - n.val) s (ix4 (0 : Fin 1) h c e) = (sblk s n).q h c e * (sblk s n).a h c := by
  pointwise [b56, b55, b54]; rw [q_at, a_at]
theorem g63_at (h : Fin 4) : b61 (63 - n.val) s (ix2 (0 : Fin 1) h) = (sblk s n).g h 63 := by
  pointwise [b61, b60]; exact g_at s n h 63
theorem gl_at (h : Fin 4) : b62 (63 - n.val) s (ix2 (0 : Fin 1) h) = (sblk s n).gl h := by
  pointwise [b62]; rw [g63_at]; rfl
theorem b_at (h : Fin 4) (c : Fin 64) : b69 (63 - n.val) s (ix3 (0 : Fin 1) h c) = (sblk s n).b h c := by
  pointwise [b69, b68, b67, b66]; rw [g63_at, g_at]; rfl
theorem kb_at (h : Fin 4) (c : Fin 64) (e : Fin 128) : b72 (63 - n.val) s (ix4 (0 : Fin 1) h c e) = (sblk s n).k h c e * (sblk s n).b h c := by
  pointwise [b72, b71, b70]; rw [k_at, b_at]
theorem dkb_at (h : Fin 4) (c : Fin 64) (e : Fin 128) : b78 (63 - n.val) s (ix4 (0 : Fin 1) h c e) = (sblk s n).dkb (sst s) h c e := by
  pointwise [b78, b77]; simp only [vn_at]
  exact Finset.sum_congr rfl fun f _ => mul_comm _ _
theorem dk_at (h : Fin 4) (c : Fin 64) (e : Fin 128) : b84 (63 - n.val) s (ix4 (0 : Fin 1) h c e) = (sblk s n).dk (sst s) h c e := by
  pointwise [b84, b83, b70]; rw [dkb_at, b_at]; rfl
theorem X_at (h : Fin 4) (c : Fin 64) : b88 (63 - n.val) s (ix3 (0 : Fin 1) h c) = (sblk s n).X (sst s) h c := by
  pointwise [b88, b87, b86, b85]; rw [reduce_unit03]
  pointwise [b82, b81, b80, b79]; simp only [k_at, dkb_at, b_at]; rfl
theorem du_at (h : Fin 4) (c : Fin 64) (e : Fin 128) : b113 (63 - n.val) s (ix4 (0 : Fin 1) h c e) = (sblk s n).du (sst s) h c e := by
  pointwise [b113, b112, b111, b76, b75]; simp only [kb_at, o_at, qk_at]
  exact congrArg₂ _ (Finset.sum_congr rfl fun f _ => mul_comm _ _) (Finset.sum_congr rfl fun f _ => mul_comm _ _)
theorem dA_at (h : Fin 4) (c : Fin 64) (e : Fin 128) : b118 (63 - n.val) s (ix4 (0 : Fin 1) h c e) = (sblk s n).dA h c e := by
  pointwise [b118]; simp only [o_at, s_at]; rfl
theorem dq_at (h : Fin 4) (c : Fin 64) (e : Fin 128) : b124 (63 - n.val) s (ix4 (0 : Fin 1) h c e) = (sblk s n).dq h c e := by
  pointwise [b124, b123, b54]; rw [dA_at, a_at]; rfl
theorem ndu_at (h : Fin 4) (c : Fin 64) (e : Fin 128) : b130 (63 - n.val) s (ix4 (0 : Fin 1) h c e) = -(sblk s n).du (sst s) h c e := by
  pointwise [b130]; rw [du_at]
theorem dw_at (h : Fin 4) (c : Fin 64) (e : Fin 128) : b134 (63 - n.val) s (ix4 (0 : Fin 1) h c e) = (sblk s n).dw (sst s) h c e := by
  pointwise [b134]; simp only [ndu_at, s_at]; rfl
theorem dqk_at (h : Fin 4) (c e : Fin 64) : b114 (63 - n.val) s (ix4 (0 : Fin 1) h c e) = (sblk s n).dqk h c e := by
  pointwise [b114]; simp only [o_at, vn_at]; rfl
theorem dgl_at (h : Fin 4) : b106 (63 - n.val) s (ix2 (0 : Fin 1) h) = (sblk s n).dgl (sst s) h := by
  pointwise [b106, b105, b104, b103, b102, b95, b94, b93]; rw [reduce_unit02, reduce_unit023]
  pointwise [b99, b98, b97, b96, b91, b90, b89]
  simp only [X_at, s_at, gl_at]; rfl
theorem pad_at (h : Fin 4) (c : Fin 64) : b109 (63 - n.val) s (ix3 (0 : Fin 1) h c) = if c = 63 then (sblk s n).dgl (sst s) h else 0 := by
  pointwise [b109, b108, b107]
  by_cases hc : c = 63
  · subst hc
    rw [if_pos rfl, dif_pos (by decide)]; exact dgl_at s n h
  · have : c.val ≠ 63 := fun e => hc (Fin.ext e)
    rw [if_neg hc, dif_neg (by omega)]
theorem dg_at (h : Fin 4) (c : Fin 64) : b129 (63 - n.val) s (ix3 (0 : Fin 1) h c) = (sblk s n).dg (sst s) h c := by
  pointwise [b129, b128, b127, b126, b125, b110, b92]; rw [reduce_unit03]
  pointwise [b122, b121, b120, b119]
  simp only [X_at, pad_at, dA_at, q_at, a_at]; rfl
theorem next_at (h : Fin 4) (e f : Fin 128) : b133 (63 - n.val) s (ix4 (0 : Fin 1) h e f) = (sblk s n).next (sst s) h e f := by
  pointwise [b133, b132, b131, b117, b116, b115, b101, b100, b63]
  simp only [gl_at, o_at, qa_at, ndu_at, w_at]
  exact congrArg₂ _ (congrArg₂ _ rfl (Finset.sum_congr rfl fun f _ => mul_comm _ _)) (Finset.sum_congr rfl fun f _ => mul_comm _ _)

end Cert.ReferenceIdeal.Trip

end
-- ==== Proof.RefBack.lean ====
/-
  The backward reference's results over the extended reals: the loop carries the states' cotangents, and every entry of a result is
  the chunk's formula at the cotangent carried into that chunk.
-/
module

public import proofs.«01_k».proof.Proof.RefAt

@[expose] public section

set_option maxRecDepth 16384
set_option maxHeartbeats 1000000

noncomputable section

namespace Cert.ReferenceIdeal.Trip

open Idealize.ShloMosaic Idealize.ShloMosaic.TcCoe Idealize.SL.Sem
open Cert.ReferenceIdeal Cert.ReferenceIdeal.Gen Cert.ReferenceIdeal.Step Cert.Delta

section
variable (s : State Ideal) (n m : Fin 64)

theorem put_dq (h : Fin 4) (c : Fin 64) (e : Fin 128) : b140 (63 - n.val) s (ix5 m (0 : Fin 1) h c e)
    = if m = n then (sblk s n).dq h c e else s.main_v27_10 (ix5 m (0 : Fin 1) h c e) := by
  refine (put5 n m _ _ _ (start5 s n) _ h c e).trans ?_
  pointwise [b135]; rw [dq_at]
theorem put_dk (h : Fin 4) (c : Fin 64) (e : Fin 128) : b146 (63 - n.val) s (ix5 m (0 : Fin 1) h c e)
    = if m = n then (sblk s n).dk (sst s) h c e else s.main_v27_11 (ix5 m (0 : Fin 1) h c e) := by
  refine (put5 n m _ _ _ (start5 s n) _ h c e).trans ?_
  pointwise [b141]; rw [dk_at]
theorem put_du (h : Fin 4) (c : Fin 64) (e : Fin 128) : b152 (63 - n.val) s (ix5 m (0 : Fin 1) h c e)
    = if m = n then (sblk s n).du (sst s) h c e else s.main_v27_12 (ix5 m (0 : Fin 1) h c e) := by
  refine (put5 n m _ _ _ (start5 s n) _ h c e).trans ?_
  pointwise [b147]; rw [du_at]
theorem put_dw (h : Fin 4) (c : Fin 64) (e : Fin 128) : b158 (63 - n.val) s (ix5 m (0 : Fin 1) h c e)
    = if m = n then (sblk s n).dw (sst s) h c e else s.main_v27_13 (ix5 m (0 : Fin 1) h c e) := by
  refine (put5 n m _ _ _ (start5 s n) _ h c e).trans ?_
  pointwise [b153]; rw [dw_at]
theorem put_dg (h : Fin 4) (c : Fin 64) : b163 (63 - n.val) s (ix4 m (0 : Fin 1) h c)
    = if m = n then (sblk s n).dg (sst s) h c else s.main_v27_14 (ix4 m (0 : Fin 1) h c) := by
  refine (put4 n m _ _ _ (start4 s n) _ h c).trans ?_
  pointwise [b159]; rw [dg_at]
theorem put_dqk (h : Fin 4) (c e : Fin 64) : b169 (63 - n.val) s (ix5 m (0 : Fin 1) h c e)
    = if m = n then (sblk s n).dqk h c e else s.main_v27_15 (ix5 m (0 : Fin 1) h c e) := by
  refine (put5' n m _ _ _ (start5 s n) _ h c e).trans ?_
  pointwise [b164]; rw [dqk_at]

theorem sst_step : sst (step (63 - n.val) s) = (sblk s n).next (sst s) := by
  funext h e f; exact next_at s n h e f
theorem sblk_step (j : ℕ) : sblk (step j s) n = sblk s n := rfl

end

/-- What the loop holds after `j` trips that began with the chunks `B`. -/
structure After (B : Fin 64 → Blk) (j : ℕ) (s : State Ideal) : Prop where
  blk : sblk s = B
  st : sst s = back B j
  dq : ∀ m : Fin 64, 64 - j ≤ m.val → ∀ h c e, s.main_v27_10 (ix5 m (0 : Fin 1) h c e) = (B m).dq h c e
  dk : ∀ m : Fin 64, 64 - j ≤ m.val → ∀ h c e, s.main_v27_11 (ix5 m (0 : Fin 1) h c e) = (B m).dk (back B (63 - m.val)) h c e
  du : ∀ m : Fin 64, 64 - j ≤ m.val → ∀ h c e, s.main_v27_12 (ix5 m (0 : Fin 1) h c e) = (B m).du (back B (63 - m.val)) h c e
  dw : ∀ m : Fin 64, 64 - j ≤ m.val → ∀ h c e, s.main_v27_13 (ix5 m (0 : Fin 1) h c e) = (B m).dw (back B (63 - m.val)) h c e
  dg : ∀ m : Fin 64, 64 - j ≤ m.val → ∀ h c, s.main_v27_14 (ix4 m (0 : Fin 1) h c) = (B m).dg (back B (63 - m.val)) h c
  dqk : ∀ m : Fin 64, 64 - j ≤ m.val → ∀ h c e, s.main_v27_15 (ix5 m (0 : Fin 1) h c e) = (B m).dqk h c e

theorem After.next {B : Fin 64 → Blk} {s : State Ideal} (n : Fin 64) (H : After B (63 - n.val) s) :
    After B (63 - n.val + 1) (step (63 - n.val) s) := by
  obtain ⟨hb, hs, h1, h2, h3, h4, h5, h6⟩ := H
  have hbn : sblk s n = B n := congrFun hb n
  have key : ∀ m : Fin 64, 64 - (63 - n.val + 1) ≤ m.val → m ≠ n → 64 - (63 - n.val) ≤ m.val := fun m hm hne => by
    have := n.isLt; have : m.val ≠ n.val := fun e => hne (Fin.ext e); omega
  refine ⟨hb, ?_, fun m hm h c e => ?_, fun m hm h c e => ?_, fun m hm h c e => ?_, fun m hm h c e => ?_, fun m hm h c => ?_,
    fun m hm h c e => ?_⟩
  · rw [sst_step, hbn, hs, back_succ]
  · refine (put_dq s n m h c e).trans ?_
    by_cases hmn : m = n
    · subst hmn; rw [if_pos rfl, hbn]
    · rw [if_neg hmn]; exact h1 m (key m hm hmn) h c e
  · refine (put_dk s n m h c e).trans ?_
    by_cases hmn : m = n
    · subst hmn; rw [if_pos rfl, hbn, hs]
    · rw [if_neg hmn]; exact h2 m (key m hm hmn) h c e
  · refine (put_du s n m h c e).trans ?_
    by_cases hmn : m = n
    · subst hmn; rw [if_pos rfl, hbn, hs]
    · rw [if_neg hmn]; exact h3 m (key m hm hmn) h c e
  · refine (put_dw s n m h c e).trans ?_
    by_cases hmn : m = n
    · subst hmn; rw [if_pos rfl, hbn, hs]
    · rw [if_neg hmn]; exact h4 m (key m hm hmn) h c e
  · refine (put_dg s n m h c).trans ?_
    by_cases hmn : m = n
    · subst hmn; rw [if_pos rfl, hbn, hs]
    · rw [if_neg hmn]; exact h5 m (key m hm hmn) h c
  · refine (put_dqk s n m h c e).trans ?_
    by_cases hmn : m = n
    · subst hmn; rw [if_pos rfl, hbn]
    · rw [if_neg hmn]; exact h6 m (key m hm hmn) h c e

/-! The arguments' chunks. -/

/-- The argument arrays a device holds. -/
def args (m : (ℓ : Loc nD τ sig) → Buf (Elt Ideal) ℓ) (c : Dev nD) : Arrays where
  o := m ((c.tc : Thread nD τ).loc main_arg0)
  q := m ((c.tc : Thread nD τ).loc main_arg1)
  k := m ((c.tc : Thread nD τ).loc main_arg2)
  u := m ((c.tc : Thread nD τ).loc main_arg3)
  w := m ((c.tc : Thread nD τ).loc main_arg4)
  g := m ((c.tc : Thread nD τ).loc main_arg5)
  qk := m ((c.tc : Thread nD τ).loc main_arg6)
  s := m ((c.tc : Thread nD τ).loc main_arg7)

theorem rowE (n c : Fin 64) (p) : (⟨n.val * 64 + c.val, p⟩ : Fin 4096) = row n c := Fin.ext (by show n.val * 64 + c.val = 64 * n.val + c.val; omega)
theorem laneE (h : Fin 4) (e : Fin 128) (p) : (⟨h.val * 128 + e.val, p⟩ : Fin 512) = lane h e := Fin.ext (by show h.val * 128 + e.val = 128 * h.val + e.val; omega)
theorem row_div (n c : Fin 64) (p) : (⟨(row n c).val / 64, p⟩ : Fin 64) = n := Fin.ext (by show (64 * n.val + c.val) / 64 = n.val; omega)
theorem row_mod (n c : Fin 64) (p) : (⟨(row n c).val % 64, p⟩ : Fin 64) = c := Fin.ext (by show (64 * n.val + c.val) % 64 = c.val; omega)
theorem lane_div (h : Fin 4) (e : Fin 128) (p) : (⟨(lane h e).val / 128, p⟩ : Fin 4) = h := Fin.ext (by show (128 * h.val + e.val) / 128 = h.val; omega)
theorem lane_mod (h : Fin 4) (e : Fin 128) (p) : (⟨(lane h e).val % 128, p⟩ : Fin 128) = e := Fin.ext (by show (128 * h.val + e.val) % 128 = e.val; omega)

theorem after_zero (m : (ℓ : Loc nD τ sig) → Buf (Elt Ideal) ℓ) (d : Dev nD) : After (args m d).blk 0 (initState m d) := by
  refine ⟨funext fun n => ?_, ?_, fun m hm => absurd m.isLt (by omega), fun m hm => absurd m.isLt (by omega),
    fun m hm => absurd m.isLt (by omega), fun m hm => absurd m.isLt (by omega), fun m hm => absurd m.isLt (by omega), fun m hm => absurd m.isLt (by omega)⟩
  · simp only [sblk, Arrays.blk, initState, init]
    congr 1
    · funext h c e; pointwise [A_main_v20, A_main_v19, A_main_v18]; rw [rowE, laneE]; rfl
    · funext h c e; pointwise [A_main_v2, A_main_v1, A_main_v0]; rw [rowE, laneE]; rfl
    · funext h c e; pointwise [A_main_v5, A_main_v4, A_main_v3]; rw [rowE, laneE]; rfl
    · funext h c e; pointwise [A_main_v8, A_main_v7, A_main_v6]; rw [rowE, laneE]; rfl
    · funext h c e; pointwise [A_main_v11, A_main_v10, A_main_v9]; rw [rowE, laneE]; rfl
    · funext h c; pointwise [A_main_v15, A_main_v14, A_main_v13, A_main_v12]; rw [rowE]; rfl
    · funext h c e; pointwise [A_main_v16]; rfl
  · funext h e f
    show K_main_v17 (F := Ideal) (ix4 (0 : Fin 1) h e f) = 0
    pointwise [K_main_v17, K_main_cst]

/-- The loop's states, trip by trip. -/
def iter (m : (ℓ : Loc nD τ sig) → Buf (Elt Ideal) ℓ) (d : Dev nD) : ℕ → State Ideal
  | 0 => initState m d
  | j + 1 => step j (iter m d j)

theorem after (m : (ℓ : Loc nD τ sig) → Buf (Elt Ideal) ℓ) (d : Dev nD) : ∀ j ≤ 64, After (args m d).blk j (iter m d j)
  | 0, _ => after_zero m d
  | j + 1, hj => by
    have e : 63 - (⟨63 - j, by omega⟩ : Fin 64).val = j := by show 63 - (63 - j) = j; omega
    have H := After.next (B := (args m d).blk) (s := iter m d j) ⟨63 - j, by omega⟩ (by rw [e]; exact after m d j (by omega))
    rw [e] at H
    exact H

/-! The results at an entry. -/

section
variable {B : Fin 64 → Blk} {s : State Ideal} (H : After B 64 s) (n : Fin 64) (h : Fin 4)
include H

theorem out_dq (c : Fin 64) (e : Fin 128) : R_main_v31 s (ix2 (row n c) (lane h e)) = (B n).dq h c e := by
  pointwise [R_main_v31]; rw [row_div, row_mod, lane_div, lane_mod]; exact H.dq n (Nat.zero_le _) h c e
theorem out_dk (c : Fin 64) (e : Fin 128) : R_main_v33 s (ix2 (row n c) (lane h e)) = (B n).dk (back B (63 - n.val)) h c e := by
  pointwise [R_main_v33]; rw [row_div, row_mod, lane_div, lane_mod]; exact H.dk n (Nat.zero_le _) h c e
theorem out_du (c : Fin 64) (e : Fin 128) : R_main_v35 s (ix2 (row n c) (lane h e)) = (B n).du (back B (63 - n.val)) h c e := by
  pointwise [R_main_v35]; rw [row_div, row_mod, lane_div, lane_mod]; exact H.du n (Nat.zero_le _) h c e
theorem out_dw (c : Fin 64) (e : Fin 128) : R_main_v37 s (ix2 (row n c) (lane h e)) = (B n).dw (back B (63 - n.val)) h c e := by
  pointwise [R_main_v37]; rw [row_div, row_mod, lane_div, lane_mod]; exact H.dw n (Nat.zero_le _) h c e
theorem out_dqk (c e : Fin 64) : R_main_v39 s (ix4 n h c e) = (B n).dqk h c e := by
  pointwise [R_main_v39]; exact H.dqk n (Nat.zero_le _) h c e
omit h in
theorem out_dg (c : Fin 64) (l : Fin 128) : R_main_v38 s (ix2 (row n c) l)
    = if hl : l.val < 4 then (B n).dg (back B (63 - n.val)) ⟨l.val, hl⟩ c else 0 := by
  pointwise [R_main_v38]
  by_cases hl : l.val < 4
  · rw [dif_pos hl, dif_pos hl, row_div, row_mod]; exact H.dg n (Nat.zero_le _) _ c
  · rw [dif_neg hl, dif_neg hl]
    show (((0#32 : BitVec 32).toInt : ℝ) : EReal) = 0
    simp

end

end Cert.ReferenceIdeal.Trip

end
-- ==== Proof.Chunk.lean ====
/-
  One chunk of the backward kernel as a term. The body handles four chunks of 64 rows per grid point, last chunk first,
  each with its own printed payloads; the payloads of the four chunks have the same meaning, so the values below are
  written once (with the names of the first chunk handled) and every store of the body is one of them.
-/
module

public import proofs.«01_k».proof.Proof.Gen.KernelIdeal.Value
public import Idealize.ShloMosaic.Lib.Pointwise
public import Idealize.ShloMosaic.Lib.Pipeline.ValueKit
public import Idealize.ShloMosaic.Lib.Tactic

@[expose] public section

set_option maxRecDepth 16384
set_option maxHeartbeats 1000000

noncomputable section

namespace Cert.KernelIdeal.Chunk

open Idealize.ShloMosaic Idealize.ShloMosaic.TcCoe Idealize.SL.Sem
open Cert.KernelIdeal Cert.KernelIdeal.Gen

variable {F : FTy → Type} [FloatOps F]

/-- What the body loads for one chunk: the output's cotangent, q, k, u, w (four heads side by side), the log decays
    (one lane per head), the scores of q and k, and the state the chunk starts from. -/
structure In (F : FTy → Type) where
  o : Vec F S64x512 .f32
  q : Vec F S64x512 .f32
  k : Vec F S64x512 .f32
  u : Vec F S64x512 .f32
  w : Vec F S64x512 .f32
  g : Vec F S64x128 .f32
  qk : Vec F S1x4x64x64 .f32
  s : Vec F S1x4x128x128 .f32

/-- The new value rows `u - w S`. -/
def vnew (x : In F) : FVec F S4x64x128 .f32 :=
  k0_pay17 (k0_pay4 x.s) (k0_pay7 x.u) (k0_pay8 x.w) (k0_pay9 x.w) (k0_pay10 x.w) (k0_pay11 x.w)

/-- The cotangent of `vnew`, which is that of `u`. -/
def du (x : In F) (d : Vec F S4x128x128 .f32) : FVec F S4x64x128 .f32 :=
  k0_pay35 (k0_pay14 x.qk) (k0_pay22 (k0_pay6 x.k) x.g) d (k0_pay23 x.o) (k0_pay24 x.o) (k0_pay25 x.o) (k0_pay26 x.o)

/-- The cotangent of the state before the chunk, from the cotangent `d` of the state after it. -/
def nextV (o q k w : Vec F S64x512 .f32) (g : Vec F S64x128 .f32) (qk : Vec F S1x4x64x64 .f32) (d : Vec F S4x128x128 .f32) :
    Vec F S4x128x128 .f32 :=
  k0_pay44 (k0_pay12 (k0_pay8 w) (k0_pay9 w) (k0_pay10 w) (k0_pay11 w))
    (k0_pay35 (k0_pay14 qk) (k0_pay22 (k0_pay6 k) g) d (k0_pay23 o) (k0_pay24 o) (k0_pay25 o) (k0_pay26 o))
    (k0_pay37 (k0_pay19 (k0_pay5 q) g) (k0_pay20 g) d (k0_pay23 o) (k0_pay24 o) (k0_pay25 o) (k0_pay26 o)) k0_pay40

def next (x : In F) (d : Vec F S4x128x128 .f32) : Vec F S4x128x128 .f32 := nextV x.o x.q x.k x.w x.g x.qk d

/-- The four chunks' printed terms of the new cotangent are this one. -/
theorem next3 (o q k w : Vec F S64x512 .f32) (g : Vec F S64x128 .f32) (qk : Vec F S1x4x64x64 .f32) (d : Vec F S4x128x128 .f32) :
    k0_pay44 (k0_pay12 (k0_pay8 w) (k0_pay9 w) (k0_pay10 w) (k0_pay11 w))
      (k0_pay35 (k0_pay14 qk) (k0_pay22 (k0_pay6 k) g) d (k0_pay23 o) (k0_pay24 o) (k0_pay25 o) (k0_pay26 o))
      (k0_pay37 (k0_pay19 (k0_pay5 q) g) (k0_pay20 g) d (k0_pay23 o) (k0_pay24 o) (k0_pay25 o) (k0_pay26 o)) k0_pay40
      = nextV o q k w g qk d := rfl
theorem next2 (o q k w : Vec F S64x512 .f32) (g : Vec F S64x128 .f32) (qk : Vec F S1x4x64x64 .f32) (d : Vec F S4x128x128 .f32) :
    k0_pay89 (k0_pay61 w) (k0_pay79 (k0_pay69 g) d) (k0_pay82 (k0_pay63 qk) (k0_pay71 (k0_pay56 k) g) d o)
      (k0_pay84 (k0_pay68 (k0_pay55 q) g)) (k0_pay85 o) (constant S4x128x128 .f32 0#32) = nextV o q k w g qk d := rfl
theorem next1 (o q k w : Vec F S64x512 .f32) (g : Vec F S64x128 .f32) (qk : Vec F S1x4x64x64 .f32) (d : Vec F S4x128x128 .f32) :
    k0_pay132 (k0_pay106 w) (k0_pay108 qk) (k0_pay113 (k0_pay100 q) (k0_pay107 g)) (k0_pay116 o)
      (k0_pay120 (k0_pay105 (k0_pay101 k) (k0_pay102 k) (k0_pay103 k) (k0_pay104 k)) (k0_pay107 g) (k0_pay110 g) d)
      (k0_pay124 (k0_pay110 g) d) = nextV o q k w g qk d := rfl
theorem next0 (o q k w : Vec F S64x512 .f32) (g : Vec F S64x128 .f32) (qk : Vec F S1x4x64x64 .f32) (d : Vec F S4x128x128 .f32) :
    k0_pay177 (concatenate S4x64x128 0 [⟨S1x64x128, shapeCast S1x64x128 (extractStridedSlice S64x128 ![0, 0] w slices_S64x512_o0_0_S64x128) shapeCasts_S64x128_S1x64x128⟩, ⟨S1x64x128, shapeCast S1x64x128 (extractStridedSlice S64x128 ![0, 128] w slices_S64x512_o0_128_S64x128) shapeCasts_S64x128_S1x64x128⟩, ⟨S1x64x128, shapeCast S1x64x128 (extractStridedSlice S64x128 ![0, 256] w slices_S64x512_o0_256_S64x128) shapeCasts_S64x128_S1x64x128⟩, ⟨S1x64x128, shapeCast S1x64x128 (extractStridedSlice S64x128 ![0, 384] w slices_S64x512_o0_384_S64x128) shapeCasts_S64x128_S1x64x128⟩] concatenates_S1x64x128_S1x64x128_S1x64x128_S1x64x128_S4x64x128_d0)
      (shapeCast S4x64x64 qk shapeCasts_S1x4x64x64_S4x64x64)
      (k0_pay158 (concatenate S4x64x128 0 [⟨S1x64x128, k0_pay143 q⟩, ⟨S1x64x128, k0_pay144 q⟩, ⟨S1x64x128, k0_pay145 q⟩, ⟨S1x64x128, k0_pay146 q⟩] concatenates_S1x64x128_S1x64x128_S1x64x128_S1x64x128_S4x64x128_d0)
        (concatenate S4x64x1 0 [⟨S1x64x1, shapeCast S1x64x1 (extractStridedSlice S64x1 ![0, 0] g slices_S64x128_o0_0_S64x1) shapeCasts_S64x1_S1x64x1⟩, ⟨S1x64x1, shapeCast S1x64x1 (extractStridedSlice S64x1 ![0, 1] g slices_S64x128_o0_1_S64x1) shapeCasts_S64x1_S1x64x1⟩, ⟨S1x64x1, shapeCast S1x64x1 (extractStridedSlice S64x1 ![0, 2] g slices_S64x128_o0_2_S64x1) shapeCasts_S64x1_S1x64x1⟩, ⟨S1x64x1, shapeCast S1x64x1 (extractStridedSlice S64x1 ![0, 3] g slices_S64x128_o0_3_S64x1) shapeCasts_S64x1_S1x64x1⟩] concatenates_S1x64x1_S1x64x1_S1x64x1_S1x64x1_S4x64x1_d0))
      (k0_pay159 (concatenate S4x64x1 0 [⟨S1x64x1, shapeCast S1x64x1 (extractStridedSlice S64x1 ![0, 0] g slices_S64x128_o0_0_S64x1) shapeCasts_S64x1_S1x64x1⟩, ⟨S1x64x1, shapeCast S1x64x1 (extractStridedSlice S64x1 ![0, 1] g slices_S64x128_o0_1_S64x1) shapeCasts_S64x1_S1x64x1⟩, ⟨S1x64x1, shapeCast S1x64x1 (extractStridedSlice S64x1 ![0, 2] g slices_S64x128_o0_2_S64x1) shapeCasts_S64x1_S1x64x1⟩, ⟨S1x64x1, shapeCast S1x64x1 (extractStridedSlice S64x1 ![0, 3] g slices_S64x128_o0_3_S64x1) shapeCasts_S64x1_S1x64x1⟩] concatenates_S1x64x1_S1x64x1_S1x64x1_S1x64x1_S4x64x1_d0)
        (extui 32 (cmpi .eq (iota .tc S64x1 32 [0] iota_S64x1_d0_w32) (broadcast S64x1 63#32)) natLt_1_32))
      (k0_pay161 o) (k0_pay162 d)
      (k0_pay165 (concatenate S4x64x128 0 [⟨S1x64x128, shapeCast S1x64x128 (extractStridedSlice S64x128 ![0, 0] k slices_S64x512_o0_0_S64x128) shapeCasts_S64x128_S1x64x128⟩, ⟨S1x64x128, shapeCast S1x64x128 (extractStridedSlice S64x128 ![0, 128] k slices_S64x512_o0_128_S64x128) shapeCasts_S64x128_S1x64x128⟩, ⟨S1x64x128, shapeCast S1x64x128 (extractStridedSlice S64x128 ![0, 256] k slices_S64x512_o0_256_S64x128) shapeCasts_S64x128_S1x64x128⟩, ⟨S1x64x128, shapeCast S1x64x128 (extractStridedSlice S64x128 ![0, 384] k slices_S64x512_o0_384_S64x128) shapeCasts_S64x128_S1x64x128⟩] concatenates_S1x64x128_S1x64x128_S1x64x128_S1x64x128_S4x64x128_d0)
        (concatenate S4x64x1 0 [⟨S1x64x1, shapeCast S1x64x1 (extractStridedSlice S64x1 ![0, 0] g slices_S64x128_o0_0_S64x1) shapeCasts_S64x1_S1x64x1⟩, ⟨S1x64x1, shapeCast S1x64x1 (extractStridedSlice S64x1 ![0, 1] g slices_S64x128_o0_1_S64x1) shapeCasts_S64x1_S1x64x1⟩, ⟨S1x64x1, shapeCast S1x64x1 (extractStridedSlice S64x1 ![0, 2] g slices_S64x128_o0_2_S64x1) shapeCasts_S64x1_S1x64x1⟩, ⟨S1x64x1, shapeCast S1x64x1 (extractStridedSlice S64x1 ![0, 3] g slices_S64x128_o0_3_S64x1) shapeCasts_S64x1_S1x64x1⟩] concatenates_S1x64x1_S1x64x1_S1x64x1_S1x64x1_S4x64x1_d0)
        (extui 32 (cmpi .eq (iota .tc S64x1 32 [0] iota_S64x1_d0_w32) (broadcast S64x1 63#32)) natLt_1_32) d)
      = nextV o q k w g qk d := rfl

/-- The cotangent of q, heads apart. -/
def dq (x : In F) : FVec F S4x64x128 .f32 :=
  k0_pay38 (k0_pay4 x.s) (k0_pay18 x.g) (k0_pay23 x.o) (k0_pay24 x.o) (k0_pay25 x.o) (k0_pay26 x.o)

/-- The cotangent of k, heads apart. -/
def dk (x : In F) (d : Vec F S4x128x128 .f32) : FVec F S4x64x128 .f32 := k0_pay31 (vnew x) (k0_pay21 x.g) d

/-- The cotangent of w, heads apart. -/
def dw (x : In F) (d : Vec F S4x128x128 .f32) : FVec F S4x64x128 .f32 := k0_pay42 (k0_pay4 x.s) (du x d) k0_pay40

/-- The cotangent of the log decays, heads apart. -/
def dg (x : In F) (d : Vec F S4x128x128 .f32) : FVec F S4x64x1 .f32 :=
  k0_pay43 k0_pay15 (k0_pay33 (k0_pay4 x.s) (k0_pay6 x.k) (vnew x) (k0_pay20 x.g) (k0_pay21 x.g) d)
    (k0_pay39 (k0_pay4 x.s) (k0_pay5 x.q) (k0_pay6 x.k) (vnew x) (k0_pay18 x.g) (k0_pay21 x.g) d (k0_pay23 x.o) (k0_pay24 x.o) (k0_pay25 x.o) (k0_pay26 x.o))

/-- The six stored blocks. -/
def sdq (x : In F) : FVec F S64x512 .f32 := k0_pay45 (dq x)
def sdk (x : In F) (d : Vec F S4x128x128 .f32) : FVec F S64x512 .f32 := k0_pay46 (dk x d)
def sdu (x : In F) (d : Vec F S4x128x128 .f32) : FVec F S64x512 .f32 := k0_pay47 (du x d)
def sdw (x : In F) (d : Vec F S4x128x128 .f32) : FVec F S64x512 .f32 := k0_pay48 (dw x d)
def sdg (x : In F) (d : Vec F S4x128x128 .f32) : FVec F S64x128 .f32 :=
  k0_pay52 (k0_pay49 (dg x d)) (k0_pay50 (dg x d)) (iota .tc S1x128 32 [1] iota_S1x128_d1_w32) k0_pay51
def sdqk (x : In F) : FVec F S1x4x64x64 .f32 :=
  k0_pay53 (k0_pay34 (vnew x) (k0_pay23 x.o) (k0_pay24 x.o) (k0_pay25 x.o) (k0_pay26 x.o))

/-- The loads of chunk `a` of a point's blocks. -/
def ldc (x0 x1 x2 x3 x4 : Vec F S256x512 .f32) (x5 : Vec F S256x128 .f32) (x6 : Vec F S4x4x64x64 .f32) (x7 : Vec F S4x4x128x128 .f32)
    (a : Fin 4) : In F where
  o := View.ld x0 (Rect.unit ![64 * a.val, 0] ![64, 512] (by revert a; decide))
  q := View.ld x1 (Rect.unit ![64 * a.val, 0] ![64, 512] (by revert a; decide))
  k := View.ld x2 (Rect.unit ![64 * a.val, 0] ![64, 512] (by revert a; decide))
  u := View.ld x3 (Rect.unit ![64 * a.val, 0] ![64, 512] (by revert a; decide))
  w := View.ld x4 (Rect.unit ![64 * a.val, 0] ![64, 512] (by revert a; decide))
  g := View.ld x5 (Rect.unit ![64 * a.val, 0] ![64, 128] (by revert a; decide))
  qk := View.ld x6 (Rect.unit ![a.val, 0, 0, 0] ![1, 4, 64, 64] (by revert a; decide))
  s := View.ld x7 (Rect.unit ![a.val, 0, 0, 0] ![1, 4, 128, 128] (by revert a; decide))

variable (m : (ℓ : Loc nD τ sig) → Buf (Elt F) ℓ)

/-- Chunk `a` of grid point `t`. -/
def pin (c : Dev nD) (t : Fin cfg0.N) (a : Fin 4) : In F :=
  ldc (iblk m c 0 t) (iblk m c 1 t) (iblk m c 2 t) (iblk m c 3 t) (iblk m c 4 t) (iblk m c 5 t) (iblk m c 6 t) (iblk m c 7 t) a

/-- The carried cotangent before chunk `a` of a point entered at `d`. -/
def carry (X : Fin 4 → In F) (d : Vec F S4x128x128 .f32) : Fin 4 → Vec F S4x128x128 .f32
  | ⟨3, _⟩ => d
  | ⟨2, _⟩ => next (X 3) d
  | ⟨1, _⟩ => next (X 2) (next (X 3) d)
  | ⟨0, _⟩ => next (X 1) (next (X 2) (next (X 3) d))

/-- What the scratch holds when point `t`'s chunks start: zero at the first point, else what the point before left. -/
def entry (c : Dev nD) (t : Fin cfg0.N) : Vec F S4x128x128 .f32 :=
  if t.val % 16 = 0 then k0_pay3 else (outsAt0 m c (t.val - 1) (by omega)).2.2.2.2.2.2

theorem entry_A (c : Dev nD) (t : Fin cfg0.N) (h : t.val % 16 = 0) : entry m c t = k0_pay3 := if_pos h

theorem entry_B (c : Dev nD) (t : Fin cfg0.N) (h : ¬ t.val % 16 = 0) :
    entry m c t = (outsAt0 m c (t.val - 1) (by omega)).2.2.2.2.2.2 := if_neg h

/-- What the body stores for chunk `a` of point `t`, as the carried cotangent before that chunk. -/
def cin (c : Dev nD) (t : Fin cfg0.N) (a : Fin 4) : Vec F S4x128x128 .f32 := carry (pin m c t) (entry m c t) a

/-- Four chunks' blocks put one below the other. -/
def rows512 (v : Fin 4 → FVec F S64x512 .f32) : Vec F S256x512 .f32 :=
  View.canon [⟨Rect.unit ![0, 0] ![64, 512] inb_S256x512_S64x512_0_0, v 0⟩,
    ⟨Rect.unit ![64, 0] ![64, 512] inb_S256x512_S64x512_64_0, v 1⟩,
    ⟨Rect.unit ![128, 0] ![64, 512] inb_S256x512_S64x512_128_0, v 2⟩,
    ⟨Rect.unit ![192, 0] ![64, 512] inb_S256x512_S64x512_192_0, v 3⟩]
def rows128 (v : Fin 4 → FVec F S64x128 .f32) : Vec F S256x128 .f32 :=
  View.canon [⟨Rect.unit ![0, 0] ![64, 128] inb_S256x128_S64x128_0_0, v 0⟩,
    ⟨Rect.unit ![64, 0] ![64, 128] inb_S256x128_S64x128_64_0, v 1⟩,
    ⟨Rect.unit ![128, 0] ![64, 128] inb_S256x128_S64x128_128_0, v 2⟩,
    ⟨Rect.unit ![192, 0] ![64, 128] inb_S256x128_S64x128_192_0, v 3⟩]
def rows4 (v : Fin 4 → FVec F S1x4x64x64 .f32) : Vec F S4x4x64x64 .f32 :=
  View.canon [⟨Rect.unit ![0, 0, 0, 0] ![1, 4, 64, 64] inb_S4x4x64x64_S1x4x64x64_0_0_0_0, v 0⟩,
    ⟨Rect.unit ![1, 0, 0, 0] ![1, 4, 64, 64] inb_S4x4x64x64_S1x4x64x64_1_0_0_0, v 1⟩,
    ⟨Rect.unit ![2, 0, 0, 0] ![1, 4, 64, 64] inb_S4x4x64x64_S1x4x64x64_2_0_0_0, v 2⟩,
    ⟨Rect.unit ![3, 0, 0, 0] ![1, 4, 64, 64] inb_S4x4x64x64_S1x4x64x64_3_0_0_0, v 3⟩]

/-! The loads with their offsets written out, and the carried cotangents. -/

theorem pin_0 (c : Dev nD) (t : Fin cfg0.N) : pin m c t 0 =
    ⟨View.ld (iblk m c 0 t) (Rect.unit ![0, 0] ![64, 512] inb_S256x512_S64x512_0_0),
      View.ld (iblk m c 1 t) (Rect.unit ![0, 0] ![64, 512] inb_S256x512_S64x512_0_0),
      View.ld (iblk m c 2 t) (Rect.unit ![0, 0] ![64, 512] inb_S256x512_S64x512_0_0),
      View.ld (iblk m c 3 t) (Rect.unit ![0, 0] ![64, 512] inb_S256x512_S64x512_0_0),
      View.ld (iblk m c 4 t) (Rect.unit ![0, 0] ![64, 512] inb_S256x512_S64x512_0_0),
      View.ld (iblk m c 5 t) (Rect.unit ![0, 0] ![64, 128] inb_S256x128_S64x128_0_0),
      View.ld (iblk m c 6 t) (Rect.unit ![0, 0, 0, 0] ![1, 4, 64, 64] inb_S4x4x64x64_S1x4x64x64_0_0_0_0),
      View.ld (iblk m c 7 t) (Rect.unit ![0, 0, 0, 0] ![1, 4, 128, 128] inb_S4x4x128x128_S1x4x128x128_0_0_0_0)⟩ := rfl
theorem pin_1 (c : Dev nD) (t : Fin cfg0.N) : pin m c t 1 =
    ⟨View.ld (iblk m c 0 t) (Rect.unit ![64, 0] ![64, 512] inb_S256x512_S64x512_64_0),
      View.ld (iblk m c 1 t) (Rect.unit ![64, 0] ![64, 512] inb_S256x512_S64x512_64_0),
      View.ld (iblk m c 2 t) (Rect.unit ![64, 0] ![64, 512] inb_S256x512_S64x512_64_0),
      View.ld (iblk m c 3 t) (Rect.unit ![64, 0] ![64, 512] inb_S256x512_S64x512_64_0),
      View.ld (iblk m c 4 t) (Rect.unit ![64, 0] ![64, 512] inb_S256x512_S64x512_64_0),
      View.ld (iblk m c 5 t) (Rect.unit ![64, 0] ![64, 128] inb_S256x128_S64x128_64_0),
      View.ld (iblk m c 6 t) (Rect.unit ![1, 0, 0, 0] ![1, 4, 64, 64] inb_S4x4x64x64_S1x4x64x64_1_0_0_0),
      View.ld (iblk m c 7 t) (Rect.unit ![1, 0, 0, 0] ![1, 4, 128, 128] inb_S4x4x128x128_S1x4x128x128_1_0_0_0)⟩ := rfl
theorem pin_2 (c : Dev nD) (t : Fin cfg0.N) : pin m c t 2 =
    ⟨View.ld (iblk m c 0 t) (Rect.unit ![128, 0] ![64, 512] inb_S256x512_S64x512_128_0),
      View.ld (iblk m c 1 t) (Rect.unit ![128, 0] ![64, 512] inb_S256x512_S64x512_128_0),
      View.ld (iblk m c 2 t) (Rect.unit ![128, 0] ![64, 512] inb_S256x512_S64x512_128_0),
      View.ld (iblk m c 3 t) (Rect.unit ![128, 0] ![64, 512] inb_S256x512_S64x512_128_0),
      View.ld (iblk m c 4 t) (Rect.unit ![128, 0] ![64, 512] inb_S256x512_S64x512_128_0),
      View.ld (iblk m c 5 t) (Rect.unit ![128, 0] ![64, 128] inb_S256x128_S64x128_128_0),
      View.ld (iblk m c 6 t) (Rect.unit ![2, 0, 0, 0] ![1, 4, 64, 64] inb_S4x4x64x64_S1x4x64x64_2_0_0_0),
      View.ld (iblk m c 7 t) (Rect.unit ![2, 0, 0, 0] ![1, 4, 128, 128] inb_S4x4x128x128_S1x4x128x128_2_0_0_0)⟩ := rfl
theorem pin_3 (c : Dev nD) (t : Fin cfg0.N) : pin m c t 3 =
    ⟨View.ld (iblk m c 0 t) (Rect.unit ![192, 0] ![64, 512] inb_S256x512_S64x512_192_0),
      View.ld (iblk m c 1 t) (Rect.unit ![192, 0] ![64, 512] inb_S256x512_S64x512_192_0),
      View.ld (iblk m c 2 t) (Rect.unit ![192, 0] ![64, 512] inb_S256x512_S64x512_192_0),
      View.ld (iblk m c 3 t) (Rect.unit ![192, 0] ![64, 512] inb_S256x512_S64x512_192_0),
      View.ld (iblk m c 4 t) (Rect.unit ![192, 0] ![64, 512] inb_S256x512_S64x512_192_0),
      View.ld (iblk m c 5 t) (Rect.unit ![192, 0] ![64, 128] inb_S256x128_S64x128_192_0),
      View.ld (iblk m c 6 t) (Rect.unit ![3, 0, 0, 0] ![1, 4, 64, 64] inb_S4x4x64x64_S1x4x64x64_3_0_0_0),
      View.ld (iblk m c 7 t) (Rect.unit ![3, 0, 0, 0] ![1, 4, 128, 128] inb_S4x4x128x128_S1x4x128x128_3_0_0_0)⟩ := rfl
theorem carry_3 (X : Fin 4 → In F) (d : Vec F S4x128x128 .f32) : carry X d 3 = d := rfl
theorem carry_2 (X : Fin 4 → In F) (d : Vec F S4x128x128 .f32) : carry X d 2 = next (X 3) d := rfl
theorem carry_1 (X : Fin 4 → In F) (d : Vec F S4x128x128 .f32) : carry X d 1 = next (X 2) (carry X d 2) := rfl
theorem carry_0 (X : Fin 4 → In F) (d : Vec F S4x128x128 .f32) : carry X d 0 = next (X 1) (carry X d 1) := rfl

/-- The scratch after the point: the cotangent after its last chunk (chunk 0). -/
theorem scratch_eq (c : Dev nD) (t : Fin cfg0.N) :
    (outsAt0 m c t.val t.isLt).2.2.2.2.2.2 = next (pin m c t 0) (cin m c t 0) := by
  obtain ⟨r, hr⟩ : ∃ r, r = next (pin m c t 0) (cin m c t 0) := ⟨_, rfl⟩
  rw [← hr]
  by_cases h : t.val % 16 = 0
  · unfold cin at hr
    rw [entry_A m c t h] at hr
    rw [Gen.outsAt0_A m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    refine (next0 _ _ _ _ _ _ _).trans ?_
    simp only [(hs0_0 t).read_unread, (hs0_1 t).read_unread, (hs0_2 t).read_unread, (hs0_4 t).read_unread, (hs0_5 t).read_unread]
    rw [hr]
    rfl
  · unfold cin at hr
    rw [entry_B m c t h] at hr
    rw [Gen.outsAt0_B m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    refine (next0 _ _ _ _ _ _ _).trans ?_
    simp only [(hs0_0 t).read_unread, (hs0_1 t).read_unread, (hs0_2 t).read_unread, (hs0_4 t).read_unread, (hs0_5 t).read_unread]
    rw [hr]
    rfl

/-- Output dq: the four chunks' blocks. -/
theorem out_dq (c : Dev nD) (t : Fin cfg0.N) :
    (outsAt0 m c t.val t.isLt).1 = rows512 fun a => sdq (pin m c t a) := by
  obtain ⟨r, hr⟩ : ∃ r, r = (rows512 fun a => sdq (pin m c t a)) := ⟨_, rfl⟩
  rw [← hr]
  by_cases h : t.val % 16 = 0
  · rw [Gen.outsAt0_A m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    rw [hr]
    rfl
  · rw [Gen.outsAt0_B m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    rw [hr]
    rfl

/-- Output dqk: the four chunks' blocks. -/
theorem out_dqk (c : Dev nD) (t : Fin cfg0.N) :
    (outsAt0 m c t.val t.isLt).2.2.2.2.2.1 = rows4 fun a => sdqk (pin m c t a) := by
  obtain ⟨r, hr⟩ : ∃ r, r = (rows4 fun a => sdqk (pin m c t a)) := ⟨_, rfl⟩
  rw [← hr]
  by_cases h : t.val % 16 = 0
  · rw [Gen.outsAt0_A m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    rw [hr]
    rfl
  · rw [Gen.outsAt0_B m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    rw [hr]
    rfl
end Cert.KernelIdeal.Chunk
-- ==== Proof.ChunkAt.lean ====
/-
  One chunk of the backward kernel over the extended reals, entry by entry.
-/
module

public import proofs.«01_k».proof.Proof.Chunk
public import proofs.«01_k».proof.Proof.Spec

@[expose] public section

set_option maxRecDepth 16384
set_option maxHeartbeats 1000000

noncomputable section

namespace Cert.KernelIdeal.Chunk

open Idealize.ShloMosaic Idealize.ShloMosaic.TcCoe Idealize.SL.Sem
open Cert.KernelIdeal Cert.KernelIdeal.Gen Cert.Delta

/-- Rows with the heads side by side, heads apart. -/
def hrows (v : Vec Ideal S64x512 .f32) : Rows := fun h c e => v (ix2 c (lane h e))
def hst (d : Vec Ideal S4x128x128 .f32) : St := fun h e f => d (ix3 h e f)

/-- A chunk's loads as the formulas' data. -/
def blk (x : In Ideal) : Blk where
  o := hrows x.o
  q := hrows x.q
  k := hrows x.k
  u := hrows x.u
  w := hrows x.w
  g := fun h c => x.g (ix2 c (glane h))
  qk := fun h c s => x.qk (ix4 (0 : Fin 1) h c s)
  s := fun h e f => x.s (ix4 (0 : Fin 1) h e f)

/-- The indicator of a lane number, as the kernel builds it. -/
theorem onehot (n k : ℕ) (hn : n < 2 ^ 32) (hk : k < 2 ^ 32) :
    (FloatOps.sitofp FTy.f32 (BitVec.setWidth 32 (IntOp.cmpi CmpIPredicate.eq (BitVec.ofNat 32 n) (BitVec.ofNat 32 k))) : Ideal .f32)
      = if n = k then 1 else 0 := by
  rw [WordCmp.cmpi_eq_eq_toNat, BitVec.toNat_ofNat, BitVec.toNat_ofNat, Nat.mod_eq_of_lt hn, Nat.mod_eq_of_lt hk]
  show (((BitVec.toInt (BitVec.setWidth 32 (BitVec.ofBool (decide (n = k)))) : ℤ) : ℝ) : EReal) = _
  by_cases h : n = k <;> simp [h]

theorem q_at (q : Vec Ideal S64x512 .f32) (h : Fin 4) (c : Fin 64) (e : Fin 128) : k0_pay5 q (ix3 h c e) = hrows q h c e := by
  unfold hrows lane; fin_vals h with hh <;> pointwise [k0_pay5] <;> simp [hh]
theorem k_at (q : Vec Ideal S64x512 .f32) (h : Fin 4) (c : Fin 64) (e : Fin 128) : k0_pay6 q (ix3 h c e) = hrows q h c e := by
  unfold hrows lane; fin_vals h with hh <;> pointwise [k0_pay6] <;> simp [hh]
theorem u_at (q : Vec Ideal S64x512 .f32) (h : Fin 4) (c : Fin 64) (e : Fin 128) : k0_pay7 q (ix3 h c e) = hrows q h c e := by
  unfold hrows lane; fin_vals h with hh <;> pointwise [k0_pay7] <;> simp [hh]
theorem w_at (q : Vec Ideal S64x512 .f32) (h : Fin 4) (c : Fin 64) (e : Fin 128) :
    k0_pay12 (k0_pay8 q) (k0_pay9 q) (k0_pay10 q) (k0_pay11 q) (ix3 h c e) = hrows q h c e := by
  unfold hrows lane; fin_vals h with hh <;> pointwise [k0_pay12, k0_pay8, k0_pay9, k0_pay10, k0_pay11] <;> simp [hh]
theorem o_at (q : Vec Ideal S64x512 .f32) (h : Fin 4) (c : Fin 64) (e : Fin 128) :
    k0_pay27 (k0_pay23 q) (k0_pay24 q) (k0_pay25 q) (k0_pay26 q) (ix3 h c e) = hrows q h c e := by
  unfold hrows lane; fin_vals h with hh <;> pointwise [k0_pay27, k0_pay23, k0_pay24, k0_pay25, k0_pay26] <;> simp [hh]
theorem g_at (g : Vec Ideal S64x128 .f32) (h : Fin 4) (c : Fin 64) : k0_pay13 g (ix3 h c (0 : Fin 1)) = g (ix2 c (glane h)) := by
  unfold glane; fin_vals h with hh <;> pointwise [k0_pay13] <;> simp [hh]
theorem s_at (s : Vec Ideal S1x4x128x128 .f32) (h : Fin 4) (e f : Fin 128) : k0_pay4 s (ix3 h e f) = s (ix4 (0 : Fin 1) h e f) := by
  pointwise [k0_pay4]
theorem qk_at (s : Vec Ideal S1x4x64x64 .f32) (h : Fin 4) (e f : Fin 64) : k0_pay14 s (ix3 h e f) = s (ix4 (0 : Fin 1) h e f) := by
  pointwise [k0_pay14]
theorem mask_at (c : Fin 64) : k0_pay15 (F := Ideal) (ix3 (0 : Fin 1) c (0 : Fin 1)) = if c = 63 then 1 else 0 := by
  pointwise [k0_pay15]
  rw [onehot _ 63 (by omega) (by omega)]
  simp [Fin.ext_iff]

variable (x : In Ideal) (d : Vec Ideal S4x128x128 .f32)

theorem gl_at (h : Fin 4) : k0_pay16 x.g (ix3 h (0 : Fin 1) (0 : Fin 1)) = (blk x).g h 63 := by
  pointwise [k0_pay16]
  simp only [g_at, mask_at]
  exact sum_last fun c => x.g (ix2 c (glane h))
theorem expgl_at (h : Fin 4) : k0_pay20 x.g (ix3 h (0 : Fin 1) (0 : Fin 1)) = (blk x).gl h := by
  pointwise [k0_pay20]; rw [gl_at]; rfl
theorem a_at (h : Fin 4) (c : Fin 64) : k0_pay18 x.g (ix3 h c (0 : Fin 1)) = (blk x).a h c := by
  pointwise [k0_pay18]; rw [g_at]; rfl
theorem b_at (h : Fin 4) (c : Fin 64) : k0_pay21 x.g (ix3 h c (0 : Fin 1)) = (blk x).b h c := by
  pointwise [k0_pay21]; rw [g_at, gl_at]; rfl
theorem vn_at (h : Fin 4) (c : Fin 64) (f : Fin 128) : vnew x (ix3 h c f) = (blk x).vn h c f := by
  pointwise [vnew, k0_pay17]; simp only [u_at, w_at, s_at]; rfl
theorem dkb_at (h : Fin 4) (c : Fin 64) (e : Fin 128) : k0_pay30 (vnew x) d (ix3 h c e) = (blk x).dkb (hst d) h c e := by
  pointwise [k0_pay30, k0_pay29]; simp only [vn_at]; rfl
theorem dk_at (h : Fin 4) (c : Fin 64) (e : Fin 128) : dk x d (ix3 h c e) = (blk x).dk (hst d) h c e := by
  pointwise [dk, k0_pay31]; simp only [dkb_at, b_at]; rfl
theorem X_at (h : Fin 4) (c : Fin 64) :
    k0_pay32 (k0_pay6 x.k) (vnew x) (k0_pay21 x.g) d (ix3 h c (0 : Fin 1)) = (blk x).X (hst d) h c := by
  pointwise [k0_pay32]; simp only [k_at, dkb_at, b_at]; rfl
theorem du_at (h : Fin 4) (c : Fin 64) (f : Fin 128) : du x d (ix3 h c f) = (blk x).du (hst d) h c f := by
  pointwise [du, k0_pay35, k0_pay22, k0_pay29]; simp only [k_at, b_at, qk_at, o_at]; rfl
theorem dA_at (h : Fin 4) (c : Fin 64) (e : Fin 128) :
    k0_pay36 (k0_pay4 x.s) (k0_pay23 x.o) (k0_pay24 x.o) (k0_pay25 x.o) (k0_pay26 x.o) (ix3 h c e) = (blk x).dA h c e := by
  pointwise [k0_pay36]; simp only [s_at, o_at]; rfl
theorem dq_at (h : Fin 4) (c : Fin 64) (e : Fin 128) : dq x (ix3 h c e) = (blk x).dq h c e := by
  pointwise [dq, k0_pay38]; simp only [dA_at, a_at]; rfl
theorem ndu_at (h : Fin 4) (c : Fin 64) (f : Fin 128) :
    k0_pay41 (du x d) k0_pay40 (ix3 h c f) = -((blk x).du (hst d) h c f) := by
  pointwise [k0_pay41, k0_pay40]; simp only [du_at, zero_sub]
theorem dw_at (h : Fin 4) (c : Fin 64) (e : Fin 128) : dw x d (ix3 h c e) = (blk x).dw (hst d) h c e := by
  pointwise [dw, k0_pay42]; simp only [ndu_at, s_at]; rfl
theorem dqk_at (h : Fin 4) (c s : Fin 64) :
    k0_pay34 (vnew x) (k0_pay23 x.o) (k0_pay24 x.o) (k0_pay25 x.o) (k0_pay26 x.o) (ix3 h c s) = (blk x).dqk h c s := by
  pointwise [k0_pay34]; simp only [vn_at, o_at]; rfl
theorem dgl_at (h : Fin 4) :
    k0_pay33 (k0_pay4 x.s) (k0_pay6 x.k) (vnew x) (k0_pay20 x.g) (k0_pay21 x.g) d (ix3 h (0 : Fin 1) (0 : Fin 1)) = (blk x).dgl (hst d) h := by
  pointwise [k0_pay33, k0_pay28]; simp only [X_at, s_at, expgl_at]; rfl
theorem dg_at (h : Fin 4) (c : Fin 64) : dg x d (ix3 h c (0 : Fin 1)) = (blk x).dg (hst d) h c := by
  pointwise [dg, k0_pay43, k0_pay39]
  simp only [X_at, dA_at, a_at, q_at, mask_at, zero_sub, Fin.sum_univ_one, Fin.isValue]
  rw [dgl_at]
  unfold Blk.dg
  rw [add_right_comm]
  congr 2
  split <;> simp
theorem next_at (h : Fin 4) (e f : Fin 128) : next x d (ix3 h e f) = (blk x).next (hst d) h e f := by
  have hd : ∀ h c f, k0_pay41 (k0_pay35 (k0_pay14 x.qk) (k0_pay22 (k0_pay6 x.k) x.g) d (k0_pay23 x.o) (k0_pay24 x.o) (k0_pay25 x.o) (k0_pay26 x.o))
      k0_pay40 (ix3 h c f) = -((blk x).du (hst d) h c f) := fun h c f => ndu_at x d h c f
  pointwise [next, nextV, k0_pay44, k0_pay37, k0_pay19, k0_pay28]
  simp only [w_at, hd, q_at, a_at, o_at, expgl_at]; rfl
theorem hst_next : hst (next x d) = (blk x).next (hst d) := funext fun _ => funext fun _ => funext fun _ => next_at ..

/-! The stored blocks. -/

/-- Heads put side by side again. -/
theorem heads_at (v : FVec Ideal S4x64x128 .f32) (h : Fin 4) (c : Fin 64) (e : Fin 128) :
    k0_pay45 v (ix2 c (lane h e)) = v (ix3 h c e) := by
  have he := e.isLt
  obtain rfl | rfl | rfl | rfl : h = 0 ∨ h = 1 ∨ h = 2 ∨ h = 3 := by omega
  · have : lane 0 e = (⟨e.val, by omega⟩ : Fin 512) := Fin.ext (by simp [lane])
    rw [this]; pointwise [k0_pay45]
  · have : lane 1 e = (⟨128 + e.val, by omega⟩ : Fin 512) := Fin.ext (by simp [lane])
    rw [this]; pointwise [k0_pay45]
  · have : lane 2 e = (⟨256 + e.val, by omega⟩ : Fin 512) := Fin.ext (by simp [lane])
    rw [this]; pointwise [k0_pay45]
    rw [dif_neg (by omega), dif_neg (by omega), dif_pos (by omega)]
    exact congrArg v (congrArg (ix3 _ c) (Fin.ext (by simp only; omega)))
  · have : lane 3 e = (⟨384 + e.val, by omega⟩ : Fin 512) := Fin.ext (by simp [lane])
    rw [this]; pointwise [k0_pay45]
    rw [dif_neg (by omega), dif_neg (by omega), dif_neg (by omega)]
    exact congrArg v (congrArg (ix3 _ c) (Fin.ext (by simp only; omega)))

theorem sdq_at (h : Fin 4) (c : Fin 64) (e : Fin 128) : sdq x (ix2 c (lane h e)) = (blk x).dq h c e :=
  (heads_at _ h c e).trans (dq_at ..)
theorem sdk_at (h : Fin 4) (c : Fin 64) (e : Fin 128) : sdk x d (ix2 c (lane h e)) = (blk x).dk (hst d) h c e :=
  (heads_at _ h c e).trans (dk_at ..)
theorem sdu_at (h : Fin 4) (c : Fin 64) (e : Fin 128) : sdu x d (ix2 c (lane h e)) = (blk x).du (hst d) h c e :=
  (heads_at _ h c e).trans (du_at ..)
theorem sdw_at (h : Fin 4) (c : Fin 64) (e : Fin 128) : sdw x d (ix2 c (lane h e)) = (blk x).dw (hst d) h c e :=
  (heads_at _ h c e).trans (dw_at ..)
theorem sdqk_at (h : Fin 4) (c s : Fin 64) : sdqk x (ix4 (0 : Fin 1) h c s) = (blk x).dqk h c s := by
  rw [← dqk_at]; pointwise [sdqk, k0_pay53]
/-- The block of the log decays' cotangents: lane `h < 4` holds head `h`, every other lane zero. -/
theorem sdg_at (c : Fin 64) (l : Fin 128) :
    sdg x d (ix2 c l) = if hl : l.val < 4 then (blk x).dg (hst d) ⟨l.val, hl⟩ c else 0 := by
  pointwise [sdg, k0_pay52, k0_pay49, k0_pay50, k0_pay51]
  rw [onehot _ 0 (by omega) (by omega), onehot _ 1 (by omega) (by omega), onehot _ 2 (by omega) (by omega), onehot _ 3 (by omega) (by omega)]
  simp only [dg_at]
  by_cases hl : l.val < 4
  · rw [dif_pos hl]
    obtain ⟨l, hl'⟩ := l
    simp only at hl
    obtain rfl | rfl | rfl | rfl : l = 0 ∨ l = 1 ∨ l = 2 ∨ l = 3 := by omega
    all_goals simp
    all_goals rfl
  · rw [dif_neg hl, if_neg (by omega), if_neg (by omega), if_neg (by omega), if_neg (by omega)]
    simp

end Cert.KernelIdeal.Chunk

end
-- ==== Proof.Out.lean ====
/-
  The blocks a grid point stores, for the outputs that depend on the carried cotangent.
-/
module

public import proofs.«01_k».proof.Proof.Chunk

@[expose] public section

set_option maxRecDepth 16384
set_option maxHeartbeats 1000000

noncomputable section

namespace Cert.KernelIdeal.Chunk

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- A load of the whole scratch reads what the scratch holds. -/
theorem ld_scratch (d : Vec F S4x128x128 .f32) :
    View.ld (View.read (Elt F) (View.whole cc0_scratch0) ((Memref.isWhole_whole cc0_scratch0).unread d))
      (Rect.unit ![0, 0, 0] ![4, 128, 128] inb_S4x128x128_S4x128x128_0_0_0) = d := by
  refine (congrArg (fun z => View.ld z _) ((Memref.isWhole_whole cc0_scratch0).read_unread d)).trans ?_
  exact View.ld_unit_lit _ _ (by decide)

/-- Output dk: the four chunks' blocks. -/
theorem out_dk (c : Dev nD) (t : Fin cfg0.N) :
    (outsAt0 m c t.val t.isLt).2.1 = rows512 fun a => sdk (pin m c t a) (cin m c t a) := by
  obtain ⟨r, hr⟩ : ∃ r, r = (rows512 fun a => sdk (pin m c t a) (cin m c t a)) := ⟨_, rfl⟩
  rw [← hr]
  by_cases h : t.val % 16 = 0
  · unfold cin at hr
    rw [entry_A m c t h] at hr
    rw [Gen.outsAt0_A m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    repeat rw [View.readCov_cons_toLoadRect]
    repeat rw [ld_scratch]
    try simp only [next3, next2, next1]
    rw [hr]
    simp only [rows512, carry_0, carry_1, carry_2, carry_3, next, pin_0, pin_1, pin_2, pin_3]
    clear hr
    generalize (k0_pay3 : Vec F S4x128x128 .f32) = d3
    generalize View.ld (iblk m c 0 t) (Rect.unit ![0, 0] ![64, 512] inb_S256x512_S64x512_0_0) = o0
    generalize View.ld (iblk m c 1 t) (Rect.unit ![0, 0] ![64, 512] inb_S256x512_S64x512_0_0) = q0
    generalize View.ld (iblk m c 2 t) (Rect.unit ![0, 0] ![64, 512] inb_S256x512_S64x512_0_0) = k0
    generalize View.ld (iblk m c 3 t) (Rect.unit ![0, 0] ![64, 512] inb_S256x512_S64x512_0_0) = u0
    generalize View.ld (iblk m c 4 t) (Rect.unit ![0, 0] ![64, 512] inb_S256x512_S64x512_0_0) = w0
    generalize View.ld (iblk m c 5 t) (Rect.unit ![0, 0] ![64, 128] inb_S256x128_S64x128_0_0) = g0
    generalize View.ld (iblk m c 6 t) (Rect.unit ![0, 0, 0, 0] ![1, 4, 64, 64] inb_S4x4x64x64_S1x4x64x64_0_0_0_0) = p0
    generalize View.ld (iblk m c 7 t) (Rect.unit ![0, 0, 0, 0] ![1, 4, 128, 128] inb_S4x4x128x128_S1x4x128x128_0_0_0_0) = s0
    generalize View.ld (iblk m c 0 t) (Rect.unit ![64, 0] ![64, 512] inb_S256x512_S64x512_64_0) = o1
    generalize View.ld (iblk m c 1 t) (Rect.unit ![64, 0] ![64, 512] inb_S256x512_S64x512_64_0) = q1
    generalize View.ld (iblk m c 2 t) (Rect.unit ![64, 0] ![64, 512] inb_S256x512_S64x512_64_0) = k1
    generalize View.ld (iblk m c 3 t) (Rect.unit ![64, 0] ![64, 512] inb_S256x512_S64x512_64_0) = u1
    generalize View.ld (iblk m c 4 t) (Rect.unit ![64, 0] ![64, 512] inb_S256x512_S64x512_64_0) = w1
    generalize View.ld (iblk m c 5 t) (Rect.unit ![64, 0] ![64, 128] inb_S256x128_S64x128_64_0) = g1
    generalize View.ld (iblk m c 6 t) (Rect.unit ![1, 0, 0, 0] ![1, 4, 64, 64] inb_S4x4x64x64_S1x4x64x64_1_0_0_0) = p1
    generalize View.ld (iblk m c 7 t) (Rect.unit ![1, 0, 0, 0] ![1, 4, 128, 128] inb_S4x4x128x128_S1x4x128x128_1_0_0_0) = s1
    generalize View.ld (iblk m c 0 t) (Rect.unit ![128, 0] ![64, 512] inb_S256x512_S64x512_128_0) = o2
    generalize View.ld (iblk m c 1 t) (Rect.unit ![128, 0] ![64, 512] inb_S256x512_S64x512_128_0) = q2
    generalize View.ld (iblk m c 2 t) (Rect.unit ![128, 0] ![64, 512] inb_S256x512_S64x512_128_0) = k2
    generalize View.ld (iblk m c 3 t) (Rect.unit ![128, 0] ![64, 512] inb_S256x512_S64x512_128_0) = u2
    generalize View.ld (iblk m c 4 t) (Rect.unit ![128, 0] ![64, 512] inb_S256x512_S64x512_128_0) = w2
    generalize View.ld (iblk m c 5 t) (Rect.unit ![128, 0] ![64, 128] inb_S256x128_S64x128_128_0) = g2
    generalize View.ld (iblk m c 6 t) (Rect.unit ![2, 0, 0, 0] ![1, 4, 64, 64] inb_S4x4x64x64_S1x4x64x64_2_0_0_0) = p2
    generalize View.ld (iblk m c 7 t) (Rect.unit ![2, 0, 0, 0] ![1, 4, 128, 128] inb_S4x4x128x128_S1x4x128x128_2_0_0_0) = s2
    generalize View.ld (iblk m c 0 t) (Rect.unit ![192, 0] ![64, 512] inb_S256x512_S64x512_192_0) = o3
    generalize View.ld (iblk m c 1 t) (Rect.unit ![192, 0] ![64, 512] inb_S256x512_S64x512_192_0) = q3
    generalize View.ld (iblk m c 2 t) (Rect.unit ![192, 0] ![64, 512] inb_S256x512_S64x512_192_0) = k3
    generalize View.ld (iblk m c 3 t) (Rect.unit ![192, 0] ![64, 512] inb_S256x512_S64x512_192_0) = u3
    generalize View.ld (iblk m c 4 t) (Rect.unit ![192, 0] ![64, 512] inb_S256x512_S64x512_192_0) = w3
    generalize View.ld (iblk m c 5 t) (Rect.unit ![192, 0] ![64, 128] inb_S256x128_S64x128_192_0) = g3
    generalize View.ld (iblk m c 6 t) (Rect.unit ![3, 0, 0, 0] ![1, 4, 64, 64] inb_S4x4x64x64_S1x4x64x64_3_0_0_0) = p3
    generalize View.ld (iblk m c 7 t) (Rect.unit ![3, 0, 0, 0] ![1, 4, 128, 128] inb_S4x4x128x128_S1x4x128x128_3_0_0_0) = s3
    generalize nextV o3 q3 k3 w3 g3 p3 d3 = d2
    generalize nextV o2 q2 k2 w2 g2 p2 d2 = d1
    generalize nextV o1 q1 k1 w1 g1 p1 d1 = d0
    refine congrArg View.canon (congrArg₂ _ (congrArg _ ?_) (congrArg₂ _ (congrArg _ ?_) (congrArg₂ _ (congrArg _ ?_) (congrArg₂ _ (congrArg _ ?_) rfl))))
    · rfl
    · rfl
    · rfl
    · rfl
  · unfold cin at hr
    rw [entry_B m c t h] at hr
    rw [Gen.outsAt0_B m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    repeat rw [View.readCov_cons_toLoadRect]
    repeat rw [ld_scratch]
    try simp only [next3, next2, next1]
    rw [hr]
    simp only [rows512, carry_0, carry_1, carry_2, carry_3, next, pin_0, pin_1, pin_2, pin_3]
    clear hr
    generalize (outsAt0 m c (t.val - 1) (by omega)).2.2.2.2.2.2 = d3
    generalize View.ld (iblk m c 0 t) (Rect.unit ![0, 0] ![64, 512] inb_S256x512_S64x512_0_0) = o0
    generalize View.ld (iblk m c 1 t) (Rect.unit ![0, 0] ![64, 512] inb_S256x512_S64x512_0_0) = q0
    generalize View.ld (iblk m c 2 t) (Rect.unit ![0, 0] ![64, 512] inb_S256x512_S64x512_0_0) = k0
    generalize View.ld (iblk m c 3 t) (Rect.unit ![0, 0] ![64, 512] inb_S256x512_S64x512_0_0) = u0
    generalize View.ld (iblk m c 4 t) (Rect.unit ![0, 0] ![64, 512] inb_S256x512_S64x512_0_0) = w0
    generalize View.ld (iblk m c 5 t) (Rect.unit ![0, 0] ![64, 128] inb_S256x128_S64x128_0_0) = g0
    generalize View.ld (iblk m c 6 t) (Rect.unit ![0, 0, 0, 0] ![1, 4, 64, 64] inb_S4x4x64x64_S1x4x64x64_0_0_0_0) = p0
    generalize View.ld (iblk m c 7 t) (Rect.unit ![0, 0, 0, 0] ![1, 4, 128, 128] inb_S4x4x128x128_S1x4x128x128_0_0_0_0) = s0
    generalize View.ld (iblk m c 0 t) (Rect.unit ![64, 0] ![64, 512] inb_S256x512_S64x512_64_0) = o1
    generalize View.ld (iblk m c 1 t) (Rect.unit ![64, 0] ![64, 512] inb_S256x512_S64x512_64_0) = q1
    generalize View.ld (iblk m c 2 t) (Rect.unit ![64, 0] ![64, 512] inb_S256x512_S64x512_64_0) = k1
    generalize View.ld (iblk m c 3 t) (Rect.unit ![64, 0] ![64, 512] inb_S256x512_S64x512_64_0) = u1
    generalize View.ld (iblk m c 4 t) (Rect.unit ![64, 0] ![64, 512] inb_S256x512_S64x512_64_0) = w1
    generalize View.ld (iblk m c 5 t) (Rect.unit ![64, 0] ![64, 128] inb_S256x128_S64x128_64_0) = g1
    generalize View.ld (iblk m c 6 t) (Rect.unit ![1, 0, 0, 0] ![1, 4, 64, 64] inb_S4x4x64x64_S1x4x64x64_1_0_0_0) = p1
    generalize View.ld (iblk m c 7 t) (Rect.unit ![1, 0, 0, 0] ![1, 4, 128, 128] inb_S4x4x128x128_S1x4x128x128_1_0_0_0) = s1
    generalize View.ld (iblk m c 0 t) (Rect.unit ![128, 0] ![64, 512] inb_S256x512_S64x512_128_0) = o2
    generalize View.ld (iblk m c 1 t) (Rect.unit ![128, 0] ![64, 512] inb_S256x512_S64x512_128_0) = q2
    generalize View.ld (iblk m c 2 t) (Rect.unit ![128, 0] ![64, 512] inb_S256x512_S64x512_128_0) = k2
    generalize View.ld (iblk m c 3 t) (Rect.unit ![128, 0] ![64, 512] inb_S256x512_S64x512_128_0) = u2
    generalize View.ld (iblk m c 4 t) (Rect.unit ![128, 0] ![64, 512] inb_S256x512_S64x512_128_0) = w2
    generalize View.ld (iblk m c 5 t) (Rect.unit ![128, 0] ![64, 128] inb_S256x128_S64x128_128_0) = g2
    generalize View.ld (iblk m c 6 t) (Rect.unit ![2, 0, 0, 0] ![1, 4, 64, 64] inb_S4x4x64x64_S1x4x64x64_2_0_0_0) = p2
    generalize View.ld (iblk m c 7 t) (Rect.unit ![2, 0, 0, 0] ![1, 4, 128, 128] inb_S4x4x128x128_S1x4x128x128_2_0_0_0) = s2
    generalize View.ld (iblk m c 0 t) (Rect.unit ![192, 0] ![64, 512] inb_S256x512_S64x512_192_0) = o3
    generalize View.ld (iblk m c 1 t) (Rect.unit ![192, 0] ![64, 512] inb_S256x512_S64x512_192_0) = q3
    generalize View.ld (iblk m c 2 t) (Rect.unit ![192, 0] ![64, 512] inb_S256x512_S64x512_192_0) = k3
    generalize View.ld (iblk m c 3 t) (Rect.unit ![192, 0] ![64, 512] inb_S256x512_S64x512_192_0) = u3
    generalize View.ld (iblk m c 4 t) (Rect.unit ![192, 0] ![64, 512] inb_S256x512_S64x512_192_0) = w3
    generalize View.ld (iblk m c 5 t) (Rect.unit ![192, 0] ![64, 128] inb_S256x128_S64x128_192_0) = g3
    generalize View.ld (iblk m c 6 t) (Rect.unit ![3, 0, 0, 0] ![1, 4, 64, 64] inb_S4x4x64x64_S1x4x64x64_3_0_0_0) = p3
    generalize View.ld (iblk m c 7 t) (Rect.unit ![3, 0, 0, 0] ![1, 4, 128, 128] inb_S4x4x128x128_S1x4x128x128_3_0_0_0) = s3
    generalize nextV o3 q3 k3 w3 g3 p3 d3 = d2
    generalize nextV o2 q2 k2 w2 g2 p2 d2 = d1
    generalize nextV o1 q1 k1 w1 g1 p1 d1 = d0
    refine congrArg View.canon (congrArg₂ _ (congrArg _ ?_) (congrArg₂ _ (congrArg _ ?_) (congrArg₂ _ (congrArg _ ?_) (congrArg₂ _ (congrArg _ ?_) rfl))))
    · rfl
    · rfl
    · rfl
    · rfl

/-- Output du: the four chunks' blocks. -/
theorem out_du (c : Dev nD) (t : Fin cfg0.N) :
    (outsAt0 m c t.val t.isLt).2.2.1 = rows512 fun a => sdu (pin m c t a) (cin m c t a) := by
  obtain ⟨r, hr⟩ : ∃ r, r = (rows512 fun a => sdu (pin m c t a) (cin m c t a)) := ⟨_, rfl⟩
  rw [← hr]
  by_cases h : t.val % 16 = 0
  · unfold cin at hr
    rw [entry_A m c t h] at hr
    rw [Gen.outsAt0_A m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    repeat rw [View.readCov_cons_toLoadRect]
    repeat rw [ld_scratch]
    try simp only [next3, next2, next1]
    rw [hr]
    simp only [rows512, carry_0, carry_1, carry_2, carry_3, next, pin_0, pin_1, pin_2, pin_3]
    clear hr
    generalize (k0_pay3 : Vec F S4x128x128 .f32) = d3
    generalize View.ld (iblk m c 0 t) (Rect.unit ![0, 0] ![64, 512] inb_S256x512_S64x512_0_0) = o0
    generalize View.ld (iblk m c 1 t) (Rect.unit ![0, 0] ![64, 512] inb_S256x512_S64x512_0_0) = q0
    generalize View.ld (iblk m c 2 t) (Rect.unit ![0, 0] ![64, 512] inb_S256x512_S64x512_0_0) = k0
    generalize View.ld (iblk m c 3 t) (Rect.unit ![0, 0] ![64, 512] inb_S256x512_S64x512_0_0) = u0
    generalize View.ld (iblk m c 4 t) (Rect.unit ![0, 0] ![64, 512] inb_S256x512_S64x512_0_0) = w0
    generalize View.ld (iblk m c 5 t) (Rect.unit ![0, 0] ![64, 128] inb_S256x128_S64x128_0_0) = g0
    generalize View.ld (iblk m c 6 t) (Rect.unit ![0, 0, 0, 0] ![1, 4, 64, 64] inb_S4x4x64x64_S1x4x64x64_0_0_0_0) = p0
    generalize View.ld (iblk m c 7 t) (Rect.unit ![0, 0, 0, 0] ![1, 4, 128, 128] inb_S4x4x128x128_S1x4x128x128_0_0_0_0) = s0
    generalize View.ld (iblk m c 0 t) (Rect.unit ![64, 0] ![64, 512] inb_S256x512_S64x512_64_0) = o1
    generalize View.ld (iblk m c 1 t) (Rect.unit ![64, 0] ![64, 512] inb_S256x512_S64x512_64_0) = q1
    generalize View.ld (iblk m c 2 t) (Rect.unit ![64, 0] ![64, 512] inb_S256x512_S64x512_64_0) = k1
    generalize View.ld (iblk m c 3 t) (Rect.unit ![64, 0] ![64, 512] inb_S256x512_S64x512_64_0) = u1
    generalize View.ld (iblk m c 4 t) (Rect.unit ![64, 0] ![64, 512] inb_S256x512_S64x512_64_0) = w1
    generalize View.ld (iblk m c 5 t) (Rect.unit ![64, 0] ![64, 128] inb_S256x128_S64x128_64_0) = g1
    generalize View.ld (iblk m c 6 t) (Rect.unit ![1, 0, 0, 0] ![1, 4, 64, 64] inb_S4x4x64x64_S1x4x64x64_1_0_0_0) = p1
    generalize View.ld (iblk m c 7 t) (Rect.unit ![1, 0, 0, 0] ![1, 4, 128, 128] inb_S4x4x128x128_S1x4x128x128_1_0_0_0) = s1
    generalize View.ld (iblk m c 0 t) (Rect.unit ![128, 0] ![64, 512] inb_S256x512_S64x512_128_0) = o2
    generalize View.ld (iblk m c 1 t) (Rect.unit ![128, 0] ![64, 512] inb_S256x512_S64x512_128_0) = q2
    generalize View.ld (iblk m c 2 t) (Rect.unit ![128, 0] ![64, 512] inb_S256x512_S64x512_128_0) = k2
    generalize View.ld (iblk m c 3 t) (Rect.unit ![128, 0] ![64, 512] inb_S256x512_S64x512_128_0) = u2
    generalize View.ld (iblk m c 4 t) (Rect.unit ![128, 0] ![64, 512] inb_S256x512_S64x512_128_0) = w2
    generalize View.ld (iblk m c 5 t) (Rect.unit ![128, 0] ![64, 128] inb_S256x128_S64x128_128_0) = g2
    generalize View.ld (iblk m c 6 t) (Rect.unit ![2, 0, 0, 0] ![1, 4, 64, 64] inb_S4x4x64x64_S1x4x64x64_2_0_0_0) = p2
    generalize View.ld (iblk m c 7 t) (Rect.unit ![2, 0, 0, 0] ![1, 4, 128, 128] inb_S4x4x128x128_S1x4x128x128_2_0_0_0) = s2
    generalize View.ld (iblk m c 0 t) (Rect.unit ![192, 0] ![64, 512] inb_S256x512_S64x512_192_0) = o3
    generalize View.ld (iblk m c 1 t) (Rect.unit ![192, 0] ![64, 512] inb_S256x512_S64x512_192_0) = q3
    generalize View.ld (iblk m c 2 t) (Rect.unit ![192, 0] ![64, 512] inb_S256x512_S64x512_192_0) = k3
    generalize View.ld (iblk m c 3 t) (Rect.unit ![192, 0] ![64, 512] inb_S256x512_S64x512_192_0) = u3
    generalize View.ld (iblk m c 4 t) (Rect.unit ![192, 0] ![64, 512] inb_S256x512_S64x512_192_0) = w3
    generalize View.ld (iblk m c 5 t) (Rect.unit ![192, 0] ![64, 128] inb_S256x128_S64x128_192_0) = g3
    generalize View.ld (iblk m c 6 t) (Rect.unit ![3, 0, 0, 0] ![1, 4, 64, 64] inb_S4x4x64x64_S1x4x64x64_3_0_0_0) = p3
    generalize View.ld (iblk m c 7 t) (Rect.unit ![3, 0, 0, 0] ![1, 4, 128, 128] inb_S4x4x128x128_S1x4x128x128_3_0_0_0) = s3
    generalize nextV o3 q3 k3 w3 g3 p3 d3 = d2
    generalize nextV o2 q2 k2 w2 g2 p2 d2 = d1
    generalize nextV o1 q1 k1 w1 g1 p1 d1 = d0
    refine congrArg View.canon (congrArg₂ _ (congrArg _ ?_) (congrArg₂ _ (congrArg _ ?_) (congrArg₂ _ (congrArg _ ?_) (congrArg₂ _ (congrArg _ ?_) rfl))))
    · rfl
    · rfl
    · rfl
    · rfl
  · unfold cin at hr
    rw [entry_B m c t h] at hr
    rw [Gen.outsAt0_B m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    repeat rw [View.readCov_cons_toLoadRect]
    repeat rw [ld_scratch]
    try simp only [next3, next2, next1]
    rw [hr]
    simp only [rows512, carry_0, carry_1, carry_2, carry_3, next, pin_0, pin_1, pin_2, pin_3]
    clear hr
    generalize (outsAt0 m c (t.val - 1) (by omega)).2.2.2.2.2.2 = d3
    generalize View.ld (iblk m c 0 t) (Rect.unit ![0, 0] ![64, 512] inb_S256x512_S64x512_0_0) = o0
    generalize View.ld (iblk m c 1 t) (Rect.unit ![0, 0] ![64, 512] inb_S256x512_S64x512_0_0) = q0
    generalize View.ld (iblk m c 2 t) (Rect.unit ![0, 0] ![64, 512] inb_S256x512_S64x512_0_0) = k0
    generalize View.ld (iblk m c 3 t) (Rect.unit ![0, 0] ![64, 512] inb_S256x512_S64x512_0_0) = u0
    generalize View.ld (iblk m c 4 t) (Rect.unit ![0, 0] ![64, 512] inb_S256x512_S64x512_0_0) = w0
    generalize View.ld (iblk m c 5 t) (Rect.unit ![0, 0] ![64, 128] inb_S256x128_S64x128_0_0) = g0
    generalize View.ld (iblk m c 6 t) (Rect.unit ![0, 0, 0, 0] ![1, 4, 64, 64] inb_S4x4x64x64_S1x4x64x64_0_0_0_0) = p0
    generalize View.ld (iblk m c 7 t) (Rect.unit ![0, 0, 0, 0] ![1, 4, 128, 128] inb_S4x4x128x128_S1x4x128x128_0_0_0_0) = s0
    generalize View.ld (iblk m c 0 t) (Rect.unit ![64, 0] ![64, 512] inb_S256x512_S64x512_64_0) = o1
    generalize View.ld (iblk m c 1 t) (Rect.unit ![64, 0] ![64, 512] inb_S256x512_S64x512_64_0) = q1
    generalize View.ld (iblk m c 2 t) (Rect.unit ![64, 0] ![64, 512] inb_S256x512_S64x512_64_0) = k1
    generalize View.ld (iblk m c 3 t) (Rect.unit ![64, 0] ![64, 512] inb_S256x512_S64x512_64_0) = u1
    generalize View.ld (iblk m c 4 t) (Rect.unit ![64, 0] ![64, 512] inb_S256x512_S64x512_64_0) = w1
    generalize View.ld (iblk m c 5 t) (Rect.unit ![64, 0] ![64, 128] inb_S256x128_S64x128_64_0) = g1
    generalize View.ld (iblk m c 6 t) (Rect.unit ![1, 0, 0, 0] ![1, 4, 64, 64] inb_S4x4x64x64_S1x4x64x64_1_0_0_0) = p1
    generalize View.ld (iblk m c 7 t) (Rect.unit ![1, 0, 0, 0] ![1, 4, 128, 128] inb_S4x4x128x128_S1x4x128x128_1_0_0_0) = s1
    generalize View.ld (iblk m c 0 t) (Rect.unit ![128, 0] ![64, 512] inb_S256x512_S64x512_128_0) = o2
    generalize View.ld (iblk m c 1 t) (Rect.unit ![128, 0] ![64, 512] inb_S256x512_S64x512_128_0) = q2
    generalize View.ld (iblk m c 2 t) (Rect.unit ![128, 0] ![64, 512] inb_S256x512_S64x512_128_0) = k2
    generalize View.ld (iblk m c 3 t) (Rect.unit ![128, 0] ![64, 512] inb_S256x512_S64x512_128_0) = u2
    generalize View.ld (iblk m c 4 t) (Rect.unit ![128, 0] ![64, 512] inb_S256x512_S64x512_128_0) = w2
    generalize View.ld (iblk m c 5 t) (Rect.unit ![128, 0] ![64, 128] inb_S256x128_S64x128_128_0) = g2
    generalize View.ld (iblk m c 6 t) (Rect.unit ![2, 0, 0, 0] ![1, 4, 64, 64] inb_S4x4x64x64_S1x4x64x64_2_0_0_0) = p2
    generalize View.ld (iblk m c 7 t) (Rect.unit ![2, 0, 0, 0] ![1, 4, 128, 128] inb_S4x4x128x128_S1x4x128x128_2_0_0_0) = s2
    generalize View.ld (iblk m c 0 t) (Rect.unit ![192, 0] ![64, 512] inb_S256x512_S64x512_192_0) = o3
    generalize View.ld (iblk m c 1 t) (Rect.unit ![192, 0] ![64, 512] inb_S256x512_S64x512_192_0) = q3
    generalize View.ld (iblk m c 2 t) (Rect.unit ![192, 0] ![64, 512] inb_S256x512_S64x512_192_0) = k3
    generalize View.ld (iblk m c 3 t) (Rect.unit ![192, 0] ![64, 512] inb_S256x512_S64x512_192_0) = u3
    generalize View.ld (iblk m c 4 t) (Rect.unit ![192, 0] ![64, 512] inb_S256x512_S64x512_192_0) = w3
    generalize View.ld (iblk m c 5 t) (Rect.unit ![192, 0] ![64, 128] inb_S256x128_S64x128_192_0) = g3
    generalize View.ld (iblk m c 6 t) (Rect.unit ![3, 0, 0, 0] ![1, 4, 64, 64] inb_S4x4x64x64_S1x4x64x64_3_0_0_0) = p3
    generalize View.ld (iblk m c 7 t) (Rect.unit ![3, 0, 0, 0] ![1, 4, 128, 128] inb_S4x4x128x128_S1x4x128x128_3_0_0_0) = s3
    generalize nextV o3 q3 k3 w3 g3 p3 d3 = d2
    generalize nextV o2 q2 k2 w2 g2 p2 d2 = d1
    generalize nextV o1 q1 k1 w1 g1 p1 d1 = d0
    refine congrArg View.canon (congrArg₂ _ (congrArg _ ?_) (congrArg₂ _ (congrArg _ ?_) (congrArg₂ _ (congrArg _ ?_) (congrArg₂ _ (congrArg _ ?_) rfl))))
    · rfl
    · rfl
    · rfl
    · rfl

/-- Output dw: the four chunks' blocks. -/
theorem out_dw (c : Dev nD) (t : Fin cfg0.N) :
    (outsAt0 m c t.val t.isLt).2.2.2.1 = rows512 fun a => sdw (pin m c t a) (cin m c t a) := by
  obtain ⟨r, hr⟩ : ∃ r, r = (rows512 fun a => sdw (pin m c t a) (cin m c t a)) := ⟨_, rfl⟩
  rw [← hr]
  by_cases h : t.val % 16 = 0
  · unfold cin at hr
    rw [entry_A m c t h] at hr
    rw [Gen.outsAt0_A m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    repeat rw [View.readCov_cons_toLoadRect]
    repeat rw [ld_scratch]
    try simp only [next3, next2, next1]
    rw [hr]
    simp only [rows512, carry_0, carry_1, carry_2, carry_3, next, pin_0, pin_1, pin_2, pin_3]
    clear hr
    generalize (k0_pay3 : Vec F S4x128x128 .f32) = d3
    generalize View.ld (iblk m c 0 t) (Rect.unit ![0, 0] ![64, 512] inb_S256x512_S64x512_0_0) = o0
    generalize View.ld (iblk m c 1 t) (Rect.unit ![0, 0] ![64, 512] inb_S256x512_S64x512_0_0) = q0
    generalize View.ld (iblk m c 2 t) (Rect.unit ![0, 0] ![64, 512] inb_S256x512_S64x512_0_0) = k0
    generalize View.ld (iblk m c 3 t) (Rect.unit ![0, 0] ![64, 512] inb_S256x512_S64x512_0_0) = u0
    generalize View.ld (iblk m c 4 t) (Rect.unit ![0, 0] ![64, 512] inb_S256x512_S64x512_0_0) = w0
    generalize View.ld (iblk m c 5 t) (Rect.unit ![0, 0] ![64, 128] inb_S256x128_S64x128_0_0) = g0
    generalize View.ld (iblk m c 6 t) (Rect.unit ![0, 0, 0, 0] ![1, 4, 64, 64] inb_S4x4x64x64_S1x4x64x64_0_0_0_0) = p0
    generalize View.ld (iblk m c 7 t) (Rect.unit ![0, 0, 0, 0] ![1, 4, 128, 128] inb_S4x4x128x128_S1x4x128x128_0_0_0_0) = s0
    generalize View.ld (iblk m c 0 t) (Rect.unit ![64, 0] ![64, 512] inb_S256x512_S64x512_64_0) = o1
    generalize View.ld (iblk m c 1 t) (Rect.unit ![64, 0] ![64, 512] inb_S256x512_S64x512_64_0) = q1
    generalize View.ld (iblk m c 2 t) (Rect.unit ![64, 0] ![64, 512] inb_S256x512_S64x512_64_0) = k1
    generalize View.ld (iblk m c 3 t) (Rect.unit ![64, 0] ![64, 512] inb_S256x512_S64x512_64_0) = u1
    generalize View.ld (iblk m c 4 t) (Rect.unit ![64, 0] ![64, 512] inb_S256x512_S64x512_64_0) = w1
    generalize View.ld (iblk m c 5 t) (Rect.unit ![64, 0] ![64, 128] inb_S256x128_S64x128_64_0) = g1
    generalize View.ld (iblk m c 6 t) (Rect.unit ![1, 0, 0, 0] ![1, 4, 64, 64] inb_S4x4x64x64_S1x4x64x64_1_0_0_0) = p1
    generalize View.ld (iblk m c 7 t) (Rect.unit ![1, 0, 0, 0] ![1, 4, 128, 128] inb_S4x4x128x128_S1x4x128x128_1_0_0_0) = s1
    generalize View.ld (iblk m c 0 t) (Rect.unit ![128, 0] ![64, 512] inb_S256x512_S64x512_128_0) = o2
    generalize View.ld (iblk m c 1 t) (Rect.unit ![128, 0] ![64, 512] inb_S256x512_S64x512_128_0) = q2
    generalize View.ld (iblk m c 2 t) (Rect.unit ![128, 0] ![64, 512] inb_S256x512_S64x512_128_0) = k2
    generalize View.ld (iblk m c 3 t) (Rect.unit ![128, 0] ![64, 512] inb_S256x512_S64x512_128_0) = u2
    generalize View.ld (iblk m c 4 t) (Rect.unit ![128, 0] ![64, 512] inb_S256x512_S64x512_128_0) = w2
    generalize View.ld (iblk m c 5 t) (Rect.unit ![128, 0] ![64, 128] inb_S256x128_S64x128_128_0) = g2
    generalize View.ld (iblk m c 6 t) (Rect.unit ![2, 0, 0, 0] ![1, 4, 64, 64] inb_S4x4x64x64_S1x4x64x64_2_0_0_0) = p2
    generalize View.ld (iblk m c 7 t) (Rect.unit ![2, 0, 0, 0] ![1, 4, 128, 128] inb_S4x4x128x128_S1x4x128x128_2_0_0_0) = s2
    generalize View.ld (iblk m c 0 t) (Rect.unit ![192, 0] ![64, 512] inb_S256x512_S64x512_192_0) = o3
    generalize View.ld (iblk m c 1 t) (Rect.unit ![192, 0] ![64, 512] inb_S256x512_S64x512_192_0) = q3
    generalize View.ld (iblk m c 2 t) (Rect.unit ![192, 0] ![64, 512] inb_S256x512_S64x512_192_0) = k3
    generalize View.ld (iblk m c 3 t) (Rect.unit ![192, 0] ![64, 512] inb_S256x512_S64x512_192_0) = u3
    generalize View.ld (iblk m c 4 t) (Rect.unit ![192, 0] ![64, 512] inb_S256x512_S64x512_192_0) = w3
    generalize View.ld (iblk m c 5 t) (Rect.unit ![192, 0] ![64, 128] inb_S256x128_S64x128_192_0) = g3
    generalize View.ld (iblk m c 6 t) (Rect.unit ![3, 0, 0, 0] ![1, 4, 64, 64] inb_S4x4x64x64_S1x4x64x64_3_0_0_0) = p3
    generalize View.ld (iblk m c 7 t) (Rect.unit ![3, 0, 0, 0] ![1, 4, 128, 128] inb_S4x4x128x128_S1x4x128x128_3_0_0_0) = s3
    generalize nextV o3 q3 k3 w3 g3 p3 d3 = d2
    generalize nextV o2 q2 k2 w2 g2 p2 d2 = d1
    generalize nextV o1 q1 k1 w1 g1 p1 d1 = d0
    refine congrArg View.canon (congrArg₂ _ (congrArg _ ?_) (congrArg₂ _ (congrArg _ ?_) (congrArg₂ _ (congrArg _ ?_) (congrArg₂ _ (congrArg _ ?_) rfl))))
    · rfl
    · rfl
    · rfl
    · rfl
  · unfold cin at hr
    rw [entry_B m c t h] at hr
    rw [Gen.outsAt0_B m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    repeat rw [View.readCov_cons_toLoadRect]
    repeat rw [ld_scratch]
    try simp only [next3, next2, next1]
    rw [hr]
    simp only [rows512, carry_0, carry_1, carry_2, carry_3, next, pin_0, pin_1, pin_2, pin_3]
    clear hr
    generalize (outsAt0 m c (t.val - 1) (by omega)).2.2.2.2.2.2 = d3
    generalize View.ld (iblk m c 0 t) (Rect.unit ![0, 0] ![64, 512] inb_S256x512_S64x512_0_0) = o0
    generalize View.ld (iblk m c 1 t) (Rect.unit ![0, 0] ![64, 512] inb_S256x512_S64x512_0_0) = q0
    generalize View.ld (iblk m c 2 t) (Rect.unit ![0, 0] ![64, 512] inb_S256x512_S64x512_0_0) = k0
    generalize View.ld (iblk m c 3 t) (Rect.unit ![0, 0] ![64, 512] inb_S256x512_S64x512_0_0) = u0
    generalize View.ld (iblk m c 4 t) (Rect.unit ![0, 0] ![64, 512] inb_S256x512_S64x512_0_0) = w0
    generalize View.ld (iblk m c 5 t) (Rect.unit ![0, 0] ![64, 128] inb_S256x128_S64x128_0_0) = g0
    generalize View.ld (iblk m c 6 t) (Rect.unit ![0, 0, 0, 0] ![1, 4, 64, 64] inb_S4x4x64x64_S1x4x64x64_0_0_0_0) = p0
    generalize View.ld (iblk m c 7 t) (Rect.unit ![0, 0, 0, 0] ![1, 4, 128, 128] inb_S4x4x128x128_S1x4x128x128_0_0_0_0) = s0
    generalize View.ld (iblk m c 0 t) (Rect.unit ![64, 0] ![64, 512] inb_S256x512_S64x512_64_0) = o1
    generalize View.ld (iblk m c 1 t) (Rect.unit ![64, 0] ![64, 512] inb_S256x512_S64x512_64_0) = q1
    generalize View.ld (iblk m c 2 t) (Rect.unit ![64, 0] ![64, 512] inb_S256x512_S64x512_64_0) = k1
    generalize View.ld (iblk m c 3 t) (Rect.unit ![64, 0] ![64, 512] inb_S256x512_S64x512_64_0) = u1
    generalize View.ld (iblk m c 4 t) (Rect.unit ![64, 0] ![64, 512] inb_S256x512_S64x512_64_0) = w1
    generalize View.ld (iblk m c 5 t) (Rect.unit ![64, 0] ![64, 128] inb_S256x128_S64x128_64_0) = g1
    generalize View.ld (iblk m c 6 t) (Rect.unit ![1, 0, 0, 0] ![1, 4, 64, 64] inb_S4x4x64x64_S1x4x64x64_1_0_0_0) = p1
    generalize View.ld (iblk m c 7 t) (Rect.unit ![1, 0, 0, 0] ![1, 4, 128, 128] inb_S4x4x128x128_S1x4x128x128_1_0_0_0) = s1
    generalize View.ld (iblk m c 0 t) (Rect.unit ![128, 0] ![64, 512] inb_S256x512_S64x512_128_0) = o2
    generalize View.ld (iblk m c 1 t) (Rect.unit ![128, 0] ![64, 512] inb_S256x512_S64x512_128_0) = q2
    generalize View.ld (iblk m c 2 t) (Rect.unit ![128, 0] ![64, 512] inb_S256x512_S64x512_128_0) = k2
    generalize View.ld (iblk m c 3 t) (Rect.unit ![128, 0] ![64, 512] inb_S256x512_S64x512_128_0) = u2
    generalize View.ld (iblk m c 4 t) (Rect.unit ![128, 0] ![64, 512] inb_S256x512_S64x512_128_0) = w2
    generalize View.ld (iblk m c 5 t) (Rect.unit ![128, 0] ![64, 128] inb_S256x128_S64x128_128_0) = g2
    generalize View.ld (iblk m c 6 t) (Rect.unit ![2, 0, 0, 0] ![1, 4, 64, 64] inb_S4x4x64x64_S1x4x64x64_2_0_0_0) = p2
    generalize View.ld (iblk m c 7 t) (Rect.unit ![2, 0, 0, 0] ![1, 4, 128, 128] inb_S4x4x128x128_S1x4x128x128_2_0_0_0) = s2
    generalize View.ld (iblk m c 0 t) (Rect.unit ![192, 0] ![64, 512] inb_S256x512_S64x512_192_0) = o3
    generalize View.ld (iblk m c 1 t) (Rect.unit ![192, 0] ![64, 512] inb_S256x512_S64x512_192_0) = q3
    generalize View.ld (iblk m c 2 t) (Rect.unit ![192, 0] ![64, 512] inb_S256x512_S64x512_192_0) = k3
    generalize View.ld (iblk m c 3 t) (Rect.unit ![192, 0] ![64, 512] inb_S256x512_S64x512_192_0) = u3
    generalize View.ld (iblk m c 4 t) (Rect.unit ![192, 0] ![64, 512] inb_S256x512_S64x512_192_0) = w3
    generalize View.ld (iblk m c 5 t) (Rect.unit ![192, 0] ![64, 128] inb_S256x128_S64x128_192_0) = g3
    generalize View.ld (iblk m c 6 t) (Rect.unit ![3, 0, 0, 0] ![1, 4, 64, 64] inb_S4x4x64x64_S1x4x64x64_3_0_0_0) = p3
    generalize View.ld (iblk m c 7 t) (Rect.unit ![3, 0, 0, 0] ![1, 4, 128, 128] inb_S4x4x128x128_S1x4x128x128_3_0_0_0) = s3
    generalize nextV o3 q3 k3 w3 g3 p3 d3 = d2
    generalize nextV o2 q2 k2 w2 g2 p2 d2 = d1
    generalize nextV o1 q1 k1 w1 g1 p1 d1 = d0
    refine congrArg View.canon (congrArg₂ _ (congrArg _ ?_) (congrArg₂ _ (congrArg _ ?_) (congrArg₂ _ (congrArg _ ?_) (congrArg₂ _ (congrArg _ ?_) rfl))))
    · rfl
    · rfl
    · rfl
    · rfl

/-- Output dg: the four chunks' blocks. -/
theorem out_dg (c : Dev nD) (t : Fin cfg0.N) :
    (outsAt0 m c t.val t.isLt).2.2.2.2.1 = rows128 fun a => sdg (pin m c t a) (cin m c t a) := by
  obtain ⟨r, hr⟩ : ∃ r, r = (rows128 fun a => sdg (pin m c t a) (cin m c t a)) := ⟨_, rfl⟩
  rw [← hr]
  by_cases h : t.val % 16 = 0
  · unfold cin at hr
    rw [entry_A m c t h] at hr
    rw [Gen.outsAt0_A m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    repeat rw [View.readCov_cons_toLoadRect]
    repeat rw [ld_scratch]
    try simp only [next3, next2, next1]
    rw [hr]
    simp only [rows128, carry_0, carry_1, carry_2, carry_3, next, pin_0, pin_1, pin_2, pin_3]
    clear hr
    generalize (k0_pay3 : Vec F S4x128x128 .f32) = d3
    generalize View.ld (iblk m c 0 t) (Rect.unit ![0, 0] ![64, 512] inb_S256x512_S64x512_0_0) = o0
    generalize View.ld (iblk m c 1 t) (Rect.unit ![0, 0] ![64, 512] inb_S256x512_S64x512_0_0) = q0
    generalize View.ld (iblk m c 2 t) (Rect.unit ![0, 0] ![64, 512] inb_S256x512_S64x512_0_0) = k0
    generalize View.ld (iblk m c 3 t) (Rect.unit ![0, 0] ![64, 512] inb_S256x512_S64x512_0_0) = u0
    generalize View.ld (iblk m c 4 t) (Rect.unit ![0, 0] ![64, 512] inb_S256x512_S64x512_0_0) = w0
    generalize View.ld (iblk m c 5 t) (Rect.unit ![0, 0] ![64, 128] inb_S256x128_S64x128_0_0) = g0
    generalize View.ld (iblk m c 6 t) (Rect.unit ![0, 0, 0, 0] ![1, 4, 64, 64] inb_S4x4x64x64_S1x4x64x64_0_0_0_0) = p0
    generalize View.ld (iblk m c 7 t) (Rect.unit ![0, 0, 0, 0] ![1, 4, 128, 128] inb_S4x4x128x128_S1x4x128x128_0_0_0_0) = s0
    generalize View.ld (iblk m c 0 t) (Rect.unit ![64, 0] ![64, 512] inb_S256x512_S64x512_64_0) = o1
    generalize View.ld (iblk m c 1 t) (Rect.unit ![64, 0] ![64, 512] inb_S256x512_S64x512_64_0) = q1
    generalize View.ld (iblk m c 2 t) (Rect.unit ![64, 0] ![64, 512] inb_S256x512_S64x512_64_0) = k1
    generalize View.ld (iblk m c 3 t) (Rect.unit ![64, 0] ![64, 512] inb_S256x512_S64x512_64_0) = u1
    generalize View.ld (iblk m c 4 t) (Rect.unit ![64, 0] ![64, 512] inb_S256x512_S64x512_64_0) = w1
    generalize View.ld (iblk m c 5 t) (Rect.unit ![64, 0] ![64, 128] inb_S256x128_S64x128_64_0) = g1
    generalize View.ld (iblk m c 6 t) (Rect.unit ![1, 0, 0, 0] ![1, 4, 64, 64] inb_S4x4x64x64_S1x4x64x64_1_0_0_0) = p1
    generalize View.ld (iblk m c 7 t) (Rect.unit ![1, 0, 0, 0] ![1, 4, 128, 128] inb_S4x4x128x128_S1x4x128x128_1_0_0_0) = s1
    generalize View.ld (iblk m c 0 t) (Rect.unit ![128, 0] ![64, 512] inb_S256x512_S64x512_128_0) = o2
    generalize View.ld (iblk m c 1 t) (Rect.unit ![128, 0] ![64, 512] inb_S256x512_S64x512_128_0) = q2
    generalize View.ld (iblk m c 2 t) (Rect.unit ![128, 0] ![64, 512] inb_S256x512_S64x512_128_0) = k2
    generalize View.ld (iblk m c 3 t) (Rect.unit ![128, 0] ![64, 512] inb_S256x512_S64x512_128_0) = u2
    generalize View.ld (iblk m c 4 t) (Rect.unit ![128, 0] ![64, 512] inb_S256x512_S64x512_128_0) = w2
    generalize View.ld (iblk m c 5 t) (Rect.unit ![128, 0] ![64, 128] inb_S256x128_S64x128_128_0) = g2
    generalize View.ld (iblk m c 6 t) (Rect.unit ![2, 0, 0, 0] ![1, 4, 64, 64] inb_S4x4x64x64_S1x4x64x64_2_0_0_0) = p2
    generalize View.ld (iblk m c 7 t) (Rect.unit ![2, 0, 0, 0] ![1, 4, 128, 128] inb_S4x4x128x128_S1x4x128x128_2_0_0_0) = s2
    generalize View.ld (iblk m c 0 t) (Rect.unit ![192, 0] ![64, 512] inb_S256x512_S64x512_192_0) = o3
    generalize View.ld (iblk m c 1 t) (Rect.unit ![192, 0] ![64, 512] inb_S256x512_S64x512_192_0) = q3
    generalize View.ld (iblk m c 2 t) (Rect.unit ![192, 0] ![64, 512] inb_S256x512_S64x512_192_0) = k3
    generalize View.ld (iblk m c 3 t) (Rect.unit ![192, 0] ![64, 512] inb_S256x512_S64x512_192_0) = u3
    generalize View.ld (iblk m c 4 t) (Rect.unit ![192, 0] ![64, 512] inb_S256x512_S64x512_192_0) = w3
    generalize View.ld (iblk m c 5 t) (Rect.unit ![192, 0] ![64, 128] inb_S256x128_S64x128_192_0) = g3
    generalize View.ld (iblk m c 6 t) (Rect.unit ![3, 0, 0, 0] ![1, 4, 64, 64] inb_S4x4x64x64_S1x4x64x64_3_0_0_0) = p3
    generalize View.ld (iblk m c 7 t) (Rect.unit ![3, 0, 0, 0] ![1, 4, 128, 128] inb_S4x4x128x128_S1x4x128x128_3_0_0_0) = s3
    generalize nextV o3 q3 k3 w3 g3 p3 d3 = d2
    generalize nextV o2 q2 k2 w2 g2 p2 d2 = d1
    generalize nextV o1 q1 k1 w1 g1 p1 d1 = d0
    refine congrArg View.canon (congrArg₂ _ (congrArg _ ?_) (congrArg₂ _ (congrArg _ ?_) (congrArg₂ _ (congrArg _ ?_) (congrArg₂ _ (congrArg _ ?_) rfl))))
    · rfl
    · rfl
    · rfl
    · rfl
  · unfold cin at hr
    rw [entry_B m c t h] at hr
    rw [Gen.outsAt0_B m c t h]
    dsimp only
    frame_out
    try simp only [(hs0_0 t).read_unread, (hs0_1 t).read_unread, (hs0_2 t).read_unread, (hs0_3 t).read_unread, (hs0_4 t).read_unread,
      (hs0_5 t).read_unread, (hs0_6 t).read_unread, (hs0_7 t).read_unread, (Memref.isWhole_whole cc0_scratch0).read_unread, next3, next2, next1]
    try rw [(hs0_0 t).read_unread]
    try rw [(hs0_1 t).read_unread]
    try rw [(hs0_2 t).read_unread]
    try rw [(hs0_3 t).read_unread]
    try rw [(hs0_4 t).read_unread]
    try rw [(hs0_5 t).read_unread]
    try rw [(hs0_6 t).read_unread]
    try rw [(hs0_7 t).read_unread]
    repeat rw [View.readCov_cons_toLoadRect]
    repeat rw [ld_scratch]
    try simp only [next3, next2, next1]
    rw [hr]
    simp only [rows128, carry_0, carry_1, carry_2, carry_3, next, pin_0, pin_1, pin_2, pin_3]
    clear hr
    generalize (outsAt0 m c (t.val - 1) (by omega)).2.2.2.2.2.2 = d3
    generalize View.ld (iblk m c 0 t) (Rect.unit ![0, 0] ![64, 512] inb_S256x512_S64x512_0_0) = o0
    generalize View.ld (iblk m c 1 t) (Rect.unit ![0, 0] ![64, 512] inb_S256x512_S64x512_0_0) = q0
    generalize View.ld (iblk m c 2 t) (Rect.unit ![0, 0] ![64, 512] inb_S256x512_S64x512_0_0) = k0
    generalize View.ld (iblk m c 3 t) (Rect.unit ![0, 0] ![64, 512] inb_S256x512_S64x512_0_0) = u0
    generalize View.ld (iblk m c 4 t) (Rect.unit ![0, 0] ![64, 512] inb_S256x512_S64x512_0_0) = w0
    generalize View.ld (iblk m c 5 t) (Rect.unit ![0, 0] ![64, 128] inb_S256x128_S64x128_0_0) = g0
    generalize View.ld (iblk m c 6 t) (Rect.unit ![0, 0, 0, 0] ![1, 4, 64, 64] inb_S4x4x64x64_S1x4x64x64_0_0_0_0) = p0
    generalize View.ld (iblk m c 7 t) (Rect.unit ![0, 0, 0, 0] ![1, 4, 128, 128] inb_S4x4x128x128_S1x4x128x128_0_0_0_0) = s0
    generalize View.ld (iblk m c 0 t) (Rect.unit ![64, 0] ![64, 512] inb_S256x512_S64x512_64_0) = o1
    generalize View.ld (iblk m c 1 t) (Rect.unit ![64, 0] ![64, 512] inb_S256x512_S64x512_64_0) = q1
    generalize View.ld (iblk m c 2 t) (Rect.unit ![64, 0] ![64, 512] inb_S256x512_S64x512_64_0) = k1
    generalize View.ld (iblk m c 3 t) (Rect.unit ![64, 0] ![64, 512] inb_S256x512_S64x512_64_0) = u1
    generalize View.ld (iblk m c 4 t) (Rect.unit ![64, 0] ![64, 512] inb_S256x512_S64x512_64_0) = w1
    generalize View.ld (iblk m c 5 t) (Rect.unit ![64, 0] ![64, 128] inb_S256x128_S64x128_64_0) = g1
    generalize View.ld (iblk m c 6 t) (Rect.unit ![1, 0, 0, 0] ![1, 4, 64, 64] inb_S4x4x64x64_S1x4x64x64_1_0_0_0) = p1
    generalize View.ld (iblk m c 7 t) (Rect.unit ![1, 0, 0, 0] ![1, 4, 128, 128] inb_S4x4x128x128_S1x4x128x128_1_0_0_0) = s1
    generalize View.ld (iblk m c 0 t) (Rect.unit ![128, 0] ![64, 512] inb_S256x512_S64x512_128_0) = o2
    generalize View.ld (iblk m c 1 t) (Rect.unit ![128, 0] ![64, 512] inb_S256x512_S64x512_128_0) = q2
    generalize View.ld (iblk m c 2 t) (Rect.unit ![128, 0] ![64, 512] inb_S256x512_S64x512_128_0) = k2
    generalize View.ld (iblk m c 3 t) (Rect.unit ![128, 0] ![64, 512] inb_S256x512_S64x512_128_0) = u2
    generalize View.ld (iblk m c 4 t) (Rect.unit ![128, 0] ![64, 512] inb_S256x512_S64x512_128_0) = w2
    generalize View.ld (iblk m c 5 t) (Rect.unit ![128, 0] ![64, 128] inb_S256x128_S64x128_128_0) = g2
    generalize View.ld (iblk m c 6 t) (Rect.unit ![2, 0, 0, 0] ![1, 4, 64, 64] inb_S4x4x64x64_S1x4x64x64_2_0_0_0) = p2
    generalize View.ld (iblk m c 7 t) (Rect.unit ![2, 0, 0, 0] ![1, 4, 128, 128] inb_S4x4x128x128_S1x4x128x128_2_0_0_0) = s2
    generalize View.ld (iblk m c 0 t) (Rect.unit ![192, 0] ![64, 512] inb_S256x512_S64x512_192_0) = o3
    generalize View.ld (iblk m c 1 t) (Rect.unit ![192, 0] ![64, 512] inb_S256x512_S64x512_192_0) = q3
    generalize View.ld (iblk m c 2 t) (Rect.unit ![192, 0] ![64, 512] inb_S256x512_S64x512_192_0) = k3
    generalize View.ld (iblk m c 3 t) (Rect.unit ![192, 0] ![64, 512] inb_S256x512_S64x512_192_0) = u3
    generalize View.ld (iblk m c 4 t) (Rect.unit ![192, 0] ![64, 512] inb_S256x512_S64x512_192_0) = w3
    generalize View.ld (iblk m c 5 t) (Rect.unit ![192, 0] ![64, 128] inb_S256x128_S64x128_192_0) = g3
    generalize View.ld (iblk m c 6 t) (Rect.unit ![3, 0, 0, 0] ![1, 4, 64, 64] inb_S4x4x64x64_S1x4x64x64_3_0_0_0) = p3
    generalize View.ld (iblk m c 7 t) (Rect.unit ![3, 0, 0, 0] ![1, 4, 128, 128] inb_S4x4x128x128_S1x4x128x128_3_0_0_0) = s3
    generalize nextV o3 q3 k3 w3 g3 p3 d3 = d2
    generalize nextV o2 q2 k2 w2 g2 p2 d2 = d1
    generalize nextV o1 q1 k1 w1 g1 p1 d1 = d0
    refine congrArg View.canon (congrArg₂ _ (congrArg _ ?_) (congrArg₂ _ (congrArg _ ?_) (congrArg₂ _ (congrArg _ ?_) (congrArg₂ _ (congrArg _ ?_) rfl))))
    · rfl
    · rfl
    · rfl
    · rfl

end Cert.KernelIdeal.Chunk
-- ==== Proof.KerBack.lean ====
/-
  The backward kernel's arrays over the extended reals: grid point `t` works on chunks `4 (15 - t) + a`, for `a` from 3 down to 0, and
  carries the states' cotangents, so every entry of an output is the chunk's formula at the cotangent carried into that chunk.
-/
module

public import proofs.«01_k».proof.Proof.ChunkAt
public import proofs.«01_k».proof.Proof.Out
public import proofs.«01_k».proof.Proof.Gen.KernelIdeal.Value

@[expose] public section

set_option maxRecDepth 16384
set_option maxHeartbeats 1000000

noncomputable section

namespace Cert.KernelIdeal.Chunk

open Idealize.ShloMosaic Idealize.ShloMosaic.TcCoe Idealize.SL.Sem
open Cert.KernelIdeal Cert.KernelIdeal.Gen Cert.KernelIdeal.Value Cert.Delta

/-- The argument arrays a device holds. -/
def args (m : (ℓ : Loc nD τ sig) → Buf (Elt Ideal) ℓ) (c : Dev nD) : Arrays where
  o := m ((c.tc : Thread nD τ).loc main_arg0)
  q := m ((c.tc : Thread nD τ).loc main_arg1)
  k := m ((c.tc : Thread nD τ).loc main_arg2)
  u := m ((c.tc : Thread nD τ).loc main_arg3)
  w := m ((c.tc : Thread nD τ).loc main_arg4)
  g := m ((c.tc : Thread nD τ).loc main_arg5)
  qk := m ((c.tc : Thread nD τ).loc main_arg6)
  s := m ((c.tc : Thread nD τ).loc main_arg7)

variable (m : (ℓ : Loc nD τ sig) → Buf (Elt Ideal) ℓ) (c : Dev nD)

/-- The chunk that point `t` works on at its step `a`. -/
def chunk (t : Fin cfg0.N) (a : Fin 4) : Fin 64 := ⟨4 * (15 - t.val) + a.val, by omega⟩

/-- The row inside a point's block that holds position `r` of its chunk `a`. -/
def brow (a : Fin 4) (r : Fin 64) : Fin 256 := ⟨64 * a.val + r.val, by omega⟩

/-! Where the windows' blocks lie. -/

theorem at_0 (t : Fin cfg0.N) : win0_0.index t = ![15 - t.val, 0] := by revert t; decide +kernel
theorem at_1 (t : Fin cfg0.N) : win0_1.index t = ![15 - t.val, 0] := by revert t; decide +kernel
theorem at_2 (t : Fin cfg0.N) : win0_2.index t = ![15 - t.val, 0] := by revert t; decide +kernel
theorem at_3 (t : Fin cfg0.N) : win0_3.index t = ![15 - t.val, 0] := by revert t; decide +kernel
theorem at_4 (t : Fin cfg0.N) : win0_4.index t = ![15 - t.val, 0] := by revert t; decide +kernel
theorem at_5 (t : Fin cfg0.N) : win0_5.index t = ![15 - t.val, 0] := by revert t; decide +kernel
theorem at_8 (t : Fin cfg0.N) : win0_8.index t = ![15 - t.val, 0] := by revert t; decide +kernel
theorem at_9 (t : Fin cfg0.N) : win0_9.index t = ![15 - t.val, 0] := by revert t; decide +kernel
theorem at_10 (t : Fin cfg0.N) : win0_10.index t = ![15 - t.val, 0] := by revert t; decide +kernel
theorem at_11 (t : Fin cfg0.N) : win0_11.index t = ![15 - t.val, 0] := by revert t; decide +kernel
theorem at_12 (t : Fin cfg0.N) : win0_12.index t = ![15 - t.val, 0] := by revert t; decide +kernel
theorem at_6 (t : Fin cfg0.N) : win0_6.index t = ![15 - t.val, 0, 0, 0] := by revert t; decide +kernel
theorem at_7 (t : Fin cfg0.N) : win0_7.index t = ![15 - t.val, 0, 0, 0] := by revert t; decide +kernel
theorem at_13 (t : Fin cfg0.N) : win0_13.index t = ![15 - t.val, 0, 0, 0] := by revert t; decide +kernel

/-! A chunk's loads are its rows of the argument arrays. -/

theorem pin_o (t : Fin cfg0.N) (a : Fin 4) (r : Fin 64) (l : Fin 512) :
    (pin m c t a).o (ix2 r l) = m ((c.tc : Thread nD τ).loc main_arg0) (ix2 (row (chunk t a) r) l) := by
  unfold pin ldc
  dsimp only
  pointwise
  blk_point [iblk, V, at_0 t]
  show _ = 64 * (4 * (15 - t.val) + a.val) + r.val
  omega
theorem pin_q (t : Fin cfg0.N) (a : Fin 4) (r : Fin 64) (l : Fin 512) :
    (pin m c t a).q (ix2 r l) = m ((c.tc : Thread nD τ).loc main_arg1) (ix2 (row (chunk t a) r) l) := by
  unfold pin ldc
  dsimp only
  pointwise
  blk_point [iblk, V, at_1 t]
  show _ = 64 * (4 * (15 - t.val) + a.val) + r.val
  omega
theorem pin_k (t : Fin cfg0.N) (a : Fin 4) (r : Fin 64) (l : Fin 512) :
    (pin m c t a).k (ix2 r l) = m ((c.tc : Thread nD τ).loc main_arg2) (ix2 (row (chunk t a) r) l) := by
  unfold pin ldc
  dsimp only
  pointwise
  blk_point [iblk, V, at_2 t]
  show _ = 64 * (4 * (15 - t.val) + a.val) + r.val
  omega
theorem pin_u (t : Fin cfg0.N) (a : Fin 4) (r : Fin 64) (l : Fin 512) :
    (pin m c t a).u (ix2 r l) = m ((c.tc : Thread nD τ).loc main_arg3) (ix2 (row (chunk t a) r) l) := by
  unfold pin ldc
  dsimp only
  pointwise
  blk_point [iblk, V, at_3 t]
  show _ = 64 * (4 * (15 - t.val) + a.val) + r.val
  omega
theorem pin_w (t : Fin cfg0.N) (a : Fin 4) (r : Fin 64) (l : Fin 512) :
    (pin m c t a).w (ix2 r l) = m ((c.tc : Thread nD τ).loc main_arg4) (ix2 (row (chunk t a) r) l) := by
  unfold pin ldc
  dsimp only
  pointwise
  blk_point [iblk, V, at_4 t]
  show _ = 64 * (4 * (15 - t.val) + a.val) + r.val
  omega
theorem pin_g (t : Fin cfg0.N) (a : Fin 4) (r : Fin 64) (l : Fin 128) :
    (pin m c t a).g (ix2 r l) = m ((c.tc : Thread nD τ).loc main_arg5) (ix2 (row (chunk t a) r) l) := by
  unfold pin ldc
  dsimp only
  pointwise
  blk_point [iblk, V, at_5 t]
  show _ = 64 * (4 * (15 - t.val) + a.val) + r.val
  omega
theorem pin_qk (t : Fin cfg0.N) (a : Fin 4) (h : Fin 4) (e f : Fin 64) :
    (pin m c t a).qk (ix4 (0 : Fin 1) h e f) = m ((c.tc : Thread nD τ).loc main_arg6) (ix4 (chunk t a) h e f) := by
  unfold pin ldc
  dsimp only
  pointwise
  blk_point [iblk, V, at_6 t]
  show _ = 4 * (15 - t.val) + a.val
  omega
theorem pin_s (t : Fin cfg0.N) (a : Fin 4) (h : Fin 4) (e f : Fin 128) :
    (pin m c t a).s (ix4 (0 : Fin 1) h e f) = m ((c.tc : Thread nD τ).loc main_arg7) (ix4 (chunk t a) h e f) := by
  unfold pin ldc
  dsimp only
  pointwise
  blk_point [iblk, V, at_7 t]
  show _ = 4 * (15 - t.val) + a.val
  omega

theorem blk_pin (t : Fin cfg0.N) (a : Fin 4) : blk (pin m c t a) = (args m c).blk (chunk t a) := by
  unfold blk Arrays.blk
  congr 1
  · funext h r e; exact pin_o m c t a r _
  · funext h r e; exact pin_q m c t a r _
  · funext h r e; exact pin_k m c t a r _
  · funext h r e; exact pin_u m c t a r _
  · funext h r e; exact pin_w m c t a r _
  · funext h r; exact pin_g m c t a r _
  · funext h r e; exact pin_qk m c t a h r e
  · funext h r e; exact pin_s m c t a h r e

/-! The carried cotangents. -/

theorem hst_zero : hst (k0_pay3 (F := Ideal)) = fun _ _ _ => 0 := by
  funext h e f
  unfold hst
  pointwise [k0_pay3]

/-- One chunk's step, on the whole sequence's cotangents. -/
theorem hst_step (t : Fin cfg0.N) (a : Fin 4) (d : Vec Ideal S4x128x128 .f32) (j : ℕ) (hj : j = 63 - (chunk t a).val)
    (hd : hst d = back (args m c).blk j) : hst (next (pin m c t a) d) = back (args m c).blk (j + 1) := by
  rw [hst_next, blk_pin, hd, hj, back_succ]

theorem hst_cin_of (t : Fin cfg0.N) (he : hst (entry m c t) = back (args m c).blk (4 * t.val)) (a : Fin 4) :
    hst (cin m c t a) = back (args m c).blk (63 - (chunk t a).val) := by
  have ht : t.val < 16 := t.isLt
  have e3 : hst (cin m c t 3) = back (args m c).blk (4 * t.val) := he
  have e2 : hst (cin m c t 2) = back (args m c).blk (4 * t.val + 1) :=
    hst_step m c t 3 _ _ (by show _ = 63 - (4 * (15 - t.val) + 3); omega) e3
  have e1 : hst (cin m c t 1) = back (args m c).blk (4 * t.val + 2) :=
    hst_step m c t 2 _ _ (by show _ = 63 - (4 * (15 - t.val) + 2); omega) e2
  have e0 : hst (cin m c t 0) = back (args m c).blk (4 * t.val + 3) :=
    hst_step m c t 1 _ _ (by show _ = 63 - (4 * (15 - t.val) + 1); omega) e1
  match a with
  | ⟨0, _⟩ => exact e0.trans (congrArg _ (by show _ = 63 - (4 * (15 - t.val) + 0); omega))
  | ⟨1, _⟩ => exact e1.trans (congrArg _ (by show _ = 63 - (4 * (15 - t.val) + 1); omega))
  | ⟨2, _⟩ => exact e2.trans (congrArg _ (by show _ = 63 - (4 * (15 - t.val) + 2); omega))
  | ⟨3, _⟩ => exact e3.trans (congrArg _ (by show _ = 63 - (4 * (15 - t.val) + 3); omega))

theorem hst_entry : ∀ (n : ℕ) (hn : n < cfg0.N), hst (entry m c ⟨n, hn⟩) = back (args m c).blk (4 * n)
  | 0, hn => by
    rw [entry_A m c ⟨0, hn⟩ rfl]
    exact hst_zero
  | n + 1, hn => by
    have hn' : n + 1 < 16 := hn
    have h0 : ¬ (n + 1) % 16 = 0 := by omega
    rw [entry_B m c ⟨n + 1, hn⟩ h0]
    have hp : n < cfg0.N := by omega
    show hst (outsAt0 m c n _).2.2.2.2.2.2 = _
    rw [scratch_eq m c ⟨n, hp⟩]
    have H := hst_cin_of m c ⟨n, hp⟩ (hst_entry n hp) 0
    have e : 63 - (chunk ⟨n, hp⟩ 0).val = 4 * n + 3 := by show 63 - (4 * (15 - n) + 0) = _; omega
    rw [e] at H
    exact hst_step m c ⟨n, hp⟩ 0 _ (4 * n + 3) e.symm H

theorem hst_cin (t : Fin cfg0.N) (a : Fin 4) : hst (cin m c t a) = back (args m c).blk (63 - (chunk t a).val) :=
  hst_cin_of m c t (hst_entry m c t.val t.isLt) a

/-! Four stored blocks, read at a place. -/

/-- A position's block and its place there are told from its row. -/
theorem tile_eq {n : Nat} {α : Type} (v : Fin 4 → (⟨2, ![64, n]⟩ : Shape).Idx → α) (a k : Fin 4) (r : Fin 64) (l : Fin n)
    (x : (⟨2, ![64, n]⟩ : Shape).Idx) (h0 : 64 * a.val + r.val = 64 * k.val + (x 0).val) (x0 : (x 0).val < 64)
    (h1 : l.val = (x 1).val) : v k x = v a (ix2 r l) := by
  have ha : a = k := Fin.ext (by omega)
  subst ha
  exact congrArg (v a) (funext fun i => by
    match i with
    | ⟨0, _⟩ => exact Fin.ext (by show (x 0).val = r.val; omega)
    | ⟨1, _⟩ => exact Fin.ext h1.symm)

theorem rows512_at (v : Fin 4 → FVec Ideal S64x512 .f32) (a : Fin 4) (r : Fin 64) (l : Fin 512) :
    rows512 v (ix2 (brow a r) l) = v a (ix2 r l) := by
  unfold rows512
  canon_tiles x h
  · exact tile_eq v a 0 r l x (h0.trans (by simp)) x0_lt h1
  · exact tile_eq v a 1 r l x h0 x0_lt h1
  · exact tile_eq v a 2 r l x h0 x0_lt h1
  · exact tile_eq v a 3 r l x h0 x0_lt h1

theorem rows128_at (v : Fin 4 → FVec Ideal S64x128 .f32) (a : Fin 4) (r : Fin 64) (l : Fin 128) :
    rows128 v (ix2 (brow a r) l) = v a (ix2 r l) := by
  unfold rows128
  canon_tiles x h
  · exact tile_eq v a 0 r l x (h0.trans (by simp)) x0_lt h1
  · exact tile_eq v a 1 r l x h0 x0_lt h1
  · exact tile_eq v a 2 r l x h0 x0_lt h1
  · exact tile_eq v a 3 r l x h0 x0_lt h1

theorem rows4_at (v : Fin 4 → FVec Ideal S1x4x64x64 .f32) (a : Fin 4) (h : Fin 4) (r s : Fin 64) :
    rows4 v (ix4 a h r s) = v a (ix4 (0 : Fin 1) h r s) := by
  have key : ∀ (k : Fin 4) (x : S1x4x64x64.Idx), a.val = k.val + (x 0).val → (x 0).val < 1 → h.val = (x 1).val → r.val = (x 2).val →
      s.val = (x 3).val → v k x = v a (ix4 (0 : Fin 1) h r s) := fun k x h0 x0 h1 h2 h3 => by
    have ha : a = k := Fin.ext (by omega)
    subst ha
    exact congrArg (v a) (funext fun i => by
      match i with
      | ⟨0, _⟩ => exact Fin.ext (by show (x 0).val = 0; omega)
      | ⟨1, _⟩ => exact Fin.ext h1.symm
      | ⟨2, _⟩ => exact Fin.ext h2.symm
      | ⟨3, _⟩ => exact Fin.ext h3.symm)
  unfold rows4
  canon_tiles x h
  · exact key 0 x (h0.trans (by simp)) x0_lt h1 h2 h3
  · exact key 1 x h0 x0_lt h1 h2 h3
  · exact key 2 x h0 x0_lt h1 h2 h3
  · exact key 3 x h0 x0_lt h1 h2 h3

/-! The output arrays, at a place of a chunk. -/

theorem arr8 (t : Fin cfg0.N) (a : Fin 4) (r : Fin 64) (l : Fin 512) :
    (dats m 0 c).arrAt 8 cfg0.N (ix2 (row (chunk t a) r) l) = (outsAt0 m c t.val t.isLt).1 (ix2 (brow a r) l) := by
  have hb := congrFun (blocks8 m c t (by revert t; decide +kernel)) (ix2 (brow a r) l)
  rw [flushed8] at hb
  refine (Eq.trans ?_ hb).trans ?_
  · blk_ext! [at_8 t]
    show 64 * (4 * (15 - t.val) + a.val) + r.val = (15 - t.val) * 256 + (64 * a.val + r.val)
    omega
  · rfl
theorem arr9 (t : Fin cfg0.N) (a : Fin 4) (r : Fin 64) (l : Fin 512) :
    (dats m 0 c).arrAt 9 cfg0.N (ix2 (row (chunk t a) r) l) = (outsAt0 m c t.val t.isLt).2.1 (ix2 (brow a r) l) := by
  have hb := congrFun (blocks9 m c t (by revert t; decide +kernel)) (ix2 (brow a r) l)
  rw [flushed9] at hb
  refine (Eq.trans ?_ hb).trans ?_
  · blk_ext! [at_9 t]
    show 64 * (4 * (15 - t.val) + a.val) + r.val = (15 - t.val) * 256 + (64 * a.val + r.val)
    omega
  · rfl
theorem arr10 (t : Fin cfg0.N) (a : Fin 4) (r : Fin 64) (l : Fin 512) :
    (dats m 0 c).arrAt 10 cfg0.N (ix2 (row (chunk t a) r) l) = (outsAt0 m c t.val t.isLt).2.2.1 (ix2 (brow a r) l) := by
  have hb := congrFun (blocks10 m c t (by revert t; decide +kernel)) (ix2 (brow a r) l)
  rw [flushed10] at hb
  refine (Eq.trans ?_ hb).trans ?_
  · blk_ext! [at_10 t]
    show 64 * (4 * (15 - t.val) + a.val) + r.val = (15 - t.val) * 256 + (64 * a.val + r.val)
    omega
  · rfl
theorem arr11 (t : Fin cfg0.N) (a : Fin 4) (r : Fin 64) (l : Fin 512) :
    (dats m 0 c).arrAt 11 cfg0.N (ix2 (row (chunk t a) r) l) = (outsAt0 m c t.val t.isLt).2.2.2.1 (ix2 (brow a r) l) := by
  have hb := congrFun (blocks11 m c t (by revert t; decide +kernel)) (ix2 (brow a r) l)
  rw [flushed11] at hb
  refine (Eq.trans ?_ hb).trans ?_
  · blk_ext! [at_11 t]
    show 64 * (4 * (15 - t.val) + a.val) + r.val = (15 - t.val) * 256 + (64 * a.val + r.val)
    omega
  · rfl
theorem arr12 (t : Fin cfg0.N) (a : Fin 4) (r : Fin 64) (l : Fin 128) :
    (dats m 0 c).arrAt 12 cfg0.N (ix2 (row (chunk t a) r) l) = (outsAt0 m c t.val t.isLt).2.2.2.2.1 (ix2 (brow a r) l) := by
  have hb := congrFun (blocks12 m c t (by revert t; decide +kernel)) (ix2 (brow a r) l)
  rw [flushed12] at hb
  refine (Eq.trans ?_ hb).trans ?_
  · blk_ext! [at_12 t]
    show 64 * (4 * (15 - t.val) + a.val) + r.val = (15 - t.val) * 256 + (64 * a.val + r.val)
    omega
  · rfl
theorem arr13 (t : Fin cfg0.N) (a : Fin 4) (h : Fin 4) (r s : Fin 64) :
    (dats m 0 c).arrAt 13 cfg0.N (ix4 (chunk t a) h r s) = (outsAt0 m c t.val t.isLt).2.2.2.2.2.1 (ix4 a h r s) := by
  have hb := congrFun (blocks13 m c t (by revert t; decide +kernel)) (ix4 a h r s)
  rw [flushed13] at hb
  refine (Eq.trans ?_ hb).trans ?_
  · blk_ext! [at_13 t]
    show 4 * (15 - t.val) + a.val = (15 - t.val) * 4 + a.val
    omega
  · rfl

/-- Every chunk is worked on by a point at a step. -/
theorem exists_chunk (n : Fin 64) : ∃ t a, n = chunk t a := by
  refine ⟨⟨15 - n.val / 4, by show 15 - n.val / 4 < 16; omega⟩, ⟨n.val % 4, by omega⟩, Fin.ext ?_⟩
  show n.val = 4 * (15 - (15 - n.val / 4)) + n.val % 4
  omega

theorem res_dq (n : Fin 64) (r : Fin 64) (h : Fin 4) (e : Fin 128) :
    (dats m 0 c).arrAt 8 cfg0.N (ix2 (row n r) (lane h e)) = ((args m c).blk n).dq h r e := by
  obtain ⟨t, a, rfl⟩ := exists_chunk n
  rw [arr8, out_dq, rows512_at, sdq_at, blk_pin]
theorem res_dk (n : Fin 64) (r : Fin 64) (h : Fin 4) (e : Fin 128) :
    (dats m 0 c).arrAt 9 cfg0.N (ix2 (row n r) (lane h e)) = ((args m c).blk n).dk (back (args m c).blk (63 - n.val)) h r e := by
  obtain ⟨t, a, rfl⟩ := exists_chunk n
  rw [arr9, out_dk, rows512_at, sdk_at, blk_pin, hst_cin]
theorem res_du (n : Fin 64) (r : Fin 64) (h : Fin 4) (e : Fin 128) :
    (dats m 0 c).arrAt 10 cfg0.N (ix2 (row n r) (lane h e)) = ((args m c).blk n).du (back (args m c).blk (63 - n.val)) h r e := by
  obtain ⟨t, a, rfl⟩ := exists_chunk n
  rw [arr10, out_du, rows512_at, sdu_at, blk_pin, hst_cin]
theorem res_dw (n : Fin 64) (r : Fin 64) (h : Fin 4) (e : Fin 128) :
    (dats m 0 c).arrAt 11 cfg0.N (ix2 (row n r) (lane h e)) = ((args m c).blk n).dw (back (args m c).blk (63 - n.val)) h r e := by
  obtain ⟨t, a, rfl⟩ := exists_chunk n
  rw [arr11, out_dw, rows512_at, sdw_at, blk_pin, hst_cin]
theorem res_dg (n : Fin 64) (r : Fin 64) (l : Fin 128) :
    (dats m 0 c).arrAt 12 cfg0.N (ix2 (row n r) l)
      = if hl : l.val < 4 then ((args m c).blk n).dg (back (args m c).blk (63 - n.val)) ⟨l.val, hl⟩ r else 0 := by
  obtain ⟨t, a, rfl⟩ := exists_chunk n
  rw [arr12, out_dg, rows128_at, sdg_at, blk_pin, hst_cin]
theorem res_dqk (n : Fin 64) (h : Fin 4) (r s : Fin 64) :
    (dats m 0 c).arrAt 13 cfg0.N (ix4 n h r s) = ((args m c).blk n).dqk h r s := by
  obtain ⟨t, a, rfl⟩ := exists_chunk n
  rw [arr13, out_dqk, rows4_at, sdqk_at, blk_pin]

end Cert.KernelIdeal.Chunk

end
-- ==== Proof.Back.lean ====
/-
  The backward kernel and the derivative of the recurrence give the same six arrays: entry by entry both are the chunk's formula at the
  cotangent carried into that chunk.
-/
module

public import proofs.«01_k».proof.Defs
public import proofs.«01_k».proof.Proof.RefBack
public import proofs.«01_k».proof.Proof.KerBack
public import Idealize.ShloMosaic.Lib.Quiescent

@[expose] public section

noncomputable section

namespace Cert.Proof

open Idealize.ShloMosaic Idealize.ShloMosaic.TcCoe Idealize.SL.Sem Cert.Delta

/-- Two arrays of rows by lanes are equal if they agree on every head of every chunk. -/
theorem rows_ext {x y : (⟨2, ![4096, 512]⟩ : Shape).Idx → EReal}
    (H : ∀ n c h e, x (ix2 (row n c) (lane h e)) = y (ix2 (row n c) (lane h e))) : x = y := by
  funext i
  obtain ⟨n, c, hr⟩ := exists_row (i 0)
  obtain ⟨h, e, hl⟩ := exists_lane (i 1)
  rw [eq_ix2 i, hr, hl]; exact H n c h e

/-- The same for the log decays' lanes. -/
theorem lanes_ext {x y : (⟨2, ![4096, 128]⟩ : Shape).Idx → EReal}
    (H : ∀ n c l, x (ix2 (row n c) l) = y (ix2 (row n c) l)) : x = y := by
  funext i
  obtain ⟨n, c, hr⟩ := exists_row (i 0)
  rw [eq_ix2 i, hr]; exact H n c (i 1)

/-- The same for an array with one entry per chunk, head and two more coordinates. -/
theorem four_ext {a b : ℕ} {x y : (⟨4, ![64, 4, a, b]⟩ : Shape).Idx → EReal}
    (H : ∀ n h c s, x (ix4 n h c s) = y (ix4 n h c s)) : x = y := by
  funext i
  rw [eq_ix4 i]; exact H (i 0) (i 1) (i 2) (i 3)

theorem frame_reference : Cert.quiescent_ReferenceIdeal := fun m ρ _ =>
  (θ_run Cert.ReferenceIdeal.defs _ _).mono
    (fun _ h => ⟨fun c => (h c).2.2.2.2.2.2, sem_eq_zero_of_no_sems (by decide) _⟩) (Cert.ReferenceIdeal.Value.run (F := Ideal) m ρ)

theorem algebraic_back : Cert.algebraic_KernelIdeal_ReferenceIdeal := by
  intro m ρ m' ρ' _ hargs
  have E : ∀ c, Cert.ReferenceIdeal.Trip.args m' c = Cert.KernelIdeal.Chunk.args m c := fun c => by
    obtain ⟨h0, h1, h2, h3, h4, h5, h6, h7⟩ := hargs c
    unfold Cert.ReferenceIdeal.Trip.args Cert.KernelIdeal.Chunk.args
    congr 1
  refine ⟨_, _, _, _, _, _, Cert.KernelIdeal.Value.run_blocks (F := Ideal) m ρ,
    (θ_run Cert.ReferenceIdeal.defs _ _).mono (fun r H c => ?_)
      (Cert.ReferenceIdeal.Trip.run_iter (F := Ideal) m' ρ' (Cert.ReferenceIdeal.Trip.iter m') (fun _ => rfl) (fun _ _ => rfl))⟩
  have A := Cert.ReferenceIdeal.Trip.after m' c 64 le_rfl
  obtain ⟨h0, h1, h2, h3, h4, h5, hk⟩ := H c
  rw [E c] at A
  refine ⟨h0.trans (rows_ext fun n r h e => ?_), h1.trans (rows_ext fun n r h e => ?_), h2.trans (rows_ext fun n r h e => ?_),
    h3.trans (rows_ext fun n r h e => ?_), h4.trans (lanes_ext fun n r l => ?_), h5.trans (four_ext fun n h r s => ?_), hk⟩
  · exact (Cert.ReferenceIdeal.Trip.out_dq A n h r e).trans (Cert.KernelIdeal.Chunk.res_dq m c n r h e).symm
  · exact (Cert.ReferenceIdeal.Trip.out_dk A n h r e).trans (Cert.KernelIdeal.Chunk.res_dk m c n r h e).symm
  · exact (Cert.ReferenceIdeal.Trip.out_du A n h r e).trans (Cert.KernelIdeal.Chunk.res_du m c n r h e).symm
  · exact (Cert.ReferenceIdeal.Trip.out_dw A n h r e).trans (Cert.KernelIdeal.Chunk.res_dw m c n r h e).symm
  · exact (Cert.ReferenceIdeal.Trip.out_dg A n r l).trans (Cert.KernelIdeal.Chunk.res_dg m c n r l).symm
  · exact (Cert.ReferenceIdeal.Trip.out_dqk A n h r s).trans (Cert.KernelIdeal.Chunk.res_dqk m c n h r s).symm

end Cert.Proof

end
-- ==== Proof.Blocked.lean ====
/-
  A sum over all positions, tile by tile.
-/
module

public import Idealize.ShloMosaic.Lib.Pointwise

@[expose] public section

noncomputable section

namespace Cert.Blocked

open Idealize.ShloMosaic

variable {N : ℕ} (f : Fin N → EReal) (s : ℕ)

/-- The sum over the first `n` tiles of `s` positions each. -/
def part (n : ℕ) : EReal := ∑ i ∈ Finset.range (s * n), if h : i < N then f ⟨i, h⟩ else 0

theorem part_zero : part f s 0 = 0 := by simp [part]

/-- One more tile adds its own positions. -/
theorem part_succ (n : ℕ) (g : Fin s → EReal) (h : ∀ r : Fin s, ∃ p : s * n + r.val < N, g r = f ⟨s * n + r.val, p⟩) :
    part f s (n + 1) = part f s n + ∑ r, g r := by
  unfold part
  rw [Nat.mul_succ, Finset.sum_range_add]
  congr 1
  rw [Finset.sum_range]
  refine Finset.sum_congr rfl fun r _ => ?_
  obtain ⟨p, e⟩ := h r
  rw [dif_pos p, e]

/-- All tiles together are the whole sum. -/
theorem part_all (n : ℕ) (h : s * n = N) : part f s n = ∑ i, f i := by
  subst h
  unfold part
  rw [Finset.sum_range]
  exact Finset.sum_congr rfl fun r _ => dif_pos r.isLt

/-- Two places of a matrix are one if their coordinates are. -/
theorem ix2_of {n0 n1 : ℕ} {a a' : Fin n0} {b b' : Fin n1} (h : a.val = a'.val) (h' : b.val = b'.val) : ix2 a b = ix2 a' b' := by
  rw [Fin.ext h, Fin.ext h']

end Cert.Blocked

end
-- ==== Proof.DwProj.lean ====
/-
  The gradient of the first projection's weight: the kernel adds up eight tiles of 512 positions for each block of columns, which is the
  product of the whole arrays.
-/
module

public import proofs.«01_k».proof.Defs
public import proofs.«01_k».proof.Proof.Gen.ProjDwIdeal.Value
public import proofs.«01_k».proof.Proof.Gen.ProjDwRefIdeal.Run
public import proofs.«01_k».proof.Proof.Gen.ProjDwRefIdeal.Read
public import proofs.«01_k».proof.Proof.Blocked
public import Idealize.ShloMosaic.Lib.Pointwise
public import Idealize.ShloMosaic.Lib.Pipeline.ValueKit
public import Idealize.ShloMosaic.Lib.Tactic
public import Idealize.ShloMosaic.Lib.Quiescent

@[expose] public section

set_option maxRecDepth 16384
set_option maxHeartbeats 1000000

noncomputable section

namespace Cert.ProjDwIdeal.Out

open Idealize.ShloMosaic Idealize.ShloMosaic.TcCoe Idealize.SL.Sem
open Cert.ProjDwIdeal Cert.ProjDwIdeal.Gen Cert.ProjDwIdeal.Value Cert.Blocked

variable (m : (ℓ : Loc nD τ sig) → Buf (Elt Ideal) ℓ) (c : Dev nD)

theorem at_0 (t : Fin cfg0.N) : win0_0.index t = ![t.val % 8, 0] := by revert t; decide +kernel
theorem at_1 (t : Fin cfg0.N) : win0_1.index t = ![t.val % 8, t.val / 8] := by revert t; decide +kernel

/-- The two factors: the positions by features, and the positions by the cotangent's columns. -/
def lhs : (⟨2, ![4096, 1024]⟩ : Shape).Idx → EReal := m ((c.tc : Thread nD τ).loc main_arg0)
def rhs : (⟨2, ![4096, 3456]⟩ : Shape).Idx → EReal := m ((c.tc : Thread nD τ).loc main_arg1)

/-- Column `y` of block `j`. -/
def col (j : ℕ) (hj : j < 3) (y : Fin 1152) : Fin 3456 := ⟨1152 * j + y.val, by omega⟩

/-- A point's blocks of the two factors. -/
def lblk (t : Fin cfg0.N) : (⟨2, ![512, 1024]⟩ : Shape).Idx → EReal := iblk m c 0 t
def rblk (t : Fin cfg0.N) : (⟨2, ![512, 1152]⟩ : Shape).Idx → EReal := iblk m c 1 t

theorem lhs_at (t : Fin cfg0.N) (r : Fin 512) (k : Fin 1024) :
    lblk m c t (ix2 r k) = lhs m c (ix2 (⟨512 * (t.val % 8) + r.val, by omega⟩ : Fin 4096) k) := by
  unfold lblk lhs
  blk_point [iblk, V, at_0 t]

theorem rhs_at (t : Fin cfg0.N) (ht : t.val / 8 < 3) (r : Fin 512) (y : Fin 1152) :
    rblk m c t (ix2 r y) = rhs m c (ix2 (⟨512 * (t.val % 8) + r.val, by omega⟩ : Fin 4096) (col (t.val / 8) ht y)) := by
  unfold rblk rhs
  blk_point [iblk, V, at_1 t]
  show _ = 1152 * (t.val / 8) + y.val
  omega

theorem pay_at (acc : Vec Ideal S1024x1152 .f32) (a : Vec Ideal S512x1024 .bf16) (b : Vec Ideal S512x1152 .bf16) (k : Fin 1024) (y : Fin 1152) :
    k0_pay2 acc a b (ix2 k y) = acc (ix2 k y) + ∑ r : Fin 512, a (ix2 r k) * b (ix2 r y) := by
  pointwise [k0_pay2]

theorem zero_at (k : Fin 1024) (y : Fin 1152) : k0_pay1 (F := Ideal) (ix2 k y) = 0 := by
  pointwise [k0_pay1]

/-- The terms of entry `(k, y)` of column block `j`. -/
def term (j : ℕ) (hj : j < 3) (k : Fin 1024) (y : Fin 1152) (i : Fin 4096) : EReal :=
  lhs m c (ix2 i k) * rhs m c (ix2 i (col j hj y))

/-- The products of a point's two blocks are the terms of its tile. -/
theorem prod_at (t : Fin cfg0.N) (ht : t.val / 8 < 3) (k : Fin 1024) (y : Fin 1152) (r : Fin 512) :
    ∃ p : 512 * (t.val % 8) + r.val < 4096,
      lblk m c t (ix2 r k) * rblk m c t (ix2 r y) = term m c (t.val / 8) ht k y ⟨512 * (t.val % 8) + r.val, p⟩ :=
  ⟨by omega, by rw [lhs_at, rhs_at m c t ht]; rfl⟩

/-- What the buffer holds after a point: the sum over the tiles of its column block so far. -/
theorem acc_at (k : Fin 1024) (y : Fin 1152) : ∀ (n : ℕ) (hn : n < cfg0.N) (j : ℕ) (hj : j < 3), n / 8 = j →
    outsAt0 m c n hn (ix2 k y) = part (term m c j hj k y) 512 (n % 8 + 1) := by
  intro n
  induction n with
  | zero =>
    rintro hn j hj rfl
    rw [outsAt0_A m c ⟨0, hn⟩ rfl, out_A_2_eq, pay_at, zero_at]
    refine Eq.trans ?_ (part_succ _ _ 0 _ (prod_at m c ⟨0, hn⟩ hj k y)).symm
    rw [part_zero]; rfl
  | succ n ih =>
    rintro hn j hj rfl
    have step := prod_at m c ⟨n + 1, hn⟩ hj k y
    by_cases h : (n + 1) % 8 = 0
    · rw [outsAt0_A m c ⟨n + 1, hn⟩ h, out_A_2_eq, pay_at, zero_at]
      refine Eq.trans ?_ (part_succ _ _ _ _ step).symm
      dsimp only
      rw [h, part_zero]; rfl
    · rw [outsAt0_B m c ⟨n + 1, hn⟩ h, out_B_2_eq, pay_at]
      refine Eq.trans ?_ (part_succ _ _ _ _ step).symm
      refine congrArg₂ (· + ·) ?_ rfl
      refine (ih (Nat.lt_of_succ_lt hn) ((n + 1) / 8) hj (by omega)).trans ?_
      exact congrArg _ (by show n % 8 + 1 = (n + 1) % 8; omega)

theorem at_2 (t : Fin cfg0.N) : win0_2.index t = ![0, t.val / 8] := by revert t; decide +kernel

/-- The array's block `j` is what the last point of its eight leaves. -/
theorem arr2 (j : ℕ) (hj : j < 3) (k : Fin 1024) (y : Fin 1152) :
    (dats m 0 c).arrAt 2 cfg0.N (ix2 k (col j hj y)) = outsAt0 m c (8 * j + 7) (lt_of_lt_of_eq (by omega) N_0.symm) (ix2 k y) := by
  have h8 : 8 * j + 7 < cfg0.N := lt_of_lt_of_eq (by omega) N_0.symm
  have hf : (cfg0.win 2).flush (⟨8 * j + 7, h8⟩ : Fin cfg0.N) = true := (flush0_2 _).mpr (by show (8 * j + 7) % 8 = 7; omega)
  have hb := congrFun (flushed2_eq m c ⟨8 * j + 7, h8⟩ hf) (ix2 k y)
  rw [flushed2, ← final2] at hb
  refine (Eq.trans ?_ hb.symm).trans ?_
  · blk_ext! [at_2 ⟨8 * j + 7, h8⟩]
    show 1152 * j + y.val = (8 * j + 7) / 8 * 1152 + y.val
    omega
  · rfl

/-- Every entry of the kernel's result is the whole sum over the positions. -/
theorem res (k : Fin 1024) (x : Fin 3456) : (dats m 0 c).arrAt 2 cfg0.N (ix2 k x) = ∑ i : Fin 4096, lhs m c (ix2 i k) * rhs m c (ix2 i x) := by
  obtain ⟨j, hj, y, rfl⟩ : ∃ j hj y, x = col j hj y :=
    ⟨x.val / 1152, by omega, ⟨x.val % 1152, by omega⟩, Fin.ext (by show x.val = 1152 * (x.val / 1152) + x.val % 1152; omega)⟩
  have e2 : (8 * j + 7) % 8 + 1 = 8 := by omega
  rw [arr2, acc_at m c k y _ _ j hj (by omega), e2]
  exact part_all _ _ _ rfl

/-- Every entry of the plain product. -/
theorem ref_at (a : (⟨S4096x1024, .bf16⟩ : BufTy).Contents (Elt Ideal)) (b : (⟨S4096x3456, .bf16⟩ : BufTy).Contents (Elt Ideal)) (k : Fin 1024) (x : Fin 3456) :
    Cert.ProjDwRefIdeal.Read.val_main_v3 (F := Ideal) a b (ix2 k x) = ∑ i : Fin 4096, a (ix2 i k) * b (ix2 i x) := by
  pointwise [Cert.ProjDwRefIdeal.Read.val_main_v3, Cert.ProjDwRefIdeal.Read.val_main_v2, Cert.ProjDwRefIdeal.Read.val_main_v1, Cert.ProjDwRefIdeal.Read.val_main_v0]

end Cert.ProjDwIdeal.Out

namespace Cert.Proof

open Idealize.ShloMosaic Idealize.ShloMosaic.TcCoe Idealize.SL.Sem

theorem frame_projDwRef : Cert.quiescent_ProjDwRefIdeal := fun m ρ _ =>
  (θ_run Cert.ProjDwRefIdeal.defs _ _).mono
    (fun _ h => ⟨fun c => (h c).2, sem_eq_zero_of_no_sems (by decide) _⟩) (Cert.ProjDwRefIdeal.Value.run (F := Ideal) m ρ)

theorem algebraic_projDw : Cert.algebraic_ProjDwIdeal_ProjDwRefIdeal := by
  intro m ρ m' ρ' _ hargs
  refine ⟨_, Cert.ProjDwIdeal.Value.run_blocks (F := Ideal) m ρ,
    (θ_run Cert.ProjDwRefIdeal.defs _ _).mono (fun r H c => ?_) (Cert.ProjDwRefIdeal.Value.run (F := Ideal) m' ρ')⟩
  obtain ⟨h0, hk⟩ := H c
  obtain ⟨e0, e1⟩ := hargs c
  refine ⟨h0.trans (funext fun i => ?_), hk⟩
  rw [e0, e1, eq_ix2 i]
  exact (Cert.ProjDwIdeal.Out.ref_at _ _ (i 0) (i 1)).trans (Cert.ProjDwIdeal.Out.res m c (i 0) (i 1)).symm

end Cert.Proof

end
-- ==== Proof.DwMixout.lean ====
/-
  The gradient of the mixer's output weight: the kernel adds up eight tiles of 512 positions for each block of columns, which is the
  product of the whole arrays.
-/
module

public import proofs.«01_k».proof.Defs
public import proofs.«01_k».proof.Proof.Gen.MixoutDwIdeal.Value
public import proofs.«01_k».proof.Proof.Gen.MixoutDwRefIdeal.Run
public import proofs.«01_k».proof.Proof.Gen.MixoutDwRefIdeal.Read
public import proofs.«01_k».proof.Proof.Blocked
public import Idealize.ShloMosaic.Lib.Pointwise
public import Idealize.ShloMosaic.Lib.Pipeline.ValueKit
public import Idealize.ShloMosaic.Lib.Tactic
public import Idealize.ShloMosaic.Lib.Quiescent

@[expose] public section

set_option maxRecDepth 16384
set_option maxHeartbeats 1000000

noncomputable section

namespace Cert.MixoutDwIdeal.Out

open Idealize.ShloMosaic Idealize.ShloMosaic.TcCoe Idealize.SL.Sem
open Cert.MixoutDwIdeal Cert.MixoutDwIdeal.Gen Cert.MixoutDwIdeal.Value Cert.Blocked

variable (m : (ℓ : Loc nD τ sig) → Buf (Elt Ideal) ℓ) (c : Dev nD)

theorem at_0 (t : Fin cfg0.N) : win0_0.index t = ![t.val % 8, 0] := by revert t; decide +kernel
theorem at_1 (t : Fin cfg0.N) : win0_1.index t = ![t.val % 8, t.val / 8] := by revert t; decide +kernel

/-- The two factors: the positions by features, and the positions by the cotangent's columns. -/
def lhs : (⟨2, ![4096, 1024]⟩ : Shape).Idx → EReal := m ((c.tc : Thread nD τ).loc main_arg0)
def rhs : (⟨2, ![4096, 1024]⟩ : Shape).Idx → EReal := m ((c.tc : Thread nD τ).loc main_arg1)

/-- Column `y` of block `j`. -/
def col (j : ℕ) (hj : j < 2) (y : Fin 512) : Fin 1024 := ⟨512 * j + y.val, by omega⟩

/-- A point's blocks of the two factors. -/
def lblk (t : Fin cfg0.N) : (⟨2, ![512, 1024]⟩ : Shape).Idx → EReal := iblk m c 0 t
def rblk (t : Fin cfg0.N) : (⟨2, ![512, 512]⟩ : Shape).Idx → EReal := iblk m c 1 t

theorem lhs_at (t : Fin cfg0.N) (r : Fin 512) (k : Fin 1024) :
    lblk m c t (ix2 r k) = lhs m c (ix2 (⟨512 * (t.val % 8) + r.val, by omega⟩ : Fin 4096) k) := by
  unfold lblk lhs
  blk_point [iblk, V, at_0 t]

theorem rhs_at (t : Fin cfg0.N) (ht : t.val / 8 < 2) (r : Fin 512) (y : Fin 512) :
    rblk m c t (ix2 r y) = rhs m c (ix2 (⟨512 * (t.val % 8) + r.val, by omega⟩ : Fin 4096) (col (t.val / 8) ht y)) := by
  unfold rblk rhs
  blk_point [iblk, V, at_1 t]
  show _ = 512 * (t.val / 8) + y.val
  omega

theorem pay_at (acc : Vec Ideal S1024x512 .f32) (a : Vec Ideal S512x1024 .bf16) (b : Vec Ideal S512x512 .bf16) (k : Fin 1024) (y : Fin 512) :
    k0_pay2 acc a b (ix2 k y) = acc (ix2 k y) + ∑ r : Fin 512, a (ix2 r k) * b (ix2 r y) := by
  pointwise [k0_pay2]

theorem zero_at (k : Fin 1024) (y : Fin 512) : k0_pay1 (F := Ideal) (ix2 k y) = 0 := by
  pointwise [k0_pay1]

/-- The terms of entry `(k, y)` of column block `j`. -/
def term (j : ℕ) (hj : j < 2) (k : Fin 1024) (y : Fin 512) (i : Fin 4096) : EReal :=
  lhs m c (ix2 i k) * rhs m c (ix2 i (col j hj y))

/-- The products of a point's two blocks are the terms of its tile. -/
theorem prod_at (t : Fin cfg0.N) (ht : t.val / 8 < 2) (k : Fin 1024) (y : Fin 512) (r : Fin 512) :
    ∃ p : 512 * (t.val % 8) + r.val < 4096,
      lblk m c t (ix2 r k) * rblk m c t (ix2 r y) = term m c (t.val / 8) ht k y ⟨512 * (t.val % 8) + r.val, p⟩ :=
  ⟨by omega, by rw [lhs_at, rhs_at m c t ht]; rfl⟩

theorem ld_scratch (d : Vec Ideal S1024x512 .f32) :
    View.read (Elt Ideal) (View.whole cc0_scratch0) ((Memref.isWhole_whole cc0_scratch0).unread d) = d :=
  (Memref.isWhole_whole cc0_scratch0).read_unread d

/-- What the scratch holds after a point: the sum over the tiles of its column block so far. -/
theorem acc_at (k : Fin 1024) (y : Fin 512) : ∀ (n : ℕ) (hn : n < cfg0.N) (j : ℕ) (hj : j < 2), n / 8 = j →
    (outsAt0 m c n hn).2 (ix2 k y) = part (term m c j hj k y) 512 (n % 8 + 1) := by
  have first : ∀ (t : Fin cfg0.N) (h : t.val % 8 = 0) (ht : t.val / 8 < 2),
      (outsAt0 m c t.val t.isLt).2 (ix2 k y) = part (term m c (t.val / 8) ht k y) 512 (t.val % 8 + 1) := by
    intro t h ht
    rw [outsAt0_A m c t h (by omega)]
    dsimp only
    frame_out
    rw [pay_at, zero_at]
    refine Eq.trans ?_ (part_succ _ _ _ _ (prod_at m c t ht k y)).symm
    rw [h, part_zero]; rfl
  intro n
  induction n with
  | zero =>
    rintro hn j hj rfl
    exact first ⟨0, hn⟩ rfl hj
  | succ n ih =>
    rintro hn j hj rfl
    have step := prod_at m c ⟨n + 1, hn⟩ hj k y
    have before : ∀ h : ¬ (n + 1) % 8 = 0, (outsAt0 m c n (Nat.lt_of_succ_lt hn)).2 (ix2 k y)
        = part (term m c ((n + 1) / 8) hj k y) 512 ((n + 1) % 8) := fun h =>
      (ih (Nat.lt_of_succ_lt hn) ((n + 1) / 8) hj (by omega)).trans (congrArg _ (by omega))
    by_cases h : (n + 1) % 8 = 0
    · exact first ⟨n + 1, hn⟩ h hj
    · by_cases h1 : (n + 1) % 8 = 7
      · rw [outsAt0_C m c ⟨n + 1, hn⟩ h h1]
        dsimp only
        frame_out
        rw [pay_at]
        refine Eq.trans ?_ (part_succ _ _ _ _ step).symm
        exact congrArg₂ (· + ·) ((congrFun (ld_scratch _) _).trans (before h)) rfl
      · rw [outsAt0_B m c ⟨n + 1, hn⟩ h h1]
        dsimp only
        frame_out
        rw [pay_at]
        refine Eq.trans ?_ (part_succ _ _ _ _ step).symm
        exact congrArg₂ (· + ·) ((congrFun (ld_scratch _) _).trans (before h)) rfl

theorem at_2 (t : Fin cfg0.N) : win0_2.index t = ![0, 0, 0, t.val / 8] := by revert t; decide +kernel

theorem zeros : (![0, 0] : Fin 2 → Nat) = fun _ => 0 := funext fun a => by fin_cases a <;> rfl

/-- The stored block is the scratch, its rows cut into the shares' halves. -/
theorem out_at (t : Fin cfg0.N) (h0 : ¬ t.val % 8 = 0) (h1 : t.val % 8 = 7) (h : Fin 2) (s : Fin 4) (r : Fin 128) (y : Fin 512) :
    (outsAt0 m c t.val t.isLt).1 (ix4 h s r y) = (outsAt0 m c t.val t.isLt).2 (ix2 (⟨128 * (2 * s.val + h.val) + r.val, by omega⟩ : Fin 1024) y) := by
  rw [outsAt0_C m c t h0 h1]
  dsimp only
  frame_out
  simp only [View.readCov_eq_canon']
  generalize k0_pay2 (F := Ideal) _ _ _ = v
  canon_tiles x hx
  all_goals
    have e0 : h.val = _ := hx0
    have e1 : s.val = _ := hx1
    have e2 : r.val = (x 2).val := hx2
    have e3 : y.val = (x 3).val := hx3
    rw [eq_ix4 x]
    pointwise [k0_pay3, k0_pay4, k0_pay5, k0_pay6, k0_pay7, k0_pay8, k0_pay9, k0_pay10]
    refine (congrFun (View.canon_unit_zero (S := S1024x512) zeros _ _) _).trans (congrArg v (ix2_of ?_ ?_))
    · dsimp only; omega
    · omega

/-- The array's block is what the last point of its eight leaves. -/
theorem arr2 (j : ℕ) (hj : j < 2) (h : Fin 2) (s : Fin 4) (r : Fin 128) (y : Fin 512) :
    (dats m 0 c).arrAt 2 cfg0.N (ix4 h s r (col j hj y)) = (outsAt0 m c (8 * j + 7) (lt_of_lt_of_eq (by omega) N_0.symm)).1 (ix4 h s r y) := by
  have h8 : 8 * j + 7 < cfg0.N := lt_of_lt_of_eq (by omega) N_0.symm
  have hf : (cfg0.win 2).flush (⟨8 * j + 7, h8⟩ : Fin cfg0.N) = true := (flush0_2 _).mpr (by show (8 * j + 7) % 8 = 7; omega)
  have hb := congrFun (flushed2_eq m c ⟨8 * j + 7, h8⟩ hf) (ix4 h s r y)
  rw [flushed2, ← final2] at hb
  refine (Eq.trans ?_ hb.symm).trans ?_
  · blk_ext! [at_2 ⟨8 * j + 7, h8⟩]
    show 512 * j + y.val = _
    omega
  · rfl

/-- Every entry of the kernel's result is the whole sum over the positions. -/
theorem res (j : ℕ) (hj : j < 2) (h : Fin 2) (s : Fin 4) (r : Fin 128) (y : Fin 512) : (dats m 0 c).arrAt 2 cfg0.N (ix4 h s r (col j hj y))
    = ∑ i : Fin 4096, lhs m c (ix2 i (⟨128 * (2 * s.val + h.val) + r.val, by omega⟩ : Fin 1024)) * rhs m c (ix2 i (col j hj y)) := by
  have e2 : (8 * j + 7) % 8 + 1 = 8 := by omega
  have h8 : 8 * j + 7 < cfg0.N := lt_of_lt_of_eq (by omega) N_0.symm
  rw [arr2 m c j hj, out_at m c ⟨8 * j + 7, h8⟩ (by show ¬ (8 * j + 7) % 8 = 0; omega) (by show (8 * j + 7) % 8 = 7; omega),
    acc_at m c _ y _ _ j hj (by show (8 * j + 7) / 8 = j; omega), e2]
  exact part_all _ _ _ rfl

/-- Every entry of the plain product, laid out in shares and halves. -/
theorem ref_at (a : (⟨S4096x1024, .bf16⟩ : BufTy).Contents (Elt Ideal)) (b : (⟨S4096x1024, .bf16⟩ : BufTy).Contents (Elt Ideal))
    (j : ℕ) (hj : j < 2) (h : Fin 2) (s : Fin 4) (r : Fin 128) (y : Fin 512) :
    Cert.MixoutDwRefIdeal.Read.val_main_v5 (F := Ideal) a b (ix4 h s r (col j hj y))
      = ∑ i : Fin 4096, a (ix2 i (⟨128 * (2 * s.val + h.val) + r.val, by omega⟩ : Fin 1024)) * b (ix2 i (col j hj y)) := by
  pointwise [Cert.MixoutDwRefIdeal.Read.val_main_v5, Cert.MixoutDwRefIdeal.Read.val_main_v4, Cert.MixoutDwRefIdeal.Read.val_main_v3, Cert.MixoutDwRefIdeal.Read.val_main_v2, Cert.MixoutDwRefIdeal.Read.val_main_v1, Cert.MixoutDwRefIdeal.Read.val_main_v0]
  refine Finset.sum_congr rfl fun i _ => congrArg₂ (· * ·) (congrArg a (ix2_of rfl ?_)) rfl
  dsimp only; omega

end Cert.MixoutDwIdeal.Out

namespace Cert.Proof

open Idealize.ShloMosaic Idealize.ShloMosaic.TcCoe Idealize.SL.Sem

theorem frame_mixoutDwRef : Cert.quiescent_MixoutDwRefIdeal := fun m ρ _ =>
  (θ_run Cert.MixoutDwRefIdeal.defs _ _).mono
    (fun _ h => ⟨fun c => (h c).2, sem_eq_zero_of_no_sems (by decide) _⟩) (Cert.MixoutDwRefIdeal.Value.run (F := Ideal) m ρ)

theorem algebraic_mixoutDw : Cert.algebraic_MixoutDwIdeal_MixoutDwRefIdeal := by
  intro m ρ m' ρ' _ hargs
  refine ⟨_, Cert.MixoutDwIdeal.Value.run_blocks (F := Ideal) m ρ,
    (θ_run Cert.MixoutDwRefIdeal.defs _ _).mono (fun r H c => ?_) (Cert.MixoutDwRefIdeal.Value.run (F := Ideal) m' ρ')⟩
  obtain ⟨h0, hk⟩ := H c
  obtain ⟨e0, e1⟩ := hargs c
  refine ⟨h0.trans (funext fun i => ?_), hk⟩
  have hi : (i 3).val < 1024 := (i 3).isLt
  obtain ⟨j, hj, y, hy⟩ : ∃ j hj y, i 3 = Cert.MixoutDwIdeal.Out.col j hj y :=
    ⟨(i 3).val / 512, by omega, ⟨(i 3).val % 512, by omega⟩, Fin.ext (by show (i 3).val = 512 * ((i 3).val / 512) + (i 3).val % 512; omega)⟩
  rw [e0, e1, eq_ix4 i, hy]
  exact (Cert.MixoutDwIdeal.Out.ref_at _ _ j hj (i 0) (i 1) (i 2) y).trans (Cert.MixoutDwIdeal.Out.res m c j hj (i 0) (i 1) (i 2) y).symm

end Cert.Proof

end
-- ==== Proof.DwFfnin.lean ====
/-
  The gradient of the feed-forward's first weight: the kernel adds up eight tiles of 512 positions for each block of columns, which is the
  product of the whole arrays.
-/
module

public import proofs.«01_k».proof.Defs
public import proofs.«01_k».proof.Proof.Gen.FfninDwIdeal.Value
public import proofs.«01_k».proof.Proof.Gen.FfninDwRefIdeal.Run
public import proofs.«01_k».proof.Proof.Gen.FfninDwRefIdeal.Read
public import proofs.«01_k».proof.Proof.Blocked
public import Idealize.ShloMosaic.Lib.Pointwise
public import Idealize.ShloMosaic.Lib.Pipeline.ValueKit
public import Idealize.ShloMosaic.Lib.Tactic
public import Idealize.ShloMosaic.Lib.Quiescent

@[expose] public section

set_option maxRecDepth 16384
set_option maxHeartbeats 1000000

noncomputable section

namespace Cert.FfninDwIdeal.Out

open Idealize.ShloMosaic Idealize.ShloMosaic.TcCoe Idealize.SL.Sem
open Cert.FfninDwIdeal Cert.FfninDwIdeal.Gen Cert.FfninDwIdeal.Value Cert.Blocked

variable (m : (ℓ : Loc nD τ sig) → Buf (Elt Ideal) ℓ) (c : Dev nD)

theorem at_0 (t : Fin cfg0.N) : win0_0.index t = ![t.val % 8, 0] := by revert t; decide +kernel
theorem at_1 (t : Fin cfg0.N) : win0_1.index t = ![t.val % 8, t.val / 8] := by revert t; decide +kernel

/-- The two factors: the positions by features, and the positions by the cotangent's columns. -/
def lhs : (⟨2, ![4096, 1024]⟩ : Shape).Idx → EReal := m ((c.tc : Thread nD τ).loc main_arg0)
def rhs : (⟨2, ![4096, 5632]⟩ : Shape).Idx → EReal := m ((c.tc : Thread nD τ).loc main_arg1)

/-- Column `y` of block `j`. -/
def col (j : ℕ) (hj : j < 4) (y : Fin 1408) : Fin 5632 := ⟨1408 * j + y.val, by omega⟩

/-- A point's blocks of the two factors. -/
def lblk (t : Fin cfg0.N) : (⟨2, ![512, 1024]⟩ : Shape).Idx → EReal := iblk m c 0 t
def rblk (t : Fin cfg0.N) : (⟨2, ![512, 1408]⟩ : Shape).Idx → EReal := iblk m c 1 t

theorem lhs_at (t : Fin cfg0.N) (r : Fin 512) (k : Fin 1024) :
    lblk m c t (ix2 r k) = lhs m c (ix2 (⟨512 * (t.val % 8) + r.val, by omega⟩ : Fin 4096) k) := by
  unfold lblk lhs
  blk_point [iblk, V, at_0 t]

theorem rhs_at (t : Fin cfg0.N) (ht : t.val / 8 < 4) (r : Fin 512) (y : Fin 1408) :
    rblk m c t (ix2 r y) = rhs m c (ix2 (⟨512 * (t.val % 8) + r.val, by omega⟩ : Fin 4096) (col (t.val / 8) ht y)) := by
  unfold rblk rhs
  blk_point [iblk, V, at_1 t]
  show _ = 1408 * (t.val / 8) + y.val
  omega

theorem pay_at (acc : Vec Ideal S1024x1408 .f32) (a : Vec Ideal S512x1024 .bf16) (b : Vec Ideal S512x1408 .bf16) (k : Fin 1024) (y : Fin 1408) :
    k0_pay2 acc a b (ix2 k y) = acc (ix2 k y) + ∑ r : Fin 512, a (ix2 r k) * b (ix2 r y) := by
  pointwise [k0_pay2]

theorem zero_at (k : Fin 1024) (y : Fin 1408) : k0_pay1 (F := Ideal) (ix2 k y) = 0 := by
  pointwise [k0_pay1]

/-- The terms of entry `(k, y)` of column block `j`. -/
def term (j : ℕ) (hj : j < 4) (k : Fin 1024) (y : Fin 1408) (i : Fin 4096) : EReal :=
  lhs m c (ix2 i k) * rhs m c (ix2 i (col j hj y))

/-- The products of a point's two blocks are the terms of its tile. -/
theorem prod_at (t : Fin cfg0.N) (ht : t.val / 8 < 4) (k : Fin 1024) (y : Fin 1408) (r : Fin 512) :
    ∃ p : 512 * (t.val % 8) + r.val < 4096,
      lblk m c t (ix2 r k) * rblk m c t (ix2 r y) = term m c (t.val / 8) ht k y ⟨512 * (t.val % 8) + r.val, p⟩ :=
  ⟨by omega, by rw [lhs_at, rhs_at m c t ht]; rfl⟩

theorem ld_scratch (d : Vec Ideal S1024x1408 .f32) :
    View.read (Elt Ideal) (View.whole cc0_scratch0) ((Memref.isWhole_whole cc0_scratch0).unread d) = d :=
  (Memref.isWhole_whole cc0_scratch0).read_unread d

/-- What the scratch holds after a point: the sum over the tiles of its column block so far. -/
theorem acc_at (k : Fin 1024) (y : Fin 1408) : ∀ (n : ℕ) (hn : n < cfg0.N) (j : ℕ) (hj : j < 4), n / 8 = j →
    (outsAt0 m c n hn).2 (ix2 k y) = part (term m c j hj k y) 512 (n % 8 + 1) := by
  have first : ∀ (t : Fin cfg0.N) (h : t.val % 8 = 0) (ht : t.val / 8 < 4),
      (outsAt0 m c t.val t.isLt).2 (ix2 k y) = part (term m c (t.val / 8) ht k y) 512 (t.val % 8 + 1) := by
    intro t h ht
    rw [outsAt0_A m c t h (by omega)]
    dsimp only
    frame_out
    rw [pay_at, zero_at]
    refine Eq.trans ?_ (part_succ _ _ _ _ (prod_at m c t ht k y)).symm
    rw [h, part_zero]; rfl
  intro n
  induction n with
  | zero =>
    rintro hn j hj rfl
    exact first ⟨0, hn⟩ rfl hj
  | succ n ih =>
    rintro hn j hj rfl
    have step := prod_at m c ⟨n + 1, hn⟩ hj k y
    have before : ∀ h : ¬ (n + 1) % 8 = 0, (outsAt0 m c n (Nat.lt_of_succ_lt hn)).2 (ix2 k y)
        = part (term m c ((n + 1) / 8) hj k y) 512 ((n + 1) % 8) := fun h =>
      (ih (Nat.lt_of_succ_lt hn) ((n + 1) / 8) hj (by omega)).trans (congrArg _ (by omega))
    by_cases h : (n + 1) % 8 = 0
    · exact first ⟨n + 1, hn⟩ h hj
    · by_cases h1 : (n + 1) % 8 = 7
      · rw [outsAt0_C m c ⟨n + 1, hn⟩ h h1]
        dsimp only
        frame_out
        rw [pay_at]
        refine Eq.trans ?_ (part_succ _ _ _ _ step).symm
        exact congrArg₂ (· + ·) ((congrFun (ld_scratch _) _).trans (before h)) rfl
      · rw [outsAt0_B m c ⟨n + 1, hn⟩ h h1]
        dsimp only
        frame_out
        rw [pay_at]
        refine Eq.trans ?_ (part_succ _ _ _ _ step).symm
        exact congrArg₂ (· + ·) ((congrFun (ld_scratch _) _).trans (before h)) rfl

theorem at_2 (t : Fin cfg0.N) : win0_2.index t = ![0, t.val / 8, 0, 0] := by revert t; decide +kernel

theorem zeros : (![0, 0] : Fin 2 → Nat) = fun _ => 0 := funext fun a => by fin_cases a <;> rfl

/-- The stored block is the scratch, its rows cut into the shares' halves. -/
theorem out_at (t : Fin cfg0.N) (h0 : ¬ t.val % 8 = 0) (h1 : t.val % 8 = 7) (h : Fin 2) (r : Fin 512) (y : Fin 1408) :
    (outsAt0 m c t.val t.isLt).1 (ix4 h (0 : Fin 1) r y) = (outsAt0 m c t.val t.isLt).2 (ix2 (⟨512 * h.val + r.val, by omega⟩ : Fin 1024) y) := by
  rw [outsAt0_C m c t h0 h1]
  dsimp only
  frame_out
  simp only [View.readCov_eq_canon']
  generalize k0_pay2 (F := Ideal) _ _ _ = v
  canon_tiles x hx
  all_goals
    have e0 : h.val = _ := hx0
    have e2 : r.val = (x 2).val := hx2
    have e3 : y.val = (x 3).val := hx3
    rw [eq_ix4 x]
    pointwise [k0_pay3, k0_pay4]
    refine (congrFun (View.canon_unit_zero (S := S1024x1408) zeros _ _) _).trans (congrArg v (ix2_of ?_ ?_))
    · dsimp only; omega
    · omega

/-- The array's block is what the last point of its eight leaves. -/
theorem arr2 (j : ℕ) (hj : j < 4) (h : Fin 2) (r : Fin 512) (y : Fin 1408) :
    (dats m 0 c).arrAt 2 cfg0.N (ix4 h (⟨j, hj⟩ : Fin 4) r y) = (outsAt0 m c (8 * j + 7) (lt_of_lt_of_eq (by omega) N_0.symm)).1 (ix4 h (0 : Fin 1) r y) := by
  have h8 : 8 * j + 7 < cfg0.N := lt_of_lt_of_eq (by omega) N_0.symm
  have hf : (cfg0.win 2).flush (⟨8 * j + 7, h8⟩ : Fin cfg0.N) = true := (flush0_2 _).mpr (by show (8 * j + 7) % 8 = 7; omega)
  have hb := congrFun (flushed2_eq m c ⟨8 * j + 7, h8⟩ hf) (ix4 h (0 : Fin 1) r y)
  rw [flushed2, ← final2] at hb
  refine (Eq.trans ?_ hb.symm).trans ?_
  · blk_ext! [at_2 ⟨8 * j + 7, h8⟩]
  · rfl

/-- Every entry of the kernel's result is the whole sum over the positions. -/
theorem res (j : ℕ) (hj : j < 4) (h : Fin 2) (r : Fin 512) (y : Fin 1408) : (dats m 0 c).arrAt 2 cfg0.N (ix4 h (⟨j, hj⟩ : Fin 4) r y)
    = ∑ i : Fin 4096, lhs m c (ix2 i (⟨512 * h.val + r.val, by omega⟩ : Fin 1024)) * rhs m c (ix2 i (col j hj y)) := by
  have e2 : (8 * j + 7) % 8 + 1 = 8 := by omega
  have h8 : 8 * j + 7 < cfg0.N := lt_of_lt_of_eq (by omega) N_0.symm
  rw [arr2 m c j hj, out_at m c ⟨8 * j + 7, h8⟩ (by show ¬ (8 * j + 7) % 8 = 0; omega) (by show (8 * j + 7) % 8 = 7; omega),
    acc_at m c _ y _ _ j hj (by show (8 * j + 7) / 8 = j; omega), e2]
  exact part_all _ _ _ rfl

/-- Every entry of the plain product, laid out in shares and halves. -/
theorem ref_at (a : (⟨S4096x1024, .bf16⟩ : BufTy).Contents (Elt Ideal)) (b : (⟨S4096x5632, .bf16⟩ : BufTy).Contents (Elt Ideal))
    (j : ℕ) (hj : j < 4) (h : Fin 2) (r : Fin 512) (y : Fin 1408) :
    Cert.FfninDwRefIdeal.Read.val_main_v5 (F := Ideal) a b (ix4 h (⟨j, hj⟩ : Fin 4) r y)
      = ∑ i : Fin 4096, a (ix2 i (⟨512 * h.val + r.val, by omega⟩ : Fin 1024)) * b (ix2 i (col j hj y)) := by
  pointwise [Cert.FfninDwRefIdeal.Read.val_main_v5, Cert.FfninDwRefIdeal.Read.val_main_v4, Cert.FfninDwRefIdeal.Read.val_main_v3, Cert.FfninDwRefIdeal.Read.val_main_v2, Cert.FfninDwRefIdeal.Read.val_main_v1, Cert.FfninDwRefIdeal.Read.val_main_v0]
  refine Finset.sum_congr rfl fun i _ => congrArg₂ (· * ·) (congrArg a (ix2_of rfl ?_)) (congrArg b (ix2_of rfl ?_))
  · dsimp only; omega
  · show j * 1408 + y.val = 1408 * j + y.val
    omega

end Cert.FfninDwIdeal.Out

namespace Cert.Proof

open Idealize.ShloMosaic Idealize.ShloMosaic.TcCoe Idealize.SL.Sem

theorem frame_ffninDwRef : Cert.quiescent_FfninDwRefIdeal := fun m ρ _ =>
  (θ_run Cert.FfninDwRefIdeal.defs _ _).mono
    (fun _ h => ⟨fun c => (h c).2, sem_eq_zero_of_no_sems (by decide) _⟩) (Cert.FfninDwRefIdeal.Value.run (F := Ideal) m ρ)

theorem algebraic_ffninDw : Cert.algebraic_FfninDwIdeal_FfninDwRefIdeal := by
  intro m ρ m' ρ' _ hargs
  refine ⟨_, Cert.FfninDwIdeal.Value.run_blocks (F := Ideal) m ρ,
    (θ_run Cert.FfninDwRefIdeal.defs _ _).mono (fun r H c => ?_) (Cert.FfninDwRefIdeal.Value.run (F := Ideal) m' ρ')⟩
  obtain ⟨h0, hk⟩ := H c
  obtain ⟨e0, e1⟩ := hargs c
  refine ⟨h0.trans (funext fun i => ?_), hk⟩
  rw [e0, e1, eq_ix4 i]
  have hj : (i 1).val < 4 := (i 1).isLt
  exact (Cert.FfninDwIdeal.Out.ref_at _ _ (i 1).val hj (i 0) (i 2) (i 3)).trans (Cert.FfninDwIdeal.Out.res m c (i 1).val hj (i 0) (i 2) (i 3)).symm

end Cert.Proof

end
-- ==== Proof.DwFfnout.lean ====
/-
  The gradient of the feed-forward's second weight: the kernel adds up eight tiles of 512 positions for each block of columns, which is the
  product of the whole arrays.
-/
module

public import proofs.«01_k».proof.Defs
public import proofs.«01_k».proof.Proof.Gen.FfnoutDwIdeal.Value
public import proofs.«01_k».proof.Proof.Gen.FfnoutDwRefIdeal.Run
public import proofs.«01_k».proof.Proof.Gen.FfnoutDwRefIdeal.Read
public import proofs.«01_k».proof.Proof.Blocked
public import Idealize.ShloMosaic.Lib.Pointwise
public import Idealize.ShloMosaic.Lib.Pipeline.ValueKit
public import Idealize.ShloMosaic.Lib.Tactic
public import Idealize.ShloMosaic.Lib.Quiescent

@[expose] public section

set_option maxRecDepth 16384
set_option maxHeartbeats 1000000

noncomputable section

namespace Cert.FfnoutDwIdeal.Out

open Idealize.ShloMosaic Idealize.ShloMosaic.TcCoe Idealize.SL.Sem
open Cert.FfnoutDwIdeal Cert.FfnoutDwIdeal.Gen Cert.FfnoutDwIdeal.Value Cert.Blocked

variable (m : (ℓ : Loc nD τ sig) → Buf (Elt Ideal) ℓ) (c : Dev nD)

theorem at_0 (t : Fin cfg0.N) : win0_0.index t = ![t.val % 8, 0] := by revert t; decide +kernel
theorem at_1 (t : Fin cfg0.N) : win0_1.index t = ![t.val % 8, t.val / 8] := by revert t; decide +kernel

/-- The two factors: the positions by features, and the positions by the cotangent's columns. -/
def lhs : (⟨2, ![4096, 2816]⟩ : Shape).Idx → EReal := m ((c.tc : Thread nD τ).loc main_arg0)
def rhs : (⟨2, ![4096, 1024]⟩ : Shape).Idx → EReal := m ((c.tc : Thread nD τ).loc main_arg1)

/-- Column `y` of block `j`. -/
def col (j : ℕ) (hj : j < 2) (y : Fin 512) : Fin 1024 := ⟨512 * j + y.val, by omega⟩

/-- A point's blocks of the two factors. -/
def lblk (t : Fin cfg0.N) : (⟨2, ![512, 2816]⟩ : Shape).Idx → EReal := iblk m c 0 t
def rblk (t : Fin cfg0.N) : (⟨2, ![512, 512]⟩ : Shape).Idx → EReal := iblk m c 1 t

theorem lhs_at (t : Fin cfg0.N) (r : Fin 512) (k : Fin 2816) :
    lblk m c t (ix2 r k) = lhs m c (ix2 (⟨512 * (t.val % 8) + r.val, by omega⟩ : Fin 4096) k) := by
  unfold lblk lhs
  blk_point [iblk, V, at_0 t]

theorem rhs_at (t : Fin cfg0.N) (ht : t.val / 8 < 2) (r : Fin 512) (y : Fin 512) :
    rblk m c t (ix2 r y) = rhs m c (ix2 (⟨512 * (t.val % 8) + r.val, by omega⟩ : Fin 4096) (col (t.val / 8) ht y)) := by
  unfold rblk rhs
  blk_point [iblk, V, at_1 t]
  show _ = 512 * (t.val / 8) + y.val
  omega

theorem pay_at (acc : Vec Ideal S2816x512 .f32) (a : Vec Ideal S512x2816 .bf16) (b : Vec Ideal S512x512 .bf16) (k : Fin 2816) (y : Fin 512) :
    k0_pay2 acc a b (ix2 k y) = acc (ix2 k y) + ∑ r : Fin 512, a (ix2 r k) * b (ix2 r y) := by
  pointwise [k0_pay2]

theorem zero_at (k : Fin 2816) (y : Fin 512) : k0_pay1 (F := Ideal) (ix2 k y) = 0 := by
  pointwise [k0_pay1]

/-- The terms of entry `(k, y)` of column block `j`. -/
def term (j : ℕ) (hj : j < 2) (k : Fin 2816) (y : Fin 512) (i : Fin 4096) : EReal :=
  lhs m c (ix2 i k) * rhs m c (ix2 i (col j hj y))

/-- The products of a point's two blocks are the terms of its tile. -/
theorem prod_at (t : Fin cfg0.N) (ht : t.val / 8 < 2) (k : Fin 2816) (y : Fin 512) (r : Fin 512) :
    ∃ p : 512 * (t.val % 8) + r.val < 4096,
      lblk m c t (ix2 r k) * rblk m c t (ix2 r y) = term m c (t.val / 8) ht k y ⟨512 * (t.val % 8) + r.val, p⟩ :=
  ⟨by omega, by rw [lhs_at, rhs_at m c t ht]; rfl⟩

theorem ld_scratch (d : Vec Ideal S2816x512 .f32) :
    View.read (Elt Ideal) (View.whole cc0_scratch0) ((Memref.isWhole_whole cc0_scratch0).unread d) = d :=
  (Memref.isWhole_whole cc0_scratch0).read_unread d

/-- What the scratch holds after a point: the sum over the tiles of its column block so far. -/
theorem acc_at (k : Fin 2816) (y : Fin 512) : ∀ (n : ℕ) (hn : n < cfg0.N) (j : ℕ) (hj : j < 2), n / 8 = j →
    (outsAt0 m c n hn).2 (ix2 k y) = part (term m c j hj k y) 512 (n % 8 + 1) := by
  have first : ∀ (t : Fin cfg0.N) (h : t.val % 8 = 0) (ht : t.val / 8 < 2),
      (outsAt0 m c t.val t.isLt).2 (ix2 k y) = part (term m c (t.val / 8) ht k y) 512 (t.val % 8 + 1) := by
    intro t h ht
    rw [outsAt0_A m c t h (by omega)]
    dsimp only
    frame_out
    rw [pay_at, zero_at]
    refine Eq.trans ?_ (part_succ _ _ _ _ (prod_at m c t ht k y)).symm
    rw [h, part_zero]; rfl
  intro n
  induction n with
  | zero =>
    rintro hn j hj rfl
    exact first ⟨0, hn⟩ rfl hj
  | succ n ih =>
    rintro hn j hj rfl
    have step := prod_at m c ⟨n + 1, hn⟩ hj k y
    have before : ∀ h : ¬ (n + 1) % 8 = 0, (outsAt0 m c n (Nat.lt_of_succ_lt hn)).2 (ix2 k y)
        = part (term m c ((n + 1) / 8) hj k y) 512 ((n + 1) % 8) := fun h =>
      (ih (Nat.lt_of_succ_lt hn) ((n + 1) / 8) hj (by omega)).trans (congrArg _ (by omega))
    by_cases h : (n + 1) % 8 = 0
    · exact first ⟨n + 1, hn⟩ h hj
    · by_cases h1 : (n + 1) % 8 = 7
      · rw [outsAt0_C m c ⟨n + 1, hn⟩ h h1]
        dsimp only
        frame_out
        rw [pay_at]
        refine Eq.trans ?_ (part_succ _ _ _ _ step).symm
        exact congrArg₂ (· + ·) ((congrFun (ld_scratch _) _).trans (before h)) rfl
      · rw [outsAt0_B m c ⟨n + 1, hn⟩ h h1]
        dsimp only
        frame_out
        rw [pay_at]
        refine Eq.trans ?_ (part_succ _ _ _ _ step).symm
        exact congrArg₂ (· + ·) ((congrFun (ld_scratch _) _).trans (before h)) rfl

theorem at_2 (t : Fin cfg0.N) : win0_2.index t = ![0, 0, 0, t.val / 8] := by revert t; decide +kernel

theorem zeros : (![0, 0] : Fin 2 → Nat) = fun _ => 0 := funext fun a => by fin_cases a <;> rfl

/-- The stored block is the scratch, its rows cut into the shares' halves. -/
theorem out_at (t : Fin cfg0.N) (h0 : ¬ t.val % 8 = 0) (h1 : t.val % 8 = 7) (h : Fin 2) (s : Fin 4) (r : Fin 352) (y : Fin 512) :
    (outsAt0 m c t.val t.isLt).1 (ix4 h s r y) = (outsAt0 m c t.val t.isLt).2 (ix2 (⟨352 * (2 * s.val + h.val) + r.val, by omega⟩ : Fin 2816) y) := by
  rw [outsAt0_C m c t h0 h1]
  dsimp only
  frame_out
  simp only [View.readCov_eq_canon']
  generalize k0_pay2 (F := Ideal) _ _ _ = v
  canon_tiles x hx
  all_goals
    have e0 : h.val = _ := hx0
    have e1 : s.val = _ := hx1
    have e2 : r.val = (x 2).val := hx2
    have e3 : y.val = (x 3).val := hx3
    rw [eq_ix4 x]
    pointwise [k0_pay3, k0_pay4, k0_pay5, k0_pay6, k0_pay7, k0_pay8, k0_pay9, k0_pay10]
    refine (congrFun (View.canon_unit_zero (S := S2816x512) zeros _ _) _).trans (congrArg v (ix2_of ?_ ?_))
    · dsimp only; omega
    · omega

/-- The array's block is what the last point of its eight leaves. -/
theorem arr2 (j : ℕ) (hj : j < 2) (h : Fin 2) (s : Fin 4) (r : Fin 352) (y : Fin 512) :
    (dats m 0 c).arrAt 2 cfg0.N (ix4 h s r (col j hj y)) = (outsAt0 m c (8 * j + 7) (lt_of_lt_of_eq (by omega) N_0.symm)).1 (ix4 h s r y) := by
  have h8 : 8 * j + 7 < cfg0.N := lt_of_lt_of_eq (by omega) N_0.symm
  have hf : (cfg0.win 2).flush (⟨8 * j + 7, h8⟩ : Fin cfg0.N) = true := (flush0_2 _).mpr (by show (8 * j + 7) % 8 = 7; omega)
  have hb := congrFun (flushed2_eq m c ⟨8 * j + 7, h8⟩ hf) (ix4 h s r y)
  rw [flushed2, ← final2] at hb
  refine (Eq.trans ?_ hb.symm).trans ?_
  · blk_ext! [at_2 ⟨8 * j + 7, h8⟩]
    show 512 * j + y.val = _
    omega
  · rfl

/-- Every entry of the kernel's result is the whole sum over the positions. -/
theorem res (j : ℕ) (hj : j < 2) (h : Fin 2) (s : Fin 4) (r : Fin 352) (y : Fin 512) : (dats m 0 c).arrAt 2 cfg0.N (ix4 h s r (col j hj y))
    = ∑ i : Fin 4096, lhs m c (ix2 i (⟨352 * (2 * s.val + h.val) + r.val, by omega⟩ : Fin 2816)) * rhs m c (ix2 i (col j hj y)) := by
  have e2 : (8 * j + 7) % 8 + 1 = 8 := by omega
  have h8 : 8 * j + 7 < cfg0.N := lt_of_lt_of_eq (by omega) N_0.symm
  rw [arr2 m c j hj, out_at m c ⟨8 * j + 7, h8⟩ (by show ¬ (8 * j + 7) % 8 = 0; omega) (by show (8 * j + 7) % 8 = 7; omega),
    acc_at m c _ y _ _ j hj (by show (8 * j + 7) / 8 = j; omega), e2]
  exact part_all _ _ _ rfl

/-- Every entry of the plain product, laid out in shares and halves. -/
theorem ref_at (a : (⟨S4096x2816, .bf16⟩ : BufTy).Contents (Elt Ideal)) (b : (⟨S4096x1024, .bf16⟩ : BufTy).Contents (Elt Ideal))
    (j : ℕ) (hj : j < 2) (h : Fin 2) (s : Fin 4) (r : Fin 352) (y : Fin 512) :
    Cert.FfnoutDwRefIdeal.Read.val_main_v5 (F := Ideal) a b (ix4 h s r (col j hj y))
      = ∑ i : Fin 4096, a (ix2 i (⟨352 * (2 * s.val + h.val) + r.val, by omega⟩ : Fin 2816)) * b (ix2 i (col j hj y)) := by
  pointwise [Cert.FfnoutDwRefIdeal.Read.val_main_v5, Cert.FfnoutDwRefIdeal.Read.val_main_v4, Cert.FfnoutDwRefIdeal.Read.val_main_v3, Cert.FfnoutDwRefIdeal.Read.val_main_v2, Cert.FfnoutDwRefIdeal.Read.val_main_v1, Cert.FfnoutDwRefIdeal.Read.val_main_v0]
  refine Finset.sum_congr rfl fun i _ => congrArg₂ (· * ·) (congrArg a (ix2_of rfl ?_)) rfl
  dsimp only; omega

end Cert.FfnoutDwIdeal.Out

namespace Cert.Proof

open Idealize.ShloMosaic Idealize.ShloMosaic.TcCoe Idealize.SL.Sem

theorem frame_ffnoutDwRef : Cert.quiescent_FfnoutDwRefIdeal := fun m ρ _ =>
  (θ_run Cert.FfnoutDwRefIdeal.defs _ _).mono
    (fun _ h => ⟨fun c => (h c).2, sem_eq_zero_of_no_sems (by decide) _⟩) (Cert.FfnoutDwRefIdeal.Value.run (F := Ideal) m ρ)

theorem algebraic_ffnoutDw : Cert.algebraic_FfnoutDwIdeal_FfnoutDwRefIdeal := by
  intro m ρ m' ρ' _ hargs
  refine ⟨_, Cert.FfnoutDwIdeal.Value.run_blocks (F := Ideal) m ρ,
    (θ_run Cert.FfnoutDwRefIdeal.defs _ _).mono (fun r H c => ?_) (Cert.FfnoutDwRefIdeal.Value.run (F := Ideal) m' ρ')⟩
  obtain ⟨h0, hk⟩ := H c
  obtain ⟨e0, e1⟩ := hargs c
  refine ⟨h0.trans (funext fun i => ?_), hk⟩
  have hi : (i 3).val < 1024 := (i 3).isLt
  obtain ⟨j, hj, y, hy⟩ : ∃ j hj y, i 3 = Cert.FfnoutDwIdeal.Out.col j hj y :=
    ⟨(i 3).val / 512, by omega, ⟨(i 3).val % 512, by omega⟩, Fin.ext (by show (i 3).val = 512 * ((i 3).val / 512) + (i 3).val % 512; omega)⟩
  rw [e0, e1, eq_ix4 i, hy]
  exact (Cert.FfnoutDwIdeal.Out.ref_at _ _ j hj (i 0) (i 1) (i 2) y).trans (Cert.FfnoutDwIdeal.Out.res m c j hj (i 0) (i 1) (i 2) y).symm

end Cert.Proof

end
-- ==== Proof.NormGrad.lean ====
/-
  A scaled and shifted norm and its gradient, one position at a time: a row of cotangents, the row of the input, the gain and the scale.
-/
module

public import Idealize.ShloMosaic.PureOps.Ideal

@[expose] public section

noncomputable section

namespace Cert.NormGrad

open Idealize.ShloMosaic

/-- A position's features. -/
abbrev Row := Fin 1024 → EReal

/-- The mean square with the constant that keeps it from zero. -/
def square (x : Row) : EReal :=
  Ideal.div (∑ k, x k * x k) (Ideal.ofBits FTy.f32 1149239296#32) + Ideal.ofBits FTy.f32 897988541#32

/-- What the norm multiplies the row by. -/
def factor (x : Row) : EReal := Ideal.rsqrt (square x)

/-- The norm itself: the row scaled, then shifted. -/
def value (x g s h : Row) (d : Fin 1024) : EReal := x d * factor x * g d * (1 + s d) + h d

/-- The cotangent that goes back through the mean square. -/
def through (y x g s : Row) : EReal :=
  ∑ _ : Fin 1, Ideal.div ((∑ k, x k * (y k * (1 + s k) * g k))
    * (Ideal.ofBits FTy.f32 3204448256#32 * Ideal.div (factor x) (square x))) (Ideal.ofBits FTy.f32 1149239296#32)

/-- The input's cotangent, added to the one along the residual. -/
def input (r y x g s : Row) (d : Fin 1024) : EReal :=
  r d + (y d * (1 + s d) * g d * factor x + x d * through y x g s + through y x g s * x d)

/-- A position's part of the gain's, the scale's and the shift's cotangents. -/
def gain (y x s : Row) (d : Fin 1024) : EReal := x d * factor x * (y d * (1 + s d))
def scale (y x g : Row) (d : Fin 1024) : EReal := x d * factor x * g d * y d

end Cert.NormGrad

end
-- ==== Proof.DxFfnin.lean ====
/-
  The cotangents of the feed-forward's input and of its norm: what the kernel leaves, what the plain derivative gives, and that they are equal.
-/
module

public import proofs.«01_k».proof.Defs
public import proofs.«01_k».proof.Proof.Gen.FfninDxIdeal.Value
public import proofs.«01_k».proof.Proof.Gen.FfninDxRefIdeal.Run
public import proofs.«01_k».proof.Proof.Gen.FfninDxRefIdeal.Read
public import proofs.«01_k».proof.Proof.Blocked
public import proofs.«01_k».proof.Proof.NormGrad
public import Idealize.ShloMosaic.Lib.Pointwise
public import Idealize.ShloMosaic.Lib.Pipeline.ValueKit
public import Idealize.ShloMosaic.Lib.Tactic
public import Idealize.ShloMosaic.Lib.Quiescent

@[expose] public section

set_option maxRecDepth 16384
set_option maxHeartbeats 1000000

noncomputable section

namespace Cert.FfninDxIdeal.Out

open Idealize.ShloMosaic Idealize.ShloMosaic.TcCoe Idealize.SL.Sem
open Cert.FfninDxIdeal Cert.FfninDxIdeal.Gen Cert.FfninDxIdeal.Value Cert.Blocked

/-- The cotangents of the product's columns, side by side. -/
def side {R : ℕ} (d0 : (⟨2, ![R, 2816]⟩ : Shape).Idx → EReal) (d1 : (⟨2, ![R, 2816]⟩ : Shape).Idx → EReal) (i : Fin R) (n : Fin 5632) : EReal :=
  if h0 : n.val < 2816 then d0 (ix2 i ⟨n.val, h0⟩)
  else d1 (ix2 i ⟨n.val - 2816, by omega⟩)

/-- The cotangent of the product's input: the cotangents times the weight. -/
def prod {R : ℕ} (d0 : (⟨2, ![R, 2816]⟩ : Shape).Idx → EReal) (d1 : (⟨2, ![R, 2816]⟩ : Shape).Idx → EReal) (w : (⟨2, ![1024, 5632]⟩ : Shape).Idx → EReal) (i : Fin R) (d : Fin 1024) : EReal :=
  ∑ n, side d0 d1 i n * w (ix2 d n)

/-! ## The payloads -/

theorem side_at (d0 : Vec Ideal S256x2816 .bf16) (d1 : Vec Ideal S256x2816 .bf16) (i : Fin 256) (n : Fin 5632) : k0_pay1 d0 d1 (ix2 i n) = side d0 d1 i n := by
  pointwise [k0_pay1]
  rfl

theorem prod_at (d0 : Vec Ideal S256x2816 .bf16) (d1 : Vec Ideal S256x2816 .bf16) (w : Vec Ideal S1x1024x5632 .bf16) (w' : (⟨2, ![1024, 5632]⟩ : Shape).Idx → EReal)
    (hw : ∀ d n, w (ix3 0 d n) = w' (ix2 d n)) (i : Fin 256) (d : Fin 1024) : k0_pay2 d0 d1 w (ix2 i d) = prod d0 d1 w' i d := by
  unfold prod
  simp only [← hw]
  pointwise [k0_pay2]
  exact Finset.sum_congr rfl fun n _ => congrArg₂ (· * ·) (side_at d0 d1 i n) rfl

theorem input_at (d0 : Vec Ideal S256x2816 .bf16) (d1 : Vec Ideal S256x2816 .bf16) (w : Vec Ideal S1x1024x5632 .bf16) (x r : Vec Ideal S256x1024 .f32) (g s : Vec Ideal S1x1024 .f32)
    (i : Fin 256) (d : Fin 1024) : k0_pay11 x g (k0_pay4 x) (k0_pay5 x) (k0_pay9 d0 d1 w s) r (ix2 i d)
      = NormGrad.input (fun k => r (ix2 i k)) (fun k => k0_pay2 d0 d1 w (ix2 i k)) (fun k => x (ix2 i k)) (fun k => g (ix2 0 k)) (fun k => s (ix2 0 k)) d := by
  pointwise [k0_pay11, k0_pay4, k0_pay5, k0_pay9, k0_pay3]
  rfl

theorem gain_at (d0 : Vec Ideal S256x2816 .bf16) (d1 : Vec Ideal S256x2816 .bf16) (w : Vec Ideal S1x1024x5632 .bf16) (x : Vec Ideal S256x1024 .f32) (s z : Vec Ideal S1x1024 .f32)
    (d : Fin 1024) : k0_pay15 (k0_pay10 d0 d1 w x s) z (ix2 0 d)
      = z (ix2 0 d) + ∑ i : Fin 256, NormGrad.gain (fun k => k0_pay2 d0 d1 w (ix2 i k)) (fun k => x (ix2 i k)) (fun k => s (ix2 0 k)) d := by
  pointwise [k0_pay15, k0_pay10, k0_pay6, k0_pay4, k0_pay9, k0_pay3]
  rfl

theorem scale_at (d0 : Vec Ideal S256x2816 .bf16) (d1 : Vec Ideal S256x2816 .bf16) (w : Vec Ideal S1x1024x5632 .bf16) (x : Vec Ideal S256x1024 .f32) (g z : Vec Ideal S1x1024 .f32)
    (d : Fin 1024) : k0_pay16 (k0_pay8 d0 d1 w x g) z (ix2 0 d)
      = z (ix2 0 d) + ∑ i : Fin 256, NormGrad.scale (fun k => k0_pay2 d0 d1 w (ix2 i k)) (fun k => x (ix2 i k)) (fun k => g (ix2 0 k)) d := by
  pointwise [k0_pay16, k0_pay8, k0_pay6, k0_pay4, k0_pay3]
  rfl

theorem shift_at (d0 : Vec Ideal S256x2816 .bf16) (d1 : Vec Ideal S256x2816 .bf16) (w : Vec Ideal S1x1024x5632 .bf16) (z : Vec Ideal S1x1024 .f32)
    (d : Fin 1024) : k0_pay17 (k0_pay7 d0 d1 w) z (ix2 0 d) = z (ix2 0 d) + ∑ i : Fin 256, k0_pay2 d0 d1 w (ix2 i d) := by
  pointwise [k0_pay17, k0_pay7]

theorem zero_g (d : Fin 1024) : k0_pay12 (F := Ideal) (ix2 0 d) = 0 := by pointwise [k0_pay12]
theorem zero_s (d : Fin 1024) : k0_pay13 (F := Ideal) (ix2 0 d) = 0 := by pointwise [k0_pay13]
theorem zero_h (d : Fin 1024) : k0_pay14 (F := Ideal) (ix2 0 d) = 0 := by pointwise [k0_pay14]

/-! ## The blocks of a point -/

variable (m : (ℓ : Loc nD τ sig) → Buf (Elt Ideal) ℓ) (c : Dev nD)

theorem at_0 (t : Fin cfg0.N) : win0_0.index t = ![t.val, 0] := by revert t; decide +kernel
theorem at_1 (t : Fin cfg0.N) : win0_1.index t = ![t.val, 0] := by revert t; decide +kernel
theorem at_3 (t : Fin cfg0.N) : win0_3.index t = ![t.val, 0] := by revert t; decide +kernel
theorem at_7 (t : Fin cfg0.N) : win0_7.index t = ![t.val, 0] := by revert t; decide +kernel
theorem at_8 (t : Fin cfg0.N) : win0_8.index t = ![t.val, 0] := by revert t; decide +kernel
theorem at_12 (t : Fin cfg0.N) : win0_12.index t = ![t.val, 0] := by revert t; decide +kernel
theorem at_4 (t : Fin cfg0.N) : win0_4.index t = ![0, 0] := by revert t; decide +kernel
theorem at_5 (t : Fin cfg0.N) : win0_5.index t = ![0, 0] := by revert t; decide +kernel
theorem at_6 (t : Fin cfg0.N) : win0_6.index t = ![0, 0] := by revert t; decide +kernel
theorem at_9 (t : Fin cfg0.N) : win0_9.index t = ![0, 0] := by revert t; decide +kernel
theorem at_10 (t : Fin cfg0.N) : win0_10.index t = ![0, 0] := by revert t; decide +kernel
theorem at_11 (t : Fin cfg0.N) : win0_11.index t = ![0, 0] := by revert t; decide +kernel
theorem at_2 (t : Fin cfg0.N) : win0_2.index t = ![0, 0, 0] := by revert t; decide +kernel

/-- The arguments. -/
def ct0 : (⟨2, ![4096, 2816]⟩ : Shape).Idx → EReal := m ((c.tc : Thread nD τ).loc main_arg0)
def ct1 : (⟨2, ![4096, 2816]⟩ : Shape).Idx → EReal := m ((c.tc : Thread nD τ).loc main_arg1)
def wt : (⟨2, ![1024, 5632]⟩ : Shape).Idx → EReal := m ((c.tc : Thread nD τ).loc main_arg2)
def xs : (⟨2, ![4096, 1024]⟩ : Shape).Idx → EReal := m ((c.tc : Thread nD τ).loc main_arg3)
def gs : (⟨2, ![1, 1024]⟩ : Shape).Idx → EReal := m ((c.tc : Thread nD τ).loc main_arg4)
def ss : (⟨2, ![1, 1024]⟩ : Shape).Idx → EReal := m ((c.tc : Thread nD τ).loc main_arg5)
def rs : (⟨2, ![4096, 1024]⟩ : Shape).Idx → EReal := m ((c.tc : Thread nD τ).loc main_arg7)

/-- Position `i` of tile `t`. -/
def pos (t : Fin cfg0.N) (i : Fin 256) : Fin 4096 := ⟨256 * t.val + i.val, by have := lt_of_lt_of_eq t.isLt N_0; omega⟩

theorem ct0_blk (t : Fin cfg0.N) (i : Fin 256) (k : Fin 2816) : (iblk m c 0 t : Vec Ideal S256x2816 .bf16) (ix2 i k) = ct0 m c (ix2 (pos t i) k) := by
  unfold ct0 pos
  blk_point [iblk, V, at_0 t]

theorem ct1_blk (t : Fin cfg0.N) (i : Fin 256) (k : Fin 2816) : (iblk m c 1 t : Vec Ideal S256x2816 .bf16) (ix2 i k) = ct1 m c (ix2 (pos t i) k) := by
  unfold ct1 pos
  blk_point [iblk, V, at_1 t]

theorem xs_blk (t : Fin cfg0.N) (i : Fin 256) (k : Fin 1024) : (iblk m c 3 t : Vec Ideal S256x1024 .f32) (ix2 i k) = xs m c (ix2 (pos t i) k) := by
  unfold xs pos
  blk_point [iblk, V, at_3 t]

theorem rs_blk (t : Fin cfg0.N) (i : Fin 256) (k : Fin 1024) : (iblk m c 7 t : Vec Ideal S256x1024 .f32) (ix2 i k) = rs m c (ix2 (pos t i) k) := by
  unfold rs pos
  blk_point [iblk, V, at_7 t]

theorem gs_blk (t : Fin cfg0.N) (k : Fin 1024) : (iblk m c 4 t : Vec Ideal S1x1024 .f32) (ix2 0 k) = gs m c (ix2 0 k) := by
  unfold gs
  blk_point [iblk, V, at_4 t]

theorem ss_blk (t : Fin cfg0.N) (k : Fin 1024) : (iblk m c 5 t : Vec Ideal S1x1024 .f32) (ix2 0 k) = ss m c (ix2 0 k) := by
  unfold ss
  blk_point [iblk, V, at_5 t]

theorem wt_blk (t : Fin cfg0.N) (d : Fin 1024) (n : Fin 5632) : (iblk m c 2 t : Vec Ideal S1x1024x5632 .bf16) (ix3 0 d n) = wt m c (ix2 d n) := by
  unfold wt
  blk_point [iblk, V, at_2 t]

/-- The rows of a position. -/
def xrow (i : Fin 4096) : NormGrad.Row := fun k => xs m c (ix2 i k)
def rrow (i : Fin 4096) : NormGrad.Row := fun k => rs m c (ix2 i k)
def grow : NormGrad.Row := fun k => gs m c (ix2 0 k)
def srow : NormGrad.Row := fun k => ss m c (ix2 0 k)
def yrow (i : Fin 4096) : NormGrad.Row := fun k => prod (ct0 m c) (ct1 m c) (wt m c) i k

theorem side_blk (t : Fin cfg0.N) (i : Fin 256) (n : Fin 5632) :
    side (R := 256) (iblk m c 0 t) (iblk m c 1 t) i n = side (ct0 m c) (ct1 m c) (pos t i) n := by
  unfold side
  simp only [ct0_blk, ct1_blk]

theorem prod_blk (t : Fin cfg0.N) (i : Fin 256) (d : Fin 1024) :
    k0_pay2 (iblk m c 0 t) (iblk m c 1 t) (iblk m c 2 t) (ix2 i d) = yrow m c (pos t i) d := by
  rw [prod_at _ _ (iblk m c 2 t) (wt m c) (wt_blk m c t)]
  exact Finset.sum_congr rfl fun n _ => congrArg₂ (· * ·) (side_blk m c t i n) rfl

theorem xrow_blk (t : Fin cfg0.N) (i : Fin 256) : (fun k => (iblk m c 3 t : Vec Ideal S256x1024 .f32) (ix2 i k)) = xrow m c (pos t i) := funext fun k => xs_blk m c t i k
theorem rrow_blk (t : Fin cfg0.N) (i : Fin 256) : (fun k => (iblk m c 7 t : Vec Ideal S256x1024 .f32) (ix2 i k)) = rrow m c (pos t i) := funext fun k => rs_blk m c t i k
theorem grow_blk (t : Fin cfg0.N) : (fun k => (iblk m c 4 t : Vec Ideal S1x1024 .f32) (ix2 0 k)) = grow m c := funext fun k => gs_blk m c t k
theorem srow_blk (t : Fin cfg0.N) : (fun k => (iblk m c 5 t : Vec Ideal S1x1024 .f32) (ix2 0 k)) = srow m c := funext fun k => ss_blk m c t k
theorem yrow_blk (t : Fin cfg0.N) (i : Fin 256) :
    (fun k => k0_pay2 (iblk m c 0 t) (iblk m c 1 t) (iblk m c 2 t) (ix2 i k)) = yrow m c (pos t i) := funext fun k => prod_blk m c t i k

/-! ## What a point leaves -/

theorem input_out (t : Fin cfg0.N) (i : Fin 256) (d : Fin 1024) : (outsAt0 m c t.val t.isLt).1 (ix2 i d)
    = NormGrad.input (rrow m c (pos t i)) (yrow m c (pos t i)) (xrow m c (pos t i)) (grow m c) (srow m c) d := by
  rw [← rrow_blk, ← yrow_blk, ← xrow_blk, ← grow_blk m c t, ← srow_blk m c t]
  refine Eq.trans ?_ (input_at (iblk m c 0 t) (iblk m c 1 t) (iblk m c 2 t) (iblk m c 3 t) (iblk m c 7 t) (iblk m c 4 t) (iblk m c 5 t) i d)
  by_cases h : t.val % 16 = 0
  · rw [outsAt0_A m c t h]
    dsimp only
    frame_out
  · rw [outsAt0_B m c t h]
    dsimp only
    frame_out

theorem side_out (t : Fin cfg0.N) (i : Fin 256) (n : Fin 5632) : (outsAt0 m c t.val t.isLt).2.2.2.2 (ix2 i n)
    = side (ct0 m c) (ct1 m c) (pos t i) n := by
  rw [← side_blk]
  refine Eq.trans ?_ (side_at (iblk m c 0 t) (iblk m c 1 t) i n)
  by_cases h : t.val % 16 = 0
  · rw [outsAt0_A m c t h]
    dsimp only
    frame_out
  · rw [outsAt0_B m c t h]
    dsimp only
    frame_out

/-- The positions' parts of the three columns' cotangents. -/
def gterm (d : Fin 1024) (i : Fin 4096) : EReal := NormGrad.gain (yrow m c i) (xrow m c i) (srow m c) d
def sterm (d : Fin 1024) (i : Fin 4096) : EReal := NormGrad.scale (yrow m c i) (xrow m c i) (grow m c) d
def hterm (d : Fin 1024) (i : Fin 4096) : EReal := yrow m c i d

theorem gain_tile (t : Fin cfg0.N) (d : Fin 1024) (i : Fin 256) : ∃ p : 256 * t.val + i.val < 4096,
    NormGrad.gain (fun k => k0_pay2 (iblk m c 0 t) (iblk m c 1 t) (iblk m c 2 t) (ix2 i k)) (fun k => (iblk m c 3 t : Vec Ideal S256x1024 .f32) (ix2 i k)) (fun k => (iblk m c 5 t : Vec Ideal S1x1024 .f32) (ix2 0 k)) d = gterm m c d ⟨256 * t.val + i.val, p⟩ := by
  refine ⟨by have := lt_of_lt_of_eq t.isLt N_0; omega, ?_⟩
  rw [yrow_blk, xrow_blk, srow_blk]
  rfl

/-- After point `n` the gain's buffer holds the sum over the tiles so far. -/
theorem gain_out (d : Fin 1024) : ∀ (n : ℕ) (hn : n < cfg0.N), (outsAt0 m c n hn).2.1 (ix2 0 d) = part (gterm m c d) 256 (n + 1) := by
  intro n
  induction n with
  | zero =>
    intro hn
    have e := gain_tile m c ⟨0, hn⟩ d
    refine Eq.trans ?_ (part_succ _ 256 0 _ e).symm
    rw [part_zero, ← zero_g d]
    generalize ht : (⟨0, hn⟩ : Fin cfg0.N) = t at *
    refine Eq.trans ?_ (gain_at (iblk m c 0 t) (iblk m c 1 t) (iblk m c 2 t) (iblk m c 3 t) (iblk m c 5 t) _ d)
    subst ht
    rw [outsAt0_A m c ⟨0, hn⟩ rfl]
    dsimp only
    frame_out
  | succ n ih =>
    intro hn
    have e := gain_tile m c ⟨n + 1, hn⟩ d
    refine Eq.trans ?_ (part_succ _ 256 (n + 1) _ e).symm
    rw [← ih (Nat.lt_of_succ_lt hn)]
    generalize ht : (⟨n + 1, hn⟩ : Fin cfg0.N) = t at *
    refine Eq.trans ?_ (gain_at (iblk m c 0 t) (iblk m c 1 t) (iblk m c 2 t) (iblk m c 3 t) (iblk m c 5 t) _ d)
    subst ht
    have hN := lt_of_lt_of_eq hn N_0
    rw [outsAt0_B m c ⟨n + 1, hn⟩ (by show ¬ (n + 1) % 16 = 0; omega)]
    dsimp only
    frame_out
    rfl

theorem scale_tile (t : Fin cfg0.N) (d : Fin 1024) (i : Fin 256) : ∃ p : 256 * t.val + i.val < 4096,
    NormGrad.scale (fun k => k0_pay2 (iblk m c 0 t) (iblk m c 1 t) (iblk m c 2 t) (ix2 i k)) (fun k => (iblk m c 3 t : Vec Ideal S256x1024 .f32) (ix2 i k)) (fun k => (iblk m c 4 t : Vec Ideal S1x1024 .f32) (ix2 0 k)) d = sterm m c d ⟨256 * t.val + i.val, p⟩ := by
  refine ⟨by have := lt_of_lt_of_eq t.isLt N_0; omega, ?_⟩
  rw [yrow_blk, xrow_blk, grow_blk]
  rfl

/-- After point `n` the scale's buffer holds the sum over the tiles so far. -/
theorem scale_out (d : Fin 1024) : ∀ (n : ℕ) (hn : n < cfg0.N), (outsAt0 m c n hn).2.2.1 (ix2 0 d) = part (sterm m c d) 256 (n + 1) := by
  intro n
  induction n with
  | zero =>
    intro hn
    have e := scale_tile m c ⟨0, hn⟩ d
    refine Eq.trans ?_ (part_succ _ 256 0 _ e).symm
    rw [part_zero, ← zero_s d]
    generalize ht : (⟨0, hn⟩ : Fin cfg0.N) = t at *
    refine Eq.trans ?_ (scale_at (iblk m c 0 t) (iblk m c 1 t) (iblk m c 2 t) (iblk m c 3 t) (iblk m c 4 t) _ d)
    subst ht
    rw [outsAt0_A m c ⟨0, hn⟩ rfl]
    dsimp only
    frame_out
  | succ n ih =>
    intro hn
    have e := scale_tile m c ⟨n + 1, hn⟩ d
    refine Eq.trans ?_ (part_succ _ 256 (n + 1) _ e).symm
    rw [← ih (Nat.lt_of_succ_lt hn)]
    generalize ht : (⟨n + 1, hn⟩ : Fin cfg0.N) = t at *
    refine Eq.trans ?_ (scale_at (iblk m c 0 t) (iblk m c 1 t) (iblk m c 2 t) (iblk m c 3 t) (iblk m c 4 t) _ d)
    subst ht
    have hN := lt_of_lt_of_eq hn N_0
    rw [outsAt0_B m c ⟨n + 1, hn⟩ (by show ¬ (n + 1) % 16 = 0; omega)]
    dsimp only
    frame_out
    rfl

theorem shift_tile (t : Fin cfg0.N) (d : Fin 1024) (i : Fin 256) : ∃ p : 256 * t.val + i.val < 4096,
    k0_pay2 (iblk m c 0 t) (iblk m c 1 t) (iblk m c 2 t) (ix2 i d) = hterm m c d ⟨256 * t.val + i.val, p⟩ := by
  refine ⟨by have := lt_of_lt_of_eq t.isLt N_0; omega, ?_⟩
  rw [prod_blk]
  rfl

/-- After point `n` the shift's buffer holds the sum over the tiles so far. -/
theorem shift_out (d : Fin 1024) : ∀ (n : ℕ) (hn : n < cfg0.N), (outsAt0 m c n hn).2.2.2.1 (ix2 0 d) = part (hterm m c d) 256 (n + 1) := by
  intro n
  induction n with
  | zero =>
    intro hn
    have e := shift_tile m c ⟨0, hn⟩ d
    refine Eq.trans ?_ (part_succ _ 256 0 _ e).symm
    rw [part_zero, ← zero_h d]
    generalize ht : (⟨0, hn⟩ : Fin cfg0.N) = t at *
    refine Eq.trans ?_ (shift_at (iblk m c 0 t) (iblk m c 1 t) (iblk m c 2 t) _ d)
    subst ht
    rw [outsAt0_A m c ⟨0, hn⟩ rfl]
    dsimp only
    frame_out
  | succ n ih =>
    intro hn
    have e := shift_tile m c ⟨n + 1, hn⟩ d
    refine Eq.trans ?_ (part_succ _ 256 (n + 1) _ e).symm
    rw [← ih (Nat.lt_of_succ_lt hn)]
    generalize ht : (⟨n + 1, hn⟩ : Fin cfg0.N) = t at *
    refine Eq.trans ?_ (shift_at (iblk m c 0 t) (iblk m c 1 t) (iblk m c 2 t) _ d)
    subst ht
    have hN := lt_of_lt_of_eq hn N_0
    rw [outsAt0_B m c ⟨n + 1, hn⟩ (by show ¬ (n + 1) % 16 = 0; omega)]
    dsimp only
    frame_out
    rfl

/-! ## The arrays -/

theorem last : (15 : ℕ) < cfg0.N := lt_of_lt_of_eq (by omega) N_0.symm

theorem gain_res (d : Fin 1024) : (dats m 0 c).arrAt 9 cfg0.N (ix2 0 d) = ∑ i, gterm m c d i := by
  obtain ⟨t, ht⟩ : ∃ t : Fin cfg0.N, t.val = 15 := ⟨⟨15, last⟩, rfl⟩
  have hf : (cfg0.win 9).flush t = true := (flush0_9 t).mpr (by rw [ht])
  have hb := congrFun ((dats m 0 c).read_blk_arrAt_eq_flushed 9 (fun t t' ht ht' hne => absurd (Fin.ext (by
    have h1 := (flush0_9 t).mp ht
    have h2 := (flush0_9 t').mp ht'
    have h3 := lt_of_lt_of_eq t.isLt N_0
    have h4 := lt_of_lt_of_eq t'.isLt N_0
    omega)) hne) cfg0.N t t.isLt hf) (ix2 0 d)
  rw [flushed9] at hb
  refine (Eq.trans ?_ hb).trans (Eq.trans ?_ ((gain_out m c d t.val t.isLt).trans (part_all _ _ _ (by rw [ht]))))
  · blk_ext! [at_9 t]
  · rfl

theorem scale_res (d : Fin 1024) : (dats m 0 c).arrAt 10 cfg0.N (ix2 0 d) = ∑ i, sterm m c d i := by
  obtain ⟨t, ht⟩ : ∃ t : Fin cfg0.N, t.val = 15 := ⟨⟨15, last⟩, rfl⟩
  have hf : (cfg0.win 10).flush t = true := (flush0_10 t).mpr (by rw [ht])
  have hb := congrFun ((dats m 0 c).read_blk_arrAt_eq_flushed 10 (fun t t' ht ht' hne => absurd (Fin.ext (by
    have h1 := (flush0_10 t).mp ht
    have h2 := (flush0_10 t').mp ht'
    have h3 := lt_of_lt_of_eq t.isLt N_0
    have h4 := lt_of_lt_of_eq t'.isLt N_0
    omega)) hne) cfg0.N t t.isLt hf) (ix2 0 d)
  rw [flushed10] at hb
  refine (Eq.trans ?_ hb).trans (Eq.trans ?_ ((scale_out m c d t.val t.isLt).trans (part_all _ _ _ (by rw [ht]))))
  · blk_ext! [at_10 t]
  · rfl

theorem shift_res (d : Fin 1024) : (dats m 0 c).arrAt 11 cfg0.N (ix2 0 d) = ∑ i, hterm m c d i := by
  obtain ⟨t, ht⟩ : ∃ t : Fin cfg0.N, t.val = 15 := ⟨⟨15, last⟩, rfl⟩
  have hf : (cfg0.win 11).flush t = true := (flush0_11 t).mpr (by rw [ht])
  have hb := congrFun ((dats m 0 c).read_blk_arrAt_eq_flushed 11 (fun t t' ht ht' hne => absurd (Fin.ext (by
    have h1 := (flush0_11 t).mp ht
    have h2 := (flush0_11 t').mp ht'
    have h3 := lt_of_lt_of_eq t.isLt N_0
    have h4 := lt_of_lt_of_eq t'.isLt N_0
    omega)) hne) cfg0.N t t.isLt hf) (ix2 0 d)
  rw [flushed11] at hb
  refine (Eq.trans ?_ hb).trans (Eq.trans ?_ ((shift_out m c d t.val t.isLt).trans (part_all _ _ _ (by rw [ht]))))
  · blk_ext! [at_11 t]
  · rfl

theorem input_res (i : Fin 4096) (d : Fin 1024) : (dats m 0 c).arrAt 8 cfg0.N (ix2 i d)
    = NormGrad.input (rrow m c i) (yrow m c i) (xrow m c i) (grow m c) (srow m c) d := by
  have ht : i.val / 256 < cfg0.N := lt_of_lt_of_eq (by omega) N_0.symm
  have hp : pos ⟨i.val / 256, ht⟩ ⟨i.val % 256, by omega⟩ = i := Fin.ext (by show 256 * (i.val / 256) + i.val % 256 = i.val; omega)
  have hb := congrFun (blocks8 m c ⟨i.val / 256, ht⟩ (flush0_8 _)) (ix2 ⟨i.val % 256, by omega⟩ d)
  rw [flushed8] at hb
  refine (Eq.trans ?_ hb).trans ((input_out m c ⟨i.val / 256, ht⟩ ⟨i.val % 256, by omega⟩ d).trans ?_)
  · blk_ext! [at_8 ⟨i.val / 256, ht⟩]
  · rw [hp]

theorem side_res (i : Fin 4096) (n : Fin 5632) : (dats m 0 c).arrAt 12 cfg0.N (ix2 i n)
    = side (ct0 m c) (ct1 m c) i n := by
  have ht : i.val / 256 < cfg0.N := lt_of_lt_of_eq (by omega) N_0.symm
  have hp : pos ⟨i.val / 256, ht⟩ ⟨i.val % 256, by omega⟩ = i := Fin.ext (by show 256 * (i.val / 256) + i.val % 256 = i.val; omega)
  have hb := congrFun (blocks12 m c ⟨i.val / 256, ht⟩ (flush0_12 _)) (ix2 ⟨i.val % 256, by omega⟩ n)
  rw [flushed12] at hb
  refine (Eq.trans ?_ hb).trans ((side_out m c ⟨i.val / 256, ht⟩ ⟨i.val % 256, by omega⟩ n).trans ?_)
  · blk_ext! [at_12 ⟨i.val / 256, ht⟩]
  · rw [hp]

end Cert.FfninDxIdeal.Out

namespace Cert.FfninDxRefIdeal.Out

open Idealize.ShloMosaic Cert.FfninDxRefIdeal Cert.FfninDxRefIdeal.Read
open Cert.FfninDxIdeal.Out (side prod)

variable (x0 : Vec Ideal S4096x2816 .bf16) (x1 : Vec Ideal S4096x2816 .bf16) (x2 : Vec Ideal S1024x5632 .bf16) (x3 : Vec Ideal S4096x1024 .f32)
  (x4 x5 : Vec Ideal S1x1024 .f32) (x7 : Vec Ideal S4096x1024 .f32)

theorem side_ref (i : Fin 4096) (n : Fin 5632) : val_main_v27 (F := Ideal) x0 x1 (ix2 i n) = side x0 x1 i n := by
  pointwise [val_main_v27, val_main_v25, val_main_v26]
  rfl

theorem prod_ref (i : Fin 4096) (d : Fin 1024) : val_main_v28 (F := Ideal) x0 x1 x2 (ix2 i d) = prod x0 x1 x2 i d := by
  unfold prod
  simp only [← side_ref]
  pointwise [val_main_v28, val_main_v21]

theorem input_ref (i : Fin 4096) (d : Fin 1024) : val_main_v55 (F := Ideal) x0 x1 x2 x3 x4 x5 x7 (ix2 i d)
    = NormGrad.input (fun k => x7 (ix2 i k)) (fun k => prod x0 x1 x2 i k) (fun k => x3 (ix2 i k)) (fun k => x4 (ix2 0 k)) (fun k => x5 (ix2 0 k)) d := by
  simp only [← prod_ref]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_cst_7, val_main_v42, val_main_v43, val_main_v44, val_main_v45, val_main_v46, val_main_cst_8, val_main_v47, val_main_v48, val_main_cst_9, val_main_v49, val_main_v50, val_main_v51, val_main_v52, val_main_v53, val_main_v54, val_main_v55, val_main_v56]
  rfl

theorem gain_ref (d : Fin 1024) : val_main_v38 (F := Ideal) x0 x1 x2 x3 x5 (ix2 0 d)
    = ∑ i, NormGrad.gain (fun k => prod x0 x1 x2 i k) (fun k => x3 (ix2 i k)) (fun k => x5 (ix2 0 k)) d := by
  simp only [← prod_ref]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_cst_7, val_main_v42, val_main_v43, val_main_v44, val_main_v45, val_main_v46, val_main_cst_8, val_main_v47, val_main_v48, val_main_cst_9, val_main_v49, val_main_v50, val_main_v51, val_main_v52, val_main_v53, val_main_v54, val_main_v55, val_main_v56]
  rfl

theorem scale_ref (d : Fin 1024) : val_main_v33 (F := Ideal) x0 x1 x2 x3 x4 (ix2 0 d)
    = ∑ i, NormGrad.scale (fun k => prod x0 x1 x2 i k) (fun k => x3 (ix2 i k)) (fun k => x4 (ix2 0 k)) d := by
  simp only [← prod_ref]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_cst_7, val_main_v42, val_main_v43, val_main_v44, val_main_v45, val_main_v46, val_main_cst_8, val_main_v47, val_main_v48, val_main_cst_9, val_main_v49, val_main_v50, val_main_v51, val_main_v52, val_main_v53, val_main_v54, val_main_v55, val_main_v56]
  rfl

theorem shift_ref (d : Fin 1024) : val_main_v30 (F := Ideal) x0 x1 x2 (ix2 0 d) = ∑ i, prod x0 x1 x2 i d := by
  simp only [← prod_ref]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_cst_7, val_main_v42, val_main_v43, val_main_v44, val_main_v45, val_main_v46, val_main_cst_8, val_main_v47, val_main_v48, val_main_cst_9, val_main_v49, val_main_v50, val_main_v51, val_main_v52, val_main_v53, val_main_v54, val_main_v55, val_main_v56]

theorem sides_ref (i : Fin 4096) (n : Fin 5632) : val_main_v56 (F := Ideal) x0 x1 (ix2 i n) = side x0 x1 i n := by
  pointwise [val_main_v56]
  rfl

end Cert.FfninDxRefIdeal.Out

namespace Cert.Proof

open Idealize.ShloMosaic Idealize.ShloMosaic.TcCoe Idealize.SL.Sem

theorem frame_ffninDxRef : Cert.quiescent_FfninDxRefIdeal := fun m ρ _ =>
  (θ_run Cert.FfninDxRefIdeal.defs _ _).mono
    (fun _ h => ⟨fun c => (h c).2.2.2.2.2, sem_eq_zero_of_no_sems (by decide) _⟩) (Cert.FfninDxRefIdeal.Value.run (F := Ideal) m ρ)

theorem algebraic_ffninDx : Cert.algebraic_FfninDxIdeal_FfninDxRefIdeal := by
  intro m ρ m' ρ' _ hargs
  refine ⟨_, _, _, _, _, Cert.FfninDxIdeal.Value.run_blocks (F := Ideal) m ρ,
    (θ_run Cert.FfninDxRefIdeal.defs _ _).mono (fun r H c => ?_) (Cert.FfninDxRefIdeal.Value.run (F := Ideal) m' ρ')⟩
  obtain ⟨h0, h1, h2, h3, h4, hk⟩ := H c
  obtain ⟨e0, e1, e2, e3, e4, e5, e6, e7⟩ := hargs c
  refine ⟨h0.trans ?_, h1.trans ?_, h2.trans ?_, h3.trans ?_, h4.trans ?_, hk⟩
  · refine Eq.trans (Cert.FfninDxRefIdeal.Read.val_main_v55_eq m' c) (funext fun i => ?_)
    rw [e0, e1, e2, e3, e4, e5, e7, eq_ix2 i]
    exact (Cert.FfninDxRefIdeal.Out.input_ref _ _ _ _ _ _ _ (i 0) (i 1)).trans (Cert.FfninDxIdeal.Out.input_res m c (i 0) (i 1)).symm
  · refine Eq.trans (Cert.FfninDxRefIdeal.Read.val_main_v38_eq _ _ _ _ _) (funext fun i => ?_)
    rw [e0, e1, e2, e3, e5, show i = ix2 (0 : Fin 1) (i 1 : Fin 1024) from (eq_ix2 i).trans (Blocked.ix2_of (Nat.lt_one_iff.mp (i 0).isLt) rfl)]
    exact (Cert.FfninDxRefIdeal.Out.gain_ref _ _ _ _ _ (i 1)).trans (Cert.FfninDxIdeal.Out.gain_res m c (i 1)).symm
  · refine Eq.trans (Cert.FfninDxRefIdeal.Read.val_main_v33_eq _ _ _ _ _) (funext fun i => ?_)
    rw [e0, e1, e2, e3, e4, show i = ix2 (0 : Fin 1) (i 1 : Fin 1024) from (eq_ix2 i).trans (Blocked.ix2_of (Nat.lt_one_iff.mp (i 0).isLt) rfl)]
    exact (Cert.FfninDxRefIdeal.Out.scale_ref _ _ _ _ _ (i 1)).trans (Cert.FfninDxIdeal.Out.scale_res m c (i 1)).symm
  · refine Eq.trans (Cert.FfninDxRefIdeal.Read.val_main_v30_eq _ _ _) (funext fun i => ?_)
    rw [e0, e1, e2, show i = ix2 (0 : Fin 1) (i 1 : Fin 1024) from (eq_ix2 i).trans (Blocked.ix2_of (Nat.lt_one_iff.mp (i 0).isLt) rfl)]
    exact (Cert.FfninDxRefIdeal.Out.shift_ref _ _ _ (i 1)).trans (Cert.FfninDxIdeal.Out.shift_res m c (i 1)).symm
  · refine Eq.trans (Cert.FfninDxRefIdeal.Read.val_main_v56_eq _ _) (funext fun i => ?_)
    rw [e0, e1, eq_ix2 i]
    exact (Cert.FfninDxRefIdeal.Out.sides_ref _ _ (i 0) (i 1)).trans (Cert.FfninDxIdeal.Out.side_res m c (i 0) (i 1)).symm

end Cert.Proof

end
-- ==== Proof.DxProj.lean ====
/-
  The cotangents of the mixer's projections' input and of its norm: what the kernel leaves, what the plain derivative gives, and that they are equal.
-/
module

public import proofs.«01_k».proof.Defs
public import proofs.«01_k».proof.Proof.Gen.ProjDxIdeal.Value
public import proofs.«01_k».proof.Proof.Gen.ProjDxRefIdeal.Run
public import proofs.«01_k».proof.Proof.Gen.ProjDxRefIdeal.Read
public import proofs.«01_k».proof.Proof.Blocked
public import proofs.«01_k».proof.Proof.NormGrad
public import Idealize.ShloMosaic.Lib.Pointwise
public import Idealize.ShloMosaic.Lib.Pipeline.ValueKit
public import Idealize.ShloMosaic.Lib.Tactic
public import Idealize.ShloMosaic.Lib.Quiescent

@[expose] public section

set_option maxRecDepth 16384
set_option maxHeartbeats 1000000

noncomputable section

namespace Cert.ProjDxIdeal.Out

open Idealize.ShloMosaic Idealize.ShloMosaic.TcCoe Idealize.SL.Sem
open Cert.ProjDxIdeal Cert.ProjDxIdeal.Gen Cert.ProjDxIdeal.Value Cert.Blocked

/-- The cotangents of the product's columns, side by side. -/
def side {R : ℕ} (d0 : (⟨2, ![R, 256]⟩ : Shape).Idx → EReal) (d1 : (⟨2, ![R, 2560]⟩ : Shape).Idx → EReal) (d2 : (⟨2, ![R, 512]⟩ : Shape).Idx → EReal) (d3 : (⟨2, ![R, 128]⟩ : Shape).Idx → EReal) (i : Fin R) (n : Fin 3456) : EReal :=
  if h0 : n.val < 256 then d0 (ix2 i ⟨n.val, h0⟩)
  else if h1 : n.val - 256 < 2560 then d1 (ix2 i ⟨n.val - 256, h1⟩)
  else if h2 : n.val - 256 - 2560 < 512 then d2 (ix2 i ⟨n.val - 256 - 2560, h2⟩)
  else d3 (ix2 i ⟨n.val - 256 - 2560 - 512, by omega⟩)

/-- The cotangent of the product's input: the cotangents times the weight. -/
def prod {R : ℕ} (d0 : (⟨2, ![R, 256]⟩ : Shape).Idx → EReal) (d1 : (⟨2, ![R, 2560]⟩ : Shape).Idx → EReal) (d2 : (⟨2, ![R, 512]⟩ : Shape).Idx → EReal) (d3 : (⟨2, ![R, 128]⟩ : Shape).Idx → EReal) (w : (⟨2, ![1024, 3456]⟩ : Shape).Idx → EReal) (i : Fin R) (d : Fin 1024) : EReal :=
  ∑ n, side d0 d1 d2 d3 i n * w (ix2 d n)

/-! ## The payloads -/

theorem side_at (d0 : Vec Ideal S256x256 .f32) (d1 : Vec Ideal S256x2560 .f32) (d2 : Vec Ideal S256x512 .f32) (d3 : Vec Ideal S256x128 .f32) (i : Fin 256) (n : Fin 3456) : k0_pay3 d0 d1 d2 d3 (ix2 i n) = side d0 d1 d2 d3 i n := by
  pointwise [k0_pay3]
  rfl

theorem prod_at (d0 : Vec Ideal S256x256 .f32) (d1 : Vec Ideal S256x2560 .f32) (d2 : Vec Ideal S256x512 .f32) (d3 : Vec Ideal S256x128 .f32) (w : Vec Ideal S1x1024x3456 .bf16) (w' : (⟨2, ![1024, 3456]⟩ : Shape).Idx → EReal)
    (hw : ∀ d n, w (ix3 0 d n) = w' (ix2 d n)) (i : Fin 256) (d : Fin 1024) : k0_pay4 d0 d1 d2 d3 w (ix2 i d) = prod d0 d1 d2 d3 w' i d := by
  unfold prod
  simp only [← hw]
  pointwise [k0_pay4]
  exact Finset.sum_congr rfl fun n _ => congrArg₂ (· * ·) (side_at d0 d1 d2 d3 i n) rfl

theorem input_at (d0 : Vec Ideal S256x256 .f32) (d1 : Vec Ideal S256x2560 .f32) (d2 : Vec Ideal S256x512 .f32) (d3 : Vec Ideal S256x128 .f32) (w : Vec Ideal S1x1024x3456 .bf16) (x r : Vec Ideal S256x1024 .f32) (g s : Vec Ideal S1x1024 .f32)
    (i : Fin 256) (d : Fin 1024) : k0_pay14 (k0_pay4 d0 d1 d2 d3 w) x g (k0_pay6 x) (k0_pay7 x) (k0_pay10 s) r (ix2 i d)
      = NormGrad.input (fun k => r (ix2 i k)) (fun k => k0_pay4 d0 d1 d2 d3 w (ix2 i k)) (fun k => x (ix2 i k)) (fun k => g (ix2 0 k)) (fun k => s (ix2 0 k)) d := by
  pointwise [k0_pay14, k0_pay13, k0_pay6, k0_pay7, k0_pay10, k0_pay5]
  rfl

theorem gain_at (d0 : Vec Ideal S256x256 .f32) (d1 : Vec Ideal S256x2560 .f32) (d2 : Vec Ideal S256x512 .f32) (d3 : Vec Ideal S256x128 .f32) (w : Vec Ideal S1x1024x3456 .bf16) (x : Vec Ideal S256x1024 .f32) (s z : Vec Ideal S1x1024 .f32)
    (d : Fin 1024) : k0_pay18 (k0_pay4 d0 d1 d2 d3 w) (k0_pay8 x) (k0_pay10 s) z (ix2 0 d)
      = z (ix2 0 d) + ∑ i : Fin 256, NormGrad.gain (fun k => k0_pay4 d0 d1 d2 d3 w (ix2 i k)) (fun k => x (ix2 i k)) (fun k => s (ix2 0 k)) d := by
  pointwise [k0_pay18, k0_pay13, k0_pay8, k0_pay6, k0_pay10, k0_pay5]
  rfl

theorem scale_at (d0 : Vec Ideal S256x256 .f32) (d1 : Vec Ideal S256x2560 .f32) (d2 : Vec Ideal S256x512 .f32) (d3 : Vec Ideal S256x128 .f32) (w : Vec Ideal S1x1024x3456 .bf16) (x : Vec Ideal S256x1024 .f32) (g z : Vec Ideal S1x1024 .f32)
    (d : Fin 1024) : k0_pay1 (k0_pay12 (k0_pay4 d0 d1 d2 d3 w) (k0_pay9 x g)) (k0_pay19 z) (ix2 0 d)
      = z (ix2 0 d) + ∑ i : Fin 256, NormGrad.scale (fun k => k0_pay4 d0 d1 d2 d3 w (ix2 i k)) (fun k => x (ix2 i k)) (fun k => g (ix2 0 k)) d := by
  pointwise [k0_pay1, k0_pay12, k0_pay9, k0_pay8, k0_pay6, k0_pay5, k0_pay19]
  rfl

theorem shift_at (d0 : Vec Ideal S256x256 .f32) (d1 : Vec Ideal S256x2560 .f32) (d2 : Vec Ideal S256x512 .f32) (d3 : Vec Ideal S256x128 .f32) (w : Vec Ideal S1x1024x3456 .bf16) (z : Vec Ideal S1x1024 .f32)
    (d : Fin 1024) : k0_pay2 (k0_pay11 (k0_pay4 d0 d1 d2 d3 w)) z (ix2 0 d) = z (ix2 0 d) + ∑ i : Fin 256, k0_pay4 d0 d1 d2 d3 w (ix2 i d) := by
  pointwise [k0_pay2, k0_pay11]

theorem zero_g (d : Fin 1024) : k0_pay15 (F := Ideal) (ix2 0 d) = 0 := by pointwise [k0_pay15]
theorem zero_s (d : Fin 1024) : k0_pay16 (F := Ideal) (ix2 0 d) = 0 := by pointwise [k0_pay16]
theorem zero_h (d : Fin 1024) : k0_pay17 (F := Ideal) (ix2 0 d) = 0 := by pointwise [k0_pay17]

/-! ## The blocks of a point -/

variable (m : (ℓ : Loc nD τ sig) → Buf (Elt Ideal) ℓ) (c : Dev nD)

theorem at_0 (t : Fin cfg0.N) : win0_0.index t = ![t.val, 0] := by revert t; decide +kernel
theorem at_1 (t : Fin cfg0.N) : win0_1.index t = ![t.val, 0] := by revert t; decide +kernel
theorem at_2 (t : Fin cfg0.N) : win0_2.index t = ![t.val, 0] := by revert t; decide +kernel
theorem at_3 (t : Fin cfg0.N) : win0_3.index t = ![t.val, 0] := by revert t; decide +kernel
theorem at_5 (t : Fin cfg0.N) : win0_5.index t = ![t.val, 0] := by revert t; decide +kernel
theorem at_9 (t : Fin cfg0.N) : win0_9.index t = ![t.val, 0] := by revert t; decide +kernel
theorem at_10 (t : Fin cfg0.N) : win0_10.index t = ![t.val, 0] := by revert t; decide +kernel
theorem at_14 (t : Fin cfg0.N) : win0_14.index t = ![t.val, 0] := by revert t; decide +kernel
theorem at_6 (t : Fin cfg0.N) : win0_6.index t = ![0, 0] := by revert t; decide +kernel
theorem at_7 (t : Fin cfg0.N) : win0_7.index t = ![0, 0] := by revert t; decide +kernel
theorem at_8 (t : Fin cfg0.N) : win0_8.index t = ![0, 0] := by revert t; decide +kernel
theorem at_11 (t : Fin cfg0.N) : win0_11.index t = ![0, 0] := by revert t; decide +kernel
theorem at_12 (t : Fin cfg0.N) : win0_12.index t = ![0, 0] := by revert t; decide +kernel
theorem at_13 (t : Fin cfg0.N) : win0_13.index t = ![0, 0] := by revert t; decide +kernel
theorem at_4 (t : Fin cfg0.N) : win0_4.index t = ![0, 0, 0] := by revert t; decide +kernel

/-- The arguments. -/
def ct0 : (⟨2, ![4096, 256]⟩ : Shape).Idx → EReal := m ((c.tc : Thread nD τ).loc main_arg0)
def ct1 : (⟨2, ![4096, 2560]⟩ : Shape).Idx → EReal := m ((c.tc : Thread nD τ).loc main_arg1)
def ct2 : (⟨2, ![4096, 512]⟩ : Shape).Idx → EReal := m ((c.tc : Thread nD τ).loc main_arg2)
def ct3 : (⟨2, ![4096, 128]⟩ : Shape).Idx → EReal := m ((c.tc : Thread nD τ).loc main_arg3)
def wt : (⟨2, ![1024, 3456]⟩ : Shape).Idx → EReal := m ((c.tc : Thread nD τ).loc main_arg4)
def xs : (⟨2, ![4096, 1024]⟩ : Shape).Idx → EReal := m ((c.tc : Thread nD τ).loc main_arg5)
def gs : (⟨2, ![1, 1024]⟩ : Shape).Idx → EReal := m ((c.tc : Thread nD τ).loc main_arg6)
def ss : (⟨2, ![1, 1024]⟩ : Shape).Idx → EReal := m ((c.tc : Thread nD τ).loc main_arg7)
def rs : (⟨2, ![4096, 1024]⟩ : Shape).Idx → EReal := m ((c.tc : Thread nD τ).loc main_arg9)

/-- Position `i` of tile `t`. -/
def pos (t : Fin cfg0.N) (i : Fin 256) : Fin 4096 := ⟨256 * t.val + i.val, by have := lt_of_lt_of_eq t.isLt N_0; omega⟩

theorem ct0_blk (t : Fin cfg0.N) (i : Fin 256) (k : Fin 256) : (iblk m c 0 t : Vec Ideal S256x256 .f32) (ix2 i k) = ct0 m c (ix2 (pos t i) k) := by
  unfold ct0 pos
  blk_point [iblk, V, at_0 t]

theorem ct1_blk (t : Fin cfg0.N) (i : Fin 256) (k : Fin 2560) : (iblk m c 1 t : Vec Ideal S256x2560 .f32) (ix2 i k) = ct1 m c (ix2 (pos t i) k) := by
  unfold ct1 pos
  blk_point [iblk, V, at_1 t]

theorem ct2_blk (t : Fin cfg0.N) (i : Fin 256) (k : Fin 512) : (iblk m c 2 t : Vec Ideal S256x512 .f32) (ix2 i k) = ct2 m c (ix2 (pos t i) k) := by
  unfold ct2 pos
  blk_point [iblk, V, at_2 t]

theorem ct3_blk (t : Fin cfg0.N) (i : Fin 256) (k : Fin 128) : (iblk m c 3 t : Vec Ideal S256x128 .f32) (ix2 i k) = ct3 m c (ix2 (pos t i) k) := by
  unfold ct3 pos
  blk_point [iblk, V, at_3 t]

theorem xs_blk (t : Fin cfg0.N) (i : Fin 256) (k : Fin 1024) : (iblk m c 5 t : Vec Ideal S256x1024 .f32) (ix2 i k) = xs m c (ix2 (pos t i) k) := by
  unfold xs pos
  blk_point [iblk, V, at_5 t]

theorem rs_blk (t : Fin cfg0.N) (i : Fin 256) (k : Fin 1024) : (iblk m c 9 t : Vec Ideal S256x1024 .f32) (ix2 i k) = rs m c (ix2 (pos t i) k) := by
  unfold rs pos
  blk_point [iblk, V, at_9 t]

theorem gs_blk (t : Fin cfg0.N) (k : Fin 1024) : (iblk m c 6 t : Vec Ideal S1x1024 .f32) (ix2 0 k) = gs m c (ix2 0 k) := by
  unfold gs
  blk_point [iblk, V, at_6 t]

theorem ss_blk (t : Fin cfg0.N) (k : Fin 1024) : (iblk m c 7 t : Vec Ideal S1x1024 .f32) (ix2 0 k) = ss m c (ix2 0 k) := by
  unfold ss
  blk_point [iblk, V, at_7 t]

theorem wt_blk (t : Fin cfg0.N) (d : Fin 1024) (n : Fin 3456) : (iblk m c 4 t : Vec Ideal S1x1024x3456 .bf16) (ix3 0 d n) = wt m c (ix2 d n) := by
  unfold wt
  blk_point [iblk, V, at_4 t]

/-- The rows of a position. -/
def xrow (i : Fin 4096) : NormGrad.Row := fun k => xs m c (ix2 i k)
def rrow (i : Fin 4096) : NormGrad.Row := fun k => rs m c (ix2 i k)
def grow : NormGrad.Row := fun k => gs m c (ix2 0 k)
def srow : NormGrad.Row := fun k => ss m c (ix2 0 k)
def yrow (i : Fin 4096) : NormGrad.Row := fun k => prod (ct0 m c) (ct1 m c) (ct2 m c) (ct3 m c) (wt m c) i k

theorem side_blk (t : Fin cfg0.N) (i : Fin 256) (n : Fin 3456) :
    side (R := 256) (iblk m c 0 t) (iblk m c 1 t) (iblk m c 2 t) (iblk m c 3 t) i n = side (ct0 m c) (ct1 m c) (ct2 m c) (ct3 m c) (pos t i) n := by
  unfold side
  simp only [ct0_blk, ct1_blk, ct2_blk, ct3_blk]

theorem prod_blk (t : Fin cfg0.N) (i : Fin 256) (d : Fin 1024) :
    k0_pay4 (iblk m c 0 t) (iblk m c 1 t) (iblk m c 2 t) (iblk m c 3 t) (iblk m c 4 t) (ix2 i d) = yrow m c (pos t i) d := by
  rw [prod_at _ _ _ _ (iblk m c 4 t) (wt m c) (wt_blk m c t)]
  exact Finset.sum_congr rfl fun n _ => congrArg₂ (· * ·) (side_blk m c t i n) rfl

theorem xrow_blk (t : Fin cfg0.N) (i : Fin 256) : (fun k => (iblk m c 5 t : Vec Ideal S256x1024 .f32) (ix2 i k)) = xrow m c (pos t i) := funext fun k => xs_blk m c t i k
theorem rrow_blk (t : Fin cfg0.N) (i : Fin 256) : (fun k => (iblk m c 9 t : Vec Ideal S256x1024 .f32) (ix2 i k)) = rrow m c (pos t i) := funext fun k => rs_blk m c t i k
theorem grow_blk (t : Fin cfg0.N) : (fun k => (iblk m c 6 t : Vec Ideal S1x1024 .f32) (ix2 0 k)) = grow m c := funext fun k => gs_blk m c t k
theorem srow_blk (t : Fin cfg0.N) : (fun k => (iblk m c 7 t : Vec Ideal S1x1024 .f32) (ix2 0 k)) = srow m c := funext fun k => ss_blk m c t k
theorem yrow_blk (t : Fin cfg0.N) (i : Fin 256) :
    (fun k => k0_pay4 (iblk m c 0 t) (iblk m c 1 t) (iblk m c 2 t) (iblk m c 3 t) (iblk m c 4 t) (ix2 i k)) = yrow m c (pos t i) := funext fun k => prod_blk m c t i k

/-! ## What a point leaves -/

theorem input_out (t : Fin cfg0.N) (i : Fin 256) (d : Fin 1024) : (outsAt0 m c t.val t.isLt).1 (ix2 i d)
    = NormGrad.input (rrow m c (pos t i)) (yrow m c (pos t i)) (xrow m c (pos t i)) (grow m c) (srow m c) d := by
  rw [← rrow_blk, ← yrow_blk, ← xrow_blk, ← grow_blk m c t, ← srow_blk m c t]
  refine Eq.trans ?_ (input_at (iblk m c 0 t) (iblk m c 1 t) (iblk m c 2 t) (iblk m c 3 t) (iblk m c 4 t) (iblk m c 5 t) (iblk m c 9 t) (iblk m c 6 t) (iblk m c 7 t) i d)
  by_cases h : t.val % 16 = 0
  · rw [outsAt0_A m c t h]
    dsimp only
    frame_out
  · rw [outsAt0_B m c t h]
    dsimp only
    frame_out

theorem side_out (t : Fin cfg0.N) (i : Fin 256) (n : Fin 3456) : (outsAt0 m c t.val t.isLt).2.2.2.2 (ix2 i n)
    = side (ct0 m c) (ct1 m c) (ct2 m c) (ct3 m c) (pos t i) n := by
  rw [← side_blk]
  refine Eq.trans ?_ (side_at (iblk m c 0 t) (iblk m c 1 t) (iblk m c 2 t) (iblk m c 3 t) i n)
  by_cases h : t.val % 16 = 0
  · rw [outsAt0_A m c t h]
    dsimp only
    frame_out
  · rw [outsAt0_B m c t h]
    dsimp only
    frame_out

/-- The positions' parts of the three columns' cotangents. -/
def gterm (d : Fin 1024) (i : Fin 4096) : EReal := NormGrad.gain (yrow m c i) (xrow m c i) (srow m c) d
def sterm (d : Fin 1024) (i : Fin 4096) : EReal := NormGrad.scale (yrow m c i) (xrow m c i) (grow m c) d
def hterm (d : Fin 1024) (i : Fin 4096) : EReal := yrow m c i d

theorem gain_tile (t : Fin cfg0.N) (d : Fin 1024) (i : Fin 256) : ∃ p : 256 * t.val + i.val < 4096,
    NormGrad.gain (fun k => k0_pay4 (iblk m c 0 t) (iblk m c 1 t) (iblk m c 2 t) (iblk m c 3 t) (iblk m c 4 t) (ix2 i k)) (fun k => (iblk m c 5 t : Vec Ideal S256x1024 .f32) (ix2 i k)) (fun k => (iblk m c 7 t : Vec Ideal S1x1024 .f32) (ix2 0 k)) d = gterm m c d ⟨256 * t.val + i.val, p⟩ := by
  refine ⟨by have := lt_of_lt_of_eq t.isLt N_0; omega, ?_⟩
  rw [yrow_blk, xrow_blk, srow_blk]
  rfl

/-- After point `n` the gain's buffer holds the sum over the tiles so far. -/
theorem gain_out (d : Fin 1024) : ∀ (n : ℕ) (hn : n < cfg0.N), (outsAt0 m c n hn).2.1 (ix2 0 d) = part (gterm m c d) 256 (n + 1) := by
  intro n
  induction n with
  | zero =>
    intro hn
    have e := gain_tile m c ⟨0, hn⟩ d
    refine Eq.trans ?_ (part_succ _ 256 0 _ e).symm
    rw [part_zero, ← zero_g d]
    generalize ht : (⟨0, hn⟩ : Fin cfg0.N) = t at *
    refine Eq.trans ?_ (gain_at (iblk m c 0 t) (iblk m c 1 t) (iblk m c 2 t) (iblk m c 3 t) (iblk m c 4 t) (iblk m c 5 t) (iblk m c 7 t) _ d)
    subst ht
    rw [outsAt0_A m c ⟨0, hn⟩ rfl]
    dsimp only
    frame_out
  | succ n ih =>
    intro hn
    have e := gain_tile m c ⟨n + 1, hn⟩ d
    refine Eq.trans ?_ (part_succ _ 256 (n + 1) _ e).symm
    rw [← ih (Nat.lt_of_succ_lt hn)]
    generalize ht : (⟨n + 1, hn⟩ : Fin cfg0.N) = t at *
    refine Eq.trans ?_ (gain_at (iblk m c 0 t) (iblk m c 1 t) (iblk m c 2 t) (iblk m c 3 t) (iblk m c 4 t) (iblk m c 5 t) (iblk m c 7 t) _ d)
    subst ht
    have hN := lt_of_lt_of_eq hn N_0
    rw [outsAt0_B m c ⟨n + 1, hn⟩ (by show ¬ (n + 1) % 16 = 0; omega)]
    dsimp only
    frame_out
    rfl

theorem scale_tile (t : Fin cfg0.N) (d : Fin 1024) (i : Fin 256) : ∃ p : 256 * t.val + i.val < 4096,
    NormGrad.scale (fun k => k0_pay4 (iblk m c 0 t) (iblk m c 1 t) (iblk m c 2 t) (iblk m c 3 t) (iblk m c 4 t) (ix2 i k)) (fun k => (iblk m c 5 t : Vec Ideal S256x1024 .f32) (ix2 i k)) (fun k => (iblk m c 6 t : Vec Ideal S1x1024 .f32) (ix2 0 k)) d = sterm m c d ⟨256 * t.val + i.val, p⟩ := by
  refine ⟨by have := lt_of_lt_of_eq t.isLt N_0; omega, ?_⟩
  rw [yrow_blk, xrow_blk, grow_blk]
  rfl

/-- After point `n` the scale's buffer holds the sum over the tiles so far. -/
theorem scale_out (d : Fin 1024) : ∀ (n : ℕ) (hn : n < cfg0.N), (outsAt0 m c n hn).2.2.1 (ix2 0 d) = part (sterm m c d) 256 (n + 1) := by
  intro n
  induction n with
  | zero =>
    intro hn
    have e := scale_tile m c ⟨0, hn⟩ d
    refine Eq.trans ?_ (part_succ _ 256 0 _ e).symm
    rw [part_zero, ← zero_s d]
    generalize ht : (⟨0, hn⟩ : Fin cfg0.N) = t at *
    refine Eq.trans ?_ (scale_at (iblk m c 0 t) (iblk m c 1 t) (iblk m c 2 t) (iblk m c 3 t) (iblk m c 4 t) (iblk m c 5 t) (iblk m c 6 t) _ d)
    subst ht
    rw [outsAt0_A m c ⟨0, hn⟩ rfl]
    dsimp only
    frame_out
  | succ n ih =>
    intro hn
    have e := scale_tile m c ⟨n + 1, hn⟩ d
    refine Eq.trans ?_ (part_succ _ 256 (n + 1) _ e).symm
    rw [← ih (Nat.lt_of_succ_lt hn)]
    generalize ht : (⟨n + 1, hn⟩ : Fin cfg0.N) = t at *
    refine Eq.trans ?_ (scale_at (iblk m c 0 t) (iblk m c 1 t) (iblk m c 2 t) (iblk m c 3 t) (iblk m c 4 t) (iblk m c 5 t) (iblk m c 6 t) _ d)
    subst ht
    have hN := lt_of_lt_of_eq hn N_0
    rw [outsAt0_B m c ⟨n + 1, hn⟩ (by show ¬ (n + 1) % 16 = 0; omega)]
    dsimp only
    frame_out
    rfl

theorem shift_tile (t : Fin cfg0.N) (d : Fin 1024) (i : Fin 256) : ∃ p : 256 * t.val + i.val < 4096,
    k0_pay4 (iblk m c 0 t) (iblk m c 1 t) (iblk m c 2 t) (iblk m c 3 t) (iblk m c 4 t) (ix2 i d) = hterm m c d ⟨256 * t.val + i.val, p⟩ := by
  refine ⟨by have := lt_of_lt_of_eq t.isLt N_0; omega, ?_⟩
  rw [prod_blk]
  rfl

/-- After point `n` the shift's buffer holds the sum over the tiles so far. -/
theorem shift_out (d : Fin 1024) : ∀ (n : ℕ) (hn : n < cfg0.N), (outsAt0 m c n hn).2.2.2.1 (ix2 0 d) = part (hterm m c d) 256 (n + 1) := by
  intro n
  induction n with
  | zero =>
    intro hn
    have e := shift_tile m c ⟨0, hn⟩ d
    refine Eq.trans ?_ (part_succ _ 256 0 _ e).symm
    rw [part_zero, ← zero_h d]
    generalize ht : (⟨0, hn⟩ : Fin cfg0.N) = t at *
    refine Eq.trans ?_ (shift_at (iblk m c 0 t) (iblk m c 1 t) (iblk m c 2 t) (iblk m c 3 t) (iblk m c 4 t) _ d)
    subst ht
    rw [outsAt0_A m c ⟨0, hn⟩ rfl]
    dsimp only
    frame_out
  | succ n ih =>
    intro hn
    have e := shift_tile m c ⟨n + 1, hn⟩ d
    refine Eq.trans ?_ (part_succ _ 256 (n + 1) _ e).symm
    rw [← ih (Nat.lt_of_succ_lt hn)]
    generalize ht : (⟨n + 1, hn⟩ : Fin cfg0.N) = t at *
    refine Eq.trans ?_ (shift_at (iblk m c 0 t) (iblk m c 1 t) (iblk m c 2 t) (iblk m c 3 t) (iblk m c 4 t) _ d)
    subst ht
    have hN := lt_of_lt_of_eq hn N_0
    rw [outsAt0_B m c ⟨n + 1, hn⟩ (by show ¬ (n + 1) % 16 = 0; omega)]
    dsimp only
    frame_out
    rfl

/-! ## The arrays -/

theorem last : (15 : ℕ) < cfg0.N := lt_of_lt_of_eq (by omega) N_0.symm

theorem gain_res (d : Fin 1024) : (dats m 0 c).arrAt 11 cfg0.N (ix2 0 d) = ∑ i, gterm m c d i := by
  obtain ⟨t, ht⟩ : ∃ t : Fin cfg0.N, t.val = 15 := ⟨⟨15, last⟩, rfl⟩
  have hf : (cfg0.win 11).flush t = true := (flush0_11 t).mpr (by rw [ht])
  have hb := congrFun ((dats m 0 c).read_blk_arrAt_eq_flushed 11 (fun t t' ht ht' hne => absurd (Fin.ext (by
    have h1 := (flush0_11 t).mp ht
    have h2 := (flush0_11 t').mp ht'
    have h3 := lt_of_lt_of_eq t.isLt N_0
    have h4 := lt_of_lt_of_eq t'.isLt N_0
    omega)) hne) cfg0.N t t.isLt hf) (ix2 0 d)
  rw [flushed11] at hb
  refine (Eq.trans ?_ hb).trans (Eq.trans ?_ ((gain_out m c d t.val t.isLt).trans (part_all _ _ _ (by rw [ht]))))
  · blk_ext! [at_11 t]
  · rfl

theorem scale_res (d : Fin 1024) : (dats m 0 c).arrAt 12 cfg0.N (ix2 0 d) = ∑ i, sterm m c d i := by
  obtain ⟨t, ht⟩ : ∃ t : Fin cfg0.N, t.val = 15 := ⟨⟨15, last⟩, rfl⟩
  have hf : (cfg0.win 12).flush t = true := (flush0_12 t).mpr (by rw [ht])
  have hb := congrFun ((dats m 0 c).read_blk_arrAt_eq_flushed 12 (fun t t' ht ht' hne => absurd (Fin.ext (by
    have h1 := (flush0_12 t).mp ht
    have h2 := (flush0_12 t').mp ht'
    have h3 := lt_of_lt_of_eq t.isLt N_0
    have h4 := lt_of_lt_of_eq t'.isLt N_0
    omega)) hne) cfg0.N t t.isLt hf) (ix2 0 d)
  rw [flushed12] at hb
  refine (Eq.trans ?_ hb).trans (Eq.trans ?_ ((scale_out m c d t.val t.isLt).trans (part_all _ _ _ (by rw [ht]))))
  · blk_ext! [at_12 t]
  · rfl

theorem shift_res (d : Fin 1024) : (dats m 0 c).arrAt 13 cfg0.N (ix2 0 d) = ∑ i, hterm m c d i := by
  obtain ⟨t, ht⟩ : ∃ t : Fin cfg0.N, t.val = 15 := ⟨⟨15, last⟩, rfl⟩
  have hf : (cfg0.win 13).flush t = true := (flush0_13 t).mpr (by rw [ht])
  have hb := congrFun ((dats m 0 c).read_blk_arrAt_eq_flushed 13 (fun t t' ht ht' hne => absurd (Fin.ext (by
    have h1 := (flush0_13 t).mp ht
    have h2 := (flush0_13 t').mp ht'
    have h3 := lt_of_lt_of_eq t.isLt N_0
    have h4 := lt_of_lt_of_eq t'.isLt N_0
    omega)) hne) cfg0.N t t.isLt hf) (ix2 0 d)
  rw [flushed13] at hb
  refine (Eq.trans ?_ hb).trans (Eq.trans ?_ ((shift_out m c d t.val t.isLt).trans (part_all _ _ _ (by rw [ht]))))
  · blk_ext! [at_13 t]
  · rfl

theorem input_res (i : Fin 4096) (d : Fin 1024) : (dats m 0 c).arrAt 10 cfg0.N (ix2 i d)
    = NormGrad.input (rrow m c i) (yrow m c i) (xrow m c i) (grow m c) (srow m c) d := by
  have ht : i.val / 256 < cfg0.N := lt_of_lt_of_eq (by omega) N_0.symm
  have hp : pos ⟨i.val / 256, ht⟩ ⟨i.val % 256, by omega⟩ = i := Fin.ext (by show 256 * (i.val / 256) + i.val % 256 = i.val; omega)
  have hb := congrFun (blocks10 m c ⟨i.val / 256, ht⟩ (flush0_10 _)) (ix2 ⟨i.val % 256, by omega⟩ d)
  rw [flushed10] at hb
  refine (Eq.trans ?_ hb).trans ((input_out m c ⟨i.val / 256, ht⟩ ⟨i.val % 256, by omega⟩ d).trans ?_)
  · blk_ext! [at_10 ⟨i.val / 256, ht⟩]
  · rw [hp]

theorem side_res (i : Fin 4096) (n : Fin 3456) : (dats m 0 c).arrAt 14 cfg0.N (ix2 i n)
    = side (ct0 m c) (ct1 m c) (ct2 m c) (ct3 m c) i n := by
  have ht : i.val / 256 < cfg0.N := lt_of_lt_of_eq (by omega) N_0.symm
  have hp : pos ⟨i.val / 256, ht⟩ ⟨i.val % 256, by omega⟩ = i := Fin.ext (by show 256 * (i.val / 256) + i.val % 256 = i.val; omega)
  have hb := congrFun (blocks14 m c ⟨i.val / 256, ht⟩ (flush0_14 _)) (ix2 ⟨i.val % 256, by omega⟩ n)
  rw [flushed14] at hb
  refine (Eq.trans ?_ hb).trans ((side_out m c ⟨i.val / 256, ht⟩ ⟨i.val % 256, by omega⟩ n).trans ?_)
  · blk_ext! [at_14 ⟨i.val / 256, ht⟩]
  · rw [hp]

end Cert.ProjDxIdeal.Out

namespace Cert.ProjDxRefIdeal.Out

open Idealize.ShloMosaic Cert.ProjDxRefIdeal Cert.ProjDxRefIdeal.Read
open Cert.ProjDxIdeal.Out (side prod)

variable (x0 : Vec Ideal S4096x256 .f32) (x1 : Vec Ideal S4096x2560 .f32) (x2 : Vec Ideal S4096x512 .f32) (x3 : Vec Ideal S4096x128 .f32) (x4 : Vec Ideal S1024x3456 .bf16) (x5 : Vec Ideal S4096x1024 .f32)
  (x6 x7 : Vec Ideal S1x1024 .f32) (x9 : Vec Ideal S4096x1024 .f32)

theorem side_ref (i : Fin 4096) (n : Fin 3456) : val_main_v27 (F := Ideal) x0 x1 x2 x3 (ix2 i n) = side x0 x1 x2 x3 i n := by
  pointwise [val_main_v27]
  rfl

theorem prod_ref (i : Fin 4096) (d : Fin 1024) : val_main_v28 (F := Ideal) x0 x1 x2 x3 x4 (ix2 i d) = prod x0 x1 x2 x3 x4 i d := by
  unfold prod
  simp only [← side_ref]
  pointwise [val_main_v28, val_main_v21]

theorem input_ref (i : Fin 4096) (d : Fin 1024) : val_main_v55 (F := Ideal) x0 x1 x2 x3 x4 x5 x6 x7 x9 (ix2 i d)
    = NormGrad.input (fun k => x9 (ix2 i k)) (fun k => prod x0 x1 x2 x3 x4 i k) (fun k => x5 (ix2 i k)) (fun k => x6 (ix2 0 k)) (fun k => x7 (ix2 0 k)) d := by
  simp only [← prod_ref]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_cst_7, val_main_v42, val_main_v43, val_main_v44, val_main_v45, val_main_v46, val_main_cst_8, val_main_v47, val_main_v48, val_main_cst_9, val_main_v49, val_main_v50, val_main_v51, val_main_v52, val_main_v53, val_main_v54, val_main_v55, val_main_v56, val_main_v57]
  rfl

theorem gain_ref (d : Fin 1024) : val_main_v38 (F := Ideal) x0 x1 x2 x3 x4 x5 x7 (ix2 0 d)
    = ∑ i, NormGrad.gain (fun k => prod x0 x1 x2 x3 x4 i k) (fun k => x5 (ix2 i k)) (fun k => x7 (ix2 0 k)) d := by
  simp only [← prod_ref]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_cst_7, val_main_v42, val_main_v43, val_main_v44, val_main_v45, val_main_v46, val_main_cst_8, val_main_v47, val_main_v48, val_main_cst_9, val_main_v49, val_main_v50, val_main_v51, val_main_v52, val_main_v53, val_main_v54, val_main_v55, val_main_v56, val_main_v57]
  rfl

theorem scale_ref (d : Fin 1024) : val_main_v33 (F := Ideal) x0 x1 x2 x3 x4 x5 x6 (ix2 0 d)
    = ∑ i, NormGrad.scale (fun k => prod x0 x1 x2 x3 x4 i k) (fun k => x5 (ix2 i k)) (fun k => x6 (ix2 0 k)) d := by
  simp only [← prod_ref]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_cst_7, val_main_v42, val_main_v43, val_main_v44, val_main_v45, val_main_v46, val_main_cst_8, val_main_v47, val_main_v48, val_main_cst_9, val_main_v49, val_main_v50, val_main_v51, val_main_v52, val_main_v53, val_main_v54, val_main_v55, val_main_v56, val_main_v57]
  rfl

theorem shift_ref (d : Fin 1024) : val_main_v30 (F := Ideal) x0 x1 x2 x3 x4 (ix2 0 d) = ∑ i, prod x0 x1 x2 x3 x4 i d := by
  simp only [← prod_ref]
  pointwise [val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_cst_3, val_main_v15, val_main_v16, val_main_v17, val_main_v18, val_main_v19, val_main_v20, val_main_v21, val_main_v22, val_main_v23, val_main_v24, val_main_v25, val_main_v26, val_main_v27, val_main_cst_4, val_main_v29, val_main_v30, val_main_v31, val_main_cst_5, val_main_v32, val_main_v33, val_main_v34, val_main_v35, val_main_v36, val_main_cst_6, val_main_v37, val_main_v38, val_main_v39, val_main_v40, val_main_v41, val_main_cst_7, val_main_v42, val_main_v43, val_main_v44, val_main_v45, val_main_v46, val_main_cst_8, val_main_v47, val_main_v48, val_main_cst_9, val_main_v49, val_main_v50, val_main_v51, val_main_v52, val_main_v53, val_main_v54, val_main_v55, val_main_v56, val_main_v57]

theorem sides_ref (i : Fin 4096) (n : Fin 3456) : val_main_v57 (F := Ideal) x0 x1 x2 x3 (ix2 i n) = side x0 x1 x2 x3 i n := by
  pointwise [val_main_v57, val_main_v56]
  rfl

end Cert.ProjDxRefIdeal.Out

namespace Cert.Proof

open Idealize.ShloMosaic Idealize.ShloMosaic.TcCoe Idealize.SL.Sem

theorem frame_projDxRef : Cert.quiescent_ProjDxRefIdeal := fun m ρ _ =>
  (θ_run Cert.ProjDxRefIdeal.defs _ _).mono
    (fun _ h => ⟨fun c => (h c).2.2.2.2.2, sem_eq_zero_of_no_sems (by decide) _⟩) (Cert.ProjDxRefIdeal.Value.run (F := Ideal) m ρ)

theorem algebraic_projDx : Cert.algebraic_ProjDxIdeal_ProjDxRefIdeal := by
  intro m ρ m' ρ' _ hargs
  refine ⟨_, _, _, _, _, Cert.ProjDxIdeal.Value.run_blocks (F := Ideal) m ρ,
    (θ_run Cert.ProjDxRefIdeal.defs _ _).mono (fun r H c => ?_) (Cert.ProjDxRefIdeal.Value.run (F := Ideal) m' ρ')⟩
  obtain ⟨h0, h1, h2, h3, h4, hk⟩ := H c
  obtain ⟨e0, e1, e2, e3, e4, e5, e6, e7, e8, e9⟩ := hargs c
  refine ⟨h0.trans ?_, h1.trans ?_, h2.trans ?_, h3.trans ?_, h4.trans ?_, hk⟩
  · refine Eq.trans (Cert.ProjDxRefIdeal.Read.val_main_v55_eq m' c) (funext fun i => ?_)
    rw [e0, e1, e2, e3, e4, e5, e6, e7, e9, eq_ix2 i]
    exact (Cert.ProjDxRefIdeal.Out.input_ref _ _ _ _ _ _ _ _ _ (i 0) (i 1)).trans (Cert.ProjDxIdeal.Out.input_res m c (i 0) (i 1)).symm
  · refine Eq.trans (Cert.ProjDxRefIdeal.Read.val_main_v38_eq _ _ _ _ _ _ _) (funext fun i => ?_)
    rw [e0, e1, e2, e3, e4, e5, e7, show i = ix2 (0 : Fin 1) (i 1 : Fin 1024) from (eq_ix2 i).trans (Blocked.ix2_of (Nat.lt_one_iff.mp (i 0).isLt) rfl)]
    exact (Cert.ProjDxRefIdeal.Out.gain_ref _ _ _ _ _ _ _ (i 1)).trans (Cert.ProjDxIdeal.Out.gain_res m c (i 1)).symm
  · refine Eq.trans (Cert.ProjDxRefIdeal.Read.val_main_v33_eq _ _ _ _ _ _ _) (funext fun i => ?_)
    rw [e0, e1, e2, e3, e4, e5, e6, show i = ix2 (0 : Fin 1) (i 1 : Fin 1024) from (eq_ix2 i).trans (Blocked.ix2_of (Nat.lt_one_iff.mp (i 0).isLt) rfl)]
    exact (Cert.ProjDxRefIdeal.Out.scale_ref _ _ _ _ _ _ _ (i 1)).trans (Cert.ProjDxIdeal.Out.scale_res m c (i 1)).symm
  · refine Eq.trans (Cert.ProjDxRefIdeal.Read.val_main_v30_eq _ _ _ _ _) (funext fun i => ?_)
    rw [e0, e1, e2, e3, e4, show i = ix2 (0 : Fin 1) (i 1 : Fin 1024) from (eq_ix2 i).trans (Blocked.ix2_of (Nat.lt_one_iff.mp (i 0).isLt) rfl)]
    exact (Cert.ProjDxRefIdeal.Out.shift_ref _ _ _ _ _ (i 1)).trans (Cert.ProjDxIdeal.Out.shift_res m c (i 1)).symm
  · refine Eq.trans (Cert.ProjDxRefIdeal.Read.val_main_v57_eq _ _ _ _) (funext fun i => ?_)
    rw [e0, e1, e2, e3, eq_ix2 i]
    exact (Cert.ProjDxRefIdeal.Out.sides_ref _ _ _ _ (i 0) (i 1)).trans (Cert.ProjDxIdeal.Out.side_res m c (i 0) (i 1)).symm

end Cert.Proof

end
-- ==== Proof.RunFfnoutDx.lean ====
/-
  The run of the gradient of the gated unit: each point forms a half of the gates' and of the products' gradients of its
  block of rows; the first half also scales the rows' gradient and adds the block's part of the scale's gradient.
-/
module

public import proofs.«01_k».proof.Proof.Gen.FfnoutDxIdeal.Frame
public import proofs.«01_k».proof.Proof.Gen.FfnoutDxIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.FfnoutDxIdeal.Hand

open Cert.FfnoutDxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point sets the scale's gradient to its own block's part. -/
theorem body_first (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1408 .f32) (harg4 : arg4.IsWhole) (arg5 : Memref sig .tc .vmem S512x1408 .f32) (harg5 : arg5.IsWhole) (arg6 : Memref sig .tc .vmem S1x1024 .f32) (harg6 : arg6.IsWhole) (arg7 : Memref sig .tc .vmem S1x1408x1024 .bf16) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S1x1024 .f32) (harg11 : arg11.IsWhole)
    (hc1 : k0_cond1 i = 1#1) (hc2 : k0_cond2 i = 1#1) (hc3 : k0_cond3 i = 1#1)
    (x0 : Vec F S512x1024 .f32) (x1 : Vec F S512x1024 .f32) (x2 : Vec F S512x1408 .f32) (x3 : Vec F S512x1408 .f32) (x4 : Vec F S1x1024 .f32) (x5 : Vec F S1x1408x1024 .bf16) (x6 : Vec F S512x1024 .bf16) (x9 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d) ∗ owns (c : Thread nD τ) arg11 fullShare x9
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay3 x0 x4) ∗ owns (c : Thread nD τ) arg9 fullShare (k0_pay6 x0 x4 x5 x2 x3) ∗ owns (c : Thread nD τ) arg10 fullShare (k0_pay7 x0 x4 x5 x2) ∗ owns (c : Thread nD τ) arg11 fullShare (k0_pay2 x0 k0_pay1 x1)) -∗ K ⟨⟩))
      ⊢ wp frame (wpE (defs₀ (F := F)) Variants.none c none) E (cc0_ffnout_bwd_3 i arg2 harg2 arg3 harg3 arg4 harg4 arg5 harg5 arg6 harg6 arg7 harg7 arg8 harg8 arg9 harg9 arg10 harg10 arg11 harg11) K := by
  simp only [cc0_ffnout_bwd_3_eq_skeleton]; unfold cc0_ffnout_bwd_3_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg11.eq_unread hf9
  have hx0 := (View.readAt_full arg2.view (harg2.unread x0) inb_S512x1024_S512x1024_0_0).trans hf0
  have hx1 := (View.readAt_full arg3.view (harg3.unread x1) inb_S512x1024_S512x1024_0_0).trans hf1
  have hx2 := (View.readAt_full arg4.view (harg4.unread x2) inb_S512x1408_S512x1408_0_0).trans hf2
  have hx3 := (View.readAt_full arg5.view (harg5.unread x3) inb_S512x1408_S512x1408_0_0).trans hf3
  have hx4 := (View.readAt_full arg6.view (harg6.unread x4) inb_S1x1024_S1x1024_0_0).trans hf4
  have hx5 := (View.readAt_full arg7.view (harg7.unread x5) inb_S1x1408x1024_S1x1408x1024_0_0_0).trans hf5
  have hx6 := (View.readAt_full arg8.view (harg8.unread x6) inb_S512x1024_S512x1024_0_0).trans hf6
  have hx9 := (View.readAt_full arg11.view (harg11.unread x9) inb_S1x1024_S1x1024_0_0).trans hf9
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_full arg8.view _ inb_S512x1024_S512x1024_0_0]
  isplitl [H7]
  · iexists _; isplitr
    swap; · iexact H7
    ipureintro
    rw [View.read_writes_full arg9.view _ inb_S512x1408_S512x1408_0_0]
  isplitl [H8]
  · iexists _; isplitr
    swap; · iexact H8
    ipureintro
    rw [View.read_writes_full arg10.view _ inb_S512x1408_S512x1408_0_0]
  iexists _; isplitr
  swap; · iexact H9
  ipureintro
  rw [View.read_writes_full arg11.view _ inb_S1x1024_S1x1024_0_0]
  unfold body_first.sl.v36
  refine congrArg (fun s => k0_pay2 x0 s x1) ?_
  unfold View.readCov body_first.sl.H9_1
  rw [View.readAt_full arg11.view _ inb_S1x1024_S1x1024_0_0, View.read_writes_full arg11.view _ inb_S1x1024_S1x1024_0_0]

/-- The first half of a later block adds the block's part to the scale's gradient. -/
theorem body_even (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1408 .f32) (harg4 : arg4.IsWhole) (arg5 : Memref sig .tc .vmem S512x1408 .f32) (harg5 : arg5.IsWhole) (arg6 : Memref sig .tc .vmem S1x1024 .f32) (harg6 : arg6.IsWhole) (arg7 : Memref sig .tc .vmem S1x1408x1024 .bf16) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S1x1024 .f32) (harg11 : arg11.IsWhole)
    (hc1 : k0_cond1 i = 1#1) (hc2 : ¬k0_cond2 i = 1#1) (hc3 : k0_cond3 i = 1#1)
    (x0 : Vec F S512x1024 .f32) (x1 : Vec F S512x1024 .f32) (x2 : Vec F S512x1408 .f32) (x3 : Vec F S512x1408 .f32) (x4 : Vec F S1x1024 .f32) (x5 : Vec F S1x1408x1024 .bf16) (x6 : Vec F S512x1024 .bf16) (x9 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d) ∗ owns (c : Thread nD τ) arg11 fullShare x9
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay3 x0 x4) ∗ owns (c : Thread nD τ) arg9 fullShare (k0_pay6 x0 x4 x5 x2 x3) ∗ owns (c : Thread nD τ) arg10 fullShare (k0_pay7 x0 x4 x5 x2) ∗ owns (c : Thread nD τ) arg11 fullShare (k0_pay2 x0 x9 x1)) -∗ K ⟨⟩))
      ⊢ wp frame (wpE (defs₀ (F := F)) Variants.none c none) E (cc0_ffnout_bwd_3 i arg2 harg2 arg3 harg3 arg4 harg4 arg5 harg5 arg6 harg6 arg7 harg7 arg8 harg8 arg9 harg9 arg10 harg10 arg11 harg11) K := by
  simp only [cc0_ffnout_bwd_3_eq_skeleton]; unfold cc0_ffnout_bwd_3_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg11.eq_unread hf9
  have hx0 := (View.readAt_full arg2.view (harg2.unread x0) inb_S512x1024_S512x1024_0_0).trans hf0
  have hx1 := (View.readAt_full arg3.view (harg3.unread x1) inb_S512x1024_S512x1024_0_0).trans hf1
  have hx2 := (View.readAt_full arg4.view (harg4.unread x2) inb_S512x1408_S512x1408_0_0).trans hf2
  have hx3 := (View.readAt_full arg5.view (harg5.unread x3) inb_S512x1408_S512x1408_0_0).trans hf3
  have hx4 := (View.readAt_full arg6.view (harg6.unread x4) inb_S1x1024_S1x1024_0_0).trans hf4
  have hx5 := (View.readAt_full arg7.view (harg7.unread x5) inb_S1x1408x1024_S1x1408x1024_0_0_0).trans hf5
  have hx6 := (View.readAt_full arg8.view (harg8.unread x6) inb_S512x1024_S512x1024_0_0).trans hf6
  have hx9 := (View.readAt_full arg11.view (harg11.unread x9) inb_S1x1024_S1x1024_0_0).trans hf9
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_full arg8.view _ inb_S512x1024_S512x1024_0_0]
  isplitl [H7]
  · iexists _; isplitr
    swap; · iexact H7
    ipureintro
    rw [View.read_writes_full arg9.view _ inb_S512x1408_S512x1408_0_0]
  isplitl [H8]
  · iexists _; isplitr
    swap; · iexact H8
    ipureintro
    rw [View.read_writes_full arg10.view _ inb_S512x1408_S512x1408_0_0]
  iexists _; isplitr
  swap; · iexact H9
  ipureintro
  rw [View.read_writes_full arg11.view _ inb_S1x1024_S1x1024_0_0]

/-- The second half of a block leaves the rows' gradient and the scale's. -/
theorem body_odd (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S512x1408 .f32) (harg4 : arg4.IsWhole) (arg5 : Memref sig .tc .vmem S512x1408 .f32) (harg5 : arg5.IsWhole) (arg6 : Memref sig .tc .vmem S1x1024 .f32) (harg6 : arg6.IsWhole) (arg7 : Memref sig .tc .vmem S1x1408x1024 .bf16) (harg7 : arg7.IsWhole) (arg8 : Memref sig .tc .vmem S512x1024 .bf16) (harg8 : arg8.IsWhole) (arg9 : Memref sig .tc .vmem S512x1408 .bf16) (harg9 : arg9.IsWhole) (arg10 : Memref sig .tc .vmem S512x1408 .bf16) (harg10 : arg10.IsWhole) (arg11 : Memref sig .tc .vmem S1x1024 .f32) (harg11 : arg11.IsWhole)
    (hc1 : ¬k0_cond1 i = 1#1) (hc2 : ¬k0_cond2 i = 1#1) (hc3 : ¬k0_cond3 i = 1#1)
    (x0 : Vec F S512x1024 .f32) (x1 : Vec F S512x1024 .f32) (x2 : Vec F S512x1408 .f32) (x3 : Vec F S512x1408 .f32) (x4 : Vec F S1x1024 .f32) (x5 : Vec F S1x1408x1024 .bf16) (x6 : Vec F S512x1024 .bf16) (x9 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ (∃ d, owns (c : Thread nD τ) arg9 fullShare d) ∗ (∃ d, owns (c : Thread nD τ) arg10 fullShare d) ∗ owns (c : Thread nD τ) arg11 fullShare x9
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare (k0_pay6 x0 x4 x5 x2 x3) ∗ owns (c : Thread nD τ) arg10 fullShare (k0_pay7 x0 x4 x5 x2) ∗ owns (c : Thread nD τ) arg11 fullShare x9) -∗ K ⟨⟩))
      ⊢ wp frame (wpE (defs₀ (F := F)) Variants.none c none) E (cc0_ffnout_bwd_3 i arg2 harg2 arg3 harg3 arg4 harg4 arg5 harg5 arg6 harg6 arg7 harg7 arg8 harg8 arg9 harg9 arg10 harg10 arg11 harg11) K := by
  simp only [cc0_ffnout_bwd_3_eq_skeleton]; unfold cc0_ffnout_bwd_3_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg11.eq_unread hf9
  have hx0 := (View.readAt_full arg2.view (harg2.unread x0) inb_S512x1024_S512x1024_0_0).trans hf0
  have hx1 := (View.readAt_full arg3.view (harg3.unread x1) inb_S512x1024_S512x1024_0_0).trans hf1
  have hx2 := (View.readAt_full arg4.view (harg4.unread x2) inb_S512x1408_S512x1408_0_0).trans hf2
  have hx3 := (View.readAt_full arg5.view (harg5.unread x3) inb_S512x1408_S512x1408_0_0).trans hf3
  have hx4 := (View.readAt_full arg6.view (harg6.unread x4) inb_S1x1024_S1x1024_0_0).trans hf4
  have hx5 := (View.readAt_full arg7.view (harg7.unread x5) inb_S1x1408x1024_S1x1408x1024_0_0_0).trans hf5
  have hx6 := (View.readAt_full arg8.view (harg8.unread x6) inb_S512x1024_S512x1024_0_0).trans hf6
  have hx9 := (View.readAt_full arg11.view (harg11.unread x9) inb_S1x1024_S1x1024_0_0).trans hf9
  sl_exec (disch := first | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    rw [View.read_writes_full arg9.view _ inb_S512x1408_S512x1408_0_0]
  isplitl [H8]
  · iexists _; isplitr
    swap; · iexact H8
    ipureintro
    rw [View.read_writes_full arg10.view _ inb_S512x1408_S512x1408_0_0]
  iexists _; isplitr; · ipureintro; exact harg11.read_unread _
  iexact H9

variable (m : (ℓ : Loc nD τ sig) → Buf (Elt F) ℓ) (ρ : Dev nD → PrngReg)

/-! ## The points -/

/-- The first half of a block is an even point. -/
theorem cond1_iff : ∀ t : Fin cfg0.N, k0_cond1 (grid0.coords t) = 1#1 ↔ t.val % 2 = 0 :=
  (fun t => by
    have ht : t.val < 16 := Nat.lt_of_lt_of_eq t.isLt N_0
    have e1 : (grid0.coords t 1).val = t.val / 1 % 2 := Pipeline.Grid.coords_val t 1 (by decide) rfl
    simp only [k0_cond1, e1]
    word_cmp
   : ∀ t : Fin grid0.N, k0_cond1 (grid0.coords t) = 1#1 ↔ t.val % 2 = 0)

theorem cond3_iff : ∀ t : Fin cfg0.N, k0_cond3 (grid0.coords t) = 1#1 ↔ t.val % 2 = 0 := cond1_iff

/-- The scale's gradient begins at the first point. -/
theorem cond2_iff : ∀ t : Fin cfg0.N, k0_cond2 (grid0.coords t) = 1#1 ↔ t.val = 0 :=
  (by decide +kernel : ∀ t : Fin grid0.N, k0_cond2 (grid0.coords t) = 1#1 ↔ t.val = 0)

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_7 : ∀ t : Fin cfg0.N, cfg0.idle 7 (grid0.coords t) = false := fun _ => rfl
theorem live_8 : ∀ t : Fin cfg0.N, cfg0.idle 8 (grid0.coords t) = false := fun _ => rfl
/-- The rows' gradient and the scale's are stored into exactly at the even points. -/
theorem live_6 : ∀ t : Fin cfg0.N, t.val % 2 = 0 → cfg0.idle 6 (grid0.coords t) = false := by decide +kernel
theorem idle_6 : ∀ t : Fin cfg0.N, ¬t.val % 2 = 0 → cfg0.idle 6 (grid0.coords t) = true := by decide +kernel
theorem live_9 : ∀ t : Fin cfg0.N, t.val % 2 = 0 → cfg0.idle 9 (grid0.coords t) = false := by decide +kernel
theorem idle_9 : ∀ t : Fin cfg0.N, ¬t.val % 2 = 0 → cfg0.idle 9 (grid0.coords t) = true := by decide +kernel
theorem fresh_6 : ∀ t : Fin cfg0.N, ¬t.val % 2 = 0 → cfg0.fresh 6 t.val = false := by decide +kernel
theorem fresh_9 : ∀ t : Fin cfg0.N, ¬t.val = 0 → cfg0.fresh 9 t.val = false := by decide +kernel

/-! ## What the buffers hold -/

/-- The even point of the block of rows `n`. -/
abbrev pt (n : ℕ) : Fin cfg0.N := ⟨2 * (n % 8), Nat.lt_of_lt_of_eq (by omega : 2 * (n % 8) < 16) N_0.symm⟩

theorem pt_even (t : Fin cfg0.N) (h : t.val % 2 = 0) : pt (t.val / 2) = t := by
  have ht : t.val < 16 := Nat.lt_of_lt_of_eq t.isLt N_0
  exact Fin.ext (by show 2 * (t.val / 2 % 8) = t.val; omega)

/-- The scale's gradient after the block of rows `n`. -/
def acc (c : Dev nD) : ℕ → Vec F S1x1024 .f32
  | 0 => k0_pay2 (iblk m c 0 (pt 0)) k0_pay1 (iblk m c 1 (pt 0))
  | n + 1 => k0_pay2 (iblk m c 0 (pt (n + 1))) (acc c n) (iblk m c 1 (pt (n + 1)))

theorem acc_zero (c : Dev nD) : acc m c 0 = k0_pay2 (iblk m c 0 (pt 0)) k0_pay1 (iblk m c 1 (pt 0)) := rfl
theorem acc_succ (c : Dev nD) (n : ℕ) : acc m c (n + 1) = k0_pay2 (iblk m c 0 (pt (n + 1))) (acc m c n) (iblk m c 1 (pt (n + 1))) := rfl

/-- The rows' gradient, scaled, of the block of rows `n`. -/
abbrev scaled (c : Dev nD) (n : ℕ) : Vec F S512x1024 .bf16 := k0_pay3 (iblk m c 0 (pt n)) (iblk m c 4 (pt n))

/-! ## The proof data -/

/-- The windows' contents after each point: an input's block; the block's scaled gradient; the halves of the gates' and of
    the products' gradients; the scale's gradient so far. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => scaled m c (t.val / 2)
    | ⟨7, _⟩ => k0_pay6 (iblk m c 0 t) (iblk m c 4 t) (iblk m c 5 t) (iblk m c 2 t) (iblk m c 3 t)
    | ⟨8, _⟩ => k0_pay7 (iblk m c 0 t) (iblk m c 4 t) (iblk m c 5 t) (iblk m c 2 t)
    | ⟨9, _⟩ => acc m c (t.val / 2)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = scaled m c (t.val / 2) := by dsimp only [dats]
theorem after_7 (c : Dev nD) (t : Fin cfg0.N) : (dats m 0 c).after 7 t = k0_pay6 (iblk m c 0 t) (iblk m c 4 t) (iblk m c 5 t) (iblk m c 2 t) (iblk m c 3 t) := by dsimp only [dats]
theorem after_8 (c : Dev nD) (t : Fin cfg0.N) : (dats m 0 c).after 8 t = k0_pay7 (iblk m c 0 t) (iblk m c 4 t) (iblk m c 5 t) (iblk m c 2 t) := by dsimp only [dats]
theorem after_9 (c : Dev nD) (t : Fin cfg0.N) : (dats m 0 c).after 9 t = acc m c (t.val / 2) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- At an odd point the rows' gradient is still the block's. -/
theorem before_6 (c : Dev nD) (t : Fin cfg0.N) (ht : ¬t.val % 2 = 0) (d) : (dats m 0 c).before 6 t d = (dats m 0 c).after 6 t := by
  have carry : ∀ s : Fin cfg0.N, ¬s.val % 2 = 0 → (dats m 0 c).after 6 s = (dats m 0 c).after 6 ⟨s.val - 1, by omega⟩ := fun s hs => by
    rw [after_6, after_6]
    have e : s.val / 2 = (s.val - 1) / 2 := by omega
    show scaled m c (s.val / 2) = scaled m c ((s.val - 1) / 2)
    rw [e]
  refine ((dats m 0 c).before_out_traj 6 rfl (fun _ _ => rfl) (fun s h0 hi _ => carry s fun h8 => ?_) t.val t rfl d).trans ?_
  · exact Bool.false_ne_true ((live_6 s h8).symm.trans hi)
  · rw [fresh_6 t ht, if_neg Bool.false_ne_true]
    exact (carry t ht).symm

/-- After the first point the scale's gradient is the one of the point before. -/
theorem before_9 (c : Dev nD) (t : Fin cfg0.N) (ht : ¬t.val = 0) (d) : (dats m 0 c).before 9 t d = acc m c ((t.val - 1) / 2) := by
  have carry : ∀ s : Fin cfg0.N, ¬s.val % 2 = 0 → (dats m 0 c).after 9 s = (dats m 0 c).after 9 ⟨s.val - 1, by omega⟩ := fun s hs => by
    rw [after_9, after_9]
    have e : s.val / 2 = (s.val - 1) / 2 := by omega
    show acc m c (s.val / 2) = acc m c ((s.val - 1) / 2)
    rw [e]
  refine ((dats m 0 c).before_out_traj 9 rfl (fun _ _ => rfl) (fun s h0 hi _ => carry s fun h8 => ?_) t.val t rfl d).trans ?_
  · exact Bool.false_ne_true ((live_9 s h8).symm.trans hi)
  · rw [fresh_9 t ht, if_neg Bool.false_ne_true]
    exact after_9 m c _

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point, from what the pipeline hands it to what the proof data state. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.succ = (dats m 0 c).Φ t.castSucc from rfl]
  rw [show (dats m 0 c).leavesExact 0 t = owns (c : Thread nD τ) (win0_0.stage (cfg0.slots t 0)) fullShare ((dats m 0 c).after 0 t) from by
    unfold Dat.leavesExact; rw [live_0 t], after_0]
  rw [show (dats m 0 c).leavesExact 1 t = owns (c : Thread nD τ) (win0_1.stage (cfg0.slots t 1)) fullShare ((dats m 0 c).after 1 t) from by
    unfold Dat.leavesExact; rw [live_1 t], after_1]
  rw [show (dats m 0 c).leavesExact 2 t = owns (c : Thread nD τ) (win0_2.stage (cfg0.slots t 2)) fullShare ((dats m 0 c).after 2 t) from by
    unfold Dat.leavesExact; rw [live_2 t], after_2]
  rw [show (dats m 0 c).leavesExact 3 t = owns (c : Thread nD τ) (win0_3.stage (cfg0.slots t 3)) fullShare ((dats m 0 c).after 3 t) from by
    unfold Dat.leavesExact; rw [live_3 t], after_3]
  rw [show (dats m 0 c).leavesExact 4 t = owns (c : Thread nD τ) (win0_4.stage (cfg0.slots t 4)) fullShare ((dats m 0 c).after 4 t) from by
    unfold Dat.leavesExact; rw [live_4 t], after_4]
  rw [show (dats m 0 c).leavesExact 5 t = owns (c : Thread nD τ) (win0_5.stage (cfg0.slots t 5)) fullShare ((dats m 0 c).after 5 t) from by
    unfold Dat.leavesExact; rw [live_5 t], after_5]
  rw [show (dats m 0 c).leavesExact 7 t = owns (c : Thread nD τ) (win0_7.stage (cfg0.slots t 7)) fullShare ((dats m 0 c).after 7 t) from by
    unfold Dat.leavesExact; rw [live_7 t], after_7]
  rw [show (dats m 0 c).leavesExact 8 t = owns (c : Thread nD τ) (win0_8.stage (cfg0.slots t 8)) fullShare ((dats m 0 c).after 8 t) from by
    unfold Dat.leavesExact; rw [live_8 t], after_8]
  have ht : t.val < 16 := Nat.lt_of_lt_of_eq t.isLt N_0
  by_cases h2 : t.val % 2 = 0
  · have ep := pt_even t h2
    rw [show (dats m 0 c).leavesExact 6 t = owns (c : Thread nD τ) (win0_6.stage (cfg0.slots t 6)) fullShare ((dats m 0 c).after 6 t) from by
      unfold Dat.leavesExact; rw [live_6 t h2], after_6]
    rw [show (dats m 0 c).leavesExact 9 t = owns (c : Thread nD τ) (win0_9.stage (cfg0.slots t 9)) fullShare ((dats m 0 c).after 9 t) from by
      unfold Dat.leavesExact; rw [live_9 t h2], after_9]
    unfold scaled
    rw [ep]
    by_cases h0 : t.val = 0
    · have e9 : acc m c (t.val / 2) = k0_pay2 (iblk m c 0 t) k0_pay1 (iblk m c 1 t) := by
        have e0 : pt 0 = t := Fin.ext (by show 2 * (0 % 8) = t.val; omega)
        rw [show t.val / 2 = 0 by omega, acc_zero, e0]
      rw [e9]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) ((cond1_iff t).2 h2) ((cond2_iff t).2 h0) ((cond3_iff t).2 h2) (iblk m c 0 t) (iblk m c 1 t) (iblk m c 2 t) (iblk m c 3 t) (iblk m c 4 t) (iblk m c 5 t) ((dats m 0 c).before 6 t d6) ((dats m 0 c).before 9 t d9) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have e9 : acc m c (t.val / 2) = k0_pay2 (iblk m c 0 t) (acc m c ((t.val - 1) / 2)) (iblk m c 1 t) := by
        have es : t.val / 2 = (t.val - 1) / 2 + 1 := by omega
        have e1 : pt ((t.val - 1) / 2 + 1) = t := by rw [← es]; exact ep
        rw [es, acc_succ, e1]
      rw [e9]
      simp only [before_9 m c t h0]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_even c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) ((cond1_iff t).2 h2) (fun h => h0 ((cond2_iff t).1 h)) ((cond3_iff t).2 h2) (iblk m c 0 t) (iblk m c 1 t) (iblk m c 2 t) (iblk m c 3 t) (iblk m c 4 t) (iblk m c 5 t) ((dats m 0 c).before 6 t d6) (acc m c ((t.val - 1) / 2)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have h0 : ¬t.val = 0 := by omega
    have b9 : ∀ d, (dats m 0 c).before 9 t d = (dats m 0 c).after 9 t := fun d => by
      rw [before_9 m c t h0, after_9, show (t.val - 1) / 2 = t.val / 2 by omega]
    have l6 : (dats m 0 c).leavesExact 6 t = owns (c : Thread nD τ) (win0_6.stage (cfg0.slots t 6)) fullShare ((dats m 0 c).after 6 t)
        ∨ (dats m 0 c).leavesExact 6 t = iprop(∃ d, owns (c : Thread nD τ) (win0_6.stage (cfg0.slots t 6)) fullShare ((dats m 0 c).before 6 t d)) := by
      rcases hf : (cfg0.win 6).flush t with _ | _
      · exact .inr (Dat.leavesExact_idle _ 6 t (idle_6 t h2) hf)
      · refine .inl ?_
        unfold Dat.leavesExact; rw [idle_6 t h2, hf]
    have l9 : (dats m 0 c).leavesExact 9 t = owns (c : Thread nD τ) (win0_9.stage (cfg0.slots t 9)) fullShare ((dats m 0 c).after 9 t)
        ∨ (dats m 0 c).leavesExact 9 t = iprop(∃ d, owns (c : Thread nD τ) (win0_9.stage (cfg0.slots t 9)) fullShare ((dats m 0 c).before 9 t d)) := by
      rcases hf : (cfg0.win 9).flush t with _ | _
      · exact .inr (Dat.leavesExact_idle _ 9 t (idle_9 t h2) hf)
      · refine .inl ?_
        unfold Dat.leavesExact; rw [idle_9 t h2, hf]
    simp only [before_6 m c t h2, b9] at l6 l9 ⊢
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_odd c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (fun h => h2 ((cond1_iff t).1 h)) (fun h => h0 ((cond2_iff t).1 h)) (fun h => h2 ((cond3_iff t).1 h)) (iblk m c 0 t) (iblk m c 1 t) (iblk m c 2 t) (iblk m c 3 t) (iblk m c 4 t) (iblk m c 5 t) ((dats m 0 c).after 6 t) ((dats m 0 c).after 9 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · rcases l6 with hl | hl
      · rw [hl]; iexact H6
      · rw [hl]; iexists d6; iexact H6
    isplitl [H7]; · iexact H7
    isplitl [H8]; · iexact H8
    rcases l9 with hl | hl
    · rw [hl]; iexact H9
    · rw [hl]; iexists d9; iexact H9

theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  exact triple_restated (sound_body m c t) rfl .rfl fun _ => .rfl

/-! ## The run and the frame -/

set_option backward.isDefEq.respectTransparency.types false in
/-- The run, with every counter at zero at the end. -/
theorem run_quiet : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The arguments end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.FfnoutDxIdeal.Hand

end
-- ==== Proof.GateGrad.lean ====
/-
  The gradient of a gate that multiplies its value by its own logistic, at finite values: the product in one piece is the sum of its two parts.
-/
module

public import proofs.«01_k».proof.Defs
public import Idealize.ShloMosaic.Lib.ReduceAll
public import Idealize.ShloMosaic.Lib.Affine
public import Idealize.ShloMosaic.PureOps.Ideal

@[expose] public section

noncomputable section

namespace Cert.GateGrad

open Idealize.ShloMosaic

/-- A value that is a real number. -/
def Tame (x : EReal) : Prop := max x (-x) < ⊤

theorem Tame.real {x : EReal} (h : Tame x) : ∃ r : ℝ, x = r := by
  have h1 : x ≠ ⊤ := fun e => by
    subst e
    exact lt_irrefl _ (lt_of_le_of_lt (le_max_left _ _) h)
  have h2 : x ≠ ⊥ := fun e => by
    subst e
    exact lt_irrefl _ (lt_of_le_of_lt (le_max_right _ _) h)
  exact ⟨x.toReal, (EReal.coe_toReal h1 h2).symm⟩

/-- A value's logistic. -/
def sg (a : EReal) : EReal := Ideal.div 1 (1 + Ideal.exp (-a))

theorem sg_coe (r : ℝ) : sg r = (((1 + Real.exp (-r))⁻¹ : ℝ) : EReal) := Ideal.logistic_coe r

/-- A finite sum of real numbers is one. -/
theorem sum_real {ι : Type} (s : Finset ι) (f : ι → EReal) (h : ∀ k, ∃ r : ℝ, f k = r) : ∃ r : ℝ, ∑ k ∈ s, f k = r := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

theorem mul_real {x y : EReal} (hx : ∃ r : ℝ, x = r) (hy : ∃ r : ℝ, y = r) : ∃ r : ℝ, x * y = r := by
  obtain ⟨p, rfl⟩ := hx
  obtain ⟨q, rfl⟩ := hy
  exact ⟨p * q, (EReal.coe_mul p q).symm⟩

/-- The gradient in one product and in two parts. -/
theorem parts {c a : EReal} (hc : ∃ r : ℝ, c = r) (ha : ∃ r : ℝ, a = r) :
    c * (sg a * (1 + a * (1 - sg a))) = c * sg a + a * c * (sg a * (1 - sg a)) := by
  obtain ⟨p, rfl⟩ := hc
  obtain ⟨q, rfl⟩ := ha
  rw [sg_coe]
  generalize (1 + Real.exp (-q))⁻¹ = s
  have h1 : (1 : EReal) - (s : EReal) = ((1 - s : ℝ) : EReal) := rfl
  rw [h1, ← EReal.coe_one]
  simp only [← EReal.coe_mul, ← EReal.coe_add]
  exact congrArg _ (by ring)

theorem inf_eq : Ideal.ofBits FTy.f32 0x7f800000#32 = ⊤ := by
  unfold Ideal.ofBits Ideal.ieee
  simp

/-- An entry that compares less than infinity is a real number. -/
theorem tame_of {x : EReal} (h : Ideal.cmp .olt (max x (-x)) (Ideal.ofBits FTy.f32 0x7f800000#32) = 1#1) : Tame x := by
  rw [inf_eq] at h
  by_contra hn
  unfold Ideal.cmp at h
  have hd : decide (max x (-x) < ⊤) = false := decide_eq_false hn
  simp only [hd] at h
  exact absurd h (by decide)

open Cert.Pre_finite in
/-- The precondition says of every entry that it is finite. -/
theorem of_all [Cert.Pre_finite.Facts] (x0 : FVec Ideal S4096x1024 .f32) (x1 : FVec Ideal S4096x5632 .f32) (x2 : FVec Ideal S1x1024 .f32) (x3 : FVec Ideal S2816x1024 .bf16)
    (h : ∀ i, Cert.Pre_finite.fn (F := Ideal) x0 x1 x2 x3 i = 1#1) :
    (∀ i, Tame (x0 i)) ∧ (∀ i, Tame (x1 i)) ∧ (∀ i, Tame (x2 i)) ∧ ∀ i, Tame (x3 i) := by
  have hh := h (fun a => a.elim0)
  unfold Cert.Pre_finite.fn Cert.Pre_finite.fn_part1 at hh
  dsimp only [andi] at hh
  obtain ⟨h012, h3⟩ := IntOp.andi_eq_one.1 hh
  obtain ⟨h01, h2⟩ := IntOp.andi_eq_one.1 h012
  obtain ⟨h0, h1⟩ := IntOp.andi_eq_one.1 h01
  haveI : Subsingleton S_.Idx := ⟨fun j j' => funext fun a => a.elim0⟩
  refine ⟨fun i => ?_, fun i => ?_, fun i => ?_, fun i => ?_⟩
  · exact tame_of (Host.reduce_andi_all _ _ _ _ _ h0 i)
  · exact tame_of (Host.reduce_andi_all _ _ _ _ _ h1 i)
  · exact tame_of (Host.reduce_andi_all _ _ _ _ _ h2 i)
  · exact tame_of (Host.reduce_andi_all _ _ _ _ _ h3 i)

end Cert.GateGrad

end
-- ==== Proof.DxFfnout.lean ====
/-
  The gradient of the feed-forward's gated product: what the kernel leaves, what the plain lines give, and that they are
  equal where every entry of the arguments is finite.
-/
module

public import proofs.«01_k».proof.Defs
public import proofs.«01_k».proof.Proof.RunFfnoutDx
public import proofs.«01_k».proof.Proof.Gen.FfnoutDx.Frame
public import proofs.«01_k».proof.Proof.Gen.FfnoutDxRefIdeal.Run
public import proofs.«01_k».proof.Proof.Gen.FfnoutDxRefIdeal.Read
public import proofs.«01_k».proof.Proof.Blocked
public import proofs.«01_k».proof.Proof.GateGrad
public import Idealize.ShloMosaic.Lib.Pointwise
public import Idealize.ShloMosaic.Lib.ReduceAll
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384
set_option maxHeartbeats 1000000

noncomputable section

namespace Cert.FfnoutDxIdeal.Out

open Idealize.ShloMosaic Idealize.ShloMosaic.TcCoe Idealize.SL.Sem
open Cert.FfnoutDxIdeal Cert.FfnoutDxIdeal.Gen Cert.FfnoutDxIdeal.Hand Cert.Blocked

/-! ## The payloads -/

theorem scaled_at (x : Vec Ideal S512x1024 .f32) (g : Vec Ideal S1x1024 .f32) (i : Fin 512) (d : Fin 1024) :
    k0_pay3 x g (ix2 i d) = x (ix2 i d) * g (ix2 0 d) := by
  pointwise [k0_pay3]

/-- The cotangent of the gated product. -/
theorem back_at (x : Vec Ideal S512x1024 .f32) (g : Vec Ideal S1x1024 .f32) (w : Vec Ideal S1x1408x1024 .bf16) (i : Fin 512) (k : Fin 1408) :
    k0_pay4 x g w (ix2 i k) = ∑ d, x (ix2 i d) * g (ix2 0 d) * w (ix3 0 k d) := by
  have e : k0_pay4 x g w (ix2 i k) = ∑ d, k0_pay3 x g (ix2 i d) * w (ix3 0 k d) := by pointwise [k0_pay4]
  exact e.trans (Finset.sum_congr rfl fun d _ => congrArg (· * w (ix3 0 k d)) (scaled_at x g i d))

theorem gate_at (x : Vec Ideal S512x1024 .f32) (g : Vec Ideal S1x1024 .f32) (w : Vec Ideal S1x1408x1024 .bf16) (a b : Vec Ideal S512x1408 .f32)
    (i : Fin 512) (k : Fin 1408) : k0_pay6 x g w a b (ix2 i k)
    = k0_pay4 x g w (ix2 i k) * b (ix2 i k) * (GateGrad.sg (a (ix2 i k)) * (1 + a (ix2 i k) * (1 - GateGrad.sg (a (ix2 i k))))) := by
  pointwise [k0_pay6, k0_pay5]
  rfl

theorem up_at (x : Vec Ideal S512x1024 .f32) (g : Vec Ideal S1x1024 .f32) (w : Vec Ideal S1x1408x1024 .bf16) (a : Vec Ideal S512x1408 .f32)
    (i : Fin 512) (k : Fin 1408) : k0_pay7 x g w a (ix2 i k) = k0_pay4 x g w (ix2 i k) * (a (ix2 i k) * GateGrad.sg (a (ix2 i k))) := by
  pointwise [k0_pay7, k0_pay5]
  rfl

theorem none_at (d : Fin 1024) : k0_pay1 (F := Ideal) (ix2 0 d) = 0 := by
  pointwise [k0_pay1]

theorem add_at (x f : Vec Ideal S512x1024 .f32) (z : Vec Ideal S1x1024 .f32) (d : Fin 1024) :
    k0_pay2 x z f (ix2 0 d) = z (ix2 0 d) + ∑ i, x (ix2 i d) * f (ix2 i d) := by
  pointwise [k0_pay2]

/-! ## The blocks of a point -/

variable (m : (ℓ : Loc nD τ sig) → Buf (Elt Ideal) ℓ) (c : Dev nD)

/-- The arguments: the cotangent, the two branches side by side, the residual's gain, the weight. -/
def ct : (⟨2, ![4096, 1024]⟩ : Shape).Idx → EReal := m ((c.tc : Thread nD τ).loc main_arg0)
def gu : (⟨2, ![4096, 5632]⟩ : Shape).Idx → EReal := m ((c.tc : Thread nD τ).loc main_arg1)
def gs : (⟨2, ![1, 1024]⟩ : Shape).Idx → EReal := m ((c.tc : Thread nD τ).loc main_arg2)
def wt : (⟨2, ![2816, 1024]⟩ : Shape).Idx → EReal := m ((c.tc : Thread nD τ).loc main_arg3)

/-- The gate, and the other branch. -/
def gate (i : Fin 4096) (k : Fin 2816) : EReal := gu m c (ix2 i ⟨k.val, by omega⟩)
def up (i : Fin 4096) (k : Fin 2816) : EReal := gu m c (ix2 i ⟨2816 + k.val, by omega⟩)

/-- The cotangent of the gated product. -/
def back (i : Fin 4096) (k : Fin 2816) : EReal := ∑ d, ct m c (ix2 i d) * gs m c (ix2 0 d) * wt m c (ix2 k d)

/-- The gradients of the gate and of the other branch, as the kernel forms them. -/
def dgate (i : Fin 4096) (k : Fin 2816) : EReal :=
  back m c i k * up m c i k * (GateGrad.sg (gate m c i k) * (1 + gate m c i k * (1 - GateGrad.sg (gate m c i k))))
def dup (i : Fin 4096) (k : Fin 2816) : EReal := back m c i k * (gate m c i k * GateGrad.sg (gate m c i k))

/-- A row's part of the gain's gradient. -/
def term (d : Fin 1024) (i : Fin 4096) : EReal :=
  ct m c (ix2 i d) * Cert.FfnoutDxRefIdeal.Read.val_main_v5 (F := Ideal) (m ((c.tc : Thread nD τ).loc main_arg1)) (m ((c.tc : Thread nD τ).loc main_arg3)) (ix2 i d)

theorem at_0 (t : Fin cfg0.N) : win0_0.index t = ![t.val / 2, 0] := by revert t; decide +kernel
theorem at_1 (t : Fin cfg0.N) : win0_1.index t = ![t.val / 2, 0] := by revert t; decide +kernel
theorem at_2 (t : Fin cfg0.N) : win0_2.index t = ![t.val / 2, t.val % 2] := by revert t; decide +kernel
theorem at_3 (t : Fin cfg0.N) : win0_3.index t = ![t.val / 2, 2 + t.val % 2] := by revert t; decide +kernel
theorem at_4 (t : Fin cfg0.N) : win0_4.index t = ![0, 0] := by revert t; decide +kernel
theorem at_5 (t : Fin cfg0.N) : win0_5.index t = ![0, t.val % 2, 0] := by revert t; decide +kernel
theorem at_6 (t : Fin cfg0.N) : win0_6.index t = ![t.val / 2, 0] := by revert t; decide +kernel
theorem at_7 (t : Fin cfg0.N) : win0_7.index t = ![t.val / 2, t.val % 2] := by revert t; decide +kernel
theorem at_8 (t : Fin cfg0.N) : win0_8.index t = ![t.val / 2, t.val % 2] := by revert t; decide +kernel
theorem at_9 (t : Fin cfg0.N) : win0_9.index t = ![0, 0] := by revert t; decide +kernel

/-- Position `i` of the point's tile, and feature `k` of its half. -/
def pos (t : Fin cfg0.N) (i : Fin 512) : Fin 4096 := ⟨512 * (t.val / 2) + i.val, by have := lt_of_lt_of_eq t.isLt N_0; omega⟩
def feat (t : Fin cfg0.N) (k : Fin 1408) : Fin 2816 := ⟨1408 * (t.val % 2) + k.val, by omega⟩

theorem ct_blk (t : Fin cfg0.N) (i : Fin 512) (d : Fin 1024) : (iblk m c 0 t : Vec Ideal S512x1024 .f32) (ix2 i d) = ct m c (ix2 (pos t i) d) := by
  unfold ct pos
  blk_point [iblk, V, at_0 t]

theorem gate_blk (t : Fin cfg0.N) (i : Fin 512) (k : Fin 1408) : (iblk m c 2 t : Vec Ideal S512x1408 .f32) (ix2 i k)
    = gate m c (pos t i) (feat t k) := by
  unfold gate gu pos feat
  blk_point [iblk, V, at_2 t]

theorem up_blk (t : Fin cfg0.N) (i : Fin 512) (k : Fin 1408) : (iblk m c 3 t : Vec Ideal S512x1408 .f32) (ix2 i k)
    = up m c (pos t i) (feat t k) := by
  unfold up gu pos feat
  blk_point [iblk, V, at_3 t]

theorem gs_blk (t : Fin cfg0.N) (d : Fin 1024) : (iblk m c 4 t : Vec Ideal S1x1024 .f32) (ix2 0 d) = gs m c (ix2 0 d) := by
  unfold gs
  blk_point [iblk, V, at_4 t]

/-- The weight as the host hands it over. -/
theorem host_weight : (V m c main_v6 : Vec Ideal S1x2816x1024 .bf16)
    = broadcastInDim S1x2816x1024 ![1, 2] bcast_S2816x1024_S1x2816x1024_1_2 (m ((c.tc : Thread nD τ).loc main_arg3) : Vec Ideal S2816x1024 .bf16) := by
  unfold_abbrev_sides
  simp only [hostOps0, hostOps0_1, hostOps0_2, List.flatten_cons, List.flatten_nil, List.append_nil, List.cons_append, List.nil_append]
  after_results

theorem wt_blk (t : Fin cfg0.N) (k : Fin 1408) (d : Fin 1024) : (iblk m c 5 t : Vec Ideal S1x1408x1024 .bf16) (ix3 0 k d) = wt m c (ix2 (feat t k) d) := by
  have e : (iblk m c 5 t : Vec Ideal S1x1408x1024 .bf16) (ix3 0 k d) = (V m c main_v6 : Vec Ideal S1x2816x1024 .bf16) (ix3 0 (feat t k) d) := by
    unfold feat
    blk_point [iblk, at_5 t]
  rw [e, host_weight]
  unfold wt
  pointwise []

/-- The product as the host computes it. -/
theorem host_prod : (V m c main_v5 : Vec Ideal S4096x1024 .f32)
    = Cert.FfnoutDxRefIdeal.Read.val_main_v5 (F := Ideal) (m ((c.tc : Thread nD τ).loc main_arg1)) (m ((c.tc : Thread nD τ).loc main_arg3)) := by
  unfold_abbrev_sides
  simp only [hostOps0, hostOps0_1, hostOps0_2, List.flatten_cons, List.flatten_nil, List.append_nil, List.cons_append, List.nil_append]
  after_results
  rfl

theorem prod_blk (t : Fin cfg0.N) (i : Fin 512) (d : Fin 1024) : (iblk m c 1 t : Vec Ideal S512x1024 .f32) (ix2 i d)
    = (V m c main_v5 : Vec Ideal S4096x1024 .f32) (ix2 (pos t i) d) := by
  unfold pos
  blk_point [iblk, at_1 t]

/-! ## What a point leaves -/

theorem pt_pos (n : ℕ) (h : n < 8) (i : Fin 512) : (pos (pt n) i).val = 512 * n + i.val := by
  show 512 * (2 * (n % 8) / 2) + i.val = _
  omega

theorem scaled_out (n : ℕ) (i : Fin 512) (d : Fin 1024) : scaled m c n (ix2 i d) = ct m c (ix2 (pos (pt n) i) d) * gs m c (ix2 0 d) := by
  refine (scaled_at (iblk m c 0 (pt n)) (iblk m c 4 (pt n)) i d).trans ?_
  rw [ct_blk, gs_blk]

theorem back_out (t : Fin cfg0.N) (i : Fin 512) (k : Fin 1408) :
    k0_pay4 (F := Ideal) (iblk m c 0 t) (iblk m c 4 t) (iblk m c 5 t) (ix2 i k) = back m c (pos t i) (feat t k) := by
  refine (back_at (iblk m c 0 t) (iblk m c 4 t) (iblk m c 5 t) i k).trans (Finset.sum_congr rfl fun d _ => ?_)
  rw [ct_blk, gs_blk, wt_blk]

theorem gate_out (t : Fin cfg0.N) (i : Fin 512) (k : Fin 1408) :
    k0_pay6 (F := Ideal) (iblk m c 0 t) (iblk m c 4 t) (iblk m c 5 t) (iblk m c 2 t) (iblk m c 3 t) (ix2 i k)
      = dgate m c (pos t i) (feat t k) := by
  refine (gate_at (iblk m c 0 t) (iblk m c 4 t) (iblk m c 5 t) (iblk m c 2 t) (iblk m c 3 t) i k).trans ?_
  rw [back_out, gate_blk, up_blk]
  rfl

theorem up_out (t : Fin cfg0.N) (i : Fin 512) (k : Fin 1408) :
    k0_pay7 (F := Ideal) (iblk m c 0 t) (iblk m c 4 t) (iblk m c 5 t) (iblk m c 2 t) (ix2 i k) = dup m c (pos t i) (feat t k) := by
  refine (up_at (iblk m c 0 t) (iblk m c 4 t) (iblk m c 5 t) (iblk m c 2 t) i k).trans ?_
  rw [back_out, gate_blk]
  rfl

/-- The product of two blocks at a row. -/
def rowProd (x f : Vec Ideal S512x1024 .f32) (d : Fin 1024) (i : Fin 512) : EReal := x (ix2 i d) * f (ix2 i d)

theorem add_rows (x f : Vec Ideal S512x1024 .f32) (z : Vec Ideal S1x1024 .f32) (d : Fin 1024) :
    k0_pay2 (F := Ideal) x z f (ix2 0 d) = z (ix2 0 d) + ∑ i, rowProd x f d i := add_at x f z d

theorem gain_term (n : ℕ) (h : n < 8) (d : Fin 1024) (i : Fin 512) : ∃ p : 512 * n + i.val < 4096,
    rowProd (iblk m c 0 (pt n)) (iblk m c 1 (pt n)) d i = term m c d ⟨512 * n + i.val, p⟩ := by
  refine ⟨by omega, ?_⟩
  unfold rowProd
  rw [ct_blk, prod_blk, host_prod]
  have e : pos (pt n) i = ⟨512 * n + i.val, by omega⟩ := Fin.ext (pt_pos n h i)
  rw [e]
  rfl

/-- After a block of rows the scale's gradient is the sum over the rows so far. -/
theorem acc_out (d : Fin 1024) : ∀ n : ℕ, n < 8 → acc m c n (ix2 0 d) = part (term m c d) 512 (n + 1)
  | 0, h => by
    refine (add_rows (iblk m c 0 (pt 0)) (iblk m c 1 (pt 0)) (k0_pay1 (F := Ideal)) d).trans ?_
    rw [none_at, part_succ _ 512 0 _ (gain_term m c 0 h d), part_zero]
  | n + 1, h => by
    refine (add_rows (iblk m c 0 (pt (n + 1))) (iblk m c 1 (pt (n + 1))) (acc m c n) d).trans ?_
    rw [acc_out d n (by omega), part_succ _ 512 (n + 1) _ (gain_term m c (n + 1) h d)]

/-! ## The arrays -/

/-- The points that write the rows' gradient back write to different rows. -/
theorem disjoint6 (t t' : Fin cfg0.N) (h : (cfg0.win 6).flush t = true) (h' : (cfg0.win 6).flush t' = true) (hne : t ≠ t') :
    Disjoint ((cfg0.win 6).blk t).view.set ((cfg0.win 6).blk t').view.set :=
  (cfg0.win 6).disjoint_blk fun e => hne <| Fin.ext <| by
    have e0 : t.val / 2 = t'.val / 2 := congrFun (((at_6 t).symm.trans e).trans (at_6 t')) 0
    have h0 := (flush0_6 t).mp h
    have h1 := (flush0_6 t').mp h'
    omega

/-- Different points write to different places of the gates' gradient. -/
theorem disjoint7 (t t' : Fin cfg0.N) (_ : (cfg0.win 7).flush t = true) (_ : (cfg0.win 7).flush t' = true) (hne : t ≠ t') :
    Disjoint ((cfg0.win 7).blk t).view.set ((cfg0.win 7).blk t').view.set :=
  (cfg0.win 7).disjoint_blk fun e => hne <| Fin.ext <| by
    have e0 : t.val / 2 = t'.val / 2 := congrFun (((at_7 t).symm.trans e).trans (at_7 t')) 0
    have e1 : t.val % 2 = t'.val % 2 := congrFun (((at_7 t).symm.trans e).trans (at_7 t')) 1
    omega

/-- Different points write to different places of the products' gradient. -/
theorem disjoint8 (t t' : Fin cfg0.N) (_ : (cfg0.win 8).flush t = true) (_ : (cfg0.win 8).flush t' = true) (hne : t ≠ t') :
    Disjoint ((cfg0.win 8).blk t).view.set ((cfg0.win 8).blk t').view.set :=
  (cfg0.win 8).disjoint_blk fun e => hne <| Fin.ext <| by
    have e0 : t.val / 2 = t'.val / 2 := congrFun (((at_8 t).symm.trans e).trans (at_8 t')) 0
    have e1 : t.val % 2 = t'.val % 2 := congrFun (((at_8 t).symm.trans e).trans (at_8 t')) 1
    omega

/-- Only the last point writes the scale's gradient back. -/
theorem disjoint9 (t t' : Fin cfg0.N) (h : (cfg0.win 9).flush t = true) (h' : (cfg0.win 9).flush t' = true) (hne : t ≠ t') :
    Disjoint ((cfg0.win 9).blk t).view.set ((cfg0.win 9).blk t').view.set :=
  absurd (Fin.ext (by
    have h0 := (flush0_9 t).mp h
    have h1 := (flush0_9 t').mp h'
    have l0 := lt_of_lt_of_eq t.isLt N_0
    have l1 := lt_of_lt_of_eq t'.isLt N_0
    omega)) hne

theorem flushed_6 (t : Fin cfg0.N) : (dats m 0 c).flushed 6 t = (cfg0.win 6).cut (grid0.coords t) (scaled m c (t.val / 2)) := by
  show (cfg0.win 6).cut (grid0.coords t) ((dats m 0 c).after 6 t) = _
  rw [after_6]

theorem flushed_7 (t : Fin cfg0.N) : (dats m 0 c).flushed 7 t = (cfg0.win 7).cut (grid0.coords t) (k0_pay6 (iblk m c 0 t) (iblk m c 4 t) (iblk m c 5 t) (iblk m c 2 t) (iblk m c 3 t)) := by
  show (cfg0.win 7).cut (grid0.coords t) ((dats m 0 c).after 7 t) = _
  rw [after_7]

theorem flushed_8 (t : Fin cfg0.N) : (dats m 0 c).flushed 8 t = (cfg0.win 8).cut (grid0.coords t) (k0_pay7 (iblk m c 0 t) (iblk m c 4 t) (iblk m c 5 t) (iblk m c 2 t)) := by
  show (cfg0.win 8).cut (grid0.coords t) ((dats m 0 c).after 8 t) = _
  rw [after_8]

theorem flushed_9 (t : Fin cfg0.N) : (dats m 0 c).flushed 9 t = (cfg0.win 9).cut (grid0.coords t) (acc m c (t.val / 2)) := by
  show (cfg0.win 9).cut (grid0.coords t) ((dats m 0 c).after 9 t) = _
  rw [after_9]

theorem rows_res (i : Fin 4096) (d : Fin 1024) : (dats m 0 c).arrAt 6 cfg0.N (ix2 i d) = ct m c (ix2 i d) * gs m c (ix2 0 d) := by
  obtain ⟨t, ht⟩ : ∃ t : Fin cfg0.N, t.val = 2 * (i.val / 512) + 1 := ⟨⟨_, lt_of_lt_of_eq (by omega) N_0.symm⟩, rfl⟩
  have hn : t.val / 2 = i.val / 512 := by omega
  have hi : pos (pt (t.val / 2)) ⟨i.val % 512, by omega⟩ = i :=
    Fin.ext ((pt_pos _ (by omega) _).trans (by show 512 * (t.val / 2) + i.val % 512 = i.val; omega))
  have hb := congrFun ((dats m 0 c).read_blk_arrAt_eq_flushed 6 disjoint6 cfg0.N t t.isLt ((flush0_6 t).mpr (by omega))) (ix2 ⟨i.val % 512, by omega⟩ d)
  rw [flushed_6] at hb
  refine (Eq.trans ?_ hb).trans ((scaled_out m c (t.val / 2) ⟨i.val % 512, by omega⟩ d).trans ?_)
  · blk_ext! [at_6 t]
  · rw [hi]

theorem gate_res (i : Fin 4096) (k : Fin 2816) : (dats m 0 c).arrAt 7 cfg0.N (ix2 i k) = dgate m c i k := by
  obtain ⟨t, ht⟩ : ∃ t : Fin cfg0.N, t.val = 2 * (i.val / 512) + k.val / 1408 := ⟨⟨_, lt_of_lt_of_eq (by omega) N_0.symm⟩, rfl⟩
  have hi : pos t ⟨i.val % 512, by omega⟩ = i := Fin.ext (by show 512 * (t.val / 2) + i.val % 512 = i.val; omega)
  have hk : feat t ⟨k.val % 1408, by omega⟩ = k := Fin.ext (by show 1408 * (t.val % 2) + k.val % 1408 = k.val; omega)
  have hb := congrFun ((dats m 0 c).read_blk_arrAt_eq_flushed 7 disjoint7 cfg0.N t t.isLt (flush0_7 t)) (ix2 ⟨i.val % 512, by omega⟩ ⟨k.val % 1408, by omega⟩)
  rw [flushed_7] at hb
  refine (Eq.trans ?_ hb).trans ((gate_out m c t ⟨i.val % 512, by omega⟩ ⟨k.val % 1408, by omega⟩).trans ?_)
  · blk_ext! [at_7 t]
  · rw [hi, hk]

theorem up_res (i : Fin 4096) (k : Fin 2816) : (dats m 0 c).arrAt 8 cfg0.N (ix2 i k) = dup m c i k := by
  obtain ⟨t, ht⟩ : ∃ t : Fin cfg0.N, t.val = 2 * (i.val / 512) + k.val / 1408 := ⟨⟨_, lt_of_lt_of_eq (by omega) N_0.symm⟩, rfl⟩
  have hi : pos t ⟨i.val % 512, by omega⟩ = i := Fin.ext (by show 512 * (t.val / 2) + i.val % 512 = i.val; omega)
  have hk : feat t ⟨k.val % 1408, by omega⟩ = k := Fin.ext (by show 1408 * (t.val % 2) + k.val % 1408 = k.val; omega)
  have hb := congrFun ((dats m 0 c).read_blk_arrAt_eq_flushed 8 disjoint8 cfg0.N t t.isLt (flush0_8 t)) (ix2 ⟨i.val % 512, by omega⟩ ⟨k.val % 1408, by omega⟩)
  rw [flushed_8] at hb
  refine (Eq.trans ?_ hb).trans ((up_out m c t ⟨i.val % 512, by omega⟩ ⟨k.val % 1408, by omega⟩).trans ?_)
  · blk_ext! [at_8 t]
  · rw [hi, hk]

theorem gain_res (d : Fin 1024) : (dats m 0 c).arrAt 9 cfg0.N (ix2 0 d) = ∑ i, term m c d i := by
  obtain ⟨t, ht⟩ : ∃ t : Fin cfg0.N, t.val = 15 := ⟨⟨_, lt_of_lt_of_eq (by omega) N_0.symm⟩, rfl⟩
  have hb := congrFun ((dats m 0 c).read_blk_arrAt_eq_flushed 9 disjoint9 cfg0.N t t.isLt ((flush0_9 t).mpr (by omega))) (ix2 0 d)
  rw [flushed_9, show t.val / 2 = 7 by omega] at hb
  refine (Eq.trans ?_ hb).trans ((acc_out m c d 7 (by omega)).trans (part_all _ _ 8 rfl))
  blk_ext! [at_9 t]

/-! ## Where the arguments are finite -/

theorem entries [Cert.Pre_finite.Facts] (h : Cert.Pre_FfnoutDxIdeal_finite m) :
    (∀ i, GateGrad.Tame (ct m c i)) ∧ (∀ i, GateGrad.Tame (gu m c i)) ∧ (∀ i, GateGrad.Tame (gs m c i)) ∧ ∀ i, GateGrad.Tame (wt m c i) :=
  GateGrad.of_all _ _ _ _ (congrFun (h c))

/-- The cotangent of the gated product is real. -/
theorem back_real [Cert.Pre_finite.Facts] (h : Cert.Pre_FfnoutDxIdeal_finite m) (i : Fin 4096) (k : Fin 2816) : ∃ r : ℝ, back m c i k = r := by
  obtain ⟨h0, _, h2, h3⟩ := entries m c h
  exact GateGrad.sum_real _ _ fun d => GateGrad.mul_real (GateGrad.mul_real (h0 _).real (h2 _).real) (h3 _).real

/-- There the gate's gradient is the sum of its two parts. -/
theorem gate_parts [Cert.Pre_finite.Facts] (h : Cert.Pre_FfnoutDxIdeal_finite m) (i : Fin 4096) (k : Fin 2816) : dgate m c i k
    = back m c i k * up m c i k * GateGrad.sg (gate m c i k)
      + gate m c i k * (back m c i k * up m c i k) * (GateGrad.sg (gate m c i k) * (1 - GateGrad.sg (gate m c i k))) := by
  obtain ⟨_, h1, _, _⟩ := entries m c h
  exact GateGrad.parts (GateGrad.mul_real (back_real m c h i k) (h1 _).real) (h1 _).real

end Cert.FfnoutDxIdeal.Out

namespace Cert.FfnoutDxRefIdeal.Out

open Idealize.ShloMosaic Cert.FfnoutDxRefIdeal Cert.FfnoutDxRefIdeal.Read

variable (x0 : Vec Ideal S4096x1024 .f32) (x1 : Vec Ideal S4096x5632 .f32) (x2 : Vec Ideal S1x1024 .f32) (x3 : Vec Ideal S2816x1024 .bf16)

theorem sg_ref (i : Fin 4096) (k : Fin 2816) : val_main_v2_2 (F := Ideal) x1 (ix2 i k) = GateGrad.sg (x1 (ix2 i ⟨k.val, by omega⟩)) := by
  pointwise [val_main_v2_2, val_main_call0_v4, val_main_call0_cst_0, val_main_call0_v3, val_main_call0_v2, val_main_call0_cst, val_main_call0_v1, val_main_call0_v0, val_main_v0]
  rfl

theorem scaled_ref (i : Fin 4096) (d : Fin 1024) : val_main_v22 (F := Ideal) x0 x2 (ix2 i d) = (x0 (ix2 i d) : EReal) * x2 (ix2 0 d) := by
  refine Eq.trans ?_ (mul_comm (x2 (ix2 0 d) : EReal) (x0 (ix2 i d)))
  pointwise [val_main_v22, val_main_v21, val_main_v20]

theorem scaled2_ref (i : Fin 4096) (d : Fin 1024) : val_main_v9 (F := Ideal) x0 x2 (ix2 i d) = (x0 (ix2 i d) : EReal) * x2 (ix2 0 d) := by
  refine Eq.trans ?_ (mul_comm (x2 (ix2 0 d) : EReal) (x0 (ix2 i d)))
  pointwise [val_main_v9, val_main_v8]

theorem back_ref (i : Fin 4096) (k : Fin 2816) : val_main_v13 (F := Ideal) x0 x2 x3 (ix2 i k)
    = ∑ d : Fin 1024, (x0 (ix2 i d) : EReal) * x2 (ix2 0 d) * x3 (ix2 k d) := by
  have e : val_main_v13 (F := Ideal) x0 x2 x3 (ix2 i k) = ∑ d : Fin 1024, (val_main_v9 (F := Ideal) x0 x2 (ix2 i d) : EReal) * x3 (ix2 k d) := by
    pointwise [val_main_v13, val_main_v4]
  exact e.trans (Finset.sum_congr rfl fun d _ => congrArg (· * (x3 (ix2 k d) : EReal)) (scaled2_ref x0 x2 i d))

theorem up_ref (i : Fin 4096) (k : Fin 2816) : val_main_v24 (F := Ideal) x0 x1 x2 x3 (ix2 i k)
    = (∑ d : Fin 1024, (x0 (ix2 i d) : EReal) * x2 (ix2 0 d) * x3 (ix2 k d)) * ((x1 (ix2 i ⟨k.val, by omega⟩) : EReal) * GateGrad.sg (x1 (ix2 i ⟨k.val, by omega⟩))) := by
  rw [← back_ref, ← sg_ref]
  refine Eq.trans ?_ (mul_comm _ _)
  pointwise [val_main_v24, val_main_v14, val_main_v2_0, val_main_v0]

theorem gate_ref (i : Fin 4096) (k : Fin 2816) : val_main_v23 (F := Ideal) x0 x1 x2 x3 (ix2 i k)
    = (∑ d : Fin 1024, (x0 (ix2 i d) : EReal) * x2 (ix2 0 d) * x3 (ix2 k d)) * x1 (ix2 i ⟨2816 + k.val, by omega⟩) * GateGrad.sg (x1 (ix2 i ⟨k.val, by omega⟩))
      + (x1 (ix2 i ⟨k.val, by omega⟩) : EReal) * ((∑ d : Fin 1024, (x0 (ix2 i d) : EReal) * x2 (ix2 0 d) * x3 (ix2 k d)) * x1 (ix2 i ⟨2816 + k.val, by omega⟩))
        * (GateGrad.sg (x1 (ix2 i ⟨k.val, by omega⟩)) * (1 - GateGrad.sg (x1 (ix2 i ⟨k.val, by omega⟩)))) := by
  rw [← back_ref, ← sg_ref]
  pointwise [val_main_v23, val_main_v16, val_main_call1_v2, val_main_call1_v1, val_main_call1_v0, val_main_v15, val_main_v1, val_main_v0, val_main_v2_1, val_main_call0_v7, val_main_call0_v6, val_main_call0_cst_1]

theorem gain_ref (d : Fin 1024) : val_main_v12 (F := Ideal) x0 x1 x3 (ix2 0 d) = ∑ i : Fin 4096, (x0 (ix2 i d) : EReal) * val_main_v5 (F := Ideal) x1 x3 (ix2 i d) := by
  pointwise [val_main_v12, val_main_v11, val_main_cst, val_main_v10]

end Cert.FfnoutDxRefIdeal.Out

namespace Cert.Proof

open Idealize.ShloMosaic Idealize.ShloMosaic.TcCoe Idealize.SL.Sem

/-- The two texts' bodies are one. -/
theorem ffnoutDx_bodies : Cert.FfnoutDx.defs₀ (F := Bits) = Cert.FfnoutDxIdeal.defs₀ (F := Bits) := by
  unfold Cert.FfnoutDx.defs₀ Cert.FfnoutDxIdeal.defs₀
  refine congrArg _ (funext fun p => funext fun q => ?_)
  match p, q with
  | 0, (t, s) => rfl
  | ⟨_ + 1, h⟩, _ => exact absurd h (by omega)

theorem ffnoutDx_defs : Cert.FfnoutDx.defs (F := Bits) = Cert.FfnoutDxIdeal.defs (F := Bits) := by
  unfold Cert.FfnoutDx.defs Cert.FfnoutDxIdeal.defs
  exact congrArg (Pipeline.defs _) ffnoutDx_bodies

theorem frame_ffnoutDx : Cert.quiescent_FfnoutDx := fun m ρ _ => by
  rw [ffnoutDx_defs]
  exact Cert.FfnoutDxIdeal.Hand.frame_run (F := Bits) m ρ

theorem frame_ffnoutDxIdeal : Cert.quiescent_FfnoutDxIdeal := fun m ρ _ => Cert.FfnoutDxIdeal.Hand.frame_run (F := Ideal) m ρ

theorem frame_ffnoutDxIdeal_pre [Cert.Pre_finite.Facts] : Cert.quiescent_FfnoutDxIdeal_pre_finite := fun m ρ _ =>
  Cert.FfnoutDxIdeal.Hand.frame_run (F := Ideal) m ρ

theorem frame_ffnoutDxRef : Cert.quiescent_FfnoutDxRefIdeal := fun m ρ _ =>
  (θ_run Cert.FfnoutDxRefIdeal.defs _ _).mono
    (fun _ h => ⟨fun c => (h c).2.2.2.2, sem_eq_zero_of_no_sems (by decide) _⟩) (Cert.FfnoutDxRefIdeal.Value.run (F := Ideal) m ρ)

theorem frame_ffnoutDxRef_pre [Cert.Pre_finite.Facts] : Cert.quiescent_FfnoutDxRefIdeal_pre_finite := fun m ρ _ =>
  frame_ffnoutDxRef m ρ trivial

theorem algebraic_ffnoutDx [Cert.Pre_finite.Facts] : Cert.algebraic_FfnoutDxIdeal_FfnoutDxRefIdeal_pre_finite := by
  intro m ρ m' ρ' hpre hargs
  refine ⟨fun c => (Cert.FfnoutDxIdeal.Hand.dats m 0 c).arrAt 6 Cert.FfnoutDxIdeal.cfg0.N, fun c => (Cert.FfnoutDxIdeal.Hand.dats m 0 c).arrAt 7 Cert.FfnoutDxIdeal.cfg0.N,
    fun c => (Cert.FfnoutDxIdeal.Hand.dats m 0 c).arrAt 8 Cert.FfnoutDxIdeal.cfg0.N, fun c => (Cert.FfnoutDxIdeal.Hand.dats m 0 c).arrAt 9 Cert.FfnoutDxIdeal.cfg0.N,
    (θ_run Cert.FfnoutDxIdeal.defs _ _).mono (fun r H c => ⟨(H.1.1 c).1 6, (H.1.1 c).1 7, (H.1.1 c).1 8, (H.1.1 c).1 9, H.2.1 c⟩)
      (θ_run_and (Cert.FfnoutDxIdeal.Hand.run_quiet (F := Ideal) m ρ) (Cert.FfnoutDxIdeal.Hand.frame_run (F := Ideal) m ρ)),
    (θ_run Cert.FfnoutDxRefIdeal.defs _ _).mono (fun r H c => ?_) (Cert.FfnoutDxRefIdeal.Value.run (F := Ideal) m' ρ')⟩
  obtain ⟨h0, h1, h2, h3, hk⟩ := H c
  obtain ⟨e0, e1, e2, e3⟩ := hargs c
  refine ⟨h0.trans ?_, h1.trans ?_, h2.trans ?_, h3.trans ?_, hk⟩
  · refine (Cert.FfnoutDxRefIdeal.Read.val_main_v22_eq _ _).trans (funext fun i => ?_)
    rw [e0, e2, eq_ix2 i]
    exact (Cert.FfnoutDxRefIdeal.Out.scaled_ref _ _ (i 0) (i 1)).trans (Cert.FfnoutDxIdeal.Out.rows_res m c (i 0) (i 1)).symm
  · refine (Cert.FfnoutDxRefIdeal.Read.val_main_v23_eq _ _ _ _).trans (funext fun i => ?_)
    rw [e0, e1, e2, e3, eq_ix2 i]
    exact (Cert.FfnoutDxRefIdeal.Out.gate_ref _ _ _ _ (i 0) (i 1)).trans
      ((Cert.FfnoutDxIdeal.Out.gate_res m c (i 0) (i 1)).trans (Cert.FfnoutDxIdeal.Out.gate_parts m c hpre (i 0) (i 1))).symm
  · refine (Cert.FfnoutDxRefIdeal.Read.val_main_v24_eq _ _ _ _).trans (funext fun i => ?_)
    rw [e0, e1, e2, e3, eq_ix2 i]
    exact (Cert.FfnoutDxRefIdeal.Out.up_ref _ _ _ _ (i 0) (i 1)).trans (Cert.FfnoutDxIdeal.Out.up_res m c (i 0) (i 1)).symm
  · refine (Cert.FfnoutDxRefIdeal.Read.val_main_v12_eq _ _ _).trans (funext fun i => ?_)
    have hz : ∀ j : Fin 1, j = 0 := fun j => Subsingleton.elim j 0
    rw [e0, e1, e3, eq_ix2 i, show i 0 = (0 : Fin 1) from hz (i 0)]
    exact (Cert.FfnoutDxRefIdeal.Out.gain_ref _ _ _ (i 1)).trans (Cert.FfnoutDxIdeal.Out.gain_res m c (i 1)).symm

end Cert.Proof

end
-- ==== Proof.RunFfninFwd.lean ====
/-
  The run of the normalised product: in the first sweep over the rows each block is normalised and kept in a
  slab of the scratch; every later sweep multiplies the kept slabs by its own columns of the weight.
-/
module

public import proofs.«01_k».proof.Proof.Gen.FfninFwdIdeal.Frame
public import proofs.«01_k».proof.Proof.Gen.FfninFwdIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.FfninFwdIdeal.Hand

open Cert.FfninFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slab of the scratch a block of rows uses. -/
abbrev slab (i : grid0.Coords) (xs : Vec F S8x512x1024 .bf16) : Vec F S1x512x1024 .bf16 :=
  VecWindow.window xs (k0_off2 i) S1x512x1024.size (k0_off2_inb i)

/-- After the first sweep a block of the product only reads its slab of the normalised rows. -/
theorem body_later (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024x1408 .bf16) (harg6 : arg6.IsWhole) (arg7 : Memref sig .tc .vmem S512x1024 .bf16) (harg7 : arg7.IsWhole)
    (arg8 : Memref sig .tc .vmem S512x1408 .f32) (harg8 : arg8.IsWhole) (arg9 : Memref sig .tc .vmem S8x512x1024 .bf16) (harg9 : arg9.IsWhole) (hc : ¬k0_cond1 i = 1#1)
    (x0 : Vec F S512x1024 .f32) (x1 x2 x3 : Vec F S1x1024 .f32) (x4 : Vec F S1x1024x1408 .bf16) (x5 : Vec F S512x1024 .bf16) (xs : Vec F S8x512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay3 (slab i xs) x4) ∗ owns (c : Thread nD τ) arg9 fullShare xs) -∗ K ⟨⟩))
      ⊢ wp frame (wpE (defs₀ (F := F)) Variants.none c none) E
          (cc0_ffnin_fwd_3 i arg2 harg2 arg3 harg3 arg4 harg4 arg5 harg5 arg6 harg6 arg7 harg7 arg8 harg8 arg9 harg9) K := by
  simp only [cc0_ffnin_fwd_3_eq_skeleton]; unfold cc0_ffnin_fwd_3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg9.eq_unread hfs
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_full arg8.view _ inb_S512x1408_S512x1408_0_0]
    rw [View.readAt_unit arg9.view _ _ rfl (k0_off2_inb i), View.readAt_full arg6.view _ inb_S1x1024x1408_S1x1024x1408_0_0_0, hf4, hfs]
  iexists _; isplitr; · ipureintro; exact harg9.read_unread _
  iexact HS

/-- In the first sweep a block normalises its rows, keeps them in its slab and multiplies them. -/
theorem body_first (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024x1408 .bf16) (harg6 : arg6.IsWhole) (arg7 : Memref sig .tc .vmem S512x1024 .bf16) (harg7 : arg7.IsWhole)
    (arg8 : Memref sig .tc .vmem S512x1408 .f32) (harg8 : arg8.IsWhole) (arg9 : Memref sig .tc .vmem S8x512x1024 .bf16) (harg9 : arg9.IsWhole) (hc : k0_cond1 i = 1#1)
    (x0 : Vec F S512x1024 .f32) (x1 x2 x3 : Vec F S1x1024 .f32) (x4 : Vec F S1x1024x1408 .bf16) (xs : Vec F S8x512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k0_pay1 x0 x1 x2 x3)
        ∗ owns (c : Thread nD τ) arg8 fullShare (k0_pay3 (k0_pay2 x0 x1 x2 x3) x4) ∗ owns (c : Thread nD τ) arg9 fullShare (VecWindow.put xs (k0_off2 i) S1x512x1024.size (k0_pay2 x0 x1 x2 x3))) -∗ K ⟨⟩))
      ⊢ wp frame (wpE (defs₀ (F := F)) Variants.none c none) E
          (cc0_ffnin_fwd_3 i arg2 harg2 arg3 harg3 arg4 harg4 arg5 harg5 arg6 harg6 arg7 harg7 arg8 harg8 arg9 harg9) K := by
  simp only [cc0_ffnin_fwd_3_eq_skeleton]; unfold cc0_ffnin_fwd_3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg9.eq_unread hfs
  have hx0 := (View.readAt_full arg2.view (harg2.unread x0) inb_S512x1024_S512x1024_0_0).trans hf0
  have hx1 := (View.readAt_full arg3.view (harg3.unread x1) inb_S1x1024_S1x1024_0_0).trans hf1
  have hx2 := (View.readAt_full arg4.view (harg4.unread x2) inb_S1x1024_S1x1024_0_0).trans hf2
  have hx3 := (View.readAt_full arg5.view (harg5.unread x3) inb_S1x1024_S1x1024_0_0).trans hf3
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_full arg7.view _ inb_S512x1024_S512x1024_0_0]
  isplitl [H6]
  · iexists _; isplitr
    swap; · iexact H6
    ipureintro
    rw [View.read_writes_full arg8.view _ inb_S512x1408_S512x1408_0_0]
    unfold body_first.sl.v4 body_first.sl.HS_1
    rw [View.readAt_full arg6.view _ inb_S1x1024x1408_S1x1024x1408_0_0_0, hf4]
    refine congrArg (fun s => k0_pay3 s x4) ?_
    unfold View.readCov
    rw [View.readAt_unit arg9.view _ _ rfl (k0_off2_inb i), View.read_writes_cons_put arg9.view _ _ _ _ rfl]
    exact VecWindow.window_put_same _ _ _ _ _
  iexists _; isplitr
  swap; · iexact HS
  ipureintro
  unfold body_first.sl.HS_1
  rw [View.read_writes_cons_put arg9.view _ _ _ _ rfl, View.writes_nil, hfs]
  rfl

variable (m : (ℓ : Loc nD τ sig) → Buf (Elt F) ℓ) (ρ : Dev nD → PrngReg)

/-! ## The points -/

/-- The condition of the body holds in the first sweep over the rows. -/
theorem cond_iff : ∀ t : Fin cfg0.N, k0_cond1 (grid0.coords t) = 1#1 ↔ t.val < 8 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val < 8)

/-- The slab a point uses begins at its block of rows. -/
theorem off_eq : ∀ t : Fin cfg0.N, k0_off2 (grid0.coords t) = ![t.val % 8, 0, 0] :=
  (fun t => by
    have e1 : (grid0.coords t 1).val = t.val / 1 % 8 := Pipeline.Grid.coords_val t 1 (by decide) rfl
    have h : (BitVec.ofNat 32 (grid0.coords t 1).val).toNat = t.val % 8 := by
      rw [e1, BitVec.toNat_ofNat]; omega
    show ![(BitVec.ofNat 32 (grid0.coords t 1).val).toNat, 0, 0] = _
    rw [h]
   : ∀ t : Fin grid0.N, k0_off2 (grid0.coords t) = ![t.val % 8, 0, 0])

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_6 : ∀ t : Fin cfg0.N, cfg0.idle 6 (grid0.coords t) = false := fun _ => rfl
/-- The normalised rows' window is stored into exactly in the first sweep. -/
theorem live_5 : ∀ t : Fin cfg0.N, t.val < 8 → cfg0.idle 5 (grid0.coords t) = false := by decide +kernel
theorem idle_5 : ∀ t : Fin cfg0.N, ¬t.val < 8 → cfg0.idle 5 (grid0.coords t) = true := by decide +kernel
theorem fresh_5 : ∀ t : Fin cfg0.N, ¬t.val < 8 → cfg0.fresh 5 t.val = false := by decide +kernel

/-! ## What the buffers hold -/

/-- The point of the first sweep that has the block of rows `n`. -/
abbrev row (n : ℕ) : Fin cfg0.N := ⟨n % 8, Nat.lt_of_lt_of_eq (by omega : n % 8 < 32) N_0.symm⟩

/-- The normalised rows a point of the first sweep computes. -/
abbrev rows (c : Dev nD) (t : Fin cfg0.N) : Vec F S512x1024 .bf16 :=
  k0_pay1 (iblk m c 0 t) (iblk m c 1 t) (iblk m c 2 t) (iblk m c 3 t)

/-- The same as a slab of the scratch. -/
abbrev keptRows (c : Dev nD) (t : Fin cfg0.N) : Vec F S1x512x1024 .bf16 :=
  k0_pay2 (iblk m c 0 t) (iblk m c 1 t) (iblk m c 2 t) (iblk m c 3 t)

/-- Before point `n` the scratch holds the slabs of the points of the first sweep before it. -/
def Kept (c : Dev nD) (n : ℕ) (xs : Vec F S8x512x1024 .bf16) : Prop :=
  ∀ t : Fin cfg0.N, t.val < n → t.val < 8 → slab (grid0.coords t) xs = keptRows m c t

theorem window_congr {α : Type} {s : Shape} (x : s.Idx → α) {o o' size : Fin s.rank → ℕ} (h : o = o') (hi hi') :
    VecWindow.window x o size hi = VecWindow.window x o' size hi' := by
  subst h; rfl

/-- A later point finds its slab as the first sweep left it. -/
theorem Kept.at {c : Dev nD} {n : ℕ} {xs : Vec F S8x512x1024 .bf16} (h : Kept m c n xs) (t : Fin cfg0.N) (ht : ¬t.val < 8) (hn : t.val ≤ n) :
    slab (grid0.coords t) xs = keptRows m c (row t.val) := by
  have h8 := h (row t.val) (by show t.val % 8 < n; omega) (by show t.val % 8 < 8; omega)
  rw [← h8]
  refine window_congr _ ?_ _ _
  show k0_off2 (grid0.coords t) = k0_off2 (grid0.coords (row t.val))
  rw [off_eq, off_eq]
  show ![t.val % 8, 0, 0] = ![t.val % 8 % 8, 0, 0]
  rw [Nat.mod_mod]

/-- A point of the first sweep adds its own slab and leaves the others. -/
theorem Kept.put {c : Dev nD} {t : Fin cfg0.N} {xs : Vec F S8x512x1024 .bf16} (h : Kept m c t.val xs) (ht : t.val < 8) :
    Kept m c (t.val + 1) (VecWindow.put xs (k0_off2 (grid0.coords t)) S1x512x1024.size (keptRows m c t)) := by
  intro s hs h8
  by_cases e : s = t
  · subst e
    exact VecWindow.window_put_same _ _ _ _ _
  · have hlt : s.val < t.val := by
      have : s.val ≠ t.val := fun h => e (Fin.ext h)
      omega
    refine (VecWindow.window_put_of_disjoint _ _ _ _ _ _ _ (0 : Fin 3) ?_).trans (h s hlt h8)
    rw [off_eq, off_eq]
    show s.val % 8 + 1 ≤ t.val % 8 ∨ t.val % 8 + 1 ≤ s.val % 8
    omega

/-- A later point leaves the slabs. -/
theorem Kept.keep {c : Dev nD} {n : ℕ} {xs : Vec F S8x512x1024 .bf16} (h : Kept m c n xs) (hn : ¬n < 8) : Kept m c (n + 1) xs :=
  fun t _ h8 => h t (by omega) h8

/-! ## The proof data -/

/-- The scratch. -/
abbrev scM : Memref sig .tc .vmem S8x512x1024 .bf16 := Memref.whole cc0_scratch0

/-- The invariant: the scratch holds the slabs of the first sweep so far. -/
def Inv (c : Dev nD) (n : ℕ) : sProp 𝕄 :=
  iprop((∃ xs, ⌜Kept m c n xs⌝ ∗ owns (c : Thread nD τ) scM fullShare xs) ∗ (∃ r, prngReg c r))

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The windows' contents after each point: an input's block; the normalised rows of the point's block, those of the last
    block once the first sweep is over; the block of the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rows m c (row (min t.val 7))
    | ⟨6, _⟩ => k0_pay3 (keptRows m c (row t.val)) (iblk m c 4 t)
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = rows m c (row (min t.val 7)) := by dsimp only [dats]
theorem after_6 (c : Dev nD) (t : Fin cfg0.N) : (dats m 0 c).after 6 t = k0_pay3 (keptRows m c (row t.val)) (iblk m c 4 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- After the first sweep the window of the normalised rows holds those of the last block. -/
theorem before_5 (c : Dev nD) (t : Fin cfg0.N) (ht : ¬t.val < 8) (d) : (dats m 0 c).before 5 t d = (dats m 0 c).after 5 t := by
  have carry : ∀ s : Fin cfg0.N, ¬s.val < 8 → (dats m 0 c).after 5 s = (dats m 0 c).after 5 ⟨s.val - 1, by omega⟩ := fun s hs => by
    rw [after_5, after_5]
    have e : min s.val 7 = min (s.val - 1) 7 := by omega
    show rows m c (row (min s.val 7)) = rows m c (row (min (s.val - 1) 7))
    rw [e]
  refine ((dats m 0 c).before_out_traj 5 rfl (fun _ _ => rfl) (fun s h0 hi _ => carry s fun h8 => ?_) t.val t rfl d).trans ?_
  · have hl := live_5 s h8
    exact Bool.false_ne_true (hl.symm.trans hi)
  · rw [fresh_5 t ht, if_neg Bool.false_ne_true]
    exact (carry t ht).symm

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, from what the pipeline hands it to what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = Inv m c (t.val + 1) from rfl, show (dats m 0 c).Φ t.castSucc = Inv m c t.val from rfl]
  unfold Inv
  rw [show (dats m 0 c).leavesExact 0 t = owns (c : Thread nD τ) (win0_0.stage (cfg0.slots t 0)) fullShare ((dats m 0 c).after 0 t) from by
    unfold Dat.leavesExact; rw [live_0 t], after_0]
  rw [show (dats m 0 c).leavesExact 1 t = owns (c : Thread nD τ) (win0_1.stage (cfg0.slots t 1)) fullShare ((dats m 0 c).after 1 t) from by
    unfold Dat.leavesExact; rw [live_1 t], after_1]
  rw [show (dats m 0 c).leavesExact 2 t = owns (c : Thread nD τ) (win0_2.stage (cfg0.slots t 2)) fullShare ((dats m 0 c).after 2 t) from by
    unfold Dat.leavesExact; rw [live_2 t], after_2]
  rw [show (dats m 0 c).leavesExact 3 t = owns (c : Thread nD τ) (win0_3.stage (cfg0.slots t 3)) fullShare ((dats m 0 c).after 3 t) from by
    unfold Dat.leavesExact; rw [live_3 t], after_3]
  rw [show (dats m 0 c).leavesExact 4 t = owns (c : Thread nD τ) (win0_4.stage (cfg0.slots t 4)) fullShare ((dats m 0 c).after 4 t) from by
    unfold Dat.leavesExact; rw [live_4 t], after_4]
  rw [show (dats m 0 c).leavesExact 6 t = owns (c : Thread nD τ) (win0_6.stage (cfg0.slots t 6)) fullShare ((dats m 0 c).after 6 t) from by
    unfold Dat.leavesExact; rw [live_6 t], after_6]
  by_cases h8 : t.val < 8
  · have er : row (min t.val 7) = t := Fin.ext (by show min t.val 7 % 8 = t.val; omega)
    have er' : row t.val = t := Fin.ext (by show t.val % 8 = t.val; omega)
    rw [show (dats m 0 c).leavesExact 5 t = owns (c : Thread nD τ) (win0_5.stage (cfg0.slots t 5)) fullShare ((dats m 0 c).after 5 t) from by
      unfold Dat.leavesExact; rw [live_5 t h8], after_5, er, er']
    iintro ⟨⟨⟨%xs, %hk, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scM (Memref.isWhole_whole _) ((cond_iff t).mpr h8) (iblk m c 0 t) (iblk m c 1 t) (iblk m c 2 t) (iblk m c 3 t) (iblk m c 4 t) xs Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iexists _; isplitr
        swap; · iexact HS
        ipureintro; exact hk.put m h8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hl : (dats m 0 c).leavesExact 5 t = owns (c : Thread nD τ) (win0_5.stage (cfg0.slots t 5)) fullShare ((dats m 0 c).after 5 t)
        ∨ (dats m 0 c).leavesExact 5 t = iprop(∃ d, owns (c : Thread nD τ) (win0_5.stage (cfg0.slots t 5)) fullShare ((dats m 0 c).before 5 t d)) := by
      rcases hf : (cfg0.win 5).flush t with _ | _
      · exact .inr (Dat.leavesExact_idle _ 5 t (idle_5 t h8) hf)
      · refine .inl ?_
        unfold Dat.leavesExact; rw [idle_5 t h8, hf]
    simp only [before_5 m c t h8] at hl ⊢
    iintro ⟨⟨⟨%xs, %hk, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scM (Memref.isWhole_whole _) (fun h => h8 ((cond_iff t).mp h)) (iblk m c 0 t) (iblk m c 1 t) (iblk m c 2 t) (iblk m c 3 t) (iblk m c 4 t) _ xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    rw [hk.at m t h8 (Nat.le_refl _)]
    iintro ⟨H0, H1, H2, H3, H4, H5, H6, HS⟩
    isplitl [HS Hg]
    · isplitl [HS]
      · iexists _; isplitr
        swap; · iexact HS
        ipureintro; exact hk.keep m h8
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · rcases hl with hl | hl
      · rw [hl]; iexact H5
      · rw [hl]; iexists d5; iexact H5
    iexact H6

theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  exact triple_restated (sound_body m c t) rfl .rfl fun _ => .rfl

/-- Before the first point nothing is asked of the scratch. -/
theorem hin (c : Dev nD) : Pipeline.ΦA spec0 c ⊢ (dats m 0 c).Φ 0 := by
  rw [show (dats m 0 c).Φ 0 = Inv m c 0 from rfl, PhiA_eq]
  unfold Inv
  iintro ⟨⟨%d, HS⟩, Hg⟩
  isplitl [HS]
  · iexists d; isplitr
    · ipureintro; exact fun t h _ => absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, PhiA_eq]
  unfold Inv
  iintro ⟨⟨%xs, %hk, HS⟩, Hg⟩
  isplitl [HS]
  · iexists xs; iexact HS
  iexact Hg

/-! ## The run and the frame -/

set_option backward.isDefEq.respectTransparency.types false in
/-- The run, with every counter at zero at the end. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.FfninFwdIdeal.Hand

end
-- ==== Proof.FwdFfnin.lean ====
/-
  The norm before the feed-forward and the product behind it, on the way forward: what the kernel leaves, what the plain lines give, and that they are equal.
-/
module

public import proofs.«01_k».proof.Defs
public import proofs.«01_k».proof.Proof.RunFfninFwd
public import proofs.«01_k».proof.Proof.Gen.FfninFwd.Frame
public import proofs.«01_k».proof.Proof.Gen.FfninFwdRefIdeal.Run
public import proofs.«01_k».proof.Proof.Gen.FfninFwdRefIdeal.Read
public import proofs.«01_k».proof.Proof.Blocked
public import proofs.«01_k».proof.Proof.NormGrad
public import Idealize.ShloMosaic.Lib.Pointwise
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384
set_option maxHeartbeats 1000000

noncomputable section

namespace Cert.FfninFwdIdeal.Out

open Idealize.ShloMosaic Idealize.ShloMosaic.TcCoe Idealize.SL.Sem
open Cert.FfninFwdIdeal Cert.FfninFwdIdeal.Gen Cert.FfninFwdIdeal.Hand Cert.Blocked

/-! ## The payloads -/

theorem norm_at (x : Vec Ideal S512x1024 .f32) (g s h : Vec Ideal S1x1024 .f32) (i : Fin 512) (d : Fin 1024) :
    k0_pay1 x g s h (ix2 i d) = NormGrad.value (fun k => x (ix2 i k)) (fun k => g (ix2 0 k)) (fun k => s (ix2 0 k)) (fun k => h (ix2 0 k)) d := by
  pointwise [k0_pay1]
  rfl

theorem kept_at (x : Vec Ideal S512x1024 .f32) (g s h : Vec Ideal S1x1024 .f32) (i : Fin 512) (d : Fin 1024) :
    k0_pay2 x g s h (ix3 0 i d) = NormGrad.value (fun k => x (ix2 i k)) (fun k => g (ix2 0 k)) (fun k => s (ix2 0 k)) (fun k => h (ix2 0 k)) d := by
  rw [← norm_at]
  pointwise [k0_pay2, k0_pay1]

theorem prod_at (y : Vec Ideal S1x512x1024 .bf16) (w : Vec Ideal S1x1024x1408 .bf16) (i : Fin 512) (d : Fin 1408) :
    k0_pay3 y w (ix2 i d) = ∑ k, y (ix3 0 i k) * w (ix3 0 k d) := by
  pointwise [k0_pay3]

/-! ## The blocks of a point -/

variable (m : (ℓ : Loc nD τ sig) → Buf (Elt Ideal) ℓ) (c : Dev nD)

/-- The arguments: the input, the gain, the scale, the shift, the weight. -/
def xs : (⟨2, ![4096, 1024]⟩ : Shape).Idx → EReal := m ((c.tc : Thread nD τ).loc main_arg0)
def gn : (⟨2, ![1, 1024]⟩ : Shape).Idx → EReal := m ((c.tc : Thread nD τ).loc main_arg1)
def sc : (⟨2, ![1, 1024]⟩ : Shape).Idx → EReal := m ((c.tc : Thread nD τ).loc main_arg2)
def sh : (⟨2, ![1, 1024]⟩ : Shape).Idx → EReal := m ((c.tc : Thread nD τ).loc main_arg3)
def wt : (⟨2, ![1024, 5632]⟩ : Shape).Idx → EReal := m ((c.tc : Thread nD τ).loc main_arg4)

/-- Feature `d` of the normalised position `i`. -/
def normed (i : Fin 4096) (d : Fin 1024) : EReal :=
  NormGrad.value (fun k => xs m c (ix2 i k)) (fun k => gn m c (ix2 0 k)) (fun k => sc m c (ix2 0 k)) (fun k => sh m c (ix2 0 k)) d

theorem at_0 (t : Fin cfg0.N) : win0_0.index t = ![min t.val 7, 0] := by revert t; decide +kernel
theorem at_1 (t : Fin cfg0.N) : win0_1.index t = ![0, 0] := by revert t; decide +kernel
theorem at_2 (t : Fin cfg0.N) : win0_2.index t = ![0, 0] := by revert t; decide +kernel
theorem at_3 (t : Fin cfg0.N) : win0_3.index t = ![0, 0] := by revert t; decide +kernel
theorem at_4 (t : Fin cfg0.N) : win0_4.index t = ![0, 0, t.val / 8] := by revert t; decide +kernel
theorem at_5 (t : Fin cfg0.N) : win0_5.index t = ![min t.val 7, 0] := by revert t; decide +kernel
theorem at_6 (t : Fin cfg0.N) : win0_6.index t = ![t.val % 8, t.val / 8] := by revert t; decide +kernel

/-- Position `i` of the row block of a number, and column `d` of the point's column block. -/
def pos (n : ℕ) (i : Fin 512) : Fin 4096 := ⟨512 * (n % 8) + i.val, by omega⟩
def col (t : Fin cfg0.N) (d : Fin 1408) : Fin 5632 := ⟨1408 * (t.val / 8) + d.val, by have := lt_of_lt_of_eq t.isLt N_0; omega⟩

theorem xs_blk (t : Fin cfg0.N) (ht : t.val < 8) (i : Fin 512) (d : Fin 1024) : (iblk m c 0 t : Vec Ideal S512x1024 .f32) (ix2 i d) = xs m c (ix2 (pos t.val i) d) := by
  have hm : min t.val 7 = t.val % 8 := by omega
  have ha : win0_0.index t = ![t.val % 8, 0] := (at_0 t).trans (by rw [hm])
  unfold xs pos
  blk_point [iblk, V, ha]

theorem gn_blk (t : Fin cfg0.N) (d : Fin 1024) : (iblk m c 1 t : Vec Ideal S1x1024 .f32) (ix2 0 d) = gn m c (ix2 0 d) := by
  unfold gn
  blk_point [iblk, V, at_1 t]

theorem sc_blk (t : Fin cfg0.N) (d : Fin 1024) : (iblk m c 2 t : Vec Ideal S1x1024 .f32) (ix2 0 d) = sc m c (ix2 0 d) := by
  unfold sc
  blk_point [iblk, V, at_2 t]

theorem sh_blk (t : Fin cfg0.N) (d : Fin 1024) : (iblk m c 3 t : Vec Ideal S1x1024 .f32) (ix2 0 d) = sh m c (ix2 0 d) := by
  unfold sh
  blk_point [iblk, V, at_3 t]

theorem wt_blk (t : Fin cfg0.N) (k : Fin 1024) (d : Fin 1408) : (iblk m c 4 t : Vec Ideal S1x1024x1408 .bf16) (ix3 0 k d) = wt m c (ix2 k (col t d)) := by
  unfold wt col
  blk_point [iblk, V, at_4 t]

/-! ## What a point leaves -/

theorem row_val (n : ℕ) : (row n).val = n % 8 := rfl

theorem value_blk (n : ℕ) (i : Fin 512) (d : Fin 1024) :
    NormGrad.value (fun k => (iblk m c 0 (row n) : Vec Ideal S512x1024 .f32) (ix2 i k)) (fun k => (iblk m c 1 (row n) : Vec Ideal S1x1024 .f32) (ix2 0 k))
      (fun k => (iblk m c 2 (row n) : Vec Ideal S1x1024 .f32) (ix2 0 k)) (fun k => (iblk m c 3 (row n) : Vec Ideal S1x1024 .f32) (ix2 0 k)) d = normed m c (pos n i) d := by
  have hr : (row n).val < 8 := by rw [row_val]; omega
  have hp : pos (row n).val i = pos n i := Fin.ext (by show 512 * ((row n).val % 8) + i.val = 512 * (n % 8) + i.val; rw [row_val]; omega)
  simp only [xs_blk m c (row n) hr, gn_blk, sc_blk, sh_blk, hp]
  rfl

theorem rows_out (n : ℕ) (i : Fin 512) (d : Fin 1024) : rows m c (row n) (ix2 i d) = normed m c (pos n i) d :=
  (norm_at _ _ _ _ i d).trans (value_blk m c n i d)

theorem kept_out (n : ℕ) (i : Fin 512) (d : Fin 1024) : keptRows m c (row n) (ix3 0 i d) = normed m c (pos n i) d :=
  (kept_at _ _ _ _ i d).trans (value_blk m c n i d)

theorem prod_out (t : Fin cfg0.N) (i : Fin 512) (d : Fin 1408) : k0_pay3 (keptRows m c (row t.val)) (iblk m c 4 t) (ix2 i d)
    = ∑ k, normed m c (pos t.val i) k * wt m c (ix2 k (col t d)) :=
  (prod_at _ _ i d).trans (Finset.sum_congr rfl fun k _ => congrArg₂ (· * ·) (kept_out m c t.val i k) (wt_blk m c t k d))

/-! ## The arrays -/

theorem flush_5 : ∀ t : Fin cfg0.N, (cfg0.win 5).flush t = true ↔ t.val < 7 ∨ t.val = 31 := by decide +kernel

/-- The points that write back write to different rows. -/
theorem disjoint5 (t t' : Fin cfg0.N) (h : (cfg0.win 5).flush t = true) (h' : (cfg0.win 5).flush t' = true) (hne : t ≠ t') :
    Disjoint ((cfg0.win 5).blk t).view.set ((cfg0.win 5).blk t').view.set :=
  (cfg0.win 5).disjoint_blk fun e => hne <| Fin.ext <| by
    have e0 : min t.val 7 = min t'.val 7 := congrFun (((at_5 t).symm.trans e).trans (at_5 t')) 0
    have h0 := (flush_5 t).mp h
    have h1 := (flush_5 t').mp h'
    omega

/-- Different points write to different places of the product. -/
theorem disjoint6 (t t' : Fin cfg0.N) (_ : (cfg0.win 6).flush t = true) (_ : (cfg0.win 6).flush t' = true) (hne : t ≠ t') :
    Disjoint ((cfg0.win 6).blk t).view.set ((cfg0.win 6).blk t').view.set :=
  (cfg0.win 6).disjoint_blk fun e => hne <| Fin.ext <| by
    have e0 : t.val % 8 = t'.val % 8 := congrFun (((at_6 t).symm.trans e).trans (at_6 t')) 0
    have e1 : t.val / 8 = t'.val / 8 := congrFun (((at_6 t).symm.trans e).trans (at_6 t')) 1
    omega

theorem flushed_5 (t : Fin cfg0.N) : (dats m 0 c).flushed 5 t = (cfg0.win 5).cut (grid0.coords t) (rows m c (row (min t.val 7))) := by
  show (cfg0.win 5).cut (grid0.coords t) ((dats m 0 c).after 5 t) = _
  rw [after_5]

theorem flushed_6 (t : Fin cfg0.N) : (dats m 0 c).flushed 6 t = (cfg0.win 6).cut (grid0.coords t) (k0_pay3 (keptRows m c (row t.val)) (iblk m c 4 t)) := by
  show (cfg0.win 6).cut (grid0.coords t) ((dats m 0 c).after 6 t) = _
  rw [after_6]

theorem norm_res (i : Fin 4096) (d : Fin 1024) : (dats m 0 c).arrAt 5 cfg0.N (ix2 i d) = normed m c i d := by
  obtain ⟨t, ht⟩ : ∃ t : Fin cfg0.N, t.val = if i.val / 512 < 7 then i.val / 512 else 31 := by
    by_cases h : i.val / 512 < 7
    · exact ⟨⟨i.val / 512, lt_of_lt_of_eq (by omega) N_0.symm⟩, (if_pos h).symm⟩
    · exact ⟨⟨31, lt_of_lt_of_eq (by omega) N_0.symm⟩, (if_neg h).symm⟩
  have hm : min t.val 7 = i.val / 512 := by rw [ht]; split_ifs <;> omega
  have hf : t.val < 7 ∨ t.val = 31 := by rw [ht]; split_ifs <;> omega
  have ha : win0_5.index t = ![i.val / 512, 0] := (at_5 t).trans (by rw [hm])
  have hi : pos (min t.val 7) ⟨i.val % 512, by omega⟩ = i := Fin.ext (by show 512 * (min t.val 7 % 8) + i.val % 512 = i.val; rw [hm]; omega)
  have hb := congrFun ((dats m 0 c).read_blk_arrAt_eq_flushed 5 disjoint5 cfg0.N t t.isLt ((flush_5 t).mpr hf)) (ix2 ⟨i.val % 512, by omega⟩ d)
  rw [flushed_5] at hb
  refine (Eq.trans ?_ hb).trans ((rows_out m c (min t.val 7) ⟨i.val % 512, by omega⟩ d).trans ?_)
  · blk_ext! [ha]
  · rw [hi]

theorem prod_res (i : Fin 4096) (d : Fin 5632) : (dats m 0 c).arrAt 6 cfg0.N (ix2 i d) = ∑ k, normed m c i k * wt m c (ix2 k d) := by
  obtain ⟨t, ht⟩ : ∃ t : Fin cfg0.N, t.val = 8 * (d.val / 1408) + i.val / 512 := ⟨⟨_, lt_of_lt_of_eq (by omega) N_0.symm⟩, rfl⟩
  have hi : pos t.val ⟨i.val % 512, by omega⟩ = i := Fin.ext (by show 512 * (t.val % 8) + i.val % 512 = i.val; omega)
  have hd : col t ⟨d.val % 1408, by omega⟩ = d := Fin.ext (by show 1408 * (t.val / 8) + d.val % 1408 = d.val; omega)
  have hb := congrFun ((dats m 0 c).read_blk_arrAt_eq_flushed 6 disjoint6 cfg0.N t t.isLt (flush0_6 t)) (ix2 ⟨i.val % 512, by omega⟩ ⟨d.val % 1408, by omega⟩)
  rw [flushed_6] at hb
  refine (Eq.trans ?_ hb).trans ((prod_out m c t ⟨i.val % 512, by omega⟩ ⟨d.val % 1408, by omega⟩).trans ?_)
  · blk_ext! [at_6 t]
  · rw [hi, hd]

end Cert.FfninFwdIdeal.Out

namespace Cert.FfninFwdRefIdeal.Out

open Idealize.ShloMosaic Cert.FfninFwdRefIdeal Cert.FfninFwdRefIdeal.Read

variable (x0 : Vec Ideal S4096x1024 .f32) (x1 x2 x3 : Vec Ideal S1x1024 .f32) (x4 : Vec Ideal S1024x5632 .bf16)

theorem norm_ref (i : Fin 4096) (d : Fin 1024) : val_main_v18 (F := Ideal) x0 x1 x2 x3 (ix2 i d)
    = NormGrad.value (fun k => x0 (ix2 i k)) (fun k => x1 (ix2 0 k)) (fun k => x2 (ix2 0 k)) (fun k => x3 (ix2 0 k)) d := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem prod_ref (i : Fin 4096) (d : Fin 5632) : val_main_v20 (F := Ideal) x0 x1 x2 x3 x4 (ix2 i d)
    = ∑ k, NormGrad.value (fun k => x0 (ix2 i k)) (fun k => x1 (ix2 0 k)) (fun k => x2 (ix2 0 k)) (fun k => x3 (ix2 0 k)) k * (x4 (ix2 k d) : EReal) := by
  simp only [← norm_ref]
  pointwise [val_main_v20, val_main_v19, val_main_v18]

end Cert.FfninFwdRefIdeal.Out

namespace Cert.Proof

open Idealize.ShloMosaic Idealize.ShloMosaic.TcCoe Idealize.SL.Sem

/-- The two texts' bodies are one. -/
theorem ffninFwd_bodies : Cert.FfninFwd.defs₀ (F := Bits) = Cert.FfninFwdIdeal.defs₀ (F := Bits) := by
  unfold Cert.FfninFwd.defs₀ Cert.FfninFwdIdeal.defs₀
  refine congrArg _ (funext fun p => funext fun q => ?_)
  match p, q with
  | 0, (t, s) => rfl
  | ⟨_ + 1, h⟩, _ => exact absurd h (by omega)

theorem ffninFwd_defs : Cert.FfninFwd.defs (F := Bits) = Cert.FfninFwdIdeal.defs (F := Bits) := by
  unfold Cert.FfninFwd.defs Cert.FfninFwdIdeal.defs
  exact congrArg (Pipeline.defs _) ffninFwd_bodies

theorem frame_ffninFwd : Cert.quiescent_FfninFwd := fun m ρ _ => by
  rw [ffninFwd_defs]
  exact Cert.FfninFwdIdeal.Hand.frame_run (F := Bits) m ρ

theorem frame_ffninFwdIdeal : Cert.quiescent_FfninFwdIdeal := fun m ρ _ => Cert.FfninFwdIdeal.Hand.frame_run (F := Ideal) m ρ

theorem frame_ffninFwdRef : Cert.quiescent_FfninFwdRefIdeal := fun m ρ _ =>
  (θ_run Cert.FfninFwdRefIdeal.defs _ _).mono
    (fun _ h => ⟨fun c => (h c).2.2, sem_eq_zero_of_no_sems (by decide) _⟩) (Cert.FfninFwdRefIdeal.Value.run (F := Ideal) m ρ)

theorem algebraic_ffninFwd : Cert.algebraic_FfninFwdIdeal_FfninFwdRefIdeal := by
  intro m ρ m' ρ' _ hargs
  refine ⟨fun c => (Cert.FfninFwdIdeal.Hand.dats m 0 c).arrAt 5 Cert.FfninFwdIdeal.cfg0.N, fun c => (Cert.FfninFwdIdeal.Hand.dats m 0 c).arrAt 6 Cert.FfninFwdIdeal.cfg0.N,
    (θ_run Cert.FfninFwdIdeal.defs _ _).mono (fun r H c => ⟨(H.1.1 c).1 5, (H.1.1 c).1 6, H.2.1 c⟩)
      (θ_run_and (Cert.FfninFwdIdeal.Hand.run_quiet (F := Ideal) m ρ) (Cert.FfninFwdIdeal.Hand.frame_run (F := Ideal) m ρ)),
    (θ_run Cert.FfninFwdRefIdeal.defs _ _).mono (fun r H c => ?_) (Cert.FfninFwdRefIdeal.Value.run (F := Ideal) m' ρ')⟩
  obtain ⟨h0, h1, hk⟩ := H c
  obtain ⟨e0, e1, e2, e3, e4⟩ := hargs c
  refine ⟨h0.trans ?_, h1.trans ?_, hk⟩
  · refine (Cert.FfninFwdRefIdeal.Read.val_main_v18_eq _ _ _ _).trans (funext fun i => ?_)
    rw [e0, e1, e2, e3, eq_ix2 i]
    exact (Cert.FfninFwdRefIdeal.Out.norm_ref _ _ _ _ (i 0) (i 1)).trans (Cert.FfninFwdIdeal.Out.norm_res m c (i 0) (i 1)).symm
  · refine (Cert.FfninFwdRefIdeal.Read.val_main_v20_eq _ _ _ _ _).trans (funext fun i => ?_)
    rw [e0, e1, e2, e3, e4, eq_ix2 i]
    exact (Cert.FfninFwdRefIdeal.Out.prod_ref _ _ _ _ _ (i 0) (i 1)).trans (Cert.FfninFwdIdeal.Out.prod_res m c (i 0) (i 1)).symm

end Cert.Proof

end
-- ==== Proof.RunProjFwd.lean ====
/-
  The run of the normalised product: in the first sweep over the rows each block is normalised and kept in a
  slab of the scratch; every later sweep multiplies the kept slabs by its own columns of the weight.
-/
module

public import proofs.«01_k».proof.Proof.Gen.ProjFwdIdeal.Frame
public import proofs.«01_k».proof.Proof.Gen.ProjFwdIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.ProjFwdIdeal.Hand

open Cert.ProjFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The slab of the scratch a block of rows uses. -/
abbrev slab (i : grid0.Coords) (xs : Vec F S8x512x1024 .bf16) : Vec F S1x512x1024 .bf16 :=
  VecWindow.window xs (k0_off2 i) S1x512x1024.size (k0_off2_inb i)

/-- After the first sweep a block of the product only reads its slab of the normalised rows. -/
theorem body_later (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024x1152 .bf16) (harg6 : arg6.IsWhole) (arg7 : Memref sig .tc .vmem S512x1024 .bf16) (harg7 : arg7.IsWhole)
    (arg8 : Memref sig .tc .vmem S512x1152 .f32) (harg8 : arg8.IsWhole) (arg9 : Memref sig .tc .vmem S8x512x1024 .bf16) (harg9 : arg9.IsWhole) (hc : ¬k0_cond1 i = 1#1)
    (x0 : Vec F S512x1024 .f32) (x1 x2 x3 : Vec F S1x1024 .f32) (x4 : Vec F S1x1024x1152 .bf16) (x5 : Vec F S512x1024 .bf16) (xs : Vec F S8x512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare (k0_pay3 (slab i xs) x4) ∗ owns (c : Thread nD τ) arg9 fullShare xs) -∗ K ⟨⟩))
      ⊢ wp frame (wpE (defs₀ (F := F)) Variants.none c none) E
          (cc0_proj_fwd_3 i arg2 harg2 arg3 harg3 arg4 harg4 arg5 harg5 arg6 harg6 arg7 harg7 arg8 harg8 arg9 harg9) K := by
  simp only [cc0_proj_fwd_3_eq_skeleton]; unfold cc0_proj_fwd_3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg9.eq_unread hfs
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    rw [View.read_writes_full arg8.view _ inb_S512x1152_S512x1152_0_0]
    rw [View.readAt_unit arg9.view _ _ rfl (k0_off2_inb i), View.readAt_full arg6.view _ inb_S1x1024x1152_S1x1024x1152_0_0_0, hf4, hfs]
  iexists _; isplitr; · ipureintro; exact harg9.read_unread _
  iexact HS

/-- In the first sweep a block normalises its rows, keeps them in its slab and multiplies them. -/
theorem body_first (c : Dev nD) (i : grid0.Coords) (arg2 : Memref sig .tc .vmem S512x1024 .f32) (harg2 : arg2.IsWhole) (arg3 : Memref sig .tc .vmem S1x1024 .f32) (harg3 : arg3.IsWhole)
    (arg4 : Memref sig .tc .vmem S1x1024 .f32) (harg4 : arg4.IsWhole) (arg5 : Memref sig .tc .vmem S1x1024 .f32) (harg5 : arg5.IsWhole)
    (arg6 : Memref sig .tc .vmem S1x1024x1152 .bf16) (harg6 : arg6.IsWhole) (arg7 : Memref sig .tc .vmem S512x1024 .bf16) (harg7 : arg7.IsWhole)
    (arg8 : Memref sig .tc .vmem S512x1152 .f32) (harg8 : arg8.IsWhole) (arg9 : Memref sig .tc .vmem S8x512x1024 .bf16) (harg9 : arg9.IsWhole) (hc : k0_cond1 i = 1#1)
    (x0 : Vec F S512x1024 .f32) (x1 x2 x3 : Vec F S1x1024 .f32) (x4 : Vec F S1x1024x1152 .bf16) (xs : Vec F S8x512x1024 .bf16)
    (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare (k0_pay1 x0 x1 x2 x3)
        ∗ owns (c : Thread nD τ) arg8 fullShare (k0_pay3 (k0_pay2 x0 x1 x2 x3) x4) ∗ owns (c : Thread nD τ) arg9 fullShare (VecWindow.put xs (k0_off2 i) S1x512x1024.size (k0_pay2 x0 x1 x2 x3))) -∗ K ⟨⟩))
      ⊢ wp frame (wpE (defs₀ (F := F)) Variants.none c none) E
          (cc0_proj_fwd_3 i arg2 harg2 arg3 harg3 arg4 harg4 arg5 harg5 arg6 harg6 arg7 harg7 arg8 harg8 arg9 harg9) K := by
  simp only [cc0_proj_fwd_3_eq_skeleton]; unfold cc0_proj_fwd_3_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
  obtain rfl := harg2.eq_unread hf0; obtain rfl := harg3.eq_unread hf1; obtain rfl := harg4.eq_unread hf2; obtain rfl := harg5.eq_unread hf3
  obtain rfl := harg6.eq_unread hf4; obtain rfl := harg9.eq_unread hfs
  have hx0 := (View.readAt_full arg2.view (harg2.unread x0) inb_S512x1024_S512x1024_0_0).trans hf0
  have hx1 := (View.readAt_full arg3.view (harg3.unread x1) inb_S1x1024_S1x1024_0_0).trans hf1
  have hx2 := (View.readAt_full arg4.view (harg4.unread x2) inb_S1x1024_S1x1024_0_0).trans hf2
  have hx3 := (View.readAt_full arg5.view (harg5.unread x3) inb_S1x1024_S1x1024_0_0).trans hf3
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    rw [View.read_writes_full arg7.view _ inb_S512x1024_S512x1024_0_0]
  isplitl [H6]
  · iexists _; isplitr
    swap; · iexact H6
    ipureintro
    rw [View.read_writes_full arg8.view _ inb_S512x1152_S512x1152_0_0]
    unfold body_first.sl.v4 body_first.sl.HS_1
    rw [View.readAt_full arg6.view _ inb_S1x1024x1152_S1x1024x1152_0_0_0, hf4]
    refine congrArg (fun s => k0_pay3 s x4) ?_
    unfold View.readCov
    rw [View.readAt_unit arg9.view _ _ rfl (k0_off2_inb i), View.read_writes_cons_put arg9.view _ _ _ _ rfl]
    exact VecWindow.window_put_same _ _ _ _ _
  iexists _; isplitr
  swap; · iexact HS
  ipureintro
  unfold body_first.sl.HS_1
  rw [View.read_writes_cons_put arg9.view _ _ _ _ rfl, View.writes_nil, hfs]
  rfl

variable (m : (ℓ : Loc nD τ sig) → Buf (Elt F) ℓ) (ρ : Dev nD → PrngReg)

/-! ## The points -/

/-- The condition of the body holds in the first sweep over the rows. -/
theorem cond_iff : ∀ t : Fin cfg0.N, k0_cond1 (grid0.coords t) = 1#1 ↔ t.val < 8 :=
  (fun t => by
    have ht : t.val < 24 := Nat.lt_of_lt_of_eq t.isLt N_0
    have e0 : (grid0.coords t 0).val = t.val / 8 % 3 := Pipeline.Grid.coords_val t 0 (by decide) rfl
    have e1 : (grid0.coords t 1).val = t.val / 1 % 8 := Pipeline.Grid.coords_val t 1 (by decide) rfl
    simp only [k0_cond1, e0, e1]
    word_cmp
   : ∀ t : Fin grid0.N, k0_cond1 (grid0.coords t) = 1#1 ↔ t.val < 8)

/-- The slab a point uses begins at its block of rows. -/
theorem off_eq : ∀ t : Fin cfg0.N, k0_off2 (grid0.coords t) = ![t.val % 8, 0, 0] :=
  (fun t => by
    have e1 : (grid0.coords t 1).val = t.val / 1 % 8 := Pipeline.Grid.coords_val t 1 (by decide) rfl
    have h : (BitVec.ofNat 32 (grid0.coords t 1).val).toNat = t.val % 8 := by
      rw [e1, BitVec.toNat_ofNat]; omega
    show ![(BitVec.ofNat 32 (grid0.coords t 1).val).toNat, 0, 0] = _
    rw [h]
   : ∀ t : Fin grid0.N, k0_off2 (grid0.coords t) = ![t.val % 8, 0, 0])

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_6 : ∀ t : Fin cfg0.N, cfg0.idle 6 (grid0.coords t) = false := fun _ => rfl
/-- The normalised rows' window is stored into exactly in the first sweep. -/
theorem live_5 : ∀ t : Fin cfg0.N, t.val < 8 → cfg0.idle 5 (grid0.coords t) = false := by decide +kernel
theorem idle_5 : ∀ t : Fin cfg0.N, ¬t.val < 8 → cfg0.idle 5 (grid0.coords t) = true := by decide +kernel
theorem fresh_5 : ∀ t : Fin cfg0.N, ¬t.val < 8 → cfg0.fresh 5 t.val = false := by decide +kernel

/-! ## What the buffers hold -/

/-- The point of the first sweep that has the block of rows `n`. -/
abbrev row (n : ℕ) : Fin cfg0.N := ⟨n % 8, Nat.lt_of_lt_of_eq (by omega : n % 8 < 24) N_0.symm⟩

/-- The normalised rows a point of the first sweep computes. -/
abbrev rows (c : Dev nD) (t : Fin cfg0.N) : Vec F S512x1024 .bf16 :=
  k0_pay1 (iblk m c 0 t) (iblk m c 1 t) (iblk m c 2 t) (iblk m c 3 t)

/-- The same as a slab of the scratch. -/
abbrev keptRows (c : Dev nD) (t : Fin cfg0.N) : Vec F S1x512x1024 .bf16 :=
  k0_pay2 (iblk m c 0 t) (iblk m c 1 t) (iblk m c 2 t) (iblk m c 3 t)

/-- Before point `n` the scratch holds the slabs of the points of the first sweep before it. -/
def Kept (c : Dev nD) (n : ℕ) (xs : Vec F S8x512x1024 .bf16) : Prop :=
  ∀ t : Fin cfg0.N, t.val < n → t.val < 8 → slab (grid0.coords t) xs = keptRows m c t

theorem window_congr {α : Type} {s : Shape} (x : s.Idx → α) {o o' size : Fin s.rank → ℕ} (h : o = o') (hi hi') :
    VecWindow.window x o size hi = VecWindow.window x o' size hi' := by
  subst h; rfl

/-- A later point finds its slab as the first sweep left it. -/
theorem Kept.at {c : Dev nD} {n : ℕ} {xs : Vec F S8x512x1024 .bf16} (h : Kept m c n xs) (t : Fin cfg0.N) (ht : ¬t.val < 8) (hn : t.val ≤ n) :
    slab (grid0.coords t) xs = keptRows m c (row t.val) := by
  have h8 := h (row t.val) (by show t.val % 8 < n; omega) (by show t.val % 8 < 8; omega)
  rw [← h8]
  refine window_congr _ ?_ _ _
  show k0_off2 (grid0.coords t) = k0_off2 (grid0.coords (row t.val))
  rw [off_eq, off_eq]
  show ![t.val % 8, 0, 0] = ![t.val % 8 % 8, 0, 0]
  rw [Nat.mod_mod]

/-- A point of the first sweep adds its own slab and leaves the others. -/
theorem Kept.put {c : Dev nD} {t : Fin cfg0.N} {xs : Vec F S8x512x1024 .bf16} (h : Kept m c t.val xs) (ht : t.val < 8) :
    Kept m c (t.val + 1) (VecWindow.put xs (k0_off2 (grid0.coords t)) S1x512x1024.size (keptRows m c t)) := by
  intro s hs h8
  by_cases e : s = t
  · subst e
    exact VecWindow.window_put_same _ _ _ _ _
  · have hlt : s.val < t.val := by
      have : s.val ≠ t.val := fun h => e (Fin.ext h)
      omega
    refine (VecWindow.window_put_of_disjoint _ _ _ _ _ _ _ (0 : Fin 3) ?_).trans (h s hlt h8)
    rw [off_eq, off_eq]
    show s.val % 8 + 1 ≤ t.val % 8 ∨ t.val % 8 + 1 ≤ s.val % 8
    omega

/-- A later point leaves the slabs. -/
theorem Kept.keep {c : Dev nD} {n : ℕ} {xs : Vec F S8x512x1024 .bf16} (h : Kept m c n xs) (hn : ¬n < 8) : Kept m c (n + 1) xs :=
  fun t _ h8 => h t (by omega) h8

/-! ## The proof data -/

/-- The scratch. -/
abbrev scM : Memref sig .tc .vmem S8x512x1024 .bf16 := Memref.whole cc0_scratch0

/-- The invariant: the scratch holds the slabs of the first sweep so far. -/
def Inv (c : Dev nD) (n : ℕ) : sProp 𝕄 :=
  iprop((∃ xs, ⌜Kept m c n xs⌝ ∗ owns (c : Thread nD τ) scM fullShare xs) ∗ (∃ r, prngReg c r))

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The windows' contents after each point: an input's block; the normalised rows of the point's block, those of the last
    block once the first sweep is over; the block of the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => rows m c (row (min t.val 7))
    | ⟨6, _⟩ => k0_pay3 (keptRows m c (row t.val)) (iblk m c 4 t)
  Φ t := Inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = rows m c (row (min t.val 7)) := by dsimp only [dats]
theorem after_6 (c : Dev nD) (t : Fin cfg0.N) : (dats m 0 c).after 6 t = k0_pay3 (keptRows m c (row t.val)) (iblk m c 4 t) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- After the first sweep the window of the normalised rows holds those of the last block. -/
theorem before_5 (c : Dev nD) (t : Fin cfg0.N) (ht : ¬t.val < 8) (d) : (dats m 0 c).before 5 t d = (dats m 0 c).after 5 t := by
  have carry : ∀ s : Fin cfg0.N, ¬s.val < 8 → (dats m 0 c).after 5 s = (dats m 0 c).after 5 ⟨s.val - 1, by omega⟩ := fun s hs => by
    rw [after_5, after_5]
    have e : min s.val 7 = min (s.val - 1) 7 := by omega
    show rows m c (row (min s.val 7)) = rows m c (row (min (s.val - 1) 7))
    rw [e]
  refine ((dats m 0 c).before_out_traj 5 rfl (fun _ _ => rfl) (fun s h0 hi _ => carry s fun h8 => ?_) t.val t rfl d).trans ?_
  · have hl := live_5 s h8
    exact Bool.false_ne_true (hl.symm.trans hi)
  · rw [fresh_5 t ht, if_neg Bool.false_ne_true]
    exact (carry t ht).symm

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, from what the pipeline hands it to what the proof data states. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = Inv m c (t.val + 1) from rfl, show (dats m 0 c).Φ t.castSucc = Inv m c t.val from rfl]
  unfold Inv
  rw [show (dats m 0 c).leavesExact 0 t = owns (c : Thread nD τ) (win0_0.stage (cfg0.slots t 0)) fullShare ((dats m 0 c).after 0 t) from by
    unfold Dat.leavesExact; rw [live_0 t], after_0]
  rw [show (dats m 0 c).leavesExact 1 t = owns (c : Thread nD τ) (win0_1.stage (cfg0.slots t 1)) fullShare ((dats m 0 c).after 1 t) from by
    unfold Dat.leavesExact; rw [live_1 t], after_1]
  rw [show (dats m 0 c).leavesExact 2 t = owns (c : Thread nD τ) (win0_2.stage (cfg0.slots t 2)) fullShare ((dats m 0 c).after 2 t) from by
    unfold Dat.leavesExact; rw [live_2 t], after_2]
  rw [show (dats m 0 c).leavesExact 3 t = owns (c : Thread nD τ) (win0_3.stage (cfg0.slots t 3)) fullShare ((dats m 0 c).after 3 t) from by
    unfold Dat.leavesExact; rw [live_3 t], after_3]
  rw [show (dats m 0 c).leavesExact 4 t = owns (c : Thread nD τ) (win0_4.stage (cfg0.slots t 4)) fullShare ((dats m 0 c).after 4 t) from by
    unfold Dat.leavesExact; rw [live_4 t], after_4]
  rw [show (dats m 0 c).leavesExact 6 t = owns (c : Thread nD τ) (win0_6.stage (cfg0.slots t 6)) fullShare ((dats m 0 c).after 6 t) from by
    unfold Dat.leavesExact; rw [live_6 t], after_6]
  by_cases h8 : t.val < 8
  · have er : row (min t.val 7) = t := Fin.ext (by show min t.val 7 % 8 = t.val; omega)
    have er' : row t.val = t := Fin.ext (by show t.val % 8 = t.val; omega)
    rw [show (dats m 0 c).leavesExact 5 t = owns (c : Thread nD τ) (win0_5.stage (cfg0.slots t 5)) fullShare ((dats m 0 c).after 5 t) from by
      unfold Dat.leavesExact; rw [live_5 t h8], after_5, er, er']
    iintro ⟨⟨⟨%xs, %hk, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scM (Memref.isWhole_whole _) ((cond_iff t).mpr h8) (iblk m c 0 t) (iblk m c 1 t) (iblk m c 2 t) (iblk m c 3 t) (iblk m c 4 t) xs Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS]; · iexact HS
    iintro ⟨H0, H1, H2, H3, H4, H5, H6, HS⟩
    isplitl [HS Hg]
    · isplitl [HS]
      · iexists _; isplitr
        swap; · iexact HS
        ipureintro; exact hk.put m h8
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hl : (dats m 0 c).leavesExact 5 t = owns (c : Thread nD τ) (win0_5.stage (cfg0.slots t 5)) fullShare ((dats m 0 c).after 5 t)
        ∨ (dats m 0 c).leavesExact 5 t = iprop(∃ d, owns (c : Thread nD τ) (win0_5.stage (cfg0.slots t 5)) fullShare ((dats m 0 c).before 5 t d)) := by
      rcases hf : (cfg0.win 5).flush t with _ | _
      · exact .inr (Dat.leavesExact_idle _ 5 t (idle_5 t h8) hf)
      · refine .inl ?_
        unfold Dat.leavesExact; rw [idle_5 t h8, hf]
    simp only [before_5 m c t h8] at hl ⊢
    iintro ⟨⟨⟨%xs, %hk, HS⟩, Hg⟩, Ho, ⟨%d0, H0⟩, ⟨%d1, H1⟩, ⟨%d2, H2⟩, ⟨%d3, H3⟩, ⟨%d4, H4⟩, ⟨%d5, H5⟩, ⟨%d6, H6⟩⟩
    iapply (body_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) scM (Memref.isWhole_whole _) (fun h => h8 ((cond_iff t).mp h)) (iblk m c 0 t) (iblk m c 1 t) (iblk m c 2 t) (iblk m c 3 t) (iblk m c 4 t) _ xs Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    rw [hk.at m t h8 (Nat.le_refl _)]
    iintro ⟨H0, H1, H2, H3, H4, H5, H6, HS⟩
    isplitl [HS Hg]
    · isplitl [HS]
      · iexists _; isplitr
        swap; · iexact HS
        ipureintro; exact hk.keep m h8
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · rcases hl with hl | hl
      · rw [hl]; iexact H5
      · rw [hl]; iexists d5; iexact H5
    iexact H6

theorem body_obligation (c : Dev nD) : BodyObligation (dats (F := F) m 0 c) (defs₀ (F := F)) Variants.none () Set.univ := fun t => by
  have hrow : defs₀ (F := F) .tc cfg0.body (cfg0.bodyArgs t (cfg0.slots t)) = bodyAt0 t := by
    unfold defs₀; rw [Defs.onTc_tc]
  rw [bigSep_W0, bigSep_W0, hrow]
  exact triple_restated (sound_body m c t) rfl .rfl fun _ => .rfl

/-- Before the first point nothing is asked of the scratch. -/
theorem hin (c : Dev nD) : Pipeline.ΦA spec0 c ⊢ (dats m 0 c).Φ 0 := by
  rw [show (dats m 0 c).Φ 0 = Inv m c 0 from rfl, PhiA_eq]
  unfold Inv
  iintro ⟨⟨%d, HS⟩, Hg⟩
  isplitl [HS]
  · iexists d; isplitr
    · ipureintro; exact fun t h _ => absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, PhiA_eq]
  unfold Inv
  iintro ⟨⟨%xs, %hk, HS⟩, Hg⟩
  isplitl [HS]
  · iexists xs; iexact HS
  iexact Hg

/-! ## The run and the frame -/

set_option backward.isDefEq.respectTransparency.types false in
/-- The run, with every counter at zero at the end. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments end unchanged and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_quiet m ρ)))
    ((θ_run defs _ _).mono (fun _ h => h.2) (run_quiet m ρ))

end Cert.ProjFwdIdeal.Hand

end
-- ==== Proof.FwdProj.lean ====
/-
  The norm before the mixing layer and the product behind it, on the way forward: what the kernel leaves, what the plain lines give, and that they are equal.
-/
module

public import proofs.«01_k».proof.Defs
public import proofs.«01_k».proof.Proof.RunProjFwd
public import proofs.«01_k».proof.Proof.Gen.ProjFwd.Frame
public import proofs.«01_k».proof.Proof.Gen.ProjFwdRefIdeal.Run
public import proofs.«01_k».proof.Proof.Gen.ProjFwdRefIdeal.Read
public import proofs.«01_k».proof.Proof.Blocked
public import proofs.«01_k».proof.Proof.NormGrad
public import Idealize.ShloMosaic.Lib.Pointwise
public import Idealize.ShloMosaic.Lib.Pipeline.ValueKit
public import Idealize.ShloMosaic.Lib.Tactic
public import Idealize.ShloMosaic.Lib.Claim
public import Idealize.ShloMosaic.Lib.Quiescent

@[expose] public section

set_option maxRecDepth 16384
set_option maxHeartbeats 1000000

noncomputable section

namespace Cert.ProjFwdIdeal.Out

open Idealize.ShloMosaic Idealize.ShloMosaic.TcCoe Idealize.SL.Sem
open Cert.ProjFwdIdeal Cert.ProjFwdIdeal.Gen Cert.ProjFwdIdeal.Hand Cert.Blocked

/-! ## The payloads -/

theorem norm_at (x : Vec Ideal S512x1024 .f32) (g s h : Vec Ideal S1x1024 .f32) (i : Fin 512) (d : Fin 1024) :
    k0_pay1 x g s h (ix2 i d) = NormGrad.value (fun k => x (ix2 i k)) (fun k => g (ix2 0 k)) (fun k => s (ix2 0 k)) (fun k => h (ix2 0 k)) d := by
  pointwise [k0_pay1]
  rfl

theorem kept_at (x : Vec Ideal S512x1024 .f32) (g s h : Vec Ideal S1x1024 .f32) (i : Fin 512) (d : Fin 1024) :
    k0_pay2 x g s h (ix3 0 i d) = NormGrad.value (fun k => x (ix2 i k)) (fun k => g (ix2 0 k)) (fun k => s (ix2 0 k)) (fun k => h (ix2 0 k)) d := by
  rw [← norm_at]
  pointwise [k0_pay2, k0_pay1]

theorem prod_at (y : Vec Ideal S1x512x1024 .bf16) (w : Vec Ideal S1x1024x1152 .bf16) (i : Fin 512) (d : Fin 1152) :
    k0_pay3 y w (ix2 i d) = ∑ k, y (ix3 0 i k) * w (ix3 0 k d) := by
  pointwise [k0_pay3]

/-! ## The blocks of a point -/

variable (m : (ℓ : Loc nD τ sig) → Buf (Elt Ideal) ℓ) (c : Dev nD)

/-- The arguments: the input, the gain, the scale, the shift, the weight. -/
def xs : (⟨2, ![4096, 1024]⟩ : Shape).Idx → EReal := m ((c.tc : Thread nD τ).loc main_arg0)
def gn : (⟨2, ![1, 1024]⟩ : Shape).Idx → EReal := m ((c.tc : Thread nD τ).loc main_arg1)
def sc : (⟨2, ![1, 1024]⟩ : Shape).Idx → EReal := m ((c.tc : Thread nD τ).loc main_arg2)
def sh : (⟨2, ![1, 1024]⟩ : Shape).Idx → EReal := m ((c.tc : Thread nD τ).loc main_arg3)
def wt : (⟨2, ![1024, 3456]⟩ : Shape).Idx → EReal := m ((c.tc : Thread nD τ).loc main_arg4)

/-- Feature `d` of the normalised position `i`. -/
def normed (i : Fin 4096) (d : Fin 1024) : EReal :=
  NormGrad.value (fun k => xs m c (ix2 i k)) (fun k => gn m c (ix2 0 k)) (fun k => sc m c (ix2 0 k)) (fun k => sh m c (ix2 0 k)) d

theorem at_0 (t : Fin cfg0.N) : win0_0.index t = ![min t.val 7, 0] := by revert t; decide +kernel
theorem at_1 (t : Fin cfg0.N) : win0_1.index t = ![0, 0] := by revert t; decide +kernel
theorem at_2 (t : Fin cfg0.N) : win0_2.index t = ![0, 0] := by revert t; decide +kernel
theorem at_3 (t : Fin cfg0.N) : win0_3.index t = ![0, 0] := by revert t; decide +kernel
theorem at_4 (t : Fin cfg0.N) : win0_4.index t = ![0, 0, t.val / 8] := by revert t; decide +kernel
theorem at_5 (t : Fin cfg0.N) : win0_5.index t = ![min t.val 7, 0] := by revert t; decide +kernel
theorem at_6 (t : Fin cfg0.N) : win0_6.index t = ![t.val % 8, t.val / 8] := by revert t; decide +kernel

/-- Position `i` of the row block of a number, and column `d` of the point's column block. -/
def pos (n : ℕ) (i : Fin 512) : Fin 4096 := ⟨512 * (n % 8) + i.val, by omega⟩
def col (t : Fin cfg0.N) (d : Fin 1152) : Fin 3456 := ⟨1152 * (t.val / 8) + d.val, by have := lt_of_lt_of_eq t.isLt N_0; omega⟩

theorem xs_blk (t : Fin cfg0.N) (ht : t.val < 8) (i : Fin 512) (d : Fin 1024) : (iblk m c 0 t : Vec Ideal S512x1024 .f32) (ix2 i d) = xs m c (ix2 (pos t.val i) d) := by
  have hm : min t.val 7 = t.val % 8 := by omega
  have ha : win0_0.index t = ![t.val % 8, 0] := (at_0 t).trans (by rw [hm])
  unfold xs pos
  blk_point [iblk, V, ha]

theorem gn_blk (t : Fin cfg0.N) (d : Fin 1024) : (iblk m c 1 t : Vec Ideal S1x1024 .f32) (ix2 0 d) = gn m c (ix2 0 d) := by
  unfold gn
  blk_point [iblk, V, at_1 t]

theorem sc_blk (t : Fin cfg0.N) (d : Fin 1024) : (iblk m c 2 t : Vec Ideal S1x1024 .f32) (ix2 0 d) = sc m c (ix2 0 d) := by
  unfold sc
  blk_point [iblk, V, at_2 t]

theorem sh_blk (t : Fin cfg0.N) (d : Fin 1024) : (iblk m c 3 t : Vec Ideal S1x1024 .f32) (ix2 0 d) = sh m c (ix2 0 d) := by
  unfold sh
  blk_point [iblk, V, at_3 t]

theorem wt_blk (t : Fin cfg0.N) (k : Fin 1024) (d : Fin 1152) : (iblk m c 4 t : Vec Ideal S1x1024x1152 .bf16) (ix3 0 k d) = wt m c (ix2 k (col t d)) := by
  unfold wt col
  blk_point [iblk, V, at_4 t]

/-! ## What a point leaves -/

theorem row_val (n : ℕ) : (row n).val = n % 8 := rfl

theorem value_blk (n : ℕ) (i : Fin 512) (d : Fin 1024) :
    NormGrad.value (fun k => (iblk m c 0 (row n) : Vec Ideal S512x1024 .f32) (ix2 i k)) (fun k => (iblk m c 1 (row n) : Vec Ideal S1x1024 .f32) (ix2 0 k))
      (fun k => (iblk m c 2 (row n) : Vec Ideal S1x1024 .f32) (ix2 0 k)) (fun k => (iblk m c 3 (row n) : Vec Ideal S1x1024 .f32) (ix2 0 k)) d = normed m c (pos n i) d := by
  have hr : (row n).val < 8 := by rw [row_val]; omega
  have hp : pos (row n).val i = pos n i := Fin.ext (by show 512 * ((row n).val % 8) + i.val = 512 * (n % 8) + i.val; rw [row_val]; omega)
  simp only [xs_blk m c (row n) hr, gn_blk, sc_blk, sh_blk, hp]
  rfl

theorem rows_out (n : ℕ) (i : Fin 512) (d : Fin 1024) : rows m c (row n) (ix2 i d) = normed m c (pos n i) d :=
  (norm_at _ _ _ _ i d).trans (value_blk m c n i d)

theorem kept_out (n : ℕ) (i : Fin 512) (d : Fin 1024) : keptRows m c (row n) (ix3 0 i d) = normed m c (pos n i) d :=
  (kept_at _ _ _ _ i d).trans (value_blk m c n i d)

theorem prod_out (t : Fin cfg0.N) (i : Fin 512) (d : Fin 1152) : k0_pay3 (keptRows m c (row t.val)) (iblk m c 4 t) (ix2 i d)
    = ∑ k, normed m c (pos t.val i) k * wt m c (ix2 k (col t d)) :=
  (prod_at _ _ i d).trans (Finset.sum_congr rfl fun k _ => congrArg₂ (· * ·) (kept_out m c t.val i k) (wt_blk m c t k d))

/-! ## The arrays -/

theorem flush_5 : ∀ t : Fin cfg0.N, (cfg0.win 5).flush t = true ↔ t.val < 7 ∨ t.val = 23 := by decide +kernel

/-- The points that write back write to different rows. -/
theorem disjoint5 (t t' : Fin cfg0.N) (h : (cfg0.win 5).flush t = true) (h' : (cfg0.win 5).flush t' = true) (hne : t ≠ t') :
    Disjoint ((cfg0.win 5).blk t).view.set ((cfg0.win 5).blk t').view.set :=
  (cfg0.win 5).disjoint_blk fun e => hne <| Fin.ext <| by
    have e0 : min t.val 7 = min t'.val 7 := congrFun (((at_5 t).symm.trans e).trans (at_5 t')) 0
    have h0 := (flush_5 t).mp h
    have h1 := (flush_5 t').mp h'
    omega

/-- Different points write to different places of the product. -/
theorem disjoint6 (t t' : Fin cfg0.N) (_ : (cfg0.win 6).flush t = true) (_ : (cfg0.win 6).flush t' = true) (hne : t ≠ t') :
    Disjoint ((cfg0.win 6).blk t).view.set ((cfg0.win 6).blk t').view.set :=
  (cfg0.win 6).disjoint_blk fun e => hne <| Fin.ext <| by
    have e0 : t.val % 8 = t'.val % 8 := congrFun (((at_6 t).symm.trans e).trans (at_6 t')) 0
    have e1 : t.val / 8 = t'.val / 8 := congrFun (((at_6 t).symm.trans e).trans (at_6 t')) 1
    omega

theorem flushed_5 (t : Fin cfg0.N) : (dats m 0 c).flushed 5 t = (cfg0.win 5).cut (grid0.coords t) (rows m c (row (min t.val 7))) := by
  show (cfg0.win 5).cut (grid0.coords t) ((dats m 0 c).after 5 t) = _
  rw [after_5]

theorem flushed_6 (t : Fin cfg0.N) : (dats m 0 c).flushed 6 t = (cfg0.win 6).cut (grid0.coords t) (k0_pay3 (keptRows m c (row t.val)) (iblk m c 4 t)) := by
  show (cfg0.win 6).cut (grid0.coords t) ((dats m 0 c).after 6 t) = _
  rw [after_6]

theorem norm_res (i : Fin 4096) (d : Fin 1024) : (dats m 0 c).arrAt 5 cfg0.N (ix2 i d) = normed m c i d := by
  obtain ⟨t, ht⟩ : ∃ t : Fin cfg0.N, t.val = if i.val / 512 < 7 then i.val / 512 else 23 := by
    by_cases h : i.val / 512 < 7
    · exact ⟨⟨i.val / 512, lt_of_lt_of_eq (by omega) N_0.symm⟩, (if_pos h).symm⟩
    · exact ⟨⟨23, lt_of_lt_of_eq (by omega) N_0.symm⟩, (if_neg h).symm⟩
  have hm : min t.val 7 = i.val / 512 := by rw [ht]; split_ifs <;> omega
  have hf : t.val < 7 ∨ t.val = 23 := by rw [ht]; split_ifs <;> omega
  have ha : win0_5.index t = ![i.val / 512, 0] := (at_5 t).trans (by rw [hm])
  have hi : pos (min t.val 7) ⟨i.val % 512, by omega⟩ = i := Fin.ext (by show 512 * (min t.val 7 % 8) + i.val % 512 = i.val; rw [hm]; omega)
  have hb := congrFun ((dats m 0 c).read_blk_arrAt_eq_flushed 5 disjoint5 cfg0.N t t.isLt ((flush_5 t).mpr hf)) (ix2 ⟨i.val % 512, by omega⟩ d)
  rw [flushed_5] at hb
  refine (Eq.trans ?_ hb).trans ((rows_out m c (min t.val 7) ⟨i.val % 512, by omega⟩ d).trans ?_)
  · blk_ext! [ha]
  · rw [hi]

theorem prod_res (i : Fin 4096) (d : Fin 3456) : (dats m 0 c).arrAt 6 cfg0.N (ix2 i d) = ∑ k, normed m c i k * wt m c (ix2 k d) := by
  obtain ⟨t, ht⟩ : ∃ t : Fin cfg0.N, t.val = 8 * (d.val / 1152) + i.val / 512 := ⟨⟨_, lt_of_lt_of_eq (by omega) N_0.symm⟩, rfl⟩
  have hi : pos t.val ⟨i.val % 512, by omega⟩ = i := Fin.ext (by show 512 * (t.val % 8) + i.val % 512 = i.val; omega)
  have hd : col t ⟨d.val % 1152, by omega⟩ = d := Fin.ext (by show 1152 * (t.val / 8) + d.val % 1152 = d.val; omega)
  have hb := congrFun ((dats m 0 c).read_blk_arrAt_eq_flushed 6 disjoint6 cfg0.N t t.isLt (flush0_6 t)) (ix2 ⟨i.val % 512, by omega⟩ ⟨d.val % 1152, by omega⟩)
  rw [flushed_6] at hb
  refine (Eq.trans ?_ hb).trans ((prod_out m c t ⟨i.val % 512, by omega⟩ ⟨d.val % 1152, by omega⟩).trans ?_)
  · blk_ext! [at_6 t]
  · rw [hi, hd]

end Cert.ProjFwdIdeal.Out

namespace Cert.ProjFwdRefIdeal.Out

open Idealize.ShloMosaic Cert.ProjFwdRefIdeal Cert.ProjFwdRefIdeal.Read

variable (x0 : Vec Ideal S4096x1024 .f32) (x1 x2 x3 : Vec Ideal S1x1024 .f32) (x4 : Vec Ideal S1024x3456 .bf16)

theorem norm_ref (i : Fin 4096) (d : Fin 1024) : val_main_v18 (F := Ideal) x0 x1 x2 x3 (ix2 i d)
    = NormGrad.value (fun k => x0 (ix2 i k)) (fun k => x1 (ix2 0 k)) (fun k => x2 (ix2 0 k)) (fun k => x3 (ix2 0 k)) d := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]
  rfl

theorem prod_ref (i : Fin 4096) (d : Fin 3456) : val_main_v20 (F := Ideal) x0 x1 x2 x3 x4 (ix2 i d)
    = ∑ k, NormGrad.value (fun k => x0 (ix2 i k)) (fun k => x1 (ix2 0 k)) (fun k => x2 (ix2 0 k)) (fun k => x3 (ix2 0 k)) k * (x4 (ix2 k d) : EReal) := by
  simp only [← norm_ref]
  pointwise [val_main_v20, val_main_v19, val_main_v18]

end Cert.ProjFwdRefIdeal.Out

namespace Cert.Proof

open Idealize.ShloMosaic Idealize.ShloMosaic.TcCoe Idealize.SL.Sem

/-- The two texts' bodies are one. -/
theorem projFwd_bodies : Cert.ProjFwd.defs₀ (F := Bits) = Cert.ProjFwdIdeal.defs₀ (F := Bits) := by
  unfold Cert.ProjFwd.defs₀ Cert.ProjFwdIdeal.defs₀
  refine congrArg _ (funext fun p => funext fun q => ?_)
  match p, q with
  | 0, (t, s) => rfl
  | ⟨_ + 1, h⟩, _ => exact absurd h (by omega)

theorem projFwd_defs : Cert.ProjFwd.defs (F := Bits) = Cert.ProjFwdIdeal.defs (F := Bits) := by
  unfold Cert.ProjFwd.defs Cert.ProjFwdIdeal.defs
  exact congrArg (Pipeline.defs _) projFwd_bodies

theorem frame_projFwd : Cert.quiescent_ProjFwd := fun m ρ _ => by
  rw [projFwd_defs]
  exact Cert.ProjFwdIdeal.Hand.frame_run (F := Bits) m ρ

theorem frame_projFwdIdeal : Cert.quiescent_ProjFwdIdeal := fun m ρ _ => Cert.ProjFwdIdeal.Hand.frame_run (F := Ideal) m ρ

theorem frame_projFwdRef : Cert.quiescent_ProjFwdRefIdeal := fun m ρ _ =>
  (θ_run Cert.ProjFwdRefIdeal.defs _ _).mono
    (fun _ h => ⟨fun c => (h c).2.2, sem_eq_zero_of_no_sems (by decide) _⟩) (Cert.ProjFwdRefIdeal.Value.run (F := Ideal) m ρ)

theorem algebraic_projFwd : Cert.algebraic_ProjFwdIdeal_ProjFwdRefIdeal := by
  intro m ρ m' ρ' _ hargs
  refine ⟨fun c => (Cert.ProjFwdIdeal.Hand.dats m 0 c).arrAt 5 Cert.ProjFwdIdeal.cfg0.N, fun c => (Cert.ProjFwdIdeal.Hand.dats m 0 c).arrAt 6 Cert.ProjFwdIdeal.cfg0.N,
    (θ_run Cert.ProjFwdIdeal.defs _ _).mono (fun r H c => ⟨(H.1.1 c).1 5, (H.1.1 c).1 6, H.2.1 c⟩)
      (θ_run_and (Cert.ProjFwdIdeal.Hand.run_quiet (F := Ideal) m ρ) (Cert.ProjFwdIdeal.Hand.frame_run (F := Ideal) m ρ)),
    (θ_run Cert.ProjFwdRefIdeal.defs _ _).mono (fun r H c => ?_) (Cert.ProjFwdRefIdeal.Value.run (F := Ideal) m' ρ')⟩
  obtain ⟨h0, h1, hk⟩ := H c
  obtain ⟨e0, e1, e2, e3, e4⟩ := hargs c
  refine ⟨h0.trans ?_, h1.trans ?_, hk⟩
  · refine (Cert.ProjFwdRefIdeal.Read.val_main_v18_eq _ _ _ _).trans (funext fun i => ?_)
    rw [e0, e1, e2, e3, eq_ix2 i]
    exact (Cert.ProjFwdRefIdeal.Out.norm_ref _ _ _ _ (i 0) (i 1)).trans (Cert.ProjFwdIdeal.Out.norm_res m c (i 0) (i 1)).symm
  · refine (Cert.ProjFwdRefIdeal.Read.val_main_v20_eq _ _ _ _ _).trans (funext fun i => ?_)
    rw [e0, e1, e2, e3, e4, eq_ix2 i]
    exact (Cert.ProjFwdRefIdeal.Out.prod_ref _ _ _ _ _ (i 0) (i 1)).trans (Cert.ProjFwdIdeal.Out.prod_res m c (i 0) (i 1)).symm

end Cert.Proof

end
-- ==== Proof.FwdFfnout.lean ====
/-
  The feed-forward's gated product on the way forward: what the kernel leaves, what the plain lines give, and that they are equal.
-/
module

public import proofs.«01_k».proof.Defs
public import proofs.«01_k».proof.Proof.Gen.FfnoutFwdIdeal.Value
public import proofs.«01_k».proof.Proof.Gen.FfnoutFwdRefIdeal.Run
public import proofs.«01_k».proof.Proof.Gen.FfnoutFwdRefIdeal.Read
public import proofs.«01_k».proof.Proof.Blocked
public import Idealize.ShloMosaic.Lib.Pointwise
public import Idealize.ShloMosaic.Lib.Pipeline.ValueKit
public import Idealize.ShloMosaic.Lib.Tactic
public import Idealize.ShloMosaic.Lib.Quiescent

@[expose] public section

set_option maxRecDepth 16384
set_option maxHeartbeats 1000000

noncomputable section

namespace Cert.FfnoutFwdIdeal.Out

open Idealize.ShloMosaic Idealize.ShloMosaic.TcCoe Idealize.SL.Sem
open Cert.FfnoutFwdIdeal Cert.FfnoutFwdIdeal.Gen Cert.FfnoutFwdIdeal.Value Cert.Blocked
/-- A gate's value times its own logistic, times the other branch. -/
def gated (a b : EReal) : EReal := a * Ideal.div 1 (1 + Ideal.exp (-a)) * b

/-! ## The payloads -/

theorem gated_at (a b : Vec Ideal S512x1408 .f32) (i : Fin 512) (k : Fin 1408) : k0_pay1 a b (ix2 i k) = gated (a (ix2 i k)) (b (ix2 i k)) := by
  pointwise [k0_pay1]
  rfl

theorem first_at (a b : Vec Ideal S512x1408 .f32) (w : Vec Ideal S1x1408x1024 .bf16) (i : Fin 512) (d : Fin 1024) :
    k0_pay2 a b w (ix2 i d) = ∑ k, gated (a (ix2 i k)) (b (ix2 i k)) * w (ix3 0 k d) := by
  simp only [← gated_at]
  pointwise [k0_pay2]

theorem next_at (a b : Vec Ideal S512x1408 .f32) (w : Vec Ideal S1x1408x1024 .bf16) (z : Vec Ideal S512x1024 .f32) (i : Fin 512) (d : Fin 1024) :
    k0_pay3 a b w z (ix2 i d) = z (ix2 i d) + ∑ k, gated (a (ix2 i k)) (b (ix2 i k)) * w (ix3 0 k d) := by
  simp only [← gated_at]
  pointwise [k0_pay3, k0_pay2]

theorem sum_at (a b : Vec Ideal S512x1408 .f32) (w : Vec Ideal S1x1408x1024 .bf16) (z x : Vec Ideal S512x1024 .f32) (g : Vec Ideal S1x1024 .f32)
    (i : Fin 512) (d : Fin 1024) : k0_pay4 a b w z x g (ix2 i d) = x (ix2 i d) + g (ix2 0 d) * k0_pay3 a b w z (ix2 i d) := by
  pointwise [k0_pay4]

/-! ## The blocks of a point -/

variable (m : (ℓ : Loc nD τ sig) → Buf (Elt Ideal) ℓ) (c : Dev nD)

/-- The arguments: the residual, the two branches side by side, the residual's gain, the weight. -/
def xs : (⟨2, ![4096, 1024]⟩ : Shape).Idx → EReal := m ((c.tc : Thread nD τ).loc main_arg0)
def gu : (⟨2, ![4096, 5632]⟩ : Shape).Idx → EReal := m ((c.tc : Thread nD τ).loc main_arg1)
def gs : (⟨2, ![1, 1024]⟩ : Shape).Idx → EReal := m ((c.tc : Thread nD τ).loc main_arg2)
def wt : (⟨2, ![2816, 1024]⟩ : Shape).Idx → EReal := m ((c.tc : Thread nD τ).loc main_arg3)

/-- The branches' product at feature `k` of position `i`. -/
def act (i : Fin 4096) (k : Fin 2816) : EReal := gated (gu m c (ix2 i ⟨k.val, by omega⟩)) (gu m c (ix2 i ⟨2816 + k.val, by omega⟩))

/-- The terms of entry `(i, d)` of the product. -/
def term (i : Fin 4096) (d : Fin 1024) (k : Fin 2816) : EReal := act m c i k * wt m c (ix2 k d)

theorem at_0 (t : Fin cfg0.N) : win0_0.index t = ![t.val / 2, 0] := by revert t; decide +kernel
theorem at_1 (t : Fin cfg0.N) : win0_1.index t = ![t.val / 2, t.val % 2] := by revert t; decide +kernel
theorem at_2 (t : Fin cfg0.N) : win0_2.index t = ![t.val / 2, 2 + t.val % 2] := by revert t; decide +kernel
theorem at_3 (t : Fin cfg0.N) : win0_3.index t = ![0, 0] := by revert t; decide +kernel
theorem at_4 (t : Fin cfg0.N) : win0_4.index t = ![0, t.val % 2, 0] := by revert t; decide +kernel
theorem at_5 (t : Fin cfg0.N) : win0_5.index t = ![t.val / 2, t.val % 2] := by revert t; decide +kernel
theorem at_6 (t : Fin cfg0.N) : win0_6.index t = ![t.val / 2, 0] := by revert t; decide +kernel
theorem at_7 (t : Fin cfg0.N) : win0_7.index t = ![t.val / 2, 0] := by revert t; decide +kernel

/-- Position `i` of the point's tile, and feature `k` of its half. -/
def pos (t : Fin cfg0.N) (i : Fin 512) : Fin 4096 := ⟨512 * (t.val / 2) + i.val, by have := lt_of_lt_of_eq t.isLt N_0; omega⟩
def feat (t : Fin cfg0.N) (k : Fin 1408) : Fin 2816 := ⟨1408 * (t.val % 2) + k.val, by omega⟩

theorem xs_blk (t : Fin cfg0.N) (i : Fin 512) (d : Fin 1024) : (iblk m c 0 t : Vec Ideal S512x1024 .f32) (ix2 i d) = xs m c (ix2 (pos t i) d) := by
  unfold xs pos
  blk_point [iblk, V, at_0 t]

theorem gate_blk (t : Fin cfg0.N) (i : Fin 512) (k : Fin 1408) : (iblk m c 1 t : Vec Ideal S512x1408 .f32) (ix2 i k)
    = gu m c (ix2 (pos t i) ⟨(feat t k).val, by omega⟩) := by
  unfold gu pos feat
  blk_point [iblk, V, at_1 t]

theorem up_blk (t : Fin cfg0.N) (i : Fin 512) (k : Fin 1408) : (iblk m c 2 t : Vec Ideal S512x1408 .f32) (ix2 i k)
    = gu m c (ix2 (pos t i) ⟨2816 + (feat t k).val, by omega⟩) := by
  unfold gu pos feat
  blk_point [iblk, V, at_2 t]

theorem gs_blk (t : Fin cfg0.N) (d : Fin 1024) : (iblk m c 3 t : Vec Ideal S1x1024 .f32) (ix2 0 d) = gs m c (ix2 0 d) := by
  unfold gs
  blk_point [iblk, V, at_3 t]

theorem wt_blk (t : Fin cfg0.N) (k : Fin 1408) (d : Fin 1024) : (iblk m c 4 t : Vec Ideal S1x1408x1024 .bf16) (ix3 0 k d) = wt m c (ix2 (feat t k) d) := by
  unfold wt feat
  blk_point [iblk, V, at_4 t]

theorem act_blk (t : Fin cfg0.N) (i : Fin 512) (k : Fin 1408) :
    gated ((iblk m c 1 t : Vec Ideal S512x1408 .f32) (ix2 i k)) ((iblk m c 2 t : Vec Ideal S512x1408 .f32) (ix2 i k)) = act m c (pos t i) (feat t k) := by
  rw [gate_blk, up_blk]
  rfl

theorem prod_blk (t : Fin cfg0.N) (i : Fin 512) (d : Fin 1024) (k : Fin 1408) : ∃ p : 1408 * (t.val % 2) + k.val < 2816,
    gated ((iblk m c 1 t : Vec Ideal S512x1408 .f32) (ix2 i k)) ((iblk m c 2 t : Vec Ideal S512x1408 .f32) (ix2 i k))
      * (iblk m c 4 t : Vec Ideal S1x1408x1024 .bf16) (ix3 0 k d) = term m c (pos t i) d ⟨1408 * (t.val % 2) + k.val, p⟩ :=
  ⟨by omega, by rw [act_blk, wt_blk]; rfl⟩

/-! ## What a point leaves -/

theorem act_out (t : Fin cfg0.N) (i : Fin 512) (k : Fin 1408) : (outsAt0 m c t.val t.isLt).1 (ix2 i k) = act m c (pos t i) (feat t k) := by
  refine Eq.trans ?_ ((gated_at (iblk m c 1 t) (iblk m c 2 t) i k).trans (act_blk m c t i k))
  by_cases h : t.val % 2 = 0
  · rw [outsAt0_A m c t h (by omega)]
    dsimp only
    frame_out
  · rw [outsAt0_B m c t h (by omega)]
    dsimp only
    frame_out

/-- The first half's point leaves the sum over its half. -/
theorem half_out (t : Fin cfg0.N) (h : t.val % 2 = 0) (i : Fin 512) (d : Fin 1024) :
    (outsAt0 m c t.val t.isLt).2.1 (ix2 i d) = part (term m c (pos t i) d) 1408 1 := by
  have e := prod_blk m c t i d
  rw [h] at e
  refine Eq.trans ?_ (part_succ _ 1408 0 _ e).symm
  rw [part_zero]
  refine Eq.trans ?_ ((first_at (iblk m c 1 t) (iblk m c 2 t) (iblk m c 4 t) i d).trans (zero_add _).symm)
  rw [outsAt0_A m c t h (by omega)]
  dsimp only
  frame_out

/-- The second half's point leaves the whole sum. -/
theorem whole_at (t : Fin cfg0.N) (h : t.val % 2 = 1) (i : Fin 512) (d : Fin 1024) (hl : t.val - 1 < cfg0.N) :
    k0_pay3 (iblk m c 1 t) (iblk m c 2 t) (iblk m c 4 t) (outsAt0 m c (t.val - 1) hl).2.1 (ix2 i d) = ∑ k, term m c (pos t i) d k := by
  have e := prod_blk m c t i d
  rw [h] at e
  refine Eq.trans ?_ ((part_succ _ 1408 1 _ e).symm.trans (part_all _ _ 2 rfl))
  have hp : pos ⟨t.val - 1, hl⟩ i = pos t i := Fin.ext (by show 512 * ((t.val - 1) / 2) + i.val = 512 * (t.val / 2) + i.val; omega)
  rw [← hp, ← half_out m c ⟨t.val - 1, hl⟩ (by show (t.val - 1) % 2 = 0; omega) i d]
  exact next_at (iblk m c 1 t) (iblk m c 2 t) (iblk m c 4 t) _ i d

theorem whole_out (t : Fin cfg0.N) (h : t.val % 2 = 1) (i : Fin 512) (d : Fin 1024) :
    (outsAt0 m c t.val t.isLt).2.1 (ix2 i d) = ∑ k, term m c (pos t i) d k := by
  refine Eq.trans ?_ (whole_at m c t h i d (Nat.lt_of_le_of_lt (Nat.sub_le _ _) t.isLt))
  rw [outsAt0_B m c t (by omega) h]
  dsimp only
  frame_out

theorem sum_out (t : Fin cfg0.N) (h : t.val % 2 = 1) (i : Fin 512) (d : Fin 1024) :
    (outsAt0 m c t.val t.isLt).2.2 (ix2 i d) = xs m c (ix2 (pos t i) d) + gs m c (ix2 0 d) * ∑ k, term m c (pos t i) d k := by
  rw [← whole_at m c t h i d (Nat.lt_of_le_of_lt (Nat.sub_le _ _) t.isLt), ← xs_blk, ← gs_blk m c t]
  refine Eq.trans ?_ (sum_at (iblk m c 1 t) (iblk m c 2 t) (iblk m c 4 t) _ (iblk m c 0 t) (iblk m c 3 t) i d)
  rw [outsAt0_B m c t (by omega) h]
  dsimp only
  frame_out

/-! ## The arrays -/

theorem act_res (i : Fin 4096) (k : Fin 2816) : (dats m 0 c).arrAt 5 cfg0.N (ix2 i k) = act m c i k := by
  obtain ⟨t, ht⟩ : ∃ t : Fin cfg0.N, t.val = 2 * (i.val / 512) + k.val / 1408 := ⟨⟨_, lt_of_lt_of_eq (by omega) N_0.symm⟩, rfl⟩
  have hi : pos t ⟨i.val % 512, by omega⟩ = i := Fin.ext (by show 512 * (t.val / 2) + i.val % 512 = i.val; omega)
  have hk : feat t ⟨k.val % 1408, by omega⟩ = k := Fin.ext (by show 1408 * (t.val % 2) + k.val % 1408 = k.val; omega)
  have hb := congrFun (blocks5 m c t (flush0_5 t)) (ix2 ⟨i.val % 512, by omega⟩ ⟨k.val % 1408, by omega⟩)
  rw [flushed5] at hb
  refine (Eq.trans ?_ hb).trans ((act_out m c t ⟨i.val % 512, by omega⟩ ⟨k.val % 1408, by omega⟩).trans ?_)
  · blk_ext! [at_5 t]
  · rw [hi, hk]

/-- The points that write back write to different rows. -/
theorem disjoint6 (t t' : Fin cfg0.N) (h : (cfg0.win 6).flush t = true) (h' : (cfg0.win 6).flush t' = true) (hne : t ≠ t') :
    Disjoint ((cfg0.win 6).blk t).view.set ((cfg0.win 6).blk t').view.set :=
  (cfg0.win 6).disjoint_blk fun e => hne <| Fin.ext <| by
    have e0 : t.val / 2 = t'.val / 2 := congrFun (((at_6 t).symm.trans e).trans (at_6 t')) 0
    have h0 := (flush0_6 t).mp h
    have h1 := (flush0_6 t').mp h'
    omega

/-- The points that write back write to different rows. -/
theorem disjoint7 (t t' : Fin cfg0.N) (h : (cfg0.win 7).flush t = true) (h' : (cfg0.win 7).flush t' = true) (hne : t ≠ t') :
    Disjoint ((cfg0.win 7).blk t).view.set ((cfg0.win 7).blk t').view.set :=
  (cfg0.win 7).disjoint_blk fun e => hne <| Fin.ext <| by
    have e0 : t.val / 2 = t'.val / 2 := congrFun (((at_7 t).symm.trans e).trans (at_7 t')) 0
    have h0 := (flush0_7 t).mp h
    have h1 := (flush0_7 t').mp h'
    omega

theorem whole_res (i : Fin 4096) (d : Fin 1024) : (dats m 0 c).arrAt 6 cfg0.N (ix2 i d) = ∑ k, term m c i d k := by
  obtain ⟨t, ht⟩ : ∃ t : Fin cfg0.N, t.val = 2 * (i.val / 512) + 1 := ⟨⟨_, lt_of_lt_of_eq (by omega) N_0.symm⟩, rfl⟩
  have hi : pos t ⟨i.val % 512, by omega⟩ = i := Fin.ext (by show 512 * (t.val / 2) + i.val % 512 = i.val; omega)
  have hb := congrFun ((dats m 0 c).read_blk_arrAt_eq_flushed 6 disjoint6 cfg0.N t t.isLt ((flush0_6 t).mpr (by omega))) (ix2 ⟨i.val % 512, by omega⟩ d)
  rw [flushed6] at hb
  refine (Eq.trans ?_ hb).trans ((whole_out m c t (by omega) ⟨i.val % 512, by omega⟩ d).trans ?_)
  · blk_ext! [at_6 t]
  · rw [hi]

theorem sum_res (i : Fin 4096) (d : Fin 1024) : (dats m 0 c).arrAt 7 cfg0.N (ix2 i d) = xs m c (ix2 i d) + gs m c (ix2 0 d) * ∑ k, term m c i d k := by
  obtain ⟨t, ht⟩ : ∃ t : Fin cfg0.N, t.val = 2 * (i.val / 512) + 1 := ⟨⟨_, lt_of_lt_of_eq (by omega) N_0.symm⟩, rfl⟩
  have hi : pos t ⟨i.val % 512, by omega⟩ = i := Fin.ext (by show 512 * (t.val / 2) + i.val % 512 = i.val; omega)
  have hb := congrFun ((dats m 0 c).read_blk_arrAt_eq_flushed 7 disjoint7 cfg0.N t t.isLt ((flush0_7 t).mpr (by omega))) (ix2 ⟨i.val % 512, by omega⟩ d)
  rw [flushed7] at hb
  refine (Eq.trans ?_ hb).trans ((sum_out m c t (by omega) ⟨i.val % 512, by omega⟩ d).trans ?_)
  · blk_ext! [at_7 t]
  · rw [hi]

end Cert.FfnoutFwdIdeal.Out

namespace Cert.FfnoutFwdRefIdeal.Out

open Idealize.ShloMosaic Cert.FfnoutFwdRefIdeal Cert.FfnoutFwdRefIdeal.Read
open Cert.FfnoutFwdIdeal.Out (gated)

variable (x0 : Vec Ideal S4096x1024 .f32) (x1 : Vec Ideal S4096x5632 .f32) (x2 : Vec Ideal S1x1024 .f32) (x3 : Vec Ideal S2816x1024 .bf16)

theorem act_ref (i : Fin 4096) (k : Fin 2816) : val_main_v6 (F := Ideal) x1 (ix2 i k)
    = gated (x1 (ix2 i ⟨k.val, by omega⟩)) (x1 (ix2 i ⟨2816 + k.val, by omega⟩)) := by
  pointwise [val_main_v0, val_main_v1, val_main_call0_v0, val_main_call0_v1, val_main_call0_cst, val_main_call0_v2, val_main_call0_v3, val_main_call0_cst_0, val_main_call0_v4, val_main_call0_v5, val_main_v2, val_main_v3, val_main_v4, val_main_v5, val_main_v6, val_main_v7, val_main_v8, val_main_v9]
  rfl

theorem whole_ref (i : Fin 4096) (d : Fin 1024) : val_main_v5 (F := Ideal) x1 x3 (ix2 i d)
    = ∑ k : Fin 2816, gated (x1 (ix2 i ⟨k.val, by omega⟩)) (x1 (ix2 i ⟨2816 + k.val, by omega⟩)) * (x3 (ix2 k d) : EReal) := by
  pointwise [val_main_v0, val_main_v1, val_main_call0_v0, val_main_call0_v1, val_main_call0_cst, val_main_call0_v2, val_main_call0_v3, val_main_call0_cst_0, val_main_call0_v4, val_main_call0_v5, val_main_v2, val_main_v3, val_main_v4, val_main_v5, val_main_v6, val_main_v7, val_main_v8, val_main_v9]
  rfl

theorem sum_ref (i : Fin 4096) (d : Fin 1024) : val_main_v9 (F := Ideal) x0 x1 x2 x3 (ix2 i d)
    = (x0 (ix2 i d) : EReal) + x2 (ix2 0 d) * ∑ k : Fin 2816, gated (x1 (ix2 i ⟨k.val, by omega⟩)) (x1 (ix2 i ⟨2816 + k.val, by omega⟩)) * (x3 (ix2 k d) : EReal) := by
  simp only [← whole_ref]
  pointwise [val_main_v9, val_main_v8, val_main_v7]

end Cert.FfnoutFwdRefIdeal.Out

namespace Cert.Proof

open Idealize.ShloMosaic Idealize.ShloMosaic.TcCoe Idealize.SL.Sem

theorem frame_ffnoutFwdRef : Cert.quiescent_FfnoutFwdRefIdeal := fun m ρ _ =>
  (θ_run Cert.FfnoutFwdRefIdeal.defs _ _).mono
    (fun _ h => ⟨fun c => (h c).2.2.2, sem_eq_zero_of_no_sems (by decide) _⟩) (Cert.FfnoutFwdRefIdeal.Value.run (F := Ideal) m ρ)

theorem algebraic_ffnoutFwd : Cert.algebraic_FfnoutFwdIdeal_FfnoutFwdRefIdeal := by
  intro m ρ m' ρ' _ hargs
  refine ⟨_, _, _, Cert.FfnoutFwdIdeal.Value.run_blocks (F := Ideal) m ρ,
    (θ_run Cert.FfnoutFwdRefIdeal.defs _ _).mono (fun r H c => ?_) (Cert.FfnoutFwdRefIdeal.Value.run (F := Ideal) m' ρ')⟩
  obtain ⟨h0, h1, h2, hk⟩ := H c
  obtain ⟨e0, e1, e2, e3⟩ := hargs c
  refine ⟨h0.trans ?_, h1.trans ?_, h2.trans ?_, hk⟩
  · refine (Cert.FfnoutFwdRefIdeal.Read.val_main_v6_eq _).trans (funext fun i => ?_)
    rw [e1, eq_ix2 i]
    exact (Cert.FfnoutFwdRefIdeal.Out.act_ref _ (i 0) (i 1)).trans (Cert.FfnoutFwdIdeal.Out.act_res m c (i 0) (i 1)).symm
  · refine (Cert.FfnoutFwdRefIdeal.Read.val_main_v5_eq _ _).trans (funext fun i => ?_)
    rw [e1, e3, eq_ix2 i]
    exact (Cert.FfnoutFwdRefIdeal.Out.whole_ref _ _ (i 0) (i 1)).trans (Cert.FfnoutFwdIdeal.Out.whole_res m c (i 0) (i 1)).symm
  · refine (Cert.FfnoutFwdRefIdeal.Read.val_main_v9_eq _ _ _ _).trans (funext fun i => ?_)
    rw [e0, e1, e2, e3, eq_ix2 i]
    exact (Cert.FfnoutFwdRefIdeal.Out.sum_ref _ _ _ _ (i 0) (i 1)).trans (Cert.FfnoutFwdIdeal.Out.sum_res m c (i 0) (i 1)).symm

end Cert.Proof

end
-- ==== Proof.HeadNorm.lean ====
/-
  The mixer's output features: the first 512 as they are, the others normed head by head (128 features a head), scaled and gated.
-/
module

public import Idealize.ShloMosaic.PureOps.Ideal
public import Idealize.ShloMosaic.Lib.ValueIdx

@[expose] public section

noncomputable section

namespace Cert.HeadNorm

open Idealize.ShloMosaic

/-- Feature `k` of head `h`, and the head and the place in it of a feature. -/
def col (h : Fin 4) (k : Fin 128) : Fin 512 := ⟨128 * h.val + k.val, by omega⟩
def head (q : Fin 512) : Fin 4 := ⟨q.val / 128, by omega⟩
def place (q : Fin 512) : Fin 128 := ⟨q.val % 128, by omega⟩

variable (o z : Fin 512 → EReal) (g : Fin 128 → EReal)

/-- A head's mean square with the constant that keeps it from zero. -/
def square (h : Fin 4) : EReal :=
  Ideal.div (∑ x, o (col h x) * o (col h x)) (Ideal.ofBits FTy.f32 1124073472#32) + Ideal.ofBits FTy.f32 897988541#32

/-- A gate's value times its own logistic. -/
def silu (a : EReal) : EReal := a * Ideal.logistic a

def normed (q : Fin 512) : EReal := o q * Ideal.rsqrt (square o (head q)) * g (place q) * silu (z q)

/-- All of a position's features. -/
def features (y : Fin 512 → EReal) (n : Fin 1024) : EReal :=
  if h : n.val < 512 then y ⟨n.val, h⟩ else normed o z g ⟨n.val - 512, by omega⟩

theorem normed_of (q a : Fin 512) (f f' : Fin 128 → Fin 512) (k : Fin 128) (e : EReal) (ha : a.val = q.val)
    (hf : ∀ x, (f x).val = q.val / 128 * 128 + x.val) (hf' : ∀ x, (f' x).val = q.val / 128 * 128 + x.val) (hk : k.val = q.val % 128) (he : e = z q) :
    o a * Ideal.rsqrt (Ideal.div (∑ x, o (f x) * o (f' x)) (Ideal.ofBits FTy.f32 1124073472#32) + Ideal.ofBits FTy.f32 897988541#32) * g k
      * (e * Ideal.logistic e) = normed o z g q := by
  obtain rfl : a = q := Fin.ext ha
  obtain rfl : f = col (head a) := funext fun x => Fin.ext ((hf x).trans (by show _ = 128 * (a.val / 128) + x.val; omega))
  obtain rfl : f' = col (head a) := funext fun x => Fin.ext ((hf' x).trans (by show _ = 128 * (a.val / 128) + x.val; omega))
  obtain rfl : k = place a := Fin.ext hk
  subst he
  rfl

end Cert.HeadNorm

end
-- ==== Proof.FwdMixout.lean ====
/-
  The mixer's output on the way forward: what the kernel leaves, what the plain lines give, and that they are equal.
-/
module

public import proofs.«01_k».proof.Defs
public import proofs.«01_k».proof.Proof.Gen.MixoutFwdIdeal.Value
public import proofs.«01_k».proof.Proof.Gen.MixoutFwdRefIdeal.Run
public import proofs.«01_k».proof.Proof.Gen.MixoutFwdRefIdeal.Read
public import proofs.«01_k».proof.Proof.Blocked
public import proofs.«01_k».proof.Proof.HeadNorm
public import Idealize.ShloMosaic.Lib.Pointwise
public import Idealize.ShloMosaic.Lib.Pipeline.ValueKit
public import Idealize.ShloMosaic.Lib.Tactic
public import Idealize.ShloMosaic.Lib.Quiescent

@[expose] public section

set_option maxRecDepth 16384
set_option maxHeartbeats 1000000

noncomputable section

namespace Cert.MixoutFwdIdeal.Out

open Idealize.ShloMosaic Idealize.ShloMosaic.TcCoe Idealize.SL.Sem
open Cert.MixoutFwdIdeal Cert.MixoutFwdIdeal.Gen Cert.MixoutFwdIdeal.Value Cert.Blocked
/-! ## The payloads -/

/-- The kernel's features from a point's blocks. -/
def kcat (o : Vec Ideal S512x512 .f32) (z0 z1 : Vec Ideal S512x256 .f32) (g : Vec Ideal S1x128 .f32) (y : Vec Ideal S512x512 .f32) : FVec Ideal S512x1024 .bf16 :=
  k0_pay7 o (k0_pay2 z0 z1) (k0_pay3 o z0 z1 g) (k0_pay4 o z0 z1 g) (k0_pay5 o) (k0_pay6 z0 z1) g g y

def kmix (o : Vec Ideal S512x512 .f32) (z0 z1 : Vec Ideal S512x256 .f32) (g : Vec Ideal S1x128 .f32) (y : Vec Ideal S512x512 .f32)
    (w : Vec Ideal S1x1024x1024 .bf16) : FVec Ideal S512x1024 .f32 :=
  k0_pay8 o (k0_pay2 z0 z1) (k0_pay3 o z0 z1 g) (k0_pay4 o z0 z1 g) (k0_pay5 o) (k0_pay6 z0 z1) g g y w

theorem cat_at (o : Vec Ideal S512x512 .f32) (z0 z1 : Vec Ideal S512x256 .f32) (g : Vec Ideal S1x128 .f32) (y : Vec Ideal S512x512 .f32)
    (i : Fin 512) (z : Fin 512 → EReal) (h0 : ∀ k : Fin 256, z0 (ix2 i k) = z ⟨k.val, by omega⟩) (h1 : ∀ k : Fin 256, z1 (ix2 i k) = z ⟨256 + k.val, by omega⟩)
    (n : Fin 1024) : kcat o z0 z1 g y (ix2 i n)
      = HeadNorm.features (fun q => o (ix2 i q)) z (fun k => g (ix2 0 k)) (fun q => y (ix2 i q)) n := by
  unfold HeadNorm.features
  pointwise [kcat, k0_pay7, k0_pay2, k0_pay3, k0_pay4, k0_pay5, k0_pay6]
  by_cases b0 : n.val < 512
  · rw [dif_pos b0, dif_pos b0]
  rw [dif_neg b0, dif_neg b0]
  by_cases b1 : n.val - 512 < 128
  on_goal 1 => rw [dif_pos b1]
  on_goal 2 => rw [dif_neg b1]; by_cases b2 : n.val - 512 - 128 < 128
  on_goal 2 => rw [dif_pos b2]
  on_goal 3 => rw [dif_neg b2]; by_cases b3 : n.val - 512 - 128 - 128 < 128
  on_goal 3 => rw [dif_pos b3]
  on_goal 4 => rw [dif_neg b3]
  all_goals
    refine HeadNorm.normed_of (fun q => o (ix2 i q)) z (fun k => g (ix2 0 k)) ⟨n.val - 512, by omega⟩ ⟨_, _⟩ (fun x => ⟨_, _⟩) (fun x => ⟨_, _⟩) ⟨_, _⟩ _ ?_ ?_ ?_ ?_ ?_
    · dsimp only <;> omega
    · intro x; dsimp only <;> omega
    · intro x; dsimp only <;> omega
    · dsimp only <;> omega
    · try split
      all_goals first
        | (refine (h0 _).trans (congrArg z (Fin.ext ?_)); dsimp only <;> omega)
        | (refine (h1 _).trans (congrArg z (Fin.ext ?_)); dsimp only <;> omega)

theorem mix_at (o : Vec Ideal S512x512 .f32) (z0 z1 : Vec Ideal S512x256 .f32) (g : Vec Ideal S1x128 .f32) (y : Vec Ideal S512x512 .f32)
    (w : Vec Ideal S1x1024x1024 .bf16) (i : Fin 512) (d : Fin 1024) : kmix o z0 z1 g y w (ix2 i d) = ∑ n, kcat o z0 z1 g y (ix2 i n) * w (ix3 0 n d) := by
  unfold kmix
  pointwise [k0_pay8]
  rfl

theorem sum_at (a b : Vec Ideal S512x1024 .f32) (e : Vec Ideal S1x1024 .f32) (i : Fin 512) (d : Fin 1024) :
    k0_pay1 a b e (ix2 i d) = b (ix2 i d) + e (ix2 0 d) * a (ix2 i d) := by
  pointwise [k0_pay1]

/-! ## The blocks of a point -/

variable (m : (ℓ : Loc nD τ sig) → Buf (Elt Ideal) ℓ) (c : Dev nD)

/-- The arguments: the residual, the first features, the others, the projections, the heads' gain, the residual's gain, the weight. -/
def xs : (⟨2, ![4096, 1024]⟩ : Shape).Idx → EReal := m ((c.tc : Thread nD τ).loc main_arg0)
def ys : (⟨2, ![4096, 512]⟩ : Shape).Idx → EReal := m ((c.tc : Thread nD τ).loc main_arg1)
def os : (⟨2, ![4096, 512]⟩ : Shape).Idx → EReal := m ((c.tc : Thread nD τ).loc main_arg2)
def ps : (⟨2, ![4096, 3456]⟩ : Shape).Idx → EReal := m ((c.tc : Thread nD τ).loc main_arg3)
def hs : (⟨2, ![1, 128]⟩ : Shape).Idx → EReal := m ((c.tc : Thread nD τ).loc main_arg4)
def gs : (⟨2, ![1, 1024]⟩ : Shape).Idx → EReal := m ((c.tc : Thread nD τ).loc main_arg5)
def wt : (⟨2, ![1024, 1024]⟩ : Shape).Idx → EReal := m ((c.tc : Thread nD τ).loc main_arg6)

/-- A position's features. -/
def feat (i : Fin 4096) (n : Fin 1024) : EReal :=
  HeadNorm.features (fun q => os m c (ix2 i q)) (fun q => ps m c (ix2 i ⟨2816 + q.val, by omega⟩)) (fun k => hs m c (ix2 0 k)) (fun q => ys m c (ix2 i q)) n

/-- The product of the features and the weight. -/
def mix (i : Fin 4096) (d : Fin 1024) : EReal := ∑ n, feat m c i n * wt m c (ix2 n d)

theorem at_0 (t : Fin cfg0.N) : win0_0.index t = ![t.val, 0] := by revert t; decide +kernel
theorem at_1 (t : Fin cfg0.N) : win0_1.index t = ![t.val, 0] := by revert t; decide +kernel
theorem at_2 (t : Fin cfg0.N) : win0_2.index t = ![t.val, 0] := by revert t; decide +kernel
theorem at_8 (t : Fin cfg0.N) : win0_8.index t = ![t.val, 0] := by revert t; decide +kernel
theorem at_9 (t : Fin cfg0.N) : win0_9.index t = ![t.val, 0] := by revert t; decide +kernel
theorem at_10 (t : Fin cfg0.N) : win0_10.index t = ![t.val, 0] := by revert t; decide +kernel
theorem at_3 (t : Fin cfg0.N) : win0_3.index t = ![t.val, 11] := by revert t; decide +kernel
theorem at_4 (t : Fin cfg0.N) : win0_4.index t = ![t.val, 12] := by revert t; decide +kernel
theorem at_5 (t : Fin cfg0.N) : win0_5.index t = ![0, 0] := by revert t; decide +kernel
theorem at_6 (t : Fin cfg0.N) : win0_6.index t = ![0, 0] := by revert t; decide +kernel
theorem at_7 (t : Fin cfg0.N) : win0_7.index t = ![0, 0, 0] := by revert t; decide +kernel

/-- Position `i` of tile `t`. -/
def pos (t : Fin cfg0.N) (i : Fin 512) : Fin 4096 := ⟨512 * t.val + i.val, by have := lt_of_lt_of_eq t.isLt N_0; omega⟩

theorem xs_blk (t : Fin cfg0.N) (i : Fin 512) (k : Fin 1024) : (iblk m c 0 t : Vec Ideal S512x1024 .f32) (ix2 i k) = xs m c (ix2 (pos t i) k) := by
  unfold xs pos
  blk_point [iblk, V, at_0 t]

theorem ys_blk (t : Fin cfg0.N) (i : Fin 512) (k : Fin 512) : (iblk m c 1 t : Vec Ideal S512x512 .f32) (ix2 i k) = ys m c (ix2 (pos t i) k) := by
  unfold ys pos
  blk_point [iblk, V, at_1 t]

theorem os_blk (t : Fin cfg0.N) (i : Fin 512) (k : Fin 512) : (iblk m c 2 t : Vec Ideal S512x512 .f32) (ix2 i k) = os m c (ix2 (pos t i) k) := by
  unfold os pos
  blk_point [iblk, V, at_2 t]

theorem z3_blk (t : Fin cfg0.N) (i : Fin 512) (k : Fin 256) : (X0_3 m c t : Vec Ideal S512x256 .f32) (ix2 i k) = ps m c (ix2 (pos t i) ⟨2816 + k.val, by omega⟩) := by
  unfold X0_3 Pipeline.Window.fill
  rw [dif_pos (moved0_3 t _)]
  unfold ps pos
  blk_point [iblk, V, at_3 t]

theorem z4_blk (t : Fin cfg0.N) (i : Fin 512) (k : Fin 256) : (X0_4 m c t : Vec Ideal S512x256 .f32) (ix2 i k) = ps m c (ix2 (pos t i) ⟨3072 + k.val, by omega⟩) := by
  unfold X0_4 Pipeline.Window.fill
  rw [dif_pos (moved0_4 t _)]
  unfold ps pos
  blk_point [iblk, V, at_4 t]

theorem hs_blk (t : Fin cfg0.N) (k : Fin 128) : (iblk m c 5 t : Vec Ideal S1x128 .f32) (ix2 0 k) = hs m c (ix2 0 k) := by
  unfold hs
  blk_point [iblk, V, at_5 t]

theorem gs_blk (t : Fin cfg0.N) (k : Fin 1024) : (iblk m c 6 t : Vec Ideal S1x1024 .f32) (ix2 0 k) = gs m c (ix2 0 k) := by
  unfold gs
  blk_point [iblk, V, at_6 t]

theorem wt_blk (t : Fin cfg0.N) (n d : Fin 1024) : (iblk m c 7 t : Vec Ideal S1x1024x1024 .bf16) (ix3 0 n d) = wt m c (ix2 n d) := by
  unfold wt
  blk_point [iblk, V, at_7 t]

theorem cat_blk (t : Fin cfg0.N) (i : Fin 512) (n : Fin 1024) :
    kcat (iblk m c 2 t) (X0_3 m c t) (X0_4 m c t) (iblk m c 5 t) (iblk m c 1 t) (ix2 i n) = feat m c (pos t i) n := by
  rw [cat_at (iblk m c 2 t) (X0_3 m c t) (X0_4 m c t) (iblk m c 5 t) (iblk m c 1 t) i (fun q => ps m c (ix2 (pos t i) ⟨2816 + q.val, by omega⟩))
    (fun k => z3_blk m c t i k) (fun k => (z4_blk m c t i k).trans (congrArg (ps m c) (ix2_of rfl (by dsimp only; omega))))]
  simp only [os_blk, hs_blk, ys_blk]
  rfl

theorem mix_blk (t : Fin cfg0.N) (i : Fin 512) (d : Fin 1024) :
    kmix (iblk m c 2 t) (X0_3 m c t) (X0_4 m c t) (iblk m c 5 t) (iblk m c 1 t) (iblk m c 7 t) (ix2 i d) = mix m c (pos t i) d :=
  (mix_at _ _ _ _ _ _ i d).trans (Finset.sum_congr rfl fun n _ => congrArg₂ (· * ·) (cat_blk m c t i n) (wt_blk m c t n d))

theorem sum_blk (t : Fin cfg0.N) (i : Fin 512) (d : Fin 1024) :
    k0_pay1 (kmix (iblk m c 2 t) (X0_3 m c t) (X0_4 m c t) (iblk m c 5 t) (iblk m c 1 t) (iblk m c 7 t)) (iblk m c 0 t) (iblk m c 6 t) (ix2 i d)
      = xs m c (ix2 (pos t i) d) + gs m c (ix2 0 d) * mix m c (pos t i) d :=
  (sum_at _ (iblk m c 0 t) (iblk m c 6 t) i d).trans (congrArg₂ (· + ·) (xs_blk m c t i d) (congrArg₂ (· * ·) (gs_blk m c t d) (mix_blk m c t i d)))

/-! ## What a point leaves, and the arrays -/

theorem cat_out (t : Fin cfg0.N) (i : Fin 512) (d : Fin 1024) : (outsAt0 m c t).1 (ix2 i d) = feat m c (pos t i) d := by
  refine Eq.trans ?_ (cat_blk m c t i d)
  unfold outsAt0
  dsimp only
  frame_out
  rfl

theorem cat_res (i : Fin 4096) (d : Fin 1024) : (dats m 0 c).arrAt 8 cfg0.N (ix2 i d) = feat m c i d := by
  obtain ⟨t, ht⟩ : ∃ t : Fin cfg0.N, t.val = i.val / 512 := ⟨⟨_, lt_of_lt_of_eq (by omega) N_0.symm⟩, rfl⟩
  have hi : pos t ⟨i.val % 512, by omega⟩ = i := Fin.ext (by show 512 * t.val + i.val % 512 = i.val; omega)
  have hb := congrFun (blocks8 m c t (flush0_8 t)) (ix2 ⟨i.val % 512, by omega⟩ d)
  rw [flushed8] at hb
  refine (Eq.trans ?_ hb).trans ((cat_out m c t ⟨i.val % 512, by omega⟩ d).trans ?_)
  · blk_ext! [at_8 t]
  · rw [hi]

theorem mix_out (t : Fin cfg0.N) (i : Fin 512) (d : Fin 1024) : (outsAt0 m c t).2.1 (ix2 i d) = mix m c (pos t i) d := by
  refine Eq.trans ?_ (mix_blk m c t i d)
  unfold outsAt0
  dsimp only
  frame_out
  rfl

theorem mix_res (i : Fin 4096) (d : Fin 1024) : (dats m 0 c).arrAt 9 cfg0.N (ix2 i d) = mix m c i d := by
  obtain ⟨t, ht⟩ : ∃ t : Fin cfg0.N, t.val = i.val / 512 := ⟨⟨_, lt_of_lt_of_eq (by omega) N_0.symm⟩, rfl⟩
  have hi : pos t ⟨i.val % 512, by omega⟩ = i := Fin.ext (by show 512 * t.val + i.val % 512 = i.val; omega)
  have hb := congrFun (blocks9 m c t (flush0_9 t)) (ix2 ⟨i.val % 512, by omega⟩ d)
  rw [flushed9] at hb
  refine (Eq.trans ?_ hb).trans ((mix_out m c t ⟨i.val % 512, by omega⟩ d).trans ?_)
  · blk_ext! [at_9 t]
  · rw [hi]

theorem sum_out (t : Fin cfg0.N) (i : Fin 512) (d : Fin 1024) : (outsAt0 m c t).2.2 (ix2 i d) = xs m c (ix2 (pos t i) d) + gs m c (ix2 0 d) * mix m c (pos t i) d := by
  refine Eq.trans ?_ (sum_blk m c t i d)
  unfold outsAt0
  dsimp only
  frame_out
  rfl

theorem sum_res (i : Fin 4096) (d : Fin 1024) : (dats m 0 c).arrAt 10 cfg0.N (ix2 i d) = xs m c (ix2 i d) + gs m c (ix2 0 d) * mix m c i d := by
  obtain ⟨t, ht⟩ : ∃ t : Fin cfg0.N, t.val = i.val / 512 := ⟨⟨_, lt_of_lt_of_eq (by omega) N_0.symm⟩, rfl⟩
  have hi : pos t ⟨i.val % 512, by omega⟩ = i := Fin.ext (by show 512 * t.val + i.val % 512 = i.val; omega)
  have hb := congrFun (blocks10 m c t (flush0_10 t)) (ix2 ⟨i.val % 512, by omega⟩ d)
  rw [flushed10] at hb
  refine (Eq.trans ?_ hb).trans ((sum_out m c t ⟨i.val % 512, by omega⟩ d).trans ?_)
  · blk_ext! [at_10 t]
  · rw [hi]

end Cert.MixoutFwdIdeal.Out

namespace Cert.MixoutFwdRefIdeal.Out

open Idealize.ShloMosaic Cert.MixoutFwdRefIdeal Cert.MixoutFwdRefIdeal.Read

variable (x0 : Vec Ideal S4096x1024 .f32) (x1 x2 : Vec Ideal S4096x512 .f32) (x3 : Vec Ideal S4096x3456 .f32) (x4 : Vec Ideal S1x128 .f32)
  (x5 : Vec Ideal S1x1024 .f32) (x6 : Vec Ideal S1024x1024 .bf16)

/-- The plain lines' features. -/
def feat (i : Fin 4096) (n : Fin 1024) : EReal :=
  HeadNorm.features (fun q => x2 (ix2 i q)) (fun q => x3 (ix2 i ⟨2816 + q.val, by omega⟩)) (fun k => x4 (ix2 0 k)) (fun q => x1 (ix2 i q)) n

theorem cat_ref' (i : Fin 4096) (n : Fin 1024) : val_main_v20 (F := Ideal) x1 x2 x3 x4 (ix2 i n) = feat x1 x2 x3 x4 i n := by
  unfold feat HeadNorm.features
  pointwise [val_main_v0, val_main_v1, val_main_v2, val_main_cst, val_main_v3, val_main_v4, val_main_cst_0, val_main_v5, val_main_v6, val_main_cst_1, val_main_v7, val_main_v8, val_main_v9, val_main_v10, val_main_v11, val_main_v12, val_main_v13, val_main_v14, val_main_v15, val_main_v16, val_main_call0_v0, val_main_call0_v1, val_main_call0_cst, val_main_call0_v2, val_main_call0_v3, val_main_call0_cst_0, val_main_call0_v4, val_main_call0_v5, val_main_v17, val_main_v18, val_main_v19, val_main_v20, val_main_v21, val_main_v22, val_main_v23, val_main_v24, val_main_v25, val_main_v26]
  by_cases b0 : n.val < 512
  · rw [dif_pos b0, dif_pos b0]
  · rw [dif_neg b0, dif_neg b0]
    refine HeadNorm.normed_of (fun q => x2 (ix2 i q)) (fun q => x3 (ix2 i ⟨2816 + q.val, by omega⟩)) (fun k => x4 (ix2 0 k)) ⟨n.val - 512, by omega⟩
      ⟨_, _⟩ (fun x => ⟨_, _⟩) (fun x => ⟨_, _⟩) ⟨_, _⟩ _ ?_ ?_ ?_ ?_ ?_
    · dsimp only <;> omega
    · intro x; rfl
    · intro x; rfl
    · rfl
    · exact congrArg (fun q => x3 (ix2 i q)) (Fin.ext (by dsimp only; omega))

theorem cat_ref (i : Fin 4096) (n : Fin 1024) : val_main_v23 (F := Ideal) x1 x2 x3 x4 (ix2 i n) = feat x1 x2 x3 x4 i n := by
  rw [← cat_ref']
  pointwise [val_main_v23]

theorem mix_ref (i : Fin 4096) (d : Fin 1024) : val_main_v22 (F := Ideal) x1 x2 x3 x4 x6 (ix2 i d) = ∑ n, feat x1 x2 x3 x4 i n * (x6 (ix2 n d) : EReal) := by
  simp only [← cat_ref']
  pointwise [val_main_v22, val_main_v21]

theorem sum_ref (i : Fin 4096) (d : Fin 1024) : val_main_v26 (F := Ideal) x0 x1 x2 x3 x4 x5 x6 (ix2 i d)
    = (x0 (ix2 i d) : EReal) + x5 (ix2 0 d) * ∑ n, feat x1 x2 x3 x4 i n * (x6 (ix2 n d) : EReal) := by
  rw [← mix_ref]
  pointwise [val_main_v26, val_main_v25, val_main_v24]

end Cert.MixoutFwdRefIdeal.Out

namespace Cert.Proof

open Idealize.ShloMosaic Idealize.ShloMosaic.TcCoe Idealize.SL.Sem

theorem frame_mixoutFwdRef : Cert.quiescent_MixoutFwdRefIdeal := fun m ρ _ =>
  (θ_run Cert.MixoutFwdRefIdeal.defs _ _).mono
    (fun _ h => ⟨fun c => (h c).2.2.2, sem_eq_zero_of_no_sems (by decide) _⟩) (Cert.MixoutFwdRefIdeal.Value.run (F := Ideal) m ρ)

theorem algebraic_mixoutFwd : Cert.algebraic_MixoutFwdIdeal_MixoutFwdRefIdeal := by
  intro m ρ m' ρ' _ hargs
  refine ⟨_, _, _, Cert.MixoutFwdIdeal.Value.run_blocks (F := Ideal) m ρ,
    (θ_run Cert.MixoutFwdRefIdeal.defs _ _).mono (fun r H c => ?_) (Cert.MixoutFwdRefIdeal.Value.run (F := Ideal) m' ρ')⟩
  obtain ⟨h0, h1, h2, hk⟩ := H c
  obtain ⟨e0, e1, e2, e3, e4, e5, e6⟩ := hargs c
  refine ⟨h0.trans ?_, h1.trans ?_, h2.trans ?_, hk⟩
  · refine (Cert.MixoutFwdRefIdeal.Read.val_main_v23_eq _ _ _ _).trans (funext fun i => ?_)
    rw [e1, e2, e3, e4, eq_ix2 i]
    exact (Cert.MixoutFwdRefIdeal.Out.cat_ref _ _ _ _ (i 0) (i 1)).trans (Cert.MixoutFwdIdeal.Out.cat_res m c (i 0) (i 1)).symm
  · refine (Cert.MixoutFwdRefIdeal.Read.val_main_v22_eq _ _ _ _ _).trans (funext fun i => ?_)
    rw [e1, e2, e3, e4, e6, eq_ix2 i]
    exact (Cert.MixoutFwdRefIdeal.Out.mix_ref _ _ _ _ _ (i 0) (i 1)).trans (Cert.MixoutFwdIdeal.Out.mix_res m c (i 0) (i 1)).symm
  · refine (Cert.MixoutFwdRefIdeal.Read.val_main_v26_eq _ _ _ _ _ _ _).trans (funext fun i => ?_)
    rw [e0, e1, e2, e3, e4, e5, e6, eq_ix2 i]
    exact (Cert.MixoutFwdRefIdeal.Out.sum_ref _ _ _ _ _ _ _ (i 0) (i 1)).trans (Cert.MixoutFwdIdeal.Out.sum_res m c (i 0) (i 1)).symm

end Cert.Proof

end
-- ==== Proof.lean ====
/-
  The certificate: the frames of the programs, the idealisations, and the equations of the
  backward recurrence, of the weights' and the inputs' gradients and of the forward calls.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ProjDw.Frame
public import proofs.«01_k».proof.Proof.Gen.ProjDwIdeal.Value
public import proofs.«01_k».proof.Proof.Gen.ProjDwRefIdeal.Run
public import proofs.«01_k».proof.Proof.Gen.ProjDwRefIdeal.Read
public import proofs.«01_k».proof.Proof.Gen.MixoutDw.Frame
public import proofs.«01_k».proof.Proof.Gen.MixoutDwIdeal.Value
public import proofs.«01_k».proof.Proof.Gen.MixoutDwRefIdeal.Run
public import proofs.«01_k».proof.Proof.Gen.MixoutDwRefIdeal.Read
public import proofs.«01_k».proof.Proof.Gen.FfninDw.Frame
public import proofs.«01_k».proof.Proof.Gen.FfninDwIdeal.Value
public import proofs.«01_k».proof.Proof.Gen.FfninDwRefIdeal.Run
public import proofs.«01_k».proof.Proof.Gen.FfninDwRefIdeal.Read
public import proofs.«01_k».proof.Proof.Gen.FfnoutDw.Frame
public import proofs.«01_k».proof.Proof.Gen.FfnoutDwIdeal.Value
public import proofs.«01_k».proof.Proof.Gen.FfnoutDwRefIdeal.Run
public import proofs.«01_k».proof.Proof.Gen.FfnoutDwRefIdeal.Read
public import proofs.«01_k».proof.Proof.Gen.FfninDx.Frame
public import proofs.«01_k».proof.Proof.Gen.FfninDxIdeal.Value
public import proofs.«01_k».proof.Proof.Gen.FfninDxRefIdeal.Run
public import proofs.«01_k».proof.Proof.Gen.FfninDxRefIdeal.Read
public import proofs.«01_k».proof.Proof.Gen.ProjDx.Frame
public import proofs.«01_k».proof.Proof.Gen.ProjDxIdeal.Value
public import proofs.«01_k».proof.Proof.Gen.ProjDxRefIdeal.Run
public import proofs.«01_k».proof.Proof.Gen.ProjDxRefIdeal.Read
public import proofs.«01_k».proof.Proof.Gen.FfnoutDx.Frame
public import proofs.«01_k».proof.Proof.Gen.FfnoutDxIdeal.Frame
public import proofs.«01_k».proof.Proof.Gen.FfnoutDxIdeal.Skeleton
public import proofs.«01_k».proof.Proof.Gen.FfnoutDxRefIdeal.Run
public import proofs.«01_k».proof.Proof.Gen.FfnoutDxRefIdeal.Read
public import proofs.«01_k».proof.Proof.Gen.FfninFwd.Frame
public import proofs.«01_k».proof.Proof.Gen.FfninFwdIdeal.Frame
public import proofs.«01_k».proof.Proof.Gen.FfninFwdIdeal.Skeleton
public import proofs.«01_k».proof.Proof.Gen.FfninFwdRefIdeal.Run
public import proofs.«01_k».proof.Proof.Gen.FfninFwdRefIdeal.Read
public import proofs.«01_k».proof.Proof.Gen.ProjFwd.Frame
public import proofs.«01_k».proof.Proof.Gen.ProjFwdIdeal.Frame
public import proofs.«01_k».proof.Proof.Gen.ProjFwdIdeal.Skeleton
public import proofs.«01_k».proof.Proof.Gen.ProjFwdRefIdeal.Run
public import proofs.«01_k».proof.Proof.Gen.ProjFwdRefIdeal.Read
public import proofs.«01_k».proof.Proof.Gen.FfnoutFwd.Frame
public import proofs.«01_k».proof.Proof.Gen.FfnoutFwdIdeal.Value
public import proofs.«01_k».proof.Proof.Gen.FfnoutFwdRefIdeal.Run
public import proofs.«01_k».proof.Proof.Gen.FfnoutFwdRefIdeal.Read
public import proofs.«01_k».proof.Proof.Gen.MixoutFwd.Frame
public import proofs.«01_k».proof.Proof.Gen.MixoutFwdIdeal.Value
public import proofs.«01_k».proof.Proof.Gen.MixoutFwdRefIdeal.Run
public import proofs.«01_k».proof.Proof.Gen.MixoutFwdRefIdeal.Read
public import proofs.«01_k».proof.Proof.Gen.Pre_finite
public import proofs.«01_k».proof.Proof.Back
public import proofs.«01_k».proof.Proof.DwProj
public import proofs.«01_k».proof.Proof.DwMixout
public import proofs.«01_k».proof.Proof.DwFfnin
public import proofs.«01_k».proof.Proof.DwFfnout
public import proofs.«01_k».proof.Proof.DxFfnin
public import proofs.«01_k».proof.Proof.DxProj
public import proofs.«01_k».proof.Proof.DxFfnout
public import proofs.«01_k».proof.Proof.FwdFfnin
public import proofs.«01_k».proof.Proof.FwdProj
public import proofs.«01_k».proof.Proof.FwdFfnout
public import proofs.«01_k».proof.Proof.FwdMixout

@[expose] public section

noncomputable section

namespace Cert.Proof

open Idealize.ShloMosaic Idealize.SL.Sem

theorem claim : Cert.Claim := ⟨
  Cert.Kernel.Gen.facts,
  Cert.KernelIdeal.Gen.facts,
  Cert.ReferenceIdeal.Gen.facts,
  Cert.ProjDw.Gen.facts,
  Cert.ProjDwIdeal.Gen.facts,
  Cert.ProjDwRefIdeal.Gen.facts,
  Cert.MixoutDw.Gen.facts,
  Cert.MixoutDwIdeal.Gen.facts,
  Cert.MixoutDwRefIdeal.Gen.facts,
  Cert.FfninDw.Gen.facts,
  Cert.FfninDwIdeal.Gen.facts,
  Cert.FfninDwRefIdeal.Gen.facts,
  Cert.FfnoutDw.Gen.facts,
  Cert.FfnoutDwIdeal.Gen.facts,
  Cert.FfnoutDwRefIdeal.Gen.facts,
  Cert.FfninDx.Gen.facts,
  Cert.FfninDxIdeal.Gen.facts,
  Cert.FfninDxRefIdeal.Gen.facts,
  Cert.ProjDx.Gen.facts,
  Cert.ProjDxIdeal.Gen.facts,
  Cert.ProjDxRefIdeal.Gen.facts,
  Cert.FfnoutDx.Gen.facts,
  Cert.FfnoutDxIdeal.Gen.facts,
  Cert.FfnoutDxRefIdeal.Gen.facts,
  Cert.FfninFwd.Gen.facts,
  Cert.FfninFwdIdeal.Gen.facts,
  Cert.FfninFwdRefIdeal.Gen.facts,
  Cert.ProjFwd.Gen.facts,
  Cert.ProjFwdIdeal.Gen.facts,
  Cert.ProjFwdRefIdeal.Gen.facts,
  Cert.FfnoutFwd.Gen.facts,
  Cert.FfnoutFwdIdeal.Gen.facts,
  Cert.FfnoutFwdRefIdeal.Gen.facts,
  Cert.MixoutFwd.Gen.facts,
  Cert.MixoutFwdIdeal.Gen.facts,
  Cert.MixoutFwdRefIdeal.Gen.facts,
  Cert.Pre_finite.Gen.facts,
  fun m ρ _ => Cert.Kernel.Gen.frame m ρ, fun m ρ _ => Cert.KernelIdeal.Gen.frame m ρ, frame_reference,
  fun m ρ _ => Cert.ProjDw.Gen.frame m ρ, fun m ρ _ => Cert.ProjDwIdeal.Gen.frame m ρ, frame_projDwRef,
  fun m ρ _ => Cert.MixoutDw.Gen.frame m ρ, fun m ρ _ => Cert.MixoutDwIdeal.Gen.frame m ρ, frame_mixoutDwRef,
  fun m ρ _ => Cert.FfninDw.Gen.frame m ρ, fun m ρ _ => Cert.FfninDwIdeal.Gen.frame m ρ, frame_ffninDwRef,
  fun m ρ _ => Cert.FfnoutDw.Gen.frame m ρ, fun m ρ _ => Cert.FfnoutDwIdeal.Gen.frame m ρ, frame_ffnoutDwRef,
  fun m ρ _ => Cert.FfninDx.Gen.frame m ρ, fun m ρ _ => Cert.FfninDxIdeal.Gen.frame m ρ, frame_ffninDxRef,
  fun m ρ _ => Cert.ProjDx.Gen.frame m ρ, fun m ρ _ => Cert.ProjDxIdeal.Gen.frame m ρ, frame_projDxRef,
  frame_ffnoutDx, frame_ffnoutDxIdeal, frame_ffnoutDxIdeal_pre, frame_ffnoutDxRef, frame_ffnoutDxRef_pre,
  frame_ffninFwd, frame_ffninFwdIdeal, frame_ffninFwdRef,
  frame_projFwd, frame_projFwdIdeal, frame_projFwdRef,
  fun m ρ _ => Cert.FfnoutFwd.Gen.frame m ρ, fun m ρ _ => Cert.FfnoutFwdIdeal.Gen.frame m ρ, frame_ffnoutFwdRef,
  fun m ρ _ => Cert.MixoutFwd.Gen.frame m ρ, fun m ρ _ => Cert.MixoutFwdIdeal.Gen.frame m ρ, frame_mixoutFwdRef,
  trivial, algebraic_back,
  trivial, algebraic_projDw,
  trivial, algebraic_mixoutDw,
  trivial, algebraic_ffninDw,
  trivial, algebraic_ffnoutDw,
  trivial, algebraic_ffninDx,
  trivial, algebraic_projDx,
  trivial, algebraic_ffnoutDx,
  trivial, algebraic_ffninFwd,
  trivial, algebraic_projFwd,
  trivial, algebraic_ffnoutFwd,
  trivial, algebraic_mixoutFwd⟩

end Cert.Proof

end
